-- ==== Defs.lean ====
def Pre_GatherMatrices (m : (ℓ : Loc Cert.GatherMatrices.nD Cert.GatherMatrices.τ Cert.GatherMatrices.sig) → Buf (Elt Bits) ℓ) : Prop :=
  True

def Pre_GatherMatricesIdeal (m : (ℓ : Loc Cert.GatherMatricesIdeal.nD Cert.GatherMatricesIdeal.τ Cert.GatherMatricesIdeal.sig) → Buf (Elt Ideal) ℓ) : Prop :=
  True

def Pre_GatherMatricesRefIdeal (m : (ℓ : Loc Cert.GatherMatricesRefIdeal.nD Cert.GatherMatricesRefIdeal.τ Cert.GatherMatricesRefIdeal.sig) → Buf (Elt Ideal) ℓ) : Prop :=
  True

def Pre_GatherMatricesRef (m : (ℓ : Loc Cert.GatherMatricesRef.nD Cert.GatherMatricesRef.τ Cert.GatherMatricesRef.sig) → Buf (Elt Bits) ℓ) : Prop :=
  True

def Pre_ScatterGrads (m : (ℓ : Loc Cert.ScatterGrads.nD Cert.ScatterGrads.τ Cert.ScatterGrads.sig) → Buf (Elt Bits) ℓ) : Prop :=
  True

def Pre_ScatterGradsIdeal (m : (ℓ : Loc Cert.ScatterGradsIdeal.nD Cert.ScatterGradsIdeal.τ Cert.ScatterGradsIdeal.sig) → Buf (Elt Ideal) ℓ) : Prop :=
  True

def Pre_ScatterGradsRefIdeal (m : (ℓ : Loc Cert.ScatterGradsRefIdeal.nD Cert.ScatterGradsRefIdeal.τ Cert.ScatterGradsRefIdeal.sig) → Buf (Elt Ideal) ℓ) : Prop :=
  True

def Pre_ScatterGradsRef (m : (ℓ : Loc Cert.ScatterGradsRef.nD Cert.ScatterGradsRef.τ Cert.ScatterGradsRef.sig) → Buf (Elt Bits) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_GatherSmallRefIdeal (m : (ℓ : Loc Cert.GatherSmallRefIdeal.nD Cert.GatherSmallRefIdeal.τ Cert.GatherSmallRefIdeal.sig) → Buf (Elt Ideal) ℓ) : Prop :=
  True

def Pre_GatherSmallRef (m : (ℓ : Loc Cert.GatherSmallRef.nD Cert.GatherSmallRef.τ Cert.GatherSmallRef.sig) → Buf (Elt Bits) ℓ) : Prop :=
  True

def Pre_GatherTaps (m : (ℓ : Loc Cert.GatherTaps.nD Cert.GatherTaps.τ Cert.GatherTaps.sig) → Buf (Elt Bits) ℓ) : Prop :=
  True

def Pre_GatherTapsIdeal (m : (ℓ : Loc Cert.GatherTapsIdeal.nD Cert.GatherTapsIdeal.τ Cert.GatherTapsIdeal.sig) → Buf (Elt Ideal) ℓ) : Prop :=
  True

def Pre_GatherTapsRefIdeal (m : (ℓ : Loc Cert.GatherTapsRefIdeal.nD Cert.GatherTapsRefIdeal.τ Cert.GatherTapsRefIdeal.sig) → Buf (Elt Ideal) ℓ) : Prop :=
  True

def Pre_GatherTapsRef (m : (ℓ : Loc Cert.GatherTapsRef.nD Cert.GatherTapsRef.τ Cert.GatherTapsRef.sig) → Buf (Elt Bits) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwDownRefIdeal (m : (ℓ : Loc Cert.AdamwDownRefIdeal.nD Cert.AdamwDownRefIdeal.τ Cert.AdamwDownRefIdeal.sig) → Buf (Elt Ideal) ℓ) : Prop :=
  True

def Pre_AdamwGlu (m : (ℓ : Loc Cert.AdamwGlu.nD Cert.AdamwGlu.τ Cert.AdamwGlu.sig) → Buf (Elt Bits) ℓ) : Prop :=
  True

def Pre_AdamwGluIdeal (m : (ℓ : Loc Cert.AdamwGluIdeal.nD Cert.AdamwGluIdeal.τ Cert.AdamwGluIdeal.sig) → Buf (Elt Ideal) ℓ) : Prop :=
  True

def Pre_AdamwGluRefIdeal (m : (ℓ : Loc Cert.AdamwGluRefIdeal.nD Cert.AdamwGluRefIdeal.τ Cert.AdamwGluRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwUp (m : (ℓ : Loc Cert.AdamwUp.nD Cert.AdamwUp.τ Cert.AdamwUp.sig) → Buf (Elt Bits) ℓ) : Prop :=
  True

def Pre_AdamwUpIdeal (m : (ℓ : Loc Cert.AdamwUpIdeal.nD Cert.AdamwUpIdeal.τ Cert.AdamwUpIdeal.sig) → Buf (Elt Ideal) ℓ) : Prop :=
  True

def Pre_AdamwUpRefIdeal (m : (ℓ : Loc Cert.AdamwUpRefIdeal.nD Cert.AdamwUpRefIdeal.τ Cert.AdamwUpRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DMixed (m : (ℓ : Loc Cert.DMixed.nD Cert.DMixed.τ Cert.DMixed.sig) → Buf (Elt Bits) ℓ) : Prop :=
  True

def Pre_DMixedIdeal (m : (ℓ : Loc Cert.DMixedIdeal.nD Cert.DMixedIdeal.τ Cert.DMixedIdeal.sig) → Buf (Elt Ideal) ℓ) : Prop :=
  True

def Pre_DMixedRefIdeal (m : (ℓ : Loc Cert.DMixedRefIdeal.nD Cert.DMixedRefIdeal.τ Cert.DMixedRefIdeal.sig) → Buf (Elt Ideal) ℓ) : Prop :=
  True

def Pre_DHTwo (m : (ℓ : Loc Cert.DHTwo.nD Cert.DHTwo.τ Cert.DHTwo.sig) → Buf (Elt Bits) ℓ) : Prop :=
  True

def Pre_DHTwoIdeal (m : (ℓ : Loc Cert.DHTwoIdeal.nD Cert.DHTwoIdeal.τ Cert.DHTwoIdeal.sig) → Buf (Elt Ideal) ℓ) : Prop :=
  True

def Pre_DHTwoRefIdeal (m : (ℓ : Loc Cert.DHTwoRefIdeal.nD Cert.DHTwoRefIdeal.τ Cert.DHTwoRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def quiescent_GatherMatrices [hGatherMatrices : Cert.GatherMatrices.Facts] : Prop :=
  ∀ (m : (ℓ : Loc Cert.GatherMatrices.nD Cert.GatherMatrices.τ Cert.GatherMatrices.sig) → Buf (Elt Bits) ℓ) (g : Dev Cert.GatherMatrices.nD → PrngReg), Pre_GatherMatrices m →
    θ_run (Cert.GatherMatrices.defs (F := Bits)) (onTc (τ := Cert.GatherMatrices.τ) (Cert.GatherMatrices.main (F := Bits))) ⟨m, fun _ => 0, g⟩ (fun r => (∀ c : Dev Cert.GatherMatrices.nD,
      r.2.mem ((c.tc : Thread Cert.GatherMatrices.nD Cert.GatherMatrices.τ).loc Cert.GatherMatrices.main_arg0) = m ((c.tc : Thread Cert.GatherMatrices.nD Cert.GatherMatrices.τ).loc Cert.GatherMatrices.main_arg0)
      ∧ r.2.mem ((c.tc : Thread Cert.GatherMatrices.nD Cert.GatherMatrices.τ).loc Cert.GatherMatrices.main_arg1) = m ((c.tc : Thread Cert.GatherMatrices.nD Cert.GatherMatrices.τ).loc Cert.GatherMatrices.main_arg1)
      ∧ r.2.mem ((c.tc : Thread Cert.GatherMatrices.nD Cert.GatherMatrices.τ).loc Cert.GatherMatrices.main_arg2) = m ((c.tc : Thread Cert.GatherMatrices.nD Cert.GatherMatrices.τ).loc Cert.GatherMatrices.main_arg2)
      ∧ r.2.mem ((c.tc : Thread Cert.GatherMatrices.nD Cert.GatherMatrices.τ).loc Cert.GatherMatrices.main_arg3) = m ((c.tc : Thread Cert.GatherMatrices.nD Cert.GatherMatrices.τ).loc Cert.GatherMatrices.main_arg3)
      ∧ r.2.mem ((c.tc : Thread Cert.GatherMatrices.nD Cert.GatherMatrices.τ).loc Cert.GatherMatrices.main_arg4) = m ((c.tc : Thread Cert.GatherMatrices.nD Cert.GatherMatrices.τ).loc Cert.GatherMatrices.main_arg4)
      ∧ r.2.mem ((c.tc : Thread Cert.GatherMatrices.nD Cert.GatherMatrices.τ).loc Cert.GatherMatrices.main_arg5) = m ((c.tc : Thread Cert.GatherMatrices.nD Cert.GatherMatrices.τ).loc Cert.GatherMatrices.main_arg5)
      ∧ r.2.mem ((c.tc : Thread Cert.GatherMatrices.nD Cert.GatherMatrices.τ).loc Cert.GatherMatrices.main_arg6) = m ((c.tc : Thread Cert.GatherMatrices.nD Cert.GatherMatrices.τ).loc Cert.GatherMatrices.main_arg6)
      ∧ r.2.mem ((c.tc : Thread Cert.GatherMatrices.nD Cert.GatherMatrices.τ).loc Cert.GatherMatrices.main_arg7) = m ((c.tc : Thread Cert.GatherMatrices.nD Cert.GatherMatrices.τ).loc Cert.GatherMatrices.main_arg7)
      ∧ r.2.mem ((c.tc : Thread Cert.GatherMatrices.nD Cert.GatherMatrices.τ).loc Cert.GatherMatrices.main_arg8) = m ((c.tc : Thread Cert.GatherMatrices.nD Cert.GatherMatrices.τ).loc Cert.GatherMatrices.main_arg8)
      ∧ r.2.mem ((c.tc : Thread Cert.GatherMatrices.nD Cert.GatherMatrices.τ).loc Cert.GatherMatrices.main_arg9) = m ((c.tc : Thread Cert.GatherMatrices.nD Cert.GatherMatrices.τ).loc Cert.GatherMatrices.main_arg9)
      ∧ r.2.mem ((c.tc : Thread Cert.GatherMatrices.nD Cert.GatherMatrices.τ).loc Cert.GatherMatrices.main_arg10) = m ((c.tc : Thread Cert.GatherMatrices.nD Cert.GatherMatrices.τ).loc Cert.GatherMatrices.main_arg10)
      ∧ r.2.mem ((c.tc : Thread Cert.GatherMatrices.nD Cert.GatherMatrices.τ).loc Cert.GatherMatrices.main_arg11) = m ((c.tc : Thread Cert.GatherMatrices.nD Cert.GatherMatrices.τ).loc Cert.GatherMatrices.main_arg11))
      ∧ r.2.sem = fun _ => 0)

def quiescent_GatherMatricesIdeal [hGatherMatricesIdeal : Cert.GatherMatricesIdeal.Facts] : Prop :=
  ∀ (m : (ℓ : Loc Cert.GatherMatricesIdeal.nD Cert.GatherMatricesIdeal.τ Cert.GatherMatricesIdeal.sig) → Buf (Elt Ideal) ℓ) (g : Dev Cert.GatherMatricesIdeal.nD → PrngReg), Pre_GatherMatricesIdeal m →
    θ_run (Cert.GatherMatricesIdeal.defs (F := Ideal)) (onTc (τ := Cert.GatherMatricesIdeal.τ) (Cert.GatherMatricesIdeal.main (F := Ideal))) ⟨m, fun _ => 0, g⟩ (fun r => (∀ c : Dev Cert.GatherMatricesIdeal.nD,
      r.2.mem ((c.tc : Thread Cert.GatherMatricesIdeal.nD Cert.GatherMatricesIdeal.τ).loc Cert.GatherMatricesIdeal.main_arg0) = m ((c.tc : Thread Cert.GatherMatricesIdeal.nD Cert.GatherMatricesIdeal.τ).loc Cert.GatherMatricesIdeal.main_arg0)
      ∧ r.2.mem ((c.tc : Thread Cert.GatherMatricesIdeal.nD Cert.GatherMatricesIdeal.τ).loc Cert.GatherMatricesIdeal.main_arg1) = m ((c.tc : Thread Cert.GatherMatricesIdeal.nD Cert.GatherMatricesIdeal.τ).loc Cert.GatherMatricesIdeal.main_arg1)
      ∧ r.2.mem ((c.tc : Thread Cert.GatherMatricesIdeal.nD Cert.GatherMatricesIdeal.τ).loc Cert.GatherMatricesIdeal.main_arg2) = m ((c.tc : Thread Cert.GatherMatricesIdeal.nD Cert.GatherMatricesIdeal.τ).loc Cert.GatherMatricesIdeal.main_arg2)
      ∧ r.2.mem ((c.tc : Thread Cert.GatherMatricesIdeal.nD Cert.GatherMatricesIdeal.τ).loc Cert.GatherMatricesIdeal.main_arg3) = m ((c.tc : Thread Cert.GatherMatricesIdeal.nD Cert.GatherMatricesIdeal.τ).loc Cert.GatherMatricesIdeal.main_arg3)
      ∧ r.2.mem ((c.tc : Thread Cert.GatherMatricesIdeal.nD Cert.GatherMatricesIdeal.τ).loc Cert.GatherMatricesIdeal.main_arg4) = m ((c.tc : Thread Cert.GatherMatricesIdeal.nD Cert.GatherMatricesIdeal.τ).loc Cert.GatherMatricesIdeal.main_arg4)
      ∧ r.2.mem ((c.tc : Thread Cert.GatherMatricesIdeal.nD Cert.GatherMatricesIdeal.τ).loc Cert.GatherMatricesIdeal.main_arg5) = m ((c.tc : Thread Cert.GatherMatricesIdeal.nD Cert.GatherMatricesIdeal.τ).loc Cert.GatherMatricesIdeal.main_arg5)
      ∧ r.2.mem ((c.tc : Thread Cert.GatherMatricesIdeal.nD Cert.GatherMatricesIdeal.τ).loc Cert.GatherMatricesIdeal.main_arg6) = m ((c.tc : Thread Cert.GatherMatricesIdeal.nD Cert.GatherMatricesIdeal.τ).loc Cert.GatherMatricesIdeal.main_arg6)
      ∧ r.2.mem ((c.tc : Thread Cert.GatherMatricesIdeal.nD Cert.GatherMatricesIdeal.τ).loc Cert.GatherMatricesIdeal.main_arg7) = m ((c.tc : Thread Cert.GatherMatricesIdeal.nD Cert.GatherMatricesIdeal.τ).loc Cert.GatherMatricesIdeal.main_arg7)
      ∧ r.2.mem ((c.tc : Thread Cert.GatherMatricesIdeal.nD Cert.GatherMatricesIdeal.τ).loc Cert.GatherMatricesIdeal.main_arg8) = m ((c.tc : Thread Cert.GatherMatricesIdeal.nD Cert.GatherMatricesIdeal.τ).loc Cert.GatherMatricesIdeal.main_arg8)
      ∧ r.2.mem ((c.tc : Thread Cert.GatherMatricesIdeal.nD Cert.GatherMatricesIdeal.τ).loc Cert.GatherMatricesIdeal.main_arg9) = m ((c.tc : Thread Cert.GatherMatricesIdeal.nD Cert.GatherMatricesIdeal.τ).loc Cert.GatherMatricesIdeal.main_arg9)
      ∧ r.2.mem ((c.tc : Thread Cert.GatherMatricesIdeal.nD Cert.GatherMatricesIdeal.τ).loc Cert.GatherMatricesIdeal.main_arg10) = m ((c.tc : Thread Cert.GatherMatricesIdeal.nD Cert.GatherMatricesIdeal.τ).loc Cert.GatherMatricesIdeal.main_arg10)
      ∧ r.2.mem ((c.tc : Thread Cert.GatherMatricesIdeal.nD Cert.GatherMatricesIdeal.τ).loc Cert.GatherMatricesIdeal.main_arg11) = m ((c.tc : Thread Cert.GatherMatricesIdeal.nD Cert.GatherMatricesIdeal.τ).loc Cert.GatherMatricesIdeal.main_arg11))
      ∧ r.2.sem = fun _ => 0)

def quiescent_GatherMatricesRefIdeal [hGatherMatricesRefIdeal : Cert.GatherMatricesRefIdeal.Facts] : Prop :=
  ∀ (m : (ℓ : Loc Cert.GatherMatricesRefIdeal.nD Cert.GatherMatricesRefIdeal.τ Cert.GatherMatricesRefIdeal.sig) → Buf (Elt Ideal) ℓ) (g : Dev Cert.GatherMatricesRefIdeal.nD → PrngReg), Pre_GatherMatricesRefIdeal m →
    θ_run (Cert.GatherMatricesRefIdeal.defs (F := Ideal)) (onTc (τ := Cert.GatherMatricesRefIdeal.τ) (Cert.GatherMatricesRefIdeal.main (F := Ideal))) ⟨m, fun _ => 0, g⟩ (fun r => (∀ c : Dev Cert.GatherMatricesRefIdeal.nD,
      r.2.mem ((c.tc : Thread Cert.GatherMatricesRefIdeal.nD Cert.GatherMatricesRefIdeal.τ).loc Cert.GatherMatricesRefIdeal.main_arg0) = m ((c.tc : Thread Cert.GatherMatricesRefIdeal.nD Cert.GatherMatricesRefIdeal.τ).loc Cert.GatherMatricesRefIdeal.main_arg0)
      ∧ r.2.mem ((c.tc : Thread Cert.GatherMatricesRefIdeal.nD Cert.GatherMatricesRefIdeal.τ).loc Cert.GatherMatricesRefIdeal.main_arg1) = m ((c.tc : Thread Cert.GatherMatricesRefIdeal.nD Cert.GatherMatricesRefIdeal.τ).loc Cert.GatherMatricesRefIdeal.main_arg1)
      ∧ r.2.mem ((c.tc : Thread Cert.GatherMatricesRefIdeal.nD Cert.GatherMatricesRefIdeal.τ).loc Cert.GatherMatricesRefIdeal.main_arg2) = m ((c.tc : Thread Cert.GatherMatricesRefIdeal.nD Cert.GatherMatricesRefIdeal.τ).loc Cert.GatherMatricesRefIdeal.main_arg2)
      ∧ r.2.mem ((c.tc : Thread Cert.GatherMatricesRefIdeal.nD Cert.GatherMatricesRefIdeal.τ).loc Cert.GatherMatricesRefIdeal.main_arg3) = m ((c.tc : Thread Cert.GatherMatricesRefIdeal.nD Cert.GatherMatricesRefIdeal.τ).loc Cert.GatherMatricesRefIdeal.main_arg3)
      ∧ r.2.mem ((c.tc : Thread Cert.GatherMatricesRefIdeal.nD Cert.GatherMatricesRefIdeal.τ).loc Cert.GatherMatricesRefIdeal.main_arg4) = m ((c.tc : Thread Cert.GatherMatricesRefIdeal.nD Cert.GatherMatricesRefIdeal.τ).loc Cert.GatherMatricesRefIdeal.main_arg4)
      ∧ r.2.mem ((c.tc : Thread Cert.GatherMatricesRefIdeal.nD Cert.GatherMatricesRefIdeal.τ).loc Cert.GatherMatricesRefIdeal.main_arg5) = m ((c.tc : Thread Cert.GatherMatricesRefIdeal.nD Cert.GatherMatricesRefIdeal.τ).loc Cert.GatherMatricesRefIdeal.main_arg5)
      ∧ r.2.mem ((c.tc : Thread Cert.GatherMatricesRefIdeal.nD Cert.GatherMatricesRefIdeal.τ).loc Cert.GatherMatricesRefIdeal.main_arg6) = m ((c.tc : Thread Cert.GatherMatricesRefIdeal.nD Cert.GatherMatricesRefIdeal.τ).loc Cert.GatherMatricesRefIdeal.main_arg6)
      ∧ r.2.mem ((c.tc : Thread Cert.GatherMatricesRefIdeal.nD Cert.GatherMatricesRefIdeal.τ).loc Cert.GatherMatricesRefIdeal.main_arg7) = m ((c.tc : Thread Cert.GatherMatricesRefIdeal.nD Cert.GatherMatricesRefIdeal.τ).loc Cert.GatherMatricesRefIdeal.main_arg7)
      ∧ r.2.mem ((c.tc : Thread Cert.GatherMatricesRefIdeal.nD Cert.GatherMatricesRefIdeal.τ).loc Cert.GatherMatricesRefIdeal.main_arg8) = m ((c.tc : Thread Cert.GatherMatricesRefIdeal.nD Cert.GatherMatricesRefIdeal.τ).loc Cert.GatherMatricesRefIdeal.main_arg8)
      ∧ r.2.mem ((c.tc : Thread Cert.GatherMatricesRefIdeal.nD Cert.GatherMatricesRefIdeal.τ).loc Cert.GatherMatricesRefIdeal.main_arg9) = m ((c.tc : Thread Cert.GatherMatricesRefIdeal.nD Cert.GatherMatricesRefIdeal.τ).loc Cert.GatherMatricesRefIdeal.main_arg9)
      ∧ r.2.mem ((c.tc : Thread Cert.GatherMatricesRefIdeal.nD Cert.GatherMatricesRefIdeal.τ).loc Cert.GatherMatricesRefIdeal.main_arg10) = m ((c.tc : Thread Cert.GatherMatricesRefIdeal.nD Cert.GatherMatricesRefIdeal.τ).loc Cert.GatherMatricesRefIdeal.main_arg10)
      ∧ r.2.mem ((c.tc : Thread Cert.GatherMatricesRefIdeal.nD Cert.GatherMatricesRefIdeal.τ).loc Cert.GatherMatricesRefIdeal.main_arg11) = m ((c.tc : Thread Cert.GatherMatricesRefIdeal.nD Cert.GatherMatricesRefIdeal.τ).loc Cert.GatherMatricesRefIdeal.main_arg11))
      ∧ r.2.sem = fun _ => 0)

def quiescent_GatherMatricesRef [hGatherMatricesRef : Cert.GatherMatricesRef.Facts] : Prop :=
  ∀ (m : (ℓ : Loc Cert.GatherMatricesRef.nD Cert.GatherMatricesRef.τ Cert.GatherMatricesRef.sig) → Buf (Elt Bits) ℓ) (g : Dev Cert.GatherMatricesRef.nD → PrngReg), Pre_GatherMatricesRef m →
    θ_run (Cert.GatherMatricesRef.defs (F := Bits)) (onTc (τ := Cert.GatherMatricesRef.τ) (Cert.GatherMatricesRef.main (F := Bits))) ⟨m, fun _ => 0, g⟩ (fun r => (∀ c : Dev Cert.GatherMatricesRef.nD,
      r.2.mem ((c.tc : Thread Cert.GatherMatricesRef.nD Cert.GatherMatricesRef.τ).loc Cert.GatherMatricesRef.main_arg0) = m ((c.tc : Thread Cert.GatherMatricesRef.nD Cert.GatherMatricesRef.τ).loc Cert.GatherMatricesRef.main_arg0)
      ∧ r.2.mem ((c.tc : Thread Cert.GatherMatricesRef.nD Cert.GatherMatricesRef.τ).loc Cert.GatherMatricesRef.main_arg1) = m ((c.tc : Thread Cert.GatherMatricesRef.nD Cert.GatherMatricesRef.τ).loc Cert.GatherMatricesRef.main_arg1)
      ∧ r.2.mem ((c.tc : Thread Cert.GatherMatricesRef.nD Cert.GatherMatricesRef.τ).loc Cert.GatherMatricesRef.main_arg2) = m ((c.tc : Thread Cert.GatherMatricesRef.nD Cert.GatherMatricesRef.τ).loc Cert.GatherMatricesRef.main_arg2)
      ∧ r.2.mem ((c.tc : Thread Cert.GatherMatricesRef.nD Cert.GatherMatricesRef.τ).loc Cert.GatherMatricesRef.main_arg3) = m ((c.tc : Thread Cert.GatherMatricesRef.nD Cert.GatherMatricesRef.τ).loc Cert.GatherMatricesRef.main_arg3)
      ∧ r.2.mem ((c.tc : Thread Cert.GatherMatricesRef.nD Cert.GatherMatricesRef.τ).loc Cert.GatherMatricesRef.main_arg4) = m ((c.tc : Thread Cert.GatherMatricesRef.nD Cert.GatherMatricesRef.τ).loc Cert.GatherMatricesRef.main_arg4)
      ∧ r.2.mem ((c.tc : Thread Cert.GatherMatricesRef.nD Cert.GatherMatricesRef.τ).loc Cert.GatherMatricesRef.main_arg5) = m ((c.tc : Thread Cert.GatherMatricesRef.nD Cert.GatherMatricesRef.τ).loc Cert.GatherMatricesRef.main_arg5)
      ∧ r.2.mem ((c.tc : Thread Cert.GatherMatricesRef.nD Cert.GatherMatricesRef.τ).loc Cert.GatherMatricesRef.main_arg6) = m ((c.tc : Thread Cert.GatherMatricesRef.nD Cert.GatherMatricesRef.τ).loc Cert.GatherMatricesRef.main_arg6)
      ∧ r.2.mem ((c.tc : Thread Cert.GatherMatricesRef.nD Cert.GatherMatricesRef.τ).loc Cert.GatherMatricesRef.main_arg7) = m ((c.tc : Thread Cert.GatherMatricesRef.nD Cert.GatherMatricesRef.τ).loc Cert.GatherMatricesRef.main_arg7)
      ∧ r.2.mem ((c.tc : Thread Cert.GatherMatricesRef.nD Cert.GatherMatricesRef.τ).loc Cert.GatherMatricesRef.main_arg8) = m ((c.tc : Thread Cert.GatherMatricesRef.nD Cert.GatherMatricesRef.τ).loc Cert.GatherMatricesRef.main_arg8)
      ∧ r.2.mem ((c.tc : Thread Cert.GatherMatricesRef.nD Cert.GatherMatricesRef.τ).loc Cert.GatherMatricesRef.main_arg9) = m ((c.tc : Thread Cert.GatherMatricesRef.nD Cert.GatherMatricesRef.τ).loc Cert.GatherMatricesRef.main_arg9)
      ∧ r.2.mem ((c.tc : Thread Cert.GatherMatricesRef.nD Cert.GatherMatricesRef.τ).loc Cert.GatherMatricesRef.main_arg10) = m ((c.tc : Thread Cert.GatherMatricesRef.nD Cert.GatherMatricesRef.τ).loc Cert.GatherMatricesRef.main_arg10)
      ∧ r.2.mem ((c.tc : Thread Cert.GatherMatricesRef.nD Cert.GatherMatricesRef.τ).loc Cert.GatherMatricesRef.main_arg11) = m ((c.tc : Thread Cert.GatherMatricesRef.nD Cert.GatherMatricesRef.τ).loc Cert.GatherMatricesRef.main_arg11))
      ∧ r.2.sem = fun _ => 0)

def quiescent_ScatterGrads [hScatterGrads : Cert.ScatterGrads.Facts] : Prop :=
  ∀ (m : (ℓ : Loc Cert.ScatterGrads.nD Cert.ScatterGrads.τ Cert.ScatterGrads.sig) → Buf (Elt Bits) ℓ) (g : Dev Cert.ScatterGrads.nD → PrngReg), Pre_ScatterGrads m →
    θ_run (Cert.ScatterGrads.defs (F := Bits)) (onTc (τ := Cert.ScatterGrads.τ) (Cert.ScatterGrads.main (F := Bits))) ⟨m, fun _ => 0, g⟩ (fun r => (∀ c : Dev Cert.ScatterGrads.nD,
      r.2.mem ((c.tc : Thread Cert.ScatterGrads.nD Cert.ScatterGrads.τ).loc Cert.ScatterGrads.main_arg0) = m ((c.tc : Thread Cert.ScatterGrads.nD Cert.ScatterGrads.τ).loc Cert.ScatterGrads.main_arg0)
      ∧ r.2.mem ((c.tc : Thread Cert.ScatterGrads.nD Cert.ScatterGrads.τ).loc Cert.ScatterGrads.main_arg1) = m ((c.tc : Thread Cert.ScatterGrads.nD Cert.ScatterGrads.τ).loc Cert.ScatterGrads.main_arg1)
      ∧ r.2.mem ((c.tc : Thread Cert.ScatterGrads.nD Cert.ScatterGrads.τ).loc Cert.ScatterGrads.main_arg2) = m ((c.tc : Thread Cert.ScatterGrads.nD Cert.ScatterGrads.τ).loc Cert.ScatterGrads.main_arg2)
      ∧ r.2.mem ((c.tc : Thread Cert.ScatterGrads.nD Cert.ScatterGrads.τ).loc Cert.ScatterGrads.main_arg3) = m ((c.tc : Thread Cert.ScatterGrads.nD Cert.ScatterGrads.τ).loc Cert.ScatterGrads.main_arg3)
      ∧ r.2.mem ((c.tc : Thread Cert.ScatterGrads.nD Cert.ScatterGrads.τ).loc Cert.ScatterGrads.main_arg4) = m ((c.tc : Thread Cert.ScatterGrads.nD Cert.ScatterGrads.τ).loc Cert.ScatterGrads.main_arg4)
      ∧ r.2.mem ((c.tc : Thread Cert.ScatterGrads.nD Cert.ScatterGrads.τ).loc Cert.ScatterGrads.main_arg5) = m ((c.tc : Thread Cert.ScatterGrads.nD Cert.ScatterGrads.τ).loc Cert.ScatterGrads.main_arg5)
      ∧ r.2.mem ((c.tc : Thread Cert.ScatterGrads.nD Cert.ScatterGrads.τ).loc Cert.ScatterGrads.main_arg6) = m ((c.tc : Thread Cert.ScatterGrads.nD Cert.ScatterGrads.τ).loc Cert.ScatterGrads.main_arg6)
      ∧ r.2.mem ((c.tc : Thread Cert.ScatterGrads.nD Cert.ScatterGrads.τ).loc Cert.ScatterGrads.main_arg7) = m ((c.tc : Thread Cert.ScatterGrads.nD Cert.ScatterGrads.τ).loc Cert.ScatterGrads.main_arg7)
      ∧ r.2.mem ((c.tc : Thread Cert.ScatterGrads.nD Cert.ScatterGrads.τ).loc Cert.ScatterGrads.main_arg8) = m ((c.tc : Thread Cert.ScatterGrads.nD Cert.ScatterGrads.τ).loc Cert.ScatterGrads.main_arg8)
      ∧ r.2.mem ((c.tc : Thread Cert.ScatterGrads.nD Cert.ScatterGrads.τ).loc Cert.ScatterGrads.main_arg9) = m ((c.tc : Thread Cert.ScatterGrads.nD Cert.ScatterGrads.τ).loc Cert.ScatterGrads.main_arg9)
      ∧ r.2.mem ((c.tc : Thread Cert.ScatterGrads.nD Cert.ScatterGrads.τ).loc Cert.ScatterGrads.main_arg10) = m ((c.tc : Thread Cert.ScatterGrads.nD Cert.ScatterGrads.τ).loc Cert.ScatterGrads.main_arg10)
      ∧ r.2.mem ((c.tc : Thread Cert.ScatterGrads.nD Cert.ScatterGrads.τ).loc Cert.ScatterGrads.main_arg11) = m ((c.tc : Thread Cert.ScatterGrads.nD Cert.ScatterGrads.τ).loc Cert.ScatterGrads.main_arg11))
      ∧ r.2.sem = fun _ => 0)

def quiescent_ScatterGradsIdeal [hScatterGradsIdeal : Cert.ScatterGradsIdeal.Facts] : Prop :=
  ∀ (m : (ℓ : Loc Cert.ScatterGradsIdeal.nD Cert.ScatterGradsIdeal.τ Cert.ScatterGradsIdeal.sig) → Buf (Elt Ideal) ℓ) (g : Dev Cert.ScatterGradsIdeal.nD → PrngReg), Pre_ScatterGradsIdeal m →
    θ_run (Cert.ScatterGradsIdeal.defs (F := Ideal)) (onTc (τ := Cert.ScatterGradsIdeal.τ) (Cert.ScatterGradsIdeal.main (F := Ideal))) ⟨m, fun _ => 0, g⟩ (fun r => (∀ c : Dev Cert.ScatterGradsIdeal.nD,
      r.2.mem ((c.tc : Thread Cert.ScatterGradsIdeal.nD Cert.ScatterGradsIdeal.τ).loc Cert.ScatterGradsIdeal.main_arg0) = m ((c.tc : Thread Cert.ScatterGradsIdeal.nD Cert.ScatterGradsIdeal.τ).loc Cert.ScatterGradsIdeal.main_arg0)
      ∧ r.2.mem ((c.tc : Thread Cert.ScatterGradsIdeal.nD Cert.ScatterGradsIdeal.τ).loc Cert.ScatterGradsIdeal.main_arg1) = m ((c.tc : Thread Cert.ScatterGradsIdeal.nD Cert.ScatterGradsIdeal.τ).loc Cert.ScatterGradsIdeal.main_arg1)
      ∧ r.2.mem ((c.tc : Thread Cert.ScatterGradsIdeal.nD Cert.ScatterGradsIdeal.τ).loc Cert.ScatterGradsIdeal.main_arg2) = m ((c.tc : Thread Cert.ScatterGradsIdeal.nD Cert.ScatterGradsIdeal.τ).loc Cert.ScatterGradsIdeal.main_arg2)
      ∧ r.2.mem ((c.tc : Thread Cert.ScatterGradsIdeal.nD Cert.ScatterGradsIdeal.τ).loc Cert.ScatterGradsIdeal.main_arg3) = m ((c.tc : Thread Cert.ScatterGradsIdeal.nD Cert.ScatterGradsIdeal.τ).loc Cert.ScatterGradsIdeal.main_arg3)
      ∧ r.2.mem ((c.tc : Thread Cert.ScatterGradsIdeal.nD Cert.ScatterGradsIdeal.τ).loc Cert.ScatterGradsIdeal.main_arg4) = m ((c.tc : Thread Cert.ScatterGradsIdeal.nD Cert.ScatterGradsIdeal.τ).loc Cert.ScatterGradsIdeal.main_arg4)
      ∧ r.2.mem ((c.tc : Thread Cert.ScatterGradsIdeal.nD Cert.ScatterGradsIdeal.τ).loc Cert.ScatterGradsIdeal.main_arg5) = m ((c.tc : Thread Cert.ScatterGradsIdeal.nD Cert.ScatterGradsIdeal.τ).loc Cert.ScatterGradsIdeal.main_arg5)
      ∧ r.2.mem ((c.tc : Thread Cert.ScatterGradsIdeal.nD Cert.ScatterGradsIdeal.τ).loc Cert.ScatterGradsIdeal.main_arg6) = m ((c.tc : Thread Cert.ScatterGradsIdeal.nD Cert.ScatterGradsIdeal.τ).loc Cert.ScatterGradsIdeal.main_arg6)
      ∧ r.2.mem ((c.tc : Thread Cert.ScatterGradsIdeal.nD Cert.ScatterGradsIdeal.τ).loc Cert.ScatterGradsIdeal.main_arg7) = m ((c.tc : Thread Cert.ScatterGradsIdeal.nD Cert.ScatterGradsIdeal.τ).loc Cert.ScatterGradsIdeal.main_arg7)
      ∧ r.2.mem ((c.tc : Thread Cert.ScatterGradsIdeal.nD Cert.ScatterGradsIdeal.τ).loc Cert.ScatterGradsIdeal.main_arg8) = m ((c.tc : Thread Cert.ScatterGradsIdeal.nD Cert.ScatterGradsIdeal.τ).loc Cert.ScatterGradsIdeal.main_arg8)
      ∧ r.2.mem ((c.tc : Thread Cert.ScatterGradsIdeal.nD Cert.ScatterGradsIdeal.τ).loc Cert.ScatterGradsIdeal.main_arg9) = m ((c.tc : Thread Cert.ScatterGradsIdeal.nD Cert.ScatterGradsIdeal.τ).loc Cert.ScatterGradsIdeal.main_arg9)
      ∧ r.2.mem ((c.tc : Thread Cert.ScatterGradsIdeal.nD Cert.ScatterGradsIdeal.τ).loc Cert.ScatterGradsIdeal.main_arg10) = m ((c.tc : Thread Cert.ScatterGradsIdeal.nD Cert.ScatterGradsIdeal.τ).loc Cert.ScatterGradsIdeal.main_arg10)
      ∧ r.2.mem ((c.tc : Thread Cert.ScatterGradsIdeal.nD Cert.ScatterGradsIdeal.τ).loc Cert.ScatterGradsIdeal.main_arg11) = m ((c.tc : Thread Cert.ScatterGradsIdeal.nD Cert.ScatterGradsIdeal.τ).loc Cert.ScatterGradsIdeal.main_arg11))
      ∧ r.2.sem = fun _ => 0)

def quiescent_ScatterGradsRefIdeal [hScatterGradsRefIdeal : Cert.ScatterGradsRefIdeal.Facts] : Prop :=
  ∀ (m : (ℓ : Loc Cert.ScatterGradsRefIdeal.nD Cert.ScatterGradsRefIdeal.τ Cert.ScatterGradsRefIdeal.sig) → Buf (Elt Ideal) ℓ) (g : Dev Cert.ScatterGradsRefIdeal.nD → PrngReg), Pre_ScatterGradsRefIdeal m →
    θ_run (Cert.ScatterGradsRefIdeal.defs (F := Ideal)) (onTc (τ := Cert.ScatterGradsRefIdeal.τ) (Cert.ScatterGradsRefIdeal.main (F := Ideal))) ⟨m, fun _ => 0, g⟩ (fun r => (∀ c : Dev Cert.ScatterGradsRefIdeal.nD,
      r.2.mem ((c.tc : Thread Cert.ScatterGradsRefIdeal.nD Cert.ScatterGradsRefIdeal.τ).loc Cert.ScatterGradsRefIdeal.main_arg0) = m ((c.tc : Thread Cert.ScatterGradsRefIdeal.nD Cert.ScatterGradsRefIdeal.τ).loc Cert.ScatterGradsRefIdeal.main_arg0)
      ∧ r.2.mem ((c.tc : Thread Cert.ScatterGradsRefIdeal.nD Cert.ScatterGradsRefIdeal.τ).loc Cert.ScatterGradsRefIdeal.main_arg1) = m ((c.tc : Thread Cert.ScatterGradsRefIdeal.nD Cert.ScatterGradsRefIdeal.τ).loc Cert.ScatterGradsRefIdeal.main_arg1)
      ∧ r.2.mem ((c.tc : Thread Cert.ScatterGradsRefIdeal.nD Cert.ScatterGradsRefIdeal.τ).loc Cert.ScatterGradsRefIdeal.main_arg2) = m ((c.tc : Thread Cert.ScatterGradsRefIdeal.nD Cert.ScatterGradsRefIdeal.τ).loc Cert.ScatterGradsRefIdeal.main_arg2)
      ∧ r.2.mem ((c.tc : Thread Cert.ScatterGradsRefIdeal.nD Cert.ScatterGradsRefIdeal.τ).loc Cert.ScatterGradsRefIdeal.main_arg3) = m ((c.tc : Thread Cert.ScatterGradsRefIdeal.nD Cert.ScatterGradsRefIdeal.τ).loc Cert.ScatterGradsRefIdeal.main_arg3)
      ∧ r.2.mem ((c.tc : Thread Cert.ScatterGradsRefIdeal.nD Cert.ScatterGradsRefIdeal.τ).loc Cert.ScatterGradsRefIdeal.main_arg4) = m ((c.tc : Thread Cert.ScatterGradsRefIdeal.nD Cert.ScatterGradsRefIdeal.τ).loc Cert.ScatterGradsRefIdeal.main_arg4)
      ∧ r.2.mem ((c.tc : Thread Cert.ScatterGradsRefIdeal.nD Cert.ScatterGradsRefIdeal.τ).loc Cert.ScatterGradsRefIdeal.main_arg5) = m ((c.tc : Thread Cert.ScatterGradsRefIdeal.nD Cert.ScatterGradsRefIdeal.τ).loc Cert.ScatterGradsRefIdeal.main_arg5)
      ∧ r.2.mem ((c.tc : Thread Cert.ScatterGradsRefIdeal.nD Cert.ScatterGradsRefIdeal.τ).loc Cert.ScatterGradsRefIdeal.main_arg6) = m ((c.tc : Thread Cert.ScatterGradsRefIdeal.nD Cert.ScatterGradsRefIdeal.τ).loc Cert.ScatterGradsRefIdeal.main_arg6)
      ∧ r.2.mem ((c.tc : Thread Cert.ScatterGradsRefIdeal.nD Cert.ScatterGradsRefIdeal.τ).loc Cert.ScatterGradsRefIdeal.main_arg7) = m ((c.tc : Thread Cert.ScatterGradsRefIdeal.nD Cert.ScatterGradsRefIdeal.τ).loc Cert.ScatterGradsRefIdeal.main_arg7)
      ∧ r.2.mem ((c.tc : Thread Cert.ScatterGradsRefIdeal.nD Cert.ScatterGradsRefIdeal.τ).loc Cert.ScatterGradsRefIdeal.main_arg8) = m ((c.tc : Thread Cert.ScatterGradsRefIdeal.nD Cert.ScatterGradsRefIdeal.τ).loc Cert.ScatterGradsRefIdeal.main_arg8)
      ∧ r.2.mem ((c.tc : Thread Cert.ScatterGradsRefIdeal.nD Cert.ScatterGradsRefIdeal.τ).loc Cert.ScatterGradsRefIdeal.main_arg9) = m ((c.tc : Thread Cert.ScatterGradsRefIdeal.nD Cert.ScatterGradsRefIdeal.τ).loc Cert.ScatterGradsRefIdeal.main_arg9)
      ∧ r.2.mem ((c.tc : Thread Cert.ScatterGradsRefIdeal.nD Cert.ScatterGradsRefIdeal.τ).loc Cert.ScatterGradsRefIdeal.main_arg10) = m ((c.tc : Thread Cert.ScatterGradsRefIdeal.nD Cert.ScatterGradsRefIdeal.τ).loc Cert.ScatterGradsRefIdeal.main_arg10)
      ∧ r.2.mem ((c.tc : Thread Cert.ScatterGradsRefIdeal.nD Cert.ScatterGradsRefIdeal.τ).loc Cert.ScatterGradsRefIdeal.main_arg11) = m ((c.tc : Thread Cert.ScatterGradsRefIdeal.nD Cert.ScatterGradsRefIdeal.τ).loc Cert.ScatterGradsRefIdeal.main_arg11))
      ∧ r.2.sem = fun _ => 0)

def quiescent_ScatterGradsRef [hScatterGradsRef : Cert.ScatterGradsRef.Facts] : Prop :=
  ∀ (m : (ℓ : Loc Cert.ScatterGradsRef.nD Cert.ScatterGradsRef.τ Cert.ScatterGradsRef.sig) → Buf (Elt Bits) ℓ) (g : Dev Cert.ScatterGradsRef.nD → PrngReg), Pre_ScatterGradsRef m →
    θ_run (Cert.ScatterGradsRef.defs (F := Bits)) (onTc (τ := Cert.ScatterGradsRef.τ) (Cert.ScatterGradsRef.main (F := Bits))) ⟨m, fun _ => 0, g⟩ (fun r => (∀ c : Dev Cert.ScatterGradsRef.nD,
      r.2.mem ((c.tc : Thread Cert.ScatterGradsRef.nD Cert.ScatterGradsRef.τ).loc Cert.ScatterGradsRef.main_arg0) = m ((c.tc : Thread Cert.ScatterGradsRef.nD Cert.ScatterGradsRef.τ).loc Cert.ScatterGradsRef.main_arg0)
      ∧ r.2.mem ((c.tc : Thread Cert.ScatterGradsRef.nD Cert.ScatterGradsRef.τ).loc Cert.ScatterGradsRef.main_arg1) = m ((c.tc : Thread Cert.ScatterGradsRef.nD Cert.ScatterGradsRef.τ).loc Cert.ScatterGradsRef.main_arg1)
      ∧ r.2.mem ((c.tc : Thread Cert.ScatterGradsRef.nD Cert.ScatterGradsRef.τ).loc Cert.ScatterGradsRef.main_arg2) = m ((c.tc : Thread Cert.ScatterGradsRef.nD Cert.ScatterGradsRef.τ).loc Cert.ScatterGradsRef.main_arg2)
      ∧ r.2.mem ((c.tc : Thread Cert.ScatterGradsRef.nD Cert.ScatterGradsRef.τ).loc Cert.ScatterGradsRef.main_arg3) = m ((c.tc : Thread Cert.ScatterGradsRef.nD Cert.ScatterGradsRef.τ).loc Cert.ScatterGradsRef.main_arg3)
      ∧ r.2.mem ((c.tc : Thread Cert.ScatterGradsRef.nD Cert.ScatterGradsRef.τ).loc Cert.ScatterGradsRef.main_arg4) = m ((c.tc : Thread Cert.ScatterGradsRef.nD Cert.ScatterGradsRef.τ).loc Cert.ScatterGradsRef.main_arg4)
      ∧ r.2.mem ((c.tc : Thread Cert.ScatterGradsRef.nD Cert.ScatterGradsRef.τ).loc Cert.ScatterGradsRef.main_arg5) = m ((c.tc : Thread Cert.ScatterGradsRef.nD Cert.ScatterGradsRef.τ).loc Cert.ScatterGradsRef.main_arg5)
      ∧ r.2.mem ((c.tc : Thread Cert.ScatterGradsRef.nD Cert.ScatterGradsRef.τ).loc Cert.ScatterGradsRef.main_arg6) = m ((c.tc : Thread Cert.ScatterGradsRef.nD Cert.ScatterGradsRef.τ).loc Cert.ScatterGradsRef.main_arg6)
      ∧ r.2.mem ((c.tc : Thread Cert.ScatterGradsRef.nD Cert.ScatterGradsRef.τ).loc Cert.ScatterGradsRef.main_arg7) = m ((c.tc : Thread Cert.ScatterGradsRef.nD Cert.ScatterGradsRef.τ).loc Cert.ScatterGradsRef.main_arg7)
      ∧ r.2.mem ((c.tc : Thread Cert.ScatterGradsRef.nD Cert.ScatterGradsRef.τ).loc Cert.ScatterGradsRef.main_arg8) = m ((c.tc : Thread Cert.ScatterGradsRef.nD Cert.ScatterGradsRef.τ).loc Cert.ScatterGradsRef.main_arg8)
      ∧ r.2.mem ((c.tc : Thread Cert.ScatterGradsRef.nD Cert.ScatterGradsRef.τ).loc Cert.ScatterGradsRef.main_arg9) = m ((c.tc : Thread Cert.ScatterGradsRef.nD Cert.ScatterGradsRef.τ).loc Cert.ScatterGradsRef.main_arg9)
      ∧ r.2.mem ((c.tc : Thread Cert.ScatterGradsRef.nD Cert.ScatterGradsRef.τ).loc Cert.ScatterGradsRef.main_arg10) = m ((c.tc : Thread Cert.ScatterGradsRef.nD Cert.ScatterGradsRef.τ).loc Cert.ScatterGradsRef.main_arg10)
      ∧ r.2.mem ((c.tc : Thread Cert.ScatterGradsRef.nD Cert.ScatterGradsRef.τ).loc Cert.ScatterGradsRef.main_arg11) = m ((c.tc : Thread Cert.ScatterGradsRef.nD Cert.ScatterGradsRef.τ).loc Cert.ScatterGradsRef.main_arg11))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_GatherSmallRefIdeal [hGatherSmallRefIdeal : Cert.GatherSmallRefIdeal.Facts] : Prop :=
  ∀ (m : (ℓ : Loc Cert.GatherSmallRefIdeal.nD Cert.GatherSmallRefIdeal.τ Cert.GatherSmallRefIdeal.sig) → Buf (Elt Ideal) ℓ) (g : Dev Cert.GatherSmallRefIdeal.nD → PrngReg), Pre_GatherSmallRefIdeal m →
    θ_run (Cert.GatherSmallRefIdeal.defs (F := Ideal)) (onTc (τ := Cert.GatherSmallRefIdeal.τ) (Cert.GatherSmallRefIdeal.main (F := Ideal))) ⟨m, fun _ => 0, g⟩ (fun r => (∀ c : Dev Cert.GatherSmallRefIdeal.nD,
      r.2.mem ((c.tc : Thread Cert.GatherSmallRefIdeal.nD Cert.GatherSmallRefIdeal.τ).loc Cert.GatherSmallRefIdeal.main_arg0) = m ((c.tc : Thread Cert.GatherSmallRefIdeal.nD Cert.GatherSmallRefIdeal.τ).loc Cert.GatherSmallRefIdeal.main_arg0))
      ∧ r.2.sem = fun _ => 0)

def quiescent_GatherSmallRef [hGatherSmallRef : Cert.GatherSmallRef.Facts] : Prop :=
  ∀ (m : (ℓ : Loc Cert.GatherSmallRef.nD Cert.GatherSmallRef.τ Cert.GatherSmallRef.sig) → Buf (Elt Bits) ℓ) (g : Dev Cert.GatherSmallRef.nD → PrngReg), Pre_GatherSmallRef m →
    θ_run (Cert.GatherSmallRef.defs (F := Bits)) (onTc (τ := Cert.GatherSmallRef.τ) (Cert.GatherSmallRef.main (F := Bits))) ⟨m, fun _ => 0, g⟩ (fun r => (∀ c : Dev Cert.GatherSmallRef.nD,
      r.2.mem ((c.tc : Thread Cert.GatherSmallRef.nD Cert.GatherSmallRef.τ).loc Cert.GatherSmallRef.main_arg0) = m ((c.tc : Thread Cert.GatherSmallRef.nD Cert.GatherSmallRef.τ).loc Cert.GatherSmallRef.main_arg0))
      ∧ r.2.sem = fun _ => 0)

def quiescent_GatherTaps [hGatherTaps : Cert.GatherTaps.Facts] : Prop :=
  ∀ (m : (ℓ : Loc Cert.GatherTaps.nD Cert.GatherTaps.τ Cert.GatherTaps.sig) → Buf (Elt Bits) ℓ) (g : Dev Cert.GatherTaps.nD → PrngReg), Pre_GatherTaps m →
    θ_run (Cert.GatherTaps.defs (F := Bits)) (onTc (τ := Cert.GatherTaps.τ) (Cert.GatherTaps.main (F := Bits))) ⟨m, fun _ => 0, g⟩ (fun r => (∀ c : Dev Cert.GatherTaps.nD,
      r.2.mem ((c.tc : Thread Cert.GatherTaps.nD Cert.GatherTaps.τ).loc Cert.GatherTaps.main_arg0) = m ((c.tc : Thread Cert.GatherTaps.nD Cert.GatherTaps.τ).loc Cert.GatherTaps.main_arg0))
      ∧ r.2.sem = fun _ => 0)

def quiescent_GatherTapsIdeal [hGatherTapsIdeal : Cert.GatherTapsIdeal.Facts] : Prop :=
  ∀ (m : (ℓ : Loc Cert.GatherTapsIdeal.nD Cert.GatherTapsIdeal.τ Cert.GatherTapsIdeal.sig) → Buf (Elt Ideal) ℓ) (g : Dev Cert.GatherTapsIdeal.nD → PrngReg), Pre_GatherTapsIdeal m →
    θ_run (Cert.GatherTapsIdeal.defs (F := Ideal)) (onTc (τ := Cert.GatherTapsIdeal.τ) (Cert.GatherTapsIdeal.main (F := Ideal))) ⟨m, fun _ => 0, g⟩ (fun r => (∀ c : Dev Cert.GatherTapsIdeal.nD,
      r.2.mem ((c.tc : Thread Cert.GatherTapsIdeal.nD Cert.GatherTapsIdeal.τ).loc Cert.GatherTapsIdeal.main_arg0) = m ((c.tc : Thread Cert.GatherTapsIdeal.nD Cert.GatherTapsIdeal.τ).loc Cert.GatherTapsIdeal.main_arg0))
      ∧ r.2.sem = fun _ => 0)

def quiescent_GatherTapsRefIdeal [hGatherTapsRefIdeal : Cert.GatherTapsRefIdeal.Facts] : Prop :=
  ∀ (m : (ℓ : Loc Cert.GatherTapsRefIdeal.nD Cert.GatherTapsRefIdeal.τ Cert.GatherTapsRefIdeal.sig) → Buf (Elt Ideal) ℓ) (g : Dev Cert.GatherTapsRefIdeal.nD → PrngReg), Pre_GatherTapsRefIdeal m →
    θ_run (Cert.GatherTapsRefIdeal.defs (F := Ideal)) (onTc (τ := Cert.GatherTapsRefIdeal.τ) (Cert.GatherTapsRefIdeal.main (F := Ideal))) ⟨m, fun _ => 0, g⟩ (fun r => (∀ c : Dev Cert.GatherTapsRefIdeal.nD,
      r.2.mem ((c.tc : Thread Cert.GatherTapsRefIdeal.nD Cert.GatherTapsRefIdeal.τ).loc Cert.GatherTapsRefIdeal.main_arg0) = m ((c.tc : Thread Cert.GatherTapsRefIdeal.nD Cert.GatherTapsRefIdeal.τ).loc Cert.GatherTapsRefIdeal.main_arg0))
      ∧ r.2.sem = fun _ => 0)

def quiescent_GatherTapsRef [hGatherTapsRef : Cert.GatherTapsRef.Facts] : Prop :=
  ∀ (m : (ℓ : Loc Cert.GatherTapsRef.nD Cert.GatherTapsRef.τ Cert.GatherTapsRef.sig) → Buf (Elt Bits) ℓ) (g : Dev Cert.GatherTapsRef.nD → PrngReg), Pre_GatherTapsRef m →
    θ_run (Cert.GatherTapsRef.defs (F := Bits)) (onTc (τ := Cert.GatherTapsRef.τ) (Cert.GatherTapsRef.main (F := Bits))) ⟨m, fun _ => 0, g⟩ (fun r => (∀ c : Dev Cert.GatherTapsRef.nD,
      r.2.mem ((c.tc : Thread Cert.GatherTapsRef.nD Cert.GatherTapsRef.τ).loc Cert.GatherTapsRef.main_arg0) = m ((c.tc : Thread Cert.GatherTapsRef.nD Cert.GatherTapsRef.τ).loc Cert.GatherTapsRef.main_arg0))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ r.2.sem = fun _ => 0)

def quiescent_AdamwDownRefIdeal [hAdamwDownRefIdeal : Cert.AdamwDownRefIdeal.Facts] : Prop :=
  ∀ (m : (ℓ : Loc Cert.AdamwDownRefIdeal.nD Cert.AdamwDownRefIdeal.τ Cert.AdamwDownRefIdeal.sig) → Buf (Elt Ideal) ℓ) (g : Dev Cert.AdamwDownRefIdeal.nD → PrngReg), Pre_AdamwDownRefIdeal m →
    θ_run (Cert.AdamwDownRefIdeal.defs (F := Ideal)) (onTc (τ := Cert.AdamwDownRefIdeal.τ) (Cert.AdamwDownRefIdeal.main (F := Ideal))) ⟨m, fun _ => 0, g⟩ (fun r => (∀ c : Dev Cert.AdamwDownRefIdeal.nD,
      r.2.mem ((c.tc : Thread Cert.AdamwDownRefIdeal.nD Cert.AdamwDownRefIdeal.τ).loc Cert.AdamwDownRefIdeal.main_arg0) = m ((c.tc : Thread Cert.AdamwDownRefIdeal.nD Cert.AdamwDownRefIdeal.τ).loc Cert.AdamwDownRefIdeal.main_arg0)
      ∧ r.2.mem ((c.tc : Thread Cert.AdamwDownRefIdeal.nD Cert.AdamwDownRefIdeal.τ).loc Cert.AdamwDownRefIdeal.main_arg1) = m ((c.tc : Thread Cert.AdamwDownRefIdeal.nD Cert.AdamwDownRefIdeal.τ).loc Cert.AdamwDownRefIdeal.main_arg1)
      ∧ r.2.mem ((c.tc : Thread Cert.AdamwDownRefIdeal.nD Cert.AdamwDownRefIdeal.τ).loc Cert.AdamwDownRefIdeal.main_arg2) = m ((c.tc : Thread Cert.AdamwDownRefIdeal.nD Cert.AdamwDownRefIdeal.τ).loc Cert.AdamwDownRefIdeal.main_arg2)
      ∧ r.2.mem ((c.tc : Thread Cert.AdamwDownRefIdeal.nD Cert.AdamwDownRefIdeal.τ).loc Cert.AdamwDownRefIdeal.main_arg3) = m ((c.tc : Thread Cert.AdamwDownRefIdeal.nD Cert.AdamwDownRefIdeal.τ).loc Cert.AdamwDownRefIdeal.main_arg3))
      ∧ r.2.sem = fun _ => 0)

def quiescent_AdamwGlu [hAdamwGlu : Cert.AdamwGlu.Facts] : Prop :=
  ∀ (m : (ℓ : Loc Cert.AdamwGlu.nD Cert.AdamwGlu.τ Cert.AdamwGlu.sig) → Buf (Elt Bits) ℓ) (g : Dev Cert.AdamwGlu.nD → PrngReg), Pre_AdamwGlu m →
    θ_run (Cert.AdamwGlu.defs (F := Bits)) (onTc (τ := Cert.AdamwGlu.τ) (Cert.AdamwGlu.main (F := Bits))) ⟨m, fun _ => 0, g⟩ (fun r => (∀ c : Dev Cert.AdamwGlu.nD,
      r.2.mem ((c.tc : Thread Cert.AdamwGlu.nD Cert.AdamwGlu.τ).loc Cert.AdamwGlu.main_arg0) = m ((c.tc : Thread Cert.AdamwGlu.nD Cert.AdamwGlu.τ).loc Cert.AdamwGlu.main_arg0)
      ∧ r.2.mem ((c.tc : Thread Cert.AdamwGlu.nD Cert.AdamwGlu.τ).loc Cert.AdamwGlu.main_arg1) = m ((c.tc : Thread Cert.AdamwGlu.nD Cert.AdamwGlu.τ).loc Cert.AdamwGlu.main_arg1)
      ∧ r.2.mem ((c.tc : Thread Cert.AdamwGlu.nD Cert.AdamwGlu.τ).loc Cert.AdamwGlu.main_arg2) = m ((c.tc : Thread Cert.AdamwGlu.nD Cert.AdamwGlu.τ).loc Cert.AdamwGlu.main_arg2)
      ∧ r.2.mem ((c.tc : Thread Cert.AdamwGlu.nD Cert.AdamwGlu.τ).loc Cert.AdamwGlu.main_arg3) = m ((c.tc : Thread Cert.AdamwGlu.nD Cert.AdamwGlu.τ).loc Cert.AdamwGlu.main_arg3))
      ∧ r.2.sem = fun _ => 0)

def quiescent_AdamwGluIdeal [hAdamwGluIdeal : Cert.AdamwGluIdeal.Facts] : Prop :=
  ∀ (m : (ℓ : Loc Cert.AdamwGluIdeal.nD Cert.AdamwGluIdeal.τ Cert.AdamwGluIdeal.sig) → Buf (Elt Ideal) ℓ) (g : Dev Cert.AdamwGluIdeal.nD → PrngReg), Pre_AdamwGluIdeal m →
    θ_run (Cert.AdamwGluIdeal.defs (F := Ideal)) (onTc (τ := Cert.AdamwGluIdeal.τ) (Cert.AdamwGluIdeal.main (F := Ideal))) ⟨m, fun _ => 0, g⟩ (fun r => (∀ c : Dev Cert.AdamwGluIdeal.nD,
      r.2.mem ((c.tc : Thread Cert.AdamwGluIdeal.nD Cert.AdamwGluIdeal.τ).loc Cert.AdamwGluIdeal.main_arg0) = m ((c.tc : Thread Cert.AdamwGluIdeal.nD Cert.AdamwGluIdeal.τ).loc Cert.AdamwGluIdeal.main_arg0)
      ∧ r.2.mem ((c.tc : Thread Cert.AdamwGluIdeal.nD Cert.AdamwGluIdeal.τ).loc Cert.AdamwGluIdeal.main_arg1) = m ((c.tc : Thread Cert.AdamwGluIdeal.nD Cert.AdamwGluIdeal.τ).loc Cert.AdamwGluIdeal.main_arg1)
      ∧ r.2.mem ((c.tc : Thread Cert.AdamwGluIdeal.nD Cert.AdamwGluIdeal.τ).loc Cert.AdamwGluIdeal.main_arg2) = m ((c.tc : Thread Cert.AdamwGluIdeal.nD Cert.AdamwGluIdeal.τ).loc Cert.AdamwGluIdeal.main_arg2)
      ∧ r.2.mem ((c.tc : Thread Cert.AdamwGluIdeal.nD Cert.AdamwGluIdeal.τ).loc Cert.AdamwGluIdeal.main_arg3) = m ((c.tc : Thread Cert.AdamwGluIdeal.nD Cert.AdamwGluIdeal.τ).loc Cert.AdamwGluIdeal.main_arg3))
      ∧ r.2.sem = fun _ => 0)

def quiescent_AdamwGluRefIdeal [hAdamwGluRefIdeal : Cert.AdamwGluRefIdeal.Facts] : Prop :=
  ∀ (m : (ℓ : Loc Cert.AdamwGluRefIdeal.nD Cert.AdamwGluRefIdeal.τ Cert.AdamwGluRefIdeal.sig) → Buf (Elt Ideal) ℓ) (g : Dev Cert.AdamwGluRefIdeal.nD → PrngReg), Pre_AdamwGluRefIdeal m →
    θ_run (Cert.AdamwGluRefIdeal.defs (F := Ideal)) (onTc (τ := Cert.AdamwGluRefIdeal.τ) (Cert.AdamwGluRefIdeal.main (F := Ideal))) ⟨m, fun _ => 0, g⟩ (fun r => (∀ c : Dev Cert.AdamwGluRefIdeal.nD,
      r.2.mem ((c.tc : Thread Cert.AdamwGluRefIdeal.nD Cert.AdamwGluRefIdeal.τ).loc Cert.AdamwGluRefIdeal.main_arg0) = m ((c.tc : Thread Cert.AdamwGluRefIdeal.nD Cert.AdamwGluRefIdeal.τ).loc Cert.AdamwGluRefIdeal.main_arg0)
      ∧ r.2.mem ((c.tc : Thread Cert.AdamwGluRefIdeal.nD Cert.AdamwGluRefIdeal.τ).loc Cert.AdamwGluRefIdeal.main_arg1) = m ((c.tc : Thread Cert.AdamwGluRefIdeal.nD Cert.AdamwGluRefIdeal.τ).loc Cert.AdamwGluRefIdeal.main_arg1)
      ∧ r.2.mem ((c.tc : Thread Cert.AdamwGluRefIdeal.nD Cert.AdamwGluRefIdeal.τ).loc Cert.AdamwGluRefIdeal.main_arg2) = m ((c.tc : Thread Cert.AdamwGluRefIdeal.nD Cert.AdamwGluRefIdeal.τ).loc Cert.AdamwGluRefIdeal.main_arg2)
      ∧ r.2.mem ((c.tc : Thread Cert.AdamwGluRefIdeal.nD Cert.AdamwGluRefIdeal.τ).loc Cert.AdamwGluRefIdeal.main_arg3) = m ((c.tc : Thread Cert.AdamwGluRefIdeal.nD Cert.AdamwGluRefIdeal.τ).loc Cert.AdamwGluRefIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3))
      ∧ r.2.sem = fun _ => 0)

def quiescent_AdamwUp [hAdamwUp : Cert.AdamwUp.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3))
      ∧ r.2.sem = fun _ => 0)

def quiescent_AdamwUpIdeal [hAdamwUpIdeal : Cert.AdamwUpIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ r.2.sem = fun _ => 0)

def quiescent_AdamwUpRefIdeal [hAdamwUpRefIdeal : Cert.AdamwUpRefIdeal.Facts] : Prop :=
  ∀ (m : (ℓ : Loc Cert.AdamwUpRefIdeal.nD Cert.AdamwUpRefIdeal.τ Cert.AdamwUpRefIdeal.sig) → Buf (Elt Ideal) ℓ) (g : Dev Cert.AdamwUpRefIdeal.nD → PrngReg), Pre_AdamwUpRefIdeal m →
    θ_run (Cert.AdamwUpRefIdeal.defs (F := Ideal)) (onTc (τ := Cert.AdamwUpRefIdeal.τ) (Cert.AdamwUpRefIdeal.main (F := Ideal))) ⟨m, fun _ => 0, g⟩ (fun r => (∀ c : Dev Cert.AdamwUpRefIdeal.nD,
      r.2.mem ((c.tc : Thread Cert.AdamwUpRefIdeal.nD Cert.AdamwUpRefIdeal.τ).loc Cert.AdamwUpRefIdeal.main_arg0) = m ((c.tc : Thread Cert.AdamwUpRefIdeal.nD Cert.AdamwUpRefIdeal.τ).loc Cert.AdamwUpRefIdeal.main_arg0)
      ∧ r.2.mem ((c.tc : Thread Cert.AdamwUpRefIdeal.nD Cert.AdamwUpRefIdeal.τ).loc Cert.AdamwUpRefIdeal.main_arg1) = m ((c.tc : Thread Cert.AdamwUpRefIdeal.nD Cert.AdamwUpRefIdeal.τ).loc Cert.AdamwUpRefIdeal.main_arg1)
      ∧ r.2.mem ((c.tc : Thread Cert.AdamwUpRefIdeal.nD Cert.AdamwUpRefIdeal.τ).loc Cert.AdamwUpRefIdeal.main_arg2) = m ((c.tc : Thread Cert.AdamwUpRefIdeal.nD Cert.AdamwUpRefIdeal.τ).loc Cert.AdamwUpRefIdeal.main_arg2)
      ∧ r.2.mem ((c.tc : Thread Cert.AdamwUpRefIdeal.nD Cert.AdamwUpRefIdeal.τ).loc Cert.AdamwUpRefIdeal.main_arg3) = m ((c.tc : Thread Cert.AdamwUpRefIdeal.nD Cert.AdamwUpRefIdeal.τ).loc Cert.AdamwUpRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DMixed [hDMixed : Cert.DMixed.Facts] : Prop :=
  ∀ (m : (ℓ : Loc Cert.DMixed.nD Cert.DMixed.τ Cert.DMixed.sig) → Buf (Elt Bits) ℓ) (g : Dev Cert.DMixed.nD → PrngReg), Pre_DMixed m →
    θ_run (Cert.DMixed.defs (F := Bits)) (onTc (τ := Cert.DMixed.τ) (Cert.DMixed.main (F := Bits))) ⟨m, fun _ => 0, g⟩ (fun r => (∀ c : Dev Cert.DMixed.nD,
      r.2.mem ((c.tc : Thread Cert.DMixed.nD Cert.DMixed.τ).loc Cert.DMixed.main_arg0) = m ((c.tc : Thread Cert.DMixed.nD Cert.DMixed.τ).loc Cert.DMixed.main_arg0)
      ∧ r.2.mem ((c.tc : Thread Cert.DMixed.nD Cert.DMixed.τ).loc Cert.DMixed.main_arg1) = m ((c.tc : Thread Cert.DMixed.nD Cert.DMixed.τ).loc Cert.DMixed.main_arg1))
      ∧ r.2.sem = fun _ => 0)

def quiescent_DMixedIdeal [hDMixedIdeal : Cert.DMixedIdeal.Facts] : Prop :=
  ∀ (m : (ℓ : Loc Cert.DMixedIdeal.nD Cert.DMixedIdeal.τ Cert.DMixedIdeal.sig) → Buf (Elt Ideal) ℓ) (g : Dev Cert.DMixedIdeal.nD → PrngReg), Pre_DMixedIdeal m →
    θ_run (Cert.DMixedIdeal.defs (F := Ideal)) (onTc (τ := Cert.DMixedIdeal.τ) (Cert.DMixedIdeal.main (F := Ideal))) ⟨m, fun _ => 0, g⟩ (fun r => (∀ c : Dev Cert.DMixedIdeal.nD,
      r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
      ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ r.2.sem = fun _ => 0)

def quiescent_DMixedRefIdeal [hDMixedRefIdeal : Cert.DMixedRefIdeal.Facts] : Prop :=
  ∀ (m : (ℓ : Loc Cert.DMixedRefIdeal.nD Cert.DMixedRefIdeal.τ Cert.DMixedRefIdeal.sig) → Buf (Elt Ideal) ℓ) (g : Dev Cert.DMixedRefIdeal.nD → PrngReg), Pre_DMixedRefIdeal m →
    θ_run (Cert.DMixedRefIdeal.defs (F := Ideal)) (onTc (τ := Cert.DMixedRefIdeal.τ) (Cert.DMixedRefIdeal.main (F := Ideal))) ⟨m, fun _ => 0, g⟩ (fun r => (∀ c : Dev Cert.DMixedRefIdeal.nD,
      r.2.mem ((c.tc : Thread Cert.DMixedRefIdeal.nD Cert.DMixedRefIdeal.τ).loc Cert.DMixedRefIdeal.main_arg0) = m ((c.tc : Thread Cert.DMixedRefIdeal.nD Cert.DMixedRefIdeal.τ).loc Cert.DMixedRefIdeal.main_arg0)
      ∧ r.2.mem ((c.tc : Thread Cert.DMixedRefIdeal.nD Cert.DMixedRefIdeal.τ).loc Cert.DMixedRefIdeal.main_arg1) = m ((c.tc : Thread Cert.DMixedRefIdeal.nD Cert.DMixedRefIdeal.τ).loc Cert.DMixedRefIdeal.main_arg1))
      ∧ r.2.sem = fun _ => 0)

def quiescent_DHTwo [hDHTwo : Cert.DHTwo.Facts] : Prop :=
  ∀ (m : (ℓ : Loc Cert.DHTwo.nD Cert.DHTwo.τ Cert.DHTwo.sig) → Buf (Elt Bits) ℓ) (g : Dev Cert.DHTwo.nD → PrngReg), Pre_DHTwo m →
    θ_run (Cert.DHTwo.defs (F := Bits)) (onTc (τ := Cert.DHTwo.τ) (Cert.DHTwo.main (F := Bits))) ⟨m, fun _ => 0, g⟩ (fun r => (∀ c : Dev Cert.DHTwo.nD,
      r.2.mem ((c.tc : Thread Cert.DHTwo.nD Cert.DHTwo.τ).loc Cert.DHTwo.main_arg0) = m ((c.tc : Thread Cert.DHTwo.nD Cert.DHTwo.τ).loc Cert.DHTwo.main_arg0)
      ∧ r.2.mem ((c.tc : Thread Cert.DHTwo.nD Cert.DHTwo.τ).loc Cert.DHTwo.main_arg1) = m ((c.tc : Thread Cert.DHTwo.nD Cert.DHTwo.τ).loc Cert.DHTwo.main_arg1))
      ∧ r.2.sem = fun _ => 0)

def quiescent_DHTwoIdeal [hDHTwoIdeal : Cert.DHTwoIdeal.Facts] : Prop :=
  ∀ (m : (ℓ : Loc Cert.DHTwoIdeal.nD Cert.DHTwoIdeal.τ Cert.DHTwoIdeal.sig) → Buf (Elt Ideal) ℓ) (g : Dev Cert.DHTwoIdeal.nD → PrngReg), Pre_DHTwoIdeal m →
    θ_run (Cert.DHTwoIdeal.defs (F := Ideal)) (onTc (τ := Cert.DHTwoIdeal.τ) (Cert.DHTwoIdeal.main (F := Ideal))) ⟨m, fun _ => 0, g⟩ (fun r => (∀ c : Dev Cert.DHTwoIdeal.nD,
      r.2.mem ((c.tc : Thread Cert.DHTwoIdeal.nD Cert.DHTwoIdeal.τ).loc Cert.DHTwoIdeal.main_arg0) = m ((c.tc : Thread Cert.DHTwoIdeal.nD Cert.DHTwoIdeal.τ).loc Cert.DHTwoIdeal.main_arg0)
      ∧ r.2.mem ((c.tc : Thread Cert.DHTwoIdeal.nD Cert.DHTwoIdeal.τ).loc Cert.DHTwoIdeal.main_arg1) = m ((c.tc : Thread Cert.DHTwoIdeal.nD Cert.DHTwoIdeal.τ).loc Cert.DHTwoIdeal.main_arg1))
      ∧ r.2.sem = fun _ => 0)

def quiescent_DHTwoRefIdeal [hDHTwoRefIdeal : Cert.DHTwoRefIdeal.Facts] : Prop :=
  ∀ (m : (ℓ : Loc Cert.DHTwoRefIdeal.nD Cert.DHTwoRefIdeal.τ Cert.DHTwoRefIdeal.sig) → Buf (Elt Ideal) ℓ) (g : Dev Cert.DHTwoRefIdeal.nD → PrngReg), Pre_DHTwoRefIdeal m →
    θ_run (Cert.DHTwoRefIdeal.defs (F := Ideal)) (onTc (τ := Cert.DHTwoRefIdeal.τ) (Cert.DHTwoRefIdeal.main (F := Ideal))) ⟨m, fun _ => 0, g⟩ (fun r => (∀ c : Dev Cert.DHTwoRefIdeal.nD,
      r.2.mem ((c.tc : Thread Cert.DHTwoRefIdeal.nD Cert.DHTwoRefIdeal.τ).loc Cert.DHTwoRefIdeal.main_arg0) = m ((c.tc : Thread Cert.DHTwoRefIdeal.nD Cert.DHTwoRefIdeal.τ).loc Cert.DHTwoRefIdeal.main_arg0)
      ∧ r.2.mem ((c.tc : Thread Cert.DHTwoRefIdeal.nD Cert.DHTwoRefIdeal.τ).loc Cert.DHTwoRefIdeal.main_arg1) = m ((c.tc : Thread Cert.DHTwoRefIdeal.nD Cert.DHTwoRefIdeal.τ).loc Cert.DHTwoRefIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def preserves_GatherMatrices_GatherMatricesIdeal : Prop :=
  True

def algebraic_GatherMatricesIdeal_GatherMatricesRefIdeal [hGatherMatricesIdeal : Cert.GatherMatricesIdeal.Facts] [hGatherMatricesRefIdeal : Cert.GatherMatricesRefIdeal.Facts] : Prop :=
  ∀ (m : (ℓ : Loc Cert.GatherMatricesIdeal.nD Cert.GatherMatricesIdeal.τ Cert.GatherMatricesIdeal.sig) → Buf (Elt Ideal) ℓ) (g : Dev Cert.GatherMatricesIdeal.nD → PrngReg)
    (m' : (ℓ : Loc Cert.GatherMatricesRefIdeal.nD Cert.GatherMatricesRefIdeal.τ Cert.GatherMatricesRefIdeal.sig) → Buf (Elt Ideal) ℓ) (g' : Dev Cert.GatherMatricesRefIdeal.nD → PrngReg), Pre_GatherMatricesIdeal m →
    (∀ c : Dev Cert.GatherMatricesIdeal.nD,
      m ((c.tc : Thread Cert.GatherMatricesIdeal.nD Cert.GatherMatricesIdeal.τ).loc Cert.GatherMatricesIdeal.main_arg0) = Layout.block ⟨2, ![384, 2048]⟩ ⟨2, ![3072, 2048]⟩ 0 8 c (m' (((0 : Dev Cert.GatherMatricesRefIdeal.nD).tc : Thread Cert.GatherMatricesRefIdeal.nD Cert.GatherMatricesRefIdeal.τ).loc Cert.GatherMatricesRefIdeal.main_arg0))
      ∧ m ((c.tc : Thread Cert.GatherMatricesIdeal.nD Cert.GatherMatricesIdeal.τ).loc Cert.GatherMatricesIdeal.main_arg1) = Layout.block ⟨2, ![256, 2048]⟩ ⟨2, ![2048, 2048]⟩ 0 8 c (m' (((0 : Dev Cert.GatherMatricesRefIdeal.nD).tc : Thread Cert.GatherMatricesRefIdeal.nD Cert.GatherMatricesRefIdeal.τ).loc Cert.GatherMatricesRefIdeal.main_arg1))
      ∧ m ((c.tc : Thread Cert.GatherMatricesIdeal.nD Cert.GatherMatricesIdeal.τ).loc Cert.GatherMatricesIdeal.main_arg2) = Layout.block ⟨2, ![1376, 2048]⟩ ⟨2, ![11008, 2048]⟩ 0 8 c (m' (((0 : Dev Cert.GatherMatricesRefIdeal.nD).tc : Thread Cert.GatherMatricesRefIdeal.nD Cert.GatherMatricesRefIdeal.τ).loc Cert.GatherMatricesRefIdeal.main_arg2))
      ∧ m ((c.tc : Thread Cert.GatherMatricesIdeal.nD Cert.GatherMatricesIdeal.τ).loc Cert.GatherMatricesIdeal.main_arg3) = Layout.block ⟨2, ![688, 2048]⟩ ⟨2, ![5504, 2048]⟩ 0 8 c (m' (((0 : Dev Cert.GatherMatricesRefIdeal.nD).tc : Thread Cert.GatherMatricesRefIdeal.nD Cert.GatherMatricesRefIdeal.τ).loc Cert.GatherMatricesRefIdeal.main_arg3))
      ∧ m ((c.tc : Thread Cert.GatherMatricesIdeal.nD Cert.GatherMatricesIdeal.τ).loc Cert.GatherMatricesIdeal.main_arg4) = Layout.block ⟨2, ![64, 512]⟩ ⟨2, ![512, 512]⟩ 0 8 c (m' (((0 : Dev Cert.GatherMatricesRefIdeal.nD).tc : Thread Cert.GatherMatricesRefIdeal.nD Cert.GatherMatricesRefIdeal.τ).loc Cert.GatherMatricesRefIdeal.main_arg4))
      ∧ m ((c.tc : Thread Cert.GatherMatricesIdeal.nD Cert.GatherMatricesIdeal.τ).loc Cert.GatherMatricesIdeal.main_arg5) = Layout.block ⟨2, ![64, 512]⟩ ⟨2, ![512, 512]⟩ 0 8 c (m' (((0 : Dev Cert.GatherMatricesRefIdeal.nD).tc : Thread Cert.GatherMatricesRefIdeal.nD Cert.GatherMatricesRefIdeal.τ).loc Cert.GatherMatricesRefIdeal.main_arg5))
      ∧ m ((c.tc : Thread Cert.GatherMatricesIdeal.nD Cert.GatherMatricesIdeal.τ).loc Cert.GatherMatricesIdeal.main_arg6) = Layout.block ⟨2, ![384, 2048]⟩ ⟨2, ![3072, 2048]⟩ 0 8 c (m' (((0 : Dev Cert.GatherMatricesRefIdeal.nD).tc : Thread Cert.GatherMatricesRefIdeal.nD Cert.GatherMatricesRefIdeal.τ).loc Cert.GatherMatricesRefIdeal.main_arg6))
      ∧ m ((c.tc : Thread Cert.GatherMatricesIdeal.nD Cert.GatherMatricesIdeal.τ).loc Cert.GatherMatricesIdeal.main_arg7) = Layout.block ⟨2, ![256, 2048]⟩ ⟨2, ![2048, 2048]⟩ 0 8 c (m' (((0 : Dev Cert.GatherMatricesRefIdeal.nD).tc : Thread Cert.GatherMatricesRefIdeal.nD Cert.GatherMatricesRefIdeal.τ).loc Cert.GatherMatricesRefIdeal.main_arg7))
      ∧ m ((c.tc : Thread Cert.GatherMatricesIdeal.nD Cert.GatherMatricesIdeal.τ).loc Cert.GatherMatricesIdeal.main_arg8) = Layout.block ⟨2, ![1376, 2048]⟩ ⟨2, ![11008, 2048]⟩ 0 8 c (m' (((0 : Dev Cert.GatherMatricesRefIdeal.nD).tc : Thread Cert.GatherMatricesRefIdeal.nD Cert.GatherMatricesRefIdeal.τ).loc Cert.GatherMatricesRefIdeal.main_arg8))
      ∧ m ((c.tc : Thread Cert.GatherMatricesIdeal.nD Cert.GatherMatricesIdeal.τ).loc Cert.GatherMatricesIdeal.main_arg9) = Layout.block ⟨2, ![688, 2048]⟩ ⟨2, ![5504, 2048]⟩ 0 8 c (m' (((0 : Dev Cert.GatherMatricesRefIdeal.nD).tc : Thread Cert.GatherMatricesRefIdeal.nD Cert.GatherMatricesRefIdeal.τ).loc Cert.GatherMatricesRefIdeal.main_arg9))
      ∧ m ((c.tc : Thread Cert.GatherMatricesIdeal.nD Cert.GatherMatricesIdeal.τ).loc Cert.GatherMatricesIdeal.main_arg10) = Layout.block ⟨2, ![64, 512]⟩ ⟨2, ![512, 512]⟩ 0 8 c (m' (((0 : Dev Cert.GatherMatricesRefIdeal.nD).tc : Thread Cert.GatherMatricesRefIdeal.nD Cert.GatherMatricesRefIdeal.τ).loc Cert.GatherMatricesRefIdeal.main_arg10))
      ∧ m ((c.tc : Thread Cert.GatherMatricesIdeal.nD Cert.GatherMatricesIdeal.τ).loc Cert.GatherMatricesIdeal.main_arg11) = Layout.block ⟨2, ![64, 512]⟩ ⟨2, ![512, 512]⟩ 0 8 c (m' (((0 : Dev Cert.GatherMatricesRefIdeal.nD).tc : Thread Cert.GatherMatricesRefIdeal.nD Cert.GatherMatricesRefIdeal.τ).loc Cert.GatherMatricesRefIdeal.main_arg11))) →
    ∃ (v0 : Buf (Elt Ideal) (((0 : Dev Cert.GatherMatricesRefIdeal.nD).tc : Thread Cert.GatherMatricesRefIdeal.nD Cert.GatherMatricesRefIdeal.τ).loc Cert.GatherMatricesRefIdeal.main_v0)) (v1 : Buf (Elt Ideal) (((0 : Dev Cert.GatherMatricesRefIdeal.nD).tc : Thread Cert.GatherMatricesRefIdeal.nD Cert.GatherMatricesRefIdeal.τ).loc Cert.GatherMatricesRefIdeal.main_v1)) (v2 : Buf (Elt Ideal) (((0 : Dev Cert.GatherMatricesRefIdeal.nD).tc : Thread Cert.GatherMatricesRefIdeal.nD Cert.GatherMatricesRefIdeal.τ).loc Cert.GatherMatricesRefIdeal.main_v2)) (v3 : Buf (Elt Ideal) (((0 : Dev Cert.GatherMatricesRefIdeal.nD).tc : Thread Cert.GatherMatricesRefIdeal.nD Cert.GatherMatricesRefIdeal.τ).loc Cert.GatherMatricesRefIdeal.main_v3)) (v4 : Buf (Elt Ideal) (((0 : Dev Cert.GatherMatricesRefIdeal.nD).tc : Thread Cert.GatherMatricesRefIdeal.nD Cert.GatherMatricesRefIdeal.τ).loc Cert.GatherMatricesRefIdeal.main_v4)) (v5 : Buf (Elt Ideal) (((0 : Dev Cert.GatherMatricesRefIdeal.nD).tc : Thread Cert.GatherMatricesRefIdeal.nD Cert.GatherMatricesRefIdeal.τ).loc Cert.GatherMatricesRefIdeal.main_v5)) (v6 : Buf (Elt Ideal) (((0 : Dev Cert.GatherMatricesRefIdeal.nD).tc : Thread Cert.GatherMatricesRefIdeal.nD Cert.GatherMatricesRefIdeal.τ).loc Cert.GatherMatricesRefIdeal.main_v6)) (v7 : Buf (Elt Ideal) (((0 : Dev Cert.GatherMatricesRefIdeal.nD).tc : Thread Cert.GatherMatricesRefIdeal.nD Cert.GatherMatricesRefIdeal.τ).loc Cert.GatherMatricesRefIdeal.main_v7)) (v8 : Buf (Elt Ideal) (((0 : Dev Cert.GatherMatricesRefIdeal.nD).tc : Thread Cert.GatherMatricesRefIdeal.nD Cert.GatherMatricesRefIdeal.τ).loc Cert.GatherMatricesRefIdeal.main_v8)) (v9 : Buf (Elt Ideal) (((0 : Dev Cert.GatherMatricesRefIdeal.nD).tc : Thread Cert.GatherMatricesRefIdeal.nD Cert.GatherMatricesRefIdeal.τ).loc Cert.GatherMatricesRefIdeal.main_v9)) (v10 : Buf (Elt Ideal) (((0 : Dev Cert.GatherMatricesRefIdeal.nD).tc : Thread Cert.GatherMatricesRefIdeal.nD Cert.GatherMatricesRefIdeal.τ).loc Cert.GatherMatricesRefIdeal.main_v10)) (v11 : Buf (Elt Ideal) (((0 : Dev Cert.GatherMatricesRefIdeal.nD).tc : Thread Cert.GatherMatricesRefIdeal.nD Cert.GatherMatricesRefIdeal.τ).loc Cert.GatherMatricesRefIdeal.main_v11)),
      θ_run (Cert.GatherMatricesIdeal.defs (F := Ideal)) (onTc (τ := Cert.GatherMatricesIdeal.τ) (Cert.GatherMatricesIdeal.main (F := Ideal))) ⟨m, fun _ => 0, g⟩ (fun r => ∀ c : Dev Cert.GatherMatricesIdeal.nD,
          r.2.mem ((c.tc : Thread Cert.GatherMatricesIdeal.nD Cert.GatherMatricesIdeal.τ).loc Cert.GatherMatricesIdeal.main_v1_0) = v0
          ∧ r.2.mem ((c.tc : Thread Cert.GatherMatricesIdeal.nD Cert.GatherMatricesIdeal.τ).loc Cert.GatherMatricesIdeal.main_v1_1) = v1
          ∧ r.2.mem ((c.tc : Thread Cert.GatherMatricesIdeal.nD Cert.GatherMatricesIdeal.τ).loc Cert.GatherMatricesIdeal.main_v1_2) = v2
          ∧ r.2.mem ((c.tc : Thread Cert.GatherMatricesIdeal.nD Cert.GatherMatricesIdeal.τ).loc Cert.GatherMatricesIdeal.main_v1_3) = v3
          ∧ r.2.mem ((c.tc : Thread Cert.GatherMatricesIdeal.nD Cert.GatherMatricesIdeal.τ).loc Cert.GatherMatricesIdeal.main_v1_4) = v4
          ∧ r.2.mem ((c.tc : Thread Cert.GatherMatricesIdeal.nD Cert.GatherMatricesIdeal.τ).loc Cert.GatherMatricesIdeal.main_v1_5) = v5
          ∧ r.2.mem ((c.tc : Thread Cert.GatherMatricesIdeal.nD Cert.GatherMatricesIdeal.τ).loc Cert.GatherMatricesIdeal.main_v1_6) = v6
          ∧ r.2.mem ((c.tc : Thread Cert.GatherMatricesIdeal.nD Cert.GatherMatricesIdeal.τ).loc Cert.GatherMatricesIdeal.main_v1_7) = v7
          ∧ r.2.mem ((c.tc : Thread Cert.GatherMatricesIdeal.nD Cert.GatherMatricesIdeal.τ).loc Cert.GatherMatricesIdeal.main_v1_8) = v8
          ∧ r.2.mem ((c.tc : Thread Cert.GatherMatricesIdeal.nD Cert.GatherMatricesIdeal.τ).loc Cert.GatherMatricesIdeal.main_v1_9) = v9
          ∧ r.2.mem ((c.tc : Thread Cert.GatherMatricesIdeal.nD Cert.GatherMatricesIdeal.τ).loc Cert.GatherMatricesIdeal.main_v1_10) = v10
          ∧ r.2.mem ((c.tc : Thread Cert.GatherMatricesIdeal.nD Cert.GatherMatricesIdeal.τ).loc Cert.GatherMatricesIdeal.main_v1_11) = v11
          ∧ r.2.mem ((c.tc : Thread Cert.GatherMatricesIdeal.nD Cert.GatherMatricesIdeal.τ).loc Cert.GatherMatricesIdeal.main_arg0) = m ((c.tc : Thread Cert.GatherMatricesIdeal.nD Cert.GatherMatricesIdeal.τ).loc Cert.GatherMatricesIdeal.main_arg0)
          ∧ r.2.mem ((c.tc : Thread Cert.GatherMatricesIdeal.nD Cert.GatherMatricesIdeal.τ).loc Cert.GatherMatricesIdeal.main_arg1) = m ((c.tc : Thread Cert.GatherMatricesIdeal.nD Cert.GatherMatricesIdeal.τ).loc Cert.GatherMatricesIdeal.main_arg1)
          ∧ r.2.mem ((c.tc : Thread Cert.GatherMatricesIdeal.nD Cert.GatherMatricesIdeal.τ).loc Cert.GatherMatricesIdeal.main_arg2) = m ((c.tc : Thread Cert.GatherMatricesIdeal.nD Cert.GatherMatricesIdeal.τ).loc Cert.GatherMatricesIdeal.main_arg2)
          ∧ r.2.mem ((c.tc : Thread Cert.GatherMatricesIdeal.nD Cert.GatherMatricesIdeal.τ).loc Cert.GatherMatricesIdeal.main_arg3) = m ((c.tc : Thread Cert.GatherMatricesIdeal.nD Cert.GatherMatricesIdeal.τ).loc Cert.GatherMatricesIdeal.main_arg3)
          ∧ r.2.mem ((c.tc : Thread Cert.GatherMatricesIdeal.nD Cert.GatherMatricesIdeal.τ).loc Cert.GatherMatricesIdeal.main_arg4) = m ((c.tc : Thread Cert.GatherMatricesIdeal.nD Cert.GatherMatricesIdeal.τ).loc Cert.GatherMatricesIdeal.main_arg4)
          ∧ r.2.mem ((c.tc : Thread Cert.GatherMatricesIdeal.nD Cert.GatherMatricesIdeal.τ).loc Cert.GatherMatricesIdeal.main_arg5) = m ((c.tc : Thread Cert.GatherMatricesIdeal.nD Cert.GatherMatricesIdeal.τ).loc Cert.GatherMatricesIdeal.main_arg5)
          ∧ r.2.mem ((c.tc : Thread Cert.GatherMatricesIdeal.nD Cert.GatherMatricesIdeal.τ).loc Cert.GatherMatricesIdeal.main_arg6) = m ((c.tc : Thread Cert.GatherMatricesIdeal.nD Cert.GatherMatricesIdeal.τ).loc Cert.GatherMatricesIdeal.main_arg6)
          ∧ r.2.mem ((c.tc : Thread Cert.GatherMatricesIdeal.nD Cert.GatherMatricesIdeal.τ).loc Cert.GatherMatricesIdeal.main_arg7) = m ((c.tc : Thread Cert.GatherMatricesIdeal.nD Cert.GatherMatricesIdeal.τ).loc Cert.GatherMatricesIdeal.main_arg7)
          ∧ r.2.mem ((c.tc : Thread Cert.GatherMatricesIdeal.nD Cert.GatherMatricesIdeal.τ).loc Cert.GatherMatricesIdeal.main_arg8) = m ((c.tc : Thread Cert.GatherMatricesIdeal.nD Cert.GatherMatricesIdeal.τ).loc Cert.GatherMatricesIdeal.main_arg8)
          ∧ r.2.mem ((c.tc : Thread Cert.GatherMatricesIdeal.nD Cert.GatherMatricesIdeal.τ).loc Cert.GatherMatricesIdeal.main_arg9) = m ((c.tc : Thread Cert.GatherMatricesIdeal.nD Cert.GatherMatricesIdeal.τ).loc Cert.GatherMatricesIdeal.main_arg9)
          ∧ r.2.mem ((c.tc : Thread Cert.GatherMatricesIdeal.nD Cert.GatherMatricesIdeal.τ).loc Cert.GatherMatricesIdeal.main_arg10) = m ((c.tc : Thread Cert.GatherMatricesIdeal.nD Cert.GatherMatricesIdeal.τ).loc Cert.GatherMatricesIdeal.main_arg10)
          ∧ r.2.mem ((c.tc : Thread Cert.GatherMatricesIdeal.nD Cert.GatherMatricesIdeal.τ).loc Cert.GatherMatricesIdeal.main_arg11) = m ((c.tc : Thread Cert.GatherMatricesIdeal.nD Cert.GatherMatricesIdeal.τ).loc Cert.GatherMatricesIdeal.main_arg11))
      ∧ θ_run (Cert.GatherMatricesRefIdeal.defs (F := Ideal)) (onTc (τ := Cert.GatherMatricesRefIdeal.τ) (Cert.GatherMatricesRefIdeal.main (F := Ideal))) ⟨m', fun _ => 0, g'⟩ (fun r =>
          r.2.mem (((0 : Dev Cert.GatherMatricesRefIdeal.nD).tc : Thread Cert.GatherMatricesRefIdeal.nD Cert.GatherMatricesRefIdeal.τ).loc Cert.GatherMatricesRefIdeal.main_v0) = v0
          ∧ r.2.mem (((0 : Dev Cert.GatherMatricesRefIdeal.nD).tc : Thread Cert.GatherMatricesRefIdeal.nD Cert.GatherMatricesRefIdeal.τ).loc Cert.GatherMatricesRefIdeal.main_v1) = v1
          ∧ r.2.mem (((0 : Dev Cert.GatherMatricesRefIdeal.nD).tc : Thread Cert.GatherMatricesRefIdeal.nD Cert.GatherMatricesRefIdeal.τ).loc Cert.GatherMatricesRefIdeal.main_v2) = v2
          ∧ r.2.mem (((0 : Dev Cert.GatherMatricesRefIdeal.nD).tc : Thread Cert.GatherMatricesRefIdeal.nD Cert.GatherMatricesRefIdeal.τ).loc Cert.GatherMatricesRefIdeal.main_v3) = v3
          ∧ r.2.mem (((0 : Dev Cert.GatherMatricesRefIdeal.nD).tc : Thread Cert.GatherMatricesRefIdeal.nD Cert.GatherMatricesRefIdeal.τ).loc Cert.GatherMatricesRefIdeal.main_v4) = v4
          ∧ r.2.mem (((0 : Dev Cert.GatherMatricesRefIdeal.nD).tc : Thread Cert.GatherMatricesRefIdeal.nD Cert.GatherMatricesRefIdeal.τ).loc Cert.GatherMatricesRefIdeal.main_v5) = v5
          ∧ r.2.mem (((0 : Dev Cert.GatherMatricesRefIdeal.nD).tc : Thread Cert.GatherMatricesRefIdeal.nD Cert.GatherMatricesRefIdeal.τ).loc Cert.GatherMatricesRefIdeal.main_v6) = v6
          ∧ r.2.mem (((0 : Dev Cert.GatherMatricesRefIdeal.nD).tc : Thread Cert.GatherMatricesRefIdeal.nD Cert.GatherMatricesRefIdeal.τ).loc Cert.GatherMatricesRefIdeal.main_v7) = v7
          ∧ r.2.mem (((0 : Dev Cert.GatherMatricesRefIdeal.nD).tc : Thread Cert.GatherMatricesRefIdeal.nD Cert.GatherMatricesRefIdeal.τ).loc Cert.GatherMatricesRefIdeal.main_v8) = v8
          ∧ r.2.mem (((0 : Dev Cert.GatherMatricesRefIdeal.nD).tc : Thread Cert.GatherMatricesRefIdeal.nD Cert.GatherMatricesRefIdeal.τ).loc Cert.GatherMatricesRefIdeal.main_v9) = v9
          ∧ r.2.mem (((0 : Dev Cert.GatherMatricesRefIdeal.nD).tc : Thread Cert.GatherMatricesRefIdeal.nD Cert.GatherMatricesRefIdeal.τ).loc Cert.GatherMatricesRefIdeal.main_v10) = v10
          ∧ r.2.mem (((0 : Dev Cert.GatherMatricesRefIdeal.nD).tc : Thread Cert.GatherMatricesRefIdeal.nD Cert.GatherMatricesRefIdeal.τ).loc Cert.GatherMatricesRefIdeal.main_v11) = v11
          ∧ r.2.mem (((0 : Dev Cert.GatherMatricesRefIdeal.nD).tc : Thread Cert.GatherMatricesRefIdeal.nD Cert.GatherMatricesRefIdeal.τ).loc Cert.GatherMatricesRefIdeal.main_arg0) = m' (((0 : Dev Cert.GatherMatricesRefIdeal.nD).tc : Thread Cert.GatherMatricesRefIdeal.nD Cert.GatherMatricesRefIdeal.τ).loc Cert.GatherMatricesRefIdeal.main_arg0)
          ∧ r.2.mem (((0 : Dev Cert.GatherMatricesRefIdeal.nD).tc : Thread Cert.GatherMatricesRefIdeal.nD Cert.GatherMatricesRefIdeal.τ).loc Cert.GatherMatricesRefIdeal.main_arg1) = m' (((0 : Dev Cert.GatherMatricesRefIdeal.nD).tc : Thread Cert.GatherMatricesRefIdeal.nD Cert.GatherMatricesRefIdeal.τ).loc Cert.GatherMatricesRefIdeal.main_arg1)
          ∧ r.2.mem (((0 : Dev Cert.GatherMatricesRefIdeal.nD).tc : Thread Cert.GatherMatricesRefIdeal.nD Cert.GatherMatricesRefIdeal.τ).loc Cert.GatherMatricesRefIdeal.main_arg2) = m' (((0 : Dev Cert.GatherMatricesRefIdeal.nD).tc : Thread Cert.GatherMatricesRefIdeal.nD Cert.GatherMatricesRefIdeal.τ).loc Cert.GatherMatricesRefIdeal.main_arg2)
          ∧ r.2.mem (((0 : Dev Cert.GatherMatricesRefIdeal.nD).tc : Thread Cert.GatherMatricesRefIdeal.nD Cert.GatherMatricesRefIdeal.τ).loc Cert.GatherMatricesRefIdeal.main_arg3) = m' (((0 : Dev Cert.GatherMatricesRefIdeal.nD).tc : Thread Cert.GatherMatricesRefIdeal.nD Cert.GatherMatricesRefIdeal.τ).loc Cert.GatherMatricesRefIdeal.main_arg3)
          ∧ r.2.mem (((0 : Dev Cert.GatherMatricesRefIdeal.nD).tc : Thread Cert.GatherMatricesRefIdeal.nD Cert.GatherMatricesRefIdeal.τ).loc Cert.GatherMatricesRefIdeal.main_arg4) = m' (((0 : Dev Cert.GatherMatricesRefIdeal.nD).tc : Thread Cert.GatherMatricesRefIdeal.nD Cert.GatherMatricesRefIdeal.τ).loc Cert.GatherMatricesRefIdeal.main_arg4)
          ∧ r.2.mem (((0 : Dev Cert.GatherMatricesRefIdeal.nD).tc : Thread Cert.GatherMatricesRefIdeal.nD Cert.GatherMatricesRefIdeal.τ).loc Cert.GatherMatricesRefIdeal.main_arg5) = m' (((0 : Dev Cert.GatherMatricesRefIdeal.nD).tc : Thread Cert.GatherMatricesRefIdeal.nD Cert.GatherMatricesRefIdeal.τ).loc Cert.GatherMatricesRefIdeal.main_arg5)
          ∧ r.2.mem (((0 : Dev Cert.GatherMatricesRefIdeal.nD).tc : Thread Cert.GatherMatricesRefIdeal.nD Cert.GatherMatricesRefIdeal.τ).loc Cert.GatherMatricesRefIdeal.main_arg6) = m' (((0 : Dev Cert.GatherMatricesRefIdeal.nD).tc : Thread Cert.GatherMatricesRefIdeal.nD Cert.GatherMatricesRefIdeal.τ).loc Cert.GatherMatricesRefIdeal.main_arg6)
          ∧ r.2.mem (((0 : Dev Cert.GatherMatricesRefIdeal.nD).tc : Thread Cert.GatherMatricesRefIdeal.nD Cert.GatherMatricesRefIdeal.τ).loc Cert.GatherMatricesRefIdeal.main_arg7) = m' (((0 : Dev Cert.GatherMatricesRefIdeal.nD).tc : Thread Cert.GatherMatricesRefIdeal.nD Cert.GatherMatricesRefIdeal.τ).loc Cert.GatherMatricesRefIdeal.main_arg7)
          ∧ r.2.mem (((0 : Dev Cert.GatherMatricesRefIdeal.nD).tc : Thread Cert.GatherMatricesRefIdeal.nD Cert.GatherMatricesRefIdeal.τ).loc Cert.GatherMatricesRefIdeal.main_arg8) = m' (((0 : Dev Cert.GatherMatricesRefIdeal.nD).tc : Thread Cert.GatherMatricesRefIdeal.nD Cert.GatherMatricesRefIdeal.τ).loc Cert.GatherMatricesRefIdeal.main_arg8)
          ∧ r.2.mem (((0 : Dev Cert.GatherMatricesRefIdeal.nD).tc : Thread Cert.GatherMatricesRefIdeal.nD Cert.GatherMatricesRefIdeal.τ).loc Cert.GatherMatricesRefIdeal.main_arg9) = m' (((0 : Dev Cert.GatherMatricesRefIdeal.nD).tc : Thread Cert.GatherMatricesRefIdeal.nD Cert.GatherMatricesRefIdeal.τ).loc Cert.GatherMatricesRefIdeal.main_arg9)
          ∧ r.2.mem (((0 : Dev Cert.GatherMatricesRefIdeal.nD).tc : Thread Cert.GatherMatricesRefIdeal.nD Cert.GatherMatricesRefIdeal.τ).loc Cert.GatherMatricesRefIdeal.main_arg10) = m' (((0 : Dev Cert.GatherMatricesRefIdeal.nD).tc : Thread Cert.GatherMatricesRefIdeal.nD Cert.GatherMatricesRefIdeal.τ).loc Cert.GatherMatricesRefIdeal.main_arg10)
          ∧ r.2.mem (((0 : Dev Cert.GatherMatricesRefIdeal.nD).tc : Thread Cert.GatherMatricesRefIdeal.nD Cert.GatherMatricesRefIdeal.τ).loc Cert.GatherMatricesRefIdeal.main_arg11) = m' (((0 : Dev Cert.GatherMatricesRefIdeal.nD).tc : Thread Cert.GatherMatricesRefIdeal.nD Cert.GatherMatricesRefIdeal.τ).loc Cert.GatherMatricesRefIdeal.main_arg11))

def bitexact_GatherMatrices_GatherMatricesRef [hGatherMatrices : Cert.GatherMatrices.Facts] [hGatherMatricesRef : Cert.GatherMatricesRef.Facts] : Prop :=
  ∀ (m : (ℓ : Loc Cert.GatherMatrices.nD Cert.GatherMatrices.τ Cert.GatherMatrices.sig) → Buf (Elt Bits) ℓ) (g : Dev Cert.GatherMatrices.nD → PrngReg)
    (m' : (ℓ : Loc Cert.GatherMatricesRef.nD Cert.GatherMatricesRef.τ Cert.GatherMatricesRef.sig) → Buf (Elt Bits) ℓ) (g' : Dev Cert.GatherMatricesRef.nD → PrngReg), Pre_GatherMatrices m →
    (∀ c : Dev Cert.GatherMatrices.nD,
      m ((c.tc : Thread Cert.GatherMatrices.nD Cert.GatherMatrices.τ).loc Cert.GatherMatrices.main_arg0) = Layout.block ⟨2, ![384, 2048]⟩ ⟨2, ![3072, 2048]⟩ 0 8 c (m' (((0 : Dev Cert.GatherMatricesRef.nD).tc : Thread Cert.GatherMatricesRef.nD Cert.GatherMatricesRef.τ).loc Cert.GatherMatricesRef.main_arg0))
      ∧ m ((c.tc : Thread Cert.GatherMatrices.nD Cert.GatherMatrices.τ).loc Cert.GatherMatrices.main_arg1) = Layout.block ⟨2, ![256, 2048]⟩ ⟨2, ![2048, 2048]⟩ 0 8 c (m' (((0 : Dev Cert.GatherMatricesRef.nD).tc : Thread Cert.GatherMatricesRef.nD Cert.GatherMatricesRef.τ).loc Cert.GatherMatricesRef.main_arg1))
      ∧ m ((c.tc : Thread Cert.GatherMatrices.nD Cert.GatherMatrices.τ).loc Cert.GatherMatrices.main_arg2) = Layout.block ⟨2, ![1376, 2048]⟩ ⟨2, ![11008, 2048]⟩ 0 8 c (m' (((0 : Dev Cert.GatherMatricesRef.nD).tc : Thread Cert.GatherMatricesRef.nD Cert.GatherMatricesRef.τ).loc Cert.GatherMatricesRef.main_arg2))
      ∧ m ((c.tc : Thread Cert.GatherMatrices.nD Cert.GatherMatrices.τ).loc Cert.GatherMatrices.main_arg3) = Layout.block ⟨2, ![688, 2048]⟩ ⟨2, ![5504, 2048]⟩ 0 8 c (m' (((0 : Dev Cert.GatherMatricesRef.nD).tc : Thread Cert.GatherMatricesRef.nD Cert.GatherMatricesRef.τ).loc Cert.GatherMatricesRef.main_arg3))
      ∧ m ((c.tc : Thread Cert.GatherMatrices.nD Cert.GatherMatrices.τ).loc Cert.GatherMatrices.main_arg4) = Layout.block ⟨2, ![64, 512]⟩ ⟨2, ![512, 512]⟩ 0 8 c (m' (((0 : Dev Cert.GatherMatricesRef.nD).tc : Thread Cert.GatherMatricesRef.nD Cert.GatherMatricesRef.τ).loc Cert.GatherMatricesRef.main_arg4))
      ∧ m ((c.tc : Thread Cert.GatherMatrices.nD Cert.GatherMatrices.τ).loc Cert.GatherMatrices.main_arg5) = Layout.block ⟨2, ![64, 512]⟩ ⟨2, ![512, 512]⟩ 0 8 c (m' (((0 : Dev Cert.GatherMatricesRef.nD).tc : Thread Cert.GatherMatricesRef.nD Cert.GatherMatricesRef.τ).loc Cert.GatherMatricesRef.main_arg5))
      ∧ m ((c.tc : Thread Cert.GatherMatrices.nD Cert.GatherMatrices.τ).loc Cert.GatherMatrices.main_arg6) = Layout.block ⟨2, ![384, 2048]⟩ ⟨2, ![3072, 2048]⟩ 0 8 c (m' (((0 : Dev Cert.GatherMatricesRef.nD).tc : Thread Cert.GatherMatricesRef.nD Cert.GatherMatricesRef.τ).loc Cert.GatherMatricesRef.main_arg6))
      ∧ m ((c.tc : Thread Cert.GatherMatrices.nD Cert.GatherMatrices.τ).loc Cert.GatherMatrices.main_arg7) = Layout.block ⟨2, ![256, 2048]⟩ ⟨2, ![2048, 2048]⟩ 0 8 c (m' (((0 : Dev Cert.GatherMatricesRef.nD).tc : Thread Cert.GatherMatricesRef.nD Cert.GatherMatricesRef.τ).loc Cert.GatherMatricesRef.main_arg7))
      ∧ m ((c.tc : Thread Cert.GatherMatrices.nD Cert.GatherMatrices.τ).loc Cert.GatherMatrices.main_arg8) = Layout.block ⟨2, ![1376, 2048]⟩ ⟨2, ![11008, 2048]⟩ 0 8 c (m' (((0 : Dev Cert.GatherMatricesRef.nD).tc : Thread Cert.GatherMatricesRef.nD Cert.GatherMatricesRef.τ).loc Cert.GatherMatricesRef.main_arg8))
      ∧ m ((c.tc : Thread Cert.GatherMatrices.nD Cert.GatherMatrices.τ).loc Cert.GatherMatrices.main_arg9) = Layout.block ⟨2, ![688, 2048]⟩ ⟨2, ![5504, 2048]⟩ 0 8 c (m' (((0 : Dev Cert.GatherMatricesRef.nD).tc : Thread Cert.GatherMatricesRef.nD Cert.GatherMatricesRef.τ).loc Cert.GatherMatricesRef.main_arg9))
      ∧ m ((c.tc : Thread Cert.GatherMatrices.nD Cert.GatherMatrices.τ).loc Cert.GatherMatrices.main_arg10) = Layout.block ⟨2, ![64, 512]⟩ ⟨2, ![512, 512]⟩ 0 8 c (m' (((0 : Dev Cert.GatherMatricesRef.nD).tc : Thread Cert.GatherMatricesRef.nD Cert.GatherMatricesRef.τ).loc Cert.GatherMatricesRef.main_arg10))
      ∧ m ((c.tc : Thread Cert.GatherMatrices.nD Cert.GatherMatrices.τ).loc Cert.GatherMatrices.main_arg11) = Layout.block ⟨2, ![64, 512]⟩ ⟨2, ![512, 512]⟩ 0 8 c (m' (((0 : Dev Cert.GatherMatricesRef.nD).tc : Thread Cert.GatherMatricesRef.nD Cert.GatherMatricesRef.τ).loc Cert.GatherMatricesRef.main_arg11))) →
    ∃ (v0 : Buf (Elt Bits) (((0 : Dev Cert.GatherMatricesRef.nD).tc : Thread Cert.GatherMatricesRef.nD Cert.GatherMatricesRef.τ).loc Cert.GatherMatricesRef.main_v0)) (v1 : Buf (Elt Bits) (((0 : Dev Cert.GatherMatricesRef.nD).tc : Thread Cert.GatherMatricesRef.nD Cert.GatherMatricesRef.τ).loc Cert.GatherMatricesRef.main_v1)) (v2 : Buf (Elt Bits) (((0 : Dev Cert.GatherMatricesRef.nD).tc : Thread Cert.GatherMatricesRef.nD Cert.GatherMatricesRef.τ).loc Cert.GatherMatricesRef.main_v2)) (v3 : Buf (Elt Bits) (((0 : Dev Cert.GatherMatricesRef.nD).tc : Thread Cert.GatherMatricesRef.nD Cert.GatherMatricesRef.τ).loc Cert.GatherMatricesRef.main_v3)) (v4 : Buf (Elt Bits) (((0 : Dev Cert.GatherMatricesRef.nD).tc : Thread Cert.GatherMatricesRef.nD Cert.GatherMatricesRef.τ).loc Cert.GatherMatricesRef.main_v4)) (v5 : Buf (Elt Bits) (((0 : Dev Cert.GatherMatricesRef.nD).tc : Thread Cert.GatherMatricesRef.nD Cert.GatherMatricesRef.τ).loc Cert.GatherMatricesRef.main_v5)) (v6 : Buf (Elt Bits) (((0 : Dev Cert.GatherMatricesRef.nD).tc : Thread Cert.GatherMatricesRef.nD Cert.GatherMatricesRef.τ).loc Cert.GatherMatricesRef.main_v6)) (v7 : Buf (Elt Bits) (((0 : Dev Cert.GatherMatricesRef.nD).tc : Thread Cert.GatherMatricesRef.nD Cert.GatherMatricesRef.τ).loc Cert.GatherMatricesRef.main_v7)) (v8 : Buf (Elt Bits) (((0 : Dev Cert.GatherMatricesRef.nD).tc : Thread Cert.GatherMatricesRef.nD Cert.GatherMatricesRef.τ).loc Cert.GatherMatricesRef.main_v8)) (v9 : Buf (Elt Bits) (((0 : Dev Cert.GatherMatricesRef.nD).tc : Thread Cert.GatherMatricesRef.nD Cert.GatherMatricesRef.τ).loc Cert.GatherMatricesRef.main_v9)) (v10 : Buf (Elt Bits) (((0 : Dev Cert.GatherMatricesRef.nD).tc : Thread Cert.GatherMatricesRef.nD Cert.GatherMatricesRef.τ).loc Cert.GatherMatricesRef.main_v10)) (v11 : Buf (Elt Bits) (((0 : Dev Cert.GatherMatricesRef.nD).tc : Thread Cert.GatherMatricesRef.nD Cert.GatherMatricesRef.τ).loc Cert.GatherMatricesRef.main_v11)),
      θ_run (Cert.GatherMatrices.defs (F := Bits)) (onTc (τ := Cert.GatherMatrices.τ) (Cert.GatherMatrices.main (F := Bits))) ⟨m, fun _ => 0, g⟩ (fun r => ∀ c : Dev Cert.GatherMatrices.nD,
          r.2.mem ((c.tc : Thread Cert.GatherMatrices.nD Cert.GatherMatrices.τ).loc Cert.GatherMatrices.main_v1_0) = v0
          ∧ r.2.mem ((c.tc : Thread Cert.GatherMatrices.nD Cert.GatherMatrices.τ).loc Cert.GatherMatrices.main_v1_1) = v1
          ∧ r.2.mem ((c.tc : Thread Cert.GatherMatrices.nD Cert.GatherMatrices.τ).loc Cert.GatherMatrices.main_v1_2) = v2
          ∧ r.2.mem ((c.tc : Thread Cert.GatherMatrices.nD Cert.GatherMatrices.τ).loc Cert.GatherMatrices.main_v1_3) = v3
          ∧ r.2.mem ((c.tc : Thread Cert.GatherMatrices.nD Cert.GatherMatrices.τ).loc Cert.GatherMatrices.main_v1_4) = v4
          ∧ r.2.mem ((c.tc : Thread Cert.GatherMatrices.nD Cert.GatherMatrices.τ).loc Cert.GatherMatrices.main_v1_5) = v5
          ∧ r.2.mem ((c.tc : Thread Cert.GatherMatrices.nD Cert.GatherMatrices.τ).loc Cert.GatherMatrices.main_v1_6) = v6
          ∧ r.2.mem ((c.tc : Thread Cert.GatherMatrices.nD Cert.GatherMatrices.τ).loc Cert.GatherMatrices.main_v1_7) = v7
          ∧ r.2.mem ((c.tc : Thread Cert.GatherMatrices.nD Cert.GatherMatrices.τ).loc Cert.GatherMatrices.main_v1_8) = v8
          ∧ r.2.mem ((c.tc : Thread Cert.GatherMatrices.nD Cert.GatherMatrices.τ).loc Cert.GatherMatrices.main_v1_9) = v9
          ∧ r.2.mem ((c.tc : Thread Cert.GatherMatrices.nD Cert.GatherMatrices.τ).loc Cert.GatherMatrices.main_v1_10) = v10
          ∧ r.2.mem ((c.tc : Thread Cert.GatherMatrices.nD Cert.GatherMatrices.τ).loc Cert.GatherMatrices.main_v1_11) = v11
          ∧ r.2.mem ((c.tc : Thread Cert.GatherMatrices.nD Cert.GatherMatrices.τ).loc Cert.GatherMatrices.main_arg0) = m ((c.tc : Thread Cert.GatherMatrices.nD Cert.GatherMatrices.τ).loc Cert.GatherMatrices.main_arg0)
          ∧ r.2.mem ((c.tc : Thread Cert.GatherMatrices.nD Cert.GatherMatrices.τ).loc Cert.GatherMatrices.main_arg1) = m ((c.tc : Thread Cert.GatherMatrices.nD Cert.GatherMatrices.τ).loc Cert.GatherMatrices.main_arg1)
          ∧ r.2.mem ((c.tc : Thread Cert.GatherMatrices.nD Cert.GatherMatrices.τ).loc Cert.GatherMatrices.main_arg2) = m ((c.tc : Thread Cert.GatherMatrices.nD Cert.GatherMatrices.τ).loc Cert.GatherMatrices.main_arg2)
          ∧ r.2.mem ((c.tc : Thread Cert.GatherMatrices.nD Cert.GatherMatrices.τ).loc Cert.GatherMatrices.main_arg3) = m ((c.tc : Thread Cert.GatherMatrices.nD Cert.GatherMatrices.τ).loc Cert.GatherMatrices.main_arg3)
          ∧ r.2.mem ((c.tc : Thread Cert.GatherMatrices.nD Cert.GatherMatrices.τ).loc Cert.GatherMatrices.main_arg4) = m ((c.tc : Thread Cert.GatherMatrices.nD Cert.GatherMatrices.τ).loc Cert.GatherMatrices.main_arg4)
          ∧ r.2.mem ((c.tc : Thread Cert.GatherMatrices.nD Cert.GatherMatrices.τ).loc Cert.GatherMatrices.main_arg5) = m ((c.tc : Thread Cert.GatherMatrices.nD Cert.GatherMatrices.τ).loc Cert.GatherMatrices.main_arg5)
          ∧ r.2.mem ((c.tc : Thread Cert.GatherMatrices.nD Cert.GatherMatrices.τ).loc Cert.GatherMatrices.main_arg6) = m ((c.tc : Thread Cert.GatherMatrices.nD Cert.GatherMatrices.τ).loc Cert.GatherMatrices.main_arg6)
          ∧ r.2.mem ((c.tc : Thread Cert.GatherMatrices.nD Cert.GatherMatrices.τ).loc Cert.GatherMatrices.main_arg7) = m ((c.tc : Thread Cert.GatherMatrices.nD Cert.GatherMatrices.τ).loc Cert.GatherMatrices.main_arg7)
          ∧ r.2.mem ((c.tc : Thread Cert.GatherMatrices.nD Cert.GatherMatrices.τ).loc Cert.GatherMatrices.main_arg8) = m ((c.tc : Thread Cert.GatherMatrices.nD Cert.GatherMatrices.τ).loc Cert.GatherMatrices.main_arg8)
          ∧ r.2.mem ((c.tc : Thread Cert.GatherMatrices.nD Cert.GatherMatrices.τ).loc Cert.GatherMatrices.main_arg9) = m ((c.tc : Thread Cert.GatherMatrices.nD Cert.GatherMatrices.τ).loc Cert.GatherMatrices.main_arg9)
          ∧ r.2.mem ((c.tc : Thread Cert.GatherMatrices.nD Cert.GatherMatrices.τ).loc Cert.GatherMatrices.main_arg10) = m ((c.tc : Thread Cert.GatherMatrices.nD Cert.GatherMatrices.τ).loc Cert.GatherMatrices.main_arg10)
          ∧ r.2.mem ((c.tc : Thread Cert.GatherMatrices.nD Cert.GatherMatrices.τ).loc Cert.GatherMatrices.main_arg11) = m ((c.tc : Thread Cert.GatherMatrices.nD Cert.GatherMatrices.τ).loc Cert.GatherMatrices.main_arg11))
      ∧ θ_run (Cert.GatherMatricesRef.defs (F := Bits)) (onTc (τ := Cert.GatherMatricesRef.τ) (Cert.GatherMatricesRef.main (F := Bits))) ⟨m', fun _ => 0, g'⟩ (fun r =>
          r.2.mem (((0 : Dev Cert.GatherMatricesRef.nD).tc : Thread Cert.GatherMatricesRef.nD Cert.GatherMatricesRef.τ).loc Cert.GatherMatricesRef.main_v0) = v0
          ∧ r.2.mem (((0 : Dev Cert.GatherMatricesRef.nD).tc : Thread Cert.GatherMatricesRef.nD Cert.GatherMatricesRef.τ).loc Cert.GatherMatricesRef.main_v1) = v1
          ∧ r.2.mem (((0 : Dev Cert.GatherMatricesRef.nD).tc : Thread Cert.GatherMatricesRef.nD Cert.GatherMatricesRef.τ).loc Cert.GatherMatricesRef.main_v2) = v2
          ∧ r.2.mem (((0 : Dev Cert.GatherMatricesRef.nD).tc : Thread Cert.GatherMatricesRef.nD Cert.GatherMatricesRef.τ).loc Cert.GatherMatricesRef.main_v3) = v3
          ∧ r.2.mem (((0 : Dev Cert.GatherMatricesRef.nD).tc : Thread Cert.GatherMatricesRef.nD Cert.GatherMatricesRef.τ).loc Cert.GatherMatricesRef.main_v4) = v4
          ∧ r.2.mem (((0 : Dev Cert.GatherMatricesRef.nD).tc : Thread Cert.GatherMatricesRef.nD Cert.GatherMatricesRef.τ).loc Cert.GatherMatricesRef.main_v5) = v5
          ∧ r.2.mem (((0 : Dev Cert.GatherMatricesRef.nD).tc : Thread Cert.GatherMatricesRef.nD Cert.GatherMatricesRef.τ).loc Cert.GatherMatricesRef.main_v6) = v6
          ∧ r.2.mem (((0 : Dev Cert.GatherMatricesRef.nD).tc : Thread Cert.GatherMatricesRef.nD Cert.GatherMatricesRef.τ).loc Cert.GatherMatricesRef.main_v7) = v7
          ∧ r.2.mem (((0 : Dev Cert.GatherMatricesRef.nD).tc : Thread Cert.GatherMatricesRef.nD Cert.GatherMatricesRef.τ).loc Cert.GatherMatricesRef.main_v8) = v8
          ∧ r.2.mem (((0 : Dev Cert.GatherMatricesRef.nD).tc : Thread Cert.GatherMatricesRef.nD Cert.GatherMatricesRef.τ).loc Cert.GatherMatricesRef.main_v9) = v9
          ∧ r.2.mem (((0 : Dev Cert.GatherMatricesRef.nD).tc : Thread Cert.GatherMatricesRef.nD Cert.GatherMatricesRef.τ).loc Cert.GatherMatricesRef.main_v10) = v10
          ∧ r.2.mem (((0 : Dev Cert.GatherMatricesRef.nD).tc : Thread Cert.GatherMatricesRef.nD Cert.GatherMatricesRef.τ).loc Cert.GatherMatricesRef.main_v11) = v11
          ∧ r.2.mem (((0 : Dev Cert.GatherMatricesRef.nD).tc : Thread Cert.GatherMatricesRef.nD Cert.GatherMatricesRef.τ).loc Cert.GatherMatricesRef.main_arg0) = m' (((0 : Dev Cert.GatherMatricesRef.nD).tc : Thread Cert.GatherMatricesRef.nD Cert.GatherMatricesRef.τ).loc Cert.GatherMatricesRef.main_arg0)
          ∧ r.2.mem (((0 : Dev Cert.GatherMatricesRef.nD).tc : Thread Cert.GatherMatricesRef.nD Cert.GatherMatricesRef.τ).loc Cert.GatherMatricesRef.main_arg1) = m' (((0 : Dev Cert.GatherMatricesRef.nD).tc : Thread Cert.GatherMatricesRef.nD Cert.GatherMatricesRef.τ).loc Cert.GatherMatricesRef.main_arg1)
          ∧ r.2.mem (((0 : Dev Cert.GatherMatricesRef.nD).tc : Thread Cert.GatherMatricesRef.nD Cert.GatherMatricesRef.τ).loc Cert.GatherMatricesRef.main_arg2) = m' (((0 : Dev Cert.GatherMatricesRef.nD).tc : Thread Cert.GatherMatricesRef.nD Cert.GatherMatricesRef.τ).loc Cert.GatherMatricesRef.main_arg2)
          ∧ r.2.mem (((0 : Dev Cert.GatherMatricesRef.nD).tc : Thread Cert.GatherMatricesRef.nD Cert.GatherMatricesRef.τ).loc Cert.GatherMatricesRef.main_arg3) = m' (((0 : Dev Cert.GatherMatricesRef.nD).tc : Thread Cert.GatherMatricesRef.nD Cert.GatherMatricesRef.τ).loc Cert.GatherMatricesRef.main_arg3)
          ∧ r.2.mem (((0 : Dev Cert.GatherMatricesRef.nD).tc : Thread Cert.GatherMatricesRef.nD Cert.GatherMatricesRef.τ).loc Cert.GatherMatricesRef.main_arg4) = m' (((0 : Dev Cert.GatherMatricesRef.nD).tc : Thread Cert.GatherMatricesRef.nD Cert.GatherMatricesRef.τ).loc Cert.GatherMatricesRef.main_arg4)
          ∧ r.2.mem (((0 : Dev Cert.GatherMatricesRef.nD).tc : Thread Cert.GatherMatricesRef.nD Cert.GatherMatricesRef.τ).loc Cert.GatherMatricesRef.main_arg5) = m' (((0 : Dev Cert.GatherMatricesRef.nD).tc : Thread Cert.GatherMatricesRef.nD Cert.GatherMatricesRef.τ).loc Cert.GatherMatricesRef.main_arg5)
          ∧ r.2.mem (((0 : Dev Cert.GatherMatricesRef.nD).tc : Thread Cert.GatherMatricesRef.nD Cert.GatherMatricesRef.τ).loc Cert.GatherMatricesRef.main_arg6) = m' (((0 : Dev Cert.GatherMatricesRef.nD).tc : Thread Cert.GatherMatricesRef.nD Cert.GatherMatricesRef.τ).loc Cert.GatherMatricesRef.main_arg6)
          ∧ r.2.mem (((0 : Dev Cert.GatherMatricesRef.nD).tc : Thread Cert.GatherMatricesRef.nD Cert.GatherMatricesRef.τ).loc Cert.GatherMatricesRef.main_arg7) = m' (((0 : Dev Cert.GatherMatricesRef.nD).tc : Thread Cert.GatherMatricesRef.nD Cert.GatherMatricesRef.τ).loc Cert.GatherMatricesRef.main_arg7)
          ∧ r.2.mem (((0 : Dev Cert.GatherMatricesRef.nD).tc : Thread Cert.GatherMatricesRef.nD Cert.GatherMatricesRef.τ).loc Cert.GatherMatricesRef.main_arg8) = m' (((0 : Dev Cert.GatherMatricesRef.nD).tc : Thread Cert.GatherMatricesRef.nD Cert.GatherMatricesRef.τ).loc Cert.GatherMatricesRef.main_arg8)
          ∧ r.2.mem (((0 : Dev Cert.GatherMatricesRef.nD).tc : Thread Cert.GatherMatricesRef.nD Cert.GatherMatricesRef.τ).loc Cert.GatherMatricesRef.main_arg9) = m' (((0 : Dev Cert.GatherMatricesRef.nD).tc : Thread Cert.GatherMatricesRef.nD Cert.GatherMatricesRef.τ).loc Cert.GatherMatricesRef.main_arg9)
          ∧ r.2.mem (((0 : Dev Cert.GatherMatricesRef.nD).tc : Thread Cert.GatherMatricesRef.nD Cert.GatherMatricesRef.τ).loc Cert.GatherMatricesRef.main_arg10) = m' (((0 : Dev Cert.GatherMatricesRef.nD).tc : Thread Cert.GatherMatricesRef.nD Cert.GatherMatricesRef.τ).loc Cert.GatherMatricesRef.main_arg10)
          ∧ r.2.mem (((0 : Dev Cert.GatherMatricesRef.nD).tc : Thread Cert.GatherMatricesRef.nD Cert.GatherMatricesRef.τ).loc Cert.GatherMatricesRef.main_arg11) = m' (((0 : Dev Cert.GatherMatricesRef.nD).tc : Thread Cert.GatherMatricesRef.nD Cert.GatherMatricesRef.τ).loc Cert.GatherMatricesRef.main_arg11))

def preserves_ScatterGrads_ScatterGradsIdeal : Prop :=
  True

def algebraic_ScatterGradsIdeal_ScatterGradsRefIdeal [hScatterGradsIdeal : Cert.ScatterGradsIdeal.Facts] [hScatterGradsRefIdeal : Cert.ScatterGradsRefIdeal.Facts] : Prop :=
  ∀ (m : (ℓ : Loc Cert.ScatterGradsIdeal.nD Cert.ScatterGradsIdeal.τ Cert.ScatterGradsIdeal.sig) → Buf (Elt Ideal) ℓ) (g : Dev Cert.ScatterGradsIdeal.nD → PrngReg)
    (m' : (ℓ : Loc Cert.ScatterGradsRefIdeal.nD Cert.ScatterGradsRefIdeal.τ Cert.ScatterGradsRefIdeal.sig) → Buf (Elt Ideal) ℓ) (g' : Dev Cert.ScatterGradsRefIdeal.nD → PrngReg), Pre_ScatterGradsIdeal m →
    (∀ c : Dev Cert.ScatterGradsIdeal.nD,
      m ((c.tc : Thread Cert.ScatterGradsIdeal.nD Cert.ScatterGradsIdeal.τ).loc Cert.ScatterGradsIdeal.main_arg0) = Layout.block ⟨3, ![8, 384, 2048]⟩ ⟨3, ![64, 384, 2048]⟩ 0 8 c (m' (((0 : Dev Cert.ScatterGradsRefIdeal.nD).tc : Thread Cert.ScatterGradsRefIdeal.nD Cert.ScatterGradsRefIdeal.τ).loc Cert.ScatterGradsRefIdeal.main_arg0))
      ∧ m ((c.tc : Thread Cert.ScatterGradsIdeal.nD Cert.ScatterGradsIdeal.τ).loc Cert.ScatterGradsIdeal.main_arg1) = Layout.block ⟨3, ![8, 256, 2048]⟩ ⟨3, ![64, 256, 2048]⟩ 0 8 c (m' (((0 : Dev Cert.ScatterGradsRefIdeal.nD).tc : Thread Cert.ScatterGradsRefIdeal.nD Cert.ScatterGradsRefIdeal.τ).loc Cert.ScatterGradsRefIdeal.main_arg1))
      ∧ m ((c.tc : Thread Cert.ScatterGradsIdeal.nD Cert.ScatterGradsIdeal.τ).loc Cert.ScatterGradsIdeal.main_arg2) = Layout.block ⟨3, ![8, 1376, 2048]⟩ ⟨3, ![64, 1376, 2048]⟩ 0 8 c (m' (((0 : Dev Cert.ScatterGradsRefIdeal.nD).tc : Thread Cert.ScatterGradsRefIdeal.nD Cert.ScatterGradsRefIdeal.τ).loc Cert.ScatterGradsRefIdeal.main_arg2))
      ∧ m ((c.tc : Thread Cert.ScatterGradsIdeal.nD Cert.ScatterGradsIdeal.τ).loc Cert.ScatterGradsIdeal.main_arg3) = Layout.block ⟨3, ![8, 688, 2048]⟩ ⟨3, ![64, 688, 2048]⟩ 0 8 c (m' (((0 : Dev Cert.ScatterGradsRefIdeal.nD).tc : Thread Cert.ScatterGradsRefIdeal.nD Cert.ScatterGradsRefIdeal.τ).loc Cert.ScatterGradsRefIdeal.main_arg3))
      ∧ m ((c.tc : Thread Cert.ScatterGradsIdeal.nD Cert.ScatterGradsIdeal.τ).loc Cert.ScatterGradsIdeal.main_arg4) = Layout.block ⟨3, ![8, 64, 512]⟩ ⟨3, ![64, 64, 512]⟩ 0 8 c (m' (((0 : Dev Cert.ScatterGradsRefIdeal.nD).tc : Thread Cert.ScatterGradsRefIdeal.nD Cert.ScatterGradsRefIdeal.τ).loc Cert.ScatterGradsRefIdeal.main_arg4))
      ∧ m ((c.tc : Thread Cert.ScatterGradsIdeal.nD Cert.ScatterGradsIdeal.τ).loc Cert.ScatterGradsIdeal.main_arg5) = Layout.block ⟨3, ![8, 64, 512]⟩ ⟨3, ![64, 64, 512]⟩ 0 8 c (m' (((0 : Dev Cert.ScatterGradsRefIdeal.nD).tc : Thread Cert.ScatterGradsRefIdeal.nD Cert.ScatterGradsRefIdeal.τ).loc Cert.ScatterGradsRefIdeal.main_arg5))
      ∧ m ((c.tc : Thread Cert.ScatterGradsIdeal.nD Cert.ScatterGradsIdeal.τ).loc Cert.ScatterGradsIdeal.main_arg6) = Layout.block ⟨3, ![8, 384, 2048]⟩ ⟨3, ![64, 384, 2048]⟩ 0 8 c (m' (((0 : Dev Cert.ScatterGradsRefIdeal.nD).tc : Thread Cert.ScatterGradsRefIdeal.nD Cert.ScatterGradsRefIdeal.τ).loc Cert.ScatterGradsRefIdeal.main_arg6))
      ∧ m ((c.tc : Thread Cert.ScatterGradsIdeal.nD Cert.ScatterGradsIdeal.τ).loc Cert.ScatterGradsIdeal.main_arg7) = Layout.block ⟨3, ![8, 256, 2048]⟩ ⟨3, ![64, 256, 2048]⟩ 0 8 c (m' (((0 : Dev Cert.ScatterGradsRefIdeal.nD).tc : Thread Cert.ScatterGradsRefIdeal.nD Cert.ScatterGradsRefIdeal.τ).loc Cert.ScatterGradsRefIdeal.main_arg7))
      ∧ m ((c.tc : Thread Cert.ScatterGradsIdeal.nD Cert.ScatterGradsIdeal.τ).loc Cert.ScatterGradsIdeal.main_arg8) = Layout.block ⟨3, ![8, 1376, 2048]⟩ ⟨3, ![64, 1376, 2048]⟩ 0 8 c (m' (((0 : Dev Cert.ScatterGradsRefIdeal.nD).tc : Thread Cert.ScatterGradsRefIdeal.nD Cert.ScatterGradsRefIdeal.τ).loc Cert.ScatterGradsRefIdeal.main_arg8))
      ∧ m ((c.tc : Thread Cert.ScatterGradsIdeal.nD Cert.ScatterGradsIdeal.τ).loc Cert.ScatterGradsIdeal.main_arg9) = Layout.block ⟨3, ![8, 688, 2048]⟩ ⟨3, ![64, 688, 2048]⟩ 0 8 c (m' (((0 : Dev Cert.ScatterGradsRefIdeal.nD).tc : Thread Cert.ScatterGradsRefIdeal.nD Cert.ScatterGradsRefIdeal.τ).loc Cert.ScatterGradsRefIdeal.main_arg9))
      ∧ m ((c.tc : Thread Cert.ScatterGradsIdeal.nD Cert.ScatterGradsIdeal.τ).loc Cert.ScatterGradsIdeal.main_arg10) = Layout.block ⟨3, ![8, 64, 512]⟩ ⟨3, ![64, 64, 512]⟩ 0 8 c (m' (((0 : Dev Cert.ScatterGradsRefIdeal.nD).tc : Thread Cert.ScatterGradsRefIdeal.nD Cert.ScatterGradsRefIdeal.τ).loc Cert.ScatterGradsRefIdeal.main_arg10))
      ∧ m ((c.tc : Thread Cert.ScatterGradsIdeal.nD Cert.ScatterGradsIdeal.τ).loc Cert.ScatterGradsIdeal.main_arg11) = Layout.block ⟨3, ![8, 64, 512]⟩ ⟨3, ![64, 64, 512]⟩ 0 8 c (m' (((0 : Dev Cert.ScatterGradsRefIdeal.nD).tc : Thread Cert.ScatterGradsRefIdeal.nD Cert.ScatterGradsRefIdeal.τ).loc Cert.ScatterGradsRefIdeal.main_arg11))) →
    ∃ (v0 : Buf (Elt Ideal) (((0 : Dev Cert.ScatterGradsRefIdeal.nD).tc : Thread Cert.ScatterGradsRefIdeal.nD Cert.ScatterGradsRefIdeal.τ).loc Cert.ScatterGradsRefIdeal.main_v2)) (v1 : Buf (Elt Ideal) (((0 : Dev Cert.ScatterGradsRefIdeal.nD).tc : Thread Cert.ScatterGradsRefIdeal.nD Cert.ScatterGradsRefIdeal.τ).loc Cert.ScatterGradsRefIdeal.main_v5)) (v2 : Buf (Elt Ideal) (((0 : Dev Cert.ScatterGradsRefIdeal.nD).tc : Thread Cert.ScatterGradsRefIdeal.nD Cert.ScatterGradsRefIdeal.τ).loc Cert.ScatterGradsRefIdeal.main_v8)) (v3 : Buf (Elt Ideal) (((0 : Dev Cert.ScatterGradsRefIdeal.nD).tc : Thread Cert.ScatterGradsRefIdeal.nD Cert.ScatterGradsRefIdeal.τ).loc Cert.ScatterGradsRefIdeal.main_v11)) (v4 : Buf (Elt Ideal) (((0 : Dev Cert.ScatterGradsRefIdeal.nD).tc : Thread Cert.ScatterGradsRefIdeal.nD Cert.ScatterGradsRefIdeal.τ).loc Cert.ScatterGradsRefIdeal.main_v14)) (v5 : Buf (Elt Ideal) (((0 : Dev Cert.ScatterGradsRefIdeal.nD).tc : Thread Cert.ScatterGradsRefIdeal.nD Cert.ScatterGradsRefIdeal.τ).loc Cert.ScatterGradsRefIdeal.main_v17)) (v6 : Buf (Elt Ideal) (((0 : Dev Cert.ScatterGradsRefIdeal.nD).tc : Thread Cert.ScatterGradsRefIdeal.nD Cert.ScatterGradsRefIdeal.τ).loc Cert.ScatterGradsRefIdeal.main_v20)) (v7 : Buf (Elt Ideal) (((0 : Dev Cert.ScatterGradsRefIdeal.nD).tc : Thread Cert.ScatterGradsRefIdeal.nD Cert.ScatterGradsRefIdeal.τ).loc Cert.ScatterGradsRefIdeal.main_v23)) (v8 : Buf (Elt Ideal) (((0 : Dev Cert.ScatterGradsRefIdeal.nD).tc : Thread Cert.ScatterGradsRefIdeal.nD Cert.ScatterGradsRefIdeal.τ).loc Cert.ScatterGradsRefIdeal.main_v26)) (v9 : Buf (Elt Ideal) (((0 : Dev Cert.ScatterGradsRefIdeal.nD).tc : Thread Cert.ScatterGradsRefIdeal.nD Cert.ScatterGradsRefIdeal.τ).loc Cert.ScatterGradsRefIdeal.main_v29)) (v10 : Buf (Elt Ideal) (((0 : Dev Cert.ScatterGradsRefIdeal.nD).tc : Thread Cert.ScatterGradsRefIdeal.nD Cert.ScatterGradsRefIdeal.τ).loc Cert.ScatterGradsRefIdeal.main_v32)) (v11 : Buf (Elt Ideal) (((0 : Dev Cert.ScatterGradsRefIdeal.nD).tc : Thread Cert.ScatterGradsRefIdeal.nD Cert.ScatterGradsRefIdeal.τ).loc Cert.ScatterGradsRefIdeal.main_v35)),
      θ_run (Cert.ScatterGradsIdeal.defs (F := Ideal)) (onTc (τ := Cert.ScatterGradsIdeal.τ) (Cert.ScatterGradsIdeal.main (F := Ideal))) ⟨m, fun _ => 0, g⟩ (fun r => ∀ c : Dev Cert.ScatterGradsIdeal.nD,
          r.2.mem ((c.tc : Thread Cert.ScatterGradsIdeal.nD Cert.ScatterGradsIdeal.τ).loc Cert.ScatterGradsIdeal.main_v1_0) = Layout.block ⟨3, ![8, 384, 2048]⟩ ⟨3, ![64, 384, 2048]⟩ 0 8 c v0
          ∧ r.2.mem ((c.tc : Thread Cert.ScatterGradsIdeal.nD Cert.ScatterGradsIdeal.τ).loc Cert.ScatterGradsIdeal.main_v1_1) = Layout.block ⟨3, ![8, 256, 2048]⟩ ⟨3, ![64, 256, 2048]⟩ 0 8 c v1
          ∧ r.2.mem ((c.tc : Thread Cert.ScatterGradsIdeal.nD Cert.ScatterGradsIdeal.τ).loc Cert.ScatterGradsIdeal.main_v1_2) = Layout.block ⟨3, ![8, 1376, 2048]⟩ ⟨3, ![64, 1376, 2048]⟩ 0 8 c v2
          ∧ r.2.mem ((c.tc : Thread Cert.ScatterGradsIdeal.nD Cert.ScatterGradsIdeal.τ).loc Cert.ScatterGradsIdeal.main_v1_3) = Layout.block ⟨3, ![8, 688, 2048]⟩ ⟨3, ![64, 688, 2048]⟩ 0 8 c v3
          ∧ r.2.mem ((c.tc : Thread Cert.ScatterGradsIdeal.nD Cert.ScatterGradsIdeal.τ).loc Cert.ScatterGradsIdeal.main_v1_4) = Layout.block ⟨3, ![8, 64, 512]⟩ ⟨3, ![64, 64, 512]⟩ 0 8 c v4
          ∧ r.2.mem ((c.tc : Thread Cert.ScatterGradsIdeal.nD Cert.ScatterGradsIdeal.τ).loc Cert.ScatterGradsIdeal.main_v1_5) = Layout.block ⟨3, ![8, 64, 512]⟩ ⟨3, ![64, 64, 512]⟩ 0 8 c v5
          ∧ r.2.mem ((c.tc : Thread Cert.ScatterGradsIdeal.nD Cert.ScatterGradsIdeal.τ).loc Cert.ScatterGradsIdeal.main_v1_6) = Layout.block ⟨3, ![8, 384, 2048]⟩ ⟨3, ![64, 384, 2048]⟩ 0 8 c v6
          ∧ r.2.mem ((c.tc : Thread Cert.ScatterGradsIdeal.nD Cert.ScatterGradsIdeal.τ).loc Cert.ScatterGradsIdeal.main_v1_7) = Layout.block ⟨3, ![8, 256, 2048]⟩ ⟨3, ![64, 256, 2048]⟩ 0 8 c v7
          ∧ r.2.mem ((c.tc : Thread Cert.ScatterGradsIdeal.nD Cert.ScatterGradsIdeal.τ).loc Cert.ScatterGradsIdeal.main_v1_8) = Layout.block ⟨3, ![8, 1376, 2048]⟩ ⟨3, ![64, 1376, 2048]⟩ 0 8 c v8
          ∧ r.2.mem ((c.tc : Thread Cert.ScatterGradsIdeal.nD Cert.ScatterGradsIdeal.τ).loc Cert.ScatterGradsIdeal.main_v1_9) = Layout.block ⟨3, ![8, 688, 2048]⟩ ⟨3, ![64, 688, 2048]⟩ 0 8 c v9
          ∧ r.2.mem ((c.tc : Thread Cert.ScatterGradsIdeal.nD Cert.ScatterGradsIdeal.τ).loc Cert.ScatterGradsIdeal.main_v1_10) = Layout.block ⟨3, ![8, 64, 512]⟩ ⟨3, ![64, 64, 512]⟩ 0 8 c v10
          ∧ r.2.mem ((c.tc : Thread Cert.ScatterGradsIdeal.nD Cert.ScatterGradsIdeal.τ).loc Cert.ScatterGradsIdeal.main_v1_11) = Layout.block ⟨3, ![8, 64, 512]⟩ ⟨3, ![64, 64, 512]⟩ 0 8 c v11
          ∧ r.2.mem ((c.tc : Thread Cert.ScatterGradsIdeal.nD Cert.ScatterGradsIdeal.τ).loc Cert.ScatterGradsIdeal.main_arg0) = m ((c.tc : Thread Cert.ScatterGradsIdeal.nD Cert.ScatterGradsIdeal.τ).loc Cert.ScatterGradsIdeal.main_arg0)
          ∧ r.2.mem ((c.tc : Thread Cert.ScatterGradsIdeal.nD Cert.ScatterGradsIdeal.τ).loc Cert.ScatterGradsIdeal.main_arg1) = m ((c.tc : Thread Cert.ScatterGradsIdeal.nD Cert.ScatterGradsIdeal.τ).loc Cert.ScatterGradsIdeal.main_arg1)
          ∧ r.2.mem ((c.tc : Thread Cert.ScatterGradsIdeal.nD Cert.ScatterGradsIdeal.τ).loc Cert.ScatterGradsIdeal.main_arg2) = m ((c.tc : Thread Cert.ScatterGradsIdeal.nD Cert.ScatterGradsIdeal.τ).loc Cert.ScatterGradsIdeal.main_arg2)
          ∧ r.2.mem ((c.tc : Thread Cert.ScatterGradsIdeal.nD Cert.ScatterGradsIdeal.τ).loc Cert.ScatterGradsIdeal.main_arg3) = m ((c.tc : Thread Cert.ScatterGradsIdeal.nD Cert.ScatterGradsIdeal.τ).loc Cert.ScatterGradsIdeal.main_arg3)
          ∧ r.2.mem ((c.tc : Thread Cert.ScatterGradsIdeal.nD Cert.ScatterGradsIdeal.τ).loc Cert.ScatterGradsIdeal.main_arg4) = m ((c.tc : Thread Cert.ScatterGradsIdeal.nD Cert.ScatterGradsIdeal.τ).loc Cert.ScatterGradsIdeal.main_arg4)
          ∧ r.2.mem ((c.tc : Thread Cert.ScatterGradsIdeal.nD Cert.ScatterGradsIdeal.τ).loc Cert.ScatterGradsIdeal.main_arg5) = m ((c.tc : Thread Cert.ScatterGradsIdeal.nD Cert.ScatterGradsIdeal.τ).loc Cert.ScatterGradsIdeal.main_arg5)
          ∧ r.2.mem ((c.tc : Thread Cert.ScatterGradsIdeal.nD Cert.ScatterGradsIdeal.τ).loc Cert.ScatterGradsIdeal.main_arg6) = m ((c.tc : Thread Cert.ScatterGradsIdeal.nD Cert.ScatterGradsIdeal.τ).loc Cert.ScatterGradsIdeal.main_arg6)
          ∧ r.2.mem ((c.tc : Thread Cert.ScatterGradsIdeal.nD Cert.ScatterGradsIdeal.τ).loc Cert.ScatterGradsIdeal.main_arg7) = m ((c.tc : Thread Cert.ScatterGradsIdeal.nD Cert.ScatterGradsIdeal.τ).loc Cert.ScatterGradsIdeal.main_arg7)
          ∧ r.2.mem ((c.tc : Thread Cert.ScatterGradsIdeal.nD Cert.ScatterGradsIdeal.τ).loc Cert.ScatterGradsIdeal.main_arg8) = m ((c.tc : Thread Cert.ScatterGradsIdeal.nD Cert.ScatterGradsIdeal.τ).loc Cert.ScatterGradsIdeal.main_arg8)
          ∧ r.2.mem ((c.tc : Thread Cert.ScatterGradsIdeal.nD Cert.ScatterGradsIdeal.τ).loc Cert.ScatterGradsIdeal.main_arg9) = m ((c.tc : Thread Cert.ScatterGradsIdeal.nD Cert.ScatterGradsIdeal.τ).loc Cert.ScatterGradsIdeal.main_arg9)
          ∧ r.2.mem ((c.tc : Thread Cert.ScatterGradsIdeal.nD Cert.ScatterGradsIdeal.τ).loc Cert.ScatterGradsIdeal.main_arg10) = m ((c.tc : Thread Cert.ScatterGradsIdeal.nD Cert.ScatterGradsIdeal.τ).loc Cert.ScatterGradsIdeal.main_arg10)
          ∧ r.2.mem ((c.tc : Thread Cert.ScatterGradsIdeal.nD Cert.ScatterGradsIdeal.τ).loc Cert.ScatterGradsIdeal.main_arg11) = m ((c.tc : Thread Cert.ScatterGradsIdeal.nD Cert.ScatterGradsIdeal.τ).loc Cert.ScatterGradsIdeal.main_arg11))
      ∧ θ_run (Cert.ScatterGradsRefIdeal.defs (F := Ideal)) (onTc (τ := Cert.ScatterGradsRefIdeal.τ) (Cert.ScatterGradsRefIdeal.main (F := Ideal))) ⟨m', fun _ => 0, g'⟩ (fun r =>
          r.2.mem (((0 : Dev Cert.ScatterGradsRefIdeal.nD).tc : Thread Cert.ScatterGradsRefIdeal.nD Cert.ScatterGradsRefIdeal.τ).loc Cert.ScatterGradsRefIdeal.main_v2) = v0
          ∧ r.2.mem (((0 : Dev Cert.ScatterGradsRefIdeal.nD).tc : Thread Cert.ScatterGradsRefIdeal.nD Cert.ScatterGradsRefIdeal.τ).loc Cert.ScatterGradsRefIdeal.main_v5) = v1
          ∧ r.2.mem (((0 : Dev Cert.ScatterGradsRefIdeal.nD).tc : Thread Cert.ScatterGradsRefIdeal.nD Cert.ScatterGradsRefIdeal.τ).loc Cert.ScatterGradsRefIdeal.main_v8) = v2
          ∧ r.2.mem (((0 : Dev Cert.ScatterGradsRefIdeal.nD).tc : Thread Cert.ScatterGradsRefIdeal.nD Cert.ScatterGradsRefIdeal.τ).loc Cert.ScatterGradsRefIdeal.main_v11) = v3
          ∧ r.2.mem (((0 : Dev Cert.ScatterGradsRefIdeal.nD).tc : Thread Cert.ScatterGradsRefIdeal.nD Cert.ScatterGradsRefIdeal.τ).loc Cert.ScatterGradsRefIdeal.main_v14) = v4
          ∧ r.2.mem (((0 : Dev Cert.ScatterGradsRefIdeal.nD).tc : Thread Cert.ScatterGradsRefIdeal.nD Cert.ScatterGradsRefIdeal.τ).loc Cert.ScatterGradsRefIdeal.main_v17) = v5
          ∧ r.2.mem (((0 : Dev Cert.ScatterGradsRefIdeal.nD).tc : Thread Cert.ScatterGradsRefIdeal.nD Cert.ScatterGradsRefIdeal.τ).loc Cert.ScatterGradsRefIdeal.main_v20) = v6
          ∧ r.2.mem (((0 : Dev Cert.ScatterGradsRefIdeal.nD).tc : Thread Cert.ScatterGradsRefIdeal.nD Cert.ScatterGradsRefIdeal.τ).loc Cert.ScatterGradsRefIdeal.main_v23) = v7
          ∧ r.2.mem (((0 : Dev Cert.ScatterGradsRefIdeal.nD).tc : Thread Cert.ScatterGradsRefIdeal.nD Cert.ScatterGradsRefIdeal.τ).loc Cert.ScatterGradsRefIdeal.main_v26) = v8
          ∧ r.2.mem (((0 : Dev Cert.ScatterGradsRefIdeal.nD).tc : Thread Cert.ScatterGradsRefIdeal.nD Cert.ScatterGradsRefIdeal.τ).loc Cert.ScatterGradsRefIdeal.main_v29) = v9
          ∧ r.2.mem (((0 : Dev Cert.ScatterGradsRefIdeal.nD).tc : Thread Cert.ScatterGradsRefIdeal.nD Cert.ScatterGradsRefIdeal.τ).loc Cert.ScatterGradsRefIdeal.main_v32) = v10
          ∧ r.2.mem (((0 : Dev Cert.ScatterGradsRefIdeal.nD).tc : Thread Cert.ScatterGradsRefIdeal.nD Cert.ScatterGradsRefIdeal.τ).loc Cert.ScatterGradsRefIdeal.main_v35) = v11
          ∧ r.2.mem (((0 : Dev Cert.ScatterGradsRefIdeal.nD).tc : Thread Cert.ScatterGradsRefIdeal.nD Cert.ScatterGradsRefIdeal.τ).loc Cert.ScatterGradsRefIdeal.main_arg0) = m' (((0 : Dev Cert.ScatterGradsRefIdeal.nD).tc : Thread Cert.ScatterGradsRefIdeal.nD Cert.ScatterGradsRefIdeal.τ).loc Cert.ScatterGradsRefIdeal.main_arg0)
          ∧ r.2.mem (((0 : Dev Cert.ScatterGradsRefIdeal.nD).tc : Thread Cert.ScatterGradsRefIdeal.nD Cert.ScatterGradsRefIdeal.τ).loc Cert.ScatterGradsRefIdeal.main_arg1) = m' (((0 : Dev Cert.ScatterGradsRefIdeal.nD).tc : Thread Cert.ScatterGradsRefIdeal.nD Cert.ScatterGradsRefIdeal.τ).loc Cert.ScatterGradsRefIdeal.main_arg1)
          ∧ r.2.mem (((0 : Dev Cert.ScatterGradsRefIdeal.nD).tc : Thread Cert.ScatterGradsRefIdeal.nD Cert.ScatterGradsRefIdeal.τ).loc Cert.ScatterGradsRefIdeal.main_arg2) = m' (((0 : Dev Cert.ScatterGradsRefIdeal.nD).tc : Thread Cert.ScatterGradsRefIdeal.nD Cert.ScatterGradsRefIdeal.τ).loc Cert.ScatterGradsRefIdeal.main_arg2)
          ∧ r.2.mem (((0 : Dev Cert.ScatterGradsRefIdeal.nD).tc : Thread Cert.ScatterGradsRefIdeal.nD Cert.ScatterGradsRefIdeal.τ).loc Cert.ScatterGradsRefIdeal.main_arg3) = m' (((0 : Dev Cert.ScatterGradsRefIdeal.nD).tc : Thread Cert.ScatterGradsRefIdeal.nD Cert.ScatterGradsRefIdeal.τ).loc Cert.ScatterGradsRefIdeal.main_arg3)
          ∧ r.2.mem (((0 : Dev Cert.ScatterGradsRefIdeal.nD).tc : Thread Cert.ScatterGradsRefIdeal.nD Cert.ScatterGradsRefIdeal.τ).loc Cert.ScatterGradsRefIdeal.main_arg4) = m' (((0 : Dev Cert.ScatterGradsRefIdeal.nD).tc : Thread Cert.ScatterGradsRefIdeal.nD Cert.ScatterGradsRefIdeal.τ).loc Cert.ScatterGradsRefIdeal.main_arg4)
          ∧ r.2.mem (((0 : Dev Cert.ScatterGradsRefIdeal.nD).tc : Thread Cert.ScatterGradsRefIdeal.nD Cert.ScatterGradsRefIdeal.τ).loc Cert.ScatterGradsRefIdeal.main_arg5) = m' (((0 : Dev Cert.ScatterGradsRefIdeal.nD).tc : Thread Cert.ScatterGradsRefIdeal.nD Cert.ScatterGradsRefIdeal.τ).loc Cert.ScatterGradsRefIdeal.main_arg5)
          ∧ r.2.mem (((0 : Dev Cert.ScatterGradsRefIdeal.nD).tc : Thread Cert.ScatterGradsRefIdeal.nD Cert.ScatterGradsRefIdeal.τ).loc Cert.ScatterGradsRefIdeal.main_arg6) = m' (((0 : Dev Cert.ScatterGradsRefIdeal.nD).tc : Thread Cert.ScatterGradsRefIdeal.nD Cert.ScatterGradsRefIdeal.τ).loc Cert.ScatterGradsRefIdeal.main_arg6)
          ∧ r.2.mem (((0 : Dev Cert.ScatterGradsRefIdeal.nD).tc : Thread Cert.ScatterGradsRefIdeal.nD Cert.ScatterGradsRefIdeal.τ).loc Cert.ScatterGradsRefIdeal.main_arg7) = m' (((0 : Dev Cert.ScatterGradsRefIdeal.nD).tc : Thread Cert.ScatterGradsRefIdeal.nD Cert.ScatterGradsRefIdeal.τ).loc Cert.ScatterGradsRefIdeal.main_arg7)
          ∧ r.2.mem (((0 : Dev Cert.ScatterGradsRefIdeal.nD).tc : Thread Cert.ScatterGradsRefIdeal.nD Cert.ScatterGradsRefIdeal.τ).loc Cert.ScatterGradsRefIdeal.main_arg8) = m' (((0 : Dev Cert.ScatterGradsRefIdeal.nD).tc : Thread Cert.ScatterGradsRefIdeal.nD Cert.ScatterGradsRefIdeal.τ).loc Cert.ScatterGradsRefIdeal.main_arg8)
          ∧ r.2.mem (((0 : Dev Cert.ScatterGradsRefIdeal.nD).tc : Thread Cert.ScatterGradsRefIdeal.nD Cert.ScatterGradsRefIdeal.τ).loc Cert.ScatterGradsRefIdeal.main_arg9) = m' (((0 : Dev Cert.ScatterGradsRefIdeal.nD).tc : Thread Cert.ScatterGradsRefIdeal.nD Cert.ScatterGradsRefIdeal.τ).loc Cert.ScatterGradsRefIdeal.main_arg9)
          ∧ r.2.mem (((0 : Dev Cert.ScatterGradsRefIdeal.nD).tc : Thread Cert.ScatterGradsRefIdeal.nD Cert.ScatterGradsRefIdeal.τ).loc Cert.ScatterGradsRefIdeal.main_arg10) = m' (((0 : Dev Cert.ScatterGradsRefIdeal.nD).tc : Thread Cert.ScatterGradsRefIdeal.nD Cert.ScatterGradsRefIdeal.τ).loc Cert.ScatterGradsRefIdeal.main_arg10)
          ∧ r.2.mem (((0 : Dev Cert.ScatterGradsRefIdeal.nD).tc : Thread Cert.ScatterGradsRefIdeal.nD Cert.ScatterGradsRefIdeal.τ).loc Cert.ScatterGradsRefIdeal.main_arg11) = m' (((0 : Dev Cert.ScatterGradsRefIdeal.nD).tc : Thread Cert.ScatterGradsRefIdeal.nD Cert.ScatterGradsRefIdeal.τ).loc Cert.ScatterGradsRefIdeal.main_arg11))

def bitexact_ScatterGrads_ScatterGradsRef [hScatterGrads : Cert.ScatterGrads.Facts] [hScatterGradsRef : Cert.ScatterGradsRef.Facts] : Prop :=
  ∀ (m : (ℓ : Loc Cert.ScatterGrads.nD Cert.ScatterGrads.τ Cert.ScatterGrads.sig) → Buf (Elt Bits) ℓ) (g : Dev Cert.ScatterGrads.nD → PrngReg)
    (m' : (ℓ : Loc Cert.ScatterGradsRef.nD Cert.ScatterGradsRef.τ Cert.ScatterGradsRef.sig) → Buf (Elt Bits) ℓ) (g' : Dev Cert.ScatterGradsRef.nD → PrngReg), Pre_ScatterGrads m →
    (∀ c : Dev Cert.ScatterGrads.nD,
      m ((c.tc : Thread Cert.ScatterGrads.nD Cert.ScatterGrads.τ).loc Cert.ScatterGrads.main_arg0) = Layout.block ⟨3, ![8, 384, 2048]⟩ ⟨3, ![64, 384, 2048]⟩ 0 8 c (m' (((0 : Dev Cert.ScatterGradsRef.nD).tc : Thread Cert.ScatterGradsRef.nD Cert.ScatterGradsRef.τ).loc Cert.ScatterGradsRef.main_arg0))
      ∧ m ((c.tc : Thread Cert.ScatterGrads.nD Cert.ScatterGrads.τ).loc Cert.ScatterGrads.main_arg1) = Layout.block ⟨3, ![8, 256, 2048]⟩ ⟨3, ![64, 256, 2048]⟩ 0 8 c (m' (((0 : Dev Cert.ScatterGradsRef.nD).tc : Thread Cert.ScatterGradsRef.nD Cert.ScatterGradsRef.τ).loc Cert.ScatterGradsRef.main_arg1))
      ∧ m ((c.tc : Thread Cert.ScatterGrads.nD Cert.ScatterGrads.τ).loc Cert.ScatterGrads.main_arg2) = Layout.block ⟨3, ![8, 1376, 2048]⟩ ⟨3, ![64, 1376, 2048]⟩ 0 8 c (m' (((0 : Dev Cert.ScatterGradsRef.nD).tc : Thread Cert.ScatterGradsRef.nD Cert.ScatterGradsRef.τ).loc Cert.ScatterGradsRef.main_arg2))
      ∧ m ((c.tc : Thread Cert.ScatterGrads.nD Cert.ScatterGrads.τ).loc Cert.ScatterGrads.main_arg3) = Layout.block ⟨3, ![8, 688, 2048]⟩ ⟨3, ![64, 688, 2048]⟩ 0 8 c (m' (((0 : Dev Cert.ScatterGradsRef.nD).tc : Thread Cert.ScatterGradsRef.nD Cert.ScatterGradsRef.τ).loc Cert.ScatterGradsRef.main_arg3))
      ∧ m ((c.tc : Thread Cert.ScatterGrads.nD Cert.ScatterGrads.τ).loc Cert.ScatterGrads.main_arg4) = Layout.block ⟨3, ![8, 64, 512]⟩ ⟨3, ![64, 64, 512]⟩ 0 8 c (m' (((0 : Dev Cert.ScatterGradsRef.nD).tc : Thread Cert.ScatterGradsRef.nD Cert.ScatterGradsRef.τ).loc Cert.ScatterGradsRef.main_arg4))
      ∧ m ((c.tc : Thread Cert.ScatterGrads.nD Cert.ScatterGrads.τ).loc Cert.ScatterGrads.main_arg5) = Layout.block ⟨3, ![8, 64, 512]⟩ ⟨3, ![64, 64, 512]⟩ 0 8 c (m' (((0 : Dev Cert.ScatterGradsRef.nD).tc : Thread Cert.ScatterGradsRef.nD Cert.ScatterGradsRef.τ).loc Cert.ScatterGradsRef.main_arg5))
      ∧ m ((c.tc : Thread Cert.ScatterGrads.nD Cert.ScatterGrads.τ).loc Cert.ScatterGrads.main_arg6) = Layout.block ⟨3, ![8, 384, 2048]⟩ ⟨3, ![64, 384, 2048]⟩ 0 8 c (m' (((0 : Dev Cert.ScatterGradsRef.nD).tc : Thread Cert.ScatterGradsRef.nD Cert.ScatterGradsRef.τ).loc Cert.ScatterGradsRef.main_arg6))
      ∧ m ((c.tc : Thread Cert.ScatterGrads.nD Cert.ScatterGrads.τ).loc Cert.ScatterGrads.main_arg7) = Layout.block ⟨3, ![8, 256, 2048]⟩ ⟨3, ![64, 256, 2048]⟩ 0 8 c (m' (((0 : Dev Cert.ScatterGradsRef.nD).tc : Thread Cert.ScatterGradsRef.nD Cert.ScatterGradsRef.τ).loc Cert.ScatterGradsRef.main_arg7))
      ∧ m ((c.tc : Thread Cert.ScatterGrads.nD Cert.ScatterGrads.τ).loc Cert.ScatterGrads.main_arg8) = Layout.block ⟨3, ![8, 1376, 2048]⟩ ⟨3, ![64, 1376, 2048]⟩ 0 8 c (m' (((0 : Dev Cert.ScatterGradsRef.nD).tc : Thread Cert.ScatterGradsRef.nD Cert.ScatterGradsRef.τ).loc Cert.ScatterGradsRef.main_arg8))
      ∧ m ((c.tc : Thread Cert.ScatterGrads.nD Cert.ScatterGrads.τ).loc Cert.ScatterGrads.main_arg9) = Layout.block ⟨3, ![8, 688, 2048]⟩ ⟨3, ![64, 688, 2048]⟩ 0 8 c (m' (((0 : Dev Cert.ScatterGradsRef.nD).tc : Thread Cert.ScatterGradsRef.nD Cert.ScatterGradsRef.τ).loc Cert.ScatterGradsRef.main_arg9))
      ∧ m ((c.tc : Thread Cert.ScatterGrads.nD Cert.ScatterGrads.τ).loc Cert.ScatterGrads.main_arg10) = Layout.block ⟨3, ![8, 64, 512]⟩ ⟨3, ![64, 64, 512]⟩ 0 8 c (m' (((0 : Dev Cert.ScatterGradsRef.nD).tc : Thread Cert.ScatterGradsRef.nD Cert.ScatterGradsRef.τ).loc Cert.ScatterGradsRef.main_arg10))
      ∧ m ((c.tc : Thread Cert.ScatterGrads.nD Cert.ScatterGrads.τ).loc Cert.ScatterGrads.main_arg11) = Layout.block ⟨3, ![8, 64, 512]⟩ ⟨3, ![64, 64, 512]⟩ 0 8 c (m' (((0 : Dev Cert.ScatterGradsRef.nD).tc : Thread Cert.ScatterGradsRef.nD Cert.ScatterGradsRef.τ).loc Cert.ScatterGradsRef.main_arg11))) →
    ∃ (v0 : Buf (Elt Bits) (((0 : Dev Cert.ScatterGradsRef.nD).tc : Thread Cert.ScatterGradsRef.nD Cert.ScatterGradsRef.τ).loc Cert.ScatterGradsRef.main_v2)) (v1 : Buf (Elt Bits) (((0 : Dev Cert.ScatterGradsRef.nD).tc : Thread Cert.ScatterGradsRef.nD Cert.ScatterGradsRef.τ).loc Cert.ScatterGradsRef.main_v5)) (v2 : Buf (Elt Bits) (((0 : Dev Cert.ScatterGradsRef.nD).tc : Thread Cert.ScatterGradsRef.nD Cert.ScatterGradsRef.τ).loc Cert.ScatterGradsRef.main_v8)) (v3 : Buf (Elt Bits) (((0 : Dev Cert.ScatterGradsRef.nD).tc : Thread Cert.ScatterGradsRef.nD Cert.ScatterGradsRef.τ).loc Cert.ScatterGradsRef.main_v11)) (v4 : Buf (Elt Bits) (((0 : Dev Cert.ScatterGradsRef.nD).tc : Thread Cert.ScatterGradsRef.nD Cert.ScatterGradsRef.τ).loc Cert.ScatterGradsRef.main_v14)) (v5 : Buf (Elt Bits) (((0 : Dev Cert.ScatterGradsRef.nD).tc : Thread Cert.ScatterGradsRef.nD Cert.ScatterGradsRef.τ).loc Cert.ScatterGradsRef.main_v17)) (v6 : Buf (Elt Bits) (((0 : Dev Cert.ScatterGradsRef.nD).tc : Thread Cert.ScatterGradsRef.nD Cert.ScatterGradsRef.τ).loc Cert.ScatterGradsRef.main_v20)) (v7 : Buf (Elt Bits) (((0 : Dev Cert.ScatterGradsRef.nD).tc : Thread Cert.ScatterGradsRef.nD Cert.ScatterGradsRef.τ).loc Cert.ScatterGradsRef.main_v23)) (v8 : Buf (Elt Bits) (((0 : Dev Cert.ScatterGradsRef.nD).tc : Thread Cert.ScatterGradsRef.nD Cert.ScatterGradsRef.τ).loc Cert.ScatterGradsRef.main_v26)) (v9 : Buf (Elt Bits) (((0 : Dev Cert.ScatterGradsRef.nD).tc : Thread Cert.ScatterGradsRef.nD Cert.ScatterGradsRef.τ).loc Cert.ScatterGradsRef.main_v29)) (v10 : Buf (Elt Bits) (((0 : Dev Cert.ScatterGradsRef.nD).tc : Thread Cert.ScatterGradsRef.nD Cert.ScatterGradsRef.τ).loc Cert.ScatterGradsRef.main_v32)) (v11 : Buf (Elt Bits) (((0 : Dev Cert.ScatterGradsRef.nD).tc : Thread Cert.ScatterGradsRef.nD Cert.ScatterGradsRef.τ).loc Cert.ScatterGradsRef.main_v35)),
      θ_run (Cert.ScatterGrads.defs (F := Bits)) (onTc (τ := Cert.ScatterGrads.τ) (Cert.ScatterGrads.main (F := Bits))) ⟨m, fun _ => 0, g⟩ (fun r => ∀ c : Dev Cert.ScatterGrads.nD,
          r.2.mem ((c.tc : Thread Cert.ScatterGrads.nD Cert.ScatterGrads.τ).loc Cert.ScatterGrads.main_v1_0) = Layout.block ⟨3, ![8, 384, 2048]⟩ ⟨3, ![64, 384, 2048]⟩ 0 8 c v0
          ∧ r.2.mem ((c.tc : Thread Cert.ScatterGrads.nD Cert.ScatterGrads.τ).loc Cert.ScatterGrads.main_v1_1) = Layout.block ⟨3, ![8, 256, 2048]⟩ ⟨3, ![64, 256, 2048]⟩ 0 8 c v1
          ∧ r.2.mem ((c.tc : Thread Cert.ScatterGrads.nD Cert.ScatterGrads.τ).loc Cert.ScatterGrads.main_v1_2) = Layout.block ⟨3, ![8, 1376, 2048]⟩ ⟨3, ![64, 1376, 2048]⟩ 0 8 c v2
          ∧ r.2.mem ((c.tc : Thread Cert.ScatterGrads.nD Cert.ScatterGrads.τ).loc Cert.ScatterGrads.main_v1_3) = Layout.block ⟨3, ![8, 688, 2048]⟩ ⟨3, ![64, 688, 2048]⟩ 0 8 c v3
          ∧ r.2.mem ((c.tc : Thread Cert.ScatterGrads.nD Cert.ScatterGrads.τ).loc Cert.ScatterGrads.main_v1_4) = Layout.block ⟨3, ![8, 64, 512]⟩ ⟨3, ![64, 64, 512]⟩ 0 8 c v4
          ∧ r.2.mem ((c.tc : Thread Cert.ScatterGrads.nD Cert.ScatterGrads.τ).loc Cert.ScatterGrads.main_v1_5) = Layout.block ⟨3, ![8, 64, 512]⟩ ⟨3, ![64, 64, 512]⟩ 0 8 c v5
          ∧ r.2.mem ((c.tc : Thread Cert.ScatterGrads.nD Cert.ScatterGrads.τ).loc Cert.ScatterGrads.main_v1_6) = Layout.block ⟨3, ![8, 384, 2048]⟩ ⟨3, ![64, 384, 2048]⟩ 0 8 c v6
          ∧ r.2.mem ((c.tc : Thread Cert.ScatterGrads.nD Cert.ScatterGrads.τ).loc Cert.ScatterGrads.main_v1_7) = Layout.block ⟨3, ![8, 256, 2048]⟩ ⟨3, ![64, 256, 2048]⟩ 0 8 c v7
          ∧ r.2.mem ((c.tc : Thread Cert.ScatterGrads.nD Cert.ScatterGrads.τ).loc Cert.ScatterGrads.main_v1_8) = Layout.block ⟨3, ![8, 1376, 2048]⟩ ⟨3, ![64, 1376, 2048]⟩ 0 8 c v8
          ∧ r.2.mem ((c.tc : Thread Cert.ScatterGrads.nD Cert.ScatterGrads.τ).loc Cert.ScatterGrads.main_v1_9) = Layout.block ⟨3, ![8, 688, 2048]⟩ ⟨3, ![64, 688, 2048]⟩ 0 8 c v9
          ∧ r.2.mem ((c.tc : Thread Cert.ScatterGrads.nD Cert.ScatterGrads.τ).loc Cert.ScatterGrads.main_v1_10) = Layout.block ⟨3, ![8, 64, 512]⟩ ⟨3, ![64, 64, 512]⟩ 0 8 c v10
          ∧ r.2.mem ((c.tc : Thread Cert.ScatterGrads.nD Cert.ScatterGrads.τ).loc Cert.ScatterGrads.main_v1_11) = Layout.block ⟨3, ![8, 64, 512]⟩ ⟨3, ![64, 64, 512]⟩ 0 8 c v11
          ∧ r.2.mem ((c.tc : Thread Cert.ScatterGrads.nD Cert.ScatterGrads.τ).loc Cert.ScatterGrads.main_arg0) = m ((c.tc : Thread Cert.ScatterGrads.nD Cert.ScatterGrads.τ).loc Cert.ScatterGrads.main_arg0)
          ∧ r.2.mem ((c.tc : Thread Cert.ScatterGrads.nD Cert.ScatterGrads.τ).loc Cert.ScatterGrads.main_arg1) = m ((c.tc : Thread Cert.ScatterGrads.nD Cert.ScatterGrads.τ).loc Cert.ScatterGrads.main_arg1)
          ∧ r.2.mem ((c.tc : Thread Cert.ScatterGrads.nD Cert.ScatterGrads.τ).loc Cert.ScatterGrads.main_arg2) = m ((c.tc : Thread Cert.ScatterGrads.nD Cert.ScatterGrads.τ).loc Cert.ScatterGrads.main_arg2)
          ∧ r.2.mem ((c.tc : Thread Cert.ScatterGrads.nD Cert.ScatterGrads.τ).loc Cert.ScatterGrads.main_arg3) = m ((c.tc : Thread Cert.ScatterGrads.nD Cert.ScatterGrads.τ).loc Cert.ScatterGrads.main_arg3)
          ∧ r.2.mem ((c.tc : Thread Cert.ScatterGrads.nD Cert.ScatterGrads.τ).loc Cert.ScatterGrads.main_arg4) = m ((c.tc : Thread Cert.ScatterGrads.nD Cert.ScatterGrads.τ).loc Cert.ScatterGrads.main_arg4)
          ∧ r.2.mem ((c.tc : Thread Cert.ScatterGrads.nD Cert.ScatterGrads.τ).loc Cert.ScatterGrads.main_arg5) = m ((c.tc : Thread Cert.ScatterGrads.nD Cert.ScatterGrads.τ).loc Cert.ScatterGrads.main_arg5)
          ∧ r.2.mem ((c.tc : Thread Cert.ScatterGrads.nD Cert.ScatterGrads.τ).loc Cert.ScatterGrads.main_arg6) = m ((c.tc : Thread Cert.ScatterGrads.nD Cert.ScatterGrads.τ).loc Cert.ScatterGrads.main_arg6)
          ∧ r.2.mem ((c.tc : Thread Cert.ScatterGrads.nD Cert.ScatterGrads.τ).loc Cert.ScatterGrads.main_arg7) = m ((c.tc : Thread Cert.ScatterGrads.nD Cert.ScatterGrads.τ).loc Cert.ScatterGrads.main_arg7)
          ∧ r.2.mem ((c.tc : Thread Cert.ScatterGrads.nD Cert.ScatterGrads.τ).loc Cert.ScatterGrads.main_arg8) = m ((c.tc : Thread Cert.ScatterGrads.nD Cert.ScatterGrads.τ).loc Cert.ScatterGrads.main_arg8)
          ∧ r.2.mem ((c.tc : Thread Cert.ScatterGrads.nD Cert.ScatterGrads.τ).loc Cert.ScatterGrads.main_arg9) = m ((c.tc : Thread Cert.ScatterGrads.nD Cert.ScatterGrads.τ).loc Cert.ScatterGrads.main_arg9)
          ∧ r.2.mem ((c.tc : Thread Cert.ScatterGrads.nD Cert.ScatterGrads.τ).loc Cert.ScatterGrads.main_arg10) = m ((c.tc : Thread Cert.ScatterGrads.nD Cert.ScatterGrads.τ).loc Cert.ScatterGrads.main_arg10)
          ∧ r.2.mem ((c.tc : Thread Cert.ScatterGrads.nD Cert.ScatterGrads.τ).loc Cert.ScatterGrads.main_arg11) = m ((c.tc : Thread Cert.ScatterGrads.nD Cert.ScatterGrads.τ).loc Cert.ScatterGrads.main_arg11))
      ∧ θ_run (Cert.ScatterGradsRef.defs (F := Bits)) (onTc (τ := Cert.ScatterGradsRef.τ) (Cert.ScatterGradsRef.main (F := Bits))) ⟨m', fun _ => 0, g'⟩ (fun r =>
          r.2.mem (((0 : Dev Cert.ScatterGradsRef.nD).tc : Thread Cert.ScatterGradsRef.nD Cert.ScatterGradsRef.τ).loc Cert.ScatterGradsRef.main_v2) = v0
          ∧ r.2.mem (((0 : Dev Cert.ScatterGradsRef.nD).tc : Thread Cert.ScatterGradsRef.nD Cert.ScatterGradsRef.τ).loc Cert.ScatterGradsRef.main_v5) = v1
          ∧ r.2.mem (((0 : Dev Cert.ScatterGradsRef.nD).tc : Thread Cert.ScatterGradsRef.nD Cert.ScatterGradsRef.τ).loc Cert.ScatterGradsRef.main_v8) = v2
          ∧ r.2.mem (((0 : Dev Cert.ScatterGradsRef.nD).tc : Thread Cert.ScatterGradsRef.nD Cert.ScatterGradsRef.τ).loc Cert.ScatterGradsRef.main_v11) = v3
          ∧ r.2.mem (((0 : Dev Cert.ScatterGradsRef.nD).tc : Thread Cert.ScatterGradsRef.nD Cert.ScatterGradsRef.τ).loc Cert.ScatterGradsRef.main_v14) = v4
          ∧ r.2.mem (((0 : Dev Cert.ScatterGradsRef.nD).tc : Thread Cert.ScatterGradsRef.nD Cert.ScatterGradsRef.τ).loc Cert.ScatterGradsRef.main_v17) = v5
          ∧ r.2.mem (((0 : Dev Cert.ScatterGradsRef.nD).tc : Thread Cert.ScatterGradsRef.nD Cert.ScatterGradsRef.τ).loc Cert.ScatterGradsRef.main_v20) = v6
          ∧ r.2.mem (((0 : Dev Cert.ScatterGradsRef.nD).tc : Thread Cert.ScatterGradsRef.nD Cert.ScatterGradsRef.τ).loc Cert.ScatterGradsRef.main_v23) = v7
          ∧ r.2.mem (((0 : Dev Cert.ScatterGradsRef.nD).tc : Thread Cert.ScatterGradsRef.nD Cert.ScatterGradsRef.τ).loc Cert.ScatterGradsRef.main_v26) = v8
          ∧ r.2.mem (((0 : Dev Cert.ScatterGradsRef.nD).tc : Thread Cert.ScatterGradsRef.nD Cert.ScatterGradsRef.τ).loc Cert.ScatterGradsRef.main_v29) = v9
          ∧ r.2.mem (((0 : Dev Cert.ScatterGradsRef.nD).tc : Thread Cert.ScatterGradsRef.nD Cert.ScatterGradsRef.τ).loc Cert.ScatterGradsRef.main_v32) = v10
          ∧ r.2.mem (((0 : Dev Cert.ScatterGradsRef.nD).tc : Thread Cert.ScatterGradsRef.nD Cert.ScatterGradsRef.τ).loc Cert.ScatterGradsRef.main_v35) = v11
          ∧ r.2.mem (((0 : Dev Cert.ScatterGradsRef.nD).tc : Thread Cert.ScatterGradsRef.nD Cert.ScatterGradsRef.τ).loc Cert.ScatterGradsRef.main_arg0) = m' (((0 : Dev Cert.ScatterGradsRef.nD).tc : Thread Cert.ScatterGradsRef.nD Cert.ScatterGradsRef.τ).loc Cert.ScatterGradsRef.main_arg0)
          ∧ r.2.mem (((0 : Dev Cert.ScatterGradsRef.nD).tc : Thread Cert.ScatterGradsRef.nD Cert.ScatterGradsRef.τ).loc Cert.ScatterGradsRef.main_arg1) = m' (((0 : Dev Cert.ScatterGradsRef.nD).tc : Thread Cert.ScatterGradsRef.nD Cert.ScatterGradsRef.τ).loc Cert.ScatterGradsRef.main_arg1)
          ∧ r.2.mem (((0 : Dev Cert.ScatterGradsRef.nD).tc : Thread Cert.ScatterGradsRef.nD Cert.ScatterGradsRef.τ).loc Cert.ScatterGradsRef.main_arg2) = m' (((0 : Dev Cert.ScatterGradsRef.nD).tc : Thread Cert.ScatterGradsRef.nD Cert.ScatterGradsRef.τ).loc Cert.ScatterGradsRef.main_arg2)
          ∧ r.2.mem (((0 : Dev Cert.ScatterGradsRef.nD).tc : Thread Cert.ScatterGradsRef.nD Cert.ScatterGradsRef.τ).loc Cert.ScatterGradsRef.main_arg3) = m' (((0 : Dev Cert.ScatterGradsRef.nD).tc : Thread Cert.ScatterGradsRef.nD Cert.ScatterGradsRef.τ).loc Cert.ScatterGradsRef.main_arg3)
          ∧ r.2.mem (((0 : Dev Cert.ScatterGradsRef.nD).tc : Thread Cert.ScatterGradsRef.nD Cert.ScatterGradsRef.τ).loc Cert.ScatterGradsRef.main_arg4) = m' (((0 : Dev Cert.ScatterGradsRef.nD).tc : Thread Cert.ScatterGradsRef.nD Cert.ScatterGradsRef.τ).loc Cert.ScatterGradsRef.main_arg4)
          ∧ r.2.mem (((0 : Dev Cert.ScatterGradsRef.nD).tc : Thread Cert.ScatterGradsRef.nD Cert.ScatterGradsRef.τ).loc Cert.ScatterGradsRef.main_arg5) = m' (((0 : Dev Cert.ScatterGradsRef.nD).tc : Thread Cert.ScatterGradsRef.nD Cert.ScatterGradsRef.τ).loc Cert.ScatterGradsRef.main_arg5)
          ∧ r.2.mem (((0 : Dev Cert.ScatterGradsRef.nD).tc : Thread Cert.ScatterGradsRef.nD Cert.ScatterGradsRef.τ).loc Cert.ScatterGradsRef.main_arg6) = m' (((0 : Dev Cert.ScatterGradsRef.nD).tc : Thread Cert.ScatterGradsRef.nD Cert.ScatterGradsRef.τ).loc Cert.ScatterGradsRef.main_arg6)
          ∧ r.2.mem (((0 : Dev Cert.ScatterGradsRef.nD).tc : Thread Cert.ScatterGradsRef.nD Cert.ScatterGradsRef.τ).loc Cert.ScatterGradsRef.main_arg7) = m' (((0 : Dev Cert.ScatterGradsRef.nD).tc : Thread Cert.ScatterGradsRef.nD Cert.ScatterGradsRef.τ).loc Cert.ScatterGradsRef.main_arg7)
          ∧ r.2.mem (((0 : Dev Cert.ScatterGradsRef.nD).tc : Thread Cert.ScatterGradsRef.nD Cert.ScatterGradsRef.τ).loc Cert.ScatterGradsRef.main_arg8) = m' (((0 : Dev Cert.ScatterGradsRef.nD).tc : Thread Cert.ScatterGradsRef.nD Cert.ScatterGradsRef.τ).loc Cert.ScatterGradsRef.main_arg8)
          ∧ r.2.mem (((0 : Dev Cert.ScatterGradsRef.nD).tc : Thread Cert.ScatterGradsRef.nD Cert.ScatterGradsRef.τ).loc Cert.ScatterGradsRef.main_arg9) = m' (((0 : Dev Cert.ScatterGradsRef.nD).tc : Thread Cert.ScatterGradsRef.nD Cert.ScatterGradsRef.τ).loc Cert.ScatterGradsRef.main_arg9)
          ∧ r.2.mem (((0 : Dev Cert.ScatterGradsRef.nD).tc : Thread Cert.ScatterGradsRef.nD Cert.ScatterGradsRef.τ).loc Cert.ScatterGradsRef.main_arg10) = m' (((0 : Dev Cert.ScatterGradsRef.nD).tc : Thread Cert.ScatterGradsRef.nD Cert.ScatterGradsRef.τ).loc Cert.ScatterGradsRef.main_arg10)
          ∧ r.2.mem (((0 : Dev Cert.ScatterGradsRef.nD).tc : Thread Cert.ScatterGradsRef.nD Cert.ScatterGradsRef.τ).loc Cert.ScatterGradsRef.main_arg11) = m' (((0 : Dev Cert.ScatterGradsRef.nD).tc : Thread Cert.ScatterGradsRef.nD Cert.ScatterGradsRef.τ).loc Cert.ScatterGradsRef.main_arg11))

def preserves_GatherSmall_GatherSmallIdeal : Prop :=
  True

def algebraic_GatherSmallIdeal_GatherSmallRefIdeal [hGatherSmallIdeal : Cert.GatherSmallIdeal.Facts] [hGatherSmallRefIdeal : Cert.GatherSmallRefIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.GatherSmallRefIdeal.nD Cert.GatherSmallRefIdeal.τ Cert.GatherSmallRefIdeal.sig) → Buf (Elt Ideal) ℓ) (g' : Dev Cert.GatherSmallRefIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.block ⟨2, ![4960, 128]⟩ ⟨2, ![39680, 128]⟩ 0 8 c (m' (((0 : Dev Cert.GatherSmallRefIdeal.nD).tc : Thread Cert.GatherSmallRefIdeal.nD Cert.GatherSmallRefIdeal.τ).loc Cert.GatherSmallRefIdeal.main_arg0))) →
    ∃ (v0 : Buf (Elt Ideal) (((0 : Dev Cert.GatherSmallRefIdeal.nD).tc : Thread Cert.GatherSmallRefIdeal.nD Cert.GatherSmallRefIdeal.τ).loc Cert.GatherSmallRefIdeal.main_v0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.GatherSmallRefIdeal.defs (F := Ideal)) (onTc (τ := Cert.GatherSmallRefIdeal.τ) (Cert.GatherSmallRefIdeal.main (F := Ideal))) ⟨m', fun _ => 0, g'⟩ (fun r =>
          r.2.mem (((0 : Dev Cert.GatherSmallRefIdeal.nD).tc : Thread Cert.GatherSmallRefIdeal.nD Cert.GatherSmallRefIdeal.τ).loc Cert.GatherSmallRefIdeal.main_v0) = v0
          ∧ r.2.mem (((0 : Dev Cert.GatherSmallRefIdeal.nD).tc : Thread Cert.GatherSmallRefIdeal.nD Cert.GatherSmallRefIdeal.τ).loc Cert.GatherSmallRefIdeal.main_arg0) = m' (((0 : Dev Cert.GatherSmallRefIdeal.nD).tc : Thread Cert.GatherSmallRefIdeal.nD Cert.GatherSmallRefIdeal.τ).loc Cert.GatherSmallRefIdeal.main_arg0))

def bitexact_GatherSmall_GatherSmallRef [hGatherSmall : Cert.GatherSmall.Facts] [hGatherSmallRef : Cert.GatherSmallRef.Facts] : Prop :=
  ∀ (m : (ℓ : Loc Cert.GatherSmall.nD Cert.GatherSmall.τ Cert.GatherSmall.sig) → Buf (Elt Bits) ℓ) (g : Dev Cert.GatherSmall.nD → PrngReg)
    (m' : (ℓ : Loc Cert.GatherSmallRef.nD Cert.GatherSmallRef.τ Cert.GatherSmallRef.sig) → Buf (Elt Bits) ℓ) (g' : Dev Cert.GatherSmallRef.nD → PrngReg), Pre_GatherSmall m →
    (∀ c : Dev Cert.GatherSmall.nD,
      m ((c.tc : Thread Cert.GatherSmall.nD Cert.GatherSmall.τ).loc Cert.GatherSmall.main_arg0) = Layout.block ⟨2, ![4960, 128]⟩ ⟨2, ![39680, 128]⟩ 0 8 c (m' (((0 : Dev Cert.GatherSmallRef.nD).tc : Thread Cert.GatherSmallRef.nD Cert.GatherSmallRef.τ).loc Cert.GatherSmallRef.main_arg0))) →
    ∃ (v0 : Buf (Elt Bits) (((0 : Dev Cert.GatherSmallRef.nD).tc : Thread Cert.GatherSmallRef.nD Cert.GatherSmallRef.τ).loc Cert.GatherSmallRef.main_v0)),
      θ_run (Cert.GatherSmall.defs (F := Bits)) (onTc (τ := Cert.GatherSmall.τ) (Cert.GatherSmall.main (F := Bits))) ⟨m, fun _ => 0, g⟩ (fun r => ∀ c : Dev Cert.GatherSmall.nD,
          r.2.mem ((c.tc : Thread Cert.GatherSmall.nD Cert.GatherSmall.τ).loc Cert.GatherSmall.main_v1) = v0
          ∧ r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ θ_run (Cert.GatherSmallRef.defs (F := Bits)) (onTc (τ := Cert.GatherSmallRef.τ) (Cert.GatherSmallRef.main (F := Bits))) ⟨m', fun _ => 0, g'⟩ (fun r =>
          r.2.mem (((0 : Dev Cert.GatherSmallRef.nD).tc : Thread Cert.GatherSmallRef.nD Cert.GatherSmallRef.τ).loc Cert.GatherSmallRef.main_v0) = v0
          ∧ r.2.mem (((0 : Dev Cert.GatherSmallRef.nD).tc : Thread Cert.GatherSmallRef.nD Cert.GatherSmallRef.τ).loc Cert.GatherSmallRef.main_arg0) = m' (((0 : Dev Cert.GatherSmallRef.nD).tc : Thread Cert.GatherSmallRef.nD Cert.GatherSmallRef.τ).loc Cert.GatherSmallRef.main_arg0))

def preserves_GatherTaps_GatherTapsIdeal : Prop :=
  True

def algebraic_GatherTapsIdeal_GatherTapsRefIdeal [hGatherTapsIdeal : Cert.GatherTapsIdeal.Facts] [hGatherTapsRefIdeal : Cert.GatherTapsRefIdeal.Facts] : Prop :=
  ∀ (m : (ℓ : Loc Cert.GatherTapsIdeal.nD Cert.GatherTapsIdeal.τ Cert.GatherTapsIdeal.sig) → Buf (Elt Ideal) ℓ) (g : Dev Cert.GatherTapsIdeal.nD → PrngReg)
    (m' : (ℓ : Loc Cert.GatherTapsRefIdeal.nD Cert.GatherTapsRefIdeal.τ Cert.GatherTapsRefIdeal.sig) → Buf (Elt Ideal) ℓ) (g' : Dev Cert.GatherTapsRefIdeal.nD → PrngReg), Pre_GatherTapsIdeal m →
    (∀ c : Dev Cert.GatherTapsIdeal.nD,
      m ((c.tc : Thread Cert.GatherTapsIdeal.nD Cert.GatherTapsIdeal.τ).loc Cert.GatherTapsIdeal.main_arg0) = Layout.block ⟨2, ![72, 128]⟩ ⟨2, ![576, 128]⟩ 0 8 c (m' (((0 : Dev Cert.GatherTapsRefIdeal.nD).tc : Thread Cert.GatherTapsRefIdeal.nD Cert.GatherTapsRefIdeal.τ).loc Cert.GatherTapsRefIdeal.main_arg0))) →
    ∃ (v0 : Buf (Elt Ideal) (((0 : Dev Cert.GatherTapsRefIdeal.nD).tc : Thread Cert.GatherTapsRefIdeal.nD Cert.GatherTapsRefIdeal.τ).loc Cert.GatherTapsRefIdeal.main_v0)),
      θ_run (Cert.GatherTapsIdeal.defs (F := Ideal)) (onTc (τ := Cert.GatherTapsIdeal.τ) (Cert.GatherTapsIdeal.main (F := Ideal))) ⟨m, fun _ => 0, g⟩ (fun r => ∀ c : Dev Cert.GatherTapsIdeal.nD,
          r.2.mem ((c.tc : Thread Cert.GatherTapsIdeal.nD Cert.GatherTapsIdeal.τ).loc Cert.GatherTapsIdeal.main_v1) = v0
          ∧ r.2.mem ((c.tc : Thread Cert.GatherTapsIdeal.nD Cert.GatherTapsIdeal.τ).loc Cert.GatherTapsIdeal.main_arg0) = m ((c.tc : Thread Cert.GatherTapsIdeal.nD Cert.GatherTapsIdeal.τ).loc Cert.GatherTapsIdeal.main_arg0))
      ∧ θ_run (Cert.GatherTapsRefIdeal.defs (F := Ideal)) (onTc (τ := Cert.GatherTapsRefIdeal.τ) (Cert.GatherTapsRefIdeal.main (F := Ideal))) ⟨m', fun _ => 0, g'⟩ (fun r =>
          r.2.mem (((0 : Dev Cert.GatherTapsRefIdeal.nD).tc : Thread Cert.GatherTapsRefIdeal.nD Cert.GatherTapsRefIdeal.τ).loc Cert.GatherTapsRefIdeal.main_v0) = v0
          ∧ r.2.mem (((0 : Dev Cert.GatherTapsRefIdeal.nD).tc : Thread Cert.GatherTapsRefIdeal.nD Cert.GatherTapsRefIdeal.τ).loc Cert.GatherTapsRefIdeal.main_arg0) = m' (((0 : Dev Cert.GatherTapsRefIdeal.nD).tc : Thread Cert.GatherTapsRefIdeal.nD Cert.GatherTapsRefIdeal.τ).loc Cert.GatherTapsRefIdeal.main_arg0))

def bitexact_GatherTaps_GatherTapsRef [hGatherTaps : Cert.GatherTaps.Facts] [hGatherTapsRef : Cert.GatherTapsRef.Facts] : Prop :=
  ∀ (m : (ℓ : Loc Cert.GatherTaps.nD Cert.GatherTaps.τ Cert.GatherTaps.sig) → Buf (Elt Bits) ℓ) (g : Dev Cert.GatherTaps.nD → PrngReg)
    (m' : (ℓ : Loc Cert.GatherTapsRef.nD Cert.GatherTapsRef.τ Cert.GatherTapsRef.sig) → Buf (Elt Bits) ℓ) (g' : Dev Cert.GatherTapsRef.nD → PrngReg), Pre_GatherTaps m →
    (∀ c : Dev Cert.GatherTaps.nD,
      m ((c.tc : Thread Cert.GatherTaps.nD Cert.GatherTaps.τ).loc Cert.GatherTaps.main_arg0) = Layout.block ⟨2, ![72, 128]⟩ ⟨2, ![576, 128]⟩ 0 8 c (m' (((0 : Dev Cert.GatherTapsRef.nD).tc : Thread Cert.GatherTapsRef.nD Cert.GatherTapsRef.τ).loc Cert.GatherTapsRef.main_arg0))) →
    ∃ (v0 : Buf (Elt Bits) (((0 : Dev Cert.GatherTapsRef.nD).tc : Thread Cert.GatherTapsRef.nD Cert.GatherTapsRef.τ).loc Cert.GatherTapsRef.main_v0)),
      θ_run (Cert.GatherTaps.defs (F := Bits)) (onTc (τ := Cert.GatherTaps.τ) (Cert.GatherTaps.main (F := Bits))) ⟨m, fun _ => 0, g⟩ (fun r => ∀ c : Dev Cert.GatherTaps.nD,
          r.2.mem ((c.tc : Thread Cert.GatherTaps.nD Cert.GatherTaps.τ).loc Cert.GatherTaps.main_v1) = v0
          ∧ r.2.mem ((c.tc : Thread Cert.GatherTaps.nD Cert.GatherTaps.τ).loc Cert.GatherTaps.main_arg0) = m ((c.tc : Thread Cert.GatherTaps.nD Cert.GatherTaps.τ).loc Cert.GatherTaps.main_arg0))
      ∧ θ_run (Cert.GatherTapsRef.defs (F := Bits)) (onTc (τ := Cert.GatherTapsRef.τ) (Cert.GatherTapsRef.main (F := Bits))) ⟨m', fun _ => 0, g'⟩ (fun r =>
          r.2.mem (((0 : Dev Cert.GatherTapsRef.nD).tc : Thread Cert.GatherTapsRef.nD Cert.GatherTapsRef.τ).loc Cert.GatherTapsRef.main_v0) = v0
          ∧ r.2.mem (((0 : Dev Cert.GatherTapsRef.nD).tc : Thread Cert.GatherTapsRef.nD Cert.GatherTapsRef.τ).loc Cert.GatherTapsRef.main_arg0) = m' (((0 : Dev Cert.GatherTapsRef.nD).tc : Thread Cert.GatherTapsRef.nD Cert.GatherTapsRef.τ).loc Cert.GatherTapsRef.main_arg0))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v1) = v0 c
          ∧ r.2.mem ((c.tc : Thread Cert.AdamwOutRefIdeal.nD Cert.AdamwOutRefIdeal.τ).loc Cert.AdamwOutRefIdeal.main_v25) = v1 c
          ∧ r.2.mem ((c.tc : Thread Cert.AdamwOutRefIdeal.nD Cert.AdamwOutRefIdeal.τ).loc Cert.AdamwOutRefIdeal.main_v6) = v2 c
          ∧ r.2.mem ((c.tc : Thread Cert.AdamwOutRefIdeal.nD Cert.AdamwOutRefIdeal.τ).loc Cert.AdamwOutRefIdeal.main_v12) = v3 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_AdamwDown_AdamwDownIdeal : Prop :=
  True

def algebraic_AdamwDownIdeal_AdamwDownRefIdeal [hAdamwDownIdeal : Cert.AdamwDownIdeal.Facts] [hAdamwDownRefIdeal : Cert.AdamwDownRefIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownRefIdeal.nD Cert.AdamwDownRefIdeal.τ Cert.AdamwDownRefIdeal.sig) → Buf (Elt Ideal) ℓ) (g' : Dev Cert.AdamwDownRefIdeal.nD → PrngReg), Pre_AdamwDownIdeal m →
    (∀ c : Dev Cert.AdamwDownIdeal.nD,
      m' ((c.tc : Thread Cert.AdamwDownRefIdeal.nD Cert.AdamwDownRefIdeal.τ).loc Cert.AdamwDownRefIdeal.main_arg0) = m ((c.tc : Thread Cert.AdamwDownIdeal.nD Cert.AdamwDownIdeal.τ).loc Cert.AdamwDownIdeal.main_arg0)
      ∧ m' ((c.tc : Thread Cert.AdamwDownRefIdeal.nD Cert.AdamwDownRefIdeal.τ).loc Cert.AdamwDownRefIdeal.main_arg1) = m ((c.tc : Thread Cert.AdamwDownIdeal.nD Cert.AdamwDownIdeal.τ).loc Cert.AdamwDownIdeal.main_arg1)
      ∧ m' ((c.tc : Thread Cert.AdamwDownRefIdeal.nD Cert.AdamwDownRefIdeal.τ).loc Cert.AdamwDownRefIdeal.main_arg2) = m ((c.tc : Thread Cert.AdamwDownIdeal.nD Cert.AdamwDownIdeal.τ).loc Cert.AdamwDownIdeal.main_arg2)
      ∧ m' ((c.tc : Thread Cert.AdamwDownRefIdeal.nD Cert.AdamwDownRefIdeal.τ).loc Cert.AdamwDownRefIdeal.main_arg3) = m ((c.tc : Thread Cert.AdamwDownIdeal.nD Cert.AdamwDownIdeal.τ).loc Cert.AdamwDownIdeal.main_arg3)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)) (v3 : (c : Dev Cert.AdamwDownIdeal.nD) → Buf (Elt Ideal) ((c.tc : Thread Cert.AdamwDownIdeal.nD Cert.AdamwDownIdeal.τ).loc Cert.AdamwDownIdeal.main_v0_3)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_v0_3) = v3 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3))
      ∧ θ_run (Cert.AdamwDownRefIdeal.defs (F := Ideal)) (onTc (τ := Cert.AdamwDownRefIdeal.τ) (Cert.AdamwDownRefIdeal.main (F := Ideal))) ⟨m', fun _ => 0, g'⟩ (fun r => ∀ c : Dev Cert.AdamwDownRefIdeal.nD,
          r.2.mem ((c.tc : Thread Cert.AdamwDownRefIdeal.nD Cert.AdamwDownRefIdeal.τ).loc Cert.AdamwDownRefIdeal.main_v1) = v0 c
          ∧ r.2.mem ((c.tc : Thread Cert.AdamwDownRefIdeal.nD Cert.AdamwDownRefIdeal.τ).loc Cert.AdamwDownRefIdeal.main_v25) = v1 c
          ∧ r.2.mem ((c.tc : Thread Cert.AdamwDownRefIdeal.nD Cert.AdamwDownRefIdeal.τ).loc Cert.AdamwDownRefIdeal.main_v6) = v2 c
          ∧ r.2.mem ((c.tc : Thread Cert.AdamwDownRefIdeal.nD Cert.AdamwDownRefIdeal.τ).loc Cert.AdamwDownRefIdeal.main_v12) = v3 c
          ∧ r.2.mem ((c.tc : Thread Cert.AdamwDownRefIdeal.nD Cert.AdamwDownRefIdeal.τ).loc Cert.AdamwDownRefIdeal.main_arg0) = m' ((c.tc : Thread Cert.AdamwDownRefIdeal.nD Cert.AdamwDownRefIdeal.τ).loc Cert.AdamwDownRefIdeal.main_arg0)
          ∧ r.2.mem ((c.tc : Thread Cert.AdamwDownRefIdeal.nD Cert.AdamwDownRefIdeal.τ).loc Cert.AdamwDownRefIdeal.main_arg1) = m' ((c.tc : Thread Cert.AdamwDownRefIdeal.nD Cert.AdamwDownRefIdeal.τ).loc Cert.AdamwDownRefIdeal.main_arg1)
          ∧ r.2.mem ((c.tc : Thread Cert.AdamwDownRefIdeal.nD Cert.AdamwDownRefIdeal.τ).loc Cert.AdamwDownRefIdeal.main_arg2) = m' ((c.tc : Thread Cert.AdamwDownRefIdeal.nD Cert.AdamwDownRefIdeal.τ).loc Cert.AdamwDownRefIdeal.main_arg2)
          ∧ r.2.mem ((c.tc : Thread Cert.AdamwDownRefIdeal.nD Cert.AdamwDownRefIdeal.τ).loc Cert.AdamwDownRefIdeal.main_arg3) = m' ((c.tc : Thread Cert.AdamwDownRefIdeal.nD Cert.AdamwDownRefIdeal.τ).loc Cert.AdamwDownRefIdeal.main_arg3))

def preserves_AdamwGlu_AdamwGluIdeal : Prop :=
  True

def algebraic_AdamwGluIdeal_AdamwGluRefIdeal [hAdamwGluIdeal : Cert.AdamwGluIdeal.Facts] [hAdamwGluRefIdeal : Cert.AdamwGluRefIdeal.Facts] : Prop :=
  ∀ (m : (ℓ : Loc Cert.AdamwGluIdeal.nD Cert.AdamwGluIdeal.τ Cert.AdamwGluIdeal.sig) → Buf (Elt Ideal) ℓ) (g : Dev Cert.AdamwGluIdeal.nD → PrngReg)
    (m' : (ℓ : Loc Cert.AdamwGluRefIdeal.nD Cert.AdamwGluRefIdeal.τ Cert.AdamwGluRefIdeal.sig) → Buf (Elt Ideal) ℓ) (g' : Dev Cert.AdamwGluRefIdeal.nD → PrngReg), Pre_AdamwGluIdeal m →
    (∀ c : Dev Cert.AdamwGluIdeal.nD,
      m' ((c.tc : Thread Cert.AdamwGluRefIdeal.nD Cert.AdamwGluRefIdeal.τ).loc Cert.AdamwGluRefIdeal.main_arg0) = m ((c.tc : Thread Cert.AdamwGluIdeal.nD Cert.AdamwGluIdeal.τ).loc Cert.AdamwGluIdeal.main_arg0)
      ∧ m' ((c.tc : Thread Cert.AdamwGluRefIdeal.nD Cert.AdamwGluRefIdeal.τ).loc Cert.AdamwGluRefIdeal.main_arg1) = m ((c.tc : Thread Cert.AdamwGluIdeal.nD Cert.AdamwGluIdeal.τ).loc Cert.AdamwGluIdeal.main_arg1)
      ∧ m' ((c.tc : Thread Cert.AdamwGluRefIdeal.nD Cert.AdamwGluRefIdeal.τ).loc Cert.AdamwGluRefIdeal.main_arg2) = m ((c.tc : Thread Cert.AdamwGluIdeal.nD Cert.AdamwGluIdeal.τ).loc Cert.AdamwGluIdeal.main_arg2)
      ∧ m' ((c.tc : Thread Cert.AdamwGluRefIdeal.nD Cert.AdamwGluRefIdeal.τ).loc Cert.AdamwGluRefIdeal.main_arg3) = m ((c.tc : Thread Cert.AdamwGluIdeal.nD Cert.AdamwGluIdeal.τ).loc Cert.AdamwGluIdeal.main_arg3)) →
    ∃ (v0 : (c : Dev Cert.AdamwGluIdeal.nD) → Buf (Elt Ideal) ((c.tc : Thread Cert.AdamwGluIdeal.nD Cert.AdamwGluIdeal.τ).loc Cert.AdamwGluIdeal.main_v0_0)) (v1 : (c : Dev Cert.AdamwGluIdeal.nD) → Buf (Elt Ideal) ((c.tc : Thread Cert.AdamwGluIdeal.nD Cert.AdamwGluIdeal.τ).loc Cert.AdamwGluIdeal.main_v0_1)) (v2 : (c : Dev Cert.AdamwGluIdeal.nD) → Buf (Elt Ideal) ((c.tc : Thread Cert.AdamwGluIdeal.nD Cert.AdamwGluIdeal.τ).loc Cert.AdamwGluIdeal.main_v0_2)) (v3 : (c : Dev Cert.AdamwGluIdeal.nD) → Buf (Elt Ideal) ((c.tc : Thread Cert.AdamwGluIdeal.nD Cert.AdamwGluIdeal.τ).loc Cert.AdamwGluIdeal.main_v0_3)),
      θ_run (Cert.AdamwGluIdeal.defs (F := Ideal)) (onTc (τ := Cert.AdamwGluIdeal.τ) (Cert.AdamwGluIdeal.main (F := Ideal))) ⟨m, fun _ => 0, g⟩ (fun r => ∀ c : Dev Cert.AdamwGluIdeal.nD,
          r.2.mem ((c.tc : Thread Cert.AdamwGluIdeal.nD Cert.AdamwGluIdeal.τ).loc Cert.AdamwGluIdeal.main_v0_0) = v0 c
          ∧ r.2.mem ((c.tc : Thread Cert.AdamwGluIdeal.nD Cert.AdamwGluIdeal.τ).loc Cert.AdamwGluIdeal.main_v0_1) = v1 c
          ∧ r.2.mem ((c.tc : Thread Cert.AdamwGluIdeal.nD Cert.AdamwGluIdeal.τ).loc Cert.AdamwGluIdeal.main_v0_2) = v2 c
          ∧ r.2.mem ((c.tc : Thread Cert.AdamwGluIdeal.nD Cert.AdamwGluIdeal.τ).loc Cert.AdamwGluIdeal.main_v0_3) = v3 c
          ∧ r.2.mem ((c.tc : Thread Cert.AdamwGluIdeal.nD Cert.AdamwGluIdeal.τ).loc Cert.AdamwGluIdeal.main_arg0) = m ((c.tc : Thread Cert.AdamwGluIdeal.nD Cert.AdamwGluIdeal.τ).loc Cert.AdamwGluIdeal.main_arg0)
          ∧ r.2.mem ((c.tc : Thread Cert.AdamwGluIdeal.nD Cert.AdamwGluIdeal.τ).loc Cert.AdamwGluIdeal.main_arg1) = m ((c.tc : Thread Cert.AdamwGluIdeal.nD Cert.AdamwGluIdeal.τ).loc Cert.AdamwGluIdeal.main_arg1)
          ∧ r.2.mem ((c.tc : Thread Cert.AdamwGluIdeal.nD Cert.AdamwGluIdeal.τ).loc Cert.AdamwGluIdeal.main_arg2) = m ((c.tc : Thread Cert.AdamwGluIdeal.nD Cert.AdamwGluIdeal.τ).loc Cert.AdamwGluIdeal.main_arg2)
          ∧ r.2.mem ((c.tc : Thread Cert.AdamwGluIdeal.nD Cert.AdamwGluIdeal.τ).loc Cert.AdamwGluIdeal.main_arg3) = m ((c.tc : Thread Cert.AdamwGluIdeal.nD Cert.AdamwGluIdeal.τ).loc Cert.AdamwGluIdeal.main_arg3))
      ∧ θ_run (Cert.AdamwGluRefIdeal.defs (F := Ideal)) (onTc (τ := Cert.AdamwGluRefIdeal.τ) (Cert.AdamwGluRefIdeal.main (F := Ideal))) ⟨m', fun _ => 0, g'⟩ (fun r => ∀ c : Dev Cert.AdamwGluRefIdeal.nD,
          r.2.mem ((c.tc : Thread Cert.AdamwGluRefIdeal.nD Cert.AdamwGluRefIdeal.τ).loc Cert.AdamwGluRefIdeal.main_v1) = v0 c
          ∧ r.2.mem ((c.tc : Thread Cert.AdamwGluRefIdeal.nD Cert.AdamwGluRefIdeal.τ).loc Cert.AdamwGluRefIdeal.main_v25) = v1 c
          ∧ r.2.mem ((c.tc : Thread Cert.AdamwGluRefIdeal.nD Cert.AdamwGluRefIdeal.τ).loc Cert.AdamwGluRefIdeal.main_v6) = v2 c
          ∧ r.2.mem ((c.tc : Thread Cert.AdamwGluRefIdeal.nD Cert.AdamwGluRefIdeal.τ).loc Cert.AdamwGluRefIdeal.main_v12) = v3 c
          ∧ r.2.mem ((c.tc : Thread Cert.AdamwGluRefIdeal.nD Cert.AdamwGluRefIdeal.τ).loc Cert.AdamwGluRefIdeal.main_arg0) = m' ((c.tc : Thread Cert.AdamwGluRefIdeal.nD Cert.AdamwGluRefIdeal.τ).loc Cert.AdamwGluRefIdeal.main_arg0)
          ∧ r.2.mem ((c.tc : Thread Cert.AdamwGluRefIdeal.nD Cert.AdamwGluRefIdeal.τ).loc Cert.AdamwGluRefIdeal.main_arg1) = m' ((c.tc : Thread Cert.AdamwGluRefIdeal.nD Cert.AdamwGluRefIdeal.τ).loc Cert.AdamwGluRefIdeal.main_arg1)
          ∧ r.2.mem ((c.tc : Thread Cert.AdamwGluRefIdeal.nD Cert.AdamwGluRefIdeal.τ).loc Cert.AdamwGluRefIdeal.main_arg2) = m' ((c.tc : Thread Cert.AdamwGluRefIdeal.nD Cert.AdamwGluRefIdeal.τ).loc Cert.AdamwGluRefIdeal.main_arg2)
          ∧ r.2.mem ((c.tc : Thread Cert.AdamwGluRefIdeal.nD Cert.AdamwGluRefIdeal.τ).loc Cert.AdamwGluRefIdeal.main_arg3) = m' ((c.tc : Thread Cert.AdamwGluRefIdeal.nD Cert.AdamwGluRefIdeal.τ).loc Cert.AdamwGluRefIdeal.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v1) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v1) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v23) = v0 c
          ∧ r.2.mem ((c.tc : Thread Cert.AdamwInRefIdeal.nD Cert.AdamwInRefIdeal.τ).loc Cert.AdamwInRefIdeal.main_v4) = v1 c
          ∧ r.2.mem ((c.tc : Thread Cert.AdamwInRefIdeal.nD Cert.AdamwInRefIdeal.τ).loc Cert.AdamwInRefIdeal.main_v10) = v2 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3))

def preserves_AdamwUp_AdamwUpIdeal : Prop :=
  True

def algebraic_AdamwUpIdeal_AdamwUpRefIdeal [hAdamwUpIdeal : Cert.AdamwUpIdeal.Facts] [hAdamwUpRefIdeal : Cert.AdamwUpRefIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.AdamwUpRefIdeal.nD Cert.AdamwUpRefIdeal.τ Cert.AdamwUpRefIdeal.sig) → Buf (Elt Ideal) ℓ) (g' : Dev Cert.AdamwUpRefIdeal.nD → PrngReg), Pre_AdamwUpIdeal m →
    (∀ c : Dev Cert.AdamwUpIdeal.nD,
      m' ((c.tc : Thread Cert.AdamwUpRefIdeal.nD Cert.AdamwUpRefIdeal.τ).loc Cert.AdamwUpRefIdeal.main_arg0) = m ((c.tc : Thread Cert.AdamwUpIdeal.nD Cert.AdamwUpIdeal.τ).loc Cert.AdamwUpIdeal.main_arg0)
      ∧ m' ((c.tc : Thread Cert.AdamwUpRefIdeal.nD Cert.AdamwUpRefIdeal.τ).loc Cert.AdamwUpRefIdeal.main_arg1) = m ((c.tc : Thread Cert.AdamwUpIdeal.nD Cert.AdamwUpIdeal.τ).loc Cert.AdamwUpIdeal.main_arg1)
      ∧ m' ((c.tc : Thread Cert.AdamwUpRefIdeal.nD Cert.AdamwUpRefIdeal.τ).loc Cert.AdamwUpRefIdeal.main_arg2) = m ((c.tc : Thread Cert.AdamwUpIdeal.nD Cert.AdamwUpIdeal.τ).loc Cert.AdamwUpIdeal.main_arg2)
      ∧ m' ((c.tc : Thread Cert.AdamwUpRefIdeal.nD Cert.AdamwUpRefIdeal.τ).loc Cert.AdamwUpRefIdeal.main_arg3) = m ((c.tc : Thread Cert.AdamwUpIdeal.nD Cert.AdamwUpIdeal.τ).loc Cert.AdamwUpIdeal.main_arg3)) →
    ∃ (v0 : (c : Dev Cert.AdamwUpIdeal.nD) → Buf (Elt Ideal) ((c.tc : Thread Cert.AdamwUpIdeal.nD Cert.AdamwUpIdeal.τ).loc Cert.AdamwUpIdeal.main_v0_0)) (v1 : (c : Dev Cert.AdamwUpIdeal.nD) → Buf (Elt Ideal) ((c.tc : Thread Cert.AdamwUpIdeal.nD Cert.AdamwUpIdeal.τ).loc Cert.AdamwUpIdeal.main_v0_1)) (v2 : (c : Dev Cert.AdamwUpIdeal.nD) → Buf (Elt Ideal) ((c.tc : Thread Cert.AdamwUpIdeal.nD Cert.AdamwUpIdeal.τ).loc Cert.AdamwUpIdeal.main_v0_2)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v0_0) = v0 c
          ∧ r.2.mem ((c.tc : Thread Cert.AdamwUpIdeal.nD Cert.AdamwUpIdeal.τ).loc Cert.AdamwUpIdeal.main_v0_1) = v1 c
          ∧ r.2.mem ((c.tc : Thread Cert.AdamwUpIdeal.nD Cert.AdamwUpIdeal.τ).loc Cert.AdamwUpIdeal.main_v0_2) = v2 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ θ_run (Cert.AdamwUpRefIdeal.defs (F := Ideal)) (onTc (τ := Cert.AdamwUpRefIdeal.τ) (Cert.AdamwUpRefIdeal.main (F := Ideal))) ⟨m', fun _ => 0, g'⟩ (fun r => ∀ c : Dev Cert.AdamwUpRefIdeal.nD,
          r.2.mem ((c.tc : Thread Cert.AdamwUpRefIdeal.nD Cert.AdamwUpRefIdeal.τ).loc Cert.AdamwUpRefIdeal.main_v23) = v0 c
          ∧ r.2.mem ((c.tc : Thread Cert.AdamwUpRefIdeal.nD Cert.AdamwUpRefIdeal.τ).loc Cert.AdamwUpRefIdeal.main_v4) = v1 c
          ∧ r.2.mem ((c.tc : Thread Cert.AdamwUpRefIdeal.nD Cert.AdamwUpRefIdeal.τ).loc Cert.AdamwUpRefIdeal.main_v10) = v2 c
          ∧ r.2.mem ((c.tc : Thread Cert.AdamwUpRefIdeal.nD Cert.AdamwUpRefIdeal.τ).loc Cert.AdamwUpRefIdeal.main_arg0) = m' ((c.tc : Thread Cert.AdamwUpRefIdeal.nD Cert.AdamwUpRefIdeal.τ).loc Cert.AdamwUpRefIdeal.main_arg0)
          ∧ r.2.mem ((c.tc : Thread Cert.AdamwUpRefIdeal.nD Cert.AdamwUpRefIdeal.τ).loc Cert.AdamwUpRefIdeal.main_arg1) = m' ((c.tc : Thread Cert.AdamwUpRefIdeal.nD Cert.AdamwUpRefIdeal.τ).loc Cert.AdamwUpRefIdeal.main_arg1)
          ∧ r.2.mem ((c.tc : Thread Cert.AdamwUpRefIdeal.nD Cert.AdamwUpRefIdeal.τ).loc Cert.AdamwUpRefIdeal.main_arg2) = m' ((c.tc : Thread Cert.AdamwUpRefIdeal.nD Cert.AdamwUpRefIdeal.τ).loc Cert.AdamwUpRefIdeal.main_arg2)
          ∧ r.2.mem ((c.tc : Thread Cert.AdamwUpRefIdeal.nD Cert.AdamwUpRefIdeal.τ).loc Cert.AdamwUpRefIdeal.main_arg3) = m' ((c.tc : Thread Cert.AdamwUpRefIdeal.nD Cert.AdamwUpRefIdeal.τ).loc Cert.AdamwUpRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)) →
    ∃ (v0 : (c : Dev Cert.GradXIdeal.nD) → Buf (Elt Ideal) ((c.tc : Thread Cert.GradXIdeal.nD Cert.GradXIdeal.τ).loc Cert.GradXIdeal.main_v1_0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v1_0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v32) = v0 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v19) = v0 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v3) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DMixed_DMixedIdeal : Prop :=
  True

def algebraic_DMixedIdeal_DMixedRefIdeal [hDMixedIdeal : Cert.DMixedIdeal.Facts] [hDMixedRefIdeal : Cert.DMixedRefIdeal.Facts] : Prop :=
  ∀ (m : (ℓ : Loc Cert.DMixedIdeal.nD Cert.DMixedIdeal.τ Cert.DMixedIdeal.sig) → Buf (Elt Ideal) ℓ) (g : Dev Cert.DMixedIdeal.nD → PrngReg)
    (m' : (ℓ : Loc Cert.DMixedRefIdeal.nD Cert.DMixedRefIdeal.τ Cert.DMixedRefIdeal.sig) → Buf (Elt Ideal) ℓ) (g' : Dev Cert.DMixedRefIdeal.nD → PrngReg), Pre_DMixedIdeal m →
    (∀ c : Dev Cert.DMixedIdeal.nD,
      m' ((c.tc : Thread Cert.DMixedRefIdeal.nD Cert.DMixedRefIdeal.τ).loc Cert.DMixedRefIdeal.main_arg0) = m ((c.tc : Thread Cert.DMixedIdeal.nD Cert.DMixedIdeal.τ).loc Cert.DMixedIdeal.main_arg0)
      ∧ m' ((c.tc : Thread Cert.DMixedRefIdeal.nD Cert.DMixedRefIdeal.τ).loc Cert.DMixedRefIdeal.main_arg1) = m ((c.tc : Thread Cert.DMixedIdeal.nD Cert.DMixedIdeal.τ).loc Cert.DMixedIdeal.main_arg1)) →
    ∃ (v0 : (c : Dev Cert.DMixedIdeal.nD) → Buf (Elt Ideal) ((c.tc : Thread Cert.DMixedIdeal.nD Cert.DMixedIdeal.τ).loc Cert.DMixedIdeal.main_v0)),
      θ_run (Cert.DMixedIdeal.defs (F := Ideal)) (onTc (τ := Cert.DMixedIdeal.τ) (Cert.DMixedIdeal.main (F := Ideal))) ⟨m, fun _ => 0, g⟩ (fun r => ∀ c : Dev Cert.DMixedIdeal.nD,
          r.2.mem ((c.tc : Thread Cert.DMixedIdeal.nD Cert.DMixedIdeal.τ).loc Cert.DMixedIdeal.main_v0) = v0 c
          ∧ r.2.mem ((c.tc : Thread Cert.DMixedIdeal.nD Cert.DMixedIdeal.τ).loc Cert.DMixedIdeal.main_arg0) = m ((c.tc : Thread Cert.DMixedIdeal.nD Cert.DMixedIdeal.τ).loc Cert.DMixedIdeal.main_arg0)
          ∧ r.2.mem ((c.tc : Thread Cert.DMixedIdeal.nD Cert.DMixedIdeal.τ).loc Cert.DMixedIdeal.main_arg1) = m ((c.tc : Thread Cert.DMixedIdeal.nD Cert.DMixedIdeal.τ).loc Cert.DMixedIdeal.main_arg1))
      ∧ θ_run (Cert.DMixedRefIdeal.defs (F := Ideal)) (onTc (τ := Cert.DMixedRefIdeal.τ) (Cert.DMixedRefIdeal.main (F := Ideal))) ⟨m', fun _ => 0, g'⟩ (fun r => ∀ c : Dev Cert.DMixedRefIdeal.nD,
          r.2.mem ((c.tc : Thread Cert.DMixedRefIdeal.nD Cert.DMixedRefIdeal.τ).loc Cert.DMixedRefIdeal.main_v3) = v0 c
          ∧ r.2.mem ((c.tc : Thread Cert.DMixedRefIdeal.nD Cert.DMixedRefIdeal.τ).loc Cert.DMixedRefIdeal.main_arg0) = m' ((c.tc : Thread Cert.DMixedRefIdeal.nD Cert.DMixedRefIdeal.τ).loc Cert.DMixedRefIdeal.main_arg0)
          ∧ r.2.mem ((c.tc : Thread Cert.DMixedRefIdeal.nD Cert.DMixedRefIdeal.τ).loc Cert.DMixedRefIdeal.main_arg1) = m' ((c.tc : Thread Cert.DMixedRefIdeal.nD Cert.DMixedRefIdeal.τ).loc Cert.DMixedRefIdeal.main_arg1))

def preserves_DHTwo_DHTwoIdeal : Prop :=
  True

def algebraic_DHTwoIdeal_DHTwoRefIdeal [hDHTwoIdeal : Cert.DHTwoIdeal.Facts] [hDHTwoRefIdeal : Cert.DHTwoRefIdeal.Facts] : Prop :=
  ∀ (m : (ℓ : Loc Cert.DHTwoIdeal.nD Cert.DHTwoIdeal.τ Cert.DHTwoIdeal.sig) → Buf (Elt Ideal) ℓ) (g : Dev Cert.DHTwoIdeal.nD → PrngReg)
    (m' : (ℓ : Loc Cert.DHTwoRefIdeal.nD Cert.DHTwoRefIdeal.τ Cert.DHTwoRefIdeal.sig) → Buf (Elt Ideal) ℓ) (g' : Dev Cert.DHTwoRefIdeal.nD → PrngReg), Pre_DHTwoIdeal m →
    (∀ c : Dev Cert.DHTwoIdeal.nD,
      m' ((c.tc : Thread Cert.DHTwoRefIdeal.nD Cert.DHTwoRefIdeal.τ).loc Cert.DHTwoRefIdeal.main_arg0) = m ((c.tc : Thread Cert.DHTwoIdeal.nD Cert.DHTwoIdeal.τ).loc Cert.DHTwoIdeal.main_arg0)
      ∧ m' ((c.tc : Thread Cert.DHTwoRefIdeal.nD Cert.DHTwoRefIdeal.τ).loc Cert.DHTwoRefIdeal.main_arg1) = m ((c.tc : Thread Cert.DHTwoIdeal.nD Cert.DHTwoIdeal.τ).loc Cert.DHTwoIdeal.main_arg1)) →
    ∃ (v0 : (c : Dev Cert.DHTwoIdeal.nD) → Buf (Elt Ideal) ((c.tc : Thread Cert.DHTwoIdeal.nD Cert.DHTwoIdeal.τ).loc Cert.DHTwoIdeal.main_v0)),
      θ_run (Cert.DHTwoIdeal.defs (F := Ideal)) (onTc (τ := Cert.DHTwoIdeal.τ) (Cert.DHTwoIdeal.main (F := Ideal))) ⟨m, fun _ => 0, g⟩ (fun r => ∀ c : Dev Cert.DHTwoIdeal.nD,
          r.2.mem ((c.tc : Thread Cert.DHTwoIdeal.nD Cert.DHTwoIdeal.τ).loc Cert.DHTwoIdeal.main_v0) = v0 c
          ∧ r.2.mem ((c.tc : Thread Cert.DHTwoIdeal.nD Cert.DHTwoIdeal.τ).loc Cert.DHTwoIdeal.main_arg0) = m ((c.tc : Thread Cert.DHTwoIdeal.nD Cert.DHTwoIdeal.τ).loc Cert.DHTwoIdeal.main_arg0)
          ∧ r.2.mem ((c.tc : Thread Cert.DHTwoIdeal.nD Cert.DHTwoIdeal.τ).loc Cert.DHTwoIdeal.main_arg1) = m ((c.tc : Thread Cert.DHTwoIdeal.nD Cert.DHTwoIdeal.τ).loc Cert.DHTwoIdeal.main_arg1))
      ∧ θ_run (Cert.DHTwoRefIdeal.defs (F := Ideal)) (onTc (τ := Cert.DHTwoRefIdeal.τ) (Cert.DHTwoRefIdeal.main (F := Ideal))) ⟨m', fun _ => 0, g'⟩ (fun r => ∀ c : Dev Cert.DHTwoRefIdeal.nD,
          r.2.mem ((c.tc : Thread Cert.DHTwoRefIdeal.nD Cert.DHTwoRefIdeal.τ).loc Cert.DHTwoRefIdeal.main_v2) = v0 c
          ∧ r.2.mem ((c.tc : Thread Cert.DHTwoRefIdeal.nD Cert.DHTwoRefIdeal.τ).loc Cert.DHTwoRefIdeal.main_arg0) = m' ((c.tc : Thread Cert.DHTwoRefIdeal.nD Cert.DHTwoRefIdeal.τ).loc Cert.DHTwoRefIdeal.main_arg0)
          ∧ r.2.mem ((c.tc : Thread Cert.DHTwoRefIdeal.nD Cert.DHTwoRefIdeal.τ).loc Cert.DHTwoRefIdeal.main_arg1) = m' ((c.tc : Thread Cert.DHTwoRefIdeal.nD Cert.DHTwoRefIdeal.τ).loc Cert.DHTwoRefIdeal.main_arg1))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)) →
    ∃ (v0 : (c : Dev Cert.DHIdeal.nD) → Buf (Elt Ideal) ((c.tc : Thread Cert.DHIdeal.nD Cert.DHIdeal.τ).loc Cert.DHIdeal.main_v0)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v2) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v4) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v4) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v4) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v4) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def Claim : Prop :=
  ∃ (hGatherMatrices : Cert.GatherMatrices.Facts) (hGatherMatricesIdeal : Cert.GatherMatricesIdeal.Facts) (hGatherMatricesRefIdeal : Cert.GatherMatricesRefIdeal.Facts) (hGatherMatricesRef : Cert.GatherMatricesRef.Facts) (hScatterGrads : Cert.ScatterGrads.Facts) (hScatterGradsIdeal : Cert.ScatterGradsIdeal.Facts) (hScatterGradsRefIdeal : Cert.ScatterGradsRefIdeal.Facts) (hScatterGradsRef : Cert.ScatterGradsRef.Facts) (hGatherSmall : Cert.GatherSmall.Facts) (hGatherSmallIdeal : Cert.GatherSmallIdeal.Facts) (hGatherSmallRefIdeal : Cert.GatherSmallRefIdeal.Facts) (hGatherSmallRef : Cert.GatherSmallRef.Facts) (hGatherTaps : Cert.GatherTaps.Facts) (hGatherTapsIdeal : Cert.GatherTapsIdeal.Facts) (hGatherTapsRefIdeal : Cert.GatherTapsRefIdeal.Facts) (hGatherTapsRef : Cert.GatherTapsRef.Facts) (hAdamwOut : Cert.AdamwOut.Facts) (hAdamwOutIdeal : Cert.AdamwOutIdeal.Facts) (hAdamwOutRefIdeal : Cert.AdamwOutRefIdeal.Facts) (hAdamwDown : Cert.AdamwDown.Facts) (hAdamwDownIdeal : Cert.AdamwDownIdeal.Facts) (hAdamwDownRefIdeal : Cert.AdamwDownRefIdeal.Facts) (hAdamwGlu : Cert.AdamwGlu.Facts) (hAdamwGluIdeal : Cert.AdamwGluIdeal.Facts) (hAdamwGluRefIdeal : Cert.AdamwGluRefIdeal.Facts) (hSumIn : Cert.SumIn.Facts) (hSumInIdeal : Cert.SumInIdeal.Facts) (hSumInRefIdeal : Cert.SumInRefIdeal.Facts) (hSumUp : Cert.SumUp.Facts) (hSumUpIdeal : Cert.SumUpIdeal.Facts) (hSumUpRefIdeal : Cert.SumUpRefIdeal.Facts) (hSumSmall : Cert.SumSmall.Facts) (hSumSmallIdeal : Cert.SumSmallIdeal.Facts) (hSumSmallRefIdeal : Cert.SumSmallRefIdeal.Facts) (hAdamwIn : Cert.AdamwIn.Facts) (hAdamwInIdeal : Cert.AdamwInIdeal.Facts) (hAdamwInRefIdeal : Cert.AdamwInRefIdeal.Facts) (hAdamwUp : Cert.AdamwUp.Facts) (hAdamwUpIdeal : Cert.AdamwUpIdeal.Facts) (hAdamwUpRefIdeal : Cert.AdamwUpRefIdeal.Facts) (hAdamwSmall : Cert.AdamwSmall.Facts) (hAdamwSmallIdeal : Cert.AdamwSmallIdeal.Facts) (hAdamwSmallRefIdeal : Cert.AdamwSmallRefIdeal.Facts) (hGradX : Cert.GradX.Facts) (hGradXIdeal : Cert.GradXIdeal.Facts) (hGradXRefIdeal : Cert.GradXRefIdeal.Facts) (hLoss : Cert.Loss.Facts) (hLossIdeal : Cert.LossIdeal.Facts) (hLossRefIdeal : Cert.LossRefIdeal.Facts) (hOutProj : Cert.OutProj.Facts) (hOutProjIdeal : Cert.OutProjIdeal.Facts) (hOutProjRefIdeal : Cert.OutProjRefIdeal.Facts) (hFfnDown : Cert.FfnDown.Facts) (hFfnDownIdeal : Cert.FfnDownIdeal.Facts) (hFfnDownRefIdeal : Cert.FfnDownRefIdeal.Facts) (hDAct : Cert.DAct.Facts) (hDActIdeal : Cert.DActIdeal.Facts) (hDActRefIdeal : Cert.DActRefIdeal.Facts) (hDMixed : Cert.DMixed.Facts) (hDMixedIdeal : Cert.DMixedIdeal.Facts) (hDMixedRefIdeal : Cert.DMixedRefIdeal.Facts) (hDHTwo : Cert.DHTwo.Facts) (hDHTwoIdeal : Cert.DHTwoIdeal.Facts) (hDHTwoRefIdeal : Cert.DHTwoRefIdeal.Facts) (hDH : Cert.DH.Facts) (hDHIdeal : Cert.DHIdeal.Facts) (hDHRefIdeal : Cert.DHRefIdeal.Facts) (hDwDown : Cert.DwDown.Facts) (hDwDownIdeal : Cert.DwDownIdeal.Facts) (hDwDownRefIdeal : Cert.DwDownRefIdeal.Facts) (hDwOut : Cert.DwOut.Facts) (hDwOutIdeal : Cert.DwOutIdeal.Facts) (hDwOutRefIdeal : Cert.DwOutRefIdeal.Facts) (hDwUp : Cert.DwUp.Facts) (hDwUpIdeal : Cert.DwUpIdeal.Facts) (hDwUpRefIdeal : Cert.DwUpRefIdeal.Facts) (hDwIn : Cert.DwIn.Facts) (hDwInIdeal : Cert.DwInIdeal.Facts) (hDwInRefIdeal : Cert.DwInRefIdeal.Facts),
    quiescent_GatherMatrices (hGatherMatrices := hGatherMatrices)
    ∧ quiescent_GatherMatricesIdeal (hGatherMatricesIdeal := hGatherMatricesIdeal)
    ∧ quiescent_GatherMatricesRefIdeal (hGatherMatricesRefIdeal := hGatherMatricesRefIdeal)
    ∧ quiescent_GatherMatricesRef (hGatherMatricesRef := hGatherMatricesRef)
    ∧ quiescent_ScatterGrads (hScatterGrads := hScatterGrads)
    ∧ quiescent_ScatterGradsIdeal (hScatterGradsIdeal := hScatterGradsIdeal)
    ∧ quiescent_ScatterGradsRefIdeal (hScatterGradsRefIdeal := hScatterGradsRefIdeal)
    ∧ quiescent_ScatterGradsRef (hScatterGradsRef := hScatterGradsRef)
    ∧ quiescent_GatherSmall (hGatherSmall := hGatherSmall)
    ∧ quiescent_GatherSmallIdeal (hGatherSmallIdeal := hGatherSmallIdeal)
    ∧ quiescent_GatherSmallRefIdeal (hGatherSmallRefIdeal := hGatherSmallRefIdeal)
    ∧ quiescent_GatherSmallRef (hGatherSmallRef := hGatherSmallRef)
    ∧ quiescent_GatherTaps (hGatherTaps := hGatherTaps)
    ∧ quiescent_GatherTapsIdeal (hGatherTapsIdeal := hGatherTapsIdeal)
    ∧ quiescent_GatherTapsRefIdeal (hGatherTapsRefIdeal := hGatherTapsRefIdeal)
    ∧ quiescent_GatherTapsRef (hGatherTapsRef := hGatherTapsRef)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwDown (hAdamwDown := hAdamwDown)
    ∧ quiescent_AdamwDownIdeal (hAdamwDownIdeal := hAdamwDownIdeal)
    ∧ quiescent_AdamwDownRefIdeal (hAdamwDownRefIdeal := hAdamwDownRefIdeal)
    ∧ quiescent_AdamwGlu (hAdamwGlu := hAdamwGlu)
    ∧ quiescent_AdamwGluIdeal (hAdamwGluIdeal := hAdamwGluIdeal)
    ∧ quiescent_AdamwGluRefIdeal (hAdamwGluRefIdeal := hAdamwGluRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwUp (hAdamwUp := hAdamwUp)
    ∧ quiescent_AdamwUpIdeal (hAdamwUpIdeal := hAdamwUpIdeal)
    ∧ quiescent_AdamwUpRefIdeal (hAdamwUpRefIdeal := hAdamwUpRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_GradX (hGradX := hGradX)
    ∧ quiescent_GradXIdeal (hGradXIdeal := hGradXIdeal)
    ∧ quiescent_GradXRefIdeal (hGradXRefIdeal := hGradXRefIdeal)
    ∧ quiescent_Loss (hLoss := hLoss)
    ∧ quiescent_LossIdeal (hLossIdeal := hLossIdeal)
    ∧ quiescent_LossRefIdeal (hLossRefIdeal := hLossRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_DAct (hDAct := hDAct)
    ∧ quiescent_DActIdeal (hDActIdeal := hDActIdeal)
    ∧ quiescent_DActRefIdeal (hDActRefIdeal := hDActRefIdeal)
    ∧ quiescent_DMixed (hDMixed := hDMixed)
    ∧ quiescent_DMixedIdeal (hDMixedIdeal := hDMixedIdeal)
    ∧ quiescent_DMixedRefIdeal (hDMixedRefIdeal := hDMixedRefIdeal)
    ∧ quiescent_DHTwo (hDHTwo := hDHTwo)
    ∧ quiescent_DHTwoIdeal (hDHTwoIdeal := hDHTwoIdeal)
    ∧ quiescent_DHTwoRefIdeal (hDHTwoRefIdeal := hDHTwoRefIdeal)
    ∧ quiescent_DH (hDH := hDH)
    ∧ quiescent_DHIdeal (hDHIdeal := hDHIdeal)
    ∧ quiescent_DHRefIdeal (hDHRefIdeal := hDHRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwIn (hDwIn := hDwIn)
    ∧ quiescent_DwInIdeal (hDwInIdeal := hDwInIdeal)
    ∧ quiescent_DwInRefIdeal (hDwInRefIdeal := hDwInRefIdeal)
    ∧ preserves_GatherMatrices_GatherMatricesIdeal
    ∧ algebraic_GatherMatricesIdeal_GatherMatricesRefIdeal (hGatherMatricesIdeal := hGatherMatricesIdeal) (hGatherMatricesRefIdeal := hGatherMatricesRefIdeal)
    ∧ bitexact_GatherMatrices_GatherMatricesRef (hGatherMatrices := hGatherMatrices) (hGatherMatricesRef := hGatherMatricesRef)
    ∧ preserves_ScatterGrads_ScatterGradsIdeal
    ∧ algebraic_ScatterGradsIdeal_ScatterGradsRefIdeal (hScatterGradsIdeal := hScatterGradsIdeal) (hScatterGradsRefIdeal := hScatterGradsRefIdeal)
    ∧ bitexact_ScatterGrads_ScatterGradsRef (hScatterGrads := hScatterGrads) (hScatterGradsRef := hScatterGradsRef)
    ∧ preserves_GatherSmall_GatherSmallIdeal
    ∧ algebraic_GatherSmallIdeal_GatherSmallRefIdeal (hGatherSmallIdeal := hGatherSmallIdeal) (hGatherSmallRefIdeal := hGatherSmallRefIdeal)
    ∧ bitexact_GatherSmall_GatherSmallRef (hGatherSmall := hGatherSmall) (hGatherSmallRef := hGatherSmallRef)
    ∧ preserves_GatherTaps_GatherTapsIdeal
    ∧ algebraic_GatherTapsIdeal_GatherTapsRefIdeal (hGatherTapsIdeal := hGatherTapsIdeal) (hGatherTapsRefIdeal := hGatherTapsRefIdeal)
    ∧ bitexact_GatherTaps_GatherTapsRef (hGatherTaps := hGatherTaps) (hGatherTapsRef := hGatherTapsRef)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwDown_AdamwDownIdeal
    ∧ algebraic_AdamwDownIdeal_AdamwDownRefIdeal (hAdamwDownIdeal := hAdamwDownIdeal) (hAdamwDownRefIdeal := hAdamwDownRefIdeal)
    ∧ preserves_AdamwGlu_AdamwGluIdeal
    ∧ algebraic_AdamwGluIdeal_AdamwGluRefIdeal (hAdamwGluIdeal := hAdamwGluIdeal) (hAdamwGluRefIdeal := hAdamwGluRefIdeal)
    ∧ preserves_SumIn_SumInIdeal
    ∧ algebraic_SumInIdeal_SumInRefIdeal (hSumInIdeal := hSumInIdeal) (hSumInRefIdeal := hSumInRefIdeal)
    ∧ preserves_SumUp_SumUpIdeal
    ∧ algebraic_SumUpIdeal_SumUpRefIdeal (hSumUpIdeal := hSumUpIdeal) (hSumUpRefIdeal := hSumUpRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwUp_AdamwUpIdeal
    ∧ algebraic_AdamwUpIdeal_AdamwUpRefIdeal (hAdamwUpIdeal := hAdamwUpIdeal) (hAdamwUpRefIdeal := hAdamwUpRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_GradX_GradXIdeal
    ∧ algebraic_GradXIdeal_GradXRefIdeal (hGradXIdeal := hGradXIdeal) (hGradXRefIdeal := hGradXRefIdeal)
    ∧ preserves_Loss_LossIdeal
    ∧ algebraic_LossIdeal_LossRefIdeal (hLossIdeal := hLossIdeal) (hLossRefIdeal := hLossRefIdeal)
    ∧ preserves_OutProj_OutProjIdeal
    ∧ algebraic_OutProjIdeal_OutProjRefIdeal (hOutProjIdeal := hOutProjIdeal) (hOutProjRefIdeal := hOutProjRefIdeal)
    ∧ preserves_FfnDown_FfnDownIdeal
    ∧ algebraic_FfnDownIdeal_FfnDownRefIdeal (hFfnDownIdeal := hFfnDownIdeal) (hFfnDownRefIdeal := hFfnDownRefIdeal)
    ∧ preserves_DAct_DActIdeal
    ∧ algebraic_DActIdeal_DActRefIdeal (hDActIdeal := hDActIdeal) (hDActRefIdeal := hDActRefIdeal)
    ∧ preserves_DMixed_DMixedIdeal
    ∧ algebraic_DMixedIdeal_DMixedRefIdeal (hDMixedIdeal := hDMixedIdeal) (hDMixedRefIdeal := hDMixedRefIdeal)
    ∧ preserves_DHTwo_DHTwoIdeal
    ∧ algebraic_DHTwoIdeal_DHTwoRefIdeal (hDHTwoIdeal := hDHTwoIdeal) (hDHTwoRefIdeal := hDHTwoRefIdeal)
    ∧ preserves_DH_DHIdeal
    ∧ algebraic_DHIdeal_DHRefIdeal (hDHIdeal := hDHIdeal) (hDHRefIdeal := hDHRefIdeal)
    ∧ preserves_DwDown_DwDownIdeal
    ∧ algebraic_DwDownIdeal_DwDownRefIdeal (hDwDownIdeal := hDwDownIdeal) (hDwDownRefIdeal := hDwDownRefIdeal)
    ∧ preserves_DwOut_DwOutIdeal
    ∧ algebraic_DwOutIdeal_DwOutRefIdeal (hDwOutIdeal := hDwOutIdeal) (hDwOutRefIdeal := hDwOutRefIdeal)
    ∧ preserves_DwUp_DwUpIdeal
    ∧ algebraic_DwUpIdeal_DwUpRefIdeal (hDwUpIdeal := hDwUpIdeal) (hDwUpRefIdeal := hDwUpRefIdeal)
    ∧ preserves_DwIn_DwInIdeal
    ∧ algebraic_DwInIdeal_DwInRefIdeal (hDwInIdeal := hDwInIdeal) (hDwInRefIdeal := hDwInRefIdeal)
-- ==== GatherMatrices.lean ====
abbrev S384x2048 : Shape := ⟨2, ![384, 2048]⟩
abbrev S256x2048 : Shape := ⟨2, ![256, 2048]⟩
abbrev S1376x2048 : Shape := ⟨2, ![1376, 2048]⟩
abbrev S688x2048 : Shape := ⟨2, ![688, 2048]⟩
abbrev S64x512 : Shape := ⟨2, ![64, 512]⟩
abbrev S8x384x2048 : Shape := ⟨3, ![8, 384, 2048]⟩
abbrev S8x256x2048 : Shape := ⟨3, ![8, 256, 2048]⟩
abbrev S8x1376x2048 : Shape := ⟨3, ![8, 1376, 2048]⟩
abbrev S8x688x2048 : Shape := ⟨3, ![8, 688, 2048]⟩
abbrev S8x64x512 : Shape := ⟨3, ![8, 64, 512]⟩
abbrev S12x7 : Shape := ⟨2, ![12, 7]⟩
abbrev S12 : Shape := ⟨1, ![12]⟩
abbrev S1 : Shape := ⟨1, ![1]⟩
abbrev S_ : Shape := ⟨0, ![]⟩
abbrev S1x384x2048 : Shape := ⟨3, ![1, 384, 2048]⟩
abbrev S1x1 : Shape := ⟨2, ![1, 1]⟩
abbrev S1x256x2048 : Shape := ⟨3, ![1, 256, 2048]⟩
abbrev S1x1376x2048 : Shape := ⟨3, ![1, 1376, 2048]⟩
abbrev S1x688x2048 : Shape := ⟨3, ![1, 688, 2048]⟩
abbrev S1x64x512 : Shape := ⟨3, ![1, 64, 512]⟩

abbrev nBuf : Space → Nat
  | .hbm => 24
  | .vmem => 0
  | .smem => 0
  | _ => 0

abbrev bufTy : (tb : Table) → Fin (tcTables nBuf tb) → BufTy
  | .hbm, ⟨0, _⟩ => ⟨S384x2048, .bf16⟩
  | .hbm, ⟨1, _⟩ => ⟨S256x2048, .bf16⟩
  | .hbm, ⟨2, _⟩ => ⟨S1376x2048, .bf16⟩
  | .hbm, ⟨3, _⟩ => ⟨S688x2048, .bf16⟩
  | .hbm, ⟨4, _⟩ => ⟨S64x512, .bf16⟩
  | .hbm, ⟨5, _⟩ => ⟨S64x512, .bf16⟩
  | .hbm, ⟨6, _⟩ => ⟨S384x2048, .bf16⟩
  | .hbm, ⟨7, _⟩ => ⟨S256x2048, .bf16⟩
  | .hbm, ⟨8, _⟩ => ⟨S1376x2048, .bf16⟩
  | .hbm, ⟨9, _⟩ => ⟨S688x2048, .bf16⟩
  | .hbm, ⟨10, _⟩ => ⟨S64x512, .bf16⟩
  | .hbm, ⟨11, _⟩ => ⟨S64x512, .bf16⟩
  | .hbm, ⟨12, _⟩ => ⟨S8x384x2048, .bf16⟩
  | .hbm, ⟨13, _⟩ => ⟨S8x256x2048, .bf16⟩
  | .hbm, ⟨14, _⟩ => ⟨S8x1376x2048, .bf16⟩
  | .hbm, ⟨15, _⟩ => ⟨S8x688x2048, .bf16⟩
  | .hbm, ⟨16, _⟩ => ⟨S8x64x512, .bf16⟩
  | .hbm, ⟨17, _⟩ => ⟨S8x64x512, .bf16⟩
  | .hbm, ⟨18, _⟩ => ⟨S8x384x2048, .bf16⟩
  | .hbm, ⟨19, _⟩ => ⟨S8x256x2048, .bf16⟩
  | .hbm, ⟨20, _⟩ => ⟨S8x1376x2048, .bf16⟩
  | .hbm, ⟨21, _⟩ => ⟨S8x688x2048, .bf16⟩
  | .hbm, ⟨22, _⟩ => ⟨S8x64x512, .bf16⟩
  | .hbm, ⟨23, _⟩ => ⟨S8x64x512, .bf16⟩
  | _, _ => ⟨S384x2048, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 0 → Bool
  | ⟨_, h⟩ => absurd h (Nat.not_lt_zero _)

abbrev dmaSemScoped : Fin 180 → Bool
  | ⟨i, _⟩ => dmaSemScopedAt i

abbrev sig : RefSig :=
  ofTc nBuf bufTy 0 180 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev main_v1_7 : Ref sig .tc := ⟨.hbm, 19, rfl⟩
abbrev main_v1_8 : Ref sig .tc := ⟨.hbm, 20, rfl⟩
abbrev main_v1_9 : Ref sig .tc := ⟨.hbm, 21, rfl⟩
abbrev main_v1_10 : Ref sig .tc := ⟨.hbm, 22, rfl⟩
abbrev main_v1_11 : Ref sig .tc := ⟨.hbm, 23, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v18 : BitVec 32 := Scalar.muli v2 c4_i32_12
  let v19 : BitVec 32 := Scalar.addi c0_i32_13 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v20 : BitVec 32 := Scalar.muli v5 c2_i32_14
  let v21 : BitVec 32 := Scalar.addi v19 v20
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let c1_i32_15 : BitVec 32 := 1#32
  let v22 : BitVec 32 := Scalar.muli v17 c1_i32_15
  let v23 : BitVec 32 := Scalar.addi v21 v22
  v23.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v31 : BitVec 32 := Scalar.muli v2 c4_i32_23
  let v32 : BitVec 32 := Scalar.addi c0_i32_24 v31
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.subi c1_i32_18 v5
  let c2_i32_25 : BitVec 32 := 2#32
  let v33 : BitVec 32 := Scalar.muli v30 c2_i32_25
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v35 : BitVec 32 := Scalar.muli v8 c1_i32_26
  let v36 : BitVec 32 := Scalar.addi v34 v35
  v36.toNat
def k0_dev3 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v45 : BitVec 32 := Scalar.muli v2 c4_i32_35
  let v46 : BitVec 32 := Scalar.addi c0_i32_36 v45
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_29 v5
  let c2_i32_37 : BitVec 32 := 2#32
  let v47 : BitVec 32 := Scalar.muli v43 c2_i32_37
  let v48 : BitVec 32 := Scalar.addi v46 v47
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_30 v8
  let c1_i32_38 : BitVec 32 := 1#32
  let v49 : BitVec 32 := Scalar.muli v44 c1_i32_38
  let v50 : BitVec 32 := Scalar.addi v48 v49
  v50.toNat
def k0_dev4 (d0 : Dev nD) : Nat :=
  let c0_i32_46 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.subi c1_i32_41 v2
  let c4_i32_45 : BitVec 32 := 4#32
  let v58 : BitVec 32 := Scalar.muli v57 c4_i32_45
  let v59 : BitVec 32 := Scalar.addi c0_i32_46 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v60 : BitVec 32 := Scalar.muli v5 c2_i32_47
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v62 : BitVec 32 := Scalar.muli v8 c1_i32_48
  let v63 : BitVec 32 := Scalar.addi v61 v62
  v63.toNat
def k0_dev5 (d0 : Dev nD) : Nat :=
  let c0_i32_58 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_51 v2
  let c4_i32_57 : BitVec 32 := 4#32
  let v72 : BitVec 32 := Scalar.muli v70 c4_i32_57
  let v73 : BitVec 32 := Scalar.addi c0_i32_58 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v74 : BitVec 32 := Scalar.muli v5 c2_i32_59
  let v75 : BitVec 32 := Scalar.addi v73 v74
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v71 : BitVec 32 := Scalar.subi c1_i32_52 v8
  let c1_i32_60 : BitVec 32 := 1#32
  let v76 : BitVec 32 := Scalar.muli v71 c1_i32_60
  let v77 : BitVec 32 := Scalar.addi v75 v76
  v77.toNat
def k0_dev6 (d0 : Dev nD) : Nat :=
  let c0_i32_69 : BitVec 32 := 0#32
  let c1_i32_63 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v84 : BitVec 32 := Scalar.subi c1_i32_63 v2
  let c4_i32_68 : BitVec 32 := 4#32
  let v86 : BitVec 32 := Scalar.muli v84 c4_i32_68
  let v87 : BitVec 32 := Scalar.addi c0_i32_69 v86
  let c1_i32_64 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v85 : BitVec 32 := Scalar.subi c1_i32_64 v5
  let c2_i32_70 : BitVec 32 := 2#32
  let v88 : BitVec 32 := Scalar.muli v85 c2_i32_70
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v90 : BitVec 32 := Scalar.muli v8 c1_i32_71
  let v91 : BitVec 32 := Scalar.addi v89 v90
  v91.toNat
def k0_dev7 (d0 : Dev nD) : Nat :=
  let c0_i32_81 : BitVec 32 := 0#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v98 : BitVec 32 := Scalar.subi c1_i32_74 v2
  let c4_i32_80 : BitVec 32 := 4#32
  let v101 : BitVec 32 := Scalar.muli v98 c4_i32_80
  let v102 : BitVec 32 := Scalar.addi c0_i32_81 v101
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_75 v5
  let c2_i32_82 : BitVec 32 := 2#32
  let v103 : BitVec 32 := Scalar.muli v99 c2_i32_82
  let v104 : BitVec 32 := Scalar.addi v102 v103
  let c1_i32_76 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_76 v8
  let c1_i32_83 : BitVec 32 := 1#32
  let v105 : BitVec 32 := Scalar.muli v100 c1_i32_83
  let v106 : BitVec 32 := Scalar.addi v104 v105
  v106.toNat
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_87 : BitVec 32 := 0#32
  let c0_i32_88 : BitVec 32 := 0#32
  ![v12.toNat, 0, 0]
def k0_dev8 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v118 : BitVec 32 := Scalar.muli v2 c4_i32_94
  let v119 : BitVec 32 := Scalar.addi c0_i32_95 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v120 : BitVec 32 := Scalar.muli v5 c2_i32_96
  let v121 : BitVec 32 := Scalar.addi v119 v120
  let c1_i32_89 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v117 : BitVec 32 := Scalar.subi c1_i32_89 v8
  let c1_i32_97 : BitVec 32 := 1#32
  let v122 : BitVec 32 := Scalar.muli v117 c1_i32_97
  let v123 : BitVec 32 := Scalar.addi v121 v122
  v123.toNat
def k0_dev9 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_105 : BitVec 32 := 4#32
  let v131 : BitVec 32 := Scalar.muli v2 c4_i32_105
  let v132 : BitVec 32 := Scalar.addi c0_i32_106 v131
  let c1_i32_100 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v130 : BitVec 32 := Scalar.subi c1_i32_100 v5
  let c2_i32_107 : BitVec 32 := 2#32
  let v133 : BitVec 32 := Scalar.muli v130 c2_i32_107
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v135 : BitVec 32 := Scalar.muli v8 c1_i32_108
  let v136 : BitVec 32 := Scalar.addi v134 v135
  v136.toNat
def k0_dev10 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v145 : BitVec 32 := Scalar.muli v2 c4_i32_117
  let v146 : BitVec 32 := Scalar.addi c0_i32_118 v145
  let c1_i32_111 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v143 : BitVec 32 := Scalar.subi c1_i32_111 v5
  let c2_i32_119 : BitVec 32 := 2#32
  let v147 : BitVec 32 := Scalar.muli v143 c2_i32_119
  let v148 : BitVec 32 := Scalar.addi v146 v147
  let c1_i32_112 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v144 : BitVec 32 := Scalar.subi c1_i32_112 v8
  let c1_i32_120 : BitVec 32 := 1#32
  let v149 : BitVec 32 := Scalar.muli v144 c1_i32_120
  let v150 : BitVec 32 := Scalar.addi v148 v149
  v150.toNat
def k0_dev11 (d0 : Dev nD) : Nat :=
  let c0_i32_129 : BitVec 32 := 0#32
  let c1_i32_123 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v157 : BitVec 32 := Scalar.subi c1_i32_123 v2
  let c4_i32_128 : BitVec 32 := 4#32
  let v158 : BitVec 32 := Scalar.muli v157 c4_i32_128
  let v159 : BitVec 32 := Scalar.addi c0_i32_129 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v160 : BitVec 32 := Scalar.muli v5 c2_i32_130
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v162 : BitVec 32 := Scalar.muli v8 c1_i32_131
  let v163 : BitVec 32 := Scalar.addi v161 v162
  v163.toNat
def k0_dev12 (d0 : Dev nD) : Nat :=
  let c0_i32_141 : BitVec 32 := 0#32
  let c1_i32_134 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v170 : BitVec 32 := Scalar.subi c1_i32_134 v2
  let c4_i32_140 : BitVec 32 := 4#32
  let v172 : BitVec 32 := Scalar.muli v170 c4_i32_140
  let v173 : BitVec 32 := Scalar.addi c0_i32_141 v172
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v174 : BitVec 32 := Scalar.muli v5 c2_i32_142
  let v175 : BitVec 32 := Scalar.addi v173 v174
  let c1_i32_135 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v171 : BitVec 32 := Scalar.subi c1_i32_135 v8
  let c1_i32_143 : BitVec 32 := 1#32
  let v176 : BitVec 32 := Scalar.muli v171 c1_i32_143
  let v177 : BitVec 32 := Scalar.addi v175 v176
  v177.toNat
def k0_dev13 (d0 : Dev nD) : Nat :=
  let c0_i32_153 : BitVec 32 := 0#32
  let c1_i32_146 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v184 : BitVec 32 := Scalar.subi c1_i32_146 v2
  let c4_i32_152 : BitVec 32 := 4#32
  let v186 : BitVec 32 := Scalar.muli v184 c4_i32_152
  let v187 : BitVec 32 := Scalar.addi c0_i32_153 v186
  let c1_i32_147 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v185 : BitVec 32 := Scalar.subi c1_i32_147 v5
  let c2_i32_154 : BitVec 32 := 2#32
  let v188 : BitVec 32 := Scalar.muli v185 c2_i32_154
  let v189 : BitVec 32 := Scalar.addi v187 v188
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_155 : BitVec 32 := 1#32
  let v190 : BitVec 32 := Scalar.muli v8 c1_i32_155
  let v191 : BitVec 32 := Scalar.addi v189 v190
  v191.toNat
def k0_dev14 (d0 : Dev nD) : Nat :=
  let c0_i32_166 : BitVec 32 := 0#32
  let c1_i32_158 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v198 : BitVec 32 := Scalar.subi c1_i32_158 v2
  let c4_i32_165 : BitVec 32 := 4#32
  let v201 : BitVec 32 := Scalar.muli v198 c4_i32_165
  let v202 : BitVec 32 := Scalar.addi c0_i32_166 v201
  let c1_i32_159 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v199 : BitVec 32 := Scalar.subi c1_i32_159 v5
  let c2_i32_167 : BitVec 32 := 2#32
  let v203 : BitVec 32 := Scalar.muli v199 c2_i32_167
  let v204 : BitVec 32 := Scalar.addi v202 v203
  let c1_i32_160 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v200 : BitVec 32 := Scalar.subi c1_i32_160 v8
  let c1_i32_168 : BitVec 32 := 1#32
  let v205 : BitVec 32 := Scalar.muli v200 c1_i32_168
  let v206 : BitVec 32 := Scalar.addi v204 v205
  v206.toNat
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_172 : BitVec 32 := 0#32
  let c0_i32_173 : BitVec 32 := 0#32
  ![v12.toNat, 0, 0]
def k0_dev15 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_179 : BitVec 32 := 4#32
  let v218 : BitVec 32 := Scalar.muli v2 c4_i32_179
  let v219 : BitVec 32 := Scalar.addi c0_i32_180 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_181 : BitVec 32 := 2#32
  let v220 : BitVec 32 := Scalar.muli v5 c2_i32_181
  let v221 : BitVec 32 := Scalar.addi v219 v220
  let c1_i32_174 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v217 : BitVec 32 := Scalar.subi c1_i32_174 v8
  let c1_i32_182 : BitVec 32 := 1#32
  let v222 : BitVec 32 := Scalar.muli v217 c1_i32_182
  let v223 : BitVec 32 := Scalar.addi v221 v222
  v223.toNat
def k0_dev16 (d0 : Dev nD) : Nat :=
  let c0_i32_191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_190 : BitVec 32 := 4#32
  let v231 : BitVec 32 := Scalar.muli v2 c4_i32_190
  let v232 : BitVec 32 := Scalar.addi c0_i32_191 v231
  let c1_i32_185 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v230 : BitVec 32 := Scalar.subi c1_i32_185 v5
  let c2_i32_192 : BitVec 32 := 2#32
  let v233 : BitVec 32 := Scalar.muli v230 c2_i32_192
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_193 : BitVec 32 := 1#32
  let v235 : BitVec 32 := Scalar.muli v8 c1_i32_193
  let v236 : BitVec 32 := Scalar.addi v234 v235
  v236.toNat
def k0_dev17 (d0 : Dev nD) : Nat :=
  let c0_i32_203 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_202 : BitVec 32 := 4#32
  let v245 : BitVec 32 := Scalar.muli v2 c4_i32_202
  let v246 : BitVec 32 := Scalar.addi c0_i32_203 v245
  let c1_i32_196 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v243 : BitVec 32 := Scalar.subi c1_i32_196 v5
  let c2_i32_204 : BitVec 32 := 2#32
  let v247 : BitVec 32 := Scalar.muli v243 c2_i32_204
  let v248 : BitVec 32 := Scalar.addi v246 v247
  let c1_i32_197 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v244 : BitVec 32 := Scalar.subi c1_i32_197 v8
  let c1_i32_205 : BitVec 32 := 1#32
  let v249 : BitVec 32 := Scalar.muli v244 c1_i32_205
  let v250 : BitVec 32 := Scalar.addi v248 v249
  v250.toNat
def k0_dev18 (d0 : Dev nD) : Nat :=
  let c0_i32_214 : BitVec 32 := 0#32
  let c1_i32_208 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v257 : BitVec 32 := Scalar.subi c1_i32_208 v2
  let c4_i32_213 : BitVec 32 := 4#32
  let v258 : BitVec 32 := Scalar.muli v257 c4_i32_213
  let v259 : BitVec 32 := Scalar.addi c0_i32_214 v258
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v260 : BitVec 32 := Scalar.muli v5 c2_i32_215
  let v261 : BitVec 32 := Scalar.addi v259 v260
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_216 : BitVec 32 := 1#32
  let v262 : BitVec 32 := Scalar.muli v8 c1_i32_216
  let v263 : BitVec 32 := Scalar.addi v261 v262
  v263.toNat
def k0_dev19 (d0 : Dev nD) : Nat :=
  let c0_i32_226 : BitVec 32 := 0#32
  let c1_i32_219 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v270 : BitVec 32 := Scalar.subi c1_i32_219 v2
  let c4_i32_225 : BitVec 32 := 4#32
  let v272 : BitVec 32 := Scalar.muli v270 c4_i32_225
  let v273 : BitVec 32 := Scalar.addi c0_i32_226 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_227 : BitVec 32 := 2#32
  let v274 : BitVec 32 := Scalar.muli v5 c2_i32_227
  let v275 : BitVec 32 := Scalar.addi v273 v274
  let c1_i32_220 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v271 : BitVec 32 := Scalar.subi c1_i32_220 v8
  let c1_i32_228 : BitVec 32 := 1#32
  let v276 : BitVec 32 := Scalar.muli v271 c1_i32_228
  let v277 : BitVec 32 := Scalar.addi v275 v276
  v277.toNat
def k0_dev20 (d0 : Dev nD) : Nat :=
  let c0_i32_238 : BitVec 32 := 0#32
  let c1_i32_231 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v284 : BitVec 32 := Scalar.subi c1_i32_231 v2
  let c4_i32_237 : BitVec 32 := 4#32
  let v286 : BitVec 32 := Scalar.muli v284 c4_i32_237
  let v287 : BitVec 32 := Scalar.addi c0_i32_238 v286
  let c1_i32_232 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v285 : BitVec 32 := Scalar.subi c1_i32_232 v5
  let c2_i32_239 : BitVec 32 := 2#32
  let v288 : BitVec 32 := Scalar.muli v285 c2_i32_239
  let v289 : BitVec 32 := Scalar.addi v287 v288
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_240 : BitVec 32 := 1#32
  let v290 : BitVec 32 := Scalar.muli v8 c1_i32_240
  let v291 : BitVec 32 := Scalar.addi v289 v290
  v291.toNat
def k0_dev21 (d0 : Dev nD) : Nat :=
  let c0_i32_251 : BitVec 32 := 0#32
  let c1_i32_243 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v298 : BitVec 32 := Scalar.subi c1_i32_243 v2
  let c4_i32_250 : BitVec 32 := 4#32
  let v301 : BitVec 32 := Scalar.muli v298 c4_i32_250
  let v302 : BitVec 32 := Scalar.addi c0_i32_251 v301
  let c1_i32_244 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v299 : BitVec 32 := Scalar.subi c1_i32_244 v5
  let c2_i32_252 : BitVec 32 := 2#32
  let v303 : BitVec 32 := Scalar.muli v299 c2_i32_252
  let v304 : BitVec 32 := Scalar.addi v302 v303
  let c1_i32_245 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v300 : BitVec 32 := Scalar.subi c1_i32_245 v8
  let c1_i32_253 : BitVec 32 := 1#32
  let v305 : BitVec 32 := Scalar.muli v300 c1_i32_253
  let v306 : BitVec 32 := Scalar.addi v304 v305
  v306.toNat
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_257 : BitVec 32 := 0#32
  let c0_i32_258 : BitVec 32 := 0#32
  ![v12.toNat, 0, 0]
def k0_dev22 (d0 : Dev nD) : Nat :=
  let c0_i32_265 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_264 : BitVec 32 := 4#32
  let v318 : BitVec 32 := Scalar.muli v2 c4_i32_264
  let v319 : BitVec 32 := Scalar.addi c0_i32_265 v318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_266 : BitVec 32 := 2#32
  let v320 : BitVec 32 := Scalar.muli v5 c2_i32_266
  let v321 : BitVec 32 := Scalar.addi v319 v320
  let c1_i32_259 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v317 : BitVec 32 := Scalar.subi c1_i32_259 v8
  let c1_i32_267 : BitVec 32 := 1#32
  let v322 : BitVec 32 := Scalar.muli v317 c1_i32_267
  let v323 : BitVec 32 := Scalar.addi v321 v322
  v323.toNat
def k0_dev23 (d0 : Dev nD) : Nat :=
  let c0_i32_276 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_275 : BitVec 32 := 4#32
  let v331 : BitVec 32 := Scalar.muli v2 c4_i32_275
  let v332 : BitVec 32 := Scalar.addi c0_i32_276 v331
  let c1_i32_270 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v330 : BitVec 32 := Scalar.subi c1_i32_270 v5
  let c2_i32_277 : BitVec 32 := 2#32
  let v333 : BitVec 32 := Scalar.muli v330 c2_i32_277
  let v334 : BitVec 32 := Scalar.addi v332 v333
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_278 : BitVec 32 := 1#32
  let v335 : BitVec 32 := Scalar.muli v8 c1_i32_278
  let v336 : BitVec 32 := Scalar.addi v334 v335
  v336.toNat
def k0_dev24 (d0 : Dev nD) : Nat :=
  let c0_i32_288 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_287 : BitVec 32 := 4#32
  let v345 : BitVec 32 := Scalar.muli v2 c4_i32_287
  let v346 : BitVec 32 := Scalar.addi c0_i32_288 v345
  let c1_i32_281 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v343 : BitVec 32 := Scalar.subi c1_i32_281 v5
  let c2_i32_289 : BitVec 32 := 2#32
  let v347 : BitVec 32 := Scalar.muli v343 c2_i32_289
  let v348 : BitVec 32 := Scalar.addi v346 v347
  let c1_i32_282 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v344 : BitVec 32 := Scalar.subi c1_i32_282 v8
  let c1_i32_290 : BitVec 32 := 1#32
  let v349 : BitVec 32 := Scalar.muli v344 c1_i32_290
  let v350 : BitVec 32 := Scalar.addi v348 v349
  v350.toNat
def k0_dev25 (d0 : Dev nD) : Nat :=
  let c0_i32_299 : BitVec 32 := 0#32
  let c1_i32_293 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v357 : BitVec 32 := Scalar.subi c1_i32_293 v2
  let c4_i32_298 : BitVec 32 := 4#32
  let v358 : BitVec 32 := Scalar.muli v357 c4_i32_298
  let v359 : BitVec 32 := Scalar.addi c0_i32_299 v358
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_300 : BitVec 32 := 2#32
  let v360 : BitVec 32 := Scalar.muli v5 c2_i32_300
  let v361 : BitVec 32 := Scalar.addi v359 v360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_301 : BitVec 32 := 1#32
  let v362 : BitVec 32 := Scalar.muli v8 c1_i32_301
  let v363 : BitVec 32 := Scalar.addi v361 v362
  v363.toNat
def k0_dev26 (d0 : Dev nD) : Nat :=
  let c0_i32_311 : BitVec 32 := 0#32
  let c1_i32_304 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v370 : BitVec 32 := Scalar.subi c1_i32_304 v2
  let c4_i32_310 : BitVec 32 := 4#32
  let v372 : BitVec 32 := Scalar.muli v370 c4_i32_310
  let v373 : BitVec 32 := Scalar.addi c0_i32_311 v372
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_312 : BitVec 32 := 2#32
  let v374 : BitVec 32 := Scalar.muli v5 c2_i32_312
  let v375 : BitVec 32 := Scalar.addi v373 v374
  let c1_i32_305 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v371 : BitVec 32 := Scalar.subi c1_i32_305 v8
  let c1_i32_313 : BitVec 32 := 1#32
  let v376 : BitVec 32 := Scalar.muli v371 c1_i32_313
  let v377 : BitVec 32 := Scalar.addi v375 v376
  v377.toNat
def k0_dev27 (d0 : Dev nD) : Nat :=
  let c0_i32_323 : BitVec 32 := 0#32
  let c1_i32_316 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v384 : BitVec 32 := Scalar.subi c1_i32_316 v2
  let c4_i32_322 : BitVec 32 := 4#32
  let v386 : BitVec 32 := Scalar.muli v384 c4_i32_322
  let v387 : BitVec 32 := Scalar.addi c0_i32_323 v386
  let c1_i32_317 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v385 : BitVec 32 := Scalar.subi c1_i32_317 v5
  let c2_i32_324 : BitVec 32 := 2#32
  let v388 : BitVec 32 := Scalar.muli v385 c2_i32_324
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_325 : BitVec 32 := 1#32
  let v390 : BitVec 32 := Scalar.muli v8 c1_i32_325
  let v391 : BitVec 32 := Scalar.addi v389 v390
  v391.toNat
def k0_dev28 (d0 : Dev nD) : Nat :=
  let c0_i32_336 : BitVec 32 := 0#32
  let c1_i32_328 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v398 : BitVec 32 := Scalar.subi c1_i32_328 v2
  let c4_i32_335 : BitVec 32 := 4#32
  let v401 : BitVec 32 := Scalar.muli v398 c4_i32_335
  let v402 : BitVec 32 := Scalar.addi c0_i32_336 v401
  let c1_i32_329 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v399 : BitVec 32 := Scalar.subi c1_i32_329 v5
  let c2_i32_337 : BitVec 32 := 2#32
  let v403 : BitVec 32 := Scalar.muli v399 c2_i32_337
  let v404 : BitVec 32 := Scalar.addi v402 v403
  let c1_i32_330 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v400 : BitVec 32 := Scalar.subi c1_i32_330 v8
  let c1_i32_338 : BitVec 32 := 1#32
  let v405 : BitVec 32 := Scalar.muli v400 c1_i32_338
  let v406 : BitVec 32 := Scalar.addi v404 v405
  v406.toNat
def k0_off5 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_342 : BitVec 32 := 0#32
  let c0_i32_343 : BitVec 32 := 0#32
  ![v12.toNat, 0, 0]
def k0_dev29 (d0 : Dev nD) : Nat :=
  let c0_i32_350 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_349 : BitVec 32 := 4#32
  let v418 : BitVec 32 := Scalar.muli v2 c4_i32_349
  let v419 : BitVec 32 := Scalar.addi c0_i32_350 v418
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_351 : BitVec 32 := 2#32
  let v420 : BitVec 32 := Scalar.muli v5 c2_i32_351
  let v421 : BitVec 32 := Scalar.addi v419 v420
  let c1_i32_344 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v417 : BitVec 32 := Scalar.subi c1_i32_344 v8
  let c1_i32_352 : BitVec 32 := 1#32
  let v422 : BitVec 32 := Scalar.muli v417 c1_i32_352
  let v423 : BitVec 32 := Scalar.addi v421 v422
  v423.toNat
def k0_dev30 (d0 : Dev nD) : Nat :=
  let c0_i32_361 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_360 : BitVec 32 := 4#32
  let v431 : BitVec 32 := Scalar.muli v2 c4_i32_360
  let v432 : BitVec 32 := Scalar.addi c0_i32_361 v431
  let c1_i32_355 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v430 : BitVec 32 := Scalar.subi c1_i32_355 v5
  let c2_i32_362 : BitVec 32 := 2#32
  let v433 : BitVec 32 := Scalar.muli v430 c2_i32_362
  let v434 : BitVec 32 := Scalar.addi v432 v433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_363 : BitVec 32 := 1#32
  let v435 : BitVec 32 := Scalar.muli v8 c1_i32_363
  let v436 : BitVec 32 := Scalar.addi v434 v435
  v436.toNat
def k0_dev31 (d0 : Dev nD) : Nat :=
  let c0_i32_373 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_372 : BitVec 32 := 4#32
  let v445 : BitVec 32 := Scalar.muli v2 c4_i32_372
  let v446 : BitVec 32 := Scalar.addi c0_i32_373 v445
  let c1_i32_366 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v443 : BitVec 32 := Scalar.subi c1_i32_366 v5
  let c2_i32_374 : BitVec 32 := 2#32
  let v447 : BitVec 32 := Scalar.muli v443 c2_i32_374
  let v448 : BitVec 32 := Scalar.addi v446 v447
  let c1_i32_367 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v444 : BitVec 32 := Scalar.subi c1_i32_367 v8
  let c1_i32_375 : BitVec 32 := 1#32
  let v449 : BitVec 32 := Scalar.muli v444 c1_i32_375
  let v450 : BitVec 32 := Scalar.addi v448 v449
  v450.toNat
def k0_dev32 (d0 : Dev nD) : Nat :=
  let c0_i32_384 : BitVec 32 := 0#32
  let c1_i32_378 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v457 : BitVec 32 := Scalar.subi c1_i32_378 v2
  let c4_i32_383 : BitVec 32 := 4#32
  let v458 : BitVec 32 := Scalar.muli v457 c4_i32_383
  let v459 : BitVec 32 := Scalar.addi c0_i32_384 v458
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_385 : BitVec 32 := 2#32
  let v460 : BitVec 32 := Scalar.muli v5 c2_i32_385
  let v461 : BitVec 32 := Scalar.addi v459 v460
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_386 : BitVec 32 := 1#32
  let v462 : BitVec 32 := Scalar.muli v8 c1_i32_386
  let v463 : BitVec 32 := Scalar.addi v461 v462
  v463.toNat
def k0_dev33 (d0 : Dev nD) : Nat :=
  let c0_i32_396 : BitVec 32 := 0#32
  let c1_i32_389 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v470 : BitVec 32 := Scalar.subi c1_i32_389 v2
  let c4_i32_395 : BitVec 32 := 4#32
  let v472 : BitVec 32 := Scalar.muli v470 c4_i32_395
  let v473 : BitVec 32 := Scalar.addi c0_i32_396 v472
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_397 : BitVec 32 := 2#32
  let v474 : BitVec 32 := Scalar.muli v5 c2_i32_397
  let v475 : BitVec 32 := Scalar.addi v473 v474
  let c1_i32_390 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v471 : BitVec 32 := Scalar.subi c1_i32_390 v8
  let c1_i32_398 : BitVec 32 := 1#32
  let v476 : BitVec 32 := Scalar.muli v471 c1_i32_398
  let v477 : BitVec 32 := Scalar.addi v475 v476
  v477.toNat
def k0_dev34 (d0 : Dev nD) : Nat :=
  let c0_i32_408 : BitVec 32 := 0#32
  let c1_i32_401 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v484 : BitVec 32 := Scalar.subi c1_i32_401 v2
  let c4_i32_407 : BitVec 32 := 4#32
  let v486 : BitVec 32 := Scalar.muli v484 c4_i32_407
  let v487 : BitVec 32 := Scalar.addi c0_i32_408 v486
  let c1_i32_402 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v485 : BitVec 32 := Scalar.subi c1_i32_402 v5
  let c2_i32_409 : BitVec 32 := 2#32
  let v488 : BitVec 32 := Scalar.muli v485 c2_i32_409
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_410 : BitVec 32 := 1#32
  let v490 : BitVec 32 := Scalar.muli v8 c1_i32_410
  let v491 : BitVec 32 := Scalar.addi v489 v490
  v491.toNat
def k0_dev35 (d0 : Dev nD) : Nat :=
  let c0_i32_421 : BitVec 32 := 0#32
  let c1_i32_413 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v498 : BitVec 32 := Scalar.subi c1_i32_413 v2
  let c4_i32_420 : BitVec 32 := 4#32
  let v501 : BitVec 32 := Scalar.muli v498 c4_i32_420
  let v502 : BitVec 32 := Scalar.addi c0_i32_421 v501
  let c1_i32_414 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v499 : BitVec 32 := Scalar.subi c1_i32_414 v5
  let c2_i32_422 : BitVec 32 := 2#32
  let v503 : BitVec 32 := Scalar.muli v499 c2_i32_422
  let v504 : BitVec 32 := Scalar.addi v502 v503
  let c1_i32_415 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v500 : BitVec 32 := Scalar.subi c1_i32_415 v8
  let c1_i32_423 : BitVec 32 := 1#32
  let v505 : BitVec 32 := Scalar.muli v500 c1_i32_423
  let v506 : BitVec 32 := Scalar.addi v504 v505
  v506.toNat
def k0_dev36 (d0 : Dev nD) : Nat :=
  let c0_i32_435 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_434 : BitVec 32 := 4#32
  let v518 : BitVec 32 := Scalar.muli v2 c4_i32_434
  let v519 : BitVec 32 := Scalar.addi c0_i32_435 v518
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_436 : BitVec 32 := 2#32
  let v520 : BitVec 32 := Scalar.muli v5 c2_i32_436
  let v521 : BitVec 32 := Scalar.addi v519 v520
  let c1_i32_429 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v517 : BitVec 32 := Scalar.subi c1_i32_429 v8
  let c1_i32_437 : BitVec 32 := 1#32
  let v522 : BitVec 32 := Scalar.muli v517 c1_i32_437
  let v523 : BitVec 32 := Scalar.addi v521 v522
  v523.toNat
def k0_dev37 (d0 : Dev nD) : Nat :=
  let c0_i32_446 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_445 : BitVec 32 := 4#32
  let v531 : BitVec 32 := Scalar.muli v2 c4_i32_445
  let v532 : BitVec 32 := Scalar.addi c0_i32_446 v531
  let c1_i32_440 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v530 : BitVec 32 := Scalar.subi c1_i32_440 v5
  let c2_i32_447 : BitVec 32 := 2#32
  let v533 : BitVec 32 := Scalar.muli v530 c2_i32_447
  let v534 : BitVec 32 := Scalar.addi v532 v533
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_448 : BitVec 32 := 1#32
  let v535 : BitVec 32 := Scalar.muli v8 c1_i32_448
  let v536 : BitVec 32 := Scalar.addi v534 v535
  v536.toNat
def k0_dev38 (d0 : Dev nD) : Nat :=
  let c0_i32_458 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_457 : BitVec 32 := 4#32
  let v545 : BitVec 32 := Scalar.muli v2 c4_i32_457
  let v546 : BitVec 32 := Scalar.addi c0_i32_458 v545
  let c1_i32_451 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v543 : BitVec 32 := Scalar.subi c1_i32_451 v5
  let c2_i32_459 : BitVec 32 := 2#32
  let v547 : BitVec 32 := Scalar.muli v543 c2_i32_459
  let v548 : BitVec 32 := Scalar.addi v546 v547
  let c1_i32_452 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v544 : BitVec 32 := Scalar.subi c1_i32_452 v8
  let c1_i32_460 : BitVec 32 := 1#32
  let v549 : BitVec 32 := Scalar.muli v544 c1_i32_460
  let v550 : BitVec 32 := Scalar.addi v548 v549
  v550.toNat
def k0_dev39 (d0 : Dev nD) : Nat :=
  let c0_i32_469 : BitVec 32 := 0#32
  let c1_i32_463 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v557 : BitVec 32 := Scalar.subi c1_i32_463 v2
  let c4_i32_468 : BitVec 32 := 4#32
  let v558 : BitVec 32 := Scalar.muli v557 c4_i32_468
  let v559 : BitVec 32 := Scalar.addi c0_i32_469 v558
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_470 : BitVec 32 := 2#32
  let v560 : BitVec 32 := Scalar.muli v5 c2_i32_470
  let v561 : BitVec 32 := Scalar.addi v559 v560
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_471 : BitVec 32 := 1#32
  let v562 : BitVec 32 := Scalar.muli v8 c1_i32_471
  let v563 : BitVec 32 := Scalar.addi v561 v562
  v563.toNat
def k0_dev40 (d0 : Dev nD) : Nat :=
  let c0_i32_481 : BitVec 32 := 0#32
  let c1_i32_474 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v570 : BitVec 32 := Scalar.subi c1_i32_474 v2
  let c4_i32_480 : BitVec 32 := 4#32
  let v572 : BitVec 32 := Scalar.muli v570 c4_i32_480
  let v573 : BitVec 32 := Scalar.addi c0_i32_481 v572
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_482 : BitVec 32 := 2#32
  let v574 : BitVec 32 := Scalar.muli v5 c2_i32_482
  let v575 : BitVec 32 := Scalar.addi v573 v574
  let c1_i32_475 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v571 : BitVec 32 := Scalar.subi c1_i32_475 v8
  let c1_i32_483 : BitVec 32 := 1#32
  let v576 : BitVec 32 := Scalar.muli v571 c1_i32_483
  let v577 : BitVec 32 := Scalar.addi v575 v576
  v577.toNat
def k0_dev41 (d0 : Dev nD) : Nat :=
  let c0_i32_493 : BitVec 32 := 0#32
  let c1_i32_486 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v584 : BitVec 32 := Scalar.subi c1_i32_486 v2
  let c4_i32_492 : BitVec 32 := 4#32
  let v586 : BitVec 32 := Scalar.muli v584 c4_i32_492
  let v587 : BitVec 32 := Scalar.addi c0_i32_493 v586
  let c1_i32_487 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v585 : BitVec 32 := Scalar.subi c1_i32_487 v5
  let c2_i32_494 : BitVec 32 := 2#32
  let v588 : BitVec 32 := Scalar.muli v585 c2_i32_494
  let v589 : BitVec 32 := Scalar.addi v587 v588
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_495 : BitVec 32 := 1#32
  let v590 : BitVec 32 := Scalar.muli v8 c1_i32_495
  let v591 : BitVec 32 := Scalar.addi v589 v590
  v591.toNat
def k0_dev42 (d0 : Dev nD) : Nat :=
  let c0_i32_506 : BitVec 32 := 0#32
  let c1_i32_498 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v598 : BitVec 32 := Scalar.subi c1_i32_498 v2
  let c4_i32_505 : BitVec 32 := 4#32
  let v601 : BitVec 32 := Scalar.muli v598 c4_i32_505
  let v602 : BitVec 32 := Scalar.addi c0_i32_506 v601
  let c1_i32_499 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v599 : BitVec 32 := Scalar.subi c1_i32_499 v5
  let c2_i32_507 : BitVec 32 := 2#32
  let v603 : BitVec 32 := Scalar.muli v599 c2_i32_507
  let v604 : BitVec 32 := Scalar.addi v602 v603
  let c1_i32_500 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v600 : BitVec 32 := Scalar.subi c1_i32_500 v8
  let c1_i32_508 : BitVec 32 := 1#32
  let v605 : BitVec 32 := Scalar.muli v600 c1_i32_508
  let v606 : BitVec 32 := Scalar.addi v604 v605
  v606.toNat
def k0_dev43 (d0 : Dev nD) : Nat :=
  let c0_i32_520 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_519 : BitVec 32 := 4#32
  let v618 : BitVec 32 := Scalar.muli v2 c4_i32_519
  let v619 : BitVec 32 := Scalar.addi c0_i32_520 v618
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_521 : BitVec 32 := 2#32
  let v620 : BitVec 32 := Scalar.muli v5 c2_i32_521
  let v621 : BitVec 32 := Scalar.addi v619 v620
  let c1_i32_514 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v617 : BitVec 32 := Scalar.subi c1_i32_514 v8
  let c1_i32_522 : BitVec 32 := 1#32
  let v622 : BitVec 32 := Scalar.muli v617 c1_i32_522
  let v623 : BitVec 32 := Scalar.addi v621 v622
  v623.toNat
def k0_dev44 (d0 : Dev nD) : Nat :=
  let c0_i32_531 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_530 : BitVec 32 := 4#32
  let v631 : BitVec 32 := Scalar.muli v2 c4_i32_530
  let v632 : BitVec 32 := Scalar.addi c0_i32_531 v631
  let c1_i32_525 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v630 : BitVec 32 := Scalar.subi c1_i32_525 v5
  let c2_i32_532 : BitVec 32 := 2#32
  let v633 : BitVec 32 := Scalar.muli v630 c2_i32_532
  let v634 : BitVec 32 := Scalar.addi v632 v633
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_533 : BitVec 32 := 1#32
  let v635 : BitVec 32 := Scalar.muli v8 c1_i32_533
  let v636 : BitVec 32 := Scalar.addi v634 v635
  v636.toNat
def k0_dev45 (d0 : Dev nD) : Nat :=
  let c0_i32_543 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_542 : BitVec 32 := 4#32
  let v645 : BitVec 32 := Scalar.muli v2 c4_i32_542
  let v646 : BitVec 32 := Scalar.addi c0_i32_543 v645
  let c1_i32_536 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v643 : BitVec 32 := Scalar.subi c1_i32_536 v5
  let c2_i32_544 : BitVec 32 := 2#32
  let v647 : BitVec 32 := Scalar.muli v643 c2_i32_544
  let v648 : BitVec 32 := Scalar.addi v646 v647
  let c1_i32_537 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v644 : BitVec 32 := Scalar.subi c1_i32_537 v8
  let c1_i32_545 : BitVec 32 := 1#32
  let v649 : BitVec 32 := Scalar.muli v644 c1_i32_545
  let v650 : BitVec 32 := Scalar.addi v648 v649
  v650.toNat
def k0_dev46 (d0 : Dev nD) : Nat :=
  let c0_i32_554 : BitVec 32 := 0#32
  let c1_i32_548 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v657 : BitVec 32 := Scalar.subi c1_i32_548 v2
  let c4_i32_553 : BitVec 32 := 4#32
  let v658 : BitVec 32 := Scalar.muli v657 c4_i32_553
  let v659 : BitVec 32 := Scalar.addi c0_i32_554 v658
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_555 : BitVec 32 := 2#32
  let v660 : BitVec 32 := Scalar.muli v5 c2_i32_555
  let v661 : BitVec 32 := Scalar.addi v659 v660
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_556 : BitVec 32 := 1#32
  let v662 : BitVec 32 := Scalar.muli v8 c1_i32_556
  let v663 : BitVec 32 := Scalar.addi v661 v662
  v663.toNat
def k0_dev47 (d0 : Dev nD) : Nat :=
  let c0_i32_566 : BitVec 32 := 0#32
  let c1_i32_559 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v670 : BitVec 32 := Scalar.subi c1_i32_559 v2
  let c4_i32_565 : BitVec 32 := 4#32
  let v672 : BitVec 32 := Scalar.muli v670 c4_i32_565
  let v673 : BitVec 32 := Scalar.addi c0_i32_566 v672
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_567 : BitVec 32 := 2#32
  let v674 : BitVec 32 := Scalar.muli v5 c2_i32_567
  let v675 : BitVec 32 := Scalar.addi v673 v674
  let c1_i32_560 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v671 : BitVec 32 := Scalar.subi c1_i32_560 v8
  let c1_i32_568 : BitVec 32 := 1#32
  let v676 : BitVec 32 := Scalar.muli v671 c1_i32_568
  let v677 : BitVec 32 := Scalar.addi v675 v676
  v677.toNat
def k0_dev48 (d0 : Dev nD) : Nat :=
  let c0_i32_578 : BitVec 32 := 0#32
  let c1_i32_571 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v684 : BitVec 32 := Scalar.subi c1_i32_571 v2
  let c4_i32_577 : BitVec 32 := 4#32
  let v686 : BitVec 32 := Scalar.muli v684 c4_i32_577
  let v687 : BitVec 32 := Scalar.addi c0_i32_578 v686
  let c1_i32_572 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v685 : BitVec 32 := Scalar.subi c1_i32_572 v5
  let c2_i32_579 : BitVec 32 := 2#32
  let v688 : BitVec 32 := Scalar.muli v685 c2_i32_579
  let v689 : BitVec 32 := Scalar.addi v687 v688
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_580 : BitVec 32 := 1#32
  let v690 : BitVec 32 := Scalar.muli v8 c1_i32_580
  let v691 : BitVec 32 := Scalar.addi v689 v690
  v691.toNat
def k0_dev49 (d0 : Dev nD) : Nat :=
  let c0_i32_591 : BitVec 32 := 0#32
  let c1_i32_583 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v698 : BitVec 32 := Scalar.subi c1_i32_583 v2
  let c4_i32_590 : BitVec 32 := 4#32
  let v701 : BitVec 32 := Scalar.muli v698 c4_i32_590
  let v702 : BitVec 32 := Scalar.addi c0_i32_591 v701
  let c1_i32_584 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v699 : BitVec 32 := Scalar.subi c1_i32_584 v5
  let c2_i32_592 : BitVec 32 := 2#32
  let v703 : BitVec 32 := Scalar.muli v699 c2_i32_592
  let v704 : BitVec 32 := Scalar.addi v702 v703
  let c1_i32_585 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v700 : BitVec 32 := Scalar.subi c1_i32_585 v8
  let c1_i32_593 : BitVec 32 := 1#32
  let v705 : BitVec 32 := Scalar.muli v700 c1_i32_593
  let v706 : BitVec 32 := Scalar.addi v704 v705
  v706.toNat
def k0_dev50 (d0 : Dev nD) : Nat :=
  let c0_i32_604 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_603 : BitVec 32 := 4#32
  let v718 : BitVec 32 := Scalar.muli v2 c4_i32_603
  let v719 : BitVec 32 := Scalar.addi c0_i32_604 v718
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_605 : BitVec 32 := 2#32
  let v720 : BitVec 32 := Scalar.muli v5 c2_i32_605
  let v721 : BitVec 32 := Scalar.addi v719 v720
  let c1_i32_598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v717 : BitVec 32 := Scalar.subi c1_i32_598 v8
  let c1_i32_606 : BitVec 32 := 1#32
  let v722 : BitVec 32 := Scalar.muli v717 c1_i32_606
  let v723 : BitVec 32 := Scalar.addi v721 v722
  v723.toNat
def k0_dev51 (d0 : Dev nD) : Nat :=
  let c0_i32_615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_614 : BitVec 32 := 4#32
  let v731 : BitVec 32 := Scalar.muli v2 c4_i32_614
  let v732 : BitVec 32 := Scalar.addi c0_i32_615 v731
  let c1_i32_609 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v730 : BitVec 32 := Scalar.subi c1_i32_609 v5
  let c2_i32_616 : BitVec 32 := 2#32
  let v733 : BitVec 32 := Scalar.muli v730 c2_i32_616
  let v734 : BitVec 32 := Scalar.addi v732 v733
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_617 : BitVec 32 := 1#32
  let v735 : BitVec 32 := Scalar.muli v8 c1_i32_617
  let v736 : BitVec 32 := Scalar.addi v734 v735
  v736.toNat
def k0_dev52 (d0 : Dev nD) : Nat :=
  let c0_i32_627 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_626 : BitVec 32 := 4#32
  let v745 : BitVec 32 := Scalar.muli v2 c4_i32_626
  let v746 : BitVec 32 := Scalar.addi c0_i32_627 v745
  let c1_i32_620 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v743 : BitVec 32 := Scalar.subi c1_i32_620 v5
  let c2_i32_628 : BitVec 32 := 2#32
  let v747 : BitVec 32 := Scalar.muli v743 c2_i32_628
  let v748 : BitVec 32 := Scalar.addi v746 v747
  let c1_i32_621 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v744 : BitVec 32 := Scalar.subi c1_i32_621 v8
  let c1_i32_629 : BitVec 32 := 1#32
  let v749 : BitVec 32 := Scalar.muli v744 c1_i32_629
  let v750 : BitVec 32 := Scalar.addi v748 v749
  v750.toNat
def k0_dev53 (d0 : Dev nD) : Nat :=
  let c0_i32_638 : BitVec 32 := 0#32
  let c1_i32_632 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v757 : BitVec 32 := Scalar.subi c1_i32_632 v2
  let c4_i32_637 : BitVec 32 := 4#32
  let v758 : BitVec 32 := Scalar.muli v757 c4_i32_637
  let v759 : BitVec 32 := Scalar.addi c0_i32_638 v758
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_639 : BitVec 32 := 2#32
  let v760 : BitVec 32 := Scalar.muli v5 c2_i32_639
  let v761 : BitVec 32 := Scalar.addi v759 v760
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_640 : BitVec 32 := 1#32
  let v762 : BitVec 32 := Scalar.muli v8 c1_i32_640
  let v763 : BitVec 32 := Scalar.addi v761 v762
  v763.toNat
def k0_dev54 (d0 : Dev nD) : Nat :=
  let c0_i32_650 : BitVec 32 := 0#32
  let c1_i32_643 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v770 : BitVec 32 := Scalar.subi c1_i32_643 v2
  let c4_i32_649 : BitVec 32 := 4#32
  let v772 : BitVec 32 := Scalar.muli v770 c4_i32_649
  let v773 : BitVec 32 := Scalar.addi c0_i32_650 v772
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_651 : BitVec 32 := 2#32
  let v774 : BitVec 32 := Scalar.muli v5 c2_i32_651
  let v775 : BitVec 32 := Scalar.addi v773 v774
  let c1_i32_644 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v771 : BitVec 32 := Scalar.subi c1_i32_644 v8
  let c1_i32_652 : BitVec 32 := 1#32
  let v776 : BitVec 32 := Scalar.muli v771 c1_i32_652
  let v777 : BitVec 32 := Scalar.addi v775 v776
  v777.toNat
def k0_dev55 (d0 : Dev nD) : Nat :=
  let c0_i32_662 : BitVec 32 := 0#32
  let c1_i32_655 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v784 : BitVec 32 := Scalar.subi c1_i32_655 v2
  let c4_i32_661 : BitVec 32 := 4#32
  let v786 : BitVec 32 := Scalar.muli v784 c4_i32_661
  let v787 : BitVec 32 := Scalar.addi c0_i32_662 v786
  let c1_i32_656 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v785 : BitVec 32 := Scalar.subi c1_i32_656 v5
  let c2_i32_663 : BitVec 32 := 2#32
  let v788 : BitVec 32 := Scalar.muli v785 c2_i32_663
  let v789 : BitVec 32 := Scalar.addi v787 v788
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_664 : BitVec 32 := 1#32
  let v790 : BitVec 32 := Scalar.muli v8 c1_i32_664
  let v791 : BitVec 32 := Scalar.addi v789 v790
  v791.toNat
def k0_dev56 (d0 : Dev nD) : Nat :=
  let c0_i32_675 : BitVec 32 := 0#32
  let c1_i32_667 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v798 : BitVec 32 := Scalar.subi c1_i32_667 v2
  let c4_i32_674 : BitVec 32 := 4#32
  let v801 : BitVec 32 := Scalar.muli v798 c4_i32_674
  let v802 : BitVec 32 := Scalar.addi c0_i32_675 v801
  let c1_i32_668 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v799 : BitVec 32 := Scalar.subi c1_i32_668 v5
  let c2_i32_676 : BitVec 32 := 2#32
  let v803 : BitVec 32 := Scalar.muli v799 c2_i32_676
  let v804 : BitVec 32 := Scalar.addi v802 v803
  let c1_i32_669 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v800 : BitVec 32 := Scalar.subi c1_i32_669 v8
  let c1_i32_677 : BitVec 32 := 1#32
  let v805 : BitVec 32 := Scalar.muli v800 c1_i32_677
  let v806 : BitVec 32 := Scalar.addi v804 v805
  v806.toNat
def k0_dev57 (d0 : Dev nD) : Nat :=
  let c0_i32_688 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_687 : BitVec 32 := 4#32
  let v818 : BitVec 32 := Scalar.muli v2 c4_i32_687
  let v819 : BitVec 32 := Scalar.addi c0_i32_688 v818
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_689 : BitVec 32 := 2#32
  let v820 : BitVec 32 := Scalar.muli v5 c2_i32_689
  let v821 : BitVec 32 := Scalar.addi v819 v820
  let c1_i32_682 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v817 : BitVec 32 := Scalar.subi c1_i32_682 v8
  let c1_i32_690 : BitVec 32 := 1#32
  let v822 : BitVec 32 := Scalar.muli v817 c1_i32_690
  let v823 : BitVec 32 := Scalar.addi v821 v822
  v823.toNat
def k0_dev58 (d0 : Dev nD) : Nat :=
  let c0_i32_699 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_698 : BitVec 32 := 4#32
  let v831 : BitVec 32 := Scalar.muli v2 c4_i32_698
  let v832 : BitVec 32 := Scalar.addi c0_i32_699 v831
  let c1_i32_693 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v830 : BitVec 32 := Scalar.subi c1_i32_693 v5
  let c2_i32_700 : BitVec 32 := 2#32
  let v833 : BitVec 32 := Scalar.muli v830 c2_i32_700
  let v834 : BitVec 32 := Scalar.addi v832 v833
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_701 : BitVec 32 := 1#32
  let v835 : BitVec 32 := Scalar.muli v8 c1_i32_701
  let v836 : BitVec 32 := Scalar.addi v834 v835
  v836.toNat
def k0_dev59 (d0 : Dev nD) : Nat :=
  let c0_i32_711 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_710 : BitVec 32 := 4#32
  let v845 : BitVec 32 := Scalar.muli v2 c4_i32_710
  let v846 : BitVec 32 := Scalar.addi c0_i32_711 v845
  let c1_i32_704 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v843 : BitVec 32 := Scalar.subi c1_i32_704 v5
  let c2_i32_712 : BitVec 32 := 2#32
  let v847 : BitVec 32 := Scalar.muli v843 c2_i32_712
  let v848 : BitVec 32 := Scalar.addi v846 v847
  let c1_i32_705 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v844 : BitVec 32 := Scalar.subi c1_i32_705 v8
  let c1_i32_713 : BitVec 32 := 1#32
  let v849 : BitVec 32 := Scalar.muli v844 c1_i32_713
  let v850 : BitVec 32 := Scalar.addi v848 v849
  v850.toNat
def k0_dev60 (d0 : Dev nD) : Nat :=
  let c0_i32_722 : BitVec 32 := 0#32
  let c1_i32_716 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v857 : BitVec 32 := Scalar.subi c1_i32_716 v2
  let c4_i32_721 : BitVec 32 := 4#32
  let v858 : BitVec 32 := Scalar.muli v857 c4_i32_721
  let v859 : BitVec 32 := Scalar.addi c0_i32_722 v858
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_723 : BitVec 32 := 2#32
  let v860 : BitVec 32 := Scalar.muli v5 c2_i32_723
  let v861 : BitVec 32 := Scalar.addi v859 v860
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_724 : BitVec 32 := 1#32
  let v862 : BitVec 32 := Scalar.muli v8 c1_i32_724
  let v863 : BitVec 32 := Scalar.addi v861 v862
  v863.toNat
def k0_dev61 (d0 : Dev nD) : Nat :=
  let c0_i32_734 : BitVec 32 := 0#32
  let c1_i32_727 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v870 : BitVec 32 := Scalar.subi c1_i32_727 v2
  let c4_i32_733 : BitVec 32 := 4#32
  let v872 : BitVec 32 := Scalar.muli v870 c4_i32_733
  let v873 : BitVec 32 := Scalar.addi c0_i32_734 v872
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_735 : BitVec 32 := 2#32
  let v874 : BitVec 32 := Scalar.muli v5 c2_i32_735
  let v875 : BitVec 32 := Scalar.addi v873 v874
  let c1_i32_728 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v871 : BitVec 32 := Scalar.subi c1_i32_728 v8
  let c1_i32_736 : BitVec 32 := 1#32
  let v876 : BitVec 32 := Scalar.muli v871 c1_i32_736
  let v877 : BitVec 32 := Scalar.addi v875 v876
  v877.toNat
def k0_dev62 (d0 : Dev nD) : Nat :=
  let c0_i32_746 : BitVec 32 := 0#32
  let c1_i32_739 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v884 : BitVec 32 := Scalar.subi c1_i32_739 v2
  let c4_i32_745 : BitVec 32 := 4#32
  let v886 : BitVec 32 := Scalar.muli v884 c4_i32_745
  let v887 : BitVec 32 := Scalar.addi c0_i32_746 v886
  let c1_i32_740 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v885 : BitVec 32 := Scalar.subi c1_i32_740 v5
  let c2_i32_747 : BitVec 32 := 2#32
  let v888 : BitVec 32 := Scalar.muli v885 c2_i32_747
  let v889 : BitVec 32 := Scalar.addi v887 v888
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_748 : BitVec 32 := 1#32
  let v890 : BitVec 32 := Scalar.muli v8 c1_i32_748
  let v891 : BitVec 32 := Scalar.addi v889 v890
  v891.toNat
def k0_dev63 (d0 : Dev nD) : Nat :=
  let c0_i32_759 : BitVec 32 := 0#32
  let c1_i32_751 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v898 : BitVec 32 := Scalar.subi c1_i32_751 v2
  let c4_i32_758 : BitVec 32 := 4#32
  let v901 : BitVec 32 := Scalar.muli v898 c4_i32_758
  let v902 : BitVec 32 := Scalar.addi c0_i32_759 v901
  let c1_i32_752 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v899 : BitVec 32 := Scalar.subi c1_i32_752 v5
  let c2_i32_760 : BitVec 32 := 2#32
  let v903 : BitVec 32 := Scalar.muli v899 c2_i32_760
  let v904 : BitVec 32 := Scalar.addi v902 v903
  let c1_i32_753 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v900 : BitVec 32 := Scalar.subi c1_i32_753 v8
  let c1_i32_761 : BitVec 32 := 1#32
  let v905 : BitVec 32 := Scalar.muli v900 c1_i32_761
  let v906 : BitVec 32 := Scalar.addi v904 v905
  v906.toNat
def k0_dev64 (d0 : Dev nD) : Nat :=
  let c0_i32_772 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_771 : BitVec 32 := 4#32
  let v918 : BitVec 32 := Scalar.muli v2 c4_i32_771
  let v919 : BitVec 32 := Scalar.addi c0_i32_772 v918
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_773 : BitVec 32 := 2#32
  let v920 : BitVec 32 := Scalar.muli v5 c2_i32_773
  let v921 : BitVec 32 := Scalar.addi v919 v920
  let c1_i32_766 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v917 : BitVec 32 := Scalar.subi c1_i32_766 v8
  let c1_i32_774 : BitVec 32 := 1#32
  let v922 : BitVec 32 := Scalar.muli v917 c1_i32_774
  let v923 : BitVec 32 := Scalar.addi v921 v922
  v923.toNat
def k0_dev65 (d0 : Dev nD) : Nat :=
  let c0_i32_783 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_782 : BitVec 32 := 4#32
  let v931 : BitVec 32 := Scalar.muli v2 c4_i32_782
  let v932 : BitVec 32 := Scalar.addi c0_i32_783 v931
  let c1_i32_777 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v930 : BitVec 32 := Scalar.subi c1_i32_777 v5
  let c2_i32_784 : BitVec 32 := 2#32
  let v933 : BitVec 32 := Scalar.muli v930 c2_i32_784
  let v934 : BitVec 32 := Scalar.addi v932 v933
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_785 : BitVec 32 := 1#32
  let v935 : BitVec 32 := Scalar.muli v8 c1_i32_785
  let v936 : BitVec 32 := Scalar.addi v934 v935
  v936.toNat
def k0_dev66 (d0 : Dev nD) : Nat :=
  let c0_i32_795 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_794 : BitVec 32 := 4#32
  let v945 : BitVec 32 := Scalar.muli v2 c4_i32_794
  let v946 : BitVec 32 := Scalar.addi c0_i32_795 v945
  let c1_i32_788 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v943 : BitVec 32 := Scalar.subi c1_i32_788 v5
  let c2_i32_796 : BitVec 32 := 2#32
  let v947 : BitVec 32 := Scalar.muli v943 c2_i32_796
  let v948 : BitVec 32 := Scalar.addi v946 v947
  let c1_i32_789 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v944 : BitVec 32 := Scalar.subi c1_i32_789 v8
  let c1_i32_797 : BitVec 32 := 1#32
  let v949 : BitVec 32 := Scalar.muli v944 c1_i32_797
  let v950 : BitVec 32 := Scalar.addi v948 v949
  v950.toNat
def k0_dev67 (d0 : Dev nD) : Nat :=
  let c0_i32_806 : BitVec 32 := 0#32
  let c1_i32_800 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v957 : BitVec 32 := Scalar.subi c1_i32_800 v2
  let c4_i32_805 : BitVec 32 := 4#32
  let v958 : BitVec 32 := Scalar.muli v957 c4_i32_805
  let v959 : BitVec 32 := Scalar.addi c0_i32_806 v958
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_807 : BitVec 32 := 2#32
  let v960 : BitVec 32 := Scalar.muli v5 c2_i32_807
  let v961 : BitVec 32 := Scalar.addi v959 v960
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_808 : BitVec 32 := 1#32
  let v962 : BitVec 32 := Scalar.muli v8 c1_i32_808
  let v963 : BitVec 32 := Scalar.addi v961 v962
  v963.toNat
def k0_dev68 (d0 : Dev nD) : Nat :=
  let c0_i32_818 : BitVec 32 := 0#32
  let c1_i32_811 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v970 : BitVec 32 := Scalar.subi c1_i32_811 v2
  let c4_i32_817 : BitVec 32 := 4#32
  let v972 : BitVec 32 := Scalar.muli v970 c4_i32_817
  let v973 : BitVec 32 := Scalar.addi c0_i32_818 v972
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_819 : BitVec 32 := 2#32
  let v974 : BitVec 32 := Scalar.muli v5 c2_i32_819
  let v975 : BitVec 32 := Scalar.addi v973 v974
  let c1_i32_812 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v971 : BitVec 32 := Scalar.subi c1_i32_812 v8
  let c1_i32_820 : BitVec 32 := 1#32
  let v976 : BitVec 32 := Scalar.muli v971 c1_i32_820
  let v977 : BitVec 32 := Scalar.addi v975 v976
  v977.toNat
def k0_dev69 (d0 : Dev nD) : Nat :=
  let c0_i32_830 : BitVec 32 := 0#32
  let c1_i32_823 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v984 : BitVec 32 := Scalar.subi c1_i32_823 v2
  let c4_i32_829 : BitVec 32 := 4#32
  let v986 : BitVec 32 := Scalar.muli v984 c4_i32_829
  let v987 : BitVec 32 := Scalar.addi c0_i32_830 v986
  let c1_i32_824 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v985 : BitVec 32 := Scalar.subi c1_i32_824 v5
  let c2_i32_831 : BitVec 32 := 2#32
  let v988 : BitVec 32 := Scalar.muli v985 c2_i32_831
  let v989 : BitVec 32 := Scalar.addi v987 v988
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_832 : BitVec 32 := 1#32
  let v990 : BitVec 32 := Scalar.muli v8 c1_i32_832
  let v991 : BitVec 32 := Scalar.addi v989 v990
  v991.toNat
def k0_dev70 (d0 : Dev nD) : Nat :=
  let c0_i32_843 : BitVec 32 := 0#32
  let c1_i32_835 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v998 : BitVec 32 := Scalar.subi c1_i32_835 v2
  let c4_i32_842 : BitVec 32 := 4#32
  let v1001 : BitVec 32 := Scalar.muli v998 c4_i32_842
  let v1002 : BitVec 32 := Scalar.addi c0_i32_843 v1001
  let c1_i32_836 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v999 : BitVec 32 := Scalar.subi c1_i32_836 v5
  let c2_i32_844 : BitVec 32 := 2#32
  let v1003 : BitVec 32 := Scalar.muli v999 c2_i32_844
  let v1004 : BitVec 32 := Scalar.addi v1002 v1003
  let c1_i32_837 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1000 : BitVec 32 := Scalar.subi c1_i32_837 v8
  let c1_i32_845 : BitVec 32 := 1#32
  let v1005 : BitVec 32 := Scalar.muli v1000 c1_i32_845
  let v1006 : BitVec 32 := Scalar.addi v1004 v1005
  v1006.toNat
def k0_dev71 (d0 : Dev nD) : Nat :=
  let c0_i32_856 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_855 : BitVec 32 := 4#32
  let v1018 : BitVec 32 := Scalar.muli v2 c4_i32_855
  let v1019 : BitVec 32 := Scalar.addi c0_i32_856 v1018
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_857 : BitVec 32 := 2#32
  let v1020 : BitVec 32 := Scalar.muli v5 c2_i32_857
  let v1021 : BitVec 32 := Scalar.addi v1019 v1020
  let c1_i32_850 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1017 : BitVec 32 := Scalar.subi c1_i32_850 v8
  let c1_i32_858 : BitVec 32 := 1#32
  let v1022 : BitVec 32 := Scalar.muli v1017 c1_i32_858
  let v1023 : BitVec 32 := Scalar.addi v1021 v1022
  v1023.toNat
def k0_dev72 (d0 : Dev nD) : Nat :=
  let c0_i32_867 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_866 : BitVec 32 := 4#32
  let v1031 : BitVec 32 := Scalar.muli v2 c4_i32_866
  let v1032 : BitVec 32 := Scalar.addi c0_i32_867 v1031
  let c1_i32_861 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1030 : BitVec 32 := Scalar.subi c1_i32_861 v5
  let c2_i32_868 : BitVec 32 := 2#32
  let v1033 : BitVec 32 := Scalar.muli v1030 c2_i32_868
  let v1034 : BitVec 32 := Scalar.addi v1032 v1033
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_869 : BitVec 32 := 1#32
  let v1035 : BitVec 32 := Scalar.muli v8 c1_i32_869
  let v1036 : BitVec 32 := Scalar.addi v1034 v1035
  v1036.toNat
def k0_dev73 (d0 : Dev nD) : Nat :=
  let c0_i32_879 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_878 : BitVec 32 := 4#32
  let v1045 : BitVec 32 := Scalar.muli v2 c4_i32_878
  let v1046 : BitVec 32 := Scalar.addi c0_i32_879 v1045
  let c1_i32_872 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1043 : BitVec 32 := Scalar.subi c1_i32_872 v5
  let c2_i32_880 : BitVec 32 := 2#32
  let v1047 : BitVec 32 := Scalar.muli v1043 c2_i32_880
  let v1048 : BitVec 32 := Scalar.addi v1046 v1047
  let c1_i32_873 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1044 : BitVec 32 := Scalar.subi c1_i32_873 v8
  let c1_i32_881 : BitVec 32 := 1#32
  let v1049 : BitVec 32 := Scalar.muli v1044 c1_i32_881
  let v1050 : BitVec 32 := Scalar.addi v1048 v1049
  v1050.toNat
def k0_dev74 (d0 : Dev nD) : Nat :=
  let c0_i32_890 : BitVec 32 := 0#32
  let c1_i32_884 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1057 : BitVec 32 := Scalar.subi c1_i32_884 v2
  let c4_i32_889 : BitVec 32 := 4#32
  let v1058 : BitVec 32 := Scalar.muli v1057 c4_i32_889
  let v1059 : BitVec 32 := Scalar.addi c0_i32_890 v1058
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_891 : BitVec 32 := 2#32
  let v1060 : BitVec 32 := Scalar.muli v5 c2_i32_891
  let v1061 : BitVec 32 := Scalar.addi v1059 v1060
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_892 : BitVec 32 := 1#32
  let v1062 : BitVec 32 := Scalar.muli v8 c1_i32_892
  let v1063 : BitVec 32 := Scalar.addi v1061 v1062
  v1063.toNat
def k0_dev75 (d0 : Dev nD) : Nat :=
  let c0_i32_902 : BitVec 32 := 0#32
  let c1_i32_895 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1070 : BitVec 32 := Scalar.subi c1_i32_895 v2
  let c4_i32_901 : BitVec 32 := 4#32
  let v1072 : BitVec 32 := Scalar.muli v1070 c4_i32_901
  let v1073 : BitVec 32 := Scalar.addi c0_i32_902 v1072
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_903 : BitVec 32 := 2#32
  let v1074 : BitVec 32 := Scalar.muli v5 c2_i32_903
  let v1075 : BitVec 32 := Scalar.addi v1073 v1074
  let c1_i32_896 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1071 : BitVec 32 := Scalar.subi c1_i32_896 v8
  let c1_i32_904 : BitVec 32 := 1#32
  let v1076 : BitVec 32 := Scalar.muli v1071 c1_i32_904
  let v1077 : BitVec 32 := Scalar.addi v1075 v1076
  v1077.toNat
def k0_dev76 (d0 : Dev nD) : Nat :=
  let c0_i32_914 : BitVec 32 := 0#32
  let c1_i32_907 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1084 : BitVec 32 := Scalar.subi c1_i32_907 v2
  let c4_i32_913 : BitVec 32 := 4#32
  let v1086 : BitVec 32 := Scalar.muli v1084 c4_i32_913
  let v1087 : BitVec 32 := Scalar.addi c0_i32_914 v1086
  let c1_i32_908 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1085 : BitVec 32 := Scalar.subi c1_i32_908 v5
  let c2_i32_915 : BitVec 32 := 2#32
  let v1088 : BitVec 32 := Scalar.muli v1085 c2_i32_915
  let v1089 : BitVec 32 := Scalar.addi v1087 v1088
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_916 : BitVec 32 := 1#32
  let v1090 : BitVec 32 := Scalar.muli v8 c1_i32_916
  let v1091 : BitVec 32 := Scalar.addi v1089 v1090
  v1091.toNat
def k0_dev77 (d0 : Dev nD) : Nat :=
  let c0_i32_927 : BitVec 32 := 0#32
  let c1_i32_919 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1098 : BitVec 32 := Scalar.subi c1_i32_919 v2
  let c4_i32_926 : BitVec 32 := 4#32
  let v1101 : BitVec 32 := Scalar.muli v1098 c4_i32_926
  let v1102 : BitVec 32 := Scalar.addi c0_i32_927 v1101
  let c1_i32_920 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1099 : BitVec 32 := Scalar.subi c1_i32_920 v5
  let c2_i32_928 : BitVec 32 := 2#32
  let v1103 : BitVec 32 := Scalar.muli v1099 c2_i32_928
  let v1104 : BitVec 32 := Scalar.addi v1102 v1103
  let c1_i32_921 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1100 : BitVec 32 := Scalar.subi c1_i32_921 v8
  let c1_i32_929 : BitVec 32 := 1#32
  let v1105 : BitVec 32 := Scalar.muli v1100 c1_i32_929
  let v1106 : BitVec 32 := Scalar.addi v1104 v1105
  v1106.toNat
def k0_dev78 (d0 : Dev nD) : Nat :=
  let c0_i32_940 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_939 : BitVec 32 := 4#32
  let v1118 : BitVec 32 := Scalar.muli v2 c4_i32_939
  let v1119 : BitVec 32 := Scalar.addi c0_i32_940 v1118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_941 : BitVec 32 := 2#32
  let v1120 : BitVec 32 := Scalar.muli v5 c2_i32_941
  let v1121 : BitVec 32 := Scalar.addi v1119 v1120
  let c1_i32_934 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1117 : BitVec 32 := Scalar.subi c1_i32_934 v8
  let c1_i32_942 : BitVec 32 := 1#32
  let v1122 : BitVec 32 := Scalar.muli v1117 c1_i32_942
  let v1123 : BitVec 32 := Scalar.addi v1121 v1122
  v1123.toNat
def k0_dev79 (d0 : Dev nD) : Nat :=
  let c0_i32_951 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_950 : BitVec 32 := 4#32
  let v1131 : BitVec 32 := Scalar.muli v2 c4_i32_950
  let v1132 : BitVec 32 := Scalar.addi c0_i32_951 v1131
  let c1_i32_945 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1130 : BitVec 32 := Scalar.subi c1_i32_945 v5
  let c2_i32_952 : BitVec 32 := 2#32
  let v1133 : BitVec 32 := Scalar.muli v1130 c2_i32_952
  let v1134 : BitVec 32 := Scalar.addi v1132 v1133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_953 : BitVec 32 := 1#32
  let v1135 : BitVec 32 := Scalar.muli v8 c1_i32_953
  let v1136 : BitVec 32 := Scalar.addi v1134 v1135
  v1136.toNat
def k0_dev80 (d0 : Dev nD) : Nat :=
  let c0_i32_963 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_962 : BitVec 32 := 4#32
  let v1145 : BitVec 32 := Scalar.muli v2 c4_i32_962
  let v1146 : BitVec 32 := Scalar.addi c0_i32_963 v1145
  let c1_i32_956 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1143 : BitVec 32 := Scalar.subi c1_i32_956 v5
  let c2_i32_964 : BitVec 32 := 2#32
  let v1147 : BitVec 32 := Scalar.muli v1143 c2_i32_964
  let v1148 : BitVec 32 := Scalar.addi v1146 v1147
  let c1_i32_957 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1144 : BitVec 32 := Scalar.subi c1_i32_957 v8
  let c1_i32_965 : BitVec 32 := 1#32
  let v1149 : BitVec 32 := Scalar.muli v1144 c1_i32_965
  let v1150 : BitVec 32 := Scalar.addi v1148 v1149
  v1150.toNat
def k0_dev81 (d0 : Dev nD) : Nat :=
  let c0_i32_974 : BitVec 32 := 0#32
  let c1_i32_968 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1157 : BitVec 32 := Scalar.subi c1_i32_968 v2
  let c4_i32_973 : BitVec 32 := 4#32
  let v1158 : BitVec 32 := Scalar.muli v1157 c4_i32_973
  let v1159 : BitVec 32 := Scalar.addi c0_i32_974 v1158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_975 : BitVec 32 := 2#32
  let v1160 : BitVec 32 := Scalar.muli v5 c2_i32_975
  let v1161 : BitVec 32 := Scalar.addi v1159 v1160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_976 : BitVec 32 := 1#32
  let v1162 : BitVec 32 := Scalar.muli v8 c1_i32_976
  let v1163 : BitVec 32 := Scalar.addi v1161 v1162
  v1163.toNat
def k0_dev82 (d0 : Dev nD) : Nat :=
  let c0_i32_986 : BitVec 32 := 0#32
  let c1_i32_979 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1170 : BitVec 32 := Scalar.subi c1_i32_979 v2
  let c4_i32_985 : BitVec 32 := 4#32
  let v1172 : BitVec 32 := Scalar.muli v1170 c4_i32_985
  let v1173 : BitVec 32 := Scalar.addi c0_i32_986 v1172
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_987 : BitVec 32 := 2#32
  let v1174 : BitVec 32 := Scalar.muli v5 c2_i32_987
  let v1175 : BitVec 32 := Scalar.addi v1173 v1174
  let c1_i32_980 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1171 : BitVec 32 := Scalar.subi c1_i32_980 v8
  let c1_i32_988 : BitVec 32 := 1#32
  let v1176 : BitVec 32 := Scalar.muli v1171 c1_i32_988
  let v1177 : BitVec 32 := Scalar.addi v1175 v1176
  v1177.toNat
def k0_dev83 (d0 : Dev nD) : Nat :=
  let c0_i32_998 : BitVec 32 := 0#32
  let c1_i32_991 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1184 : BitVec 32 := Scalar.subi c1_i32_991 v2
  let c4_i32_997 : BitVec 32 := 4#32
  let v1186 : BitVec 32 := Scalar.muli v1184 c4_i32_997
  let v1187 : BitVec 32 := Scalar.addi c0_i32_998 v1186
  let c1_i32_992 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1185 : BitVec 32 := Scalar.subi c1_i32_992 v5
  let c2_i32_999 : BitVec 32 := 2#32
  let v1188 : BitVec 32 := Scalar.muli v1185 c2_i32_999
  let v1189 : BitVec 32 := Scalar.addi v1187 v1188
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1000 : BitVec 32 := 1#32
  let v1190 : BitVec 32 := Scalar.muli v8 c1_i32_1000
  let v1191 : BitVec 32 := Scalar.addi v1189 v1190
  v1191.toNat
def k0_dev84 (d0 : Dev nD) : Nat :=
  let c0_i32_1011 : BitVec 32 := 0#32
  let c1_i32_1003 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1198 : BitVec 32 := Scalar.subi c1_i32_1003 v2
  let c4_i32_1010 : BitVec 32 := 4#32
  let v1201 : BitVec 32 := Scalar.muli v1198 c4_i32_1010
  let v1202 : BitVec 32 := Scalar.addi c0_i32_1011 v1201
  let c1_i32_1004 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1199 : BitVec 32 := Scalar.subi c1_i32_1004 v5
  let c2_i32_1012 : BitVec 32 := 2#32
  let v1203 : BitVec 32 := Scalar.muli v1199 c2_i32_1012
  let v1204 : BitVec 32 := Scalar.addi v1202 v1203
  let c1_i32_1005 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1200 : BitVec 32 := Scalar.subi c1_i32_1005 v8
  let c1_i32_1013 : BitVec 32 := 1#32
  let v1205 : BitVec 32 := Scalar.muli v1200 c1_i32_1013
  let v1206 : BitVec 32 := Scalar.addi v1204 v1205
  v1206.toNat
def k0_off6 (d0 : Dev nD) : Fin 3 → Nat :=
  let c4_i32_1017 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1214 : BitVec 32 := Scalar.muli c4_i32_1017 v2
  let c2_i32_1018 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1215 : BitVec 32 := Scalar.muli c2_i32_1018 v5
  let v1216 : BitVec 32 := Scalar.addi v1214 v1215
  let c1_i32_1016 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1213 : BitVec 32 := Scalar.subi c1_i32_1016 v8
  let v1217 : BitVec 32 := Scalar.addi v1216 v1213
  let c0_i32_1027 : BitVec 32 := 0#32
  let c0_i32_1028 : BitVec 32 := 0#32
  ![v1217.toNat, 0, 0]
def k0_off7 (d0 : Dev nD) : Fin 3 → Nat :=
  let c4_i32_1030 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1229 : BitVec 32 := Scalar.muli c4_i32_1030 v2
  let c2_i32_1031 : BitVec 32 := 2#32
  let c1_i32_1029 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1228 : BitVec 32 := Scalar.subi c1_i32_1029 v5
  let v1230 : BitVec 32 := Scalar.muli c2_i32_1031 v1228
  let v1231 : BitVec 32 := Scalar.addi v1229 v1230
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1232 : BitVec 32 := Scalar.addi v1231 v8
  let c0_i32_1040 : BitVec 32 := 0#32
  let c0_i32_1041 : BitVec 32 := 0#32
  ![v1232.toNat, 0, 0]
def k0_off8 (d0 : Dev nD) : Fin 3 → Nat :=
  let c4_i32_1044 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1245 : BitVec 32 := Scalar.muli c4_i32_1044 v2
  let c2_i32_1045 : BitVec 32 := 2#32
  let c1_i32_1042 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1243 : BitVec 32 := Scalar.subi c1_i32_1042 v5
  let v1246 : BitVec 32 := Scalar.muli c2_i32_1045 v1243
  let v1247 : BitVec 32 := Scalar.addi v1245 v1246
  let c1_i32_1043 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1244 : BitVec 32 := Scalar.subi c1_i32_1043 v8
  let v1248 : BitVec 32 := Scalar.addi v1247 v1244
  let c0_i32_1054 : BitVec 32 := 0#32
  let c0_i32_1055 : BitVec 32 := 0#32
  ![v1248.toNat, 0, 0]
def k0_off9 (d0 : Dev nD) : Fin 3 → Nat :=
  let c4_i32_1057 : BitVec 32 := 4#32
  let c1_i32_1056 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1259 : BitVec 32 := Scalar.subi c1_i32_1056 v2
  let v1260 : BitVec 32 := Scalar.muli c4_i32_1057 v1259
  let c2_i32_1058 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1261 : BitVec 32 := Scalar.muli c2_i32_1058 v5
  let v1262 : BitVec 32 := Scalar.addi v1260 v1261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1263 : BitVec 32 := Scalar.addi v1262 v8
  let c0_i32_1067 : BitVec 32 := 0#32
  let c0_i32_1068 : BitVec 32 := 0#32
  ![v1263.toNat, 0, 0]
def k0_off10 (d0 : Dev nD) : Fin 3 → Nat :=
  let c4_i32_1071 : BitVec 32 := 4#32
  let c1_i32_1069 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1274 : BitVec 32 := Scalar.subi c1_i32_1069 v2
  let v1276 : BitVec 32 := Scalar.muli c4_i32_1071 v1274
  let c2_i32_1072 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1277 : BitVec 32 := Scalar.muli c2_i32_1072 v5
  let v1278 : BitVec 32 := Scalar.addi v1276 v1277
  let c1_i32_1070 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1275 : BitVec 32 := Scalar.subi c1_i32_1070 v8
  let v1279 : BitVec 32 := Scalar.addi v1278 v1275
  let c0_i32_1081 : BitVec 32 := 0#32
  let c0_i32_1082 : BitVec 32 := 0#32
  ![v1279.toNat, 0, 0]
def k0_off11 (d0 : Dev nD) : Fin 3 → Nat :=
  let c4_i32_1085 : BitVec 32 := 4#32
  let c1_i32_1083 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1290 : BitVec 32 := Scalar.subi c1_i32_1083 v2
  let v1292 : BitVec 32 := Scalar.muli c4_i32_1085 v1290
  let c2_i32_1086 : BitVec 32 := 2#32
  let c1_i32_1084 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1291 : BitVec 32 := Scalar.subi c1_i32_1084 v5
  let v1293 : BitVec 32 := Scalar.muli c2_i32_1086 v1291
  let v1294 : BitVec 32 := Scalar.addi v1292 v1293
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1295 : BitVec 32 := Scalar.addi v1294 v8
  let c0_i32_1095 : BitVec 32 := 0#32
  let c0_i32_1096 : BitVec 32 := 0#32
  ![v1295.toNat, 0, 0]
def k0_off12 (d0 : Dev nD) : Fin 3 → Nat :=
  let c4_i32_1100 : BitVec 32 := 4#32
  let c1_i32_1097 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1306 : BitVec 32 := Scalar.subi c1_i32_1097 v2
  let v1309 : BitVec 32 := Scalar.muli c4_i32_1100 v1306
  let c2_i32_1101 : BitVec 32 := 2#32
  let c1_i32_1098 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1307 : BitVec 32 := Scalar.subi c1_i32_1098 v5
  let v1310 : BitVec 32 := Scalar.muli c2_i32_1101 v1307
  let v1311 : BitVec 32 := Scalar.addi v1309 v1310
  let c1_i32_1099 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1308 : BitVec 32 := Scalar.subi c1_i32_1099 v8
  let v1312 : BitVec 32 := Scalar.addi v1311 v1308
  let c0_i32_1110 : BitVec 32 := 0#32
  let c0_i32_1111 : BitVec 32 := 0#32
  ![v1312.toNat, 0, 0]
def k0_off13 (d0 : Dev nD) : Fin 3 → Nat :=
  let c4_i32_1113 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1324 : BitVec 32 := Scalar.muli c4_i32_1113 v2
  let c2_i32_1114 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1325 : BitVec 32 := Scalar.muli c2_i32_1114 v5
  let v1326 : BitVec 32 := Scalar.addi v1324 v1325
  let c1_i32_1112 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1323 : BitVec 32 := Scalar.subi c1_i32_1112 v8
  let v1327 : BitVec 32 := Scalar.addi v1326 v1323
  let c0_i32_1123 : BitVec 32 := 0#32
  let c0_i32_1124 : BitVec 32 := 0#32
  ![v1327.toNat, 0, 0]
def k0_off14 (d0 : Dev nD) : Fin 3 → Nat :=
  let c4_i32_1126 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1339 : BitVec 32 := Scalar.muli c4_i32_1126 v2
  let c2_i32_1127 : BitVec 32 := 2#32
  let c1_i32_1125 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1338 : BitVec 32 := Scalar.subi c1_i32_1125 v5
  let v1340 : BitVec 32 := Scalar.muli c2_i32_1127 v1338
  let v1341 : BitVec 32 := Scalar.addi v1339 v1340
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1342 : BitVec 32 := Scalar.addi v1341 v8
  let c0_i32_1136 : BitVec 32 := 0#32
  let c0_i32_1137 : BitVec 32 := 0#32
  ![v1342.toNat, 0, 0]
def k0_off15 (d0 : Dev nD) : Fin 3 → Nat :=
  let c4_i32_1140 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1355 : BitVec 32 := Scalar.muli c4_i32_1140 v2
  let c2_i32_1141 : BitVec 32 := 2#32
  let c1_i32_1138 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1353 : BitVec 32 := Scalar.subi c1_i32_1138 v5
  let v1356 : BitVec 32 := Scalar.muli c2_i32_1141 v1353
  let v1357 : BitVec 32 := Scalar.addi v1355 v1356
  let c1_i32_1139 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1354 : BitVec 32 := Scalar.subi c1_i32_1139 v8
  let v1358 : BitVec 32 := Scalar.addi v1357 v1354
  let c0_i32_1150 : BitVec 32 := 0#32
  let c0_i32_1151 : BitVec 32 := 0#32
  ![v1358.toNat, 0, 0]
def k0_off16 (d0 : Dev nD) : Fin 3 → Nat :=
  let c4_i32_1153 : BitVec 32 := 4#32
  let c1_i32_1152 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1369 : BitVec 32 := Scalar.subi c1_i32_1152 v2
  let v1370 : BitVec 32 := Scalar.muli c4_i32_1153 v1369
  let c2_i32_1154 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1371 : BitVec 32 := Scalar.muli c2_i32_1154 v5
  let v1372 : BitVec 32 := Scalar.addi v1370 v1371
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1373 : BitVec 32 := Scalar.addi v1372 v8
  let c0_i32_1163 : BitVec 32 := 0#32
  let c0_i32_1164 : BitVec 32 := 0#32
  ![v1373.toNat, 0, 0]
def k0_off17 (d0 : Dev nD) : Fin 3 → Nat :=
  let c4_i32_1167 : BitVec 32 := 4#32
  let c1_i32_1165 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1384 : BitVec 32 := Scalar.subi c1_i32_1165 v2
  let v1386 : BitVec 32 := Scalar.muli c4_i32_1167 v1384
  let c2_i32_1168 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1387 : BitVec 32 := Scalar.muli c2_i32_1168 v5
  let v1388 : BitVec 32 := Scalar.addi v1386 v1387
  let c1_i32_1166 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1385 : BitVec 32 := Scalar.subi c1_i32_1166 v8
  let v1389 : BitVec 32 := Scalar.addi v1388 v1385
  let c0_i32_1177 : BitVec 32 := 0#32
  let c0_i32_1178 : BitVec 32 := 0#32
  ![v1389.toNat, 0, 0]
def k0_off18 (d0 : Dev nD) : Fin 3 → Nat :=
  let c4_i32_1181 : BitVec 32 := 4#32
  let c1_i32_1179 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1400 : BitVec 32 := Scalar.subi c1_i32_1179 v2
  let v1402 : BitVec 32 := Scalar.muli c4_i32_1181 v1400
  let c2_i32_1182 : BitVec 32 := 2#32
  let c1_i32_1180 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1401 : BitVec 32 := Scalar.subi c1_i32_1180 v5
  let v1403 : BitVec 32 := Scalar.muli c2_i32_1182 v1401
  let v1404 : BitVec 32 := Scalar.addi v1402 v1403
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1405 : BitVec 32 := Scalar.addi v1404 v8
  let c0_i32_1191 : BitVec 32 := 0#32
  let c0_i32_1192 : BitVec 32 := 0#32
  ![v1405.toNat, 0, 0]
def k0_off19 (d0 : Dev nD) : Fin 3 → Nat :=
  let c4_i32_1196 : BitVec 32 := 4#32
  let c1_i32_1193 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1416 : BitVec 32 := Scalar.subi c1_i32_1193 v2
  let v1419 : BitVec 32 := Scalar.muli c4_i32_1196 v1416
  let c2_i32_1197 : BitVec 32 := 2#32
  let c1_i32_1194 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1417 : BitVec 32 := Scalar.subi c1_i32_1194 v5
  let v1420 : BitVec 32 := Scalar.muli c2_i32_1197 v1417
  let v1421 : BitVec 32 := Scalar.addi v1419 v1420
  let c1_i32_1195 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1418 : BitVec 32 := Scalar.subi c1_i32_1195 v8
  let v1422 : BitVec 32 := Scalar.addi v1421 v1418
  let c0_i32_1206 : BitVec 32 := 0#32
  let c0_i32_1207 : BitVec 32 := 0#32
  ![v1422.toNat, 0, 0]
def k0_off20 (d0 : Dev nD) : Fin 3 → Nat :=
  let c4_i32_1209 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1434 : BitVec 32 := Scalar.muli c4_i32_1209 v2
  let c2_i32_1210 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1435 : BitVec 32 := Scalar.muli c2_i32_1210 v5
  let v1436 : BitVec 32 := Scalar.addi v1434 v1435
  let c1_i32_1208 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1433 : BitVec 32 := Scalar.subi c1_i32_1208 v8
  let v1437 : BitVec 32 := Scalar.addi v1436 v1433
  let c0_i32_1219 : BitVec 32 := 0#32
  let c0_i32_1220 : BitVec 32 := 0#32
  ![v1437.toNat, 0, 0]
def k0_off21 (d0 : Dev nD) : Fin 3 → Nat :=
  let c4_i32_1222 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1449 : BitVec 32 := Scalar.muli c4_i32_1222 v2
  let c2_i32_1223 : BitVec 32 := 2#32
  let c1_i32_1221 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1448 : BitVec 32 := Scalar.subi c1_i32_1221 v5
  let v1450 : BitVec 32 := Scalar.muli c2_i32_1223 v1448
  let v1451 : BitVec 32 := Scalar.addi v1449 v1450
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1452 : BitVec 32 := Scalar.addi v1451 v8
  let c0_i32_1232 : BitVec 32 := 0#32
  let c0_i32_1233 : BitVec 32 := 0#32
  ![v1452.toNat, 0, 0]
def k0_off22 (d0 : Dev nD) : Fin 3 → Nat :=
  let c4_i32_1236 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1465 : BitVec 32 := Scalar.muli c4_i32_1236 v2
  let c2_i32_1237 : BitVec 32 := 2#32
  let c1_i32_1234 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1463 : BitVec 32 := Scalar.subi c1_i32_1234 v5
  let v1466 : BitVec 32 := Scalar.muli c2_i32_1237 v1463
  let v1467 : BitVec 32 := Scalar.addi v1465 v1466
  let c1_i32_1235 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1464 : BitVec 32 := Scalar.subi c1_i32_1235 v8
  let v1468 : BitVec 32 := Scalar.addi v1467 v1464
  let c0_i32_1246 : BitVec 32 := 0#32
  let c0_i32_1247 : BitVec 32 := 0#32
  ![v1468.toNat, 0, 0]
def k0_off23 (d0 : Dev nD) : Fin 3 → Nat :=
  let c4_i32_1249 : BitVec 32 := 4#32
  let c1_i32_1248 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1479 : BitVec 32 := Scalar.subi c1_i32_1248 v2
  let v1480 : BitVec 32 := Scalar.muli c4_i32_1249 v1479
  let c2_i32_1250 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1481 : BitVec 32 := Scalar.muli c2_i32_1250 v5
  let v1482 : BitVec 32 := Scalar.addi v1480 v1481
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1483 : BitVec 32 := Scalar.addi v1482 v8
  let c0_i32_1259 : BitVec 32 := 0#32
  let c0_i32_1260 : BitVec 32 := 0#32
  ![v1483.toNat, 0, 0]
def k0_off24 (d0 : Dev nD) : Fin 3 → Nat :=
  let c4_i32_1263 : BitVec 32 := 4#32
  let c1_i32_1261 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1494 : BitVec 32 := Scalar.subi c1_i32_1261 v2
  let v1496 : BitVec 32 := Scalar.muli c4_i32_1263 v1494
  let c2_i32_1264 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1497 : BitVec 32 := Scalar.muli c2_i32_1264 v5
  let v1498 : BitVec 32 := Scalar.addi v1496 v1497
  let c1_i32_1262 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1495 : BitVec 32 := Scalar.subi c1_i32_1262 v8
  let v1499 : BitVec 32 := Scalar.addi v1498 v1495
  let c0_i32_1273 : BitVec 32 := 0#32
  let c0_i32_1274 : BitVec 32 := 0#32
  ![v1499.toNat, 0, 0]
def k0_off25 (d0 : Dev nD) : Fin 3 → Nat :=
  let c4_i32_1277 : BitVec 32 := 4#32
  let c1_i32_1275 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1510 : BitVec 32 := Scalar.subi c1_i32_1275 v2
  let v1512 : BitVec 32 := Scalar.muli c4_i32_1277 v1510
  let c2_i32_1278 : BitVec 32 := 2#32
  let c1_i32_1276 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1511 : BitVec 32 := Scalar.subi c1_i32_1276 v5
  let v1513 : BitVec 32 := Scalar.muli c2_i32_1278 v1511
  let v1514 : BitVec 32 := Scalar.addi v1512 v1513
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1515 : BitVec 32 := Scalar.addi v1514 v8
  let c0_i32_1287 : BitVec 32 := 0#32
  let c0_i32_1288 : BitVec 32 := 0#32
  ![v1515.toNat, 0, 0]
def k0_off26 (d0 : Dev nD) : Fin 3 → Nat :=
  let c4_i32_1292 : BitVec 32 := 4#32
  let c1_i32_1289 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1526 : BitVec 32 := Scalar.subi c1_i32_1289 v2
  let v1529 : BitVec 32 := Scalar.muli c4_i32_1292 v1526
  let c2_i32_1293 : BitVec 32 := 2#32
  let c1_i32_1290 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1527 : BitVec 32 := Scalar.subi c1_i32_1290 v5
  let v1530 : BitVec 32 := Scalar.muli c2_i32_1293 v1527
  let v1531 : BitVec 32 := Scalar.addi v1529 v1530
  let c1_i32_1291 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1528 : BitVec 32 := Scalar.subi c1_i32_1291 v8
  let v1532 : BitVec 32 := Scalar.addi v1531 v1528
  let c0_i32_1302 : BitVec 32 := 0#32
  let c0_i32_1303 : BitVec 32 := 0#32
  ![v1532.toNat, 0, 0]
def k0_off27 (d0 : Dev nD) : Fin 3 → Nat :=
  let c4_i32_1305 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1544 : BitVec 32 := Scalar.muli c4_i32_1305 v2
  let c2_i32_1306 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1545 : BitVec 32 := Scalar.muli c2_i32_1306 v5
  let v1546 : BitVec 32 := Scalar.addi v1544 v1545
  let c1_i32_1304 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1543 : BitVec 32 := Scalar.subi c1_i32_1304 v8
  let v1547 : BitVec 32 := Scalar.addi v1546 v1543
  let c0_i32_1315 : BitVec 32 := 0#32
  let c0_i32_1316 : BitVec 32 := 0#32
  ![v1547.toNat, 0, 0]
def k0_off28 (d0 : Dev nD) : Fin 3 → Nat :=
  let c4_i32_1318 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1559 : BitVec 32 := Scalar.muli c4_i32_1318 v2
  let c2_i32_1319 : BitVec 32 := 2#32
  let c1_i32_1317 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1558 : BitVec 32 := Scalar.subi c1_i32_1317 v5
  let v1560 : BitVec 32 := Scalar.muli c2_i32_1319 v1558
  let v1561 : BitVec 32 := Scalar.addi v1559 v1560
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1562 : BitVec 32 := Scalar.addi v1561 v8
  let c0_i32_1328 : BitVec 32 := 0#32
  let c0_i32_1329 : BitVec 32 := 0#32
  ![v1562.toNat, 0, 0]
def k0_off29 (d0 : Dev nD) : Fin 3 → Nat :=
  let c4_i32_1332 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1575 : BitVec 32 := Scalar.muli c4_i32_1332 v2
  let c2_i32_1333 : BitVec 32 := 2#32
  let c1_i32_1330 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1573 : BitVec 32 := Scalar.subi c1_i32_1330 v5
  let v1576 : BitVec 32 := Scalar.muli c2_i32_1333 v1573
  let v1577 : BitVec 32 := Scalar.addi v1575 v1576
  let c1_i32_1331 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1574 : BitVec 32 := Scalar.subi c1_i32_1331 v8
  let v1578 : BitVec 32 := Scalar.addi v1577 v1574
  let c0_i32_1342 : BitVec 32 := 0#32
  let c0_i32_1343 : BitVec 32 := 0#32
  ![v1578.toNat, 0, 0]
def k0_off30 (d0 : Dev nD) : Fin 3 → Nat :=
  let c4_i32_1345 : BitVec 32 := 4#32
  let c1_i32_1344 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1589 : BitVec 32 := Scalar.subi c1_i32_1344 v2
  let v1590 : BitVec 32 := Scalar.muli c4_i32_1345 v1589
  let c2_i32_1346 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1591 : BitVec 32 := Scalar.muli c2_i32_1346 v5
  let v1592 : BitVec 32 := Scalar.addi v1590 v1591
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1593 : BitVec 32 := Scalar.addi v1592 v8
  let c0_i32_1355 : BitVec 32 := 0#32
  let c0_i32_1356 : BitVec 32 := 0#32
  ![v1593.toNat, 0, 0]
def k0_off31 (d0 : Dev nD) : Fin 3 → Nat :=
  let c4_i32_1359 : BitVec 32 := 4#32
  let c1_i32_1357 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1604 : BitVec 32 := Scalar.subi c1_i32_1357 v2
  let v1606 : BitVec 32 := Scalar.muli c4_i32_1359 v1604
  let c2_i32_1360 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1607 : BitVec 32 := Scalar.muli c2_i32_1360 v5
  let v1608 : BitVec 32 := Scalar.addi v1606 v1607
  let c1_i32_1358 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1605 : BitVec 32 := Scalar.subi c1_i32_1358 v8
  let v1609 : BitVec 32 := Scalar.addi v1608 v1605
  let c0_i32_1369 : BitVec 32 := 0#32
  let c0_i32_1370 : BitVec 32 := 0#32
  ![v1609.toNat, 0, 0]
def k0_off32 (d0 : Dev nD) : Fin 3 → Nat :=
  let c4_i32_1373 : BitVec 32 := 4#32
  let c1_i32_1371 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1620 : BitVec 32 := Scalar.subi c1_i32_1371 v2
  let v1622 : BitVec 32 := Scalar.muli c4_i32_1373 v1620
  let c2_i32_1374 : BitVec 32 := 2#32
  let c1_i32_1372 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1621 : BitVec 32 := Scalar.subi c1_i32_1372 v5
  let v1623 : BitVec 32 := Scalar.muli c2_i32_1374 v1621
  let v1624 : BitVec 32 := Scalar.addi v1622 v1623
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1625 : BitVec 32 := Scalar.addi v1624 v8
  let c0_i32_1383 : BitVec 32 := 0#32
  let c0_i32_1384 : BitVec 32 := 0#32
  ![v1625.toNat, 0, 0]
def k0_off33 (d0 : Dev nD) : Fin 3 → Nat :=
  let c4_i32_1388 : BitVec 32 := 4#32
  let c1_i32_1385 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1636 : BitVec 32 := Scalar.subi c1_i32_1385 v2
  let v1639 : BitVec 32 := Scalar.muli c4_i32_1388 v1636
  let c2_i32_1389 : BitVec 32 := 2#32
  let c1_i32_1386 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1637 : BitVec 32 := Scalar.subi c1_i32_1386 v5
  let v1640 : BitVec 32 := Scalar.muli c2_i32_1389 v1637
  let v1641 : BitVec 32 := Scalar.addi v1639 v1640
  let c1_i32_1387 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1638 : BitVec 32 := Scalar.subi c1_i32_1387 v8
  let v1642 : BitVec 32 := Scalar.addi v1641 v1638
  let c0_i32_1398 : BitVec 32 := 0#32
  let c0_i32_1399 : BitVec 32 := 0#32
  ![v1642.toNat, 0, 0]
def k0_off34 (d0 : Dev nD) : Fin 3 → Nat :=
  let c4_i32_1401 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1654 : BitVec 32 := Scalar.muli c4_i32_1401 v2
  let c2_i32_1402 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1655 : BitVec 32 := Scalar.muli c2_i32_1402 v5
  let v1656 : BitVec 32 := Scalar.addi v1654 v1655
  let c1_i32_1400 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1653 : BitVec 32 := Scalar.subi c1_i32_1400 v8
  let v1657 : BitVec 32 := Scalar.addi v1656 v1653
  let c0_i32_1411 : BitVec 32 := 0#32
  let c0_i32_1412 : BitVec 32 := 0#32
  ![v1657.toNat, 0, 0]
def k0_off35 (d0 : Dev nD) : Fin 3 → Nat :=
  let c4_i32_1414 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1669 : BitVec 32 := Scalar.muli c4_i32_1414 v2
  let c2_i32_1415 : BitVec 32 := 2#32
  let c1_i32_1413 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1668 : BitVec 32 := Scalar.subi c1_i32_1413 v5
  let v1670 : BitVec 32 := Scalar.muli c2_i32_1415 v1668
  let v1671 : BitVec 32 := Scalar.addi v1669 v1670
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1672 : BitVec 32 := Scalar.addi v1671 v8
  let c0_i32_1424 : BitVec 32 := 0#32
  let c0_i32_1425 : BitVec 32 := 0#32
  ![v1672.toNat, 0, 0]
def k0_off36 (d0 : Dev nD) : Fin 3 → Nat :=
  let c4_i32_1428 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1685 : BitVec 32 := Scalar.muli c4_i32_1428 v2
  let c2_i32_1429 : BitVec 32 := 2#32
  let c1_i32_1426 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1683 : BitVec 32 := Scalar.subi c1_i32_1426 v5
  let v1686 : BitVec 32 := Scalar.muli c2_i32_1429 v1683
  let v1687 : BitVec 32 := Scalar.addi v1685 v1686
  let c1_i32_1427 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1684 : BitVec 32 := Scalar.subi c1_i32_1427 v8
  let v1688 : BitVec 32 := Scalar.addi v1687 v1684
  let c0_i32_1438 : BitVec 32 := 0#32
  let c0_i32_1439 : BitVec 32 := 0#32
  ![v1688.toNat, 0, 0]
def k0_off37 (d0 : Dev nD) : Fin 3 → Nat :=
  let c4_i32_1441 : BitVec 32 := 4#32
  let c1_i32_1440 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1699 : BitVec 32 := Scalar.subi c1_i32_1440 v2
  let v1700 : BitVec 32 := Scalar.muli c4_i32_1441 v1699
  let c2_i32_1442 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1701 : BitVec 32 := Scalar.muli c2_i32_1442 v5
  let v1702 : BitVec 32 := Scalar.addi v1700 v1701
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1703 : BitVec 32 := Scalar.addi v1702 v8
  let c0_i32_1451 : BitVec 32 := 0#32
  let c0_i32_1452 : BitVec 32 := 0#32
  ![v1703.toNat, 0, 0]
def k0_off38 (d0 : Dev nD) : Fin 3 → Nat :=
  let c4_i32_1455 : BitVec 32 := 4#32
  let c1_i32_1453 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1714 : BitVec 32 := Scalar.subi c1_i32_1453 v2
  let v1716 : BitVec 32 := Scalar.muli c4_i32_1455 v1714
  let c2_i32_1456 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1717 : BitVec 32 := Scalar.muli c2_i32_1456 v5
  let v1718 : BitVec 32 := Scalar.addi v1716 v1717
  let c1_i32_1454 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1715 : BitVec 32 := Scalar.subi c1_i32_1454 v8
  let v1719 : BitVec 32 := Scalar.addi v1718 v1715
  let c0_i32_1465 : BitVec 32 := 0#32
  let c0_i32_1466 : BitVec 32 := 0#32
  ![v1719.toNat, 0, 0]
def k0_off39 (d0 : Dev nD) : Fin 3 → Nat :=
  let c4_i32_1469 : BitVec 32 := 4#32
  let c1_i32_1467 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1730 : BitVec 32 := Scalar.subi c1_i32_1467 v2
  let v1732 : BitVec 32 := Scalar.muli c4_i32_1469 v1730
  let c2_i32_1470 : BitVec 32 := 2#32
  let c1_i32_1468 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1731 : BitVec 32 := Scalar.subi c1_i32_1468 v5
  let v1733 : BitVec 32 := Scalar.muli c2_i32_1470 v1731
  let v1734 : BitVec 32 := Scalar.addi v1732 v1733
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1735 : BitVec 32 := Scalar.addi v1734 v8
  let c0_i32_1479 : BitVec 32 := 0#32
  let c0_i32_1480 : BitVec 32 := 0#32
  ![v1735.toNat, 0, 0]
def k0_off40 (d0 : Dev nD) : Fin 3 → Nat :=
  let c4_i32_1484 : BitVec 32 := 4#32
  let c1_i32_1481 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1746 : BitVec 32 := Scalar.subi c1_i32_1481 v2
  let v1749 : BitVec 32 := Scalar.muli c4_i32_1484 v1746
  let c2_i32_1485 : BitVec 32 := 2#32
  let c1_i32_1482 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1747 : BitVec 32 := Scalar.subi c1_i32_1482 v5
  let v1750 : BitVec 32 := Scalar.muli c2_i32_1485 v1747
  let v1751 : BitVec 32 := Scalar.addi v1749 v1750
  let c1_i32_1483 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1748 : BitVec 32 := Scalar.subi c1_i32_1483 v8
  let v1752 : BitVec 32 := Scalar.addi v1751 v1748
  let c0_i32_1494 : BitVec 32 := 0#32
  let c0_i32_1495 : BitVec 32 := 0#32
  ![v1752.toNat, 0, 0]
-- ==== GatherMatricesRef.lean ====
abbrev S3072x2048 : Shape := ⟨2, ![3072, 2048]⟩
abbrev S2048x2048 : Shape := ⟨2, ![2048, 2048]⟩
abbrev S11008x2048 : Shape := ⟨2, ![11008, 2048]⟩
abbrev S5504x2048 : Shape := ⟨2, ![5504, 2048]⟩
abbrev S512x512 : Shape := ⟨2, ![512, 512]⟩
abbrev S8x384x2048 : Shape := ⟨3, ![8, 384, 2048]⟩
abbrev S8x256x2048 : Shape := ⟨3, ![8, 256, 2048]⟩
abbrev S8x1376x2048 : Shape := ⟨3, ![8, 1376, 2048]⟩
abbrev S8x688x2048 : Shape := ⟨3, ![8, 688, 2048]⟩
abbrev S8x64x512 : Shape := ⟨3, ![8, 64, 512]⟩

abbrev nBuf : Space → Nat
  | .hbm => 24
  | .vmem => 0
  | .smem => 0
  | _ => 0

abbrev bufTy : (tb : Table) → Fin (tcTables nBuf tb) → BufTy
  | .hbm, ⟨0, _⟩ => ⟨S3072x2048, .bf16⟩
  | .hbm, ⟨1, _⟩ => ⟨S2048x2048, .bf16⟩
  | .hbm, ⟨2, _⟩ => ⟨S11008x2048, .bf16⟩
  | .hbm, ⟨3, _⟩ => ⟨S5504x2048, .bf16⟩
  | .hbm, ⟨4, _⟩ => ⟨S512x512, .bf16⟩
  | .hbm, ⟨5, _⟩ => ⟨S512x512, .bf16⟩
  | .hbm, ⟨6, _⟩ => ⟨S3072x2048, .bf16⟩
  | .hbm, ⟨7, _⟩ => ⟨S2048x2048, .bf16⟩
  | .hbm, ⟨8, _⟩ => ⟨S11008x2048, .bf16⟩
  | .hbm, ⟨9, _⟩ => ⟨S5504x2048, .bf16⟩
  | .hbm, ⟨10, _⟩ => ⟨S512x512, .bf16⟩
  | .hbm, ⟨11, _⟩ => ⟨S512x512, .bf16⟩
  | .hbm, ⟨12, _⟩ => ⟨S8x384x2048, .bf16⟩
  | .hbm, ⟨13, _⟩ => ⟨S8x256x2048, .bf16⟩
  | .hbm, ⟨14, _⟩ => ⟨S8x1376x2048, .bf16⟩
  | .hbm, ⟨15, _⟩ => ⟨S8x688x2048, .bf16⟩
  | .hbm, ⟨16, _⟩ => ⟨S8x64x512, .bf16⟩
  | .hbm, ⟨17, _⟩ => ⟨S8x64x512, .bf16⟩
  | .hbm, ⟨18, _⟩ => ⟨S8x384x2048, .bf16⟩
  | .hbm, ⟨19, _⟩ => ⟨S8x256x2048, .bf16⟩
  | .hbm, ⟨20, _⟩ => ⟨S8x1376x2048, .bf16⟩
  | .hbm, ⟨21, _⟩ => ⟨S8x688x2048, .bf16⟩
  | .hbm, ⟨22, _⟩ => ⟨S8x64x512, .bf16⟩
  | .hbm, ⟨23, _⟩ => ⟨S8x64x512, .bf16⟩
  | _, _ => ⟨S3072x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== ScatterGrads.lean ====
abbrev S8x384x2048 : Shape := ⟨3, ![8, 384, 2048]⟩
abbrev S8x256x2048 : Shape := ⟨3, ![8, 256, 2048]⟩
abbrev S8x1376x2048 : Shape := ⟨3, ![8, 1376, 2048]⟩
abbrev S8x688x2048 : Shape := ⟨3, ![8, 688, 2048]⟩
abbrev S8x64x512 : Shape := ⟨3, ![8, 64, 512]⟩
abbrev S12x7 : Shape := ⟨2, ![12, 7]⟩
abbrev S12 : Shape := ⟨1, ![12]⟩
abbrev S1 : Shape := ⟨1, ![1]⟩
abbrev S_ : Shape := ⟨0, ![]⟩
abbrev S1x384x2048 : Shape := ⟨3, ![1, 384, 2048]⟩
abbrev S384x2048 : Shape := ⟨2, ![384, 2048]⟩
abbrev S1x1 : Shape := ⟨2, ![1, 1]⟩
abbrev S1x256x2048 : Shape := ⟨3, ![1, 256, 2048]⟩
abbrev S256x2048 : Shape := ⟨2, ![256, 2048]⟩
abbrev S1x1376x2048 : Shape := ⟨3, ![1, 1376, 2048]⟩
abbrev S1376x2048 : Shape := ⟨2, ![1376, 2048]⟩
abbrev S1x688x2048 : Shape := ⟨3, ![1, 688, 2048]⟩
abbrev S688x2048 : Shape := ⟨2, ![688, 2048]⟩
abbrev S1x64x512 : Shape := ⟨3, ![1, 64, 512]⟩
abbrev S64x512 : Shape := ⟨2, ![64, 512]⟩

abbrev nBuf : Space → Nat
  | .hbm => 24
  | .vmem => 0
  | .smem => 0
  | _ => 0

abbrev bufTy : (tb : Table) → Fin (tcTables nBuf tb) → BufTy
  | .hbm, ⟨0, _⟩ => ⟨S8x384x2048, .bf16⟩
  | .hbm, ⟨1, _⟩ => ⟨S8x256x2048, .bf16⟩
  | .hbm, ⟨2, _⟩ => ⟨S8x1376x2048, .bf16⟩
  | .hbm, ⟨3, _⟩ => ⟨S8x688x2048, .bf16⟩
  | .hbm, ⟨4, _⟩ => ⟨S8x64x512, .bf16⟩
  | .hbm, ⟨5, _⟩ => ⟨S8x64x512, .bf16⟩
  | .hbm, ⟨6, _⟩ => ⟨S8x384x2048, .bf16⟩
  | .hbm, ⟨7, _⟩ => ⟨S8x256x2048, .bf16⟩
  | .hbm, ⟨8, _⟩ => ⟨S8x1376x2048, .bf16⟩
  | .hbm, ⟨9, _⟩ => ⟨S8x688x2048, .bf16⟩
  | .hbm, ⟨10, _⟩ => ⟨S8x64x512, .bf16⟩
  | .hbm, ⟨11, _⟩ => ⟨S8x64x512, .bf16⟩
  | .hbm, ⟨12, _⟩ => ⟨S8x384x2048, .bf16⟩
  | .hbm, ⟨13, _⟩ => ⟨S8x256x2048, .bf16⟩
  | .hbm, ⟨14, _⟩ => ⟨S8x1376x2048, .bf16⟩
  | .hbm, ⟨15, _⟩ => ⟨S8x688x2048, .bf16⟩
  | .hbm, ⟨16, _⟩ => ⟨S8x64x512, .bf16⟩
  | .hbm, ⟨17, _⟩ => ⟨S8x64x512, .bf16⟩
  | .hbm, ⟨18, _⟩ => ⟨S8x384x2048, .bf16⟩
  | .hbm, ⟨19, _⟩ => ⟨S8x256x2048, .bf16⟩
  | .hbm, ⟨20, _⟩ => ⟨S8x1376x2048, .bf16⟩
  | .hbm, ⟨21, _⟩ => ⟨S8x688x2048, .bf16⟩
  | .hbm, ⟨22, _⟩ => ⟨S8x64x512, .bf16⟩
  | .hbm, ⟨23, _⟩ => ⟨S8x64x512, .bf16⟩
  | _, _ => ⟨S8x384x2048, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | _, _ => false

abbrev semScoped : Fin 0 → Bool
  | ⟨_, h⟩ => absurd h (Nat.not_lt_zero _)

abbrev dmaSemScoped : Fin 180 → Bool
  | ⟨i, _⟩ => dmaSemScopedAt i

abbrev sig : RefSig :=
  ofTc nBuf bufTy 0 180 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev main_v1_6 : Ref sig .tc := ⟨.hbm, 18, rfl⟩
abbrev main_v1_7 : Ref sig .tc := ⟨.hbm, 19, rfl⟩
abbrev main_v1_8 : Ref sig .tc := ⟨.hbm, 20, rfl⟩
abbrev main_v1_9 : Ref sig .tc := ⟨.hbm, 21, rfl⟩
abbrev main_v1_10 : Ref sig .tc := ⟨.hbm, 22, rfl⟩
abbrev main_v1_11 : Ref sig .tc := ⟨.hbm, 23, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_10 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.muli c4_i32_10 v2
  let c2_i32_11 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.muli c2_i32_11 v5
  let v22 : BitVec 32 := Scalar.addi v20 v21
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let v23 : BitVec 32 := Scalar.addi v22 v19
  let c0_i32_22 : BitVec 32 := 0#32
  let c0_i32_23 : BitVec 32 := 0#32
  ![v23.toNat, 0, 0]
def k0_dev1 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v24 : BitVec 32 := Scalar.muli v2 c4_i32_16
  let v25 : BitVec 32 := Scalar.addi c0_i32_17 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v26 : BitVec 32 := Scalar.muli v5 c2_i32_18
  let v27 : BitVec 32 := Scalar.addi v25 v26
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_9 v8
  let c1_i32_19 : BitVec 32 := 1#32
  let v28 : BitVec 32 := Scalar.muli v19 c1_i32_19
  let v29 : BitVec 32 := Scalar.addi v27 v28
  v29.toNat
def k0_off3 (d0 : Dev nD) : Fin 3 → Nat :=
  let c4_i32_25 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v39 : BitVec 32 := Scalar.muli c4_i32_25 v2
  let c2_i32_26 : BitVec 32 := 2#32
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_24 v5
  let v40 : BitVec 32 := Scalar.muli c2_i32_26 v38
  let v41 : BitVec 32 := Scalar.addi v39 v40
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.addi v41 v8
  let c0_i32_37 : BitVec 32 := 0#32
  let c0_i32_38 : BitVec 32 := 0#32
  ![v42.toNat, 0, 0]
def k0_dev2 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v43 : BitVec 32 := Scalar.muli v2 c4_i32_31
  let v44 : BitVec 32 := Scalar.addi c0_i32_32 v43
  let c1_i32_24 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.subi c1_i32_24 v5
  let c2_i32_33 : BitVec 32 := 2#32
  let v45 : BitVec 32 := Scalar.muli v38 c2_i32_33
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v47 : BitVec 32 := Scalar.muli v8 c1_i32_34
  let v48 : BitVec 32 := Scalar.addi v46 v47
  v48.toNat
def k0_off4 (d0 : Dev nD) : Fin 3 → Nat :=
  let c4_i32_41 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v59 : BitVec 32 := Scalar.muli c4_i32_41 v2
  let c2_i32_42 : BitVec 32 := 2#32
  let c1_i32_39 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_39 v5
  let v60 : BitVec 32 := Scalar.muli c2_i32_42 v57
  let v61 : BitVec 32 := Scalar.addi v59 v60
  let c1_i32_40 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_40 v8
  let v62 : BitVec 32 := Scalar.addi v61 v58
  let c0_i32_53 : BitVec 32 := 0#32
  let c0_i32_54 : BitVec 32 := 0#32
  ![v62.toNat, 0, 0]
def k0_dev3 (d0 : Dev nD) : Nat :=
  let c0_i32_48 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_47 : BitVec 32 := 4#32
  let v63 : BitVec 32 := Scalar.muli v2 c4_i32_47
  let v64 : BitVec 32 := Scalar.addi c0_i32_48 v63
  let c1_i32_39 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v57 : BitVec 32 := Scalar.subi c1_i32_39 v5
  let c2_i32_49 : BitVec 32 := 2#32
  let v65 : BitVec 32 := Scalar.muli v57 c2_i32_49
  let v66 : BitVec 32 := Scalar.addi v64 v65
  let c1_i32_40 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v58 : BitVec 32 := Scalar.subi c1_i32_40 v8
  let c1_i32_50 : BitVec 32 := 1#32
  let v67 : BitVec 32 := Scalar.muli v58 c1_i32_50
  let v68 : BitVec 32 := Scalar.addi v66 v67
  v68.toNat
def k0_off5 (d0 : Dev nD) : Fin 3 → Nat :=
  let c4_i32_56 : BitVec 32 := 4#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_55 v2
  let v78 : BitVec 32 := Scalar.muli c4_i32_56 v77
  let c2_i32_57 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v79 : BitVec 32 := Scalar.muli c2_i32_57 v5
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v81 : BitVec 32 := Scalar.addi v80 v8
  let c0_i32_67 : BitVec 32 := 0#32
  let c0_i32_68 : BitVec 32 := 0#32
  ![v81.toNat, 0, 0]
def k0_dev4 (d0 : Dev nD) : Nat :=
  let c0_i32_62 : BitVec 32 := 0#32
  let c1_i32_55 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.subi c1_i32_55 v2
  let c4_i32_61 : BitVec 32 := 4#32
  let v82 : BitVec 32 := Scalar.muli v77 c4_i32_61
  let v83 : BitVec 32 := Scalar.addi c0_i32_62 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v84 : BitVec 32 := Scalar.muli v5 c2_i32_63
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v86 : BitVec 32 := Scalar.muli v8 c1_i32_64
  let v87 : BitVec 32 := Scalar.addi v85 v86
  v87.toNat
def k0_off6 (d0 : Dev nD) : Fin 3 → Nat :=
  let c4_i32_71 : BitVec 32 := 4#32
  let c1_i32_69 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v96 : BitVec 32 := Scalar.subi c1_i32_69 v2
  let v98 : BitVec 32 := Scalar.muli c4_i32_71 v96
  let c2_i32_72 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.muli c2_i32_72 v5
  let v100 : BitVec 32 := Scalar.addi v98 v99
  let c1_i32_70 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v97 : BitVec 32 := Scalar.subi c1_i32_70 v8
  let v101 : BitVec 32 := Scalar.addi v100 v97
  let c0_i32_83 : BitVec 32 := 0#32
  let c0_i32_84 : BitVec 32 := 0#32
  ![v101.toNat, 0, 0]
def k0_dev5 (d0 : Dev nD) : Nat :=
  let c0_i32_78 : BitVec 32 := 0#32
  let c1_i32_69 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v96 : BitVec 32 := Scalar.subi c1_i32_69 v2
  let c4_i32_77 : BitVec 32 := 4#32
  let v102 : BitVec 32 := Scalar.muli v96 c4_i32_77
  let v103 : BitVec 32 := Scalar.addi c0_i32_78 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v104 : BitVec 32 := Scalar.muli v5 c2_i32_79
  let v105 : BitVec 32 := Scalar.addi v103 v104
  let c1_i32_70 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v97 : BitVec 32 := Scalar.subi c1_i32_70 v8
  let c1_i32_80 : BitVec 32 := 1#32
  let v106 : BitVec 32 := Scalar.muli v97 c1_i32_80
  let v107 : BitVec 32 := Scalar.addi v105 v106
  v107.toNat
def k0_off7 (d0 : Dev nD) : Fin 3 → Nat :=
  let c4_i32_87 : BitVec 32 := 4#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v116 : BitVec 32 := Scalar.subi c1_i32_85 v2
  let v118 : BitVec 32 := Scalar.muli c4_i32_87 v116
  let c2_i32_88 : BitVec 32 := 2#32
  let c1_i32_86 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v117 : BitVec 32 := Scalar.subi c1_i32_86 v5
  let v119 : BitVec 32 := Scalar.muli c2_i32_88 v117
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v121 : BitVec 32 := Scalar.addi v120 v8
  let c0_i32_98 : BitVec 32 := 0#32
  let c0_i32_99 : BitVec 32 := 0#32
  ![v121.toNat, 0, 0]
def k0_dev6 (d0 : Dev nD) : Nat :=
  let c0_i32_93 : BitVec 32 := 0#32
  let c1_i32_85 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v116 : BitVec 32 := Scalar.subi c1_i32_85 v2
  let c4_i32_92 : BitVec 32 := 4#32
  let v122 : BitVec 32 := Scalar.muli v116 c4_i32_92
  let v123 : BitVec 32 := Scalar.addi c0_i32_93 v122
  let c1_i32_86 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v117 : BitVec 32 := Scalar.subi c1_i32_86 v5
  let c2_i32_94 : BitVec 32 := 2#32
  let v124 : BitVec 32 := Scalar.muli v117 c2_i32_94
  let v125 : BitVec 32 := Scalar.addi v123 v124
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v126 : BitVec 32 := Scalar.muli v8 c1_i32_95
  let v127 : BitVec 32 := Scalar.addi v125 v126
  v127.toNat
def k0_off8 (d0 : Dev nD) : Fin 3 → Nat :=
  let c4_i32_103 : BitVec 32 := 4#32
  let c1_i32_100 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.subi c1_i32_100 v2
  let v139 : BitVec 32 := Scalar.muli c4_i32_103 v136
  let c2_i32_104 : BitVec 32 := 2#32
  let c1_i32_101 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.subi c1_i32_101 v5
  let v140 : BitVec 32 := Scalar.muli c2_i32_104 v137
  let v141 : BitVec 32 := Scalar.addi v139 v140
  let c1_i32_102 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_102 v8
  let v142 : BitVec 32 := Scalar.addi v141 v138
  let c0_i32_114 : BitVec 32 := 0#32
  let c0_i32_115 : BitVec 32 := 0#32
  ![v142.toNat, 0, 0]
def k0_dev7 (d0 : Dev nD) : Nat :=
  let c0_i32_109 : BitVec 32 := 0#32
  let c1_i32_100 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v136 : BitVec 32 := Scalar.subi c1_i32_100 v2
  let c4_i32_108 : BitVec 32 := 4#32
  let v143 : BitVec 32 := Scalar.muli v136 c4_i32_108
  let v144 : BitVec 32 := Scalar.addi c0_i32_109 v143
  let c1_i32_101 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v137 : BitVec 32 := Scalar.subi c1_i32_101 v5
  let c2_i32_110 : BitVec 32 := 2#32
  let v145 : BitVec 32 := Scalar.muli v137 c2_i32_110
  let v146 : BitVec 32 := Scalar.addi v144 v145
  let c1_i32_102 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v138 : BitVec 32 := Scalar.subi c1_i32_102 v8
  let c1_i32_111 : BitVec 32 := 1#32
  let v147 : BitVec 32 := Scalar.muli v138 c1_i32_111
  let v148 : BitVec 32 := Scalar.addi v146 v147
  v148.toNat
def k0_off9 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_117 : BitVec 32 := 0#32
  let c0_i32_118 : BitVec 32 := 0#32
  ![v12.toNat, 0, 0]
def k0_off10 (d0 : Dev nD) : Fin 3 → Nat :=
  let c4_i32_122 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v164 : BitVec 32 := Scalar.muli c4_i32_122 v2
  let c2_i32_123 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v165 : BitVec 32 := Scalar.muli c2_i32_123 v5
  let v166 : BitVec 32 := Scalar.addi v164 v165
  let c1_i32_121 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v163 : BitVec 32 := Scalar.subi c1_i32_121 v8
  let v167 : BitVec 32 := Scalar.addi v166 v163
  let c0_i32_134 : BitVec 32 := 0#32
  let c0_i32_135 : BitVec 32 := 0#32
  ![v167.toNat, 0, 0]
def k0_dev8 (d0 : Dev nD) : Nat :=
  let c0_i32_129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_128 : BitVec 32 := 4#32
  let v168 : BitVec 32 := Scalar.muli v2 c4_i32_128
  let v169 : BitVec 32 := Scalar.addi c0_i32_129 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v170 : BitVec 32 := Scalar.muli v5 c2_i32_130
  let v171 : BitVec 32 := Scalar.addi v169 v170
  let c1_i32_121 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v163 : BitVec 32 := Scalar.subi c1_i32_121 v8
  let c1_i32_131 : BitVec 32 := 1#32
  let v172 : BitVec 32 := Scalar.muli v163 c1_i32_131
  let v173 : BitVec 32 := Scalar.addi v171 v172
  v173.toNat
def k0_off11 (d0 : Dev nD) : Fin 3 → Nat :=
  let c4_i32_137 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v183 : BitVec 32 := Scalar.muli c4_i32_137 v2
  let c2_i32_138 : BitVec 32 := 2#32
  let c1_i32_136 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v182 : BitVec 32 := Scalar.subi c1_i32_136 v5
  let v184 : BitVec 32 := Scalar.muli c2_i32_138 v182
  let v185 : BitVec 32 := Scalar.addi v183 v184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v186 : BitVec 32 := Scalar.addi v185 v8
  let c0_i32_149 : BitVec 32 := 0#32
  let c0_i32_150 : BitVec 32 := 0#32
  ![v186.toNat, 0, 0]
def k0_dev9 (d0 : Dev nD) : Nat :=
  let c0_i32_144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_143 : BitVec 32 := 4#32
  let v187 : BitVec 32 := Scalar.muli v2 c4_i32_143
  let v188 : BitVec 32 := Scalar.addi c0_i32_144 v187
  let c1_i32_136 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v182 : BitVec 32 := Scalar.subi c1_i32_136 v5
  let c2_i32_145 : BitVec 32 := 2#32
  let v189 : BitVec 32 := Scalar.muli v182 c2_i32_145
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_146 : BitVec 32 := 1#32
  let v191 : BitVec 32 := Scalar.muli v8 c1_i32_146
  let v192 : BitVec 32 := Scalar.addi v190 v191
  v192.toNat
def k0_off12 (d0 : Dev nD) : Fin 3 → Nat :=
  let c4_i32_153 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v203 : BitVec 32 := Scalar.muli c4_i32_153 v2
  let c2_i32_154 : BitVec 32 := 2#32
  let c1_i32_151 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v201 : BitVec 32 := Scalar.subi c1_i32_151 v5
  let v204 : BitVec 32 := Scalar.muli c2_i32_154 v201
  let v205 : BitVec 32 := Scalar.addi v203 v204
  let c1_i32_152 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v202 : BitVec 32 := Scalar.subi c1_i32_152 v8
  let v206 : BitVec 32 := Scalar.addi v205 v202
  let c0_i32_165 : BitVec 32 := 0#32
  let c0_i32_166 : BitVec 32 := 0#32
  ![v206.toNat, 0, 0]
def k0_dev10 (d0 : Dev nD) : Nat :=
  let c0_i32_160 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_159 : BitVec 32 := 4#32
  let v207 : BitVec 32 := Scalar.muli v2 c4_i32_159
  let v208 : BitVec 32 := Scalar.addi c0_i32_160 v207
  let c1_i32_151 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v201 : BitVec 32 := Scalar.subi c1_i32_151 v5
  let c2_i32_161 : BitVec 32 := 2#32
  let v209 : BitVec 32 := Scalar.muli v201 c2_i32_161
  let v210 : BitVec 32 := Scalar.addi v208 v209
  let c1_i32_152 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v202 : BitVec 32 := Scalar.subi c1_i32_152 v8
  let c1_i32_162 : BitVec 32 := 1#32
  let v211 : BitVec 32 := Scalar.muli v202 c1_i32_162
  let v212 : BitVec 32 := Scalar.addi v210 v211
  v212.toNat
def k0_off13 (d0 : Dev nD) : Fin 3 → Nat :=
  let c4_i32_168 : BitVec 32 := 4#32
  let c1_i32_167 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_167 v2
  let v222 : BitVec 32 := Scalar.muli c4_i32_168 v221
  let c2_i32_169 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v223 : BitVec 32 := Scalar.muli c2_i32_169 v5
  let v224 : BitVec 32 := Scalar.addi v222 v223
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v225 : BitVec 32 := Scalar.addi v224 v8
  let c0_i32_180 : BitVec 32 := 0#32
  let c0_i32_181 : BitVec 32 := 0#32
  ![v225.toNat, 0, 0]
def k0_dev11 (d0 : Dev nD) : Nat :=
  let c0_i32_175 : BitVec 32 := 0#32
  let c1_i32_167 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v221 : BitVec 32 := Scalar.subi c1_i32_167 v2
  let c4_i32_174 : BitVec 32 := 4#32
  let v226 : BitVec 32 := Scalar.muli v221 c4_i32_174
  let v227 : BitVec 32 := Scalar.addi c0_i32_175 v226
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_176 : BitVec 32 := 2#32
  let v228 : BitVec 32 := Scalar.muli v5 c2_i32_176
  let v229 : BitVec 32 := Scalar.addi v227 v228
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v230 : BitVec 32 := Scalar.muli v8 c1_i32_177
  let v231 : BitVec 32 := Scalar.addi v229 v230
  v231.toNat
def k0_off14 (d0 : Dev nD) : Fin 3 → Nat :=
  let c4_i32_184 : BitVec 32 := 4#32
  let c1_i32_182 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v240 : BitVec 32 := Scalar.subi c1_i32_182 v2
  let v242 : BitVec 32 := Scalar.muli c4_i32_184 v240
  let c2_i32_185 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v243 : BitVec 32 := Scalar.muli c2_i32_185 v5
  let v244 : BitVec 32 := Scalar.addi v242 v243
  let c1_i32_183 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v241 : BitVec 32 := Scalar.subi c1_i32_183 v8
  let v245 : BitVec 32 := Scalar.addi v244 v241
  let c0_i32_196 : BitVec 32 := 0#32
  let c0_i32_197 : BitVec 32 := 0#32
  ![v245.toNat, 0, 0]
def k0_dev12 (d0 : Dev nD) : Nat :=
  let c0_i32_191 : BitVec 32 := 0#32
  let c1_i32_182 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v240 : BitVec 32 := Scalar.subi c1_i32_182 v2
  let c4_i32_190 : BitVec 32 := 4#32
  let v246 : BitVec 32 := Scalar.muli v240 c4_i32_190
  let v247 : BitVec 32 := Scalar.addi c0_i32_191 v246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_192 : BitVec 32 := 2#32
  let v248 : BitVec 32 := Scalar.muli v5 c2_i32_192
  let v249 : BitVec 32 := Scalar.addi v247 v248
  let c1_i32_183 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v241 : BitVec 32 := Scalar.subi c1_i32_183 v8
  let c1_i32_193 : BitVec 32 := 1#32
  let v250 : BitVec 32 := Scalar.muli v241 c1_i32_193
  let v251 : BitVec 32 := Scalar.addi v249 v250
  v251.toNat
def k0_off15 (d0 : Dev nD) : Fin 3 → Nat :=
  let c4_i32_200 : BitVec 32 := 4#32
  let c1_i32_198 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v260 : BitVec 32 := Scalar.subi c1_i32_198 v2
  let v262 : BitVec 32 := Scalar.muli c4_i32_200 v260
  let c2_i32_201 : BitVec 32 := 2#32
  let c1_i32_199 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v261 : BitVec 32 := Scalar.subi c1_i32_199 v5
  let v263 : BitVec 32 := Scalar.muli c2_i32_201 v261
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v265 : BitVec 32 := Scalar.addi v264 v8
  let c0_i32_212 : BitVec 32 := 0#32
  let c0_i32_213 : BitVec 32 := 0#32
  ![v265.toNat, 0, 0]
def k0_dev13 (d0 : Dev nD) : Nat :=
  let c0_i32_207 : BitVec 32 := 0#32
  let c1_i32_198 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v260 : BitVec 32 := Scalar.subi c1_i32_198 v2
  let c4_i32_206 : BitVec 32 := 4#32
  let v266 : BitVec 32 := Scalar.muli v260 c4_i32_206
  let v267 : BitVec 32 := Scalar.addi c0_i32_207 v266
  let c1_i32_199 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v261 : BitVec 32 := Scalar.subi c1_i32_199 v5
  let c2_i32_208 : BitVec 32 := 2#32
  let v268 : BitVec 32 := Scalar.muli v261 c2_i32_208
  let v269 : BitVec 32 := Scalar.addi v267 v268
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_209 : BitVec 32 := 1#32
  let v270 : BitVec 32 := Scalar.muli v8 c1_i32_209
  let v271 : BitVec 32 := Scalar.addi v269 v270
  v271.toNat
def k0_off16 (d0 : Dev nD) : Fin 3 → Nat :=
  let c4_i32_217 : BitVec 32 := 4#32
  let c1_i32_214 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v280 : BitVec 32 := Scalar.subi c1_i32_214 v2
  let v283 : BitVec 32 := Scalar.muli c4_i32_217 v280
  let c2_i32_218 : BitVec 32 := 2#32
  let c1_i32_215 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v281 : BitVec 32 := Scalar.subi c1_i32_215 v5
  let v284 : BitVec 32 := Scalar.muli c2_i32_218 v281
  let v285 : BitVec 32 := Scalar.addi v283 v284
  let c1_i32_216 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v282 : BitVec 32 := Scalar.subi c1_i32_216 v8
  let v286 : BitVec 32 := Scalar.addi v285 v282
  let c0_i32_229 : BitVec 32 := 0#32
  let c0_i32_230 : BitVec 32 := 0#32
  ![v286.toNat, 0, 0]
def k0_dev14 (d0 : Dev nD) : Nat :=
  let c0_i32_224 : BitVec 32 := 0#32
  let c1_i32_214 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v280 : BitVec 32 := Scalar.subi c1_i32_214 v2
  let c4_i32_223 : BitVec 32 := 4#32
  let v287 : BitVec 32 := Scalar.muli v280 c4_i32_223
  let v288 : BitVec 32 := Scalar.addi c0_i32_224 v287
  let c1_i32_215 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v281 : BitVec 32 := Scalar.subi c1_i32_215 v5
  let c2_i32_225 : BitVec 32 := 2#32
  let v289 : BitVec 32 := Scalar.muli v281 c2_i32_225
  let v290 : BitVec 32 := Scalar.addi v288 v289
  let c1_i32_216 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v282 : BitVec 32 := Scalar.subi c1_i32_216 v8
  let c1_i32_226 : BitVec 32 := 1#32
  let v291 : BitVec 32 := Scalar.muli v282 c1_i32_226
  let v292 : BitVec 32 := Scalar.addi v290 v291
  v292.toNat
def k0_off17 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_232 : BitVec 32 := 0#32
  let c0_i32_233 : BitVec 32 := 0#32
  ![v12.toNat, 0, 0]
def k0_off18 (d0 : Dev nD) : Fin 3 → Nat :=
  let c4_i32_237 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v308 : BitVec 32 := Scalar.muli c4_i32_237 v2
  let c2_i32_238 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v309 : BitVec 32 := Scalar.muli c2_i32_238 v5
  let v310 : BitVec 32 := Scalar.addi v308 v309
  let c1_i32_236 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v307 : BitVec 32 := Scalar.subi c1_i32_236 v8
  let v311 : BitVec 32 := Scalar.addi v310 v307
  let c0_i32_249 : BitVec 32 := 0#32
  let c0_i32_250 : BitVec 32 := 0#32
  ![v311.toNat, 0, 0]
def k0_dev15 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_243 : BitVec 32 := 4#32
  let v312 : BitVec 32 := Scalar.muli v2 c4_i32_243
  let v313 : BitVec 32 := Scalar.addi c0_i32_244 v312
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_245 : BitVec 32 := 2#32
  let v314 : BitVec 32 := Scalar.muli v5 c2_i32_245
  let v315 : BitVec 32 := Scalar.addi v313 v314
  let c1_i32_236 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v307 : BitVec 32 := Scalar.subi c1_i32_236 v8
  let c1_i32_246 : BitVec 32 := 1#32
  let v316 : BitVec 32 := Scalar.muli v307 c1_i32_246
  let v317 : BitVec 32 := Scalar.addi v315 v316
  v317.toNat
def k0_off19 (d0 : Dev nD) : Fin 3 → Nat :=
  let c4_i32_252 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v327 : BitVec 32 := Scalar.muli c4_i32_252 v2
  let c2_i32_253 : BitVec 32 := 2#32
  let c1_i32_251 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v326 : BitVec 32 := Scalar.subi c1_i32_251 v5
  let v328 : BitVec 32 := Scalar.muli c2_i32_253 v326
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v330 : BitVec 32 := Scalar.addi v329 v8
  let c0_i32_264 : BitVec 32 := 0#32
  let c0_i32_265 : BitVec 32 := 0#32
  ![v330.toNat, 0, 0]
def k0_dev16 (d0 : Dev nD) : Nat :=
  let c0_i32_259 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_258 : BitVec 32 := 4#32
  let v331 : BitVec 32 := Scalar.muli v2 c4_i32_258
  let v332 : BitVec 32 := Scalar.addi c0_i32_259 v331
  let c1_i32_251 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v326 : BitVec 32 := Scalar.subi c1_i32_251 v5
  let c2_i32_260 : BitVec 32 := 2#32
  let v333 : BitVec 32 := Scalar.muli v326 c2_i32_260
  let v334 : BitVec 32 := Scalar.addi v332 v333
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_261 : BitVec 32 := 1#32
  let v335 : BitVec 32 := Scalar.muli v8 c1_i32_261
  let v336 : BitVec 32 := Scalar.addi v334 v335
  v336.toNat
def k0_off20 (d0 : Dev nD) : Fin 3 → Nat :=
  let c4_i32_268 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v347 : BitVec 32 := Scalar.muli c4_i32_268 v2
  let c2_i32_269 : BitVec 32 := 2#32
  let c1_i32_266 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_266 v5
  let v348 : BitVec 32 := Scalar.muli c2_i32_269 v345
  let v349 : BitVec 32 := Scalar.addi v347 v348
  let c1_i32_267 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v346 : BitVec 32 := Scalar.subi c1_i32_267 v8
  let v350 : BitVec 32 := Scalar.addi v349 v346
  let c0_i32_280 : BitVec 32 := 0#32
  let c0_i32_281 : BitVec 32 := 0#32
  ![v350.toNat, 0, 0]
def k0_dev17 (d0 : Dev nD) : Nat :=
  let c0_i32_275 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_274 : BitVec 32 := 4#32
  let v351 : BitVec 32 := Scalar.muli v2 c4_i32_274
  let v352 : BitVec 32 := Scalar.addi c0_i32_275 v351
  let c1_i32_266 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v345 : BitVec 32 := Scalar.subi c1_i32_266 v5
  let c2_i32_276 : BitVec 32 := 2#32
  let v353 : BitVec 32 := Scalar.muli v345 c2_i32_276
  let v354 : BitVec 32 := Scalar.addi v352 v353
  let c1_i32_267 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v346 : BitVec 32 := Scalar.subi c1_i32_267 v8
  let c1_i32_277 : BitVec 32 := 1#32
  let v355 : BitVec 32 := Scalar.muli v346 c1_i32_277
  let v356 : BitVec 32 := Scalar.addi v354 v355
  v356.toNat
def k0_off21 (d0 : Dev nD) : Fin 3 → Nat :=
  let c4_i32_283 : BitVec 32 := 4#32
  let c1_i32_282 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v365 : BitVec 32 := Scalar.subi c1_i32_282 v2
  let v366 : BitVec 32 := Scalar.muli c4_i32_283 v365
  let c2_i32_284 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v367 : BitVec 32 := Scalar.muli c2_i32_284 v5
  let v368 : BitVec 32 := Scalar.addi v366 v367
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v369 : BitVec 32 := Scalar.addi v368 v8
  let c0_i32_295 : BitVec 32 := 0#32
  let c0_i32_296 : BitVec 32 := 0#32
  ![v369.toNat, 0, 0]
def k0_dev18 (d0 : Dev nD) : Nat :=
  let c0_i32_290 : BitVec 32 := 0#32
  let c1_i32_282 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v365 : BitVec 32 := Scalar.subi c1_i32_282 v2
  let c4_i32_289 : BitVec 32 := 4#32
  let v370 : BitVec 32 := Scalar.muli v365 c4_i32_289
  let v371 : BitVec 32 := Scalar.addi c0_i32_290 v370
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_291 : BitVec 32 := 2#32
  let v372 : BitVec 32 := Scalar.muli v5 c2_i32_291
  let v373 : BitVec 32 := Scalar.addi v371 v372
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v374 : BitVec 32 := Scalar.muli v8 c1_i32_292
  let v375 : BitVec 32 := Scalar.addi v373 v374
  v375.toNat
def k0_off22 (d0 : Dev nD) : Fin 3 → Nat :=
  let c4_i32_299 : BitVec 32 := 4#32
  let c1_i32_297 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v384 : BitVec 32 := Scalar.subi c1_i32_297 v2
  let v386 : BitVec 32 := Scalar.muli c4_i32_299 v384
  let c2_i32_300 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v387 : BitVec 32 := Scalar.muli c2_i32_300 v5
  let v388 : BitVec 32 := Scalar.addi v386 v387
  let c1_i32_298 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v385 : BitVec 32 := Scalar.subi c1_i32_298 v8
  let v389 : BitVec 32 := Scalar.addi v388 v385
  let c0_i32_311 : BitVec 32 := 0#32
  let c0_i32_312 : BitVec 32 := 0#32
  ![v389.toNat, 0, 0]
def k0_dev19 (d0 : Dev nD) : Nat :=
  let c0_i32_306 : BitVec 32 := 0#32
  let c1_i32_297 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v384 : BitVec 32 := Scalar.subi c1_i32_297 v2
  let c4_i32_305 : BitVec 32 := 4#32
  let v390 : BitVec 32 := Scalar.muli v384 c4_i32_305
  let v391 : BitVec 32 := Scalar.addi c0_i32_306 v390
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_307 : BitVec 32 := 2#32
  let v392 : BitVec 32 := Scalar.muli v5 c2_i32_307
  let v393 : BitVec 32 := Scalar.addi v391 v392
  let c1_i32_298 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v385 : BitVec 32 := Scalar.subi c1_i32_298 v8
  let c1_i32_308 : BitVec 32 := 1#32
  let v394 : BitVec 32 := Scalar.muli v385 c1_i32_308
  let v395 : BitVec 32 := Scalar.addi v393 v394
  v395.toNat
def k0_off23 (d0 : Dev nD) : Fin 3 → Nat :=
  let c4_i32_315 : BitVec 32 := 4#32
  let c1_i32_313 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v404 : BitVec 32 := Scalar.subi c1_i32_313 v2
  let v406 : BitVec 32 := Scalar.muli c4_i32_315 v404
  let c2_i32_316 : BitVec 32 := 2#32
  let c1_i32_314 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.subi c1_i32_314 v5
  let v407 : BitVec 32 := Scalar.muli c2_i32_316 v405
  let v408 : BitVec 32 := Scalar.addi v406 v407
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v409 : BitVec 32 := Scalar.addi v408 v8
  let c0_i32_327 : BitVec 32 := 0#32
  let c0_i32_328 : BitVec 32 := 0#32
  ![v409.toNat, 0, 0]
def k0_dev20 (d0 : Dev nD) : Nat :=
  let c0_i32_322 : BitVec 32 := 0#32
  let c1_i32_313 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v404 : BitVec 32 := Scalar.subi c1_i32_313 v2
  let c4_i32_321 : BitVec 32 := 4#32
  let v410 : BitVec 32 := Scalar.muli v404 c4_i32_321
  let v411 : BitVec 32 := Scalar.addi c0_i32_322 v410
  let c1_i32_314 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v405 : BitVec 32 := Scalar.subi c1_i32_314 v5
  let c2_i32_323 : BitVec 32 := 2#32
  let v412 : BitVec 32 := Scalar.muli v405 c2_i32_323
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_324 : BitVec 32 := 1#32
  let v414 : BitVec 32 := Scalar.muli v8 c1_i32_324
  let v415 : BitVec 32 := Scalar.addi v413 v414
  v415.toNat
def k0_off24 (d0 : Dev nD) : Fin 3 → Nat :=
  let c4_i32_332 : BitVec 32 := 4#32
  let c1_i32_329 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v424 : BitVec 32 := Scalar.subi c1_i32_329 v2
  let v427 : BitVec 32 := Scalar.muli c4_i32_332 v424
  let c2_i32_333 : BitVec 32 := 2#32
  let c1_i32_330 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v425 : BitVec 32 := Scalar.subi c1_i32_330 v5
  let v428 : BitVec 32 := Scalar.muli c2_i32_333 v425
  let v429 : BitVec 32 := Scalar.addi v427 v428
  let c1_i32_331 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v426 : BitVec 32 := Scalar.subi c1_i32_331 v8
  let v430 : BitVec 32 := Scalar.addi v429 v426
  let c0_i32_344 : BitVec 32 := 0#32
  let c0_i32_345 : BitVec 32 := 0#32
  ![v430.toNat, 0, 0]
def k0_dev21 (d0 : Dev nD) : Nat :=
  let c0_i32_339 : BitVec 32 := 0#32
  let c1_i32_329 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v424 : BitVec 32 := Scalar.subi c1_i32_329 v2
  let c4_i32_338 : BitVec 32 := 4#32
  let v431 : BitVec 32 := Scalar.muli v424 c4_i32_338
  let v432 : BitVec 32 := Scalar.addi c0_i32_339 v431
  let c1_i32_330 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v425 : BitVec 32 := Scalar.subi c1_i32_330 v5
  let c2_i32_340 : BitVec 32 := 2#32
  let v433 : BitVec 32 := Scalar.muli v425 c2_i32_340
  let v434 : BitVec 32 := Scalar.addi v432 v433
  let c1_i32_331 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v426 : BitVec 32 := Scalar.subi c1_i32_331 v8
  let c1_i32_341 : BitVec 32 := 1#32
  let v435 : BitVec 32 := Scalar.muli v426 c1_i32_341
  let v436 : BitVec 32 := Scalar.addi v434 v435
  v436.toNat
def k0_off25 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_347 : BitVec 32 := 0#32
  let c0_i32_348 : BitVec 32 := 0#32
  ![v12.toNat, 0, 0]
def k0_off26 (d0 : Dev nD) : Fin 3 → Nat :=
  let c4_i32_352 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v452 : BitVec 32 := Scalar.muli c4_i32_352 v2
  let c2_i32_353 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v453 : BitVec 32 := Scalar.muli c2_i32_353 v5
  let v454 : BitVec 32 := Scalar.addi v452 v453
  let c1_i32_351 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v451 : BitVec 32 := Scalar.subi c1_i32_351 v8
  let v455 : BitVec 32 := Scalar.addi v454 v451
  let c0_i32_364 : BitVec 32 := 0#32
  let c0_i32_365 : BitVec 32 := 0#32
  ![v455.toNat, 0, 0]
def k0_dev22 (d0 : Dev nD) : Nat :=
  let c0_i32_359 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_358 : BitVec 32 := 4#32
  let v456 : BitVec 32 := Scalar.muli v2 c4_i32_358
  let v457 : BitVec 32 := Scalar.addi c0_i32_359 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_360 : BitVec 32 := 2#32
  let v458 : BitVec 32 := Scalar.muli v5 c2_i32_360
  let v459 : BitVec 32 := Scalar.addi v457 v458
  let c1_i32_351 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v451 : BitVec 32 := Scalar.subi c1_i32_351 v8
  let c1_i32_361 : BitVec 32 := 1#32
  let v460 : BitVec 32 := Scalar.muli v451 c1_i32_361
  let v461 : BitVec 32 := Scalar.addi v459 v460
  v461.toNat
def k0_off27 (d0 : Dev nD) : Fin 3 → Nat :=
  let c4_i32_367 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v471 : BitVec 32 := Scalar.muli c4_i32_367 v2
  let c2_i32_368 : BitVec 32 := 2#32
  let c1_i32_366 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v470 : BitVec 32 := Scalar.subi c1_i32_366 v5
  let v472 : BitVec 32 := Scalar.muli c2_i32_368 v470
  let v473 : BitVec 32 := Scalar.addi v471 v472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v474 : BitVec 32 := Scalar.addi v473 v8
  let c0_i32_379 : BitVec 32 := 0#32
  let c0_i32_380 : BitVec 32 := 0#32
  ![v474.toNat, 0, 0]
def k0_dev23 (d0 : Dev nD) : Nat :=
  let c0_i32_374 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_373 : BitVec 32 := 4#32
  let v475 : BitVec 32 := Scalar.muli v2 c4_i32_373
  let v476 : BitVec 32 := Scalar.addi c0_i32_374 v475
  let c1_i32_366 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v470 : BitVec 32 := Scalar.subi c1_i32_366 v5
  let c2_i32_375 : BitVec 32 := 2#32
  let v477 : BitVec 32 := Scalar.muli v470 c2_i32_375
  let v478 : BitVec 32 := Scalar.addi v476 v477
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_376 : BitVec 32 := 1#32
  let v479 : BitVec 32 := Scalar.muli v8 c1_i32_376
  let v480 : BitVec 32 := Scalar.addi v478 v479
  v480.toNat
def k0_off28 (d0 : Dev nD) : Fin 3 → Nat :=
  let c4_i32_383 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v491 : BitVec 32 := Scalar.muli c4_i32_383 v2
  let c2_i32_384 : BitVec 32 := 2#32
  let c1_i32_381 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v489 : BitVec 32 := Scalar.subi c1_i32_381 v5
  let v492 : BitVec 32 := Scalar.muli c2_i32_384 v489
  let v493 : BitVec 32 := Scalar.addi v491 v492
  let c1_i32_382 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v490 : BitVec 32 := Scalar.subi c1_i32_382 v8
  let v494 : BitVec 32 := Scalar.addi v493 v490
  let c0_i32_395 : BitVec 32 := 0#32
  let c0_i32_396 : BitVec 32 := 0#32
  ![v494.toNat, 0, 0]
def k0_dev24 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_389 : BitVec 32 := 4#32
  let v495 : BitVec 32 := Scalar.muli v2 c4_i32_389
  let v496 : BitVec 32 := Scalar.addi c0_i32_390 v495
  let c1_i32_381 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v489 : BitVec 32 := Scalar.subi c1_i32_381 v5
  let c2_i32_391 : BitVec 32 := 2#32
  let v497 : BitVec 32 := Scalar.muli v489 c2_i32_391
  let v498 : BitVec 32 := Scalar.addi v496 v497
  let c1_i32_382 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v490 : BitVec 32 := Scalar.subi c1_i32_382 v8
  let c1_i32_392 : BitVec 32 := 1#32
  let v499 : BitVec 32 := Scalar.muli v490 c1_i32_392
  let v500 : BitVec 32 := Scalar.addi v498 v499
  v500.toNat
def k0_off29 (d0 : Dev nD) : Fin 3 → Nat :=
  let c4_i32_398 : BitVec 32 := 4#32
  let c1_i32_397 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v509 : BitVec 32 := Scalar.subi c1_i32_397 v2
  let v510 : BitVec 32 := Scalar.muli c4_i32_398 v509
  let c2_i32_399 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v511 : BitVec 32 := Scalar.muli c2_i32_399 v5
  let v512 : BitVec 32 := Scalar.addi v510 v511
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v513 : BitVec 32 := Scalar.addi v512 v8
  let c0_i32_410 : BitVec 32 := 0#32
  let c0_i32_411 : BitVec 32 := 0#32
  ![v513.toNat, 0, 0]
def k0_dev25 (d0 : Dev nD) : Nat :=
  let c0_i32_405 : BitVec 32 := 0#32
  let c1_i32_397 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v509 : BitVec 32 := Scalar.subi c1_i32_397 v2
  let c4_i32_404 : BitVec 32 := 4#32
  let v514 : BitVec 32 := Scalar.muli v509 c4_i32_404
  let v515 : BitVec 32 := Scalar.addi c0_i32_405 v514
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_406 : BitVec 32 := 2#32
  let v516 : BitVec 32 := Scalar.muli v5 c2_i32_406
  let v517 : BitVec 32 := Scalar.addi v515 v516
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_407 : BitVec 32 := 1#32
  let v518 : BitVec 32 := Scalar.muli v8 c1_i32_407
  let v519 : BitVec 32 := Scalar.addi v517 v518
  v519.toNat
def k0_off30 (d0 : Dev nD) : Fin 3 → Nat :=
  let c4_i32_414 : BitVec 32 := 4#32
  let c1_i32_412 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v528 : BitVec 32 := Scalar.subi c1_i32_412 v2
  let v530 : BitVec 32 := Scalar.muli c4_i32_414 v528
  let c2_i32_415 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v531 : BitVec 32 := Scalar.muli c2_i32_415 v5
  let v532 : BitVec 32 := Scalar.addi v530 v531
  let c1_i32_413 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v529 : BitVec 32 := Scalar.subi c1_i32_413 v8
  let v533 : BitVec 32 := Scalar.addi v532 v529
  let c0_i32_426 : BitVec 32 := 0#32
  let c0_i32_427 : BitVec 32 := 0#32
  ![v533.toNat, 0, 0]
def k0_dev26 (d0 : Dev nD) : Nat :=
  let c0_i32_421 : BitVec 32 := 0#32
  let c1_i32_412 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v528 : BitVec 32 := Scalar.subi c1_i32_412 v2
  let c4_i32_420 : BitVec 32 := 4#32
  let v534 : BitVec 32 := Scalar.muli v528 c4_i32_420
  let v535 : BitVec 32 := Scalar.addi c0_i32_421 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_422 : BitVec 32 := 2#32
  let v536 : BitVec 32 := Scalar.muli v5 c2_i32_422
  let v537 : BitVec 32 := Scalar.addi v535 v536
  let c1_i32_413 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v529 : BitVec 32 := Scalar.subi c1_i32_413 v8
  let c1_i32_423 : BitVec 32 := 1#32
  let v538 : BitVec 32 := Scalar.muli v529 c1_i32_423
  let v539 : BitVec 32 := Scalar.addi v537 v538
  v539.toNat
def k0_off31 (d0 : Dev nD) : Fin 3 → Nat :=
  let c4_i32_430 : BitVec 32 := 4#32
  let c1_i32_428 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v548 : BitVec 32 := Scalar.subi c1_i32_428 v2
  let v550 : BitVec 32 := Scalar.muli c4_i32_430 v548
  let c2_i32_431 : BitVec 32 := 2#32
  let c1_i32_429 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v549 : BitVec 32 := Scalar.subi c1_i32_429 v5
  let v551 : BitVec 32 := Scalar.muli c2_i32_431 v549
  let v552 : BitVec 32 := Scalar.addi v550 v551
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v553 : BitVec 32 := Scalar.addi v552 v8
  let c0_i32_442 : BitVec 32 := 0#32
  let c0_i32_443 : BitVec 32 := 0#32
  ![v553.toNat, 0, 0]
def k0_dev27 (d0 : Dev nD) : Nat :=
  let c0_i32_437 : BitVec 32 := 0#32
  let c1_i32_428 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v548 : BitVec 32 := Scalar.subi c1_i32_428 v2
  let c4_i32_436 : BitVec 32 := 4#32
  let v554 : BitVec 32 := Scalar.muli v548 c4_i32_436
  let v555 : BitVec 32 := Scalar.addi c0_i32_437 v554
  let c1_i32_429 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v549 : BitVec 32 := Scalar.subi c1_i32_429 v5
  let c2_i32_438 : BitVec 32 := 2#32
  let v556 : BitVec 32 := Scalar.muli v549 c2_i32_438
  let v557 : BitVec 32 := Scalar.addi v555 v556
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_439 : BitVec 32 := 1#32
  let v558 : BitVec 32 := Scalar.muli v8 c1_i32_439
  let v559 : BitVec 32 := Scalar.addi v557 v558
  v559.toNat
def k0_off32 (d0 : Dev nD) : Fin 3 → Nat :=
  let c4_i32_447 : BitVec 32 := 4#32
  let c1_i32_444 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v568 : BitVec 32 := Scalar.subi c1_i32_444 v2
  let v571 : BitVec 32 := Scalar.muli c4_i32_447 v568
  let c2_i32_448 : BitVec 32 := 2#32
  let c1_i32_445 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v569 : BitVec 32 := Scalar.subi c1_i32_445 v5
  let v572 : BitVec 32 := Scalar.muli c2_i32_448 v569
  let v573 : BitVec 32 := Scalar.addi v571 v572
  let c1_i32_446 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v570 : BitVec 32 := Scalar.subi c1_i32_446 v8
  let v574 : BitVec 32 := Scalar.addi v573 v570
  let c0_i32_459 : BitVec 32 := 0#32
  let c0_i32_460 : BitVec 32 := 0#32
  ![v574.toNat, 0, 0]
def k0_dev28 (d0 : Dev nD) : Nat :=
  let c0_i32_454 : BitVec 32 := 0#32
  let c1_i32_444 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v568 : BitVec 32 := Scalar.subi c1_i32_444 v2
  let c4_i32_453 : BitVec 32 := 4#32
  let v575 : BitVec 32 := Scalar.muli v568 c4_i32_453
  let v576 : BitVec 32 := Scalar.addi c0_i32_454 v575
  let c1_i32_445 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v569 : BitVec 32 := Scalar.subi c1_i32_445 v5
  let c2_i32_455 : BitVec 32 := 2#32
  let v577 : BitVec 32 := Scalar.muli v569 c2_i32_455
  let v578 : BitVec 32 := Scalar.addi v576 v577
  let c1_i32_446 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v570 : BitVec 32 := Scalar.subi c1_i32_446 v8
  let c1_i32_456 : BitVec 32 := 1#32
  let v579 : BitVec 32 := Scalar.muli v570 c1_i32_456
  let v580 : BitVec 32 := Scalar.addi v578 v579
  v580.toNat
def k0_off33 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_462 : BitVec 32 := 0#32
  let c0_i32_463 : BitVec 32 := 0#32
  ![v12.toNat, 0, 0]
def k0_off34 (d0 : Dev nD) : Fin 3 → Nat :=
  let c4_i32_467 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v596 : BitVec 32 := Scalar.muli c4_i32_467 v2
  let c2_i32_468 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v597 : BitVec 32 := Scalar.muli c2_i32_468 v5
  let v598 : BitVec 32 := Scalar.addi v596 v597
  let c1_i32_466 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v595 : BitVec 32 := Scalar.subi c1_i32_466 v8
  let v599 : BitVec 32 := Scalar.addi v598 v595
  let c0_i32_479 : BitVec 32 := 0#32
  let c0_i32_480 : BitVec 32 := 0#32
  ![v599.toNat, 0, 0]
def k0_dev29 (d0 : Dev nD) : Nat :=
  let c0_i32_474 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_473 : BitVec 32 := 4#32
  let v600 : BitVec 32 := Scalar.muli v2 c4_i32_473
  let v601 : BitVec 32 := Scalar.addi c0_i32_474 v600
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_475 : BitVec 32 := 2#32
  let v602 : BitVec 32 := Scalar.muli v5 c2_i32_475
  let v603 : BitVec 32 := Scalar.addi v601 v602
  let c1_i32_466 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v595 : BitVec 32 := Scalar.subi c1_i32_466 v8
  let c1_i32_476 : BitVec 32 := 1#32
  let v604 : BitVec 32 := Scalar.muli v595 c1_i32_476
  let v605 : BitVec 32 := Scalar.addi v603 v604
  v605.toNat
def k0_off35 (d0 : Dev nD) : Fin 3 → Nat :=
  let c4_i32_482 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v615 : BitVec 32 := Scalar.muli c4_i32_482 v2
  let c2_i32_483 : BitVec 32 := 2#32
  let c1_i32_481 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v614 : BitVec 32 := Scalar.subi c1_i32_481 v5
  let v616 : BitVec 32 := Scalar.muli c2_i32_483 v614
  let v617 : BitVec 32 := Scalar.addi v615 v616
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v618 : BitVec 32 := Scalar.addi v617 v8
  let c0_i32_494 : BitVec 32 := 0#32
  let c0_i32_495 : BitVec 32 := 0#32
  ![v618.toNat, 0, 0]
def k0_dev30 (d0 : Dev nD) : Nat :=
  let c0_i32_489 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_488 : BitVec 32 := 4#32
  let v619 : BitVec 32 := Scalar.muli v2 c4_i32_488
  let v620 : BitVec 32 := Scalar.addi c0_i32_489 v619
  let c1_i32_481 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v614 : BitVec 32 := Scalar.subi c1_i32_481 v5
  let c2_i32_490 : BitVec 32 := 2#32
  let v621 : BitVec 32 := Scalar.muli v614 c2_i32_490
  let v622 : BitVec 32 := Scalar.addi v620 v621
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_491 : BitVec 32 := 1#32
  let v623 : BitVec 32 := Scalar.muli v8 c1_i32_491
  let v624 : BitVec 32 := Scalar.addi v622 v623
  v624.toNat
def k0_off36 (d0 : Dev nD) : Fin 3 → Nat :=
  let c4_i32_498 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v635 : BitVec 32 := Scalar.muli c4_i32_498 v2
  let c2_i32_499 : BitVec 32 := 2#32
  let c1_i32_496 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v633 : BitVec 32 := Scalar.subi c1_i32_496 v5
  let v636 : BitVec 32 := Scalar.muli c2_i32_499 v633
  let v637 : BitVec 32 := Scalar.addi v635 v636
  let c1_i32_497 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v634 : BitVec 32 := Scalar.subi c1_i32_497 v8
  let v638 : BitVec 32 := Scalar.addi v637 v634
  let c0_i32_510 : BitVec 32 := 0#32
  let c0_i32_511 : BitVec 32 := 0#32
  ![v638.toNat, 0, 0]
def k0_dev31 (d0 : Dev nD) : Nat :=
  let c0_i32_505 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_504 : BitVec 32 := 4#32
  let v639 : BitVec 32 := Scalar.muli v2 c4_i32_504
  let v640 : BitVec 32 := Scalar.addi c0_i32_505 v639
  let c1_i32_496 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v633 : BitVec 32 := Scalar.subi c1_i32_496 v5
  let c2_i32_506 : BitVec 32 := 2#32
  let v641 : BitVec 32 := Scalar.muli v633 c2_i32_506
  let v642 : BitVec 32 := Scalar.addi v640 v641
  let c1_i32_497 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v634 : BitVec 32 := Scalar.subi c1_i32_497 v8
  let c1_i32_507 : BitVec 32 := 1#32
  let v643 : BitVec 32 := Scalar.muli v634 c1_i32_507
  let v644 : BitVec 32 := Scalar.addi v642 v643
  v644.toNat
def k0_off37 (d0 : Dev nD) : Fin 3 → Nat :=
  let c4_i32_513 : BitVec 32 := 4#32
  let c1_i32_512 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v653 : BitVec 32 := Scalar.subi c1_i32_512 v2
  let v654 : BitVec 32 := Scalar.muli c4_i32_513 v653
  let c2_i32_514 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v655 : BitVec 32 := Scalar.muli c2_i32_514 v5
  let v656 : BitVec 32 := Scalar.addi v654 v655
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v657 : BitVec 32 := Scalar.addi v656 v8
  let c0_i32_525 : BitVec 32 := 0#32
  let c0_i32_526 : BitVec 32 := 0#32
  ![v657.toNat, 0, 0]
def k0_dev32 (d0 : Dev nD) : Nat :=
  let c0_i32_520 : BitVec 32 := 0#32
  let c1_i32_512 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v653 : BitVec 32 := Scalar.subi c1_i32_512 v2
  let c4_i32_519 : BitVec 32 := 4#32
  let v658 : BitVec 32 := Scalar.muli v653 c4_i32_519
  let v659 : BitVec 32 := Scalar.addi c0_i32_520 v658
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_521 : BitVec 32 := 2#32
  let v660 : BitVec 32 := Scalar.muli v5 c2_i32_521
  let v661 : BitVec 32 := Scalar.addi v659 v660
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_522 : BitVec 32 := 1#32
  let v662 : BitVec 32 := Scalar.muli v8 c1_i32_522
  let v663 : BitVec 32 := Scalar.addi v661 v662
  v663.toNat
def k0_off38 (d0 : Dev nD) : Fin 3 → Nat :=
  let c4_i32_529 : BitVec 32 := 4#32
  let c1_i32_527 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v672 : BitVec 32 := Scalar.subi c1_i32_527 v2
  let v674 : BitVec 32 := Scalar.muli c4_i32_529 v672
  let c2_i32_530 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v675 : BitVec 32 := Scalar.muli c2_i32_530 v5
  let v676 : BitVec 32 := Scalar.addi v674 v675
  let c1_i32_528 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v673 : BitVec 32 := Scalar.subi c1_i32_528 v8
  let v677 : BitVec 32 := Scalar.addi v676 v673
  let c0_i32_541 : BitVec 32 := 0#32
  let c0_i32_542 : BitVec 32 := 0#32
  ![v677.toNat, 0, 0]
def k0_dev33 (d0 : Dev nD) : Nat :=
  let c0_i32_536 : BitVec 32 := 0#32
  let c1_i32_527 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v672 : BitVec 32 := Scalar.subi c1_i32_527 v2
  let c4_i32_535 : BitVec 32 := 4#32
  let v678 : BitVec 32 := Scalar.muli v672 c4_i32_535
  let v679 : BitVec 32 := Scalar.addi c0_i32_536 v678
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_537 : BitVec 32 := 2#32
  let v680 : BitVec 32 := Scalar.muli v5 c2_i32_537
  let v681 : BitVec 32 := Scalar.addi v679 v680
  let c1_i32_528 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v673 : BitVec 32 := Scalar.subi c1_i32_528 v8
  let c1_i32_538 : BitVec 32 := 1#32
  let v682 : BitVec 32 := Scalar.muli v673 c1_i32_538
  let v683 : BitVec 32 := Scalar.addi v681 v682
  v683.toNat
def k0_off39 (d0 : Dev nD) : Fin 3 → Nat :=
  let c4_i32_545 : BitVec 32 := 4#32
  let c1_i32_543 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v692 : BitVec 32 := Scalar.subi c1_i32_543 v2
  let v694 : BitVec 32 := Scalar.muli c4_i32_545 v692
  let c2_i32_546 : BitVec 32 := 2#32
  let c1_i32_544 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v693 : BitVec 32 := Scalar.subi c1_i32_544 v5
  let v695 : BitVec 32 := Scalar.muli c2_i32_546 v693
  let v696 : BitVec 32 := Scalar.addi v694 v695
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v697 : BitVec 32 := Scalar.addi v696 v8
  let c0_i32_557 : BitVec 32 := 0#32
  let c0_i32_558 : BitVec 32 := 0#32
  ![v697.toNat, 0, 0]
def k0_dev34 (d0 : Dev nD) : Nat :=
  let c0_i32_552 : BitVec 32 := 0#32
  let c1_i32_543 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v692 : BitVec 32 := Scalar.subi c1_i32_543 v2
  let c4_i32_551 : BitVec 32 := 4#32
  let v698 : BitVec 32 := Scalar.muli v692 c4_i32_551
  let v699 : BitVec 32 := Scalar.addi c0_i32_552 v698
  let c1_i32_544 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v693 : BitVec 32 := Scalar.subi c1_i32_544 v5
  let c2_i32_553 : BitVec 32 := 2#32
  let v700 : BitVec 32 := Scalar.muli v693 c2_i32_553
  let v701 : BitVec 32 := Scalar.addi v699 v700
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_554 : BitVec 32 := 1#32
  let v702 : BitVec 32 := Scalar.muli v8 c1_i32_554
  let v703 : BitVec 32 := Scalar.addi v701 v702
  v703.toNat
def k0_off40 (d0 : Dev nD) : Fin 3 → Nat :=
  let c4_i32_562 : BitVec 32 := 4#32
  let c1_i32_559 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v712 : BitVec 32 := Scalar.subi c1_i32_559 v2
  let v715 : BitVec 32 := Scalar.muli c4_i32_562 v712
  let c2_i32_563 : BitVec 32 := 2#32
  let c1_i32_560 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v713 : BitVec 32 := Scalar.subi c1_i32_560 v5
  let v716 : BitVec 32 := Scalar.muli c2_i32_563 v713
  let v717 : BitVec 32 := Scalar.addi v715 v716
  let c1_i32_561 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v714 : BitVec 32 := Scalar.subi c1_i32_561 v8
  let v718 : BitVec 32 := Scalar.addi v717 v714
  let c0_i32_574 : BitVec 32 := 0#32
  let c0_i32_575 : BitVec 32 := 0#32
  ![v718.toNat, 0, 0]
def k0_dev35 (d0 : Dev nD) : Nat :=
  let c0_i32_569 : BitVec 32 := 0#32
  let c1_i32_559 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v712 : BitVec 32 := Scalar.subi c1_i32_559 v2
  let c4_i32_568 : BitVec 32 := 4#32
  let v719 : BitVec 32 := Scalar.muli v712 c4_i32_568
  let v720 : BitVec 32 := Scalar.addi c0_i32_569 v719
  let c1_i32_560 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v713 : BitVec 32 := Scalar.subi c1_i32_560 v5
  let c2_i32_570 : BitVec 32 := 2#32
  let v721 : BitVec 32 := Scalar.muli v713 c2_i32_570
  let v722 : BitVec 32 := Scalar.addi v720 v721
  let c1_i32_561 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v714 : BitVec 32 := Scalar.subi c1_i32_561 v8
  let c1_i32_571 : BitVec 32 := 1#32
  let v723 : BitVec 32 := Scalar.muli v714 c1_i32_571
  let v724 : BitVec 32 := Scalar.addi v722 v723
  v724.toNat
def k0_dev36 (d0 : Dev nD) : Nat :=
  let c0_i32_589 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_588 : BitVec 32 := 4#32
  let v744 : BitVec 32 := Scalar.muli v2 c4_i32_588
  let v745 : BitVec 32 := Scalar.addi c0_i32_589 v744
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_590 : BitVec 32 := 2#32
  let v746 : BitVec 32 := Scalar.muli v5 c2_i32_590
  let v747 : BitVec 32 := Scalar.addi v745 v746
  let c1_i32_581 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v739 : BitVec 32 := Scalar.subi c1_i32_581 v8
  let c1_i32_591 : BitVec 32 := 1#32
  let v748 : BitVec 32 := Scalar.muli v739 c1_i32_591
  let v749 : BitVec 32 := Scalar.addi v747 v748
  v749.toNat
def k0_dev37 (d0 : Dev nD) : Nat :=
  let c0_i32_604 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_603 : BitVec 32 := 4#32
  let v763 : BitVec 32 := Scalar.muli v2 c4_i32_603
  let v764 : BitVec 32 := Scalar.addi c0_i32_604 v763
  let c1_i32_596 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v758 : BitVec 32 := Scalar.subi c1_i32_596 v5
  let c2_i32_605 : BitVec 32 := 2#32
  let v765 : BitVec 32 := Scalar.muli v758 c2_i32_605
  let v766 : BitVec 32 := Scalar.addi v764 v765
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_606 : BitVec 32 := 1#32
  let v767 : BitVec 32 := Scalar.muli v8 c1_i32_606
  let v768 : BitVec 32 := Scalar.addi v766 v767
  v768.toNat
def k0_dev38 (d0 : Dev nD) : Nat :=
  let c0_i32_620 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_619 : BitVec 32 := 4#32
  let v783 : BitVec 32 := Scalar.muli v2 c4_i32_619
  let v784 : BitVec 32 := Scalar.addi c0_i32_620 v783
  let c1_i32_611 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v777 : BitVec 32 := Scalar.subi c1_i32_611 v5
  let c2_i32_621 : BitVec 32 := 2#32
  let v785 : BitVec 32 := Scalar.muli v777 c2_i32_621
  let v786 : BitVec 32 := Scalar.addi v784 v785
  let c1_i32_612 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v778 : BitVec 32 := Scalar.subi c1_i32_612 v8
  let c1_i32_622 : BitVec 32 := 1#32
  let v787 : BitVec 32 := Scalar.muli v778 c1_i32_622
  let v788 : BitVec 32 := Scalar.addi v786 v787
  v788.toNat
def k0_dev39 (d0 : Dev nD) : Nat :=
  let c0_i32_635 : BitVec 32 := 0#32
  let c1_i32_627 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v797 : BitVec 32 := Scalar.subi c1_i32_627 v2
  let c4_i32_634 : BitVec 32 := 4#32
  let v802 : BitVec 32 := Scalar.muli v797 c4_i32_634
  let v803 : BitVec 32 := Scalar.addi c0_i32_635 v802
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_636 : BitVec 32 := 2#32
  let v804 : BitVec 32 := Scalar.muli v5 c2_i32_636
  let v805 : BitVec 32 := Scalar.addi v803 v804
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_637 : BitVec 32 := 1#32
  let v806 : BitVec 32 := Scalar.muli v8 c1_i32_637
  let v807 : BitVec 32 := Scalar.addi v805 v806
  v807.toNat
def k0_dev40 (d0 : Dev nD) : Nat :=
  let c0_i32_651 : BitVec 32 := 0#32
  let c1_i32_642 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v816 : BitVec 32 := Scalar.subi c1_i32_642 v2
  let c4_i32_650 : BitVec 32 := 4#32
  let v822 : BitVec 32 := Scalar.muli v816 c4_i32_650
  let v823 : BitVec 32 := Scalar.addi c0_i32_651 v822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_652 : BitVec 32 := 2#32
  let v824 : BitVec 32 := Scalar.muli v5 c2_i32_652
  let v825 : BitVec 32 := Scalar.addi v823 v824
  let c1_i32_643 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v817 : BitVec 32 := Scalar.subi c1_i32_643 v8
  let c1_i32_653 : BitVec 32 := 1#32
  let v826 : BitVec 32 := Scalar.muli v817 c1_i32_653
  let v827 : BitVec 32 := Scalar.addi v825 v826
  v827.toNat
def k0_dev41 (d0 : Dev nD) : Nat :=
  let c0_i32_667 : BitVec 32 := 0#32
  let c1_i32_658 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v836 : BitVec 32 := Scalar.subi c1_i32_658 v2
  let c4_i32_666 : BitVec 32 := 4#32
  let v842 : BitVec 32 := Scalar.muli v836 c4_i32_666
  let v843 : BitVec 32 := Scalar.addi c0_i32_667 v842
  let c1_i32_659 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v837 : BitVec 32 := Scalar.subi c1_i32_659 v5
  let c2_i32_668 : BitVec 32 := 2#32
  let v844 : BitVec 32 := Scalar.muli v837 c2_i32_668
  let v845 : BitVec 32 := Scalar.addi v843 v844
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_669 : BitVec 32 := 1#32
  let v846 : BitVec 32 := Scalar.muli v8 c1_i32_669
  let v847 : BitVec 32 := Scalar.addi v845 v846
  v847.toNat
def k0_dev42 (d0 : Dev nD) : Nat :=
  let c0_i32_684 : BitVec 32 := 0#32
  let c1_i32_674 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v856 : BitVec 32 := Scalar.subi c1_i32_674 v2
  let c4_i32_683 : BitVec 32 := 4#32
  let v863 : BitVec 32 := Scalar.muli v856 c4_i32_683
  let v864 : BitVec 32 := Scalar.addi c0_i32_684 v863
  let c1_i32_675 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v857 : BitVec 32 := Scalar.subi c1_i32_675 v5
  let c2_i32_685 : BitVec 32 := 2#32
  let v865 : BitVec 32 := Scalar.muli v857 c2_i32_685
  let v866 : BitVec 32 := Scalar.addi v864 v865
  let c1_i32_676 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v858 : BitVec 32 := Scalar.subi c1_i32_676 v8
  let c1_i32_686 : BitVec 32 := 1#32
  let v867 : BitVec 32 := Scalar.muli v858 c1_i32_686
  let v868 : BitVec 32 := Scalar.addi v866 v867
  v868.toNat
def k0_dev43 (d0 : Dev nD) : Nat :=
  let c0_i32_704 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_703 : BitVec 32 := 4#32
  let v888 : BitVec 32 := Scalar.muli v2 c4_i32_703
  let v889 : BitVec 32 := Scalar.addi c0_i32_704 v888
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_705 : BitVec 32 := 2#32
  let v890 : BitVec 32 := Scalar.muli v5 c2_i32_705
  let v891 : BitVec 32 := Scalar.addi v889 v890
  let c1_i32_696 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v883 : BitVec 32 := Scalar.subi c1_i32_696 v8
  let c1_i32_706 : BitVec 32 := 1#32
  let v892 : BitVec 32 := Scalar.muli v883 c1_i32_706
  let v893 : BitVec 32 := Scalar.addi v891 v892
  v893.toNat
def k0_dev44 (d0 : Dev nD) : Nat :=
  let c0_i32_719 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_718 : BitVec 32 := 4#32
  let v907 : BitVec 32 := Scalar.muli v2 c4_i32_718
  let v908 : BitVec 32 := Scalar.addi c0_i32_719 v907
  let c1_i32_711 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v902 : BitVec 32 := Scalar.subi c1_i32_711 v5
  let c2_i32_720 : BitVec 32 := 2#32
  let v909 : BitVec 32 := Scalar.muli v902 c2_i32_720
  let v910 : BitVec 32 := Scalar.addi v908 v909
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_721 : BitVec 32 := 1#32
  let v911 : BitVec 32 := Scalar.muli v8 c1_i32_721
  let v912 : BitVec 32 := Scalar.addi v910 v911
  v912.toNat
def k0_dev45 (d0 : Dev nD) : Nat :=
  let c0_i32_735 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_734 : BitVec 32 := 4#32
  let v927 : BitVec 32 := Scalar.muli v2 c4_i32_734
  let v928 : BitVec 32 := Scalar.addi c0_i32_735 v927
  let c1_i32_726 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v921 : BitVec 32 := Scalar.subi c1_i32_726 v5
  let c2_i32_736 : BitVec 32 := 2#32
  let v929 : BitVec 32 := Scalar.muli v921 c2_i32_736
  let v930 : BitVec 32 := Scalar.addi v928 v929
  let c1_i32_727 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v922 : BitVec 32 := Scalar.subi c1_i32_727 v8
  let c1_i32_737 : BitVec 32 := 1#32
  let v931 : BitVec 32 := Scalar.muli v922 c1_i32_737
  let v932 : BitVec 32 := Scalar.addi v930 v931
  v932.toNat
def k0_dev46 (d0 : Dev nD) : Nat :=
  let c0_i32_750 : BitVec 32 := 0#32
  let c1_i32_742 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v941 : BitVec 32 := Scalar.subi c1_i32_742 v2
  let c4_i32_749 : BitVec 32 := 4#32
  let v946 : BitVec 32 := Scalar.muli v941 c4_i32_749
  let v947 : BitVec 32 := Scalar.addi c0_i32_750 v946
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_751 : BitVec 32 := 2#32
  let v948 : BitVec 32 := Scalar.muli v5 c2_i32_751
  let v949 : BitVec 32 := Scalar.addi v947 v948
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_752 : BitVec 32 := 1#32
  let v950 : BitVec 32 := Scalar.muli v8 c1_i32_752
  let v951 : BitVec 32 := Scalar.addi v949 v950
  v951.toNat
def k0_dev47 (d0 : Dev nD) : Nat :=
  let c0_i32_766 : BitVec 32 := 0#32
  let c1_i32_757 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v960 : BitVec 32 := Scalar.subi c1_i32_757 v2
  let c4_i32_765 : BitVec 32 := 4#32
  let v966 : BitVec 32 := Scalar.muli v960 c4_i32_765
  let v967 : BitVec 32 := Scalar.addi c0_i32_766 v966
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_767 : BitVec 32 := 2#32
  let v968 : BitVec 32 := Scalar.muli v5 c2_i32_767
  let v969 : BitVec 32 := Scalar.addi v967 v968
  let c1_i32_758 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v961 : BitVec 32 := Scalar.subi c1_i32_758 v8
  let c1_i32_768 : BitVec 32 := 1#32
  let v970 : BitVec 32 := Scalar.muli v961 c1_i32_768
  let v971 : BitVec 32 := Scalar.addi v969 v970
  v971.toNat
def k0_dev48 (d0 : Dev nD) : Nat :=
  let c0_i32_782 : BitVec 32 := 0#32
  let c1_i32_773 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v980 : BitVec 32 := Scalar.subi c1_i32_773 v2
  let c4_i32_781 : BitVec 32 := 4#32
  let v986 : BitVec 32 := Scalar.muli v980 c4_i32_781
  let v987 : BitVec 32 := Scalar.addi c0_i32_782 v986
  let c1_i32_774 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v981 : BitVec 32 := Scalar.subi c1_i32_774 v5
  let c2_i32_783 : BitVec 32 := 2#32
  let v988 : BitVec 32 := Scalar.muli v981 c2_i32_783
  let v989 : BitVec 32 := Scalar.addi v987 v988
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_784 : BitVec 32 := 1#32
  let v990 : BitVec 32 := Scalar.muli v8 c1_i32_784
  let v991 : BitVec 32 := Scalar.addi v989 v990
  v991.toNat
def k0_dev49 (d0 : Dev nD) : Nat :=
  let c0_i32_799 : BitVec 32 := 0#32
  let c1_i32_789 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1000 : BitVec 32 := Scalar.subi c1_i32_789 v2
  let c4_i32_798 : BitVec 32 := 4#32
  let v1007 : BitVec 32 := Scalar.muli v1000 c4_i32_798
  let v1008 : BitVec 32 := Scalar.addi c0_i32_799 v1007
  let c1_i32_790 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1001 : BitVec 32 := Scalar.subi c1_i32_790 v5
  let c2_i32_800 : BitVec 32 := 2#32
  let v1009 : BitVec 32 := Scalar.muli v1001 c2_i32_800
  let v1010 : BitVec 32 := Scalar.addi v1008 v1009
  let c1_i32_791 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1002 : BitVec 32 := Scalar.subi c1_i32_791 v8
  let c1_i32_801 : BitVec 32 := 1#32
  let v1011 : BitVec 32 := Scalar.muli v1002 c1_i32_801
  let v1012 : BitVec 32 := Scalar.addi v1010 v1011
  v1012.toNat
def k0_dev50 (d0 : Dev nD) : Nat :=
  let c0_i32_818 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_817 : BitVec 32 := 4#32
  let v1032 : BitVec 32 := Scalar.muli v2 c4_i32_817
  let v1033 : BitVec 32 := Scalar.addi c0_i32_818 v1032
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_819 : BitVec 32 := 2#32
  let v1034 : BitVec 32 := Scalar.muli v5 c2_i32_819
  let v1035 : BitVec 32 := Scalar.addi v1033 v1034
  let c1_i32_810 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1027 : BitVec 32 := Scalar.subi c1_i32_810 v8
  let c1_i32_820 : BitVec 32 := 1#32
  let v1036 : BitVec 32 := Scalar.muli v1027 c1_i32_820
  let v1037 : BitVec 32 := Scalar.addi v1035 v1036
  v1037.toNat
def k0_dev51 (d0 : Dev nD) : Nat :=
  let c0_i32_833 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_832 : BitVec 32 := 4#32
  let v1051 : BitVec 32 := Scalar.muli v2 c4_i32_832
  let v1052 : BitVec 32 := Scalar.addi c0_i32_833 v1051
  let c1_i32_825 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1046 : BitVec 32 := Scalar.subi c1_i32_825 v5
  let c2_i32_834 : BitVec 32 := 2#32
  let v1053 : BitVec 32 := Scalar.muli v1046 c2_i32_834
  let v1054 : BitVec 32 := Scalar.addi v1052 v1053
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_835 : BitVec 32 := 1#32
  let v1055 : BitVec 32 := Scalar.muli v8 c1_i32_835
  let v1056 : BitVec 32 := Scalar.addi v1054 v1055
  v1056.toNat
def k0_dev52 (d0 : Dev nD) : Nat :=
  let c0_i32_849 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_848 : BitVec 32 := 4#32
  let v1071 : BitVec 32 := Scalar.muli v2 c4_i32_848
  let v1072 : BitVec 32 := Scalar.addi c0_i32_849 v1071
  let c1_i32_840 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1065 : BitVec 32 := Scalar.subi c1_i32_840 v5
  let c2_i32_850 : BitVec 32 := 2#32
  let v1073 : BitVec 32 := Scalar.muli v1065 c2_i32_850
  let v1074 : BitVec 32 := Scalar.addi v1072 v1073
  let c1_i32_841 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1066 : BitVec 32 := Scalar.subi c1_i32_841 v8
  let c1_i32_851 : BitVec 32 := 1#32
  let v1075 : BitVec 32 := Scalar.muli v1066 c1_i32_851
  let v1076 : BitVec 32 := Scalar.addi v1074 v1075
  v1076.toNat
def k0_dev53 (d0 : Dev nD) : Nat :=
  let c0_i32_864 : BitVec 32 := 0#32
  let c1_i32_856 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1085 : BitVec 32 := Scalar.subi c1_i32_856 v2
  let c4_i32_863 : BitVec 32 := 4#32
  let v1090 : BitVec 32 := Scalar.muli v1085 c4_i32_863
  let v1091 : BitVec 32 := Scalar.addi c0_i32_864 v1090
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_865 : BitVec 32 := 2#32
  let v1092 : BitVec 32 := Scalar.muli v5 c2_i32_865
  let v1093 : BitVec 32 := Scalar.addi v1091 v1092
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_866 : BitVec 32 := 1#32
  let v1094 : BitVec 32 := Scalar.muli v8 c1_i32_866
  let v1095 : BitVec 32 := Scalar.addi v1093 v1094
  v1095.toNat
def k0_dev54 (d0 : Dev nD) : Nat :=
  let c0_i32_880 : BitVec 32 := 0#32
  let c1_i32_871 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1104 : BitVec 32 := Scalar.subi c1_i32_871 v2
  let c4_i32_879 : BitVec 32 := 4#32
  let v1110 : BitVec 32 := Scalar.muli v1104 c4_i32_879
  let v1111 : BitVec 32 := Scalar.addi c0_i32_880 v1110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_881 : BitVec 32 := 2#32
  let v1112 : BitVec 32 := Scalar.muli v5 c2_i32_881
  let v1113 : BitVec 32 := Scalar.addi v1111 v1112
  let c1_i32_872 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1105 : BitVec 32 := Scalar.subi c1_i32_872 v8
  let c1_i32_882 : BitVec 32 := 1#32
  let v1114 : BitVec 32 := Scalar.muli v1105 c1_i32_882
  let v1115 : BitVec 32 := Scalar.addi v1113 v1114
  v1115.toNat
def k0_dev55 (d0 : Dev nD) : Nat :=
  let c0_i32_896 : BitVec 32 := 0#32
  let c1_i32_887 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1124 : BitVec 32 := Scalar.subi c1_i32_887 v2
  let c4_i32_895 : BitVec 32 := 4#32
  let v1130 : BitVec 32 := Scalar.muli v1124 c4_i32_895
  let v1131 : BitVec 32 := Scalar.addi c0_i32_896 v1130
  let c1_i32_888 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1125 : BitVec 32 := Scalar.subi c1_i32_888 v5
  let c2_i32_897 : BitVec 32 := 2#32
  let v1132 : BitVec 32 := Scalar.muli v1125 c2_i32_897
  let v1133 : BitVec 32 := Scalar.addi v1131 v1132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_898 : BitVec 32 := 1#32
  let v1134 : BitVec 32 := Scalar.muli v8 c1_i32_898
  let v1135 : BitVec 32 := Scalar.addi v1133 v1134
  v1135.toNat
def k0_dev56 (d0 : Dev nD) : Nat :=
  let c0_i32_913 : BitVec 32 := 0#32
  let c1_i32_903 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1144 : BitVec 32 := Scalar.subi c1_i32_903 v2
  let c4_i32_912 : BitVec 32 := 4#32
  let v1151 : BitVec 32 := Scalar.muli v1144 c4_i32_912
  let v1152 : BitVec 32 := Scalar.addi c0_i32_913 v1151
  let c1_i32_904 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1145 : BitVec 32 := Scalar.subi c1_i32_904 v5
  let c2_i32_914 : BitVec 32 := 2#32
  let v1153 : BitVec 32 := Scalar.muli v1145 c2_i32_914
  let v1154 : BitVec 32 := Scalar.addi v1152 v1153
  let c1_i32_905 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1146 : BitVec 32 := Scalar.subi c1_i32_905 v8
  let c1_i32_915 : BitVec 32 := 1#32
  let v1155 : BitVec 32 := Scalar.muli v1146 c1_i32_915
  let v1156 : BitVec 32 := Scalar.addi v1154 v1155
  v1156.toNat
def k0_dev57 (d0 : Dev nD) : Nat :=
  let c0_i32_932 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_931 : BitVec 32 := 4#32
  let v1176 : BitVec 32 := Scalar.muli v2 c4_i32_931
  let v1177 : BitVec 32 := Scalar.addi c0_i32_932 v1176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_933 : BitVec 32 := 2#32
  let v1178 : BitVec 32 := Scalar.muli v5 c2_i32_933
  let v1179 : BitVec 32 := Scalar.addi v1177 v1178
  let c1_i32_924 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1171 : BitVec 32 := Scalar.subi c1_i32_924 v8
  let c1_i32_934 : BitVec 32 := 1#32
  let v1180 : BitVec 32 := Scalar.muli v1171 c1_i32_934
  let v1181 : BitVec 32 := Scalar.addi v1179 v1180
  v1181.toNat
def k0_dev58 (d0 : Dev nD) : Nat :=
  let c0_i32_947 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_946 : BitVec 32 := 4#32
  let v1195 : BitVec 32 := Scalar.muli v2 c4_i32_946
  let v1196 : BitVec 32 := Scalar.addi c0_i32_947 v1195
  let c1_i32_939 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1190 : BitVec 32 := Scalar.subi c1_i32_939 v5
  let c2_i32_948 : BitVec 32 := 2#32
  let v1197 : BitVec 32 := Scalar.muli v1190 c2_i32_948
  let v1198 : BitVec 32 := Scalar.addi v1196 v1197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_949 : BitVec 32 := 1#32
  let v1199 : BitVec 32 := Scalar.muli v8 c1_i32_949
  let v1200 : BitVec 32 := Scalar.addi v1198 v1199
  v1200.toNat
def k0_dev59 (d0 : Dev nD) : Nat :=
  let c0_i32_963 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_962 : BitVec 32 := 4#32
  let v1215 : BitVec 32 := Scalar.muli v2 c4_i32_962
  let v1216 : BitVec 32 := Scalar.addi c0_i32_963 v1215
  let c1_i32_954 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1209 : BitVec 32 := Scalar.subi c1_i32_954 v5
  let c2_i32_964 : BitVec 32 := 2#32
  let v1217 : BitVec 32 := Scalar.muli v1209 c2_i32_964
  let v1218 : BitVec 32 := Scalar.addi v1216 v1217
  let c1_i32_955 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1210 : BitVec 32 := Scalar.subi c1_i32_955 v8
  let c1_i32_965 : BitVec 32 := 1#32
  let v1219 : BitVec 32 := Scalar.muli v1210 c1_i32_965
  let v1220 : BitVec 32 := Scalar.addi v1218 v1219
  v1220.toNat
def k0_dev60 (d0 : Dev nD) : Nat :=
  let c0_i32_978 : BitVec 32 := 0#32
  let c1_i32_970 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1229 : BitVec 32 := Scalar.subi c1_i32_970 v2
  let c4_i32_977 : BitVec 32 := 4#32
  let v1234 : BitVec 32 := Scalar.muli v1229 c4_i32_977
  let v1235 : BitVec 32 := Scalar.addi c0_i32_978 v1234
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_979 : BitVec 32 := 2#32
  let v1236 : BitVec 32 := Scalar.muli v5 c2_i32_979
  let v1237 : BitVec 32 := Scalar.addi v1235 v1236
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_980 : BitVec 32 := 1#32
  let v1238 : BitVec 32 := Scalar.muli v8 c1_i32_980
  let v1239 : BitVec 32 := Scalar.addi v1237 v1238
  v1239.toNat
def k0_dev61 (d0 : Dev nD) : Nat :=
  let c0_i32_994 : BitVec 32 := 0#32
  let c1_i32_985 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1248 : BitVec 32 := Scalar.subi c1_i32_985 v2
  let c4_i32_993 : BitVec 32 := 4#32
  let v1254 : BitVec 32 := Scalar.muli v1248 c4_i32_993
  let v1255 : BitVec 32 := Scalar.addi c0_i32_994 v1254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_995 : BitVec 32 := 2#32
  let v1256 : BitVec 32 := Scalar.muli v5 c2_i32_995
  let v1257 : BitVec 32 := Scalar.addi v1255 v1256
  let c1_i32_986 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1249 : BitVec 32 := Scalar.subi c1_i32_986 v8
  let c1_i32_996 : BitVec 32 := 1#32
  let v1258 : BitVec 32 := Scalar.muli v1249 c1_i32_996
  let v1259 : BitVec 32 := Scalar.addi v1257 v1258
  v1259.toNat
def k0_dev62 (d0 : Dev nD) : Nat :=
  let c0_i32_1010 : BitVec 32 := 0#32
  let c1_i32_1001 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1268 : BitVec 32 := Scalar.subi c1_i32_1001 v2
  let c4_i32_1009 : BitVec 32 := 4#32
  let v1274 : BitVec 32 := Scalar.muli v1268 c4_i32_1009
  let v1275 : BitVec 32 := Scalar.addi c0_i32_1010 v1274
  let c1_i32_1002 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1269 : BitVec 32 := Scalar.subi c1_i32_1002 v5
  let c2_i32_1011 : BitVec 32 := 2#32
  let v1276 : BitVec 32 := Scalar.muli v1269 c2_i32_1011
  let v1277 : BitVec 32 := Scalar.addi v1275 v1276
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1012 : BitVec 32 := 1#32
  let v1278 : BitVec 32 := Scalar.muli v8 c1_i32_1012
  let v1279 : BitVec 32 := Scalar.addi v1277 v1278
  v1279.toNat
def k0_dev63 (d0 : Dev nD) : Nat :=
  let c0_i32_1027 : BitVec 32 := 0#32
  let c1_i32_1017 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1288 : BitVec 32 := Scalar.subi c1_i32_1017 v2
  let c4_i32_1026 : BitVec 32 := 4#32
  let v1295 : BitVec 32 := Scalar.muli v1288 c4_i32_1026
  let v1296 : BitVec 32 := Scalar.addi c0_i32_1027 v1295
  let c1_i32_1018 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1289 : BitVec 32 := Scalar.subi c1_i32_1018 v5
  let c2_i32_1028 : BitVec 32 := 2#32
  let v1297 : BitVec 32 := Scalar.muli v1289 c2_i32_1028
  let v1298 : BitVec 32 := Scalar.addi v1296 v1297
  let c1_i32_1019 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1290 : BitVec 32 := Scalar.subi c1_i32_1019 v8
  let c1_i32_1029 : BitVec 32 := 1#32
  let v1299 : BitVec 32 := Scalar.muli v1290 c1_i32_1029
  let v1300 : BitVec 32 := Scalar.addi v1298 v1299
  v1300.toNat
def k0_dev64 (d0 : Dev nD) : Nat :=
  let c0_i32_1046 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1045 : BitVec 32 := 4#32
  let v1320 : BitVec 32 := Scalar.muli v2 c4_i32_1045
  let v1321 : BitVec 32 := Scalar.addi c0_i32_1046 v1320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1047 : BitVec 32 := 2#32
  let v1322 : BitVec 32 := Scalar.muli v5 c2_i32_1047
  let v1323 : BitVec 32 := Scalar.addi v1321 v1322
  let c1_i32_1038 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1315 : BitVec 32 := Scalar.subi c1_i32_1038 v8
  let c1_i32_1048 : BitVec 32 := 1#32
  let v1324 : BitVec 32 := Scalar.muli v1315 c1_i32_1048
  let v1325 : BitVec 32 := Scalar.addi v1323 v1324
  v1325.toNat
def k0_dev65 (d0 : Dev nD) : Nat :=
  let c0_i32_1061 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1060 : BitVec 32 := 4#32
  let v1339 : BitVec 32 := Scalar.muli v2 c4_i32_1060
  let v1340 : BitVec 32 := Scalar.addi c0_i32_1061 v1339
  let c1_i32_1053 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1334 : BitVec 32 := Scalar.subi c1_i32_1053 v5
  let c2_i32_1062 : BitVec 32 := 2#32
  let v1341 : BitVec 32 := Scalar.muli v1334 c2_i32_1062
  let v1342 : BitVec 32 := Scalar.addi v1340 v1341
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1063 : BitVec 32 := 1#32
  let v1343 : BitVec 32 := Scalar.muli v8 c1_i32_1063
  let v1344 : BitVec 32 := Scalar.addi v1342 v1343
  v1344.toNat
def k0_dev66 (d0 : Dev nD) : Nat :=
  let c0_i32_1077 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1076 : BitVec 32 := 4#32
  let v1359 : BitVec 32 := Scalar.muli v2 c4_i32_1076
  let v1360 : BitVec 32 := Scalar.addi c0_i32_1077 v1359
  let c1_i32_1068 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1353 : BitVec 32 := Scalar.subi c1_i32_1068 v5
  let c2_i32_1078 : BitVec 32 := 2#32
  let v1361 : BitVec 32 := Scalar.muli v1353 c2_i32_1078
  let v1362 : BitVec 32 := Scalar.addi v1360 v1361
  let c1_i32_1069 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1354 : BitVec 32 := Scalar.subi c1_i32_1069 v8
  let c1_i32_1079 : BitVec 32 := 1#32
  let v1363 : BitVec 32 := Scalar.muli v1354 c1_i32_1079
  let v1364 : BitVec 32 := Scalar.addi v1362 v1363
  v1364.toNat
def k0_dev67 (d0 : Dev nD) : Nat :=
  let c0_i32_1092 : BitVec 32 := 0#32
  let c1_i32_1084 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1373 : BitVec 32 := Scalar.subi c1_i32_1084 v2
  let c4_i32_1091 : BitVec 32 := 4#32
  let v1378 : BitVec 32 := Scalar.muli v1373 c4_i32_1091
  let v1379 : BitVec 32 := Scalar.addi c0_i32_1092 v1378
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1093 : BitVec 32 := 2#32
  let v1380 : BitVec 32 := Scalar.muli v5 c2_i32_1093
  let v1381 : BitVec 32 := Scalar.addi v1379 v1380
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1094 : BitVec 32 := 1#32
  let v1382 : BitVec 32 := Scalar.muli v8 c1_i32_1094
  let v1383 : BitVec 32 := Scalar.addi v1381 v1382
  v1383.toNat
def k0_dev68 (d0 : Dev nD) : Nat :=
  let c0_i32_1108 : BitVec 32 := 0#32
  let c1_i32_1099 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1392 : BitVec 32 := Scalar.subi c1_i32_1099 v2
  let c4_i32_1107 : BitVec 32 := 4#32
  let v1398 : BitVec 32 := Scalar.muli v1392 c4_i32_1107
  let v1399 : BitVec 32 := Scalar.addi c0_i32_1108 v1398
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1109 : BitVec 32 := 2#32
  let v1400 : BitVec 32 := Scalar.muli v5 c2_i32_1109
  let v1401 : BitVec 32 := Scalar.addi v1399 v1400
  let c1_i32_1100 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1393 : BitVec 32 := Scalar.subi c1_i32_1100 v8
  let c1_i32_1110 : BitVec 32 := 1#32
  let v1402 : BitVec 32 := Scalar.muli v1393 c1_i32_1110
  let v1403 : BitVec 32 := Scalar.addi v1401 v1402
  v1403.toNat
def k0_dev69 (d0 : Dev nD) : Nat :=
  let c0_i32_1124 : BitVec 32 := 0#32
  let c1_i32_1115 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1412 : BitVec 32 := Scalar.subi c1_i32_1115 v2
  let c4_i32_1123 : BitVec 32 := 4#32
  let v1418 : BitVec 32 := Scalar.muli v1412 c4_i32_1123
  let v1419 : BitVec 32 := Scalar.addi c0_i32_1124 v1418
  let c1_i32_1116 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1413 : BitVec 32 := Scalar.subi c1_i32_1116 v5
  let c2_i32_1125 : BitVec 32 := 2#32
  let v1420 : BitVec 32 := Scalar.muli v1413 c2_i32_1125
  let v1421 : BitVec 32 := Scalar.addi v1419 v1420
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1126 : BitVec 32 := 1#32
  let v1422 : BitVec 32 := Scalar.muli v8 c1_i32_1126
  let v1423 : BitVec 32 := Scalar.addi v1421 v1422
  v1423.toNat
def k0_dev70 (d0 : Dev nD) : Nat :=
  let c0_i32_1141 : BitVec 32 := 0#32
  let c1_i32_1131 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1432 : BitVec 32 := Scalar.subi c1_i32_1131 v2
  let c4_i32_1140 : BitVec 32 := 4#32
  let v1439 : BitVec 32 := Scalar.muli v1432 c4_i32_1140
  let v1440 : BitVec 32 := Scalar.addi c0_i32_1141 v1439
  let c1_i32_1132 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1433 : BitVec 32 := Scalar.subi c1_i32_1132 v5
  let c2_i32_1142 : BitVec 32 := 2#32
  let v1441 : BitVec 32 := Scalar.muli v1433 c2_i32_1142
  let v1442 : BitVec 32 := Scalar.addi v1440 v1441
  let c1_i32_1133 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1434 : BitVec 32 := Scalar.subi c1_i32_1133 v8
  let c1_i32_1143 : BitVec 32 := 1#32
  let v1443 : BitVec 32 := Scalar.muli v1434 c1_i32_1143
  let v1444 : BitVec 32 := Scalar.addi v1442 v1443
  v1444.toNat
def k0_dev71 (d0 : Dev nD) : Nat :=
  let c0_i32_1160 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1159 : BitVec 32 := 4#32
  let v1464 : BitVec 32 := Scalar.muli v2 c4_i32_1159
  let v1465 : BitVec 32 := Scalar.addi c0_i32_1160 v1464
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1161 : BitVec 32 := 2#32
  let v1466 : BitVec 32 := Scalar.muli v5 c2_i32_1161
  let v1467 : BitVec 32 := Scalar.addi v1465 v1466
  let c1_i32_1152 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1459 : BitVec 32 := Scalar.subi c1_i32_1152 v8
  let c1_i32_1162 : BitVec 32 := 1#32
  let v1468 : BitVec 32 := Scalar.muli v1459 c1_i32_1162
  let v1469 : BitVec 32 := Scalar.addi v1467 v1468
  v1469.toNat
def k0_dev72 (d0 : Dev nD) : Nat :=
  let c0_i32_1175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1174 : BitVec 32 := 4#32
  let v1483 : BitVec 32 := Scalar.muli v2 c4_i32_1174
  let v1484 : BitVec 32 := Scalar.addi c0_i32_1175 v1483
  let c1_i32_1167 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1478 : BitVec 32 := Scalar.subi c1_i32_1167 v5
  let c2_i32_1176 : BitVec 32 := 2#32
  let v1485 : BitVec 32 := Scalar.muli v1478 c2_i32_1176
  let v1486 : BitVec 32 := Scalar.addi v1484 v1485
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1177 : BitVec 32 := 1#32
  let v1487 : BitVec 32 := Scalar.muli v8 c1_i32_1177
  let v1488 : BitVec 32 := Scalar.addi v1486 v1487
  v1488.toNat
def k0_dev73 (d0 : Dev nD) : Nat :=
  let c0_i32_1191 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1190 : BitVec 32 := 4#32
  let v1503 : BitVec 32 := Scalar.muli v2 c4_i32_1190
  let v1504 : BitVec 32 := Scalar.addi c0_i32_1191 v1503
  let c1_i32_1182 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1497 : BitVec 32 := Scalar.subi c1_i32_1182 v5
  let c2_i32_1192 : BitVec 32 := 2#32
  let v1505 : BitVec 32 := Scalar.muli v1497 c2_i32_1192
  let v1506 : BitVec 32 := Scalar.addi v1504 v1505
  let c1_i32_1183 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1498 : BitVec 32 := Scalar.subi c1_i32_1183 v8
  let c1_i32_1193 : BitVec 32 := 1#32
  let v1507 : BitVec 32 := Scalar.muli v1498 c1_i32_1193
  let v1508 : BitVec 32 := Scalar.addi v1506 v1507
  v1508.toNat
def k0_dev74 (d0 : Dev nD) : Nat :=
  let c0_i32_1206 : BitVec 32 := 0#32
  let c1_i32_1198 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1517 : BitVec 32 := Scalar.subi c1_i32_1198 v2
  let c4_i32_1205 : BitVec 32 := 4#32
  let v1522 : BitVec 32 := Scalar.muli v1517 c4_i32_1205
  let v1523 : BitVec 32 := Scalar.addi c0_i32_1206 v1522
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1207 : BitVec 32 := 2#32
  let v1524 : BitVec 32 := Scalar.muli v5 c2_i32_1207
  let v1525 : BitVec 32 := Scalar.addi v1523 v1524
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1208 : BitVec 32 := 1#32
  let v1526 : BitVec 32 := Scalar.muli v8 c1_i32_1208
  let v1527 : BitVec 32 := Scalar.addi v1525 v1526
  v1527.toNat
def k0_dev75 (d0 : Dev nD) : Nat :=
  let c0_i32_1222 : BitVec 32 := 0#32
  let c1_i32_1213 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1536 : BitVec 32 := Scalar.subi c1_i32_1213 v2
  let c4_i32_1221 : BitVec 32 := 4#32
  let v1542 : BitVec 32 := Scalar.muli v1536 c4_i32_1221
  let v1543 : BitVec 32 := Scalar.addi c0_i32_1222 v1542
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1223 : BitVec 32 := 2#32
  let v1544 : BitVec 32 := Scalar.muli v5 c2_i32_1223
  let v1545 : BitVec 32 := Scalar.addi v1543 v1544
  let c1_i32_1214 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1537 : BitVec 32 := Scalar.subi c1_i32_1214 v8
  let c1_i32_1224 : BitVec 32 := 1#32
  let v1546 : BitVec 32 := Scalar.muli v1537 c1_i32_1224
  let v1547 : BitVec 32 := Scalar.addi v1545 v1546
  v1547.toNat
def k0_dev76 (d0 : Dev nD) : Nat :=
  let c0_i32_1238 : BitVec 32 := 0#32
  let c1_i32_1229 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1556 : BitVec 32 := Scalar.subi c1_i32_1229 v2
  let c4_i32_1237 : BitVec 32 := 4#32
  let v1562 : BitVec 32 := Scalar.muli v1556 c4_i32_1237
  let v1563 : BitVec 32 := Scalar.addi c0_i32_1238 v1562
  let c1_i32_1230 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1557 : BitVec 32 := Scalar.subi c1_i32_1230 v5
  let c2_i32_1239 : BitVec 32 := 2#32
  let v1564 : BitVec 32 := Scalar.muli v1557 c2_i32_1239
  let v1565 : BitVec 32 := Scalar.addi v1563 v1564
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1240 : BitVec 32 := 1#32
  let v1566 : BitVec 32 := Scalar.muli v8 c1_i32_1240
  let v1567 : BitVec 32 := Scalar.addi v1565 v1566
  v1567.toNat
def k0_dev77 (d0 : Dev nD) : Nat :=
  let c0_i32_1255 : BitVec 32 := 0#32
  let c1_i32_1245 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1576 : BitVec 32 := Scalar.subi c1_i32_1245 v2
  let c4_i32_1254 : BitVec 32 := 4#32
  let v1583 : BitVec 32 := Scalar.muli v1576 c4_i32_1254
  let v1584 : BitVec 32 := Scalar.addi c0_i32_1255 v1583
  let c1_i32_1246 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1577 : BitVec 32 := Scalar.subi c1_i32_1246 v5
  let c2_i32_1256 : BitVec 32 := 2#32
  let v1585 : BitVec 32 := Scalar.muli v1577 c2_i32_1256
  let v1586 : BitVec 32 := Scalar.addi v1584 v1585
  let c1_i32_1247 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1578 : BitVec 32 := Scalar.subi c1_i32_1247 v8
  let c1_i32_1257 : BitVec 32 := 1#32
  let v1587 : BitVec 32 := Scalar.muli v1578 c1_i32_1257
  let v1588 : BitVec 32 := Scalar.addi v1586 v1587
  v1588.toNat
def k0_dev78 (d0 : Dev nD) : Nat :=
  let c0_i32_1274 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1273 : BitVec 32 := 4#32
  let v1608 : BitVec 32 := Scalar.muli v2 c4_i32_1273
  let v1609 : BitVec 32 := Scalar.addi c0_i32_1274 v1608
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1275 : BitVec 32 := 2#32
  let v1610 : BitVec 32 := Scalar.muli v5 c2_i32_1275
  let v1611 : BitVec 32 := Scalar.addi v1609 v1610
  let c1_i32_1266 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1603 : BitVec 32 := Scalar.subi c1_i32_1266 v8
  let c1_i32_1276 : BitVec 32 := 1#32
  let v1612 : BitVec 32 := Scalar.muli v1603 c1_i32_1276
  let v1613 : BitVec 32 := Scalar.addi v1611 v1612
  v1613.toNat
def k0_dev79 (d0 : Dev nD) : Nat :=
  let c0_i32_1289 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1288 : BitVec 32 := 4#32
  let v1627 : BitVec 32 := Scalar.muli v2 c4_i32_1288
  let v1628 : BitVec 32 := Scalar.addi c0_i32_1289 v1627
  let c1_i32_1281 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1622 : BitVec 32 := Scalar.subi c1_i32_1281 v5
  let c2_i32_1290 : BitVec 32 := 2#32
  let v1629 : BitVec 32 := Scalar.muli v1622 c2_i32_1290
  let v1630 : BitVec 32 := Scalar.addi v1628 v1629
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1291 : BitVec 32 := 1#32
  let v1631 : BitVec 32 := Scalar.muli v8 c1_i32_1291
  let v1632 : BitVec 32 := Scalar.addi v1630 v1631
  v1632.toNat
def k0_dev80 (d0 : Dev nD) : Nat :=
  let c0_i32_1305 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1304 : BitVec 32 := 4#32
  let v1647 : BitVec 32 := Scalar.muli v2 c4_i32_1304
  let v1648 : BitVec 32 := Scalar.addi c0_i32_1305 v1647
  let c1_i32_1296 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1641 : BitVec 32 := Scalar.subi c1_i32_1296 v5
  let c2_i32_1306 : BitVec 32 := 2#32
  let v1649 : BitVec 32 := Scalar.muli v1641 c2_i32_1306
  let v1650 : BitVec 32 := Scalar.addi v1648 v1649
  let c1_i32_1297 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1642 : BitVec 32 := Scalar.subi c1_i32_1297 v8
  let c1_i32_1307 : BitVec 32 := 1#32
  let v1651 : BitVec 32 := Scalar.muli v1642 c1_i32_1307
  let v1652 : BitVec 32 := Scalar.addi v1650 v1651
  v1652.toNat
def k0_dev81 (d0 : Dev nD) : Nat :=
  let c0_i32_1320 : BitVec 32 := 0#32
  let c1_i32_1312 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1661 : BitVec 32 := Scalar.subi c1_i32_1312 v2
  let c4_i32_1319 : BitVec 32 := 4#32
  let v1666 : BitVec 32 := Scalar.muli v1661 c4_i32_1319
  let v1667 : BitVec 32 := Scalar.addi c0_i32_1320 v1666
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1321 : BitVec 32 := 2#32
  let v1668 : BitVec 32 := Scalar.muli v5 c2_i32_1321
  let v1669 : BitVec 32 := Scalar.addi v1667 v1668
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1322 : BitVec 32 := 1#32
  let v1670 : BitVec 32 := Scalar.muli v8 c1_i32_1322
  let v1671 : BitVec 32 := Scalar.addi v1669 v1670
  v1671.toNat
def k0_dev82 (d0 : Dev nD) : Nat :=
  let c0_i32_1336 : BitVec 32 := 0#32
  let c1_i32_1327 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1680 : BitVec 32 := Scalar.subi c1_i32_1327 v2
  let c4_i32_1335 : BitVec 32 := 4#32
  let v1686 : BitVec 32 := Scalar.muli v1680 c4_i32_1335
  let v1687 : BitVec 32 := Scalar.addi c0_i32_1336 v1686
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1337 : BitVec 32 := 2#32
  let v1688 : BitVec 32 := Scalar.muli v5 c2_i32_1337
  let v1689 : BitVec 32 := Scalar.addi v1687 v1688
  let c1_i32_1328 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1681 : BitVec 32 := Scalar.subi c1_i32_1328 v8
  let c1_i32_1338 : BitVec 32 := 1#32
  let v1690 : BitVec 32 := Scalar.muli v1681 c1_i32_1338
  let v1691 : BitVec 32 := Scalar.addi v1689 v1690
  v1691.toNat
def k0_dev83 (d0 : Dev nD) : Nat :=
  let c0_i32_1352 : BitVec 32 := 0#32
  let c1_i32_1343 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1700 : BitVec 32 := Scalar.subi c1_i32_1343 v2
  let c4_i32_1351 : BitVec 32 := 4#32
  let v1706 : BitVec 32 := Scalar.muli v1700 c4_i32_1351
  let v1707 : BitVec 32 := Scalar.addi c0_i32_1352 v1706
  let c1_i32_1344 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1701 : BitVec 32 := Scalar.subi c1_i32_1344 v5
  let c2_i32_1353 : BitVec 32 := 2#32
  let v1708 : BitVec 32 := Scalar.muli v1701 c2_i32_1353
  let v1709 : BitVec 32 := Scalar.addi v1707 v1708
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1354 : BitVec 32 := 1#32
  let v1710 : BitVec 32 := Scalar.muli v8 c1_i32_1354
  let v1711 : BitVec 32 := Scalar.addi v1709 v1710
  v1711.toNat
def k0_dev84 (d0 : Dev nD) : Nat :=
  let c0_i32_1369 : BitVec 32 := 0#32
  let c1_i32_1359 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1720 : BitVec 32 := Scalar.subi c1_i32_1359 v2
  let c4_i32_1368 : BitVec 32 := 4#32
  let v1727 : BitVec 32 := Scalar.muli v1720 c4_i32_1368
  let v1728 : BitVec 32 := Scalar.addi c0_i32_1369 v1727
  let c1_i32_1360 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1721 : BitVec 32 := Scalar.subi c1_i32_1360 v5
  let c2_i32_1370 : BitVec 32 := 2#32
  let v1729 : BitVec 32 := Scalar.muli v1721 c2_i32_1370
  let v1730 : BitVec 32 := Scalar.addi v1728 v1729
  let c1_i32_1361 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1722 : BitVec 32 := Scalar.subi c1_i32_1361 v8
  let c1_i32_1371 : BitVec 32 := 1#32
  let v1731 : BitVec 32 := Scalar.muli v1722 c1_i32_1371
  let v1732 : BitVec 32 := Scalar.addi v1730 v1731
  v1732.toNat
-- ==== ScatterGradsRef.lean ====
abbrev S64x384x2048 : Shape := ⟨3, ![64, 384, 2048]⟩
abbrev S64x256x2048 : Shape := ⟨3, ![64, 256, 2048]⟩
abbrev S64x1376x2048 : Shape := ⟨3, ![64, 1376, 2048]⟩
abbrev S64x688x2048 : Shape := ⟨3, ![64, 688, 2048]⟩
abbrev S64x64x512 : Shape := ⟨3, ![64, 64, 512]⟩
abbrev S8x8x384x2048 : Shape := ⟨4, ![8, 8, 384, 2048]⟩
abbrev S8x8x256x2048 : Shape := ⟨4, ![8, 8, 256, 2048]⟩
abbrev S8x8x1376x2048 : Shape := ⟨4, ![8, 8, 1376, 2048]⟩
abbrev S8x8x688x2048 : Shape := ⟨4, ![8, 8, 688, 2048]⟩
abbrev S8x8x64x512 : Shape := ⟨4, ![8, 8, 64, 512]⟩

abbrev nBuf : Space → Nat
  | .hbm => 48
  | .vmem => 0
  | .smem => 0
  | _ => 0

abbrev bufTy : (tb : Table) → Fin (tcTables nBuf tb) → BufTy
  | .hbm, ⟨0, _⟩ => ⟨S64x384x2048, .bf16⟩
  | .hbm, ⟨1, _⟩ => ⟨S64x256x2048, .bf16⟩
  | .hbm, ⟨2, _⟩ => ⟨S64x1376x2048, .bf16⟩
  | .hbm, ⟨3, _⟩ => ⟨S64x688x2048, .bf16⟩
  | .hbm, ⟨4, _⟩ => ⟨S64x64x512, .bf16⟩
  | .hbm, ⟨5, _⟩ => ⟨S64x64x512, .bf16⟩
  | .hbm, ⟨6, _⟩ => ⟨S64x384x2048, .bf16⟩
  | .hbm, ⟨7, _⟩ => ⟨S64x256x2048, .bf16⟩
  | .hbm, ⟨8, _⟩ => ⟨S64x1376x2048, .bf16⟩
  | .hbm, ⟨9, _⟩ => ⟨S64x688x2048, .bf16⟩
  | .hbm, ⟨10, _⟩ => ⟨S64x64x512, .bf16⟩
  | .hbm, ⟨11, _⟩ => ⟨S64x64x512, .bf16⟩
  | .hbm, ⟨12, _⟩ => ⟨S8x8x384x2048, .bf16⟩
  | .hbm, ⟨13, _⟩ => ⟨S8x8x384x2048, .bf16⟩
  | .hbm, ⟨14, _⟩ => ⟨S64x384x2048, .bf16⟩
  | .hbm, ⟨15, _⟩ => ⟨S8x8x256x2048, .bf16⟩
  | .hbm, ⟨16, _⟩ => ⟨S8x8x256x2048, .bf16⟩
  | .hbm, ⟨17, _⟩ => ⟨S64x256x2048, .bf16⟩
  | .hbm, ⟨18, _⟩ => ⟨S8x8x1376x2048, .bf16⟩
  | .hbm, ⟨19, _⟩ => ⟨S8x8x1376x2048, .bf16⟩
  | .hbm, ⟨20, _⟩ => ⟨S64x1376x2048, .bf16⟩
  | .hbm, ⟨21, _⟩ => ⟨S8x8x688x2048, .bf16⟩
  | .hbm, ⟨22, _⟩ => ⟨S8x8x688x2048, .bf16⟩
  | .hbm, ⟨23, _⟩ => ⟨S64x688x2048, .bf16⟩
  | .hbm, ⟨24, _⟩ => ⟨S8x8x64x512, .bf16⟩
  | .hbm, ⟨25, _⟩ => ⟨S8x8x64x512, .bf16⟩
  | .hbm, ⟨26, _⟩ => ⟨S64x64x512, .bf16⟩
  | .hbm, ⟨27, _⟩ => ⟨S8x8x64x512, .bf16⟩
  | .hbm, ⟨28, _⟩ => ⟨S8x8x64x512, .bf16⟩
  | .hbm, ⟨29, _⟩ => ⟨S64x64x512, .bf16⟩
  | .hbm, ⟨30, _⟩ => ⟨S8x8x384x2048, .bf16⟩
  | .hbm, ⟨31, _⟩ => ⟨S8x8x384x2048, .bf16⟩
  | .hbm, ⟨32, _⟩ => ⟨S64x384x2048, .bf16⟩
  | .hbm, ⟨33, _⟩ => ⟨S8x8x256x2048, .bf16⟩
  | .hbm, ⟨34, _⟩ => ⟨S8x8x256x2048, .bf16⟩
  | .hbm, ⟨35, _⟩ => ⟨S64x256x2048, .bf16⟩
  | .hbm, ⟨36, _⟩ => ⟨S8x8x1376x2048, .bf16⟩
  | .hbm, ⟨37, _⟩ => ⟨S8x8x1376x2048, .bf16⟩
  | .hbm, ⟨38, _⟩ => ⟨S64x1376x2048, .bf16⟩
  | .hbm, ⟨39, _⟩ => ⟨S8x8x688x2048, .bf16⟩
  | .hbm, ⟨40, _⟩ => ⟨S8x8x688x2048, .bf16⟩
  | .hbm, ⟨41, _⟩ => ⟨S64x688x2048, .bf16⟩
  | .hbm, ⟨42, _⟩ => ⟨S8x8x64x512, .bf16⟩
  | .hbm, ⟨43, _⟩ => ⟨S8x8x64x512, .bf16⟩
  | .hbm, ⟨44, _⟩ => ⟨S64x64x512, .bf16⟩
  | .hbm, ⟨45, _⟩ => ⟨S8x8x64x512, .bf16⟩
  | .hbm, ⟨46, _⟩ => ⟨S8x8x64x512, .bf16⟩
  | .hbm, ⟨47, _⟩ => ⟨S64x64x512, .bf16⟩
  | _, _ => ⟨S64x384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== GatherSmall.lean ====
abbrev S4960x128 : Shape := ⟨2, ![4960, 128]⟩
abbrev S8x4960x128 : Shape := ⟨3, ![8, 4960, 128]⟩
abbrev S1x7 : Shape := ⟨2, ![1, 7]⟩
abbrev S1 : Shape := ⟨1, ![1]⟩
abbrev S_ : Shape := ⟨0, ![]⟩
abbrev S1x4960x128 : Shape := ⟨3, ![1, 4960, 128]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S4960x128, .f32⟩
  | .hbm, ⟨1, _⟩ => ⟨S8x4960x128, .f32⟩
  | _, _ => ⟨S4960x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v18 : BitVec 32 := Scalar.muli v2 c4_i32_12
  let v19 : BitVec 32 := Scalar.addi c0_i32_13 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v20 : BitVec 32 := Scalar.muli v5 c2_i32_14
  let v21 : BitVec 32 := Scalar.addi v19 v20
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let c1_i32_15 : BitVec 32 := 1#32
  let v22 : BitVec 32 := Scalar.muli v17 c1_i32_15
  let v23 : BitVec 32 := Scalar.addi v21 v22
  v23.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v31 : BitVec 32 := Scalar.muli v2 c4_i32_23
  let v32 : BitVec 32 := Scalar.addi c0_i32_24 v31
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.subi c1_i32_18 v5
  let c2_i32_25 : BitVec 32 := 2#32
  let v33 : BitVec 32 := Scalar.muli v30 c2_i32_25
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v35 : BitVec 32 := Scalar.muli v8 c1_i32_26
  let v36 : BitVec 32 := Scalar.addi v34 v35
  v36.toNat
def k0_dev3 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v45 : BitVec 32 := Scalar.muli v2 c4_i32_35
  let v46 : BitVec 32 := Scalar.addi c0_i32_36 v45
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_29 v5
  let c2_i32_37 : BitVec 32 := 2#32
  let v47 : BitVec 32 := Scalar.muli v43 c2_i32_37
  let v48 : BitVec 32 := Scalar.addi v46 v47
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_30 v8
  let c1_i32_38 : BitVec 32 := 1#32
  let v49 : BitVec 32 := Scalar.muli v44 c1_i32_38
  let v50 : BitVec 32 := Scalar.addi v48 v49
  v50.toNat
def k0_dev4 (d0 : Dev nD) : Nat :=
  let c0_i32_46 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.subi c1_i32_41 v2
  let c4_i32_45 : BitVec 32 := 4#32
  let v58 : BitVec 32 := Scalar.muli v57 c4_i32_45
  let v59 : BitVec 32 := Scalar.addi c0_i32_46 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v60 : BitVec 32 := Scalar.muli v5 c2_i32_47
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v62 : BitVec 32 := Scalar.muli v8 c1_i32_48
  let v63 : BitVec 32 := Scalar.addi v61 v62
  v63.toNat
def k0_dev5 (d0 : Dev nD) : Nat :=
  let c0_i32_58 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_51 v2
  let c4_i32_57 : BitVec 32 := 4#32
  let v72 : BitVec 32 := Scalar.muli v70 c4_i32_57
  let v73 : BitVec 32 := Scalar.addi c0_i32_58 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v74 : BitVec 32 := Scalar.muli v5 c2_i32_59
  let v75 : BitVec 32 := Scalar.addi v73 v74
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v71 : BitVec 32 := Scalar.subi c1_i32_52 v8
  let c1_i32_60 : BitVec 32 := 1#32
  let v76 : BitVec 32 := Scalar.muli v71 c1_i32_60
  let v77 : BitVec 32 := Scalar.addi v75 v76
  v77.toNat
def k0_dev6 (d0 : Dev nD) : Nat :=
  let c0_i32_69 : BitVec 32 := 0#32
  let c1_i32_63 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v84 : BitVec 32 := Scalar.subi c1_i32_63 v2
  let c4_i32_68 : BitVec 32 := 4#32
  let v86 : BitVec 32 := Scalar.muli v84 c4_i32_68
  let v87 : BitVec 32 := Scalar.addi c0_i32_69 v86
  let c1_i32_64 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v85 : BitVec 32 := Scalar.subi c1_i32_64 v5
  let c2_i32_70 : BitVec 32 := 2#32
  let v88 : BitVec 32 := Scalar.muli v85 c2_i32_70
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v90 : BitVec 32 := Scalar.muli v8 c1_i32_71
  let v91 : BitVec 32 := Scalar.addi v89 v90
  v91.toNat
def k0_dev7 (d0 : Dev nD) : Nat :=
  let c0_i32_81 : BitVec 32 := 0#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v98 : BitVec 32 := Scalar.subi c1_i32_74 v2
  let c4_i32_80 : BitVec 32 := 4#32
  let v101 : BitVec 32 := Scalar.muli v98 c4_i32_80
  let v102 : BitVec 32 := Scalar.addi c0_i32_81 v101
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_75 v5
  let c2_i32_82 : BitVec 32 := 2#32
  let v103 : BitVec 32 := Scalar.muli v99 c2_i32_82
  let v104 : BitVec 32 := Scalar.addi v102 v103
  let c1_i32_76 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_76 v8
  let c1_i32_83 : BitVec 32 := 1#32
  let v105 : BitVec 32 := Scalar.muli v100 c1_i32_83
  let v106 : BitVec 32 := Scalar.addi v104 v105
  v106.toNat
def k0_off2 (d0 : Dev nD) : Fin 3 → Nat :=
  let c4_i32_87 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.muli c4_i32_87 v2
  let c2_i32_88 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v115 : BitVec 32 := Scalar.muli c2_i32_88 v5
  let v116 : BitVec 32 := Scalar.addi v114 v115
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v113 : BitVec 32 := Scalar.subi c1_i32_86 v8
  let v117 : BitVec 32 := Scalar.addi v116 v113
  let c0_i32_97 : BitVec 32 := 0#32
  let c0_i32_98 : BitVec 32 := 0#32
  ![v117.toNat, 0, 0]
def k0_off3 (d0 : Dev nD) : Fin 3 → Nat :=
  let c4_i32_100 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v129 : BitVec 32 := Scalar.muli c4_i32_100 v2
  let c2_i32_101 : BitVec 32 := 2#32
  let c1_i32_99 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v128 : BitVec 32 := Scalar.subi c1_i32_99 v5
  let v130 : BitVec 32 := Scalar.muli c2_i32_101 v128
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v132 : BitVec 32 := Scalar.addi v131 v8
  let c0_i32_110 : BitVec 32 := 0#32
  let c0_i32_111 : BitVec 32 := 0#32
  ![v132.toNat, 0, 0]
def k0_off4 (d0 : Dev nD) : Fin 3 → Nat :=
  let c4_i32_114 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v145 : BitVec 32 := Scalar.muli c4_i32_114 v2
  let c2_i32_115 : BitVec 32 := 2#32
  let c1_i32_112 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v143 : BitVec 32 := Scalar.subi c1_i32_112 v5
  let v146 : BitVec 32 := Scalar.muli c2_i32_115 v143
  let v147 : BitVec 32 := Scalar.addi v145 v146
  let c1_i32_113 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v144 : BitVec 32 := Scalar.subi c1_i32_113 v8
  let v148 : BitVec 32 := Scalar.addi v147 v144
  let c0_i32_124 : BitVec 32 := 0#32
  let c0_i32_125 : BitVec 32 := 0#32
  ![v148.toNat, 0, 0]
def k0_off5 (d0 : Dev nD) : Fin 3 → Nat :=
  let c4_i32_127 : BitVec 32 := 4#32
  let c1_i32_126 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v159 : BitVec 32 := Scalar.subi c1_i32_126 v2
  let v160 : BitVec 32 := Scalar.muli c4_i32_127 v159
  let c2_i32_128 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.muli c2_i32_128 v5
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v163 : BitVec 32 := Scalar.addi v162 v8
  let c0_i32_137 : BitVec 32 := 0#32
  let c0_i32_138 : BitVec 32 := 0#32
  ![v163.toNat, 0, 0]
def k0_off6 (d0 : Dev nD) : Fin 3 → Nat :=
  let c4_i32_141 : BitVec 32 := 4#32
  let c1_i32_139 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v174 : BitVec 32 := Scalar.subi c1_i32_139 v2
  let v176 : BitVec 32 := Scalar.muli c4_i32_141 v174
  let c2_i32_142 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.muli c2_i32_142 v5
  let v178 : BitVec 32 := Scalar.addi v176 v177
  let c1_i32_140 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v175 : BitVec 32 := Scalar.subi c1_i32_140 v8
  let v179 : BitVec 32 := Scalar.addi v178 v175
  let c0_i32_151 : BitVec 32 := 0#32
  let c0_i32_152 : BitVec 32 := 0#32
  ![v179.toNat, 0, 0]
def k0_off7 (d0 : Dev nD) : Fin 3 → Nat :=
  let c4_i32_155 : BitVec 32 := 4#32
  let c1_i32_153 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v190 : BitVec 32 := Scalar.subi c1_i32_153 v2
  let v192 : BitVec 32 := Scalar.muli c4_i32_155 v190
  let c2_i32_156 : BitVec 32 := 2#32
  let c1_i32_154 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v191 : BitVec 32 := Scalar.subi c1_i32_154 v5
  let v193 : BitVec 32 := Scalar.muli c2_i32_156 v191
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v195 : BitVec 32 := Scalar.addi v194 v8
  let c0_i32_165 : BitVec 32 := 0#32
  let c0_i32_166 : BitVec 32 := 0#32
  ![v195.toNat, 0, 0]
def k0_off8 (d0 : Dev nD) : Fin 3 → Nat :=
  let c4_i32_170 : BitVec 32 := 4#32
  let c1_i32_167 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v206 : BitVec 32 := Scalar.subi c1_i32_167 v2
  let v209 : BitVec 32 := Scalar.muli c4_i32_170 v206
  let c2_i32_171 : BitVec 32 := 2#32
  let c1_i32_168 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v207 : BitVec 32 := Scalar.subi c1_i32_168 v5
  let v210 : BitVec 32 := Scalar.muli c2_i32_171 v207
  let v211 : BitVec 32 := Scalar.addi v209 v210
  let c1_i32_169 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v208 : BitVec 32 := Scalar.subi c1_i32_169 v8
  let v212 : BitVec 32 := Scalar.addi v211 v208
  let c0_i32_180 : BitVec 32 := 0#32
  let c0_i32_181 : BitVec 32 := 0#32
  ![v212.toNat, 0, 0]
-- ==== GatherSmallRef.lean ====
abbrev S39680x128 : Shape := ⟨2, ![39680, 128]⟩
abbrev S8x4960x128 : Shape := ⟨3, ![8, 4960, 128]⟩

abbrev nBuf : Space → Nat
  | .hbm => 2
  | .vmem => 0
  | .smem => 0
  | _ => 0

abbrev bufTy : (tb : Table) → Fin (tcTables nBuf tb) → BufTy
  | .hbm, ⟨0, _⟩ => ⟨S39680x128, .f32⟩
  | .hbm, ⟨1, _⟩ => ⟨S8x4960x128, .f32⟩
  | _, _ => ⟨S39680x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== GatherTaps.lean ====
abbrev S72x128 : Shape := ⟨2, ![72, 128]⟩
abbrev S8x72x128 : Shape := ⟨3, ![8, 72, 128]⟩
abbrev S1x7 : Shape := ⟨2, ![1, 7]⟩
abbrev S1 : Shape := ⟨1, ![1]⟩
abbrev S_ : Shape := ⟨0, ![]⟩
abbrev S1x72x128 : Shape := ⟨3, ![1, 72, 128]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S72x128, .f32⟩
  | .hbm, ⟨1, _⟩ => ⟨S8x72x128, .f32⟩
  | _, _ => ⟨S72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v18 : BitVec 32 := Scalar.muli v2 c4_i32_12
  let v19 : BitVec 32 := Scalar.addi c0_i32_13 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v20 : BitVec 32 := Scalar.muli v5 c2_i32_14
  let v21 : BitVec 32 := Scalar.addi v19 v20
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_7 v8
  let c1_i32_15 : BitVec 32 := 1#32
  let v22 : BitVec 32 := Scalar.muli v17 c1_i32_15
  let v23 : BitVec 32 := Scalar.addi v21 v22
  v23.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v31 : BitVec 32 := Scalar.muli v2 c4_i32_23
  let v32 : BitVec 32 := Scalar.addi c0_i32_24 v31
  let c1_i32_18 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v30 : BitVec 32 := Scalar.subi c1_i32_18 v5
  let c2_i32_25 : BitVec 32 := 2#32
  let v33 : BitVec 32 := Scalar.muli v30 c2_i32_25
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v35 : BitVec 32 := Scalar.muli v8 c1_i32_26
  let v36 : BitVec 32 := Scalar.addi v34 v35
  v36.toNat
def k0_dev3 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_35 : BitVec 32 := 4#32
  let v45 : BitVec 32 := Scalar.muli v2 c4_i32_35
  let v46 : BitVec 32 := Scalar.addi c0_i32_36 v45
  let c1_i32_29 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v43 : BitVec 32 := Scalar.subi c1_i32_29 v5
  let c2_i32_37 : BitVec 32 := 2#32
  let v47 : BitVec 32 := Scalar.muli v43 c2_i32_37
  let v48 : BitVec 32 := Scalar.addi v46 v47
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_30 v8
  let c1_i32_38 : BitVec 32 := 1#32
  let v49 : BitVec 32 := Scalar.muli v44 c1_i32_38
  let v50 : BitVec 32 := Scalar.addi v48 v49
  v50.toNat
def k0_dev4 (d0 : Dev nD) : Nat :=
  let c0_i32_46 : BitVec 32 := 0#32
  let c1_i32_41 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v57 : BitVec 32 := Scalar.subi c1_i32_41 v2
  let c4_i32_45 : BitVec 32 := 4#32
  let v58 : BitVec 32 := Scalar.muli v57 c4_i32_45
  let v59 : BitVec 32 := Scalar.addi c0_i32_46 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v60 : BitVec 32 := Scalar.muli v5 c2_i32_47
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v62 : BitVec 32 := Scalar.muli v8 c1_i32_48
  let v63 : BitVec 32 := Scalar.addi v61 v62
  v63.toNat
def k0_dev5 (d0 : Dev nD) : Nat :=
  let c0_i32_58 : BitVec 32 := 0#32
  let c1_i32_51 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v70 : BitVec 32 := Scalar.subi c1_i32_51 v2
  let c4_i32_57 : BitVec 32 := 4#32
  let v72 : BitVec 32 := Scalar.muli v70 c4_i32_57
  let v73 : BitVec 32 := Scalar.addi c0_i32_58 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v74 : BitVec 32 := Scalar.muli v5 c2_i32_59
  let v75 : BitVec 32 := Scalar.addi v73 v74
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v71 : BitVec 32 := Scalar.subi c1_i32_52 v8
  let c1_i32_60 : BitVec 32 := 1#32
  let v76 : BitVec 32 := Scalar.muli v71 c1_i32_60
  let v77 : BitVec 32 := Scalar.addi v75 v76
  v77.toNat
def k0_dev6 (d0 : Dev nD) : Nat :=
  let c0_i32_69 : BitVec 32 := 0#32
  let c1_i32_63 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v84 : BitVec 32 := Scalar.subi c1_i32_63 v2
  let c4_i32_68 : BitVec 32 := 4#32
  let v86 : BitVec 32 := Scalar.muli v84 c4_i32_68
  let v87 : BitVec 32 := Scalar.addi c0_i32_69 v86
  let c1_i32_64 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v85 : BitVec 32 := Scalar.subi c1_i32_64 v5
  let c2_i32_70 : BitVec 32 := 2#32
  let v88 : BitVec 32 := Scalar.muli v85 c2_i32_70
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v90 : BitVec 32 := Scalar.muli v8 c1_i32_71
  let v91 : BitVec 32 := Scalar.addi v89 v90
  v91.toNat
def k0_dev7 (d0 : Dev nD) : Nat :=
  let c0_i32_81 : BitVec 32 := 0#32
  let c1_i32_74 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v98 : BitVec 32 := Scalar.subi c1_i32_74 v2
  let c4_i32_80 : BitVec 32 := 4#32
  let v101 : BitVec 32 := Scalar.muli v98 c4_i32_80
  let v102 : BitVec 32 := Scalar.addi c0_i32_81 v101
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v99 : BitVec 32 := Scalar.subi c1_i32_75 v5
  let c2_i32_82 : BitVec 32 := 2#32
  let v103 : BitVec 32 := Scalar.muli v99 c2_i32_82
  let v104 : BitVec 32 := Scalar.addi v102 v103
  let c1_i32_76 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v100 : BitVec 32 := Scalar.subi c1_i32_76 v8
  let c1_i32_83 : BitVec 32 := 1#32
  let v105 : BitVec 32 := Scalar.muli v100 c1_i32_83
  let v106 : BitVec 32 := Scalar.addi v104 v105
  v106.toNat
def k0_off2 (d0 : Dev nD) : Fin 3 → Nat :=
  let c4_i32_87 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.muli c4_i32_87 v2
  let c2_i32_88 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v115 : BitVec 32 := Scalar.muli c2_i32_88 v5
  let v116 : BitVec 32 := Scalar.addi v114 v115
  let c1_i32_86 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v113 : BitVec 32 := Scalar.subi c1_i32_86 v8
  let v117 : BitVec 32 := Scalar.addi v116 v113
  let c0_i32_97 : BitVec 32 := 0#32
  let c0_i32_98 : BitVec 32 := 0#32
  ![v117.toNat, 0, 0]
def k0_off3 (d0 : Dev nD) : Fin 3 → Nat :=
  let c4_i32_100 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v129 : BitVec 32 := Scalar.muli c4_i32_100 v2
  let c2_i32_101 : BitVec 32 := 2#32
  let c1_i32_99 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v128 : BitVec 32 := Scalar.subi c1_i32_99 v5
  let v130 : BitVec 32 := Scalar.muli c2_i32_101 v128
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v132 : BitVec 32 := Scalar.addi v131 v8
  let c0_i32_110 : BitVec 32 := 0#32
  let c0_i32_111 : BitVec 32 := 0#32
  ![v132.toNat, 0, 0]
def k0_off4 (d0 : Dev nD) : Fin 3 → Nat :=
  let c4_i32_114 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v145 : BitVec 32 := Scalar.muli c4_i32_114 v2
  let c2_i32_115 : BitVec 32 := 2#32
  let c1_i32_112 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v143 : BitVec 32 := Scalar.subi c1_i32_112 v5
  let v146 : BitVec 32 := Scalar.muli c2_i32_115 v143
  let v147 : BitVec 32 := Scalar.addi v145 v146
  let c1_i32_113 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v144 : BitVec 32 := Scalar.subi c1_i32_113 v8
  let v148 : BitVec 32 := Scalar.addi v147 v144
  let c0_i32_124 : BitVec 32 := 0#32
  let c0_i32_125 : BitVec 32 := 0#32
  ![v148.toNat, 0, 0]
def k0_off5 (d0 : Dev nD) : Fin 3 → Nat :=
  let c4_i32_127 : BitVec 32 := 4#32
  let c1_i32_126 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v159 : BitVec 32 := Scalar.subi c1_i32_126 v2
  let v160 : BitVec 32 := Scalar.muli c4_i32_127 v159
  let c2_i32_128 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.muli c2_i32_128 v5
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v163 : BitVec 32 := Scalar.addi v162 v8
  let c0_i32_137 : BitVec 32 := 0#32
  let c0_i32_138 : BitVec 32 := 0#32
  ![v163.toNat, 0, 0]
def k0_off6 (d0 : Dev nD) : Fin 3 → Nat :=
  let c4_i32_141 : BitVec 32 := 4#32
  let c1_i32_139 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v174 : BitVec 32 := Scalar.subi c1_i32_139 v2
  let v176 : BitVec 32 := Scalar.muli c4_i32_141 v174
  let c2_i32_142 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v177 : BitVec 32 := Scalar.muli c2_i32_142 v5
  let v178 : BitVec 32 := Scalar.addi v176 v177
  let c1_i32_140 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v175 : BitVec 32 := Scalar.subi c1_i32_140 v8
  let v179 : BitVec 32 := Scalar.addi v178 v175
  let c0_i32_151 : BitVec 32 := 0#32
  let c0_i32_152 : BitVec 32 := 0#32
  ![v179.toNat, 0, 0]
def k0_off7 (d0 : Dev nD) : Fin 3 → Nat :=
  let c4_i32_155 : BitVec 32 := 4#32
  let c1_i32_153 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v190 : BitVec 32 := Scalar.subi c1_i32_153 v2
  let v192 : BitVec 32 := Scalar.muli c4_i32_155 v190
  let c2_i32_156 : BitVec 32 := 2#32
  let c1_i32_154 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v191 : BitVec 32 := Scalar.subi c1_i32_154 v5
  let v193 : BitVec 32 := Scalar.muli c2_i32_156 v191
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v195 : BitVec 32 := Scalar.addi v194 v8
  let c0_i32_165 : BitVec 32 := 0#32
  let c0_i32_166 : BitVec 32 := 0#32
  ![v195.toNat, 0, 0]
def k0_off8 (d0 : Dev nD) : Fin 3 → Nat :=
  let c4_i32_170 : BitVec 32 := 4#32
  let c1_i32_167 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v206 : BitVec 32 := Scalar.subi c1_i32_167 v2
  let v209 : BitVec 32 := Scalar.muli c4_i32_170 v206
  let c2_i32_171 : BitVec 32 := 2#32
  let c1_i32_168 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v207 : BitVec 32 := Scalar.subi c1_i32_168 v5
  let v210 : BitVec 32 := Scalar.muli c2_i32_171 v207
  let v211 : BitVec 32 := Scalar.addi v209 v210
  let c1_i32_169 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v208 : BitVec 32 := Scalar.subi c1_i32_169 v8
  let v212 : BitVec 32 := Scalar.addi v211 v208
  let c0_i32_180 : BitVec 32 := 0#32
  let c0_i32_181 : BitVec 32 := 0#32
  ![v212.toNat, 0, 0]
-- ==== GatherTapsRef.lean ====
abbrev S576x128 : Shape := ⟨2, ![576, 128]⟩
abbrev S8x72x128 : Shape := ⟨3, ![8, 72, 128]⟩

abbrev nBuf : Space → Nat
  | .hbm => 2
  | .vmem => 0
  | .smem => 0
  | _ => 0

abbrev bufTy : (tb : Table) → Fin (tcTables nBuf tb) → BufTy
  | .hbm, ⟨0, _⟩ => ⟨S576x128, .f32⟩
  | .hbm, ⟨1, _⟩ => ⟨S8x72x128, .f32⟩
  | _, _ => ⟨S576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamwOut.lean ====
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x256x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwOutRefIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwDown.lean ====
abbrev S8x688x2048 : Shape := ⟨3, ![8, 688, 2048]⟩
abbrev S688x2048 : Shape := ⟨2, ![688, 2048]⟩
abbrev S8x16x2048 : Shape := ⟨3, ![8, 16, 2048]⟩
abbrev S16x2048 : Shape := ⟨2, ![16, 2048]⟩
abbrev S1x16x2048 : Shape := ⟨3, ![1, 16, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x688x2048, .bf16⟩
  | .hbm, ⟨1, _⟩ => ⟨S688x2048, .f32⟩
  | .hbm, ⟨2, _⟩ => ⟨S688x2048, .f32⟩
  | .hbm, ⟨3, _⟩ => ⟨S688x2048, .f32⟩
  | .hbm, ⟨4, _⟩ => ⟨S688x2048, .f32⟩
  | .hbm, ⟨5, _⟩ => ⟨S688x2048, .f32⟩
  | .hbm, ⟨6, _⟩ => ⟨S688x2048, .f32⟩
  | .hbm, ⟨7, _⟩ => ⟨S688x2048, .f32⟩
  | .local _ .vmem, ⟨0, _⟩ => ⟨S8x16x2048, .bf16⟩
  | .local _ .vmem, ⟨1, _⟩ => ⟨S8x16x2048, .bf16⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S16x2048, .f32⟩
  | .local _ .vmem, ⟨7, _⟩ => ⟨S16x2048, .f32⟩
  | .local _ .vmem, ⟨8, _⟩ => ⟨S16x2048, .f32⟩
  | .local _ .vmem, ⟨9, _⟩ => ⟨S16x2048, .f32⟩
  | .local _ .vmem, ⟨10, _⟩ => ⟨S16x2048, .f32⟩
  | .local _ .vmem, ⟨11, _⟩ => ⟨S16x2048, .f32⟩
  | .local _ .vmem, ⟨12, _⟩ => ⟨S16x2048, .f32⟩
  | .local _ .vmem, ⟨13, _⟩ => ⟨S16x2048, .f32⟩
  | .local _ .vmem, ⟨14, _⟩ => ⟨S16x2048, .f32⟩
  | .local _ .vmem, ⟨15, _⟩ => ⟨S16x2048, .f32⟩
  | _, _ => ⟨S8x688x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwDownRefIdeal.lean ====
abbrev S8x688x2048 : Shape := ⟨3, ![8, 688, 2048]⟩
abbrev S688x2048 : Shape := ⟨2, ![688, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x688x2048, .bf16⟩
  | .hbm, ⟨1, _⟩ => ⟨S688x2048, .f32⟩
  | .hbm, ⟨2, _⟩ => ⟨S688x2048, .f32⟩
  | .hbm, ⟨3, _⟩ => ⟨S688x2048, .f32⟩
  | .hbm, ⟨4, _⟩ => ⟨S8x688x2048, .f32⟩
  | .hbm, ⟨5, _⟩ => ⟨S_, .f32⟩
  | .hbm, ⟨6, _⟩ => ⟨S688x2048, .f32⟩
  | .hbm, ⟨7, _⟩ => ⟨S_, .f32⟩
  | .hbm, ⟨8, _⟩ => ⟨S688x2048, .f32⟩
  | .hbm, ⟨9, _⟩ => ⟨S688x2048, .f32⟩
  | .hbm, ⟨10, _⟩ => ⟨S_, .f32⟩
  | .hbm, ⟨11, _⟩ => ⟨S688x2048, .f32⟩
  | .hbm, ⟨12, _⟩ => ⟨S688x2048, .f32⟩
  | .hbm, ⟨13, _⟩ => ⟨S688x2048, .f32⟩
  | .hbm, ⟨14, _⟩ => ⟨S_, .f32⟩
  | .hbm, ⟨15, _⟩ => ⟨S688x2048, .f32⟩
  | .hbm, ⟨16, _⟩ => ⟨S688x2048, .f32⟩
  | .hbm, ⟨17, _⟩ => ⟨S688x2048, .f32⟩
  | .hbm, ⟨18, _⟩ => ⟨S_, .f32⟩
  | .hbm, ⟨19, _⟩ => ⟨S688x2048, .f32⟩
  | .hbm, ⟨20, _⟩ => ⟨S688x2048, .f32⟩
  | .hbm, ⟨21, _⟩ => ⟨S688x2048, .f32⟩
  | .hbm, ⟨22, _⟩ => ⟨S_, .f32⟩
  | .hbm, ⟨23, _⟩ => ⟨S688x2048, .f32⟩
  | .hbm, ⟨24, _⟩ => ⟨S688x2048, .f32⟩
  | .hbm, ⟨25, _⟩ => ⟨S_, .f32⟩
  | .hbm, ⟨26, _⟩ => ⟨S688x2048, .f32⟩
  | .hbm, ⟨27, _⟩ => ⟨S688x2048, .f32⟩
  | .hbm, ⟨28, _⟩ => ⟨S688x2048, .f32⟩
  | .hbm, ⟨29, _⟩ => ⟨S_, .f32⟩
  | .hbm, ⟨30, _⟩ => ⟨S688x2048, .f32⟩
  | .hbm, ⟨31, _⟩ => ⟨S688x2048, .f32⟩
  | .hbm, ⟨32, _⟩ => ⟨S688x2048, .f32⟩
  | .hbm, ⟨33, _⟩ => ⟨S_, .f32⟩
  | .hbm, ⟨34, _⟩ => ⟨S688x2048, .f32⟩
  | .hbm, ⟨35, _⟩ => ⟨S688x2048, .f32⟩
  | .hbm, ⟨36, _⟩ => ⟨S688x2048, .f32⟩
  | .hbm, ⟨37, _⟩ => ⟨S_, .f32⟩
  | .hbm, ⟨38, _⟩ => ⟨S688x2048, .f32⟩
  | .hbm, ⟨39, _⟩ => ⟨S688x2048, .f32⟩
  | _, _ => ⟨S8x688x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamwGlu.lean ====
abbrev S8x64x512 : Shape := ⟨3, ![8, 64, 512]⟩
abbrev S64x512 : Shape := ⟨2, ![64, 512]⟩
abbrev S1x64x512 : Shape := ⟨3, ![1, 64, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x64x512, .bf16⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S64x512, .f32⟩
  | .hbm, ⟨5, _⟩ => ⟨S64x512, .f32⟩
  | .hbm, ⟨6, _⟩ => ⟨S64x512, .f32⟩
  | .hbm, ⟨7, _⟩ => ⟨S64x512, .f32⟩
  | .local _ .vmem, ⟨0, _⟩ => ⟨S8x64x512, .bf16⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | _, _ => ⟨S8x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwGluRefIdeal.lean ====
abbrev S8x64x512 : Shape := ⟨3, ![8, 64, 512]⟩
abbrev S64x512 : Shape := ⟨2, ![64, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x64x512, .bf16⟩
  | .hbm, ⟨1, _⟩ => ⟨S64x512, .f32⟩
  | .hbm, ⟨2, _⟩ => ⟨S64x512, .f32⟩
  | .hbm, ⟨3, _⟩ => ⟨S64x512, .f32⟩
  | .hbm, ⟨4, _⟩ => ⟨S8x64x512, .f32⟩
  | .hbm, ⟨5, _⟩ => ⟨S_, .f32⟩
  | .hbm, ⟨6, _⟩ => ⟨S64x512, .f32⟩
  | .hbm, ⟨7, _⟩ => ⟨S_, .f32⟩
  | .hbm, ⟨8, _⟩ => ⟨S64x512, .f32⟩
  | .hbm, ⟨9, _⟩ => ⟨S64x512, .f32⟩
  | .hbm, ⟨10, _⟩ => ⟨S_, .f32⟩
  | .hbm, ⟨11, _⟩ => ⟨S64x512, .f32⟩
  | .hbm, ⟨12, _⟩ => ⟨S64x512, .f32⟩
  | .hbm, ⟨13, _⟩ => ⟨S64x512, .f32⟩
  | .hbm, ⟨14, _⟩ => ⟨S_, .f32⟩
  | .hbm, ⟨15, _⟩ => ⟨S64x512, .f32⟩
  | .hbm, ⟨16, _⟩ => ⟨S64x512, .f32⟩
  | .hbm, ⟨17, _⟩ => ⟨S64x512, .f32⟩
  | .hbm, ⟨18, _⟩ => ⟨S_, .f32⟩
  | .hbm, ⟨19, _⟩ => ⟨S64x512, .f32⟩
  | .hbm, ⟨20, _⟩ => ⟨S64x512, .f32⟩
  | .hbm, ⟨21, _⟩ => ⟨S64x512, .f32⟩
  | .hbm, ⟨22, _⟩ => ⟨S_, .f32⟩
  | .hbm, ⟨23, _⟩ => ⟨S64x512, .f32⟩
  | .hbm, ⟨24, _⟩ => ⟨S64x512, .f32⟩
  | .hbm, ⟨25, _⟩ => ⟨S_, .f32⟩
  | .hbm, ⟨26, _⟩ => ⟨S64x512, .f32⟩
  | .hbm, ⟨27, _⟩ => ⟨S64x512, .f32⟩
  | .hbm, ⟨28, _⟩ => ⟨S64x512, .f32⟩
  | .hbm, ⟨29, _⟩ => ⟨S_, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S_, .f32⟩
  | .hbm, ⟨34, _⟩ => ⟨S64x512, .f32⟩
  | .hbm, ⟨35, _⟩ => ⟨S64x512, .f32⟩
  | .hbm, ⟨36, _⟩ => ⟨S64x512, .f32⟩
  | .hbm, ⟨37, _⟩ => ⟨S_, .f32⟩
  | .hbm, ⟨38, _⟩ => ⟨S64x512, .f32⟩
  | .hbm, ⟨39, _⟩ => ⟨S64x512, .f32⟩
  | _, _ => ⟨S8x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== SumIn.lean ====
abbrev S8x384x2048 : Shape := ⟨3, ![8, 384, 2048]⟩
abbrev S384x2048 : Shape := ⟨2, ![384, 2048]⟩
abbrev S8x192x2048 : Shape := ⟨3, ![8, 192, 2048]⟩
abbrev S192x2048 : Shape := ⟨2, ![192, 2048]⟩
abbrev S1x192x2048 : Shape := ⟨3, ![1, 192, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x384x2048, .bf16⟩
  | .hbm, ⟨1, _⟩ => ⟨S384x2048, .f32⟩
  | .local _ .vmem, ⟨0, _⟩ => ⟨S8x192x2048, .bf16⟩
  | .local _ .vmem, ⟨1, _⟩ => ⟨S8x192x2048, .bf16⟩
  | .local _ .vmem, ⟨2, _⟩ => ⟨S192x2048, .f32⟩
  | .local _ .vmem, ⟨3, _⟩ => ⟨S192x2048, .f32⟩
  | _, _ => ⟨S8x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x192x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInRefIdeal.lean ====
abbrev S8x384x2048 : Shape := ⟨3, ![8, 384, 2048]⟩
abbrev S_ : Shape := ⟨0, ![]⟩
abbrev S384x2048 : Shape := ⟨2, ![384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x384x2048, .bf16⟩
  | .hbm, ⟨1, _⟩ => ⟨S8x384x2048, .f32⟩
  | .hbm, ⟨2, _⟩ => ⟨S_, .f32⟩
  | .hbm, ⟨3, _⟩ => ⟨S384x2048, .f32⟩
  | _, _ => ⟨S8x384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumUp.lean ====
abbrev S8x1376x2048 : Shape := ⟨3, ![8, 1376, 2048]⟩
abbrev S1376x2048 : Shape := ⟨2, ![1376, 2048]⟩
abbrev S8x32x2048 : Shape := ⟨3, ![8, 32, 2048]⟩
abbrev S32x2048 : Shape := ⟨2, ![32, 2048]⟩
abbrev S1x32x2048 : Shape := ⟨3, ![1, 32, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8x1376x2048, .bf16⟩
  | .hbm, ⟨1, _⟩ => ⟨S1376x2048, .f32⟩
  | .local _ .vmem, ⟨0, _⟩ => ⟨S8x32x2048, .bf16⟩
  | .local _ .vmem, ⟨1, _⟩ => ⟨S8x32x2048, .bf16⟩
  | .local _ .vmem, ⟨2, _⟩ => ⟨S32x2048, .f32⟩
  | .local _ .vmem, ⟨3, _⟩ => ⟨S32x2048, .f32⟩
  | _, _ => ⟨S8x1376x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumUpRefIdeal.lean ====
abbrev S8x1376x2048 : Shape := ⟨3, ![8, 1376, 2048]⟩
abbrev S_ : Shape := ⟨0, ![]⟩
abbrev S1376x2048 : Shape := ⟨2, ![1376, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x1376x2048, .bf16⟩
  | .hbm, ⟨1, _⟩ => ⟨S8x1376x2048, .f32⟩
  | .hbm, ⟨2, _⟩ => ⟨S_, .f32⟩
  | .hbm, ⟨3, _⟩ => ⟨S1376x2048, .f32⟩
  | _, _ => ⟨S8x1376x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x4960x128 : Shape := ⟨3, ![8, 4960, 128]⟩
abbrev S4960x128 : Shape := ⟨2, ![4960, 128]⟩
abbrev S8x160x128 : Shape := ⟨3, ![8, 160, 128]⟩
abbrev S160x128 : Shape := ⟨2, ![160, 128]⟩
abbrev S1x160x128 : Shape := ⟨3, ![1, 160, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x4960x128, .f32⟩
  | .hbm, ⟨1, _⟩ => ⟨S4960x128, .f32⟩
  | .local _ .vmem, ⟨0, _⟩ => ⟨S8x160x128, .f32⟩
  | .local _ .vmem, ⟨1, _⟩ => ⟨S8x160x128, .f32⟩
  | .local _ .vmem, ⟨2, _⟩ => ⟨S160x128, .f32⟩
  | .local _ .vmem, ⟨3, _⟩ => ⟨S160x128, .f32⟩
  | _, _ => ⟨S8x4960x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![31], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x160x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRefIdeal.lean ====
abbrev S8x4960x128 : Shape := ⟨3, ![8, 4960, 128]⟩
abbrev S_ : Shape := ⟨0, ![]⟩
abbrev S4960x128 : Shape := ⟨2, ![4960, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x4960x128, .f32⟩
  | .hbm, ⟨1, _⟩ => ⟨S_, .f32⟩
  | .hbm, ⟨2, _⟩ => ⟨S4960x128, .f32⟩
  | _, _ => ⟨S8x4960x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamwIn.lean ====
abbrev S2048x384 : Shape := ⟨2, ![2048, 384]⟩
abbrev S256x384 : Shape := ⟨2, ![256, 384]⟩

abbrev nBuf : Space → Nat
  | .hbm => 7
  | .vmem => 14
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInRefIdeal.lean ====
abbrev S2048x384 : Shape := ⟨2, ![2048, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S_, .f32⟩
  | .hbm, ⟨5, _⟩ => ⟨S2048x384, .f32⟩
  | .hbm, ⟨6, _⟩ => ⟨S2048x384, .f32⟩
  | .hbm, ⟨7, _⟩ => ⟨S_, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S_, .f32⟩
  | .hbm, ⟨12, _⟩ => ⟨S2048x384, .f32⟩
  | .hbm, ⟨13, _⟩ => ⟨S2048x384, .f32⟩
  | .hbm, ⟨14, _⟩ => ⟨S2048x384, .f32⟩
  | .hbm, ⟨15, _⟩ => ⟨S_, .f32⟩
  | .hbm, ⟨16, _⟩ => ⟨S2048x384, .f32⟩
  | .hbm, ⟨17, _⟩ => ⟨S2048x384, .f32⟩
  | .hbm, ⟨18, _⟩ => ⟨S2048x384, .f32⟩
  | .hbm, ⟨19, _⟩ => ⟨S_, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S2048x384, .f32⟩
  | .hbm, ⟨26, _⟩ => ⟨S_, .f32⟩
  | .hbm, ⟨27, _⟩ => ⟨S2048x384, .f32⟩
  | .hbm, ⟨28, _⟩ => ⟨S2048x384, .f32⟩
  | .hbm, ⟨29, _⟩ => ⟨S2048x384, .f32⟩
  | .hbm, ⟨30, _⟩ => ⟨S_, .f32⟩
  | .hbm, ⟨31, _⟩ => ⟨S2048x384, .f32⟩
  | .hbm, ⟨32, _⟩ => ⟨S2048x384, .f32⟩
  | .hbm, ⟨33, _⟩ => ⟨S2048x384, .f32⟩
  | .hbm, ⟨34, _⟩ => ⟨S_, .f32⟩
  | .hbm, ⟨35, _⟩ => ⟨S2048x384, .f32⟩
  | .hbm, ⟨36, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwUp.lean ====
abbrev S2048x1376 : Shape := ⟨2, ![2048, 1376]⟩
abbrev S256x1376 : Shape := ⟨2, ![256, 1376]⟩

abbrev nBuf : Space → Nat
  | .hbm => 7
  | .vmem => 14
  | .smem => 0
  | _ => 0

abbrev bufTy : (tb : Table) → Fin (tcTables nBuf tb) → BufTy
  | .hbm, ⟨0, _⟩ => ⟨S2048x1376, .f32⟩
  | .hbm, ⟨1, _⟩ => ⟨S2048x1376, .f32⟩
  | .hbm, ⟨2, _⟩ => ⟨S2048x1376, .f32⟩
  | .hbm, ⟨3, _⟩ => ⟨S2048x1376, .f32⟩
  | .hbm, ⟨4, _⟩ => ⟨S2048x1376, .f32⟩
  | .hbm, ⟨5, _⟩ => ⟨S2048x1376, .f32⟩
  | .hbm, ⟨6, _⟩ => ⟨S2048x1376, .f32⟩
  | .local _ .vmem, ⟨0, _⟩ => ⟨S256x1376, .f32⟩
  | .local _ .vmem, ⟨1, _⟩ => ⟨S256x1376, .f32⟩
  | .local _ .vmem, ⟨2, _⟩ => ⟨S256x1376, .f32⟩
  | .local _ .vmem, ⟨3, _⟩ => ⟨S256x1376, .f32⟩
  | .local _ .vmem, ⟨4, _⟩ => ⟨S256x1376, .f32⟩
  | .local _ .vmem, ⟨5, _⟩ => ⟨S256x1376, .f32⟩
  | .local _ .vmem, ⟨6, _⟩ => ⟨S256x1376, .f32⟩
  | .local _ .vmem, ⟨7, _⟩ => ⟨S256x1376, .f32⟩
  | .local _ .vmem, ⟨8, _⟩ => ⟨S256x1376, .f32⟩
  | .local _ .vmem, ⟨9, _⟩ => ⟨S256x1376, .f32⟩
  | .local _ .vmem, ⟨10, _⟩ => ⟨S256x1376, .f32⟩
  | .local _ .vmem, ⟨11, _⟩ => ⟨S256x1376, .f32⟩
  | .local _ .vmem, ⟨12, _⟩ => ⟨S256x1376, .f32⟩
  | .local _ .vmem, ⟨13, _⟩ => ⟨S256x1376, .f32⟩
  | _, _ => ⟨S2048x1376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1376 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1376 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1376 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1376 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1376 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1376 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1376 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwUpRefIdeal.lean ====
abbrev S2048x1376 : Shape := ⟨2, ![2048, 1376]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1376, .f32⟩
  | .hbm, ⟨1, _⟩ => ⟨S2048x1376, .f32⟩
  | .hbm, ⟨2, _⟩ => ⟨S2048x1376, .f32⟩
  | .hbm, ⟨3, _⟩ => ⟨S2048x1376, .f32⟩
  | .hbm, ⟨4, _⟩ => ⟨S_, .f32⟩
  | .hbm, ⟨5, _⟩ => ⟨S2048x1376, .f32⟩
  | .hbm, ⟨6, _⟩ => ⟨S2048x1376, .f32⟩
  | .hbm, ⟨7, _⟩ => ⟨S_, .f32⟩
  | .hbm, ⟨8, _⟩ => ⟨S2048x1376, .f32⟩
  | .hbm, ⟨9, _⟩ => ⟨S2048x1376, .f32⟩
  | .hbm, ⟨10, _⟩ => ⟨S2048x1376, .f32⟩
  | .hbm, ⟨11, _⟩ => ⟨S_, .f32⟩
  | .hbm, ⟨12, _⟩ => ⟨S2048x1376, .f32⟩
  | .hbm, ⟨13, _⟩ => ⟨S2048x1376, .f32⟩
  | .hbm, ⟨14, _⟩ => ⟨S2048x1376, .f32⟩
  | .hbm, ⟨15, _⟩ => ⟨S_, .f32⟩
  | .hbm, ⟨16, _⟩ => ⟨S2048x1376, .f32⟩
  | .hbm, ⟨17, _⟩ => ⟨S2048x1376, .f32⟩
  | .hbm, ⟨18, _⟩ => ⟨S2048x1376, .f32⟩
  | .hbm, ⟨19, _⟩ => ⟨S_, .f32⟩
  | .hbm, ⟨20, _⟩ => ⟨S2048x1376, .f32⟩
  | .hbm, ⟨21, _⟩ => ⟨S2048x1376, .f32⟩
  | .hbm, ⟨22, _⟩ => ⟨S_, .f32⟩
  | .hbm, ⟨23, _⟩ => ⟨S2048x1376, .f32⟩
  | .hbm, ⟨24, _⟩ => ⟨S2048x1376, .f32⟩
  | .hbm, ⟨25, _⟩ => ⟨S2048x1376, .f32⟩
  | .hbm, ⟨26, _⟩ => ⟨S_, .f32⟩
  | .hbm, ⟨27, _⟩ => ⟨S2048x1376, .f32⟩
  | .hbm, ⟨28, _⟩ => ⟨S2048x1376, .f32⟩
  | .hbm, ⟨29, _⟩ => ⟨S2048x1376, .f32⟩
  | .hbm, ⟨30, _⟩ => ⟨S_, .f32⟩
  | .hbm, ⟨31, _⟩ => ⟨S2048x1376, .f32⟩
  | .hbm, ⟨32, _⟩ => ⟨S2048x1376, .f32⟩
  | .hbm, ⟨33, _⟩ => ⟨S2048x1376, .f32⟩
  | .hbm, ⟨34, _⟩ => ⟨S_, .f32⟩
  | .hbm, ⟨35, _⟩ => ⟨S2048x1376, .f32⟩
  | .hbm, ⟨36, _⟩ => ⟨S2048x1376, .f32⟩
  | _, _ => ⟨S2048x1376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S4488x128 : Shape := ⟨2, ![4488, 128]⟩
abbrev S136x128 : Shape := ⟨2, ![136, 128]⟩

abbrev nBuf : Space → Nat
  | .hbm => 7
  | .vmem => 14
  | .smem => 0
  | _ => 0

abbrev bufTy : (tb : Table) → Fin (tcTables nBuf tb) → BufTy
  | .hbm, ⟨0, _⟩ => ⟨S4488x128, .f32⟩
  | .hbm, ⟨1, _⟩ => ⟨S4488x128, .f32⟩
  | .hbm, ⟨2, _⟩ => ⟨S4488x128, .f32⟩
  | .hbm, ⟨3, _⟩ => ⟨S4488x128, .f32⟩
  | .hbm, ⟨4, _⟩ => ⟨S4488x128, .f32⟩
  | .hbm, ⟨5, _⟩ => ⟨S4488x128, .f32⟩
  | .hbm, ⟨6, _⟩ => ⟨S4488x128, .f32⟩
  | .local _ .vmem, ⟨0, _⟩ => ⟨S136x128, .f32⟩
  | .local _ .vmem, ⟨1, _⟩ => ⟨S136x128, .f32⟩
  | .local _ .vmem, ⟨2, _⟩ => ⟨S136x128, .f32⟩
  | .local _ .vmem, ⟨3, _⟩ => ⟨S136x128, .f32⟩
  | .local _ .vmem, ⟨4, _⟩ => ⟨S136x128, .f32⟩
  | .local _ .vmem, ⟨5, _⟩ => ⟨S136x128, .f32⟩
  | .local _ .vmem, ⟨6, _⟩ => ⟨S136x128, .f32⟩
  | .local _ .vmem, ⟨7, _⟩ => ⟨S136x128, .f32⟩
  | .local _ .vmem, ⟨8, _⟩ => ⟨S136x128, .f32⟩
  | .local _ .vmem, ⟨9, _⟩ => ⟨S136x128, .f32⟩
  | .local _ .vmem, ⟨10, _⟩ => ⟨S136x128, .f32⟩
  | .local _ .vmem, ⟨11, _⟩ => ⟨S136x128, .f32⟩
  | .local _ .vmem, ⟨12, _⟩ => ⟨S136x128, .f32⟩
  | .local _ .vmem, ⟨13, _⟩ => ⟨S136x128, .f32⟩
  | _, _ => ⟨S4488x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S136x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S136x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S136x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S136x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S136x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S136x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSmallRefIdeal.lean ====
abbrev S4488x128 : Shape := ⟨2, ![4488, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4488x128, .f32⟩
  | .hbm, ⟨1, _⟩ => ⟨S4488x128, .f32⟩
  | .hbm, ⟨2, _⟩ => ⟨S4488x128, .f32⟩
  | .hbm, ⟨3, _⟩ => ⟨S4488x128, .f32⟩
  | .hbm, ⟨4, _⟩ => ⟨S_, .f32⟩
  | .hbm, ⟨5, _⟩ => ⟨S4488x128, .f32⟩
  | .hbm, ⟨6, _⟩ => ⟨S4488x128, .f32⟩
  | .hbm, ⟨7, _⟩ => ⟨S_, .f32⟩
  | .hbm, ⟨8, _⟩ => ⟨S4488x128, .f32⟩
  | .hbm, ⟨9, _⟩ => ⟨S4488x128, .f32⟩
  | .hbm, ⟨10, _⟩ => ⟨S4488x128, .f32⟩
  | .hbm, ⟨11, _⟩ => ⟨S_, .f32⟩
  | .hbm, ⟨12, _⟩ => ⟨S4488x128, .f32⟩
  | .hbm, ⟨13, _⟩ => ⟨S4488x128, .f32⟩
  | .hbm, ⟨14, _⟩ => ⟨S4488x128, .f32⟩
  | .hbm, ⟨15, _⟩ => ⟨S_, .f32⟩
  | .hbm, ⟨16, _⟩ => ⟨S4488x128, .f32⟩
  | .hbm, ⟨17, _⟩ => ⟨S4488x128, .f32⟩
  | .hbm, ⟨18, _⟩ => ⟨S4488x128, .f32⟩
  | .hbm, ⟨19, _⟩ => ⟨S_, .f32⟩
  | .hbm, ⟨20, _⟩ => ⟨S4488x128, .f32⟩
  | .hbm, ⟨21, _⟩ => ⟨S4488x128, .f32⟩
  | .hbm, ⟨22, _⟩ => ⟨S_, .f32⟩
  | .hbm, ⟨23, _⟩ => ⟨S4488x128, .f32⟩
  | .hbm, ⟨24, _⟩ => ⟨S4488x128, .f32⟩
  | .hbm, ⟨25, _⟩ => ⟨S4488x128, .f32⟩
  | .hbm, ⟨26, _⟩ => ⟨S_, .f32⟩
  | .hbm, ⟨27, _⟩ => ⟨S4488x128, .f32⟩
  | .hbm, ⟨28, _⟩ => ⟨S4488x128, .f32⟩
  | .hbm, ⟨29, _⟩ => ⟨S4488x128, .f32⟩
  | .hbm, ⟨30, _⟩ => ⟨S_, .f32⟩
  | .hbm, ⟨31, _⟩ => ⟨S4488x128, .f32⟩
  | .hbm, ⟨32, _⟩ => ⟨S4488x128, .f32⟩
  | .hbm, ⟨33, _⟩ => ⟨S4488x128, .f32⟩
  | .hbm, ⟨34, _⟩ => ⟨S_, .f32⟩
  | .hbm, ⟨35, _⟩ => ⟨S4488x128, .f32⟩
  | .hbm, ⟨36, _⟩ => ⟨S4488x128, .f32⟩
  | _, _ => ⟨S4488x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GradX.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GradXRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S4096x2048, .f32⟩
  | .hbm, ⟨31, _⟩ => ⟨S4096x2048, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Loss.lean ====
abbrev S4096x2048 : Shape := ⟨2, ![4096, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩
abbrev S_ : Shape := ⟨0, ![]⟩

abbrev nBuf : Space → Nat
  | .hbm => 12
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S8x2048, .f32⟩
  | .local _ .vmem, ⟨10, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDown.lean ====
abbrev S4096x5504 : Shape := ⟨2, ![4096, 5504]⟩
abbrev S5504x2048 : Shape := ⟨2, ![5504, 2048]⟩
abbrev S4096x2048 : Shape := ⟨2, ![4096, 2048]⟩
abbrev S512x5504 : Shape := ⟨2, ![512, 5504]⟩
abbrev S5504x512 : Shape := ⟨2, ![5504, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x5504, .bf16⟩
  | .hbm, ⟨1, _⟩ => ⟨S5504x2048, .bf16⟩
  | .hbm, ⟨2, _⟩ => ⟨S4096x2048, .f32⟩
  | .hbm, ⟨3, _⟩ => ⟨S4096x2048, .f32⟩
  | .local _ .vmem, ⟨0, _⟩ => ⟨S512x5504, .bf16⟩
  | .local _ .vmem, ⟨1, _⟩ => ⟨S512x5504, .bf16⟩
  | .local _ .vmem, ⟨2, _⟩ => ⟨S5504x512, .bf16⟩
  | .local _ .vmem, ⟨3, _⟩ => ⟨S5504x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S4096x5504 : Shape := ⟨2, ![4096, 5504]⟩
abbrev S5504x2048 : Shape := ⟨2, ![5504, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5504, .bf16⟩
  | .hbm, ⟨1, _⟩ => ⟨S5504x2048, .bf16⟩
  | .hbm, ⟨2, _⟩ => ⟨S4096x2048, .f32⟩
  | .hbm, ⟨3, _⟩ => ⟨S4096x5504, .f32⟩
  | .hbm, ⟨4, _⟩ => ⟨S5504x2048, .f32⟩
  | .hbm, ⟨5, _⟩ => ⟨S4096x2048, .f32⟩
  | .hbm, ⟨6, _⟩ => ⟨S4096x2048, .f32⟩
  | _, _ => ⟨S4096x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DAct.lean ====
abbrev S4096x2048 : Shape := ⟨2, ![4096, 2048]⟩
abbrev S5504x2048 : Shape := ⟨2, ![5504, 2048]⟩
abbrev S4096x5504 : Shape := ⟨2, ![4096, 5504]⟩
abbrev S256x512 : Shape := ⟨2, ![256, 512]⟩
abbrev S5504x512 : Shape := ⟨2, ![5504, 512]⟩
abbrev S256x5504 : Shape := ⟨2, ![256, 5504]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S5504x2048, .bf16⟩
  | .hbm, ⟨2, _⟩ => ⟨S4096x5504, .f32⟩
  | .local _ .vmem, ⟨0, _⟩ => ⟨S256x512, .bf16⟩
  | .local _ .vmem, ⟨1, _⟩ => ⟨S256x512, .bf16⟩
  | .local _ .vmem, ⟨2, _⟩ => ⟨S5504x512, .bf16⟩
  | .local _ .vmem, ⟨3, _⟩ => ⟨S5504x512, .bf16⟩
  | .local _ .vmem, ⟨4, _⟩ => ⟨S256x5504, .f32⟩
  | .local _ .vmem, ⟨5, _⟩ => ⟨S256x5504, .f32⟩
  | .local _ .vmem, ⟨6, _⟩ => ⟨S256x5504, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S4096x2048 : Shape := ⟨2, ![4096, 2048]⟩
abbrev S5504x2048 : Shape := ⟨2, ![5504, 2048]⟩
abbrev S2048x5504 : Shape := ⟨2, ![2048, 5504]⟩
abbrev S4096x5504 : Shape := ⟨2, ![4096, 5504]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5504x2048, .bf16⟩
  | .hbm, ⟨2, _⟩ => ⟨S2048x5504, .bf16⟩
  | .hbm, ⟨3, _⟩ => ⟨S4096x2048, .f32⟩
  | .hbm, ⟨4, _⟩ => ⟨S2048x5504, .f32⟩
  | .hbm, ⟨5, _⟩ => ⟨S4096x5504, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DMixed.lean ====
abbrev S4096x2048 : Shape := ⟨2, ![4096, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixedRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DHTwo.lean ====
abbrev S4096x11008 : Shape := ⟨2, ![4096, 11008]⟩
abbrev S11008x2048 : Shape := ⟨2, ![11008, 2048]⟩
abbrev S4096x2048 : Shape := ⟨2, ![4096, 2048]⟩
abbrev S512x5504 : Shape := ⟨2, ![512, 5504]⟩
abbrev S5504x512 : Shape := ⟨2, ![5504, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x11008, .bf16⟩
  | .hbm, ⟨1, _⟩ => ⟨S11008x2048, .bf16⟩
  | .hbm, ⟨2, _⟩ => ⟨S4096x2048, .f32⟩
  | .local _ .vmem, ⟨0, _⟩ => ⟨S512x5504, .bf16⟩
  | .local _ .vmem, ⟨1, _⟩ => ⟨S512x5504, .bf16⟩
  | .local _ .vmem, ⟨2, _⟩ => ⟨S5504x512, .bf16⟩
  | .local _ .vmem, ⟨3, _⟩ => ⟨S5504x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHTwoRefIdeal.lean ====
abbrev S4096x11008 : Shape := ⟨2, ![4096, 11008]⟩
abbrev S11008x2048 : Shape := ⟨2, ![11008, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S11008x2048, .bf16⟩
  | .hbm, ⟨2, _⟩ => ⟨S4096x11008, .f32⟩
  | .hbm, ⟨3, _⟩ => ⟨S11008x2048, .f32⟩
  | .hbm, ⟨4, _⟩ => ⟨S4096x2048, .f32⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DH.lean ====
abbrev S4096x3072 : Shape := ⟨2, ![4096, 3072]⟩
abbrev S3072x2048 : Shape := ⟨2, ![3072, 2048]⟩
abbrev S4096x2048 : Shape := ⟨2, ![4096, 2048]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S3072x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHRefIdeal.lean ====
abbrev S4096x3072 : Shape := ⟨2, ![4096, 3072]⟩
abbrev S3072x2048 : Shape := ⟨2, ![3072, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x2048, .bf16⟩
  | .hbm, ⟨2, _⟩ => ⟨S4096x3072, .f32⟩
  | .hbm, ⟨3, _⟩ => ⟨S3072x2048, .f32⟩
  | .hbm, ⟨4, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwDown.lean ====
abbrev S4096x5504 : Shape := ⟨2, ![4096, 5504]⟩
abbrev S4096x2048 : Shape := ⟨2, ![4096, 2048]⟩
abbrev S5504x2048 : Shape := ⟨2, ![5504, 2048]⟩
abbrev S256x5504 : Shape := ⟨2, ![256, 5504]⟩
abbrev S256x512 : Shape := ⟨2, ![256, 512]⟩
abbrev S5504x512 : Shape := ⟨2, ![5504, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5504, .bf16⟩
  | .hbm, ⟨1, _⟩ => ⟨S4096x2048, .bf16⟩
  | .hbm, ⟨2, _⟩ => ⟨S5504x2048, .bf16⟩
  | .local _ .vmem, ⟨0, _⟩ => ⟨S256x5504, .bf16⟩
  | .local _ .vmem, ⟨1, _⟩ => ⟨S256x5504, .bf16⟩
  | .local _ .vmem, ⟨2, _⟩ => ⟨S256x512, .bf16⟩
  | .local _ .vmem, ⟨3, _⟩ => ⟨S256x512, .bf16⟩
  | .local _ .vmem, ⟨4, _⟩ => ⟨S5504x512, .bf16⟩
  | .local _ .vmem, ⟨5, _⟩ => ⟨S5504x512, .bf16⟩
  | .local _ .vmem, ⟨6, _⟩ => ⟨S5504x512, .f32⟩
  | _, _ => ⟨S4096x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S5504x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x5504 : Shape := ⟨2, ![4096, 5504]⟩
abbrev S4096x2048 : Shape := ⟨2, ![4096, 2048]⟩
abbrev S5504x4096 : Shape := ⟨2, ![5504, 4096]⟩
abbrev S5504x2048 : Shape := ⟨2, ![5504, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5504, .bf16⟩
  | .hbm, ⟨1, _⟩ => ⟨S4096x2048, .bf16⟩
  | .hbm, ⟨2, _⟩ => ⟨S5504x4096, .bf16⟩
  | .hbm, ⟨3, _⟩ => ⟨S5504x4096, .f32⟩
  | .hbm, ⟨4, _⟩ => ⟨S4096x2048, .f32⟩
  | .hbm, ⟨5, _⟩ => ⟨S5504x2048, .f32⟩
  | .hbm, ⟨6, _⟩ => ⟨S5504x2048, .bf16⟩
  | _, _ => ⟨S4096x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwOut.lean ====
abbrev S4096x2048 : Shape := ⟨2, ![4096, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x2048 : Shape := ⟨2, ![4096, 2048]⟩
abbrev S2048x4096 : Shape := ⟨2, ![2048, 4096]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x4096, .bf16⟩
  | .hbm, ⟨3, _⟩ => ⟨S2048x4096, .f32⟩
  | .hbm, ⟨4, _⟩ => ⟨S4096x2048, .f32⟩
  | .hbm, ⟨5, _⟩ => ⟨S2048x2048, .f32⟩
  | .hbm, ⟨6, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwUp.lean ====
abbrev S4096x11008 : Shape := ⟨2, ![4096, 11008]⟩
abbrev S4096x2048 : Shape := ⟨2, ![4096, 2048]⟩
abbrev S11008x2048 : Shape := ⟨2, ![11008, 2048]⟩
abbrev S4096x256 : Shape := ⟨2, ![4096, 256]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x11008, .bf16⟩
  | .hbm, ⟨1, _⟩ => ⟨S4096x2048, .bf16⟩
  | .hbm, ⟨2, _⟩ => ⟨S11008x2048, .bf16⟩
  | .local _ .vmem, ⟨0, _⟩ => ⟨S4096x256, .bf16⟩
  | .local _ .vmem, ⟨1, _⟩ => ⟨S4096x256, .bf16⟩
  | .local _ .vmem, ⟨2, _⟩ => ⟨S4096x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![43, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x11008 : Shape := ⟨2, ![4096, 11008]⟩
abbrev S4096x2048 : Shape := ⟨2, ![4096, 2048]⟩
abbrev S11008x4096 : Shape := ⟨2, ![11008, 4096]⟩
abbrev S11008x2048 : Shape := ⟨2, ![11008, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S4096x2048, .bf16⟩
  | .hbm, ⟨2, _⟩ => ⟨S11008x4096, .bf16⟩
  | .hbm, ⟨3, _⟩ => ⟨S11008x4096, .f32⟩
  | .hbm, ⟨4, _⟩ => ⟨S4096x2048, .f32⟩
  | .hbm, ⟨5, _⟩ => ⟨S11008x2048, .f32⟩
  | .hbm, ⟨6, _⟩ => ⟨S11008x2048, .bf16⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwIn.lean ====
abbrev S4096x3072 : Shape := ⟨2, ![4096, 3072]⟩
abbrev S4096x2048 : Shape := ⟨2, ![4096, 2048]⟩
abbrev S3072x2048 : Shape := ⟨2, ![3072, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x2048, .bf16⟩
  | .hbm, ⟨2, _⟩ => ⟨S3072x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x3072 : Shape := ⟨2, ![4096, 3072]⟩
abbrev S4096x2048 : Shape := ⟨2, ![4096, 2048]⟩
abbrev S3072x4096 : Shape := ⟨2, ![3072, 4096]⟩
abbrev S3072x2048 : Shape := ⟨2, ![3072, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x2048, .bf16⟩
  | .hbm, ⟨2, _⟩ => ⟨S3072x4096, .bf16⟩
  | .hbm, ⟨3, _⟩ => ⟨S3072x4096, .f32⟩
  | .hbm, ⟨4, _⟩ => ⟨S4096x2048, .f32⟩
  | .hbm, ⟨5, _⟩ => ⟨S3072x2048, .f32⟩
  | .hbm, ⟨6, _⟩ => ⟨S3072x2048, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Words.lean ====
/-
The exchange's addressing on the 2 × 2 × 2 mesh: how a device computes its own number and those of the devices
that differ from it in the axes a mask names, and the slot of a gathered array that a device's part takes.
-/
module

public import Idealize.ShloMosaic.Lib.Affine
public import Idealize.ShloMosaic.Lib.Decide
public import Idealize.ShloMosaic.Lib.Exec

@[expose] public section

namespace Cert.Exchange

open Idealize.ShloMosaic Idealize.SL.Sem

/-! ## Numbers of devices -/

/-- Whether mask `k + 1` turns the first axis. -/
abbrev onX (k : Fin 7) : Bool := match k with | 0 | 1 | 2 => false | 3 | 4 | 5 | 6 => true
/-- Whether mask `k + 1` turns the second axis. -/
abbrev onY (k : Fin 7) : Bool := match k with | 0 | 3 | 4 => false | 1 | 2 | 5 | 6 => true
/-- Whether mask `k + 1` turns the third axis. -/
abbrev onC (k : Fin 7) : Bool := match k with | 1 | 3 | 5 => false | 0 | 2 | 4 | 6 => true

/-- A coordinate of an axis of two, turned where the mask says so. -/
abbrev turn (b : Bool) (v : BitVec 32) : BitVec 32 := match b with | true => Scalar.subi 1#32 v | false => v

/-- A device's first coordinate, as a kernel computes it. -/
abbrev xWord (d : Dev 8) : BitVec 32 := Scalar.remsi (Scalar.divsi (Dev.word d) 4#32) 2#32
/-- A device's second coordinate. -/
abbrev yWord (d : Dev 8) : BitVec 32 := Scalar.remsi (Scalar.divsi (Dev.word d) 2#32) 2#32
/-- A device's third coordinate. -/
abbrev cWord (d : Dev 8) : BitVec 32 := Scalar.remsi (Scalar.divsi (Dev.word d) 1#32) 2#32

/-- The slot number of the device that differs from `d` as mask `k + 1` says. -/
abbrev slotWord (k : Fin 7) (d : Dev 8) : BitVec 32 :=
  Scalar.addi (Scalar.addi (Scalar.muli 4#32 (turn (onX k) (xWord d))) (Scalar.muli 2#32 (turn (onY k) (yWord d)))) (turn (onC k) (cWord d))

/-- The slot number of the device itself. -/
abbrev mineWord (d : Dev 8) : BitVec 32 :=
  Scalar.addi (Scalar.addi (Scalar.muli 4#32 (xWord d)) (Scalar.muli 2#32 (yWord d))) (cWord d)

/-- The number by which a copy addresses that device. -/
abbrev devWord (k : Fin 7) (d : Dev 8) : BitVec 32 :=
  Scalar.addi (Scalar.addi (Scalar.addi 0#32 (Scalar.muli (turn (onX k) (xWord d)) 4#32)) (Scalar.muli (turn (onY k) (yWord d)) 2#32))
    (Scalar.muli (turn (onC k) (cWord d)) 1#32)

theorem devWord_lt : ∀ (k : Fin 7) (d : Dev 8), (devWord k d).toNat < 8 := by decide +kernel

/-- The device that differs from `d` as mask `k + 1` says. -/
def flip (k : Fin 7) (d : Dev 8) : Dev 8 := ⟨(devWord k d).toNat, devWord_lt k d⟩

theorem flip_flip : ∀ (k : Fin 7) (d : Dev 8), flip k (flip k d) = d := by decide +kernel
theorem slotWord_eq : ∀ (k : Fin 7) (d : Dev 8), (slotWord k d).toNat = (flip k d).val := by decide +kernel
theorem mineWord_eq : ∀ d : Dev 8, (mineWord d).toNat = d.val := by decide +kernel

/-- The device itself, or the one a mask names. -/
def tgt (d : Dev 8) (o : Option (Fin 7)) : Dev 8 := o.elim d fun k => flip k d

theorem tgt_bijective (d : Dev 8) : Function.Bijective (tgt d) := by revert d; decide +kernel

/-! ## Slots of a gathered array -/

/-- The offset of the slot a device's own part takes, as the kernel computes it. -/
abbrev offMine (d : Dev 8) : Fin 3 → Nat := ![(mineWord d).toNat, 0, 0]
/-- The offset of the slot of the device a mask names, as the kernel computes it. -/
abbrev offPeer (k : Fin 7) (d : Dev 8) : Fin 3 → Nat := ![(slotWord k d).toNat, 0, 0]
/-- The offset of slot `r`. -/
abbrev offAt (r : Dev 8) : Fin 3 → Nat := ![r.val, 0, 0]

theorem offMine_eq (d : Dev 8) : offMine d = offAt d := by unfold offMine offAt; rw [mineWord_eq]
theorem offPeer_eq (k : Fin 7) (d : Dev 8) : offPeer k d = offAt (flip k d) := by unfold offPeer offAt; rw [slotWord_eq]

/-- An array of eight parts of `R × C`. -/
abbrev Sh3 (R C : Nat) : Shape := ⟨3, ![8, R, C]⟩
/-- One part. -/
abbrev Sh1 (R C : Nat) : Shape := ⟨3, ![1, R, C]⟩
/-- One part without its axis of one. -/
abbrev Sh2 (R C : Nat) : Shape := ⟨2, ![R, C]⟩

theorem offAt_inb (R C : Nat) (r : Dev 8) : ∀ a, offAt r a + (Sh1 R C).size a ≤ (Sh3 R C).size a := fun a => by
  have := r.isLt
  fin_cases a <;> simp [offAt] ; omega

theorem offMine_inb (R C : Nat) (d : Dev 8) : ∀ a, offMine d a + (Sh1 R C).size a ≤ (Sh3 R C).size a := by
  rw [offMine_eq]; exact offAt_inb R C d
theorem offPeer_inb (R C : Nat) (k : Fin 7) (d : Dev 8) : ∀ a, offPeer k d a + (Sh1 R C).size a ≤ (Sh3 R C).size a := by
  rw [offPeer_eq]; exact offAt_inb R C _

/-- The slot of an array of parts at an offset. -/
abbrev slotAt {sig : RefSig} {κ : Kind} {sp : Space} {e : EltTy} {R C : Nat} (M : Memref sig κ sp (Sh3 R C) e)
    (hs : (Sh1 R C).Squeezes (Sh2 R C)) (off : Fin 3 → Nat) (h : ∀ a, off a + (Sh1 R C).size a ≤ (Sh3 R C).size a) :
    Memref sig κ sp (Sh2 R C) e :=
  (M.slice (Rect.unit (s := Sh3 R C) off (Sh1 R C).size h) (fun _ => rfl)).squeeze (Sh2 R C) hs

end Cert.Exchange
-- ==== Proof.Prog.lean ====
/-
The exchange's body as one program: every device reads its number, starts its copies in the order of a list, and waits on
its cells in the order of a second list.
-/
module

public import proofs.«01_k».proof.Proof.Words

@[expose] public section

namespace Cert.Exchange

open Idealize.ShloMosaic Idealize.SL.Sem

/-- The cells one device waits on, for `n` arrays: a copy's own cell (`inl none`: the local copy's; `inl (some k)`: that the
    part for the device mask `k + 1` names has been sent), or that the part of that device has arrived (`inr k`). -/
abbrev Cell (n : Nat) : Type := Fin n × (Option (Fin 7) ⊕ Fin 7)

/-- A device's copies: an array, and the device itself or a mask. -/
abbrev Copy (n : Nat) : Type := Fin n × Option (Fin 7)

variable {nD : Nat} {τ : Topo} {sig : RefSig} {Val : EltTy → Type} {Λ : Labels} {n : Nat}

/-- The body: the device's number, the copies, the waits. -/
def prog (start : Dev nD → Copy n → TpuEff nD τ sig Val Λ .tc PUnit) (wait : Dev nD → Cell n → TpuEff nD τ sig Val Λ .tc PUnit)
    (ss : List (Copy n)) (ws : List (Cell n)) : Prog (TpuEff nD τ sig Val Λ .tc) PUnit :=
  .op .deviceId fun d => ss.foldr (fun s k => .op (start d s) fun _ => k) (ws.foldr (fun κ k => .op (wait d κ) fun _ => k) (.ret ⟨⟩))

/-- Masks in order. -/
abbrev masks : List (Fin 7) := [0, 1, 2, 3, 4, 5, 6]

/-- The copies in the order in which they are started: array by array, the local one first. -/
abbrev starts (arrs : List (Fin n)) : List (Copy n) :=
  arrs.foldr (fun a l => (a, none) :: masks.foldr (fun k l => (a, some k) :: l) l) []

/-- The cells in the order in which they are waited on: arrivals, then departures, then the local copies. -/
abbrev waits (arrs : List (Fin n)) : List (Cell n) :=
  arrs.foldr (fun a l => masks.foldr (fun k l => (a, .inr k) :: l) l)
    (arrs.foldr (fun a l => masks.foldr (fun k l => (a, .inl (some k)) :: l) l)
      (arrs.foldr (fun a l => (a, .inl none) :: l) []))

end Cert.Exchange
-- ==== Proof.Start.lean ====
/-
# A launch whose first step sees every core at once

The exchange is the first thing that runs, and it needs, before any core starts, what only all cores
together hold: the right to write into a slot of another core's output, and the semaphores of every core
inside shared invariants. `run_from_start` is the launch for that: its one global step is given, for every
core, the boundary (with the scoped semaphores at zero), all unscoped buffers at the launch contents, what
the core owes, the credit it is dealt and its share of the ghost state.
-/
module

public import Idealize.ShloMosaic.Lib.Pipeline.Regions
public import Idealize.ShloMosaic.Lib.Tactic

@[expose] public section

noncomputable section

namespace Cert.Start

open Idealize.ShloMosaic
open Idealize.ShloMosaic.TcCoe
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {Val : EltTy → Type}
variable {Ix : Type} [DecidableEq Ix] {Name : Type} [DecidableEq Name] {U : Type} [URA U] {Lvl : Type}
variable {Λ₀ : Labels} {P : Type} [Fintype P]

local notation "𝕄" => MT nD τ sig Ix Val Name U Lvl

variable (pcs : P → PCfg sig Λ₀ Val) (a : Dev nD → (p : P) → (pcs p).Adm)
  (phinj : Function.Injective (PerCore.cellOf (nD := nD) (pinD pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

/-- The levels of every core's semaphores, assigned once for the machine. -/
theorem levels_assigned (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  have hother : (bigSep Finset.univ fun d : Dev nD => bigSep (Finset.univ.erase Proc.tc) fun p => (coreLevAts ((d, p) : Thread nD τ) L lv : sProp 𝕄)) = BI.emp := by
    refine (bigSep_congr (Ψ := fun _ : Dev nD => (BI.emp : sProp 𝕄)) fun d _ => ?_).trans (BI.bigSep_emp_const _)
    refine (bigSep_congr (Ψ := fun _ : Proc τ => (BI.emp : sProp 𝕄)) fun p hp => ?_).trans (BI.bigSep_emp_const _)
    unfold coreLevAts
    refine (bigSep_congr (Ψ := fun _ : SemLoc sig => (BI.emp : sProp 𝕄)) fun sm _ => ?_).trans (BI.bigSep_emp_const _)
    rw [hL (((d, p) : Thread nD τ), sm) (Finset.ne_of_mem_erase hp), BI.bigSep_empty]
  have hall : (levAts L lv : sProp 𝕄) = bigSep Finset.univ fun c : Thread nD τ => coreLevAts c L lv :=
    bigSep_univ_prod fun g : GSem nD τ sig => bigSep (L g) fun ι => levAt g ι (lv g ι)
  have hsplit : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ (levAts L lv : sProp 𝕄) := by
    rw [hall, bigSep_threads (fun c : Thread nD τ => coreLevAts c L lv), hother, bigSep_sep']
    iintro ⟨-, H⟩
    isplitl [H]; · iexact H
    iempintro
  exact (bigSep_mono fun c _ => lev_assign_cells (c.tc : Thread nD τ) L lv).trans ((BI.bigSep_bupd _ _).trans (BI.bupd_mono hsplit))

include phinj in
/-- A program `main` whose run on core `c` is proved from `T₀ c` (`hrun`), where the `T₀` of all cores are made
    together by `hinit` from all that the launch deals, the boundaries included. Every weakly fair execution ends,
    the scoped counters at zero and the memory as `QY` reads it off what each core holds at its end. -/
theorem run_from_start [DecidableEq P] [Preorder Lvl] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (O₀ : Dev nD → CellTallies nD τ sig Ix) (hL : ∀ g : GSem nD τ sig, g.1.2 ≠ .tc → L g = ∅)
    (G T₀ Tₙ : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ bigSep Finset.univ G))
    (hinit : (bigSep Finset.univ fun c : Dev nD => iprop(boundary (c.tc : Thread nD τ) ∗ unscopedBufs c (fun b => m ((c.tc : Thread nD τ).loc b)) ∗ unscopedSems0 c
          ∗ owes (c.tc : Thread nD τ) (O₀ c) ∅ ∗ launchCred O₀ c ∗ prngReg c (g c) ∗ G c))
      ⊢ |={Set.univ}=> bigSep Finset.univ T₀)
    (hrun : ∀ (c : Dev nD) (K : PUnit → sProp 𝕄),
      iprop((iprop(boundary (c.tc : Thread nD τ) ∗ Tₙ c ∗ ∃ W, owes (c.tc : Thread nD τ) (0 : CellTallies nD τ sig Ix) W) -∗ K ⟨⟩)
          ∗ T₀ c ∗ levAts L lv ∗ PerCore.ghostOn pcs a EP Finset.univ c)
        ⊢ wp frame (wpE (Pipeline.defs pcs defs₀) (Variants.lift 𝒱₀) (c.tc : Thread nD τ) none) Set.univ (main c) K)
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  classical
  let pre : Dev nD → sProp 𝕄 := fun c => iprop(T₀ c ∗ levAts L lv ∗ PerCore.ghostOn pcs a EP Finset.univ c)
  let fin : Dev nD → sProp 𝕄 := fun c => iprop(Tₙ c ∗ boundary (c.tc : Thread nD τ))
  refine (θ_run (Pipeline.defs pcs defs₀) _ _).mono
    (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2))
    (adequate_tpu (Pipeline.defs pcs defs₀) _ _ _
      (reflect_intro_fupd_tc_sems (X := Unit) (Variants.lift 𝒱₀) (owing O₀) 0 (noBookings fun _ => le_rfl) (owing_of_ne O₀) u₀ (fun _ => pre) (fun _ => fin)
        (fun _ => iprop(emp)) Set.univ ?_ (fun _ c => ?_) fun _ => ?_))
  · -- what the launch deals, sorted by kind
    have hdealt : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => iprop(boundary (c.tc : Thread nD τ) ∗ unscopedBufs c (fun b => m ((c.tc : Thread nD τ).loc b)) ∗ unscopedSems0 c
                ∗ owes (c.tc : Thread nD τ) (O₀ c) ∅ ∗ launchCred O₀ c ∗ prngReg c (g c)))
            ∗ (bigSep Finset.univ fun c : Dev nD => levels0 (Ix := Ix) (Val := Val) (Name := Name) (U := U) (Lvl := Lvl) (τ := τ) (sig := sig) c) : sProp 𝕄) := by
      rw [← bigSep_sep']
      refine bigSep_mono fun c _ => (coreInit_boundary_owing O₀ m g c).trans ?_
      iintro ⟨Hb, Hub, Hus, HL, Hlv, Hpr, Hcr⟩
      isplitr [Hlv]
      · isplitl [Hb]; · iexact Hb
        isplitl [Hub]; · iexact Hub
        isplitl [Hus]; · iexact Hus
        isplitl [HL]; · iexact HL
        isplitl [Hcr]; · iexact Hcr
        iexact Hpr
      · iexact Hlv
    have hghost : iprop((bigSep Finset.univ fun c : Dev nD => bigSep Finset.univ fun p => PerCore.cellsGhost (pinD pcs a) EP p c)
          ∗ (bigSep Finset.univ fun c : Dev nD => bigSep Finset.univ fun p => (PerCore.toksInit (pinD pcs a) EP p c : sProp 𝕄)))
        ⊢ bigSep Finset.univ fun c : Dev nD => PerCore.ghostOn pcs a EP Finset.univ c := by
      rw [← bigSep_sep']
      exact bigSep_mono fun c _ => show iprop((bigSep Finset.univ fun p => PerCore.cellsGhost (pinD pcs a) EP p c)
            ∗ bigSep Finset.univ fun p => (PerCore.toksInit (pinD pcs a) EP p c : sProp 𝕄)) ⊢ PerCore.ghostOn pcs a EP Finset.univ c
        from Entails.of_eq (by unfold PerCore.ghostOn; rw [bigSep_sep'])
    have hjoin : iprop((bigSep Finset.univ fun c : Dev nD => iprop(boundary (c.tc : Thread nD τ) ∗ unscopedBufs c (fun b => m ((c.tc : Thread nD τ).loc b)) ∗ unscopedSems0 c
            ∗ owes (c.tc : Thread nD τ) (O₀ c) ∅ ∗ launchCred O₀ c ∗ prngReg c (g c)))
          ∗ bigSep Finset.univ G)
        ⊢ (bigSep Finset.univ fun c : Dev nD => iprop(boundary (c.tc : Thread nD τ) ∗ unscopedBufs c (fun b => m ((c.tc : Thread nD τ).loc b)) ∗ unscopedSems0 c
            ∗ owes (c.tc : Thread nD τ) (O₀ c) ∅ ∗ launchCred O₀ c ∗ prngReg c (g c) ∗ G c) : sProp 𝕄) := by
      rw [← bigSep_sep']
      refine bigSep_mono fun c _ => show iprop(iprop(boundary (c.tc : Thread nD τ) ∗ unscopedBufs c (fun b => m ((c.tc : Thread nD τ).loc b)) ∗ unscopedSems0 c
            ∗ owes (c.tc : Thread nD τ) (O₀ c) ∅ ∗ launchCred O₀ c ∗ prngReg c (g c)) ∗ G c)
          ⊢ iprop(boundary (c.tc : Thread nD τ) ∗ unscopedBufs c (fun b => m ((c.tc : Thread nD τ).loc b)) ∗ unscopedSems0 c
            ∗ owes (c.tc : Thread nD τ) (O₀ c) ∅ ∗ launchCred O₀ c ∗ prngReg c (g c) ∗ G c) from ?_
      iintro ⟨⟨Hb, Hub, Hus, HL, Hcr, Hpr⟩, HG⟩
      isplitl [Hb]; · iexact Hb
      isplitl [Hub]; · iexact Hub
      isplitl [Hus]; · iexact Hus
      isplitl [HL]; · iexact HL
      isplitl [Hcr]; · iexact Hcr
      isplitl [Hpr] <;> iassumption
    iintro ⟨Hcores, Hu⟩
    ihave Hc := hdealt $$ Hcores
    icases Hc with ⟨Hh, Hlv⟩
    imod (levels_assigned (Val := Val) (Name := Name) (U := U) L lv hL) $$ Hlv with #Hla
    imod hu₀ $$ Hu with ⟨HP, HG⟩
    imod (PerCore.fund_ghost (pinD pcs a) EP phinj) $$ HP with ⟨Hg, Ht⟩
    ihave Hj := hjoin $$ [Hh HG]
    · isplitl [Hh] <;> iassumption
    imod hinit $$ Hj with HT
    imodintro
    iexists ()
    isplitr []
    · simp only [pre, bigSep_sep']
      isplitl [HT]; · iexact HT
      isplitr; · iapply (BI.bigSep_intro_persistent (S := Finset.univ) fun (c : Dev nD) _ => (BI.Entails.refl (levAts L lv : sProp 𝕄))); iexact Hla
      iapply hghost
      isplitl [Hg] <;> iassumption
    · iempintro
  · -- one core's run
    simp only [pre]
    refine Entails.trans ?_ (hrun c _)
    iintro H
    isplitr [H]
    · iintro ⟨Hb, HT, HW⟩
      unfold post; simp only [liftTc_tc, fin]
      isplitl [HT Hb]
      · isplitl [HT] <;> iassumption
      iexact HW
    · iexact H
  · -- what is held at the end, read against the final state
    iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Start

end
-- ==== Proof.Exchange.lean ====
/-
One all-to-all exchange among eight devices: every device holds, per array and per destination, a source; it copies the one for
itself and sends the seven others, each into its own slot of the destination's array. One round, no entry handshake: the
slots a device writes on its peers are handed to it when the program starts.
-/
module

public import proofs.«01_k».proof.Proof.Prog
public import proofs.«01_k».proof.Proof.Start
public import Idealize.ShloMosaic.Lib.Pipeline.BigSepL

@[expose] public section

set_option Elab.async false

noncomputable section

namespace Cert.Exchange

open Idealize.ShloMosaic
open TcCoe
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.ProofMode Idealize.SL.Sem
open Idealize.ShloMosaic.Rounds

/-- An exchange of `n` arrays: the sources, the slots, the semaphores, the sizes and the shares. -/
structure Net (sig : RefSig) (n : Nat) where
  /-- the shape of array `a`'s part -/
  S : Fin n → Shape
  /-- the elements' type -/
  e : EltTy
  /-- what device `d` copies for itself (`none`) or sends under a mask -/
  src : (a : Fin n) → Dev 8 → Option (Fin 7) → Memref sig .tc .hbm (S a) e
  /-- the slot device `r`'s part takes -/
  dst : (a : Fin n) → Dev 8 → Memref sig .tc .hbm (S a) e
  src_exact : ∀ a d o, (src a d o).view.WordExact
  dst_exact : ∀ a r, (dst a r).view.WordExact
  dst_sc : ∀ a r, (dst a r).view.ref.isScScratch = false
  /-- the semaphore of a cell -/
  sem : Cell n → DmaSem sig
  sem_inj : Function.Injective sem
  /-- what a copy of array `a` credits -/
  amt : Fin n → ℕ
  dst_amt : ∀ a r, (dst a r).view.dmaCredit = amt a
  src_amt : ∀ a d o, (src a d o).view.dmaCredit = amt a
  amt_pos : ∀ a, 0 < amt a
  /-- the share of a source its copy takes -/
  q : (a : Fin n) → Option (Fin 7) → PosShare TreeShare

namespace Net

variable {sig : RefSig} {n : Nat} (N : Net sig n)
variable {τ : Topo} {Val : EltTy → Type} {Λ : Labels}

/-- Device `d` starts a copy. -/
def start (d : Dev 8) : Copy n → TpuEff 8 τ sig Val Λ .tc PUnit
  | (a, none) => .enqueueDma (N.src a d none) (.here (N.dst a d)) (.dma (N.sem (a, .inl none))) (N.src_exact a d none) (N.dst_exact a d) ⟨Or.inl rfl, trivial⟩
  | (a, some k) => .enqueueDma (N.src a d (some k)) (.remote (Dev.tc (flip k d)) (N.dst a d) (.dma (N.sem (a, .inl (some k)))) (N.dst_sc a d)) (.dma (N.sem (a, .inr k)))
      (N.src_exact a d (some k)) (N.dst_exact a d) ⟨⟨rfl, Or.inl rfl⟩, trivial⟩

/-- Device `d` waits on a cell. -/
def wait (d : Dev 8) : Cell n → TpuEff 8 τ sig Val Λ .tc PUnit
  | (a, .inl none) => .waitDma2 (N.sem (a, .inl none)) (N.src a d none) (N.dst a d) (N.src_exact a d none) (N.dst_exact a d)
  | (a, .inl (some k)) => .waitDma2 (N.sem (a, .inl (some k))) (N.dst a d) (N.src a d (some k)) (N.dst_exact a d) (N.src_exact a d (some k))
  | (a, .inr k) => .waitDma2 (N.sem (a, .inr k)) (N.src a d (some k)) (N.dst a d) (N.src_exact a d (some k)) (N.dst_exact a d)

/-- Device `d`'s cell. -/
def cellOf (x : Dev 8 × Cell n) : GSem 8 τ sig := (Dev.tc x.1, .dma (N.sem x.2))

theorem cellOf_injective : Function.Injective (N.cellOf (τ := τ)) := fun x y h => by
  obtain ⟨h₁, h₂⟩ := Prod.mk.inj h
  have h₃ : x.1 = y.1 := congrArg (fun t : Thread 8 τ => t.1) h₁
  have h₄ : N.sem x.2 = N.sem y.2 := by simpa using h₂
  exact Prod.ext h₃ (N.sem_inj h₄)

/-- The algebra of the proof: the pipeline's rounds, and the exchange's. -/
abbrev U (τ : Topo) (sig : RefSig) : Type := UR sig 8 τ × UR sig 8 τ

/-- What the proof owns. -/
abbrev M (τ : Topo) (sig : RefSig) (Val : EltTy → Type) : Type := MT 8 τ sig Unit Val ℕ (U τ sig) ℕ

local notation "𝕄" => M τ sig Val

/-- The pipeline's ghost state. -/
abbrev EP : Emb (UR sig 8 τ) 𝕄 := embL
/-- The exchange's ghost state. -/
abbrev ER : Emb (UR sig 8 τ) 𝕄 := embR

/-- The sources' contents on the devices. -/
abbrev Ins (Val : EltTy → Type) (τ : Topo) : Type := (a : Fin n) → (d : Dev 8) → (o : Option (Fin 7)) → Buf Val ((N.src a d o).view.loc (τ := τ) (Dev.tc d))
/-- The slots' contents in the end: on device `d` in the slot of `r`. -/
abbrev Outs (Val : EltTy → Type) (τ : Topo) : Type := (a : Fin n) → (d r : Dev 8) → Buf Val ((N.dst a r).view.loc (τ := τ) (Dev.tc d))

/-- The slots hold what was sent to them. -/
def Sent (I : N.Ins Val τ) (O : N.Outs Val τ) : Prop :=
  ∀ a d o, (N.dst a d).view.read Val (O a (tgt d o) d) = (N.src a d o).view.read Val (I a d o)

variable (I : N.Ins Val τ) (O : N.Outs Val τ)

/-- A source, owned at its share. -/
def srcPt (a : Fin n) (d : Dev 8) (o : Option (Fin 7)) : sProp 𝕄 :=
  (N.src a d o).view.loc (Dev.tc d) ↦[(N.src a d o).view.set]{N.q a o} I a d o

/-- A slot on device `d`, owned. -/
def dstPt (a : Fin n) (d r : Dev 8) (f : Buf Val ((N.dst a r).view.loc (τ := τ) (Dev.tc d))) : sProp 𝕄 :=
  (N.dst a r).view.loc (Dev.tc d) ↦[(N.dst a r).view.set]{fullShare} f

/-- What a cell hands its device when its wait ends. -/
def pay (d : Dev 8) : Cell n → sProp 𝕄
  | (a, .inl none) => iprop(N.dstPt a d d (O a d d) ∗ N.srcPt I a d none)
  | (a, .inl (some k)) => N.srcPt I a d (some k)
  | (a, .inr k) => N.dstPt a d (flip k d) (O a d (flip k d))

instance pay_storable (d : Dev 8) (κ : Cell n) : BI.Storable (upEmb : UEmb _ 𝕄) (N.pay I O d κ) := by
  obtain ⟨a, (o | k)⟩ := κ
  · rcases o with _ | k
    · show BI.Storable _ iprop(N.dstPt a d d (O a d d) ∗ N.srcPt I a d none); unfold dstPt srcPt; infer_instance
    · show BI.Storable _ (N.srcPt I a d (some k)); unfold srcPt; infer_instance
  · show BI.Storable _ (N.dstPt a d (flip k d) (O a d (flip k d))); unfold dstPt; infer_instance

open Classical in
/-- The schedule: one round, one duty per cell. -/
def Rd : Schedule (GSem 8 τ sig) Unit 𝕄 where
  duties g r := if r = 0 ∧ ∃ x, N.cellOf x = g then {()} else ∅
  unitless _ := False
  amount g _ _ := if h : ∃ x, N.cellOf x = g then N.amt h.choose.2.1 else 1
  payload g _ _ := if h : ∃ x, N.cellOf x = g then N.pay I O h.choose.1 h.choose.2 else iprop(emp)
  amount_pos g r d _ := by
    split
    · exact N.amt_pos _
    · exact Nat.one_pos

instance Rd_storable (g : GSem 8 τ sig) (r : ℕ) (d : Unit) : BI.Storable (upEmb : UEmb _ 𝕄) ((N.Rd I O).payload g r d) := by
  unfold Rd; dsimp only; split <;> infer_instance

theorem choose_cell (x : Dev 8 × Cell n) (h : ∃ y, N.cellOf y = N.cellOf (τ := τ) x) : h.choose = x := N.cellOf_injective h.choose_spec

theorem duties_cell (x : Dev 8 × Cell n) : (N.Rd I O).duties (N.cellOf x) 0 = {()} := by
  unfold Rd; dsimp only; rw [if_pos ⟨rfl, x, rfl⟩]

theorem duties_later (g : GSem 8 τ sig) (r : ℕ) (h : 0 + 1 ≤ r) : (N.Rd I O).duties g r = ∅ := by
  unfold Rd; dsimp only; rw [if_neg fun h' => by omega]

theorem amount_cell (x : Dev 8 × Cell n) (r : ℕ) (u : Unit) : (N.Rd I O).amount (N.cellOf x) r u = N.amt x.2.1 := by
  have h : ∃ y, N.cellOf y = N.cellOf (τ := τ) x := ⟨x, rfl⟩
  unfold Rd; dsimp only; rw [dif_pos h, N.choose_cell x h]

theorem payload_cell (x : Dev 8 × Cell n) (r : ℕ) (u : Unit) : (N.Rd I O).payload (N.cellOf x) r u = N.pay I O x.1 x.2 := by
  have h : ∃ y, N.cellOf y = N.cellOf (τ := τ) x := ⟨x, rfl⟩
  unfold Rd; dsimp only; rw [dif_pos h, N.choose_cell x h]

theorem mem_duties (x : Dev 8 × Cell n) : () ∈ (N.Rd I O).duties (N.cellOf x) 0 := by rw [duties_cell]; exact Finset.mem_singleton_self _

theorem expect_cell (x : Dev 8 × Cell n) : (N.Rd I O).expect (N.cellOf x) 0 = N.amt x.2.1 := by
  unfold Schedule.expect Schedule.amountOf; rw [duties_cell, Finset.sum_singleton, amount_cell]

/-! ## One device's steps -/

/-- What a copy owes its peer. -/
def tallyOf (d : Dev 8) : Copy n → CellTallies 8 τ sig Unit
  | (_, none) => 0
  | (a, some k) => tallyAt (N.cellOf (flip k d, (a, .inr k))) () (N.amt a)

/-- What a list of copies owes. -/
def owedL (d : Dev 8) : List (Copy n) → CellTallies 8 τ sig Unit
  | [] => 0
  | s :: l => owedL d l + N.tallyOf d s

/-- The record that every cell carries the exchange's invariant, and that its first round is open. -/
def records (K : Dev 8 × Cell n → ℕ) : sProp 𝕄 :=
  bigSep Finset.univ fun x => iprop(cellInv ER (N.Rd I O) (K x) (N.cellOf x) ∗ reached ER (N.cellOf x) 0)

instance records_persistent (K : Dev 8 × Cell n → ℕ) : BI.Persistent (N.records I O K) := by unfold records; infer_instance

theorem records_at (K : Dev 8 × Cell n → ℕ) (x : Dev 8 × Cell n) :
    N.records I O K ⊢ iprop(cellInv ER (N.Rd I O) (K x) (N.cellOf x) ∗ reached ER (N.cellOf x) 0) := BI.bigSep_elim (Finset.mem_univ x)

/-- What a copy needs. -/
def pre (d : Dev 8) : Copy n → sProp 𝕄
  | (a, none) => iprop(N.srcPt I a d none ∗ (∃ f, N.dstPt a d d f) ∗ dutyTok ER (N.cellOf (d, (a, .inl none))) 0 ())
  | (a, some k) => iprop(N.srcPt I a d (some k) ∗ (∃ f, N.dstPt a (flip k d) d f) ∗ dutyTok ER (N.cellOf (d, (a, .inl (some k)))) 0 ()
      ∗ dutyTok ER (N.cellOf (flip k d, (a, .inr k))) 0 ())

/-- What a copy gives: credit on its own cell. -/
def cr (d : Dev 8) (s : Copy n) : sProp 𝕄 := cred (tallyAt (N.cellOf (d, (s.1, .inl s.2))) () (N.amt s.1))

/-- Equal reads are equal contents under the view. -/
theorem eq_on_of_read {κ : Kind} {sp : Space} {s : Shape} {e : EltTy} (v : View sig κ sp s e) {f g : v.ty.Contents Val}
    (h : v.read Val f = v.read Val g) : ∀ i ∈ v.set, f i = g i := fun i hi => by
  obtain ⟨x, rfl⟩ : ∃ x, v.emb x = i := by simpa [View.set] using hi
  have := congrFun h x
  rw [View.read_apply, View.read_apply] at this
  exact (_root_.cast_inj _).mp this

variable {I O} (hval : N.Sent I O)
include hval

/-- A slot rewritten with what is sent to it holds the contents of the end. -/
theorem dst_written (a : Fin n) (d : Dev 8) (o : Option (Fin 7)) (f : Buf Val ((N.dst a d).view.loc (τ := τ) (Dev.tc (tgt d o)))) :
    ((N.dst a d).view.loc (Dev.tc (tgt d o)) ↦[(N.dst a d).view.set]{fullShare}
        ((N.dst a d).view.write Val f ((N.src a d o).view.read Val (I a d o)) Finset.univ) : sProp 𝕄)
      = N.dstPt a (tgt d o) d (O a (tgt d o) d) := by
  unfold dstPt
  exact pointsTo_congr (eq_on_of_read _ ((View.read_write_univ _ _).trans (hval a d o).symm))

section Steps

variable {Λ₀ : Labels} (defs : Defs 8 τ sig Val Λ₀) (𝒱 : Variants)
variable (hroutes : ∀ c c' : Dev 8, τ.routes (Dev.tc c) (Dev.tc c') = true)
variable (K : Dev 8 × Cell n → ℕ) (d : Dev 8)
variable {α : Type}

include hroutes in
/-- A copy is started: it takes what it needs, pays its peer, and gives credit on its own cell. -/
theorem wp_start (s : Copy n) (O₁ : CellTallies 8 τ sig Unit) (W : Waits sig Unit) (k : Prog (TpuEff 8 τ sig Val Λ₀ .tc) α) (Q : α → sProp 𝕄) :
    iprop(N.records I O K ∗ N.pre I d s ∗ owes (Dev.tc d) (O₁ + N.tallyOf d s) W)
      ⊢ iprop((N.cr d s ∗ owes (Dev.tc d) O₁ W -∗ wp frame (wpE (Ix := Unit) (Name := ℕ) (U := U τ sig) (Lvl := ℕ) defs 𝒱 (Dev.tc d) none) Set.univ k Q)
        -∗ wp frame (wpE (Ix := Unit) (Name := ℕ) (U := U τ sig) (Lvl := ℕ) defs 𝒱 (Dev.tc d) none) Set.univ (.op (N.start d s) fun _ => k) Q) := by
  obtain ⟨a, o⟩ := s
  rcases o with _ | j
  · rw [show N.tallyOf (τ := τ) d (a, none) = 0 from rfl, add_zero]
    have hp (f : Buf Val ((N.dst a d).view.loc (τ := τ) (Dev.tc d))) :
        iprop(((N.dst a d).view.loc (Dev.tc d) ↦[(N.dst a d).view.set]{fullShare}
            ((N.dst a d).view.write Val f ((N.src a d none).view.read Val (I a d none)) Finset.univ))
          ∗ ((N.src a d none).view.loc (Dev.tc d) ↦[(N.src a d none).view.set]{N.q a none} I a d none))
          ⊢ (N.Rd I O).payload (N.cellOf (d, (a, .inl none))) 0 () := by
      rw [payload_cell]
      exact sep_mono_left (Entails.of_eq (N.dst_written hval a d none f))
    unfold pre srcPt dstPt
    iintro ⟨#Hr, ⟨Hs, ⟨%f, Hd⟩, Ht⟩, HO⟩ Hk
    ihave #Hc := (N.records_at I O K (d, (a, .inl none))) $$ Hr
    icases Hc with ⟨#Hi, #Hre⟩
    iapply (Rounds.wp_copy_pointsTo 𝒱 ER (N.Rd I O) (Dev.tc d) none (N.mem_duties I O (d, (a, .inl none))) () (N.amt a)
      (N.dst_amt a d) (N.amount_cell I O (d, (a, .inl none)) 0 ()) (q := N.q a none) (fs := I a d none) (fd := f) (κ := K (d, (a, .inl none)))
      (hpay := hp f)) $$ [Hs Hd Ht]
    · isplitr; · iexact Hi
      isplitl [Hs]; · iexact Hs
      isplitl [Hd]; · iexact Hd
      isplitl [Ht]; · iexact Ht
      iexact Hre
    iintro Hcr
    iapply Hk
    unfold cr cellOf
    isplitl [Hcr]; · iexact Hcr
    iexact HO
  · have hp₁ : ((N.src a d (some j)).view.loc (Dev.tc d) ↦[(N.src a d (some j)).view.set]{N.q a (some j)} I a d (some j) : sProp 𝕄)
        ⊢ (N.Rd I O).payload (N.cellOf (d, (a, .inl (some j)))) 0 () := by rw [payload_cell]; exact .rfl
    have hp₂ (f : Buf Val ((N.dst a d).view.loc (τ := τ) (Dev.tc (flip j d)))) :
        ((N.dst a d).view.loc (Dev.tc (flip j d)) ↦[(N.dst a d).view.set]{fullShare}
            ((N.dst a d).view.write Val f ((N.src a d (some j)).view.read Val (I a d (some j))) Finset.univ) : sProp 𝕄)
          ⊢ (N.Rd I O).payload (N.cellOf (flip j d, (a, .inr j))) 0 () := by
      rw [payload_cell]
      refine (Entails.of_eq (N.dst_written hval a d (some j) f)).trans (Entails.of_eq ?_)
      show N.dstPt a (flip j d) d (O a (flip j d) d) = N.dstPt a (flip j d) (flip j (flip j d)) (O a (flip j d) (flip j (flip j d)))
      rw [flip_flip]
    unfold pre srcPt dstPt
    iintro ⟨#Hr, ⟨Hs, ⟨%f, Hd⟩, Ht, Ht'⟩, HO⟩ Hk
    ihave #Hc := (N.records_at I O K (d, (a, .inl (some j)))) $$ Hr
    icases Hc with ⟨#Hi, #Hre⟩
    ihave #Hc' := (N.records_at I O K (flip j d, (a, .inr j))) $$ Hr
    icases Hc' with ⟨#Hi', #Hre'⟩
    iapply (Rounds.wp_send_pointsTo 𝒱 ER (N.Rd I O) (Dev.tc d) none (N.mem_duties I O (d, (a, .inl (some j)))) (N.mem_duties I O (flip j d, (a, .inr j))) () () (N.amt a)
      (N.dst_amt a d) (N.amount_cell I O (d, (a, .inl (some j))) 0 ()) (N.amount_cell I O (flip j d, (a, .inr j)) 0 ())
      (q := N.q a (some j)) (fs := I a d (some j)) (fd := f) (κ₁ := K (d, (a, .inl (some j)))) (κ₂ := K (flip j d, (a, .inr j)))
      O₁ rfl (W := W)
      hp₁ (hp₂ f)
      (hroutes _ _)) $$ [Hs Hd Ht Ht' HO]
    · isplitr; · iexact Hi
      isplitr; · iexact Hi'
      isplitl [Hs]; · iexact Hs
      isplitl [Hd]; · iexact Hd
      isplitl [HO]; · iexact HO
      isplitl [Ht]; · iexact Ht
      isplitr; · iexact Hre
      isplitl [Ht']; · iexact Ht'
      iexact Hre'
    iintro ⟨Hcr, HO⟩
    iapply Hk
    unfold cr cellOf
    isplitl [Hcr]; · iexact Hcr
    iexact HO

include hroutes in
/-- A list of copies. -/
theorem wp_starts (W : Waits sig Unit) (k : Prog (TpuEff 8 τ sig Val Λ₀ .tc) α) (Q : α → sProp 𝕄) : ∀ l : List (Copy n),
    iprop(N.records I O K ∗ BI.bigSepL l (N.pre I d) ∗ owes (Dev.tc d) (N.owedL d l) W)
      ⊢ iprop((BI.bigSepL l (N.cr d) ∗ owes (Dev.tc d) 0 W -∗ wp frame (wpE (Ix := Unit) (Name := ℕ) (U := U τ sig) (Lvl := ℕ) defs 𝒱 (Dev.tc d) none) Set.univ k Q)
        -∗ wp frame (wpE (Ix := Unit) (Name := ℕ) (U := U τ sig) (Lvl := ℕ) defs 𝒱 (Dev.tc d) none) Set.univ (l.foldr (fun s k => .op (N.start d s) fun _ => k) k) Q)
  | [] => by
    iintro ⟨-, Hl, HO⟩ Hk
    iapply Hk
    isplitl [Hl]; · iexact Hl
    iexact HO
  | s :: l => by
    rw [BI.bigSepL_cons', BI.bigSepL_cons']
    iintro ⟨#Hr, ⟨Hs, Hl⟩, HO⟩ Hk
    iapply (N.wp_start hval defs 𝒱 hroutes K d s (N.owedL d l) W _ _) $$ [Hs HO]
    · isplitr; · iexact Hr
      isplitl [Hs]; · iexact Hs
      iexact HO
    iintro ⟨Hcr, HO⟩
    iapply (wp_starts W k Q l) $$ [Hl HO]
    · isplitr; · iexact Hr
      isplitl [Hl]; · iexact Hl
      iexact HO
    iintro ⟨Hcrs, HO⟩
    iapply Hk
    isplitr [HO]
    · isplitl [Hcr]; · iexact Hcr
      iexact Hcrs
    iexact HO

omit hval

/-- What a wait needs: its cell's position, and the credit. -/
def due (κ : Cell n) : sProp 𝕄 := iprop(atPos ER (N.cellOf (d, κ)) 0 ∅ 0 ∗ cred (tallyAt (N.cellOf (d, κ)) () (N.amt κ.1)))

/-- What a wait gives: its semaphore at zero, and its payload. -/
def done (I : N.Ins Val τ) (O : N.Outs Val τ) (d : Dev 8) (κ : Cell n) : sProp 𝕄 := iprop(semVal (N.cellOf (d, κ)) 0 ∗ N.pay I O d κ)

/-- A wait on a cell: its payload, and the cell closed. -/
theorem wp_wait (κ : Cell n) (W : Waits sig Unit) (k : Prog (TpuEff 8 τ sig Val Λ₀ .tc) α) (Q : α → sProp 𝕄) :
    iprop(N.records I O K ∗ N.due d κ ∗ owes (Dev.tc d) 0 W)
      ⊢ iprop((N.done I O d κ ∗ owes (Dev.tc d) 0 (insert (SemLoc.dma (N.sem κ), ()) W) -∗ wp frame (wpE (Ix := Unit) (Name := ℕ) (U := U τ sig) (Lvl := ℕ) defs 𝒱 (Dev.tc d) none) Set.univ k Q)
        -∗ wp frame (wpE (Ix := Unit) (Name := ℕ) (U := U τ sig) (Lvl := ℕ) defs 𝒱 (Dev.tc d) none) Set.univ (.op (N.wait d κ) fun _ => k) Q) := by
  have hw : ∀ Kp : PUnit → sProp 𝕄, wpE defs 𝒱 (Dev.tc d) none Set.univ (N.wait d κ) Kp
      = waitSpec (Dev.tc d) Set.univ (SemLoc.dma (N.sem κ)) (N.amt κ.1) Kp := by
    intro Kp
    obtain ⟨a, (o | j)⟩ := κ
    · rcases o with _ | j
      · rw [← N.dst_amt a d]
        exact wpE_waitDma2_eq 𝒱 (Dev.tc d) none Set.univ (src := N.src a d none) (hsrc := N.src_exact a d none) (hdst := N.dst_exact a d) Kp
      · rw [← N.src_amt a d (some j)]
        exact wpE_waitDma2_eq 𝒱 (Dev.tc d) none Set.univ (src := N.dst a d) (hsrc := N.dst_exact a d) (hdst := N.src_exact a d (some j)) Kp
    · rw [← N.dst_amt a d]
      exact wpE_waitDma2_eq 𝒱 (Dev.tc d) none Set.univ (src := N.src a d (some j)) (hsrc := N.src_exact a d (some j)) (hdst := N.dst_exact a d) Kp
  have he : 0 + N.amt κ.1 = (N.Rd I O).expect (N.cellOf (d, κ)) 0 := (Nat.zero_add _).trans (N.expect_cell I O (d, κ)).symm
  have hp : bigSep ((N.Rd I O).duties (Dev.tc d, SemLoc.dma (N.sem κ)) 0 \ ∅) (fun u => (N.Rd I O).payload (Dev.tc d, SemLoc.dma (N.sem κ)) 0 u) ⊢ N.pay I O d κ :=
    Entails.of_eq (by
      rw [Finset.sdiff_empty]
      exact (congrArg (fun s => bigSep s _) (N.duties_cell I O (d, κ))).trans (BI.bigSep_singleton.trans (N.payload_cell I O (d, κ) 0 ())))
  unfold due done
  iintro ⟨#Hr, ⟨Hat, Hcr⟩, HO⟩ Hk
  ihave #Hc := (N.records_at I O K (d, κ)) $$ Hr
  icases Hc with ⟨#Hi, -⟩
  iapply (Rounds.wp_wait_rest_token 𝒱 ER (N.Rd I O) (Dev.tc d) none (κ := K (d, κ)) hw (Set.mem_univ _) () (O := 0) (W := W) (R := 0) (m := 0) (T := ∅)
    he) $$ [Hat Hcr HO]
  · isplitr; · iexact Hi
    isplitl [Hcr]; · iexact Hcr
    isplitl [HO]; · iexact HO
    isplitr; · rw [MayWait_zero]; iempintro
    iexact Hat
  iintro ⟨HO, Hat, -, Hpay⟩
  imod (Rounds.cell_close ER (N.Rd I O) (Set.mem_univ (K (d, κ))) (fun h => h) (R := 0 + 1) (N.duties_later I O (N.cellOf (d, κ)))) $$ [Hat] with Hv
  · isplitr; · iexact Hi
    iexact Hat
  iapply Hk
  isplitr [HO]
  · isplitl [Hv]; · iexact Hv
    ihave H := hp $$ Hpay
    iexact H
  iexact HO

/-- A list of waits. -/
theorem wp_waits (k : Prog (TpuEff 8 τ sig Val Λ₀ .tc) α) (Q : α → sProp 𝕄) : ∀ (l : List (Cell n)) (W : Waits sig Unit),
    iprop(N.records I O K ∗ BI.bigSepL l (N.due d) ∗ owes (Dev.tc d) 0 W)
      ⊢ iprop((BI.bigSepL l (N.done I O d) ∗ (∃ W, owes (Dev.tc d) 0 W) -∗ wp frame (wpE (Ix := Unit) (Name := ℕ) (U := U τ sig) (Lvl := ℕ) defs 𝒱 (Dev.tc d) none) Set.univ k Q)
        -∗ wp frame (wpE (Ix := Unit) (Name := ℕ) (U := U τ sig) (Lvl := ℕ) defs 𝒱 (Dev.tc d) none) Set.univ (l.foldr (fun κ k => .op (N.wait d κ) fun _ => k) k) Q)
  | [], W => by
    iintro ⟨-, Hl, HO⟩ Hk
    iapply Hk
    isplitl [Hl]; · iexact Hl
    iexists W; iexact HO
  | κ :: l, W => by
    rw [BI.bigSepL_cons', BI.bigSepL_cons']
    iintro ⟨#Hr, ⟨Hs, Hl⟩, HO⟩ Hk
    iapply (N.wp_wait defs 𝒱 K d κ W _ _) $$ [Hs HO]
    · isplitr; · iexact Hr
      isplitl [Hs]; · iexact Hs
      iexact HO
    iintro ⟨Hcr, HO⟩
    iapply (wp_waits k Q l _) $$ [Hl HO]
    · isplitr; · iexact Hr
      isplitl [Hl]; · iexact Hl
      iexact HO
    iintro ⟨Hcrs, HO⟩
    iapply Hk
    isplitr [HO]
    · isplitl [Hcr]; · iexact Hcr
      iexact Hcrs
    iexact HO

end Steps

end Net

end Cert.Exchange
-- ==== Proof.Deal.lean ====
/-
What the launch deals the exchange: every cell's invariant, and to each device the slots it writes on its peers, the tokens of the
cells it pays, and the credit of the cells it waits on. Then one device's body from what it was dealt.
-/
module

public import proofs.«01_k».proof.Proof.Exchange

@[expose] public section

set_option Elab.async false

noncomputable section

namespace Cert.Exchange

open Idealize.ShloMosaic
open TcCoe
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.ProofMode Idealize.SL.Sem
open Idealize.ShloMosaic.Rounds

section Sums

variable {M : Type} [URA M]

/-- Over the options of a finite type: nothing, and the rest. -/
theorem bigSep_opt {α : Type} [Fintype α] (Φ : Option α → sProp M) :
    bigSep Finset.univ Φ = iprop(bigSep Finset.univ (fun a => Φ (some a)) ∗ Φ none) := by
  rw [BI.bigSep_univ_equiv (Equiv.optionEquivSumPUnit.{0, 0} α).symm Φ, BI.bigSep_univ_sum]
  congr 1
  rw [Fintype.univ_punit]
  exact BI.bigSep_singleton

/-- Two finite families of summands change places. -/
theorem bigSep_swap {α β : Type} [Fintype α] [Fintype β] (Φ : α → β → sProp M) :
    (bigSep Finset.univ fun a => bigSep Finset.univ fun b => Φ a b) = bigSep Finset.univ fun b => bigSep Finset.univ fun a => Φ a b := by
  rw [← bigSep_univ_prod (fun x : α × β => Φ x.1 x.2), ← bigSep_univ_prod (fun x : β × α => Φ x.2 x.1)]
  exact BI.bigSep_univ_equiv (Equiv.prodComm β α) fun x : α × β => Φ x.1 x.2

/-- Over the cells of a device: the copies' own, and the arrivals. -/
theorem bigSep_cells {n : Nat} (Φ : Cell n → sProp M) :
    bigSep Finset.univ Φ = iprop(bigSep Finset.univ (fun s : Copy n => Φ (s.1, .inl s.2)) ∗ bigSep Finset.univ (fun s : Fin n × Fin 7 => Φ (s.1, .inr s.2))) := by
  rw [bigSep_univ_prod, bigSep_univ_prod, bigSep_univ_prod, ← bigSep_sep']
  exact bigSep_congr fun a _ => BI.bigSep_univ_sum _

/-- Slots by the device they are on, regrouped by the device that writes them. -/
theorem bigSep_slots {n : Nat} (X : Fin n → Dev 8 → Dev 8 → sProp M) :
    (bigSep Finset.univ fun d => bigSep Finset.univ fun a => bigSep Finset.univ fun r => X a d r)
      = bigSep Finset.univ fun d => bigSep Finset.univ fun s : Copy n => X s.1 (tgt d s.2) d := by
  simp only [bigSep_univ_prod]
  rw [bigSep_swap, bigSep_swap (Φ := fun d a => bigSep Finset.univ fun o => X a (tgt d o) d)]
  refine bigSep_congr fun a _ => ?_
  rw [bigSep_swap]
  exact bigSep_congr fun r _ => BI.bigSep_univ_equiv (Equiv.ofBijective _ (tgt_bijective r)) fun d => X a d r

/-- Turning a device by a mask is its own inverse. -/
def flipEquiv (k : Fin 7) : Dev 8 ≃ Dev 8 := ⟨flip k, flip k, flip_flip k, flip_flip k⟩

/-- Arrivals by the device they are at, regrouped by the device they come from. -/
theorem bigSep_arrivals {n : Nat} (X : Dev 8 → Fin n × Fin 7 → sProp M) :
    (bigSep Finset.univ fun d => bigSep Finset.univ fun s : Fin n × Fin 7 => X d s)
      = bigSep Finset.univ fun d => bigSep Finset.univ fun s : Fin n × Fin 7 => X (flip s.2 d) s := by
  rw [bigSep_swap, bigSep_swap (Φ := fun d s => X (flip s.2 d) s)]
  exact bigSep_congr fun s _ => BI.bigSep_univ_equiv (flipEquiv s.2) fun d => X d s

end Sums

namespace Net

variable {sig : RefSig} {n : Nat} (N : Net sig n)
variable {τ : Topo} {Val : EltTy → Type} {Λ : Labels}

local notation "𝕄" => M τ sig Val

variable (I : N.Ins Val τ) (O : N.Outs Val τ)

/-- The exchange's cells. -/
def cells : Finset (GSem 8 τ sig) := Finset.univ.map ⟨N.cellOf, N.cellOf_injective⟩

/-- The exchange's tokens. -/
def toks : Finset (GSem 8 τ sig × ℕ × Unit) :=
  Finset.univ.map ⟨fun x => (N.cellOf x, 0, ()), fun _ _ h => N.cellOf_injective (Prod.mk.inj h).1⟩

/-- One device's share of the launch's ghost state. -/
def ghost (d : Dev 8) : sProp 𝕄 := bigSep Finset.univ fun κ : Cell n =>
  iprop(roundState ER (N.Rd I O) (N.cellOf (d, κ)) 0 ∗ reached ER (N.cellOf (d, κ)) 0 ∗ atPos ER (N.cellOf (d, κ)) 0 ∅ 0 ∗ dutyTok ER (N.cellOf (d, κ)) 0 ())

/-- The exchange's ghost state, device by device. -/
theorem ghost_of_fund : BI.own ((ER : Emb (UR sig 8 τ) 𝕄) (initOf (N.cells (τ := τ)) N.toks)) ⊢ |==> bigSep Finset.univ (N.ghost I O) := by
  refine (Rounds.fund ER (N.Rd I O) _ _).trans (BI.bupd_mono (show _ ⊢ (_ : sProp 𝕄) from Entails.of_eq ?_))
  unfold cells toks ghost
  rw [BI.bigSep_map, BI.bigSep_map, BI.bigSep_map, BI.bigSep_map, ← bigSep_univ_prod (fun x : Dev 8 × Cell n =>
    iprop(roundState ER (N.Rd I O) (N.cellOf x) 0 ∗ reached ER (N.cellOf x) 0 ∗ atPos ER (N.cellOf x) 0 ∅ 0 ∗ dutyTok ER (N.cellOf x) 0 ()))]
  rw [bigSep_sep', bigSep_sep', bigSep_sep']
  rfl

/-- What a device owes at launch: what its copies owe. -/
def owed (d : Dev 8) : CellTallies 8 τ sig Unit := ∑ s : Copy n, N.tallyOf d s

theorem owed_arrivals (d : Dev 8) : N.owed (τ := τ) d = ∑ s : Fin n × Fin 7, tallyAt (N.cellOf (flip s.2 d, (s.1, .inr s.2))) () (N.amt s.1) := by
  unfold owed
  rw [Fintype.sum_prod_type, Fintype.sum_prod_type]
  refine Finset.sum_congr rfl fun a _ => ?_
  rw [Fintype.sum_option]
  exact zero_add _

/-- What arrives at a device. -/
def arriving (d : Dev 8) : CellTallies 8 τ sig Unit := ∑ s : Fin n × Fin 7, tallyAt (N.cellOf (d, (s.1, .inr s.2))) () (N.amt s.1)

theorem owed_eq_arriving : (∑ d, N.owed (τ := τ) d) = ∑ d, N.arriving d := by
  simp only [owed_arrivals, arriving]
  rw [Finset.sum_comm, Finset.sum_comm (s := (Finset.univ : Finset (Dev 8))) (f := fun d (s : Fin n × Fin 7) => tallyAt (N.cellOf (τ := τ) (d, (s.1, .inr s.2))) () (N.amt s.1))]
  exact Finset.sum_congr rfl fun s _ => Equiv.sum_comp (flipEquiv s.2) fun d => tallyAt (N.cellOf (τ := τ) (d, (s.1, .inr s.2))) () (N.amt s.1)

/-- The launch deals every device the credit of what arrives at it. -/
theorem launchCred_eq (d : Dev 8) : (Pipeline.launchCred (N.owed (τ := τ)) d : sProp 𝕄)
    = bigSep Finset.univ fun s : Fin n × Fin 7 => cred (tallyAt (N.cellOf (d, (s.1, .inr s.2))) () (N.amt s.1)) := by
  rw [Pipeline.launchCred_of_sum _ N.arriving N.owed_eq_arriving ?_ d]
  · unfold arriving; exact Pipeline.cred_finsetSum _ _
  · intro d g hg
    by_contra hne
    refine hg ?_
    unfold arriving
    rw [Finset.sum_apply]
    refine Finset.sum_eq_zero fun s _ => ?_
    unfold tallyAt tallyOn
    exact Pi.single_eq_of_ne (fun h => hne (by rw [h]; rfl)) _

/-- What a copy to a peer needs besides: the token of the peer's cell. -/
def extra (d : Dev 8) : Copy n → sProp 𝕄
  | (_, none) => iprop(emp)
  | (a, some k) => dutyTok ER (N.cellOf (flip k d, (a, .inr k))) 0 ()

/-- What a device is dealt. -/
def dealt (d : Dev 8) : sProp 𝕄 :=
  iprop(∃ K, N.records I O K ∗ bigSep Finset.univ (N.pre I d) ∗ bigSep Finset.univ (fun κ : Cell n => atPos ER (N.cellOf (d, κ)) 0 ∅ 0)
    ∗ bigSep Finset.univ fun s : Fin n × Fin 7 => cred (tallyAt (N.cellOf (d, (s.1, .inr s.2))) () (N.amt s.1)))

/-- What a device brings: its semaphores at zero, its sources and its slots. -/
def brings (d : Dev 8) : sProp 𝕄 :=
  iprop(bigSep Finset.univ (fun κ : Cell n => semVal (N.cellOf (d, κ)) 0) ∗ bigSep Finset.univ (fun s : Copy n => N.srcPt I s.1 d s.2)
    ∗ bigSep Finset.univ fun a : Fin n => bigSep Finset.univ fun r : Dev 8 => iprop(∃ f, N.dstPt a d r f))

theorem pre_intro (d : Dev 8) (s : Copy n) :
    iprop((N.srcPt I s.1 d s.2 ∗ ∃ f, N.dstPt s.1 (tgt d s.2) d f) ∗ dutyTok ER (N.cellOf (d, (s.1, .inl s.2))) 0 () ∗ N.extra d s) ⊢ N.pre I d s := by
  obtain ⟨a, (_ | k)⟩ := s
  · show _ ⊢ iprop(N.srcPt I a d none ∗ (∃ f, N.dstPt a d d f) ∗ dutyTok ER (N.cellOf (d, (a, .inl none))) 0 ())
    iintro ⟨⟨H1, H2⟩, H3, -⟩
    isplitl [H1]; · iexact H1
    isplitl [H2]; · iexact H2
    iexact H3
  · show _ ⊢ iprop(N.srcPt I a d (some k) ∗ (∃ f, N.dstPt a (flip k d) d f) ∗ dutyTok ER (N.cellOf (d, (a, .inl (some k)))) 0 ()
      ∗ dutyTok ER (N.cellOf (flip k d, (a, .inr k))) 0 ())
    iintro ⟨⟨H1, H2⟩, H3, H4⟩
    isplitl [H1]; · iexact H1
    isplitl [H2]; · iexact H2
    isplitl [H3]; · iexact H3
    ihave H := (show N.extra (Val := Val) d (a, some k) ⊢ dutyTok ER (N.cellOf (flip k d, (a, .inr k))) 0 () from .rfl) $$ H4
    iexact H

/-- A device's duty tokens, regrouped by the device that pays. -/
theorem toks_regroup : (bigSep Finset.univ fun d : Dev 8 => bigSep Finset.univ fun κ : Cell n => (dutyTok ER (N.cellOf (d, κ)) 0 () : sProp 𝕄))
    = bigSep Finset.univ fun d : Dev 8 => bigSep Finset.univ fun s : Copy n => iprop(dutyTok ER (N.cellOf (d, (s.1, .inl s.2))) 0 () ∗ N.extra d s) := by
  rw [bigSep_congr (fun d _ => bigSep_cells fun κ => (dutyTok ER (N.cellOf (d, κ)) 0 () : sProp 𝕄)), bigSep_sep', bigSep_arrivals, ← bigSep_sep']
  refine bigSep_congr fun d _ => ?_
  rw [bigSep_sep']
  congr 1
  rw [bigSep_univ_prod, bigSep_univ_prod]
  refine bigSep_congr fun a _ => ?_
  rw [bigSep_opt]
  exact BI.Entails.antisymm (sep_emp (PROP := sProp 𝕄)).2 (sep_emp (PROP := sProp 𝕄)).1

/-- The cells' invariants, from their counters at zero and their round states. -/
theorem records_alloc (R : Dev 8 × Cell n → sProp 𝕄) (hR : R = fun x => iprop(semVal (N.cellOf x) 0 ∗ roundState ER (N.Rd I O) (N.cellOf x) 0 ∗ reached ER (N.cellOf x) 0)) :
    bigSep Finset.univ R ⊢ |={Set.univ}=> ∃ K, N.records I O K := by
  subst hR
  refine (bigSep_mono fun x _ => (show iprop(semVal (N.cellOf x) 0 ∗ roundState ER (N.Rd I O) (N.cellOf x) 0 ∗ reached ER (N.cellOf x) 0)
      ⊢ iprop(|={Set.univ}=> ∃ κ, cellInv ER (N.Rd I O) κ (N.cellOf x) ∗ reached ER (N.cellOf x) 0) from ?_)).trans
    ((BI.bigSep_fupd _ _).trans (BI.fupd_mono ((BI.bigSep_exists_pi _ _).trans .rfl)))
  iintro ⟨Hv, Hs, #Hr⟩
  imod ((Rounds.body_intro ER (N.Rd I O) (N.cellOf x)).trans inv_alloc) $$ [Hv Hs] with ⟨%κ, H⟩
  · isplitl [Hv]; · iexact Hv
    iexact Hs
  imodintro
  iexists κ
  isplitl [H]; · iexact H
  iexact Hr

/-- A persistent fact goes to every summand. -/
theorem spread (S : sProp 𝕄) [BI.Persistent S] {Φ Ψ : Dev 8 → sProp 𝕄} (h : ∀ d, iprop(S ∗ Φ d) ⊢ Ψ d) :
    iprop(S ∗ bigSep Finset.univ Φ) ⊢ bigSep Finset.univ Ψ :=
  (sep_mono_left (BI.bigSep_of_persistent Finset.univ S)).trans (by rw [← bigSep_sep']; exact bigSep_mono fun d _ => h d)

/-- The deal: all devices together bring their semaphores, sources and slots, and each is dealt what its body needs. -/
theorem deal : (bigSep Finset.univ fun d => iprop(N.ghost I O d ∗ N.brings I d ∗ Pipeline.launchCred N.owed d))
    ⊢ |={Set.univ}=> bigSep Finset.univ (N.dealt I O) := by
  have h₁ : (bigSep Finset.univ fun d => iprop(N.ghost I O d ∗ N.brings I d ∗ Pipeline.launchCred N.owed d))
      = iprop(bigSep Finset.univ (fun x : Dev 8 × Cell n => iprop(semVal (N.cellOf x) 0 ∗ roundState ER (N.Rd I O) (N.cellOf x) 0 ∗ reached ER (N.cellOf x) 0))
        ∗ bigSep Finset.univ fun d => iprop(bigSep Finset.univ (fun s : Copy n => iprop((N.srcPt I s.1 d s.2 ∗ ∃ f, N.dstPt s.1 (tgt d s.2) d f)
            ∗ dutyTok ER (N.cellOf (d, (s.1, .inl s.2))) 0 () ∗ N.extra d s)) ∗ bigSep Finset.univ (fun κ : Cell n => atPos ER (N.cellOf (d, κ)) 0 ∅ 0)
            ∗ bigSep Finset.univ fun s : Fin n × Fin 7 => cred (tallyAt (N.cellOf (d, (s.1, .inr s.2))) () (N.amt s.1)))) := by
    simp only [launchCred_eq, ghost, brings, bigSep_sep', bigSep_slots, toks_regroup]
    rw [bigSep_univ_prod, bigSep_univ_prod, bigSep_univ_prod]
    refine BI.Entails.antisymm (show _ ⊢ (_ : sProp 𝕄) from ?_) (show _ ⊢ (_ : sProp 𝕄) from ?_)
    · iintro ⟨⟨H1, H2, H3, H4, H5⟩, ⟨H6, H7, H8⟩, H9⟩
      isplitl [H1 H2 H6]
      · isplitl [H6]; · iexact H6
        isplitl [H1]; · iexact H1
        iexact H2
      isplitr [H3 H9]
      · isplitl [H7 H8]
        · isplitl [H7]; · iexact H7
          iexact H8
        isplitl [H4]; · iexact H4
        iexact H5
      isplitl [H3]; · iexact H3
      iexact H9
    · iintro ⟨⟨H6, H1, H2⟩, ⟨⟨H7, H8⟩, H4, H5⟩, H3, H9⟩
      isplitr [H6 H7 H8 H9]
      · isplitl [H1]; · iexact H1
        isplitl [H2]; · iexact H2
        isplitl [H3]; · iexact H3
        isplitl [H4]; · iexact H4
        iexact H5
      isplitr [H9]
      · isplitl [H6]; · iexact H6
        isplitl [H7]; · iexact H7
        iexact H8
      iexact H9
  rw [h₁]
  iintro ⟨H1, H2⟩
  imod (N.records_alloc I O _ rfl) $$ H1 with ⟨%K, #Hr⟩
  imodintro
  iapply (spread (N.records I O K) (Φ := fun d => iprop(bigSep Finset.univ (fun s : Copy n => iprop((N.srcPt I s.1 d s.2 ∗ ∃ f, N.dstPt s.1 (tgt d s.2) d f)
            ∗ dutyTok ER (N.cellOf (d, (s.1, .inl s.2))) 0 () ∗ N.extra d s)) ∗ bigSep Finset.univ (fun κ : Cell n => atPos ER (N.cellOf (d, κ)) 0 ∅ 0)
            ∗ bigSep Finset.univ fun s : Fin n × Fin 7 => cred (tallyAt (N.cellOf (d, (s.1, .inr s.2))) () (N.amt s.1)))) fun d => ?_) $$ [H2]
  · unfold dealt
    iintro ⟨#Hr, H1, H2⟩
    iexists K
    isplitr; · iexact Hr
    isplitl [H1]
    · ihave H := (show _ ⊢ bigSep Finset.univ (N.pre I d) from bigSep_mono fun s _ => N.pre_intro I d s) $$ H1
      iexact H
    iexact H2
  · isplitr; · iexact Hr
    iexact H2

variable {I O} (hval : N.Sent I O)
variable {Λ₀ : Labels} (defs : Defs 8 τ sig Val Λ₀) (𝒱 : Variants)
variable (hroutes : ∀ c c' : Dev 8, τ.routes (Dev.tc c) (Dev.tc c') = true)

include hval hroutes in
/-- One device's body: from what it was dealt, every semaphore at zero and every payload. -/
theorem wp_body (d : Dev 8) {ss : List (Copy n)} {ws : List (Cell n)} (hss : Finset.univ = ss.toFinset) (hsn : ss.Nodup)
    (hws : Finset.univ = ws.toFinset) (hwn : ws.Nodup) (W : Waits sig Unit) :
    iprop(N.dealt I O d ∗ owes (Dev.tc d) (N.owed d) W)
      ⊢ wp frame (wpE (Ix := Unit) (Name := ℕ) (U := U τ sig) (Lvl := ℕ) defs 𝒱 (Dev.tc d) none) Set.univ (prog N.start N.wait ss ws)
          (fun _ => iprop(bigSep Finset.univ (N.done I O d) ∗ ∃ W, owes (Dev.tc d) 0 W)) := by
  have howed : N.owed (τ := τ) d = N.owedL d ss := by
    unfold owed
    rw [hss, List.sum_toFinset _ hsn]
    clear hss hsn
    induction ss with
    | nil => rfl
    | cons s l ih => rw [List.map_cons, List.sum_cons, ih, add_comm]; rfl
  have hdue : iprop(bigSep Finset.univ (fun κ : Cell n => atPos ER (N.cellOf (d, κ)) 0 ∅ 0) ∗ BI.bigSepL ss (N.cr d)
        ∗ bigSep Finset.univ fun s : Fin n × Fin 7 => cred (tallyAt (N.cellOf (d, (s.1, .inr s.2))) () (N.amt s.1)))
      ⊢ (BI.bigSepL ws (N.due d) : sProp 𝕄) := Entails.of_eq (by
    rw [← BI.bigSep_univ_eq_bigSepL ws hws hwn, ← BI.bigSep_univ_eq_bigSepL ss hss hsn]
    unfold due
    rw [bigSep_sep', bigSep_cells (fun κ : Cell n => cred (tallyAt (N.cellOf (d, κ)) () (N.amt κ.1)))]
    rfl)
  unfold dealt prog
  rw [howed]
  rw [BI.bigSep_univ_eq_bigSepL ss hss hsn (N.pre I d), BI.bigSep_univ_eq_bigSepL ws hws hwn (N.done I O d)]
  iintro ⟨⟨%K, #Hr, Hpre, Hat, Hcr⟩, HO⟩
  simp only [wp_deviceId]
  iapply (N.wp_starts hval defs 𝒱 hroutes K d W _ _ ss) $$ [Hpre HO]
  · isplitr; · iexact Hr
    isplitl [Hpre]; · iexact Hpre
    iexact HO
  iintro ⟨Hcr', HO⟩
  iapply (N.wp_waits defs 𝒱 K d _ _ ws W) $$ [Hat Hcr Hcr' HO]
  · isplitr; · iexact Hr
    isplitr [HO]
    · iapply hdue
      isplitl [Hat]; · iexact Hat
      isplitl [Hcr']; · iexact Hcr'
      iexact Hcr
    iexact HO
  iintro H
  simp only [wp_ret]
  imodintro
  iexact H

end Net

end Cert.Exchange
-- ==== Proof.Parts.lean ====
/-
Arrays of eight parts: the slots are disjoint and cover the array, what a slot reads, and eight shares of one source.
-/
module

public import proofs.«01_k».proof.Proof.Deal

@[expose] public section

set_option Elab.async false

noncomputable section

namespace Cert.Exchange

open Idealize.ShloMosaic
open TcCoe
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.ProofMode Idealize.SL.Sem
open Idealize.ShloMosaic.Rounds

/-- An index of an array of parts. -/
def at3 {R C : Nat} (r : Dev 8) (j : (Sh2 R C).Idx) : (Sh3 R C).Idx := fun a => match a with
  | ⟨0, _⟩ => r
  | ⟨1, _⟩ => j 0
  | ⟨2, _⟩ => j 1

/-- The part an index is in. -/
def partOf {R C : Nat} (i : (Sh3 R C).Idx) : Dev 8 := i 0
/-- Its place in the part. -/
def placeOf {R C : Nat} (i : (Sh3 R C).Idx) : (Sh2 R C).Idx := fun a => match a with
  | ⟨0, _⟩ => i 1
  | ⟨1, _⟩ => i 2

theorem partOf_at3 {R C : Nat} (r : Dev 8) (j : (Sh2 R C).Idx) : partOf (at3 r j) = r := rfl
theorem placeOf_at3 {R C : Nat} (r : Dev 8) (j : (Sh2 R C).Idx) : placeOf (at3 r j) = j := by
  funext a; fin_cases a <;> rfl

variable {sig : RefSig} {sp : Space} {e : EltTy} {R C : Nat}
variable (A : Memref sig .tc sp (Sh3 R C) e) (hs : (Sh1 R C).Squeezes (Sh2 R C))

/-- Part `r` of an array. -/
abbrev part (r : Dev 8) : Memref sig .tc sp (Sh2 R C) e := slotAt A hs (offAt r) (offAt_inb R C r)

/-- The kernel's expressions for the offsets are the parts'. -/
theorem slotAt_mine (d : Dev 8) : slotAt A hs (offMine d) (offMine_inb R C d) = part A hs d := by
  have h : ∀ (off : Fin 3 → Nat) (h : ∀ a, off a + (Sh1 R C).size a ≤ (Sh3 R C).size a), off = offAt d → slotAt A hs off h = part A hs d := by
    intro off h e; subst e; rfl
  exact h _ _ (offMine_eq d)
theorem slotAt_peer (k : Fin 7) (d : Dev 8) : slotAt A hs (offPeer k d) (offPeer_inb R C k d) = part A hs (flip k d) := by
  have h : ∀ (off : Fin 3 → Nat) (h : ∀ a, off a + (Sh1 R C).size a ≤ (Sh3 R C).size a), off = offAt (flip k d) → slotAt A hs off h = part A hs (flip k d) := by
    intro off h e; subst e; rfl
  exact h _ _ (offPeer_eq k d)

/-- The elements of a part. -/
theorem mem_part_set (r : Dev 8) (x : A.view.ty.Idx) : x ∈ (part A hs r).view.set ↔ ∃ i : (Sh3 R C).Idx, partOf i = r ∧ A.view.emb i = x := by
  have h : (part A hs r).view.set = (Rect.unit (s := Sh3 R C) (offAt r) (Sh1 R C).size (offAt_inb R C r)).set.map A.view.emb :=
    (View.set_reshape _ _).trans (View.set_slice _ _)
  rw [h, Finset.mem_map]
  refine ⟨fun ⟨i, hi, hx⟩ => ⟨i, ?_, hx⟩, fun ⟨i, hi, hx⟩ => ⟨i, ?_, hx⟩⟩
  · have := Rect.mem_set_unit.mp hi 0
    apply Fin.ext
    simp [offAt] at this
    show (i 0).val = r.val
    omega
  · refine Rect.mem_set_unit.mpr fun a => ?_
    have hr : (i 0).val = r.val := congrArg Fin.val hi
    have h1 := (i 1).isLt
    have h2 := (i 2).isLt
    fin_cases a
    · simp [offAt]; omega
    · simpa [offAt] using h1
    · simpa [offAt] using h2

/-- What part `r` reads. -/
theorem read_part {Val : EltTy → Type} (r : Dev 8) (f : A.view.ty.Contents Val) (j : (Sh2 R C).Idx) :
    (part A hs r).view.read Val f j = A.view.read Val f (at3 r j) := by
  have h : (Rect.unit (s := Sh3 R C) (offAt r) (Sh1 R C).size (offAt_inb R C r)).emb (Shape.reshapeEquiv hs.numel_eq j) = at3 r j := by
    rw [show Shape.reshapeEquiv hs.numel_eq j = Fin.cons (⟨0, Nat.one_pos⟩ : Fin 1) j from Shape.reshapeEquiv_cons_one _ j]
    funext a
    apply Fin.ext
    rw [Rect.emb_apply]
    fin_cases a
    · show (offAt r 0) + 1 * 0 = r.val
      simp [offAt]
    · show 0 + 1 * (j 0).val = (j 0).val
      omega
    · show 0 + 1 * (j 1).val = (j 1).val
      omega
  rw [← h]
  rfl

variable {nD : Nat} {τ : Topo} {Val : EltTy → Type} {Ix : Type} [DecidableEq Ix] {Name : Type} [DecidableEq Name] {U : Type} [URA U] {Lvl : Type}

local notation "𝕄" => MT nD τ sig Ix Val Name U Lvl

/-- An array held whole is its parts held. -/
theorem pt_parts (hw : A.view.set = Finset.univ) (c : Dev nD) (q : PosShare TreeShare) (f : Buf Val (A.view.loc (c.tc : Thread nD τ))) :
    (A.view.loc (c.tc : Thread nD τ) ↦{q} f : sProp 𝕄)
      = bigSep Finset.univ fun r : Dev 8 => (part A hs r).view.loc (c.tc : Thread nD τ) ↦[(part A hs r).view.set]{q} f := by
  classical
  have hu : (Finset.univ : Finset (Idx (A.view.loc (c.tc : Thread nD τ)))) = Finset.univ.biUnion fun r : Dev 8 => (part A hs r).view.set := by
    ext x
    simp only [Finset.mem_univ, Finset.mem_biUnion, true_and, true_iff]
    have hx : x ∈ A.view.set := by rw [hw]; exact Finset.mem_univ _
    obtain ⟨i, -, hi⟩ := Finset.mem_map.mp hx
    exact ⟨partOf i, (mem_part_set A hs _ x).mpr ⟨i, rfl, hi⟩⟩
  have hd : ∀ r ∈ (Finset.univ : Finset (Dev 8)), ∀ r' ∈ (Finset.univ : Finset (Dev 8)), r ≠ r' → Disjoint (part A hs r).view.set (part A hs r').view.set := by
    intro r _ r' _ hne
    refine Finset.disjoint_left.mpr fun x hx hx' => hne ?_
    obtain ⟨i, rfl, hi⟩ := (mem_part_set A hs r x).mp hx
    obtain ⟨i', rfl, hi'⟩ := (mem_part_set A hs r' x).mp hx'
    rw [A.view.emb.injective (hi.trans hi'.symm)]
  rw [show (A.view.loc (c.tc : Thread nD τ) ↦{q} f : sProp 𝕄) = A.view.loc (c.tc : Thread nD τ) ↦[Finset.univ]{q} f from rfl, hu]
  exact pointsTo_biUnion Finset.univ _ hd

/-- Shares halved again and again: what is left after `k` times. -/
def rest : ℕ → PosShare TreeShare
  | 0 => fullShare
  | k + 1 => (rest k).right

/-- The share of the copy under a mask, and of the local one. -/
def piece : Option (Fin 7) → PosShare TreeShare
  | none => rest 7
  | some k => (rest k.val).left

/-- What is held whole is held in eight pieces. -/
theorem pt_pieces (ℓ : Loc nD τ sig) (S : Finset (Idx ℓ)) (f : Buf Val ℓ) :
    (ℓ ↦[S]{fullShare} f : sProp 𝕄) = bigSep Finset.univ fun o : Option (Fin 7) => ℓ ↦[S]{piece o} f := by
  have hstep : ∀ k, (ℓ ↦[S]{rest k} f : sProp 𝕄) = iprop((ℓ ↦[S]{(rest k).left} f) ∗ ℓ ↦[S]{rest (k + 1)} f) := fun k => by
    have h := pointsTo_share (Ix := Ix) (Name := Name) (U := U) (Lvl := Lvl) (ℓ := ℓ) (I := S) (f := f) (PosShare.mem_left_op_right (rest k))
    exact BI.Entails.antisymm h.1 h.2
  have hn : ∀ n, (ℓ ↦[S]{fullShare} f : sProp 𝕄) = iprop(bigSep Finset.univ (fun k : Fin n => ℓ ↦[S]{(rest k.val).left} f) ∗ ℓ ↦[S]{rest n} f) := by
    intro n
    induction n with
    | zero =>
      rw [Finset.univ_eq_empty, BI.bigSep_empty]
      exact BI.Entails.antisymm BI.emp_sep.2 BI.emp_sep.1
    | succ n ih =>
      rw [ih, BI.bigSep_univ_equiv (finSumFinEquiv (m := n) (n := 1)) (fun k : Fin (n + 1) => (ℓ ↦[S]{(rest k.val).left} f : sProp 𝕄)), BI.bigSep_univ_sum, hstep n]
      have h1 : (bigSep Finset.univ fun b : Fin 1 => (ℓ ↦[S]{(rest (finSumFinEquiv (Sum.inr b : Fin n ⊕ Fin 1)).val).left} f : sProp 𝕄)) = ℓ ↦[S]{(rest n).left} f := by
        rw [Finset.univ_unique]
        exact BI.bigSep_singleton
      rw [h1]
      exact BI.Entails.antisymm BI.sep_assoc' BI.sep_assoc
  rw [bigSep_opt]
  exact hn 7

end Cert.Exchange

end
-- ==== Proof.Run.lean ====
/-
A program whose first step is an exchange: from the launch to the end. The exchange's slots and semaphores are dealt when the
program starts; its region has no windows; what follows it is any continuation.
-/
module

public import proofs.«01_k».proof.Proof.Deal

@[expose] public section

set_option Elab.async false

noncomputable section

namespace Cert.Exchange

open Idealize.ShloMosaic
open TcCoe
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.ProofMode Idealize.SL.Sem
open Idealize.ShloMosaic.Rounds
open Idealize.ShloMosaic.Pipeline

namespace Net

variable {sig : RefSig} {n : Nat} (N : Net sig n)
variable {τ : Topo} {Val : EltTy → Type}

local notation "𝕄" => M τ sig Val

variable (I : N.Ins Val τ) (O : N.Outs Val τ)

/-- What a device holds when its waits have ended: its sources, and its slots with the parts in them. -/
def ends (d : Dev 8) : sProp 𝕄 :=
  iprop(bigSep Finset.univ (fun s : Copy n => N.srcPt I s.1 d s.2)
    ∗ bigSep Finset.univ fun a : Fin n => bigSep Finset.univ fun r : Dev 8 => N.dstPt a d r (O a d r))

/-- The payloads of a device's cells are its sources and its slots. -/
theorem pay_ends (d : Dev 8) : bigSep Finset.univ (N.pay I O d) = N.ends I O d := by
  have hslots : ∀ a : Fin n, (bigSep Finset.univ fun r : Dev 8 => N.dstPt a d r (O a d r))
      = iprop(bigSep Finset.univ (fun k : Fin 7 => N.dstPt a d (flip k d) (O a d (flip k d))) ∗ N.dstPt a d d (O a d d)) := fun a => by
    rw [BI.bigSep_univ_equiv (Equiv.ofBijective _ (tgt_bijective d)) fun r => N.dstPt a d r (O a d r), bigSep_opt]
    rfl
  have hcopies : ∀ Φ : Copy n → sProp 𝕄, bigSep Finset.univ Φ
      = iprop(bigSep Finset.univ (fun a : Fin n => bigSep Finset.univ fun k : Fin 7 => Φ (a, some k)) ∗ bigSep Finset.univ fun a : Fin n => Φ (a, none)) := fun Φ => by
    rw [bigSep_univ_prod, ← bigSep_sep']
    exact bigSep_congr fun a _ => bigSep_opt _
  unfold ends
  rw [bigSep_cells, hcopies, hcopies (fun s => N.srcPt I s.1 d s.2)]
  simp only [hslots, bigSep_sep', bigSep_univ_prod (fun s : Fin n × Fin 7 => N.pay I O d (s.1, .inr s.2))]
  show iprop((bigSep Finset.univ (fun a : Fin n => bigSep Finset.univ fun k : Fin 7 => N.srcPt I a d (some k))
      ∗ bigSep Finset.univ fun a : Fin n => iprop(N.dstPt a d d (O a d d) ∗ N.srcPt I a d none))
      ∗ bigSep Finset.univ (fun a : Fin n => bigSep Finset.univ fun k : Fin 7 => N.dstPt a d (flip k d) (O a d (flip k d)))) = _
  rw [bigSep_sep']
  refine BI.Entails.antisymm ?_ ?_
  · show _ ⊢ (_ : sProp 𝕄)
    iintro ⟨⟨H1, H2, H3⟩, H4⟩
    isplitl [H1 H3]
    · isplitl [H1] <;> iassumption
    isplitl [H4] <;> iassumption
  · show _ ⊢ (_ : sProp 𝕄)
    iintro ⟨⟨H1, H3⟩, H4, H2⟩
    isplitl [H1 H2 H3]
    · isplitl [H1]; · iexact H1
      isplitl [H2] <;> iassumption
    iexact H4

variable {Λ₀ : Labels} {P : Type} [Fintype P] [DecidableEq P]
variable (pcs : P → PCfg sig Λ₀ Val) (a : Dev 8 → (p : P) → (pcs p).Adm)
  (phinj : Function.Injective (PerCore.cellOf (nD := 8) (τ := τ) (pinD pcs a)))
  (defs₀ : Defs 8 τ sig Val Λ₀) (𝒱₀ : Variants) (p : P)

/-- The levels: one per semaphore of the TensorCores. -/
abbrev L (g : GSem 8 τ sig) : Finset Unit := if g.1.2 = .tc then {()} else ∅

/-- All levels are zero. -/
abbrev lv (_ : GSem 8 τ sig) (_ : Unit) : ℕ := 0

/-- The exchange's semaphores on a device, as the launch names them. -/
abbrev osem (κ : Cell n) : SemLoc sig := .dma (N.sem κ)

/-- The region's body is the exchange: it runs if the exchange does. -/
def BodyIs (ss : List (Copy n)) (ws : List (Cell n)) : Prop :=
  ∀ (c : Dev 8) (t : Fin (pinD pcs a c p).N) (Φ : sProp 𝕄),
    wp frame (wpE (Ix := Unit) (Name := ℕ) (U := U τ sig) (Lvl := ℕ) defs₀ 𝒱₀ (Dev.tc c) none) Set.univ (prog N.start N.wait ss ws) (fun _ => Φ)
      ⊢ wp frame (wpE (Ix := Unit) (Name := ℕ) (U := U τ sig) (Lvl := ℕ) defs₀ 𝒱₀ (Dev.tc c) none) Set.univ
        (defs₀ .tc (pinD pcs a c p).body ((pinD pcs a c p).bodyArgs t ((pinD pcs a c p).slots t))) (fun _ => Φ)

variable (pdats : (p : P) → (c : Dev 8) → Dat τ Val Unit ℕ (U τ sig) ℕ (pinD pcs a c p) c)

/-- What the region of an exchange without windows is: one point, before which the device holds what it was dealt and after
    which its semaphores are at zero and it holds the ends. -/
structure Region : Prop where
  noWin : ∀ c, IsEmpty (Fin (pinD pcs a c p).W)
  one : ∀ c, (pinD pcs a c p).N = 1
  noPre : IsEmpty (Fin (pcs p).pre.K)
  before : ∀ c, (pdats p c).Φ 0 = iprop(N.dealt I O c ∗ scopedBufs (c.tc : Thread 8 τ))
  after : ∀ c, (pdats p c).Φ (Fin.last _) = iprop(bigSep Finset.univ (N.done I O c) ∗ scopedBufs (c.tc : Thread 8 τ))
  owes₀ : ∀ c, (pdats p c).owed 0 = N.owed c
  owes₁ : ∀ c, (pdats p c).owed (Fin.last _) = 0
  bound : ∀ c t, (pdats p c).recorded t = Set.univ

variable {N I O pcs a defs₀ p pdats}

/-- A region without windows has no windows' facts to give. -/
theorem Region.winFacts (h : Region N I O pcs a p pdats) (c : Dev 8) : WinFacts₀ (pinD pcs a c p).spec :=
  have := h.noWin c
  ⟨fun w => isEmptyElim w, fun k => isEmptyElim k.1, fun k => isEmptyElim k.1, fun w => isEmptyElim w⟩

/-- The exchange's semaphores are scoped, distinct, and no window's. -/
theorem Region.semFacts (h : Region N I O pcs a p pdats) (hsc : ∀ κ, (N.osem κ).isScoped .tc = true) (c : Dev 8) :
    OwnSemFacts (pinD pcs a c p).spec N.osem :=
  have := h.noWin c
  ⟨hsc, fun κ κ' e => N.sem_inj (by simpa [osem] using e), fun _ w => isEmptyElim w⟩

variable (hroutes : ∀ c c' : Dev 8, τ.routes (Dev.tc c) (Dev.tc c') = true) (hval : N.Sent I O)
  {ss : List (Copy n)} {ws : List (Cell n)} (hss : Finset.univ = ss.toFinset) (hsn : ss.Nodup) (hws : Finset.univ = ws.toFinset) (hwn : ws.Nodup)
  (hbody : N.BodyIs pcs a defs₀ 𝒱₀ p ss ws)

include hroutes hval hss hsn hws hwn hbody in
/-- The region's body runs: from what the device was dealt to the ends. -/
theorem Region.body (h : Region N I O pcs a p pdats) (c : Dev 8) :
    BodyObligationLoose (pdats p c) defs₀ 𝒱₀ () Set.univ := by
  intro t
  have := h.noWin c
  have h0 : t.castSucc = 0 := by have := h.one c; have := t.isLt; ext; simp; omega
  have h1 : t.succ = Fin.last _ := by have := h.one c; have := t.isLt; ext; simp; omega
  refine BI.Entails.trans ?_ (hbody c t _)
  rw [h0, h1, h.before c, h.after c, Finset.univ_eq_empty (α := Fin (pinD pcs a c p).W), BI.bigSep_empty, BI.bigSep_empty]
  unfold Dat.owesAt owesWithin
  rw [h.owes₀ c, h.owes₁ c]
  show _ ⊢ (_ : sProp 𝕄)
  iintro ⟨⟨HD, Hsc⟩, ⟨%W, -, HO⟩, -⟩
  iapply (wp_wand_r Idealize.ShloMosaic.frame _ Set.univ (Q := fun _ : PUnit => iprop(bigSep Finset.univ (N.done I O c) ∗ ∃ W, owes (Dev.tc c) 0 W)))
  isplitl [HD HO]
  · iapply (N.wp_body hval defs₀ 𝒱₀ hroutes c hss hsn hws hwn W)
    isplitl [HD] <;> iassumption
  iintro %_ ⟨HD, ⟨%W', HO⟩⟩
  isplitl [HD Hsc]
  · isplitl [HD] <;> iassumption
  isplitl [HO]
  · iexists W'
    isplitr
    · ipureintro
      unfold Dat.bound
      rw [h.bound c]
      exact fun _ _ => Or.inl trivial
    iexact HO
  iempintro

variable [∀ e, Nonempty (Val e)]

include phinj hroutes hval hss hsn hws hwn hbody in
/-- A program that begins with the exchange (`hmain`): its unscoped buffers give the sources, the slots at any contents and the
    rest (`hsplit`); what follows runs from the ends and the rest (`htail`); the memory at the end is read off what that leaves (`hfin`). -/
theorem Region.run (h : Region N I O pcs a p pdats) (hsc : ∀ κ, (N.osem κ).isScoped .tc = true)
    (m : (ℓ : Loc 8 τ sig) → Buf Val ℓ) (g : Dev 8 → PrngReg)
    (Rest Tₙ : Dev 8 → sProp 𝕄)
    (hsplit : ∀ c : Dev 8, (unscopedBufs c (fun b => m ((c.tc : Thread 8 τ).loc b)) : sProp 𝕄)
      ⊢ iprop((bigSep Finset.univ fun s : Copy n => N.srcPt I s.1 c s.2)
        ∗ (bigSep Finset.univ fun i : Fin n => bigSep Finset.univ fun r : Dev 8 => iprop(∃ f, N.dstPt i c r f)) ∗ Rest c))
    (main : Dev 8 → Prog (TpuEff 8 τ sig Val (Sig Λ₀ P fun p => (pcs p).Adm) .tc) PUnit)
    (k : Dev 8 → PUnit → Prog (TpuEff 8 τ sig Val (Sig Λ₀ P fun p => (pcs p).Adm) .tc) PUnit)
    (hmain : ∀ c, main c = .op (.customCall (entry p) ()) (k c))
    (htail : ∀ (c : Dev 8) (K : PUnit → sProp 𝕄),
      iprop((iprop(boundary (c.tc : Thread 8 τ) ∗ Tₙ c ∗ ∃ W, owes (c.tc : Thread 8 τ) (0 : CellTallies 8 τ sig Unit) W) -∗ K ⟨⟩)
          ∗ boundary (c.tc : Thread 8 τ) ∗ N.ends I O c ∗ Rest c ∗ (∃ W, owes (c.tc : Thread 8 τ) (0 : CellTallies 8 τ sig Unit) W)
          ∗ levAts L lv ∗ PerCore.ghostOn pcs a (EP : Emb (UR sig 8 τ) 𝕄) (Finset.univ.erase p) c)
        ⊢ wp frame (wpE (Pipeline.defs pcs defs₀) (Variants.lift 𝒱₀) (c.tc : Thread 8 τ) none) Set.univ (k c ⟨⟩) K)
    (QY : Dev 8 → MemSt 8 τ sig Val → Prop)
    (hfin : ∀ c (s' : Phys 8 τ sig Val), iprop(Tₙ c ∗ SI s') ⊢ |={Set.univ}=> iprop(⌜QY c s'.mem⌝ ∗ SI s'))
    {Q : PUnit × MemSt 8 τ sig Val → Prop} (hQ : ∀ s : MemSt 8 τ sig Val, (∀ c : Dev 8, QY c s) →
      (∀ g' : GSem 8 τ sig, (g'.1.2 ≠ .tc ∨ g'.2.isScoped .tc = true) → s.sem g' = 0) → Q (⟨⟩, s)) :
    θ_run (Pipeline.defs pcs defs₀) (onTc main) ⟨m, fun _ => 0, g⟩ Q := by
  have ho := h.semFacts hsc
  have hw := h.winFacts
  have hss0 := fun c : Dev 8 => PerCore.scopedSems0_split (pinD pcs a) phinj p hw ho (Ix := Unit) (Val := Val) (Name := ℕ) (U := U τ sig) (Lvl := ℕ) c
  let idle : Dev 8 → sProp 𝕄 := fun c => PerCore.idleSems0 (pinD pcs a) phinj p ho c
  refine Cert.Start.run_from_start pcs a phinj (EP : Emb (UR sig 8 τ) 𝕄) defs₀ 𝒱₀ L lv m g main N.owed
    (fun g hg => if_neg hg) (N.ghost I O)
    (fun c => iprop(scopedBufs (c.tc : Thread 8 τ) ∗ PerCore.cellsSems0 (pinD pcs a) p c ∗ idle c ∗ opIdle (c.tc : Thread 8 τ)
      ∗ owes (c.tc : Thread 8 τ) (N.owed c) ∅ ∗ N.dealt I O c ∗ Rest c))
    Tₙ (initOf (PerCore.cells (pinD pcs a) phinj) (PerCore.launchToks (pinD pcs a) phinj), initOf N.cells N.toks) ?_ ?_ ?_ QY hfin hQ
  · -- the ghost state
    iintro Hu
    ihave H := (ownU_pair _ _) $$ Hu
    icases H with ⟨HP, HX⟩
    imod (N.ghost_of_fund I O) $$ HX with HG
    imodintro
    isplitl [HP] <;> iassumption
  · -- the deal
    have hcore : ∀ c : Dev 8, iprop(boundary (c.tc : Thread 8 τ) ∗ unscopedBufs c (fun b => m ((c.tc : Thread 8 τ).loc b)) ∗ unscopedSems0 c
          ∗ owes (c.tc : Thread 8 τ) (N.owed c) ∅ ∗ launchCred N.owed c ∗ prngReg c (g c) ∗ N.ghost I O c)
        ⊢ (iprop((N.ghost I O c ∗ N.brings I c ∗ launchCred N.owed c)
          ∗ scopedBufs (c.tc : Thread 8 τ) ∗ PerCore.cellsSems0 (pinD pcs a) p c ∗ idle c ∗ opIdle (c.tc : Thread 8 τ)
            ∗ owes (c.tc : Thread 8 τ) (N.owed c) ∅ ∗ Rest c) : sProp 𝕄) := fun c => by
      have hb : (boundary (c.tc : Thread 8 τ) : sProp 𝕄) ⊢ iprop(scopedBufs (c.tc : Thread 8 τ)
          ∗ ((PerCore.cellsSems0 (pinD pcs a) p c ∗ ownSems0 N.osem c) ∗ idle c) ∗ opIdle (c.tc : Thread 8 τ)) := by
        rw [← hss0 c]; exact BI.Entails.refl _
      iintro ⟨Hb, Hub, -, HL, Hcr, -, HG⟩
      ihave Hb := hb $$ Hb
      icases Hb with ⟨Hsb, ⟨⟨Hcs, Hos⟩, Hid⟩, Hop⟩
      ihave Hub := (hsplit c) $$ Hub
      icases Hub with ⟨Hsrc, Hdst, Hrest⟩
      isplitl [HG Hos Hsrc Hdst Hcr]
      · isplitl [HG]; · iexact HG
        isplitr [Hcr]
        · unfold brings
          unfold ownSems0
          isplitl [Hos]; · iexact Hos
          isplitl [Hsrc] <;> iassumption
        iexact Hcr
      isplitl [Hsb]; · iexact Hsb
      isplitl [Hcs]; · iexact Hcs
      isplitl [Hid]; · iexact Hid
      isplitl [Hop]; · iexact Hop
      isplitl [HL] <;> iassumption
    refine (bigSep_mono fun c _ => hcore c).trans ?_
    rw [bigSep_sep']
    show _ ⊢ (_ : sProp 𝕄)
    iintro ⟨H1, H2⟩
    imod (N.deal I O) $$ H1 with H1
    imodintro
    have hjoin : iprop(bigSep Finset.univ (N.dealt I O) ∗ bigSep Finset.univ fun c : Dev 8 =>
          iprop(scopedBufs (c.tc : Thread 8 τ) ∗ PerCore.cellsSems0 (pinD pcs a) p c ∗ idle c ∗ opIdle (c.tc : Thread 8 τ)
            ∗ owes (c.tc : Thread 8 τ) (N.owed c) ∅ ∗ Rest c))
        ⊢ (bigSep Finset.univ fun c : Dev 8 => iprop(scopedBufs (c.tc : Thread 8 τ) ∗ PerCore.cellsSems0 (pinD pcs a) p c ∗ idle c ∗ opIdle (c.tc : Thread 8 τ)
      ∗ owes (c.tc : Thread 8 τ) (N.owed c) ∅ ∗ N.dealt I O c ∗ Rest c) : sProp 𝕄) := by
      rw [← bigSep_sep']
      refine bigSep_mono fun c _ => (show iprop(N.dealt I O c ∗ scopedBufs (c.tc : Thread 8 τ) ∗ PerCore.cellsSems0 (pinD pcs a) p c ∗ idle c
            ∗ opIdle (c.tc : Thread 8 τ) ∗ owes (c.tc : Thread 8 τ) (N.owed c) ∅ ∗ Rest c)
          ⊢ (iprop(scopedBufs (c.tc : Thread 8 τ) ∗ PerCore.cellsSems0 (pinD pcs a) p c ∗ idle c ∗ opIdle (c.tc : Thread 8 τ)
      ∗ owes (c.tc : Thread 8 τ) (N.owed c) ∅ ∗ N.dealt I O c ∗ Rest c) : sProp 𝕄) from ?_)
      iintro ⟨HD, H1, H2, H3, H4, H5, H6⟩
      isplitl [H1]; · iexact H1
      isplitl [H2]; · iexact H2
      isplitl [H3]; · iexact H3
      isplitl [H4]; · iexact H4
      isplitl [H5]; · iexact H5
      isplitl [HD] <;> iassumption
    iapply hjoin
    isplitl [H1] <;> iassumption
  · -- one device
    intro c K
    have hnw := h.noWin c
    have hnp := h.noPre
    rw [hmain c]
    have hout : iprop((pdats p c).Φ (Fin.last (pinD pcs a c p).N) ∗ PerCore.cellsSems0 (pinD pcs a) p c ∗ Dat.staging (pinD pcs a c p) c ∗ idle c)
        ⊢ iprop(N.ends I O c ∗ scopedSems0 (c.tc : Thread 8 τ) ∗ scopedBufs (c.tc : Thread 8 τ)) := by
      have hd : bigSep Finset.univ (N.done I O c) = (iprop(ownSems0 N.osem c ∗ N.ends I O c) : sProp 𝕄) := by
        unfold done
        rw [bigSep_sep', pay_ends]
        rfl
      rw [h.after c, hd, hss0 c]
      iintro ⟨⟨⟨Hos, He⟩, Hsb⟩, Hcs, -, Hid⟩
      isplitl [He]; · iexact He
      isplitr [Hsb]
      · isplitl [Hcs Hos]
        · isplitl [Hcs] <;> iassumption
        iexact Hid
      iexact Hsb
    have hbufs : (scopedBufs (c.tc : Thread 8 τ) : sProp 𝕄) ⊢ iprop(Dat.staging (pinD pcs a c p) c ∗ scopedBufs (c.tc : Thread 8 τ)) := by
      unfold Dat.staging
      rw [Finset.univ_eq_empty (α := Fin (pinD pcs a c p).W), BI.bigSep_empty]
      iintro H
      isplitr; · iempintro
      iexact H
    have hin : iprop(N.dealt I O c ∗ prefHeld (pcs p).pre c (fun _ => fullShare) (a c p).1 ∗ scopedBufs (c.tc : Thread 8 τ)) ⊢ (pdats p c).Φ 0 := by
      rw [h.before c]
      iintro ⟨H1, -, H2⟩
      isplitl [H1] <;> iassumption
    have hghost : (PerCore.ghostOn pcs a (EP : Emb (UR sig 8 τ) 𝕄) Finset.univ c : sProp 𝕄)
        ⊢ iprop((PerCore.cellsGhost (pinD pcs a) EP p c ∗ PerCore.toksInit (pinD pcs a) EP p c) ∗ PerCore.ghostOn pcs a EP (Finset.univ.erase p) c) :=
      Entails.of_eq (PerCore.ghostOn_erase pcs a EP (Finset.mem_univ p) c)
    have hexit : iprop(scopedBufs (c.tc : Thread 8 τ) ∗ scopedSems0 (c.tc : Thread 8 τ) ∗ opIdle (c.tc : Thread 8 τ)) ⊢ (boundary (c.tc : Thread 8 τ) : sProp 𝕄) := BI.Entails.refl _
    have hpre : iprop(owes (c.tc : Thread 8 τ) (N.owed c) ∅) ⊢ (iprop((pdats p c).arrays ((pdats p c).arrAt · 0) ∗ (pdats p c).owesAt () 0
        ∗ PerCore.cellsWaits (pinD pcs a) pdats () p c ∗ prefHeld (pcs p).pre c (fun _ => fullShare) (a c p).1) : sProp 𝕄) := by
      unfold Dat.arrays Dat.owesAt owesWithin prefHeld PerCore.cellsWaits PerCore.RDat.cellsWaits
      rw [Finset.univ_eq_empty (α := Fin (pinD pcs a c p).W), Finset.univ_eq_empty (α := Fin (pcs p).pre.K), BI.bigSep_empty, BI.bigSep_empty, BI.bigSep_empty,
        h.owes₀ c]
      iintro HO
      isplitr; · iempintro
      isplitl [HO]
      · iexists ∅
        isplitr
        · ipureintro; rw [Finset.coe_empty]; exact Set.empty_subset _
        iexact HO
      isplitr <;> iempintro
    iintro ⟨Hk, ⟨Hsb, Hcs, Hid, Hop, HO, HD, Hrest⟩, Hlev, Hg⟩
    ihave Hg := hghost $$ Hg
    icases Hg with ⟨⟨Hcg, Htk⟩, Hg⟩
    imod (PerCore.cellsInit_alloc (pinD pcs a) pdats EP phinj p c) $$ [Hcs Hcg] with ⟨%κ, -, Hci⟩
    · isplitl [Hcs] <;> iassumption
    ihave HO := hpre $$ HO
    icases HO with ⟨Har, HO, Hcw, Hpf⟩
    iapply (PerCore.wp_customCall_entry_frame pcs a pdats () EP κ phinj p defs₀ 𝒱₀ (fun _ => fullShare) c Set.univ (fun w => isEmptyElim w)
      (h.body 𝒱₀ hroutes hval hss hsn hws hwn hbody c) (fun w => isEmptyElim w) none (fun _ hu => by cases hu) hbufs hin hout) $$ [Hsb Hid HD Har HO Hcw Hci Htk Hpf]
    · isplitl [Har HO Hcw Hci Htk]
      · unfold PerCore.EntryPre
        isplitl [Har]; · iexact Har
        isplitl [HO]; · iexact HO
        isplitl [Hcw]; · iexact Hcw
        isplitl [Hci] <;> iassumption
      isplitl [Hpf]; · iexact Hpf
      isplitl [HD]; · iexact HD
      isplitl [Hid] <;> iassumption
    iintro ⟨Hpost, He, Hss, Hsb⟩
    unfold PerCore.EntryPost Dat.owesAt owesWithin
    rw [h.owes₁ c]
    icases Hpost with ⟨-, ⟨%W, -, HO⟩⟩
    iapply (htail c K)
    isplitl [Hk]; · iexact Hk
    isplitl [Hsb Hss Hop]
    · iapply hexit
      isplitl [Hsb]; · iexact Hsb
      isplitl [Hss] <;> iassumption
    isplitl [He]; · iexact He
    isplitl [Hrest]; · iexact Hrest
    isplitl [HO]; · iexists W; iexact HO
    isplitl [Hlev] <;> iassumption

end Net

end Cert.Exchange

end
-- ==== Proof.Only.lean ====
/-
A program that is the exchange alone: its sources are whole arrays in the beginning and again in the end, its slots are whole arrays
in the end.
-/
module

public import proofs.«01_k».proof.Proof.Run
public import Idealize.ShloMosaic.Lib.Pipeline.Launch

@[expose] public section

set_option Elab.async false

noncomputable section

namespace Cert.Exchange.Net

open Idealize.ShloMosaic Idealize.ShloMosaic.Pipeline
open TcCoe
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.ProofMode Idealize.SL.Sem
open Idealize.ShloMosaic.Rounds

variable {sig : RefSig} {n : Nat} (N : Net sig n)
variable {τ : Topo} {Val : EltTy → Type}

local notation "𝕄" => M τ sig Val

/-- The program's arrays: those the exchange reads and those it fills. -/
structure Refs (sig : RefSig) (n : Nat) where
  inR : Fin n → Ref sig .tc
  outR : Fin n → Ref sig .tc
  all : (Finset.univ.filter fun b : Ref sig .tc => ¬ b.isScoped) = Finset.univ.image inR ∪ Finset.univ.image outR
  in_inj : Function.Injective inR
  out_inj : Function.Injective outR
  apart : Disjoint (Finset.univ.image inR) (Finset.univ.image outR)

/-- The unscoped buffers are these arrays. -/
theorem Refs.unscoped (A : Refs sig n) (c : Dev 8) (V : (b : Ref sig .tc) → Buf Val ((c.tc : Thread 8 τ).loc b)) :
    (unscopedBufs c V : sProp 𝕄)
      = iprop((bigSep Finset.univ fun a => ((c.tc : Thread 8 τ).loc (A.inR a)) ↦{fullShare} V (A.inR a))
        ∗ (bigSep Finset.univ fun a => ((c.tc : Thread 8 τ).loc (A.outR a)) ↦{fullShare} V (A.outR a))) := by
  unfold unscopedBufs
  rw [A.all, BI.bigSep_union A.apart, BI.bigSep_image_of_injOn A.in_inj.injOn, BI.bigSep_image_of_injOn A.out_inj.injOn]
  rfl

variable {I : N.Ins Val τ} {O : N.Outs Val τ}

/-- A device's copies are, array by array, its copies. -/
theorem srcs_eq (c : Dev 8) : (bigSep Finset.univ fun s : Copy n => (N.srcPt I s.1 c s.2 : sProp 𝕄))
    = bigSep Finset.univ fun a : Fin n => bigSep Finset.univ fun o => N.srcPt I a c o :=
  bigSep_univ_prod _

variable {Λ₀ : Labels} {P : Type} [Fintype P] [DecidableEq P]
variable {pcs : P → PCfg sig Λ₀ Val} {a : Dev 8 → (p : P) → (pcs p).Adm}
  (phinj : Function.Injective (PerCore.cellOf (nD := 8) (τ := τ) (pinD pcs a)))
  {defs₀ : Defs 8 τ sig Val Λ₀} (𝒱₀ : Variants) {p : P}
variable {pdats : (p : P) → (c : Dev 8) → Dat τ Val Unit ℕ (U τ sig) ℕ (pinD pcs a c p) c}
variable {N}
variable [∀ e, Nonempty (Val e)]

include phinj in
/-- The exchange alone: the arrays it reads end as they began, and those it fills end as `W` says. -/
theorem Region.run_only (hroutes : ∀ c c' : Dev 8, τ.routes (Dev.tc c) (Dev.tc c') = true) (hval : N.Sent I O)
    {ss : List (Copy n)} {ws : List (Cell n)} (hss : Finset.univ = ss.toFinset) (hsn : ss.Nodup) (hws : Finset.univ = ws.toFinset) (hwn : ws.Nodup)
    (hbody : N.BodyIs pcs a defs₀ 𝒱₀ p ss ws)
    (h : Region N I O pcs a p pdats) (hsc : ∀ κ, (N.osem κ).isScoped .tc = true)
    (m : (ℓ : Loc 8 τ sig) → Buf Val ℓ) (g : Dev 8 → PrngReg) (A : Refs sig n)
    (W : (a : Fin n) → (c : Dev 8) → Buf Val ((c.tc : Thread 8 τ).loc (A.outR a)))
    (hin : ∀ a (c : Dev 8), (((c.tc : Thread 8 τ).loc (A.inR a)) ↦{fullShare} m ((c.tc : Thread 8 τ).loc (A.inR a)) : sProp 𝕄)
      = bigSep Finset.univ fun o => N.srcPt I a c o)
    (hout₀ : ∀ a (c : Dev 8) f, (((c.tc : Thread 8 τ).loc (A.outR a)) ↦{fullShare} f : sProp 𝕄)
      ⊢ bigSep Finset.univ fun r => iprop(∃ f, N.dstPt a c r f))
    (hout₁ : ∀ a (c : Dev 8), (bigSep Finset.univ fun r => (N.dstPt a c r (O a c r) : sProp 𝕄)) ⊢ ((c.tc : Thread 8 τ).loc (A.outR a)) ↦{fullShare} W a c) :
    θ_run (Pipeline.defs pcs defs₀) (onTc fun _ : Dev 8 => .op (.customCall (entry p) ()) fun _ => .ret ⟨⟩) ⟨m, fun _ => 0, g⟩ fun r =>
      (∀ (c : Dev 8) a, r.2.mem ((c.tc : Thread 8 τ).loc (A.inR a)) = m ((c.tc : Thread 8 τ).loc (A.inR a)))
        ∧ (∀ (c : Dev 8) a, r.2.mem ((c.tc : Thread 8 τ).loc (A.outR a)) = W a c)
        ∧ ∀ g' : GSem 8 τ sig, (g'.1.2 ≠ .tc ∨ g'.2.isScoped .tc = true) → r.2.sem g' = 0 := by
  refine h.run phinj 𝒱₀ hroutes hval hss hsn hws hwn hbody hsc m g (fun _ => iprop(emp))
    (fun c => iprop((bigSep Finset.univ fun a => ((c.tc : Thread 8 τ).loc (A.inR a)) ↦{fullShare} m ((c.tc : Thread 8 τ).loc (A.inR a)))
        ∗ (bigSep Finset.univ fun a => ((c.tc : Thread 8 τ).loc (A.outR a)) ↦{fullShare} W a c)))
    (fun c => ?_) _ (fun _ _ => .ret ⟨⟩) (fun _ => rfl) (fun c K => ?_)
    (fun c s => (∀ a, s.mem ((c.tc : Thread 8 τ).loc (A.inR a)) = m ((c.tc : Thread 8 τ).loc (A.inR a)))
        ∧ (∀ a, s.mem ((c.tc : Thread 8 τ).loc (A.outR a)) = W a c)) (fun c s' => ?_) (fun s hq hz => ⟨fun c => (hq c).1, fun c => (hq c).2, hz⟩)
  · rw [A.unscoped, srcs_eq, bigSep_congr fun a _ => hin a c]
    refine BI.sep_mono (BI.Entails.refl _) ((bigSep_mono fun a _ => hout₀ a c _).trans ?_)
    show _ ⊢ (_ : sProp 𝕄)
    iintro H
    isplitl [H]; · iexact H
    iempintro
  · have he : (N.ends I O c : sProp 𝕄) ⊢ iprop((bigSep Finset.univ fun a => ((c.tc : Thread 8 τ).loc (A.inR a)) ↦{fullShare} m ((c.tc : Thread 8 τ).loc (A.inR a)))
        ∗ (bigSep Finset.univ fun a => ((c.tc : Thread 8 τ).loc (A.outR a)) ↦{fullShare} W a c)) := by
      unfold ends
      rw [srcs_eq, bigSep_congr fun a _ => hin a c]
      exact BI.sep_mono (BI.Entails.refl _) (bigSep_mono fun a _ => hout₁ a c)
    simp only [wp_ret]
    iintro ⟨Hk, Hb, He, -, HO, -, -⟩
    imodintro
    iapply Hk
    isplitl [Hb]; · iexact Hb
    isplitr [HO]
    · iapply he; iexact He
    iexact HO
  · iintro ⟨⟨H1, H2⟩, HSI⟩
    ihave H := (pointsTo_read_all (Ix := Unit) (Name := ℕ) (U := U τ sig) (Lvl := ℕ) (Finset.univ : Finset (Fin n)) (fun a => (c.tc : Thread 8 τ).loc (A.inR a)) (fun a => m ((c.tc : Thread 8 τ).loc (A.inR a))) s') $$ [H1 HSI]
    · isplitl [H1] <;> iassumption
    icases H with ⟨%h1, HSI⟩
    ihave H := (pointsTo_read_all (Ix := Unit) (Name := ℕ) (U := U τ sig) (Lvl := ℕ) (Finset.univ : Finset (Fin n)) (fun a => (c.tc : Thread 8 τ).loc (A.outR a)) (fun a => W a c) s') $$ [H2 HSI]
    · isplitl [H2] <;> iassumption
    icases H with ⟨%h2, HSI⟩
    imodintro
    isplitr
    · ipureintro
      exact ⟨fun a => h1 a (Finset.mem_univ _), fun a => h2 a (Finset.mem_univ _)⟩
    iexact HSI

/-- The region's data for an exchange without windows. -/
def dat (N : Net sig n) (I : N.Ins Val τ) (O : N.Outs Val τ) {Λ : Labels} (cfg : Cfg sig Λ) [hW : IsEmpty (Fin cfg.W)] (c : Dev 8) :
    Dat τ Val Unit ℕ (U τ sig) ℕ cfg c where
  A w := isEmptyElim w
  after w := isEmptyElim w
  Φ t := if t = 0 then iprop(N.dealt I O c ∗ scopedBufs (c.tc : Thread 8 τ)) else iprop(bigSep Finset.univ (N.done I O c) ∗ scopedBufs (c.tc : Thread 8 τ))
  q w := isEmptyElim w
  owed t := if t = 0 then N.owed c else 0

/-- These data make it the exchange's region. -/
theorem region_of (noWin : ∀ c, IsEmpty (Fin (pinD pcs a c p).W)) (one : ∀ c, (pinD pcs a c p).N = 1) (noPre : IsEmpty (Fin (pcs p).pre.K))
    (hd : ∀ c, pdats p c = N.dat I O (hW := noWin c) (pinD pcs a c p) c) : Region N I O pcs a p pdats where
  noWin := noWin
  one := one
  noPre := noPre
  before c := by rw [hd c]; simp [dat]
  after c := by rw [hd c]; exact if_neg (by have := one c; rw [Fin.ext_iff]; simp [this])
  owes₀ c := by rw [hd c]; simp [dat]
  owes₁ c := by rw [hd c]; exact if_neg (by have := one c; rw [Fin.ext_iff]; simp [this])
  bound c t := by rw [hd c]; rfl

end Cert.Exchange.Net

end
-- ==== Proof.Kinds.lean ====
/-
The two kinds of exchange: one in which every device sends its whole array to all (a gather), and one in which it sends each device
that device's part (a scatter). Both fill an array of eight parts, one per sender.
-/
module

public import proofs.«01_k».proof.Proof.Parts
public import proofs.«01_k».proof.Proof.Only

@[expose] public section

set_option Elab.async false

noncomputable section

namespace Cert.Exchange

open Idealize.ShloMosaic
open TcCoe
open Idealize.SL Idealize.SL.RA
open Idealize.SL.BI (sProp bigSep bigSep_sep' bigSep_mono bigSep_congr bigSep_univ_prod)
open scoped Idealize.SL.BI
open Idealize.SL.BI.BIBase Idealize.SL.BI.Laws Idealize.SL.ProofMode Idealize.SL.Sem
open Idealize.ShloMosaic.Rounds

section Slots

variable {sig : RefSig} {sp : Space} {e : EltTy} {R C : Nat} {Val : EltTy → Type}
variable (A : Memref sig .tc sp (Sh3 R C) e) (hs : (Sh1 R C).Squeezes (Sh2 R C))

/-- A slot at an offset that is a part's reads that part. -/
theorem read_slot (r : Dev 8) {off : Fin 3 → Nat} (he : off = offAt r) (h : ∀ a, off a + (Sh1 R C).size a ≤ (Sh3 R C).size a)
    (f : A.view.ty.Contents Val) (j : (Sh2 R C).Idx) : (slotAt A hs off h).view.read Val f j = A.view.read Val f (at3 r j) := by
  subst he
  exact read_part A hs r f j

variable {τ : Topo}

local notation "𝕄" => Net.M τ sig Val

/-- Owning a slot at an offset that is a part's is owning that part. -/
theorem pt_slot (r : Dev 8) {off : Fin 3 → Nat} (he : off = offAt r) (h : ∀ a, off a + (Sh1 R C).size a ≤ (Sh3 R C).size a)
    (c : Dev 8) (q : PosShare TreeShare) (f : Buf Val (A.view.loc (c.tc : Thread 8 τ))) :
    ((slotAt A hs off h).view.loc (c.tc : Thread 8 τ) ↦[(slotAt A hs off h).view.set]{q} f : sProp 𝕄)
      = (part A hs r).view.loc (c.tc : Thread 8 τ) ↦[(part A hs r).view.set]{q} f := by
  subst he
  rfl

end Slots

/-- The arrays an exchange fills, and its semaphores. -/
structure Boxes (sig : RefSig) (n : Nat) where
  R : Fin n → Nat
  C : Fin n → Nat
  e : EltTy
  sq : ∀ a, (Sh1 (R a) (C a)).Squeezes (Sh2 (R a) (C a))
  out : (a : Fin n) → Memref sig .tc .hbm (Sh3 (R a) (C a)) e
  out_whole : ∀ a, (out a).view.set = Finset.univ
  out_sc : ∀ a, (out a).view.ref.isScScratch = false
  out_exact : ∀ a d, (slotAt (out a) (sq a) (offMine d) (offMine_inb (R a) (C a) d)).view.WordExact
  sem : Cell n → DmaSem sig
  sem_inj : Function.Injective sem
  amt : Fin n → ℕ
  amt_pos : ∀ a, 0 < amt a
  out_amt : ∀ a d, (slotAt (out a) (sq a) (offMine d) (offMine_inb (R a) (C a) d)).view.dmaCredit = amt a

/-- A gather: what every device sends to all. -/
structure Gather (sig : RefSig) (n : Nat) extends Boxes sig n where
  inn : (a : Fin n) → Memref sig .tc .hbm (Sh2 (R a) (C a)) e
  in_whole : ∀ a, (inn a).view.set = Finset.univ
  in_exact : ∀ a, (inn a).view.WordExact
  in_amt : ∀ a, (inn a).view.dmaCredit = amt a

/-- A scatter: an array of eight parts on every device, one for each. -/
structure Scatter (sig : RefSig) (n : Nat) extends Boxes sig n where
  inn : (a : Fin n) → Memref sig .tc .hbm (Sh3 (R a) (C a)) e
  in_whole : ∀ a, (inn a).view.set = Finset.univ
  mine_exact : ∀ a d, (slotAt (inn a) (sq a) (offMine d) (offMine_inb (R a) (C a) d)).view.WordExact
  peer_exact : ∀ a k d, (slotAt (inn a) (sq a) (offPeer k d) (offPeer_inb (R a) (C a) k d)).view.WordExact
  mine_amt : ∀ a d, (slotAt (inn a) (sq a) (offMine d) (offMine_inb (R a) (C a) d)).view.dmaCredit = amt a
  peer_amt : ∀ a k d, (slotAt (inn a) (sq a) (offPeer k d) (offPeer_inb (R a) (C a) k d)).view.dmaCredit = amt a

variable {sig : RefSig} {n : Nat} {τ : Topo} {Val : EltTy → Type}

local notation "𝕄" => Net.M τ sig Val

/-- A gather as an exchange: each copy reads the whole source, at its own share. -/
def Gather.net (G : Gather sig n) : Net sig n where
  S a := Sh2 (G.R a) (G.C a)
  e := G.e
  src a _ _ := G.inn a
  dst a r := slotAt (G.out a) (G.sq a) (offMine r) (offMine_inb (G.R a) (G.C a) r)
  src_exact a _ _ := G.in_exact a
  dst_exact a r := G.out_exact a r
  dst_sc a _ := G.out_sc a
  sem := G.sem
  sem_inj := G.sem_inj
  amt := G.amt
  dst_amt a r := G.out_amt a r
  src_amt a _ _ := G.in_amt a
  amt_pos := G.amt_pos
  q _ o := piece o

/-- A scatter as an exchange: each copy reads its own part of the source. -/
def Scatter.net (G : Scatter sig n) : Net sig n where
  S a := Sh2 (G.R a) (G.C a)
  e := G.e
  src a d o := match o with
    | none => slotAt (G.inn a) (G.sq a) (offMine d) (offMine_inb (G.R a) (G.C a) d)
    | some k => slotAt (G.inn a) (G.sq a) (offPeer k d) (offPeer_inb (G.R a) (G.C a) k d)
  dst a r := slotAt (G.out a) (G.sq a) (offMine r) (offMine_inb (G.R a) (G.C a) r)
  src_exact a d o := match o with
    | none => G.mine_exact a d
    | some k => G.peer_exact a k d
  dst_exact a r := G.out_exact a r
  dst_sc a _ := G.out_sc a
  sem := G.sem
  sem_inj := G.sem_inj
  amt := G.amt
  dst_amt a r := G.out_amt a r
  src_amt a d o := match o with
    | none => G.mine_amt a d
    | some k => G.peer_amt a k d
  amt_pos := G.amt_pos
  q _ _ := fullShare

namespace Gather

variable (G : Gather sig n) (m : (ℓ : Loc 8 τ sig) → Buf Val ℓ)
  (W : (a : Fin n) → (c : Dev 8) → Buf Val ((G.out a).view.loc (c.tc : Thread 8 τ)))

/-- A gather's sources in a memory. -/
def ins : G.net.Ins Val τ := fun a d _ => m ((G.inn a).view.loc (d.tc : Thread 8 τ))
/-- Its slots, read off the arrays in the end. -/
def outs : G.net.Outs Val τ := fun a d _ => W a d

/-- What the arrays hold in the end: in every part, its sender's source. -/
def Gathered : Prop := ∀ a (c : Dev 8) (i : (Sh3 (G.R a) (G.C a)).Idx),
  (G.out a).view.read Val (W a c) i = (G.inn a).view.read Val (m ((G.inn a).view.loc ((partOf i).tc : Thread 8 τ))) (placeOf i)

theorem sent (hW : G.Gathered m W) : G.net.Sent (G.ins m) (G.outs W) := by
  intro a d o
  refine funext fun (j : (Sh2 (G.R a) (G.C a)).Idx) => ?_
  refine (read_slot (G.out a) (G.sq a) d (offMine_eq d) _ (W a (tgt d o)) j).trans ?_
  rw [hW a, partOf_at3, placeOf_at3]
  rfl

/-- The source is its pieces. -/
theorem split_in (a : Fin n) (c : Dev 8) :
    (((G.inn a).view.loc (c.tc : Thread 8 τ)) ↦{fullShare} m ((G.inn a).view.loc (c.tc : Thread 8 τ)) : sProp 𝕄)
      = bigSep Finset.univ fun o => G.net.srcPt (G.ins m) a c o := by
  refine (pt_pieces _ _ _).trans (bigSep_congr fun o _ => ?_)
  show _ = ((G.inn a).view.loc (c.tc : Thread 8 τ)) ↦[(G.inn a).view.set]{piece o} m ((G.inn a).view.loc (c.tc : Thread 8 τ))
  rw [G.in_whole a]

/-- The array filled is its slots. -/
theorem split_out (a : Fin n) (c : Dev 8) (f : Buf Val ((G.out a).view.loc (c.tc : Thread 8 τ))) :
    (((G.out a).view.loc (c.tc : Thread 8 τ)) ↦{fullShare} f : sProp 𝕄) = bigSep Finset.univ fun r => G.net.dstPt a c r f :=
  (pt_parts (G.out a) (G.sq a) (G.out_whole a) c fullShare f).trans
    (bigSep_congr fun r _ => (pt_slot (G.out a) (G.sq a) r (offMine_eq r) (offMine_inb (G.R a) (G.C a) r) c fullShare f).symm)

end Gather

namespace Scatter

variable (G : Scatter sig n) (m : (ℓ : Loc 8 τ sig) → Buf Val ℓ)
  (W : (a : Fin n) → (c : Dev 8) → Buf Val ((G.out a).view.loc (c.tc : Thread 8 τ)))

/-- A scatter's sources in a memory. -/
def ins : G.net.Ins Val τ := fun a d o => match o with
  | none => m ((G.inn a).view.loc (d.tc : Thread 8 τ))
  | some _ => m ((G.inn a).view.loc (d.tc : Thread 8 τ))
/-- Its slots, read off the arrays in the end. -/
def outs : G.net.Outs Val τ := fun a d _ => W a d

/-- What the arrays hold in the end on a device: in every part, what its sender had for that device. -/
def Scattered : Prop := ∀ a (c : Dev 8) (i : (Sh3 (G.R a) (G.C a)).Idx),
  (G.out a).view.read Val (W a c) i = (G.inn a).view.read Val (m ((G.inn a).view.loc ((partOf i).tc : Thread 8 τ))) (at3 c (placeOf i))

theorem sent (hW : G.Scattered m W) : G.net.Sent (G.ins m) (G.outs W) := by
  intro a d o
  refine funext fun (j : (Sh2 (G.R a) (G.C a)).Idx) => ?_
  refine (read_slot (G.out a) (G.sq a) d (offMine_eq d) _ (W a (tgt d o)) j).trans ?_
  rw [hW a, partOf_at3, placeOf_at3]
  rcases o with _ | k
  · exact (read_slot (G.inn a) (G.sq a) d (offMine_eq d) _ (m ((G.inn a).view.loc (d.tc : Thread 8 τ))) j).symm
  · exact (read_slot (G.inn a) (G.sq a) (flip k d) (offPeer_eq k d) _ (m ((G.inn a).view.loc (d.tc : Thread 8 τ))) j).symm

/-- The source is its parts. -/
theorem split_in (a : Fin n) (c : Dev 8) :
    (((G.inn a).view.loc (c.tc : Thread 8 τ)) ↦{fullShare} m ((G.inn a).view.loc (c.tc : Thread 8 τ)) : sProp 𝕄)
      = bigSep Finset.univ fun o => G.net.srcPt (G.ins m) a c o := by
  refine (pt_parts (G.inn a) (G.sq a) (G.in_whole a) c fullShare _).trans ?_
  refine (BI.bigSep_univ_equiv (Equiv.ofBijective _ (tgt_bijective c)) _).trans (bigSep_congr fun o _ => ?_)
  rcases o with _ | k
  · exact (pt_slot (G.inn a) (G.sq a) c (offMine_eq c) (offMine_inb (G.R a) (G.C a) c) c fullShare (m ((G.inn a).view.loc (c.tc : Thread 8 τ)))).symm
  · exact (pt_slot (G.inn a) (G.sq a) (flip k c) (offPeer_eq k c) (offPeer_inb (G.R a) (G.C a) k c) c fullShare (m ((G.inn a).view.loc (c.tc : Thread 8 τ)))).symm

/-- The array filled is its slots. -/
theorem split_out (a : Fin n) (c : Dev 8) (f : Buf Val ((G.out a).view.loc (c.tc : Thread 8 τ))) :
    (((G.out a).view.loc (c.tc : Thread 8 τ)) ↦{fullShare} f : sProp 𝕄) = bigSep Finset.univ fun r => G.net.dstPt a c r f :=
  (pt_parts (G.out a) (G.sq a) (G.out_whole a) c fullShare f).trans
    (bigSep_congr fun r _ => (pt_slot (G.out a) (G.sq a) r (offMine_eq r) (offMine_inb (G.R a) (G.C a) r) c fullShare f).symm)

end Scatter

section Run

open Idealize.ShloMosaic.Pipeline

variable {Λ₀ : Labels} {P : Type} [Fintype P] [DecidableEq P]
variable {pcs : P → PCfg sig Λ₀ Val} {a : Dev 8 → (p : P) → (pcs p).Adm}
  (phinj : Function.Injective (PerCore.cellOf (nD := 8) (τ := τ) (pinD pcs a)))
  {defs₀ : Defs 8 τ sig Val Λ₀} (𝒱₀ : Variants) (p : P)
variable [∀ e, Nonempty (Val e)]
variable (hroutes : ∀ c c' : Dev 8, τ.routes (Dev.tc c) (Dev.tc c') = true)
  {ss : List (Copy n)} {ws : List (Cell n)} (hss : Finset.univ = ss.toFinset) (hsn : ss.Nodup) (hws : Finset.univ = ws.toFinset) (hwn : ws.Nodup)
  (noWin : ∀ c p, IsEmpty (Fin (pinD pcs a c p).W)) (one : ∀ c, (pinD pcs a c p).N = 1) (noPre : IsEmpty (Fin (pcs p).pre.K))
  (m : (ℓ : Loc 8 τ sig) → Buf Val ℓ) (g : Dev 8 → PrngReg)

include phinj hroutes hss hsn hws hwn noWin one noPre in
/-- A program that is a gather runs: what it reads ends as it began, what it fills ends gathered. -/
theorem Gather.run (G : Gather sig n) (hbody : G.net.BodyIs pcs a defs₀ 𝒱₀ p ss ws) (hsc : ∀ κ, (G.net.osem κ).isScoped .tc = true)
    (A : Net.Refs sig n) (hin : ∀ a, A.inR a = (G.inn a).view.ref) (hout : ∀ a, A.outR a = (G.out a).view.ref)
    (W : (a : Fin n) → (c : Dev 8) → Buf Val ((G.out a).view.loc (c.tc : Thread 8 τ))) (hW : G.Gathered m W) :
    θ_run (Pipeline.defs pcs defs₀) (onTc fun _ : Dev 8 => .op (.customCall (entry p) ()) fun _ => .ret ⟨⟩) ⟨m, fun _ => 0, g⟩ fun r =>
      (∀ (c : Dev 8) a, r.2.mem ((G.inn a).view.loc (c.tc : Thread 8 τ)) = m ((G.inn a).view.loc (c.tc : Thread 8 τ)))
        ∧ (∀ (c : Dev 8) a, r.2.mem ((G.out a).view.loc (c.tc : Thread 8 τ)) = W a c)
        ∧ ∀ g' : GSem 8 τ sig, (g'.1.2 ≠ .tc ∨ g'.2.isScoped .tc = true) → r.2.sem g' = 0 := by
  obtain ⟨inR, outR, hall, hi, ho, hd⟩ := A
  obtain rfl : inR = fun a => (G.inn a).view.ref := funext hin
  obtain rfl : outR = fun a => (G.out a).view.ref := funext hout
  exact Net.Region.run_only phinj 𝒱₀ hroutes (G.sent m W hW) hss hsn hws hwn hbody
    (Net.region_of (pdats := fun p c => G.net.dat (G.ins m) (G.outs W) (hW := noWin c p) (pinD pcs a c p) c) (fun c => noWin c p) one noPre fun _ => rfl)
    hsc m g ⟨_, _, hall, hi, ho, hd⟩ W (fun a c => G.split_in m a c)
    (fun a c f => (BI.BIBase.Entails.of_eq (G.split_out a c f)).trans (bigSep_mono fun r _ => exists_intro (Φ := fun f => G.net.dstPt a c r f) f))
    (fun a c => BI.BIBase.Entails.of_eq (G.split_out a c (W a c)).symm)

include phinj hroutes hss hsn hws hwn noWin one noPre in
/-- A program that is a scatter runs: what it reads ends as it began, what it fills ends scattered. -/
theorem Scatter.run (G : Scatter sig n) (hbody : G.net.BodyIs pcs a defs₀ 𝒱₀ p ss ws) (hsc : ∀ κ, (G.net.osem κ).isScoped .tc = true)
    (A : Net.Refs sig n) (hin : ∀ a, A.inR a = (G.inn a).view.ref) (hout : ∀ a, A.outR a = (G.out a).view.ref)
    (W : (a : Fin n) → (c : Dev 8) → Buf Val ((G.out a).view.loc (c.tc : Thread 8 τ))) (hW : G.Scattered m W) :
    θ_run (Pipeline.defs pcs defs₀) (onTc fun _ : Dev 8 => .op (.customCall (entry p) ()) fun _ => .ret ⟨⟩) ⟨m, fun _ => 0, g⟩ fun r =>
      (∀ (c : Dev 8) a, r.2.mem ((G.inn a).view.loc (c.tc : Thread 8 τ)) = m ((G.inn a).view.loc (c.tc : Thread 8 τ)))
        ∧ (∀ (c : Dev 8) a, r.2.mem ((G.out a).view.loc (c.tc : Thread 8 τ)) = W a c)
        ∧ ∀ g' : GSem 8 τ sig, (g'.1.2 ≠ .tc ∨ g'.2.isScoped .tc = true) → r.2.sem g' = 0 := by
  obtain ⟨inR, outR, hall, hi, ho, hd⟩ := A
  obtain rfl : inR = fun a => (G.inn a).view.ref := funext hin
  obtain rfl : outR = fun a => (G.out a).view.ref := funext hout
  exact Net.Region.run_only phinj 𝒱₀ hroutes (G.sent m W hW) hss hsn hws hwn hbody
    (Net.region_of (pdats := fun p c => G.net.dat (G.ins m) (G.outs W) (hW := noWin c p) (pinD pcs a c p) c) (fun c => noWin c p) one noPre fun _ => rfl)
    hsc m g ⟨_, _, hall, hi, ho, hd⟩ W (fun a c => G.split_in m a c)
    (fun a c f => (BI.BIBase.Entails.of_eq (G.split_out a c f)).trans (bigSep_mono fun r _ => exists_intro (Φ := fun f => G.net.dstPt a c r f) f))
    (fun a c => BI.BIBase.Entails.of_eq (G.split_out a c (W a c)).symm)

end Run

end Cert.Exchange

end
-- ==== Proof.Matrices.lean ====
/-
The gather of the matrices, over any float values.
-/
module

public import proofs.«01_k».proof.Proof.Kinds
public import proofs.«01_k».proof.Proof.Gen.GatherMatricesIdeal
public import proofs.«01_k».proof.Proof.Gen.GatherMatricesIdeal.Launch

@[expose] public section

set_option Elab.async false

noncomputable section

namespace Cert.Matrices

open Cert.GatherMatricesIdeal Cert.GatherMatricesIdeal.Gen Cert.Exchange
open Idealize.ShloMosaic Idealize.ShloMosaic.Pipeline Idealize.SL Idealize.SL.Sem

variable {F : FTy → Type} [FloatOps F]

/-- The rows of an array's part. -/
abbrev R : Fin 12 → Nat := ![384, 256, 1376, 688, 64, 64, 384, 256, 1376, 688, 64, 64]
/-- Its columns. -/
abbrev C : Fin 12 → Nat := ![2048, 2048, 2048, 2048, 512, 512, 2048, 2048, 2048, 2048, 512, 512]

/-- The arrays sent. -/
abbrev inn : (a : Fin 12) → Memref sig .tc .hbm (Sh2 (R a) (C a)) .bf16
    | 0 => Memref.whole main_arg0
    | 1 => Memref.whole main_arg1
    | 2 => Memref.whole main_arg2
    | 3 => Memref.whole main_arg3
    | 4 => Memref.whole main_arg4
    | 5 => Memref.whole main_arg5
    | 6 => Memref.whole main_arg6
    | 7 => Memref.whole main_arg7
    | 8 => Memref.whole main_arg8
    | 9 => Memref.whole main_arg9
    | 10 => Memref.whole main_arg10
    | 11 => Memref.whole main_arg11

/-- The arrays filled. -/
abbrev out : (a : Fin 12) → Memref sig .tc .hbm (Sh3 (R a) (C a)) .bf16
    | 0 => Memref.whole main_v1_0
    | 1 => Memref.whole main_v1_1
    | 2 => Memref.whole main_v1_2
    | 3 => Memref.whole main_v1_3
    | 4 => Memref.whole main_v1_4
    | 5 => Memref.whole main_v1_5
    | 6 => Memref.whole main_v1_6
    | 7 => Memref.whole main_v1_7
    | 8 => Memref.whole main_v1_8
    | 9 => Memref.whole main_v1_9
    | 10 => Memref.whole main_v1_10
    | 11 => Memref.whole main_v1_11

theorem sq : ∀ a, (Sh1 (R a) (C a)).Squeezes (Sh2 (R a) (C a)) := by decide +kernel

theorem inb12 : ∀ a : Fin 12, ∀ x, (![a.val] : Fin 1 → Nat) x + S1.size x ≤ S12.size x := by decide
theorem inb84 : ∀ (a : Fin 12) (k : Fin 7), ∀ x, (![a.val, k.val] : Fin 2 → Nat) x + S1x1.size x ≤ S12x7.size x := by decide

/-- The semaphores, as the kernel names them. -/
abbrev semOf : Cell 12 → DmaSem sig
  | (a, .inl none) => ((cc0_scratch2.slice (Rect.unit (s := S12) ![a.val] S1.size (inb12 a))).squeeze S_ squeezes_S1_S_).sem
  | (a, .inl (some k)) => ((cc0_scratch0.slice (Rect.unit (s := S12x7) ![a.val, k.val] S1x1.size (inb84 a k))).squeeze S_ squeezes_S1x1_S_).sem
  | (a, .inr k) => ((cc0_scratch1.slice (Rect.unit (s := S12x7) ![a.val, k.val] S1x1.size (inb84 a k))).squeeze S_ squeezes_S1x1_S_).sem

/-- A device's own part is whole words, in every array. -/
theorem mine_words : ∀ (a : Fin 12) (d : Dev 8),
    (Rect.unit (s := Sh3 (R a) (C a)) (offMine d) (Sh1 (R a) (C a)).size (offMine_inb (R a) (C a) d)).WholeWords (EltTy.packing .bf16) := by
  decide +kernel

/-- The exchange. -/
def G : Gather sig 12 where
  R := R
  C := C
  e := .bf16
  sq := sq
  out := out
  out_whole a := by fin_cases a <;> exact View.set_whole _
  out_sc a := by fin_cases a <;> rfl
  out_exact a d := by fin_cases a <;> exact ((Memref.isWhole_whole _).wordExact_slice rfl _ (mine_words _ d)).reshape _ _
  sem := semOf
  sem_inj := by decide +kernel
  amt a := (inn a).view.dmaCredit
  amt_pos a := by fin_cases a <;> exact View.dmaCredit_pos _ (by decide)
  out_amt a d := by fin_cases a <;> rfl
  inn := inn
  in_whole a := by fin_cases a <;> exact View.set_whole _
  in_exact a := by fin_cases a <;> exact (Memref.isWhole_whole _).wordExact
  in_amt _ := rfl

/-- The arrays in order. -/
abbrev arrays : List (Fin 12) := [0, 1, 2, 3, 4, 5, 6, 7, 8, 9, 10, 11]

/-- The kernel is the exchange's program. -/
theorem body_eq : cc0_gather_matrices (F := F)
    (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _)
    (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _)
    (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _)
    (Memref.whole main_v1_6) (Memref.isWhole_whole _) (Memref.whole main_v1_7) (Memref.isWhole_whole _) (Memref.whole main_v1_8) (Memref.isWhole_whole _) (Memref.whole main_v1_9) (Memref.isWhole_whole _) (Memref.whole main_v1_10) (Memref.isWhole_whole _) (Memref.whole main_v1_11) (Memref.isWhole_whole _)
    cc0_scratch0 cc0_scratch1 cc0_scratch2 = prog G.net.start G.net.wait (starts arrays) (waits arrays) := by
  chain_rfl

/-- What every device's results hold in the end. -/
abbrev gathered (m : (ℓ : Loc nD τ sig) → Buf (Elt F) ℓ) : (a : Fin 12) → (c : Dev 8) → Buf (Elt F) ((out a).view.loc (c.tc : Thread nD τ))
  | 0 => fun c i => m (((partOf i).tc : Thread nD τ).loc main_arg0) (placeOf i)
  | 1 => fun c i => m (((partOf i).tc : Thread nD τ).loc main_arg1) (placeOf i)
  | 2 => fun c i => m (((partOf i).tc : Thread nD τ).loc main_arg2) (placeOf i)
  | 3 => fun c i => m (((partOf i).tc : Thread nD τ).loc main_arg3) (placeOf i)
  | 4 => fun c i => m (((partOf i).tc : Thread nD τ).loc main_arg4) (placeOf i)
  | 5 => fun c i => m (((partOf i).tc : Thread nD τ).loc main_arg5) (placeOf i)
  | 6 => fun c i => m (((partOf i).tc : Thread nD τ).loc main_arg6) (placeOf i)
  | 7 => fun c i => m (((partOf i).tc : Thread nD τ).loc main_arg7) (placeOf i)
  | 8 => fun c i => m (((partOf i).tc : Thread nD τ).loc main_arg8) (placeOf i)
  | 9 => fun c i => m (((partOf i).tc : Thread nD τ).loc main_arg9) (placeOf i)
  | 10 => fun c i => m (((partOf i).tc : Thread nD τ).loc main_arg10) (placeOf i)
  | 11 => fun c i => m (((partOf i).tc : Thread nD τ).loc main_arg11) (placeOf i)

abbrev refs : Net.Refs sig 12 where
  inR a := (inn a).view.ref
  outR a := (out a).view.ref
  all := by decide +kernel
  in_inj := by decide +kernel
  out_inj := by decide +kernel
  apart := by decide +kernel

/-- How the program ends: the arrays sent as they began, the arrays filled holding the parts, every semaphore at zero. -/
abbrev ends (m : (ℓ : Loc nD τ sig) → Buf (Elt F) ℓ) (r : PUnit × MemSt nD τ sig (Elt F)) : Prop :=
  (∀ (c : Dev nD) a, r.2.mem ((inn a).view.loc (c.tc : Thread nD τ)) = m ((inn a).view.loc (c.tc : Thread nD τ)))
    ∧ (∀ (c : Dev nD) a, r.2.mem ((out a).view.loc (c.tc : Thread nD τ)) = gathered m a c)
    ∧ r.2.sem = fun _ => 0

/-- The program runs on every device, and ends so. -/
theorem run_main (m : (ℓ : Loc nD τ sig) → Buf (Elt F) ℓ) (g : Dev nD → PrngReg) :
    θ_run (defs (F := F)) (onTc (τ := τ) (main (F := F))) ⟨m, fun _ => 0, g⟩ (ends m) := by
  refine (θ_run _ _ _).mono (fun r h => ⟨h.1, h.2.1, sem_eq_zero_of_scoped (by decide +kernel) h.2.2⟩)
    (Gather.run (pcs := pcfgs (F := F)) (a := fun _ p => (cfgs p).toPCfg_adm) (fun x => x.2.2.1.elim0) Variants.none 0 (by decide)
      (ss := starts arrays) (ws := waits arrays)
      (by decide +kernel) (by decide +kernel) (by decide +kernel) (by decide +kernel)
      (fun _ p => by fin_cases p; exact inferInstanceAs (IsEmpty (Fin 0))) (fun _ => N_0) (inferInstanceAs (IsEmpty (Fin 0)))
      m g G (fun c t Φ => ?_) (by decide +kernel) refs (fun _ => rfl) (fun _ => rfl) (gathered m) (fun a c i => by fin_cases a <;> rfl))
  exact BI.BIBase.Entails.of_eq (by rw [← body_eq]; chain_rfl)

end Cert.Matrices

end
-- ==== Proof.Blocks.lean ====
/-
Eight blocks of rows laid one after another, and the same array as eight parts.
-/
module

public import proofs.«01_k».proof.Proof.Parts
public import Idealize.ShloMosaic.Lib.Layout
public import Idealize.ShloMosaic.Lib.Pointwise.Index
public import Idealize.ShloMosaic.Lib.Pipeline.Value

@[expose] public section

noncomputable section

namespace Cert.Exchange

open Idealize.ShloMosaic

variable {R C T : Nat} {α : Type}

/-- Reading an array of rows as parts reads, in a part, that device's block. -/
theorem shapeCast_parts (h : (Sh2 T C).ShapeCasts (Sh3 R C)) (ht : Layout.Tiles (Sh2 R C) (Sh2 T C) 0 8) (v : (Sh2 T C).Idx → α) (i : (Sh3 R C).Idx) :
    shapeCast (Sh3 R C) v h i = Layout.block (Sh2 R C) (Sh2 T C) 0 8 (partOf i) v ht (placeOf i) := by
  rw [Layout.block_apply]
  refine shapeCast_apply v h i _ ?_
  rw [Shape.rowMajor_val_two, Shape.rowMajor_val_three]
  have e0 : (ht.idx (partOf i) (placeOf i) 0).val = (i 0).val * R + (i 1).val := rfl
  have e1 : (ht.idx (partOf i) (placeOf i) 1).val = (i 2).val := rfl
  rw [e0, e1]
  rfl

/-- Every device's eight parts of rows, one device's after another's, dealt again by the device that each part is for: block `c` of
    the array so dealt is, in each part, what that part's device had for `c`. -/
theorem dealt_parts {α : Type} {R C : Nat} (h₁ : (⟨3, ![64, R, C]⟩ : Shape).ShapeCasts ⟨4, ![8, 8, R, C]⟩)
    (h₂ : (⟨4, ![8, 8, R, C]⟩ : Shape).Transposes [1, 0, 2, 3] ⟨4, ![8, 8, R, C]⟩)
    (h₃ : (⟨4, ![8, 8, R, C]⟩ : Shape).ShapeCasts ⟨3, ![64, R, C]⟩) (ht : Layout.Tiles (Sh3 R C) ⟨3, ![64, R, C]⟩ 0 8)
    (v : (⟨3, ![64, R, C]⟩ : Shape).Idx → α) (c : Dev 8) (i : (Sh3 R C).Idx) :
    Layout.block (Sh3 R C) ⟨3, ![64, R, C]⟩ 0 8 c (shapeCast _ (transpose ⟨4, ![8, 8, R, C]⟩ [1, 0, 2, 3] (shapeCast _ v h₁) h₂) h₃) ht i
      = Layout.block (Sh3 R C) ⟨3, ![64, R, C]⟩ 0 8 (partOf i) v ht (at3 c (placeOf i)) := by
  rw [Layout.block_apply, Layout.block_apply]
  refine (shapeCast_apply _ h₃ _ (ix4 c (i 0) (i 1) (i 2)) ?_).trans ?_
  · rw [Shape.rowMajor_val_three, Shape.rowMajor_val_four]
    rfl
  refine (transpose_apply _ _ h₂ _ (ix4 (i 0) c (i 1) (i 2)) fun b => ?_).trans ?_
  · fin_cases b <;> rfl
  refine shapeCast_apply v h₁ _ _ ?_
  rw [Shape.rowMajor_val_three, Shape.rowMajor_val_four]
  rfl

/-- A gathered array is the whole one, read as eight parts. -/
theorem gathered_eq {α : Type} {R C T : Nat} {f : Dev 8 → (Sh2 R C).Idx → α} {v : (Sh2 T C).Idx → α} {ht : Layout.Tiles (Sh2 R C) (Sh2 T C) 0 8}
    (hm : ∀ c : Dev 8, f c = Layout.block (Sh2 R C) (Sh2 T C) 0 8 c v ht) (h : (Sh2 T C).ShapeCasts (Sh3 R C)) :
    (fun i : (Sh3 R C).Idx => f (partOf i) (placeOf i)) = shapeCast (Sh3 R C) v h := by
  funext i
  rw [shapeCast_parts h ht]
  exact congrFun (hm (partOf i)) (placeOf i)

/-- A scattered array is a block of the whole one, dealt again. -/
theorem scattered_eq {α : Type} {R C : Nat} {f : Dev 8 → (Sh3 R C).Idx → α} {v : (⟨3, ![64, R, C]⟩ : Shape).Idx → α}
    {ht : Layout.Tiles (Sh3 R C) ⟨3, ![64, R, C]⟩ 0 8}
    (hm : ∀ c : Dev 8, f c = Layout.block (Sh3 R C) ⟨3, ![64, R, C]⟩ 0 8 c v ht)
    (h₁ : (⟨3, ![64, R, C]⟩ : Shape).ShapeCasts ⟨4, ![8, 8, R, C]⟩)
    (h₂ : (⟨4, ![8, 8, R, C]⟩ : Shape).Transposes [1, 0, 2, 3] ⟨4, ![8, 8, R, C]⟩)
    (h₃ : (⟨4, ![8, 8, R, C]⟩ : Shape).ShapeCasts ⟨3, ![64, R, C]⟩) (c : Dev 8) :
    (fun i : (Sh3 R C).Idx => f (partOf i) (at3 c (placeOf i)))
      = Layout.block (Sh3 R C) ⟨3, ![64, R, C]⟩ 0 8 c (shapeCast _ (transpose ⟨4, ![8, 8, R, C]⟩ [1, 0, 2, 3] (shapeCast _ v h₁) h₂) h₃) ht := by
  funext i
  rw [dealt_parts h₁ h₂ h₃ ht v c i]
  exact congrFun (hm (partOf i)) (at3 c (placeOf i))

end Cert.Exchange

end
-- ==== Proof.MatricesClaims.lean ====
/-
What is claimed of the gather of the matrices.
-/
module

public import proofs.«01_k».proof.Defs
public import proofs.«01_k».proof.Proof.Gen.GatherMatrices
public import proofs.«01_k».proof.Proof.Gen.GatherMatricesRef
public import proofs.«01_k».proof.Proof.Gen.GatherMatricesRefIdeal
public import proofs.«01_k».proof.Proof.Gen.GatherMatricesRef.Run
public import proofs.«01_k».proof.Proof.Gen.GatherMatricesRefIdeal.Run
public import proofs.«01_k».proof.Proof.Matrices
public import proofs.«01_k».proof.Proof.Blocks

@[expose] public section

noncomputable section

namespace Cert.Matrices

open Idealize.ShloMosaic Idealize.SL.Sem Cert.Exchange

/-- The idealized text is the program's own. -/
theorem same_defs : Cert.GatherMatrices.defs (F := Bits) = Cert.GatherMatricesIdeal.defs (F := Bits) := by
  chain_rfl

/-- The run, for the program itself, at the machine's floats. -/
theorem run_bits (m : (ℓ : Loc Cert.GatherMatrices.nD Cert.GatherMatrices.τ Cert.GatherMatrices.sig) → Buf (Elt Bits) ℓ) (g : Dev Cert.GatherMatrices.nD → PrngReg) :
    θ_run (Cert.GatherMatrices.defs (F := Bits)) (onTc (τ := Cert.GatherMatrices.τ) (Cert.GatherMatrices.main (F := Bits))) ⟨m, fun _ => 0, g⟩ (ends (F := Bits) m) := by
  rw [same_defs]
  exact run_main (F := Bits) m g

/-- The idealized program ends, its inputs as they were. -/
theorem frame_ideal : Cert.quiescent_GatherMatricesIdeal := fun m g _ =>
  (θ_run _ _ _).mono (fun _ h => ⟨fun c => ⟨h.1 c 0, h.1 c 1, h.1 c 2, h.1 c 3, h.1 c 4, h.1 c 5, h.1 c 6, h.1 c 7, h.1 c 8, h.1 c 9, h.1 c 10, h.1 c 11⟩, h.2.2⟩) (run_main (F := Ideal) m g)

/-- The program ends, its inputs as they were: the same run, at the machine's floats. -/
theorem frame_kernel : Cert.quiescent_GatherMatrices := fun m g _ =>
  (θ_run _ _ _).mono (fun _ h => ⟨fun c => ⟨h.1 c 0, h.1 c 1, h.1 c 2, h.1 c 3, h.1 c 4, h.1 c 5, h.1 c 6, h.1 c 7, h.1 c 8, h.1 c 9, h.1 c 10, h.1 c 11⟩, h.2.2⟩) (run_bits m g)

/-- The idealized reference ends, its inputs as they were. -/
theorem frame_ref_ideal : Cert.quiescent_GatherMatricesRefIdeal := fun m g _ =>
  (θ_run _ _ _).mono (fun r h => ⟨fun c => (h c).2.2.2.2.2.2.2.2.2.2.2.2, sem_eq_zero_of_no_sems (by decide) r.2⟩) (Cert.GatherMatricesRefIdeal.Value.run (F := Ideal) m g)

/-- The reference ends, its inputs as they were. -/
theorem frame_ref : Cert.quiescent_GatherMatricesRef := fun m g _ =>
  (θ_run _ _ _).mono (fun r h => ⟨fun c => (h c).2.2.2.2.2.2.2.2.2.2.2.2, sem_eq_zero_of_no_sems (by decide) r.2⟩) (Cert.GatherMatricesRef.Value.run (F := Bits) m g)

set_option maxHeartbeats 4000000 in
/-- The idealized programs agree. -/
theorem value : Cert.algebraic_GatherMatricesIdeal_GatherMatricesRefIdeal := by
  intro m g m' g' _ hm
  simp only [forall_and] at hm
  obtain ⟨e0, e1, e2, e3, e4, e5, e6, e7, e8, e9, e10, e11⟩ := hm
  exact ⟨_, _, _, _, _, _, _, _, _, _, _, _,
    (θ_run _ _ _).mono (fun _ h c => ⟨
      (h.2.1 c 0).trans (gathered_eq e0 (by decide)),
      (h.2.1 c 1).trans (gathered_eq e1 (by decide)),
      (h.2.1 c 2).trans (gathered_eq e2 (by decide)),
      (h.2.1 c 3).trans (gathered_eq e3 (by decide)),
      (h.2.1 c 4).trans (gathered_eq e4 (by decide)),
      (h.2.1 c 5).trans (gathered_eq e5 (by decide)),
      (h.2.1 c 6).trans (gathered_eq e6 (by decide)),
      (h.2.1 c 7).trans (gathered_eq e7 (by decide)),
      (h.2.1 c 8).trans (gathered_eq e8 (by decide)),
      (h.2.1 c 9).trans (gathered_eq e9 (by decide)),
      (h.2.1 c 10).trans (gathered_eq e10 (by decide)),
      (h.2.1 c 11).trans (gathered_eq e11 (by decide)),
      h.1 c 0, h.1 c 1, h.1 c 2, h.1 c 3, h.1 c 4, h.1 c 5, h.1 c 6, h.1 c 7, h.1 c 8, h.1 c 9, h.1 c 10, h.1 c 11⟩) (run_main (F := Ideal) m g),
    (θ_run _ _ _).mono (fun _ h => h 0) (Cert.GatherMatricesRefIdeal.Value.run (F := Ideal) m' g')⟩

set_option maxHeartbeats 4000000 in
/-- The programs agree, bit for bit. -/
theorem bits : Cert.bitexact_GatherMatrices_GatherMatricesRef := by
  intro m g m' g' _ hm
  simp only [forall_and] at hm
  obtain ⟨e0, e1, e2, e3, e4, e5, e6, e7, e8, e9, e10, e11⟩ := hm
  exact ⟨_, _, _, _, _, _, _, _, _, _, _, _,
    (θ_run _ _ _).mono (fun _ h c => ⟨
      (h.2.1 c 0).trans (gathered_eq e0 (by decide)),
      (h.2.1 c 1).trans (gathered_eq e1 (by decide)),
      (h.2.1 c 2).trans (gathered_eq e2 (by decide)),
      (h.2.1 c 3).trans (gathered_eq e3 (by decide)),
      (h.2.1 c 4).trans (gathered_eq e4 (by decide)),
      (h.2.1 c 5).trans (gathered_eq e5 (by decide)),
      (h.2.1 c 6).trans (gathered_eq e6 (by decide)),
      (h.2.1 c 7).trans (gathered_eq e7 (by decide)),
      (h.2.1 c 8).trans (gathered_eq e8 (by decide)),
      (h.2.1 c 9).trans (gathered_eq e9 (by decide)),
      (h.2.1 c 10).trans (gathered_eq e10 (by decide)),
      (h.2.1 c 11).trans (gathered_eq e11 (by decide)),
      h.1 c 0, h.1 c 1, h.1 c 2, h.1 c 3, h.1 c 4, h.1 c 5, h.1 c 6, h.1 c 7, h.1 c 8, h.1 c 9, h.1 c 10, h.1 c 11⟩) (run_bits m g),
    (θ_run _ _ _).mono (fun _ h => h 0) (Cert.GatherMatricesRef.Value.run (F := Bits) m' g')⟩

end Cert.Matrices

end
-- ==== Proof.Grads.lean ====
/-
The scatter of the matrices' gradients, over any float values.
-/
module

public import proofs.«01_k».proof.Proof.Kinds
public import proofs.«01_k».proof.Proof.Gen.ScatterGradsIdeal
public import proofs.«01_k».proof.Proof.Gen.ScatterGradsIdeal.Launch

@[expose] public section

set_option Elab.async false

noncomputable section

namespace Cert.Grads

open Cert.ScatterGradsIdeal Cert.ScatterGradsIdeal.Gen Cert.Exchange
open Idealize.ShloMosaic Idealize.ShloMosaic.Pipeline Idealize.SL Idealize.SL.Sem

variable {F : FTy → Type} [FloatOps F]

/-- The rows of an array's part. -/
abbrev R : Fin 12 → Nat := ![384, 256, 1376, 688, 64, 64, 384, 256, 1376, 688, 64, 64]
/-- Its columns. -/
abbrev C : Fin 12 → Nat := ![2048, 2048, 2048, 2048, 512, 512, 2048, 2048, 2048, 2048, 512, 512]

/-- The arrays sent. -/
abbrev inn : (a : Fin 12) → Memref sig .tc .hbm (Sh3 (R a) (C a)) .bf16
    | 0 => Memref.whole main_arg0
    | 1 => Memref.whole main_arg1
    | 2 => Memref.whole main_arg2
    | 3 => Memref.whole main_arg3
    | 4 => Memref.whole main_arg4
    | 5 => Memref.whole main_arg5
    | 6 => Memref.whole main_arg6
    | 7 => Memref.whole main_arg7
    | 8 => Memref.whole main_arg8
    | 9 => Memref.whole main_arg9
    | 10 => Memref.whole main_arg10
    | 11 => Memref.whole main_arg11

/-- The arrays filled. -/
abbrev out : (a : Fin 12) → Memref sig .tc .hbm (Sh3 (R a) (C a)) .bf16
    | 0 => Memref.whole main_v1_0
    | 1 => Memref.whole main_v1_1
    | 2 => Memref.whole main_v1_2
    | 3 => Memref.whole main_v1_3
    | 4 => Memref.whole main_v1_4
    | 5 => Memref.whole main_v1_5
    | 6 => Memref.whole main_v1_6
    | 7 => Memref.whole main_v1_7
    | 8 => Memref.whole main_v1_8
    | 9 => Memref.whole main_v1_9
    | 10 => Memref.whole main_v1_10
    | 11 => Memref.whole main_v1_11

theorem sq : ∀ a, (Sh1 (R a) (C a)).Squeezes (Sh2 (R a) (C a)) := by decide +kernel

theorem inb12 : ∀ a : Fin 12, ∀ x, (![a.val] : Fin 1 → Nat) x + S1.size x ≤ S12.size x := by decide
theorem inb84 : ∀ (a : Fin 12) (k : Fin 7), ∀ x, (![a.val, k.val] : Fin 2 → Nat) x + S1x1.size x ≤ S12x7.size x := by decide

/-- The semaphores, as the kernel names them. -/
abbrev semOf : Cell 12 → DmaSem sig
  | (a, .inl none) => ((cc0_scratch2.slice (Rect.unit (s := S12) ![a.val] S1.size (inb12 a))).squeeze S_ squeezes_S1_S_).sem
  | (a, .inl (some k)) => ((cc0_scratch0.slice (Rect.unit (s := S12x7) ![a.val, k.val] S1x1.size (inb84 a k))).squeeze S_ squeezes_S1x1_S_).sem
  | (a, .inr k) => ((cc0_scratch1.slice (Rect.unit (s := S12x7) ![a.val, k.val] S1x1.size (inb84 a k))).squeeze S_ squeezes_S1x1_S_).sem

/-- A device's own part is whole words, in every array. -/
theorem mine_words : ∀ (a : Fin 12) (d : Dev 8),
    (Rect.unit (s := Sh3 (R a) (C a)) (offMine d) (Sh1 (R a) (C a)).size (offMine_inb (R a) (C a) d)).WholeWords (EltTy.packing .bf16) := by
  decide +kernel

/-- Another device's part is whole words, in every array. -/
theorem peer_words : ∀ (a : Fin 12) (k : Fin 7) (d : Dev 8),
    (Rect.unit (s := Sh3 (R a) (C a)) (offPeer k d) (Sh1 (R a) (C a)).size (offPeer_inb (R a) (C a) k d)).WholeWords (EltTy.packing .bf16) := by
  decide +kernel

/-- The exchange. -/
def G : Scatter sig 12 where
  R := R
  C := C
  e := .bf16
  sq := sq
  out := out
  out_whole a := by fin_cases a <;> exact View.set_whole _
  out_sc a := by fin_cases a <;> rfl
  out_exact a d := by fin_cases a <;> exact ((Memref.isWhole_whole _).wordExact_slice rfl _ (mine_words _ d)).reshape _ _
  sem := semOf
  sem_inj := by decide +kernel
  amt a := (slotAt (out a) (sq a) (offMine 0) (offMine_inb (R a) (C a) 0)).view.dmaCredit
  amt_pos a := by fin_cases a <;> exact View.dmaCredit_pos _ (by decide)
  out_amt a d := by fin_cases a <;> rfl
  inn := inn
  in_whole a := by fin_cases a <;> exact View.set_whole _
  mine_exact a d := by fin_cases a <;> exact ((Memref.isWhole_whole _).wordExact_slice rfl _ (mine_words _ d)).reshape _ _
  peer_exact a k d := by fin_cases a <;> exact ((Memref.isWhole_whole _).wordExact_slice rfl _ (peer_words _ k d)).reshape _ _
  mine_amt a d := by fin_cases a <;> rfl
  peer_amt a k d := by fin_cases a <;> rfl

/-- The arrays in order. -/
abbrev arrays : List (Fin 12) := [0, 1, 2, 3, 4, 5, 6, 7, 8, 9, 10, 11]

/-- The kernel is the exchange's program. -/
theorem body_eq : cc0_scatter_matrix_grads (F := F)
    (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _)
    (Memref.whole main_arg6) (Memref.isWhole_whole _) (Memref.whole main_arg7) (Memref.isWhole_whole _) (Memref.whole main_arg8) (Memref.isWhole_whole _) (Memref.whole main_arg9) (Memref.isWhole_whole _) (Memref.whole main_arg10) (Memref.isWhole_whole _) (Memref.whole main_arg11) (Memref.isWhole_whole _)
    (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _)
    (Memref.whole main_v1_6) (Memref.isWhole_whole _) (Memref.whole main_v1_7) (Memref.isWhole_whole _) (Memref.whole main_v1_8) (Memref.isWhole_whole _) (Memref.whole main_v1_9) (Memref.isWhole_whole _) (Memref.whole main_v1_10) (Memref.isWhole_whole _) (Memref.whole main_v1_11) (Memref.isWhole_whole _)
    cc0_scratch0 cc0_scratch1 cc0_scratch2 = prog G.net.start G.net.wait (starts arrays) (waits arrays) := by
  chain_rfl

/-- What every device's results hold in the end. -/
abbrev scattered (m : (ℓ : Loc nD τ sig) → Buf (Elt F) ℓ) : (a : Fin 12) → (c : Dev 8) → Buf (Elt F) ((out a).view.loc (c.tc : Thread nD τ))
  | 0 => fun c i => m (((partOf i).tc : Thread nD τ).loc main_arg0) (at3 c (placeOf i))
  | 1 => fun c i => m (((partOf i).tc : Thread nD τ).loc main_arg1) (at3 c (placeOf i))
  | 2 => fun c i => m (((partOf i).tc : Thread nD τ).loc main_arg2) (at3 c (placeOf i))
  | 3 => fun c i => m (((partOf i).tc : Thread nD τ).loc main_arg3) (at3 c (placeOf i))
  | 4 => fun c i => m (((partOf i).tc : Thread nD τ).loc main_arg4) (at3 c (placeOf i))
  | 5 => fun c i => m (((partOf i).tc : Thread nD τ).loc main_arg5) (at3 c (placeOf i))
  | 6 => fun c i => m (((partOf i).tc : Thread nD τ).loc main_arg6) (at3 c (placeOf i))
  | 7 => fun c i => m (((partOf i).tc : Thread nD τ).loc main_arg7) (at3 c (placeOf i))
  | 8 => fun c i => m (((partOf i).tc : Thread nD τ).loc main_arg8) (at3 c (placeOf i))
  | 9 => fun c i => m (((partOf i).tc : Thread nD τ).loc main_arg9) (at3 c (placeOf i))
  | 10 => fun c i => m (((partOf i).tc : Thread nD τ).loc main_arg10) (at3 c (placeOf i))
  | 11 => fun c i => m (((partOf i).tc : Thread nD τ).loc main_arg11) (at3 c (placeOf i))

abbrev refs : Net.Refs sig 12 where
  inR a := (inn a).view.ref
  outR a := (out a).view.ref
  all := by decide +kernel
  in_inj := by decide +kernel
  out_inj := by decide +kernel
  apart := by decide +kernel

/-- How the program ends: the arrays sent as they began, the arrays filled holding the parts, every semaphore at zero. -/
abbrev ends (m : (ℓ : Loc nD τ sig) → Buf (Elt F) ℓ) (r : PUnit × MemSt nD τ sig (Elt F)) : Prop :=
  (∀ (c : Dev nD) a, r.2.mem ((inn a).view.loc (c.tc : Thread nD τ)) = m ((inn a).view.loc (c.tc : Thread nD τ)))
    ∧ (∀ (c : Dev nD) a, r.2.mem ((out a).view.loc (c.tc : Thread nD τ)) = scattered m a c)
    ∧ r.2.sem = fun _ => 0

/-- The program runs on every device, and ends so. -/
theorem run_main (m : (ℓ : Loc nD τ sig) → Buf (Elt F) ℓ) (g : Dev nD → PrngReg) :
    θ_run (defs (F := F)) (onTc (τ := τ) (main (F := F))) ⟨m, fun _ => 0, g⟩ (ends m) := by
  refine (θ_run _ _ _).mono (fun r h => ⟨h.1, h.2.1, sem_eq_zero_of_scoped (by decide +kernel) h.2.2⟩)
    (Scatter.run (pcs := pcfgs (F := F)) (a := fun _ p => (cfgs p).toPCfg_adm) (fun x => x.2.2.1.elim0) Variants.none 0 (by decide)
      (ss := starts arrays) (ws := waits arrays)
      (by decide +kernel) (by decide +kernel) (by decide +kernel) (by decide +kernel)
      (fun _ p => by fin_cases p; exact inferInstanceAs (IsEmpty (Fin 0))) (fun _ => N_0) (inferInstanceAs (IsEmpty (Fin 0)))
      m g G (fun c t Φ => ?_) (by decide +kernel) refs (fun _ => rfl) (fun _ => rfl) (scattered m) (fun a c i => by fin_cases a <;> rfl))
  exact BI.BIBase.Entails.of_eq (by rw [← body_eq]; chain_rfl)

end Cert.Grads

end
-- ==== Proof.GradsClaims.lean ====
/-
What is claimed of the scatter of the matrices' gradients.
-/
module

public import proofs.«01_k».proof.Defs
public import proofs.«01_k».proof.Proof.Gen.ScatterGrads
public import proofs.«01_k».proof.Proof.Gen.ScatterGradsRef
public import proofs.«01_k».proof.Proof.Gen.ScatterGradsRefIdeal
public import proofs.«01_k».proof.Proof.Gen.ScatterGradsRef.Run
public import proofs.«01_k».proof.Proof.Gen.ScatterGradsRefIdeal.Run
public import proofs.«01_k».proof.Proof.Grads
public import proofs.«01_k».proof.Proof.Blocks

@[expose] public section

noncomputable section

namespace Cert.Grads

open Idealize.ShloMosaic Idealize.SL.Sem Cert.Exchange

/-- The idealized text is the program's own. -/
theorem same_defs : Cert.ScatterGrads.defs (F := Bits) = Cert.ScatterGradsIdeal.defs (F := Bits) := by
  chain_rfl

/-- The run, for the program itself, at the machine's floats. -/
theorem run_bits (m : (ℓ : Loc Cert.ScatterGrads.nD Cert.ScatterGrads.τ Cert.ScatterGrads.sig) → Buf (Elt Bits) ℓ) (g : Dev Cert.ScatterGrads.nD → PrngReg) :
    θ_run (Cert.ScatterGrads.defs (F := Bits)) (onTc (τ := Cert.ScatterGrads.τ) (Cert.ScatterGrads.main (F := Bits))) ⟨m, fun _ => 0, g⟩ (ends (F := Bits) m) := by
  rw [same_defs]
  exact run_main (F := Bits) m g

/-- The idealized program ends, its inputs as they were. -/
theorem frame_ideal : Cert.quiescent_ScatterGradsIdeal := fun m g _ =>
  (θ_run _ _ _).mono (fun _ h => ⟨fun c => ⟨h.1 c 0, h.1 c 1, h.1 c 2, h.1 c 3, h.1 c 4, h.1 c 5, h.1 c 6, h.1 c 7, h.1 c 8, h.1 c 9, h.1 c 10, h.1 c 11⟩, h.2.2⟩) (run_main (F := Ideal) m g)

/-- The program ends, its inputs as they were: the same run, at the machine's floats. -/
theorem frame_kernel : Cert.quiescent_ScatterGrads := fun m g _ =>
  (θ_run _ _ _).mono (fun _ h => ⟨fun c => ⟨h.1 c 0, h.1 c 1, h.1 c 2, h.1 c 3, h.1 c 4, h.1 c 5, h.1 c 6, h.1 c 7, h.1 c 8, h.1 c 9, h.1 c 10, h.1 c 11⟩, h.2.2⟩) (run_bits m g)

/-- The idealized reference ends, its inputs as they were. -/
theorem frame_ref_ideal : Cert.quiescent_ScatterGradsRefIdeal := fun m g _ =>
  (θ_run _ _ _).mono (fun r h => ⟨fun c => (h c).2.2.2.2.2.2.2.2.2.2.2.2, sem_eq_zero_of_no_sems (by decide) r.2⟩) (Cert.ScatterGradsRefIdeal.Value.run (F := Ideal) m g)

/-- The reference ends, its inputs as they were. -/
theorem frame_ref : Cert.quiescent_ScatterGradsRef := fun m g _ =>
  (θ_run _ _ _).mono (fun r h => ⟨fun c => (h c).2.2.2.2.2.2.2.2.2.2.2.2, sem_eq_zero_of_no_sems (by decide) r.2⟩) (Cert.ScatterGradsRef.Value.run (F := Bits) m g)

set_option maxHeartbeats 4000000 in
/-- The idealized programs agree. -/
theorem value : Cert.algebraic_ScatterGradsIdeal_ScatterGradsRefIdeal := by
  intro m g m' g' _ hm
  simp only [forall_and] at hm
  obtain ⟨e0, e1, e2, e3, e4, e5, e6, e7, e8, e9, e10, e11⟩ := hm
  exact ⟨_, _, _, _, _, _, _, _, _, _, _, _,
    (θ_run _ _ _).mono (fun _ h c => ⟨
      (h.2.1 c 0).trans (scattered_eq e0 (by decide) (by decide) (by decide) c),
      (h.2.1 c 1).trans (scattered_eq e1 (by decide) (by decide) (by decide) c),
      (h.2.1 c 2).trans (scattered_eq e2 (by decide) (by decide) (by decide) c),
      (h.2.1 c 3).trans (scattered_eq e3 (by decide) (by decide) (by decide) c),
      (h.2.1 c 4).trans (scattered_eq e4 (by decide) (by decide) (by decide) c),
      (h.2.1 c 5).trans (scattered_eq e5 (by decide) (by decide) (by decide) c),
      (h.2.1 c 6).trans (scattered_eq e6 (by decide) (by decide) (by decide) c),
      (h.2.1 c 7).trans (scattered_eq e7 (by decide) (by decide) (by decide) c),
      (h.2.1 c 8).trans (scattered_eq e8 (by decide) (by decide) (by decide) c),
      (h.2.1 c 9).trans (scattered_eq e9 (by decide) (by decide) (by decide) c),
      (h.2.1 c 10).trans (scattered_eq e10 (by decide) (by decide) (by decide) c),
      (h.2.1 c 11).trans (scattered_eq e11 (by decide) (by decide) (by decide) c),
      h.1 c 0, h.1 c 1, h.1 c 2, h.1 c 3, h.1 c 4, h.1 c 5, h.1 c 6, h.1 c 7, h.1 c 8, h.1 c 9, h.1 c 10, h.1 c 11⟩) (run_main (F := Ideal) m g),
    (θ_run _ _ _).mono (fun _ h => h 0) (Cert.ScatterGradsRefIdeal.Value.run (F := Ideal) m' g')⟩

set_option maxHeartbeats 4000000 in
/-- The programs agree, bit for bit. -/
theorem bits : Cert.bitexact_ScatterGrads_ScatterGradsRef := by
  intro m g m' g' _ hm
  simp only [forall_and] at hm
  obtain ⟨e0, e1, e2, e3, e4, e5, e6, e7, e8, e9, e10, e11⟩ := hm
  exact ⟨_, _, _, _, _, _, _, _, _, _, _, _,
    (θ_run _ _ _).mono (fun _ h c => ⟨
      (h.2.1 c 0).trans (scattered_eq e0 (by decide) (by decide) (by decide) c),
      (h.2.1 c 1).trans (scattered_eq e1 (by decide) (by decide) (by decide) c),
      (h.2.1 c 2).trans (scattered_eq e2 (by decide) (by decide) (by decide) c),
      (h.2.1 c 3).trans (scattered_eq e3 (by decide) (by decide) (by decide) c),
      (h.2.1 c 4).trans (scattered_eq e4 (by decide) (by decide) (by decide) c),
      (h.2.1 c 5).trans (scattered_eq e5 (by decide) (by decide) (by decide) c),
      (h.2.1 c 6).trans (scattered_eq e6 (by decide) (by decide) (by decide) c),
      (h.2.1 c 7).trans (scattered_eq e7 (by decide) (by decide) (by decide) c),
      (h.2.1 c 8).trans (scattered_eq e8 (by decide) (by decide) (by decide) c),
      (h.2.1 c 9).trans (scattered_eq e9 (by decide) (by decide) (by decide) c),
      (h.2.1 c 10).trans (scattered_eq e10 (by decide) (by decide) (by decide) c),
      (h.2.1 c 11).trans (scattered_eq e11 (by decide) (by decide) (by decide) c),
      h.1 c 0, h.1 c 1, h.1 c 2, h.1 c 3, h.1 c 4, h.1 c 5, h.1 c 6, h.1 c 7, h.1 c 8, h.1 c 9, h.1 c 10, h.1 c 11⟩) (run_bits m g),
    (θ_run _ _ _).mono (fun _ h => h 0) (Cert.ScatterGradsRef.Value.run (F := Bits) m' g')⟩

end Cert.Grads

end
-- ==== Proof.Small.lean ====
/-
The gather of the small gradients, over any float values.
-/
module

public import proofs.«01_k».proof.Proof.Kinds
public import proofs.«01_k».proof.Proof.Gen.GatherSmallIdeal
public import proofs.«01_k».proof.Proof.Gen.GatherSmallIdeal.Launch

@[expose] public section

set_option Elab.async false

noncomputable section

namespace Cert.Small

open Cert.GatherSmallIdeal Cert.GatherSmallIdeal.Gen Cert.Exchange
open Idealize.ShloMosaic Idealize.ShloMosaic.Pipeline Idealize.SL Idealize.SL.Sem

variable {F : FTy → Type} [FloatOps F]

abbrev R : Nat := 4960
abbrev C : Nat := 128

theorem inb7 : ∀ k : Fin 7, ∀ a, (![0, k.val] : Fin 2 → Nat) a + S1x1.size a ≤ S1x7.size a := by decide

/-- The semaphores, as the kernel names them. -/
abbrev semOf : Cell 1 → DmaSem sig
  | (_, .inl none) => ((cc0_scratch2.slice (Rect.unit (s := S1) ![0] S1.size inb_S1_S1_0)).squeeze S_ squeezes_S1_S_).sem
  | (_, .inl (some k)) => ((cc0_scratch0.slice (Rect.unit (s := S1x7) ![0, k.val] S1x1.size (inb7 k))).squeeze S_ squeezes_S1x1_S_).sem
  | (_, .inr k) => ((cc0_scratch1.slice (Rect.unit (s := S1x7) ![0, k.val] S1x1.size (inb7 k))).squeeze S_ squeezes_S1x1_S_).sem

/-- The gather. -/
def G : Gather sig 1 where
  R _ := R
  C _ := C
  e := .f32
  sq _ := by decide
  out _ := Memref.whole main_v1
  out_whole _ := View.set_whole _
  out_sc _ := rfl
  out_exact _ _ := View.wordExact_bits rfl
  sem := semOf
  sem_inj := by decide
  amt _ := (View.whole main_arg0).dmaCredit
  amt_pos _ := View.dmaCredit_pos _ (by decide)
  out_amt _ _ := rfl
  inn _ := Memref.whole main_arg0
  in_whole _ := View.set_whole _
  in_exact _ := View.wordExact_bits rfl
  in_amt _ := rfl

/-- The kernel is the exchange's program. -/
theorem body_eq : cc0_gather_small_grads (F := F) (Memref.whole main_arg0) (Memref.isWhole_whole _) (Memref.whole main_v1) (Memref.isWhole_whole _)
    cc0_scratch0 cc0_scratch1 cc0_scratch2 = prog G.net.start G.net.wait (starts [0]) (waits [0]) := by
  chain_rfl

/-- What every device's result holds in the end. -/
abbrev gathered (m : (ℓ : Loc nD τ sig) → Buf (Elt F) ℓ) (c : Dev nD) : Buf (Elt F) ((c.tc : Thread nD τ).loc main_v1) :=
  fun i => m (((partOf i).tc : Thread nD τ).loc main_arg0) (placeOf i)

abbrev refs : Net.Refs sig 1 where
  inR _ := main_arg0
  outR _ := main_v1
  all := by decide
  in_inj := by decide
  out_inj := by decide
  apart := by decide

/-- How the program ends: the array sent as it began, the array filled holding the parts, every semaphore at zero. -/
abbrev ends (m : (ℓ : Loc nD τ sig) → Buf (Elt F) ℓ) (r : PUnit × MemSt nD τ sig (Elt F)) : Prop :=
  (∀ c : Dev nD, r.2.mem ((c.tc : Thread nD τ).loc main_arg0) = m ((c.tc : Thread nD τ).loc main_arg0))
    ∧ (∀ c : Dev nD, r.2.mem ((c.tc : Thread nD τ).loc main_v1) = gathered m c)
    ∧ r.2.sem = fun _ => 0

/-- The program runs on every device, and ends so. -/
theorem run_main (m : (ℓ : Loc nD τ sig) → Buf (Elt F) ℓ) (g : Dev nD → PrngReg) :
    θ_run (defs (F := F)) (onTc (τ := τ) (main (F := F))) ⟨m, fun _ => 0, g⟩ (ends m) := by
  refine (θ_run _ _ _).mono (fun r h => ⟨fun c => h.1 c 0, fun c => h.2.1 c 0, sem_eq_zero_of_scoped (by decide) h.2.2⟩)
    (Gather.run (pcs := pcfgs (F := F)) (a := fun _ p => (cfgs p).toPCfg_adm) (fun x => x.2.2.1.elim0) Variants.none 0 (by decide) (ss := starts [0]) (ws := waits [0])
      (by decide) (by decide) (by decide) (by decide) (fun _ p => by fin_cases p; exact inferInstanceAs (IsEmpty (Fin 0))) (fun _ => N_0) (inferInstanceAs (IsEmpty (Fin 0)))
      m g G (fun c t Φ => ?_) (by decide) refs (fun _ => rfl) (fun _ => rfl) (fun _ c => gathered m c) (fun _ c i => rfl))
  exact BI.BIBase.Entails.of_eq (by rw [← body_eq]; rfl)

end Cert.Small

end
-- ==== Proof.SmallClaims.lean ====
/-
What is claimed of the gather of the small gradients.
-/
module

public import proofs.«01_k».proof.Defs
public import proofs.«01_k».proof.Proof.Gen.GatherSmall
public import proofs.«01_k».proof.Proof.Gen.GatherSmallRef
public import proofs.«01_k».proof.Proof.Gen.GatherSmallRefIdeal
public import proofs.«01_k».proof.Proof.Gen.GatherSmallRef.Run
public import proofs.«01_k».proof.Proof.Gen.GatherSmallRefIdeal.Run
public import proofs.«01_k».proof.Proof.Small
public import proofs.«01_k».proof.Proof.Blocks

@[expose] public section

noncomputable section

namespace Cert.Small

open Idealize.ShloMosaic Idealize.SL.Sem Cert.Exchange

/-- The idealized text is the program's own. -/
theorem same_defs : Cert.GatherSmall.defs (F := Bits) = Cert.GatherSmallIdeal.defs (F := Bits) := by
  chain_rfl

/-- The run, for the program itself, at the machine's floats. -/
theorem run_bits (m : (ℓ : Loc Cert.GatherSmall.nD Cert.GatherSmall.τ Cert.GatherSmall.sig) → Buf (Elt Bits) ℓ) (g : Dev Cert.GatherSmall.nD → PrngReg) :
    θ_run (Cert.GatherSmall.defs (F := Bits)) (onTc (τ := Cert.GatherSmall.τ) (Cert.GatherSmall.main (F := Bits))) ⟨m, fun _ => 0, g⟩ (ends (F := Bits) m) := by
  rw [same_defs]
  exact run_main (F := Bits) m g

/-- The idealized program ends, its inputs as they were. -/
theorem frame_ideal : Cert.quiescent_GatherSmallIdeal := fun m g _ =>
  (θ_run _ _ _).mono (fun _ h => ⟨h.1, h.2.2⟩) (run_main (F := Ideal) m g)

/-- The program ends, its inputs as they were: the same run, at the machine's floats. -/
theorem frame_kernel : Cert.quiescent_GatherSmall := fun m g _ =>
  (θ_run _ _ _).mono (fun _ h => ⟨h.1, h.2.2⟩) (run_bits m g)

/-- The idealized reference ends, its inputs as they were. -/
theorem frame_ref_ideal : Cert.quiescent_GatherSmallRefIdeal := fun m g _ =>
  (θ_run _ _ _).mono (fun r h => ⟨fun c => (h c).2, sem_eq_zero_of_no_sems (by decide) r.2⟩) (Cert.GatherSmallRefIdeal.Value.run (F := Ideal) m g)

/-- The reference ends, its inputs as they were. -/
theorem frame_ref : Cert.quiescent_GatherSmallRef := fun m g _ =>
  (θ_run _ _ _).mono (fun r h => ⟨fun c => (h c).2, sem_eq_zero_of_no_sems (by decide) r.2⟩) (Cert.GatherSmallRef.Value.run (F := Bits) m g)

set_option maxHeartbeats 4000000 in
/-- The idealized programs agree. -/
theorem value : Cert.algebraic_GatherSmallIdeal_GatherSmallRefIdeal := by
  intro m g m' g' _ hm
  exact ⟨_,
    (θ_run _ _ _).mono (fun _ h c => ⟨
      (h.2.1 c).trans (gathered_eq hm (by decide)),
      h.1 c⟩) (run_main (F := Ideal) m g),
    (θ_run _ _ _).mono (fun _ h => h 0) (Cert.GatherSmallRefIdeal.Value.run (F := Ideal) m' g')⟩

set_option maxHeartbeats 4000000 in
/-- The programs agree, bit for bit. -/
theorem bits : Cert.bitexact_GatherSmall_GatherSmallRef := by
  intro m g m' g' _ hm
  exact ⟨_,
    (θ_run _ _ _).mono (fun _ h c => ⟨
      (h.2.1 c).trans (gathered_eq hm (by decide)),
      h.1 c⟩) (run_bits m g),
    (θ_run _ _ _).mono (fun _ h => h 0) (Cert.GatherSmallRef.Value.run (F := Bits) m' g')⟩

end Cert.Small

end
-- ==== Proof.Taps.lean ====
/-
The gather of the packed column-sharded weights, over any float values.
-/
module

public import proofs.«01_k».proof.Proof.Kinds
public import proofs.«01_k».proof.Proof.Gen.GatherTapsIdeal
public import proofs.«01_k».proof.Proof.Gen.GatherTapsIdeal.Launch

@[expose] public section

set_option Elab.async false

noncomputable section

namespace Cert.Taps

open Cert.GatherTapsIdeal Cert.GatherTapsIdeal.Gen Cert.Exchange
open Idealize.ShloMosaic Idealize.ShloMosaic.Pipeline Idealize.SL Idealize.SL.Sem

variable {F : FTy → Type} [FloatOps F]

abbrev R : Nat := 72
abbrev C : Nat := 128

theorem inb7 : ∀ k : Fin 7, ∀ a, (![0, k.val] : Fin 2 → Nat) a + S1x1.size a ≤ S1x7.size a := by decide

/-- The semaphores, as the kernel names them. -/
abbrev semOf : Cell 1 → DmaSem sig
  | (_, .inl none) => ((cc0_scratch2.slice (Rect.unit (s := S1) ![0] S1.size inb_S1_S1_0)).squeeze S_ squeezes_S1_S_).sem
  | (_, .inl (some k)) => ((cc0_scratch0.slice (Rect.unit (s := S1x7) ![0, k.val] S1x1.size (inb7 k))).squeeze S_ squeezes_S1x1_S_).sem
  | (_, .inr k) => ((cc0_scratch1.slice (Rect.unit (s := S1x7) ![0, k.val] S1x1.size (inb7 k))).squeeze S_ squeezes_S1x1_S_).sem

/-- The gather. -/
def G : Gather sig 1 where
  R _ := R
  C _ := C
  e := .f32
  sq _ := by decide
  out _ := Memref.whole main_v1
  out_whole _ := View.set_whole _
  out_sc _ := rfl
  out_exact _ _ := View.wordExact_bits rfl
  sem := semOf
  sem_inj := by decide
  amt _ := (View.whole main_arg0).dmaCredit
  amt_pos _ := View.dmaCredit_pos _ (by decide)
  out_amt _ _ := rfl
  inn _ := Memref.whole main_arg0
  in_whole _ := View.set_whole _
  in_exact _ := View.wordExact_bits rfl
  in_amt _ := rfl

/-- The kernel is the exchange's program. -/
theorem body_eq : cc0_gather_taps (F := F) (Memref.whole main_arg0) (Memref.isWhole_whole _) (Memref.whole main_v1) (Memref.isWhole_whole _)
    cc0_scratch0 cc0_scratch1 cc0_scratch2 = prog G.net.start G.net.wait (starts [0]) (waits [0]) := by
  chain_rfl

/-- What every device's result holds in the end. -/
abbrev gathered (m : (ℓ : Loc nD τ sig) → Buf (Elt F) ℓ) (c : Dev nD) : Buf (Elt F) ((c.tc : Thread nD τ).loc main_v1) :=
  fun i => m (((partOf i).tc : Thread nD τ).loc main_arg0) (placeOf i)

abbrev refs : Net.Refs sig 1 where
  inR _ := main_arg0
  outR _ := main_v1
  all := by decide
  in_inj := by decide
  out_inj := by decide
  apart := by decide

/-- How the program ends: the array sent as it began, the array filled holding the parts, every semaphore at zero. -/
abbrev ends (m : (ℓ : Loc nD τ sig) → Buf (Elt F) ℓ) (r : PUnit × MemSt nD τ sig (Elt F)) : Prop :=
  (∀ c : Dev nD, r.2.mem ((c.tc : Thread nD τ).loc main_arg0) = m ((c.tc : Thread nD τ).loc main_arg0))
    ∧ (∀ c : Dev nD, r.2.mem ((c.tc : Thread nD τ).loc main_v1) = gathered m c)
    ∧ r.2.sem = fun _ => 0

/-- The program runs on every device, and ends so. -/
theorem run_main (m : (ℓ : Loc nD τ sig) → Buf (Elt F) ℓ) (g : Dev nD → PrngReg) :
    θ_run (defs (F := F)) (onTc (τ := τ) (main (F := F))) ⟨m, fun _ => 0, g⟩ (ends m) := by
  refine (θ_run _ _ _).mono (fun r h => ⟨fun c => h.1 c 0, fun c => h.2.1 c 0, sem_eq_zero_of_scoped (by decide) h.2.2⟩)
    (Gather.run (pcs := pcfgs (F := F)) (a := fun _ p => (cfgs p).toPCfg_adm) (fun x => x.2.2.1.elim0) Variants.none 0 (by decide) (ss := starts [0]) (ws := waits [0])
      (by decide) (by decide) (by decide) (by decide) (fun _ p => by fin_cases p; exact inferInstanceAs (IsEmpty (Fin 0))) (fun _ => N_0) (inferInstanceAs (IsEmpty (Fin 0)))
      m g G (fun c t Φ => ?_) (by decide) refs (fun _ => rfl) (fun _ => rfl) (fun _ c => gathered m c) (fun _ c i => rfl))
  exact BI.BIBase.Entails.of_eq (by rw [← body_eq]; rfl)

end Cert.Taps

end
-- ==== Proof.TapsClaims.lean ====
/-
What is claimed of the gather of the packed column-sharded weights.
-/
module

public import proofs.«01_k».proof.Defs
public import proofs.«01_k».proof.Proof.Gen.GatherTaps
public import proofs.«01_k».proof.Proof.Gen.GatherTapsRef
public import proofs.«01_k».proof.Proof.Gen.GatherTapsRefIdeal
public import proofs.«01_k».proof.Proof.Gen.GatherTapsRef.Run
public import proofs.«01_k».proof.Proof.Gen.GatherTapsRefIdeal.Run
public import proofs.«01_k».proof.Proof.Taps
public import proofs.«01_k».proof.Proof.Blocks

@[expose] public section

noncomputable section

namespace Cert.Taps

open Idealize.ShloMosaic Idealize.SL.Sem Cert.Exchange

/-- The idealized text is the program's own. -/
theorem same_defs : Cert.GatherTaps.defs (F := Bits) = Cert.GatherTapsIdeal.defs (F := Bits) := by
  chain_rfl

/-- The run, for the program itself, at the machine's floats. -/
theorem run_bits (m : (ℓ : Loc Cert.GatherTaps.nD Cert.GatherTaps.τ Cert.GatherTaps.sig) → Buf (Elt Bits) ℓ) (g : Dev Cert.GatherTaps.nD → PrngReg) :
    θ_run (Cert.GatherTaps.defs (F := Bits)) (onTc (τ := Cert.GatherTaps.τ) (Cert.GatherTaps.main (F := Bits))) ⟨m, fun _ => 0, g⟩ (ends (F := Bits) m) := by
  rw [same_defs]
  exact run_main (F := Bits) m g

/-- The idealized program ends, its inputs as they were. -/
theorem frame_ideal : Cert.quiescent_GatherTapsIdeal := fun m g _ =>
  (θ_run _ _ _).mono (fun _ h => ⟨h.1, h.2.2⟩) (run_main (F := Ideal) m g)

/-- The program ends, its inputs as they were: the same run, at the machine's floats. -/
theorem frame_kernel : Cert.quiescent_GatherTaps := fun m g _ =>
  (θ_run _ _ _).mono (fun _ h => ⟨h.1, h.2.2⟩) (run_bits m g)

/-- The idealized reference ends, its inputs as they were. -/
theorem frame_ref_ideal : Cert.quiescent_GatherTapsRefIdeal := fun m g _ =>
  (θ_run _ _ _).mono (fun r h => ⟨fun c => (h c).2, sem_eq_zero_of_no_sems (by decide) r.2⟩) (Cert.GatherTapsRefIdeal.Value.run (F := Ideal) m g)

/-- The reference ends, its inputs as they were. -/
theorem frame_ref : Cert.quiescent_GatherTapsRef := fun m g _ =>
  (θ_run _ _ _).mono (fun r h => ⟨fun c => (h c).2, sem_eq_zero_of_no_sems (by decide) r.2⟩) (Cert.GatherTapsRef.Value.run (F := Bits) m g)

set_option maxHeartbeats 4000000 in
/-- The idealized programs agree. -/
theorem value : Cert.algebraic_GatherTapsIdeal_GatherTapsRefIdeal := by
  intro m g m' g' _ hm
  exact ⟨_,
    (θ_run _ _ _).mono (fun _ h c => ⟨
      (h.2.1 c).trans (gathered_eq hm (by decide)),
      h.1 c⟩) (run_main (F := Ideal) m g),
    (θ_run _ _ _).mono (fun _ h => h 0) (Cert.GatherTapsRefIdeal.Value.run (F := Ideal) m' g')⟩

set_option maxHeartbeats 4000000 in
/-- The programs agree, bit for bit. -/
theorem bits : Cert.bitexact_GatherTaps_GatherTapsRef := by
  intro m g m' g' _ hm
  exact ⟨_,
    (θ_run _ _ _).mono (fun _ h c => ⟨
      (h.2.1 c).trans (gathered_eq hm (by decide)),
      h.1 c⟩) (run_bits m g),
    (θ_run _ _ _).mono (fun _ h => h 0) (Cert.GatherTapsRef.Value.run (F := Bits) m' g')⟩

end Cert.Taps

end
-- ==== Proof.AdamwOutClaims.lean ====
/-
What is claimed of the sum of the devices' parts of `w_out`'s gradient and its AdamW step.
-/
module

public import proofs.«01_k».proof.Defs
public import proofs.«01_k».proof.Proof.Gen.AdamwOut.Frame
public import proofs.«01_k».proof.Proof.Gen.AdamwOutIdeal.Value
public import proofs.«01_k».proof.Proof.Gen.AdamwOutRefIdeal.Run
public import proofs.«01_k».proof.Proof.Blocks
public import Idealize.ShloMosaic.Lib.Pipeline.ValueKit
public import Idealize.ShloMosaic.Lib.Pointwise

/-!
The AdamW step of the output projection, fed with eight parts of its gradient.

The kernel takes a band of rows of all eight slabs at a time, adds the slabs from the first to the
last, and steps the same rows of the weights and of both moments. The reference sums over the first
axis and steps the whole arrays. Over the extended reals both sums are of the same eight elements
at each place, and the step after it is the same tree of operations of the same elements.
-/

@[expose] public section

noncomputable section

namespace Cert.StepOut

open Idealize.ShloMosaic Idealize.SL.Sem Cert.Exchange

section Block

open Cert.AdamwOutIdeal Cert.AdamwOutIdeal.Gen

/-- The blocks move with the grid point alike: row band `t` of the parts, of the weights, of both
    moments and of each result. -/
theorem together : ∀ t : Fin cfg0.N,
    win0_0.index t = ![0, win0_4.index t 0, 0] ∧ win0_4.index t 1 = 0
      ∧ win0_1.index t = win0_4.index t ∧ win0_2.index t = win0_4.index t ∧ win0_3.index t = win0_4.index t
      ∧ win0_5.index t = win0_4.index t ∧ win0_6.index t = win0_4.index t ∧ win0_7.index t = win0_4.index t :=
  (by decide +kernel : ∀ t : Fin grid0.N, _)

/-- A place of a block of each of the three other results is the same place of the array as it is
    in a block of the first. -/
theorem place (t : Fin cfg0.N) (y : S256x2048.Idx) :
    ((cfg0.win 4).blk t).view.emb y = ((cfg0.win 5).blk t).view.emb y
      ∧ ((cfg0.win 4).blk t).view.emb y = ((cfg0.win 6).blk t).view.emb y
      ∧ ((cfg0.win 4).blk t).view.emb y = ((cfg0.win 7).blk t).view.emb y := by
  obtain ⟨-, -, -, -, -, e5, e6, e7⟩ := together t
  refine ⟨?_, ?_, ?_⟩
  · blk_ext [e5]
  · blk_ext [e6]
  · blk_ext [e7]

variable (m : (ℓ : Loc nD τ sig) → Buf (Elt Ideal) ℓ) (c : Dev nD) (t : Fin cfg0.N)
  {y : ((cfg0.win 4).xblock (cfg0.grid.coords t)).Idx} {i : S256x2048.Idx}

/-- Slab `k` of the band that grid point `t` reads is, at each place of the band it writes, the
    argument at that slab and the place's own position `i` in the array. -/
theorem slab (hi : ((cfg0.win 4).blk t).view.emb y = i) (k : Fin 8) :
    iblk m c 0 t (ix3 k (y 0) (y 1)) = m (c.tc.loc main_arg0) (ix3 k (i 0) (i 1)) := by
  subst hi
  obtain ⟨e0, e1, -⟩ := together t
  refine Eq.trans ?_ (congrFun (V_main_arg0 m c) _)
  blk_ext [iblk, e0, e1]

/-- The block of weights is the weights at that position, -/
theorem weight (hi : ((cfg0.win 4).blk t).view.emb y = i) : iblk m c 1 t y = m (c.tc.loc main_arg1) i := by
  subst hi
  obtain ⟨-, -, e, -⟩ := together t
  refine Eq.trans ?_ (congrFun (V_main_arg1 m c) _)
  blk_ext [iblk, e]

/-- the block of first moments the first moments, -/
theorem first (hi : ((cfg0.win 4).blk t).view.emb y = i) : iblk m c 2 t y = m (c.tc.loc main_arg2) i := by
  subst hi
  obtain ⟨-, -, -, e, -⟩ := together t
  refine Eq.trans ?_ (congrFun (V_main_arg2 m c) _)
  blk_ext [iblk, e]

/-- and the block of second moments the second moments. -/
theorem second (hi : ((cfg0.win 4).blk t).view.emb y = i) : iblk m c 3 t y = m (c.tc.loc main_arg3) i := by
  subst hi
  obtain ⟨-, -, -, -, e, -⟩ := together t
  refine Eq.trans ?_ (congrFun (V_main_arg3 m c) _)
  blk_ext [iblk, e]

/-- So the sum that point `t` forms, which it writes as the gradient, is at each place the sum over
    the first axis of the parts. -/
theorem part (hi : ((cfg0.win 4).blk t).view.emb y = i) :
    k0_pay5 (iblk m c 0 t) (iblk m c 1 t) (iblk m c 2 t) (iblk m c 3 t) y = Host.reduceAdd
      (extf .f32 (m (c.tc.loc main_arg0)) Cert.AdamwOutRefIdeal.Gen.bitsLt_bf16_f32)
      (constant (F := Ideal) Cert.AdamwOutRefIdeal.S_ .f32 0x00000000#32)
      Cert.AdamwOutRefIdeal.Gen.reducesTo_S8x256x2048_S256x2048_d0 Cert.AdamwOutRefIdeal.Gen.h_S_ i := by
  pointwise [k0_pay5, k0_pay4]
  simp only [Fin.sum_univ_eight, slab m c t hi]

end Block

/-- The reference runs to the end and leaves its arguments as they were. -/
theorem frame_ref_ideal : Cert.quiescent_AdamwOutRefIdeal := fun m g _ =>
  (θ_run _ _ _).mono (fun r h => ⟨fun c => (h c).2.2.2.2, sem_eq_zero_of_no_sems (by decide) r.2⟩)
    (Cert.AdamwOutRefIdeal.Value.run (F := Ideal) m g)

open Cert.AdamwOutIdeal Cert.AdamwOutIdeal.Gen in
/-- The kernel's four arrays are the reference's: each block is compared place by place, with the
    sum of the parts left as one value. -/
theorem value : Cert.algebraic_AdamwOutIdeal_AdamwOutRefIdeal := by
  intro m g m' g' _ hm
  refine ⟨_, _, _, _, Cert.AdamwOutIdeal.Value.run_blocks (F := Ideal) m g,
    (θ_run _ _ _).mono (fun r h c => ?_) (Cert.AdamwOutRefIdeal.Value.run (F := Ideal) m' g')⟩
  obtain ⟨e0, e1, e2, e3⟩ := hm c
  obtain ⟨h0, h1, h2, h3, h4⟩ := h c
  refine ⟨h0.trans ?_, h1.trans ?_, h2.trans ?_, h3.trans ?_, h4⟩
  all_goals clear h0 h1 h2 h3 h4 h hm
  · rw [e0]
    refine Eq.symm ((dats m 0 c).arrAt_eq_of_covers 4 _ (by decide +kernel) fun t _ y => ?_)
    blk_simp
    rw [after0_4]
    frame_out
    exact part m c t rfl
  · rw [e0, e1, e2, e3]
    refine Eq.symm ((dats m 0 c).arrAt_eq_of_covers 5 _ (by decide +kernel) fun t _ y => ?_)
    have q := (place t y).1
    have p := part m c t q
    blk_simp
    rw [after0_5]
    frame_out
    generalize Host.reduceAdd (F := Ideal) _ _ _ _ = s at p ⊢
    generalize k0_pay5 (F := Ideal) _ _ _ _ = s' at p ⊢
    pointwise [k0_pay3, k0_pay1, k0_pay2]
    rw [p, weight m c t q, first m c t q, second m c t q]
  · rw [e0, e2]
    refine Eq.symm ((dats m 0 c).arrAt_eq_of_covers 6 _ (by decide +kernel) fun t _ y => ?_)
    have q := (place t y).2.1
    have p := part m c t q
    blk_simp
    rw [after0_6]
    frame_out
    generalize Host.reduceAdd (F := Ideal) _ _ _ _ = s at p ⊢
    generalize k0_pay5 (F := Ideal) _ _ _ _ = s' at p ⊢
    pointwise [k0_pay1]
    rw [p, first m c t q]
  · rw [e0, e3]
    refine Eq.symm ((dats m 0 c).arrAt_eq_of_covers 7 _ (by decide +kernel) fun t _ y => ?_)
    have q := (place t y).2.2
    have p := part m c t q
    blk_simp
    rw [after0_7]
    frame_out
    generalize Host.reduceAdd (F := Ideal) _ _ _ _ = s at p ⊢
    generalize k0_pay5 (F := Ideal) _ _ _ _ = s' at p ⊢
    pointwise [k0_pay2]
    rw [p, second m c t q]

end Cert.StepOut

end
-- ==== Proof.AdamwDownClaims.lean ====
/-
What is claimed of the sum of the devices' parts of `ffn_w_down`'s gradient and its AdamW step.
-/
module

public import proofs.«01_k».proof.Defs
public import proofs.«01_k».proof.Proof.Gen.AdamwDown.Frame
public import proofs.«01_k».proof.Proof.Gen.AdamwDownIdeal.Value
public import proofs.«01_k».proof.Proof.Gen.AdamwDownRefIdeal.Run
public import proofs.«01_k».proof.Proof.Blocks
public import Idealize.ShloMosaic.Lib.Pipeline.ValueKit
public import Idealize.ShloMosaic.Lib.Pointwise

/-!
The AdamW step of the down projection of the feed-forward layer, fed with eight parts of its gradient.

The kernel takes a band of rows of all eight slabs at a time, adds the slabs from the first to the
last, and steps the same rows of the weights and of both moments. The reference sums over the first
axis and steps the whole arrays. Over the extended reals both sums are of the same eight elements
at each place, and the step after it is the same tree of operations of the same elements.
-/

@[expose] public section

noncomputable section

namespace Cert.StepDown

open Idealize.ShloMosaic Idealize.SL.Sem Cert.Exchange

section Block

open Cert.AdamwDownIdeal Cert.AdamwDownIdeal.Gen

/-- The blocks move with the grid point alike: row band `t` of the parts, of the weights, of both
    moments and of each result. -/
theorem together : ∀ t : Fin cfg0.N,
    win0_0.index t = ![0, win0_4.index t 0, 0] ∧ win0_4.index t 1 = 0
      ∧ win0_1.index t = win0_4.index t ∧ win0_2.index t = win0_4.index t ∧ win0_3.index t = win0_4.index t
      ∧ win0_5.index t = win0_4.index t ∧ win0_6.index t = win0_4.index t ∧ win0_7.index t = win0_4.index t :=
  (by decide +kernel : ∀ t : Fin grid0.N, _)

/-- A place of a block of each of the three other results is the same place of the array as it is
    in a block of the first. -/
theorem place (t : Fin cfg0.N) (y : S16x2048.Idx) :
    ((cfg0.win 4).blk t).view.emb y = ((cfg0.win 5).blk t).view.emb y
      ∧ ((cfg0.win 4).blk t).view.emb y = ((cfg0.win 6).blk t).view.emb y
      ∧ ((cfg0.win 4).blk t).view.emb y = ((cfg0.win 7).blk t).view.emb y := by
  obtain ⟨-, -, -, -, -, e5, e6, e7⟩ := together t
  refine ⟨?_, ?_, ?_⟩
  · blk_ext [e5]
  · blk_ext [e6]
  · blk_ext [e7]

variable (m : (ℓ : Loc nD τ sig) → Buf (Elt Ideal) ℓ) (c : Dev nD) (t : Fin cfg0.N)
  {y : ((cfg0.win 4).xblock (cfg0.grid.coords t)).Idx} {i : S688x2048.Idx}

/-- Slab `k` of the band that grid point `t` reads is, at each place of the band it writes, the
    argument at that slab and the place's own position `i` in the array. -/
theorem slab (hi : ((cfg0.win 4).blk t).view.emb y = i) (k : Fin 8) :
    iblk m c 0 t (ix3 k (y 0) (y 1)) = m (c.tc.loc main_arg0) (ix3 k (i 0) (i 1)) := by
  subst hi
  obtain ⟨e0, e1, -⟩ := together t
  refine Eq.trans ?_ (congrFun (V_main_arg0 m c) _)
  blk_ext [iblk, e0, e1]

/-- The block of weights is the weights at that position, -/
theorem weight (hi : ((cfg0.win 4).blk t).view.emb y = i) : iblk m c 1 t y = m (c.tc.loc main_arg1) i := by
  subst hi
  obtain ⟨-, -, e, -⟩ := together t
  refine Eq.trans ?_ (congrFun (V_main_arg1 m c) _)
  blk_ext [iblk, e]

/-- the block of first moments the first moments, -/
theorem first (hi : ((cfg0.win 4).blk t).view.emb y = i) : iblk m c 2 t y = m (c.tc.loc main_arg2) i := by
  subst hi
  obtain ⟨-, -, -, e, -⟩ := together t
  refine Eq.trans ?_ (congrFun (V_main_arg2 m c) _)
  blk_ext [iblk, e]

/-- and the block of second moments the second moments. -/
theorem second (hi : ((cfg0.win 4).blk t).view.emb y = i) : iblk m c 3 t y = m (c.tc.loc main_arg3) i := by
  subst hi
  obtain ⟨-, -, -, -, e, -⟩ := together t
  refine Eq.trans ?_ (congrFun (V_main_arg3 m c) _)
  blk_ext [iblk, e]

/-- So the sum that point `t` forms, which it writes as the gradient, is at each place the sum over
    the first axis of the parts. -/
theorem part (hi : ((cfg0.win 4).blk t).view.emb y = i) :
    k0_pay5 (iblk m c 0 t) (iblk m c 1 t) (iblk m c 2 t) (iblk m c 3 t) y = Host.reduceAdd
      (extf .f32 (m (c.tc.loc main_arg0)) Cert.AdamwDownRefIdeal.Gen.bitsLt_bf16_f32)
      (constant (F := Ideal) Cert.AdamwDownRefIdeal.S_ .f32 0x00000000#32)
      Cert.AdamwDownRefIdeal.Gen.reducesTo_S8x688x2048_S688x2048_d0 Cert.AdamwDownRefIdeal.Gen.h_S_ i := by
  pointwise [k0_pay5, k0_pay4]
  simp only [Fin.sum_univ_eight, slab m c t hi]

end Block

/-- The reference runs to the end and leaves its arguments as they were. -/
theorem frame_ref_ideal : Cert.quiescent_AdamwDownRefIdeal := fun m g _ =>
  (θ_run _ _ _).mono (fun r h => ⟨fun c => (h c).2.2.2.2, sem_eq_zero_of_no_sems (by decide) r.2⟩)
    (Cert.AdamwDownRefIdeal.Value.run (F := Ideal) m g)

open Cert.AdamwDownIdeal Cert.AdamwDownIdeal.Gen in
/-- The kernel's four arrays are the reference's: each block is compared place by place, with the
    sum of the parts left as one value. -/
theorem value : Cert.algebraic_AdamwDownIdeal_AdamwDownRefIdeal := by
  intro m g m' g' _ hm
  refine ⟨_, _, _, _, Cert.AdamwDownIdeal.Value.run_blocks (F := Ideal) m g,
    (θ_run _ _ _).mono (fun r h c => ?_) (Cert.AdamwDownRefIdeal.Value.run (F := Ideal) m' g')⟩
  obtain ⟨e0, e1, e2, e3⟩ := hm c
  obtain ⟨h0, h1, h2, h3, h4⟩ := h c
  refine ⟨h0.trans ?_, h1.trans ?_, h2.trans ?_, h3.trans ?_, h4⟩
  all_goals clear h0 h1 h2 h3 h4 h hm
  · rw [e0]
    refine Eq.symm ((dats m 0 c).arrAt_eq_of_covers 4 _ (by decide +kernel) fun t _ y => ?_)
    blk_simp
    rw [after0_4]
    frame_out
    exact part m c t rfl
  · rw [e0, e1, e2, e3]
    refine Eq.symm ((dats m 0 c).arrAt_eq_of_covers 5 _ (by decide +kernel) fun t _ y => ?_)
    have q := (place t y).1
    have p := part m c t q
    blk_simp
    rw [after0_5]
    frame_out
    generalize Host.reduceAdd (F := Ideal) _ _ _ _ = s at p ⊢
    generalize k0_pay5 (F := Ideal) _ _ _ _ = s' at p ⊢
    pointwise [k0_pay3, k0_pay1, k0_pay2]
    rw [p, weight m c t q, first m c t q, second m c t q]
  · rw [e0, e2]
    refine Eq.symm ((dats m 0 c).arrAt_eq_of_covers 6 _ (by decide +kernel) fun t _ y => ?_)
    have q := (place t y).2.1
    have p := part m c t q
    blk_simp
    rw [after0_6]
    frame_out
    generalize Host.reduceAdd (F := Ideal) _ _ _ _ = s at p ⊢
    generalize k0_pay5 (F := Ideal) _ _ _ _ = s' at p ⊢
    pointwise [k0_pay1]
    rw [p, first m c t q]
  · rw [e0, e3]
    refine Eq.symm ((dats m 0 c).arrAt_eq_of_covers 7 _ (by decide +kernel) fun t _ y => ?_)
    have q := (place t y).2.2
    have p := part m c t q
    blk_simp
    rw [after0_7]
    frame_out
    generalize Host.reduceAdd (F := Ideal) _ _ _ _ = s at p ⊢
    generalize k0_pay5 (F := Ideal) _ _ _ _ = s' at p ⊢
    pointwise [k0_pay2]
    rw [p, second m c t q]

end Cert.StepDown

end
-- ==== Proof.AdamwGluClaims.lean ====
/-
What is claimed of the sum of the devices' parts of `s5_w_glu`'s gradient and its AdamW step.
-/
module

public import proofs.«01_k».proof.Defs
public import proofs.«01_k».proof.Proof.Gen.AdamwGlu.Frame
public import proofs.«01_k».proof.Proof.Gen.AdamwGluIdeal.Value
public import proofs.«01_k».proof.Proof.Gen.AdamwGluRefIdeal.Run
public import proofs.«01_k».proof.Proof.Blocks
public import Idealize.ShloMosaic.Lib.Pipeline.ValueKit
public import Idealize.ShloMosaic.Lib.Pointwise

/-!
The AdamW step of a gated projection inside the mixers, fed with eight parts of its gradient.

The kernel takes a band of rows of all eight slabs at a time, adds the slabs from the first to the
last, and steps the same rows of the weights and of both moments. The reference sums over the first
axis and steps the whole arrays. Over the extended reals both sums are of the same eight elements
at each place, and the step after it is the same tree of operations of the same elements.
-/

@[expose] public section

noncomputable section

namespace Cert.StepGlu

open Idealize.ShloMosaic Idealize.SL.Sem Cert.Exchange

section Block

open Cert.AdamwGluIdeal Cert.AdamwGluIdeal.Gen

/-- The blocks move with the grid point alike: row band `t` of the parts, of the weights, of both
    moments and of each result. -/
theorem together : ∀ t : Fin cfg0.N,
    win0_0.index t = ![0, win0_4.index t 0, 0] ∧ win0_4.index t 1 = 0
      ∧ win0_1.index t = win0_4.index t ∧ win0_2.index t = win0_4.index t ∧ win0_3.index t = win0_4.index t
      ∧ win0_5.index t = win0_4.index t ∧ win0_6.index t = win0_4.index t ∧ win0_7.index t = win0_4.index t :=
  (by decide +kernel : ∀ t : Fin grid0.N, _)

/-- A place of a block of each of the three other results is the same place of the array as it is
    in a block of the first. -/
theorem place (t : Fin cfg0.N) (y : S64x512.Idx) :
    ((cfg0.win 4).blk t).view.emb y = ((cfg0.win 5).blk t).view.emb y
      ∧ ((cfg0.win 4).blk t).view.emb y = ((cfg0.win 6).blk t).view.emb y
      ∧ ((cfg0.win 4).blk t).view.emb y = ((cfg0.win 7).blk t).view.emb y := by
  obtain ⟨-, -, -, -, -, e5, e6, e7⟩ := together t
  refine ⟨?_, ?_, ?_⟩
  · blk_ext [e5]
  · blk_ext [e6]
  · blk_ext [e7]

variable (m : (ℓ : Loc nD τ sig) → Buf (Elt Ideal) ℓ) (c : Dev nD) (t : Fin cfg0.N)
  {y : ((cfg0.win 4).xblock (cfg0.grid.coords t)).Idx} {i : S64x512.Idx}

/-- Slab `k` of the band that grid point `t` reads is, at each place of the band it writes, the
    argument at that slab and the place's own position `i` in the array. -/
theorem slab (hi : ((cfg0.win 4).blk t).view.emb y = i) (k : Fin 8) :
    iblk m c 0 t (ix3 k (y 0) (y 1)) = m (c.tc.loc main_arg0) (ix3 k (i 0) (i 1)) := by
  subst hi
  obtain ⟨e0, e1, -⟩ := together t
  refine Eq.trans ?_ (congrFun (V_main_arg0 m c) _)
  blk_ext [iblk, e0, e1]

/-- The block of weights is the weights at that position, -/
theorem weight (hi : ((cfg0.win 4).blk t).view.emb y = i) : iblk m c 1 t y = m (c.tc.loc main_arg1) i := by
  subst hi
  obtain ⟨-, -, e, -⟩ := together t
  refine Eq.trans ?_ (congrFun (V_main_arg1 m c) _)
  blk_ext [iblk, e]

/-- the block of first moments the first moments, -/
theorem first (hi : ((cfg0.win 4).blk t).view.emb y = i) : iblk m c 2 t y = m (c.tc.loc main_arg2) i := by
  subst hi
  obtain ⟨-, -, -, e, -⟩ := together t
  refine Eq.trans ?_ (congrFun (V_main_arg2 m c) _)
  blk_ext [iblk, e]

/-- and the block of second moments the second moments. -/
theorem second (hi : ((cfg0.win 4).blk t).view.emb y = i) : iblk m c 3 t y = m (c.tc.loc main_arg3) i := by
  subst hi
  obtain ⟨-, -, -, -, e, -⟩ := together t
  refine Eq.trans ?_ (congrFun (V_main_arg3 m c) _)
  blk_ext [iblk, e]

/-- So the sum that point `t` forms, which it writes as the gradient, is at each place the sum over
    the first axis of the parts. -/
theorem part (hi : ((cfg0.win 4).blk t).view.emb y = i) :
    k0_pay5 (iblk m c 0 t) (iblk m c 1 t) (iblk m c 2 t) (iblk m c 3 t) y = Host.reduceAdd
      (extf .f32 (m (c.tc.loc main_arg0)) Cert.AdamwGluRefIdeal.Gen.bitsLt_bf16_f32)
      (constant (F := Ideal) Cert.AdamwGluRefIdeal.S_ .f32 0x00000000#32)
      Cert.AdamwGluRefIdeal.Gen.reducesTo_S8x64x512_S64x512_d0 Cert.AdamwGluRefIdeal.Gen.h_S_ i := by
  pointwise [k0_pay5, k0_pay4]
  simp only [Fin.sum_univ_eight, slab m c t hi]

end Block

/-- The reference runs to the end and leaves its arguments as they were. -/
theorem frame_ref_ideal : Cert.quiescent_AdamwGluRefIdeal := fun m g _ =>
  (θ_run _ _ _).mono (fun r h => ⟨fun c => (h c).2.2.2.2, sem_eq_zero_of_no_sems (by decide) r.2⟩)
    (Cert.AdamwGluRefIdeal.Value.run (F := Ideal) m g)

open Cert.AdamwGluIdeal Cert.AdamwGluIdeal.Gen in
/-- The kernel's four arrays are the reference's: each block is compared place by place, with the
    sum of the parts left as one value. -/
theorem value : Cert.algebraic_AdamwGluIdeal_AdamwGluRefIdeal := by
  intro m g m' g' _ hm
  refine ⟨_, _, _, _, Cert.AdamwGluIdeal.Value.run_blocks (F := Ideal) m g,
    (θ_run _ _ _).mono (fun r h c => ?_) (Cert.AdamwGluRefIdeal.Value.run (F := Ideal) m' g')⟩
  obtain ⟨e0, e1, e2, e3⟩ := hm c
  obtain ⟨h0, h1, h2, h3, h4⟩ := h c
  refine ⟨h0.trans ?_, h1.trans ?_, h2.trans ?_, h3.trans ?_, h4⟩
  all_goals clear h0 h1 h2 h3 h4 h hm
  · rw [e0]
    refine Eq.symm ((dats m 0 c).arrAt_eq_of_covers 4 _ (by decide +kernel) fun t _ y => ?_)
    blk_simp
    rw [after0_4]
    frame_out
    exact part m c t rfl
  · rw [e0, e1, e2, e3]
    refine Eq.symm ((dats m 0 c).arrAt_eq_of_covers 5 _ (by decide +kernel) fun t _ y => ?_)
    have q := (place t y).1
    have p := part m c t q
    blk_simp
    rw [after0_5]
    frame_out
    generalize Host.reduceAdd (F := Ideal) _ _ _ _ = s at p ⊢
    generalize k0_pay5 (F := Ideal) _ _ _ _ = s' at p ⊢
    pointwise [k0_pay3, k0_pay1, k0_pay2]
    rw [p, weight m c t q, first m c t q, second m c t q]
  · rw [e0, e2]
    refine Eq.symm ((dats m 0 c).arrAt_eq_of_covers 6 _ (by decide +kernel) fun t _ y => ?_)
    have q := (place t y).2.1
    have p := part m c t q
    blk_simp
    rw [after0_6]
    frame_out
    generalize Host.reduceAdd (F := Ideal) _ _ _ _ = s at p ⊢
    generalize k0_pay5 (F := Ideal) _ _ _ _ = s' at p ⊢
    pointwise [k0_pay1]
    rw [p, first m c t q]
  · rw [e0, e3]
    refine Eq.symm ((dats m 0 c).arrAt_eq_of_covers 7 _ (by decide +kernel) fun t _ y => ?_)
    have q := (place t y).2.2
    have p := part m c t q
    blk_simp
    rw [after0_7]
    frame_out
    generalize Host.reduceAdd (F := Ideal) _ _ _ _ = s at p ⊢
    generalize k0_pay5 (F := Ideal) _ _ _ _ = s' at p ⊢
    pointwise [k0_pay2]
    rw [p, second m c t q]

end Cert.StepGlu

end
-- ==== Proof.SumInClaims.lean ====
/-
What is claimed of the sum of the devices' parts of `w_in`'s gradient.
-/
module

public import proofs.«01_k».proof.Defs
public import proofs.«01_k».proof.Proof.Gen.SumIn.Frame
public import proofs.«01_k».proof.Proof.Gen.SumInIdeal.Value
public import proofs.«01_k».proof.Proof.Gen.SumInRefIdeal.Run
public import proofs.«01_k».proof.Proof.Blocks
public import Idealize.ShloMosaic.Lib.Pipeline.ValueKit
public import Idealize.ShloMosaic.Lib.Pointwise

/-!
The sum of the eight parts of the gradient of the input projection.

The kernel takes a band of rows of all eight slabs at a time and adds the slabs from the first to
the last. The reference sums over the first axis. Over the extended reals both are the sum of the
same eight elements at each place.
-/

@[expose] public section

noncomputable section

namespace Cert.StepSumIn

open Idealize.ShloMosaic Idealize.SL.Sem Cert.Exchange

section Block

open Cert.SumInIdeal Cert.SumInIdeal.Gen

/-- Slab `k` of the band that grid point `t` reads is, at each place of the band it writes, the
    argument at that slab and the place's own position in the array. -/
theorem slab (m : (ℓ : Loc nD τ sig) → Buf (Elt Ideal) ℓ) (c : Dev nD) (t : Fin cfg0.N)
    (y : ((cfg0.win 1).xblock (cfg0.grid.coords t)).Idx) (k : Fin 8) :
    iblk m c 0 t (ix3 k (y 0) (y 1)) = m (c.tc.loc main_arg0)
      (ix3 k (((cfg0.win 1).blk t).view.emb y 0) (((cfg0.win 1).blk t).view.emb y 1)) := by
  obtain ⟨e0, e1⟩ := (by decide +kernel : ∀ t : Fin grid0.N,
    win0_0.index t = ![0, win0_1.index t 0, 0] ∧ win0_1.index t 1 = 0) t
  refine Eq.trans ?_ (congrFun (V_main_arg0 m c) _)
  blk_ext [iblk, e0, e1]

/-- The array that the kernel leaves is the sum of its argument over the first axis. -/
theorem total (m : (ℓ : Loc nD τ sig) → Buf (Elt Ideal) ℓ) (c : Dev nD) :
    (dats m 0 c).arrAt 1 cfg0.N = Host.reduceAdd
      (extf .f32 (m (c.tc.loc main_arg0)) Cert.SumInRefIdeal.Gen.bitsLt_bf16_f32)
      (constant (F := Ideal) Cert.SumInRefIdeal.S_ .f32 0x00000000#32)
      Cert.SumInRefIdeal.Gen.reducesTo_S8x384x2048_S384x2048_d0 Cert.SumInRefIdeal.Gen.h_S_ := by
  refine (dats m 0 c).arrAt_eq_of_covers 1 _ (by decide +kernel) fun t _ y => ?_
  blk_simp
  rw [after0_1]
  frame_out
  pointwise [k0_pay1]
  rw [Fin.sum_univ_eight, slab, slab, slab, slab, slab, slab, slab, slab]

end Block

/-- The reference runs to the end and leaves its argument as it was. -/
theorem frame_ref_ideal : Cert.quiescent_SumInRefIdeal := fun m g _ =>
  (θ_run _ _ _).mono (fun r h => ⟨fun c => (h c).2, sem_eq_zero_of_no_sems (by decide) r.2⟩)
    (Cert.SumInRefIdeal.Value.run (F := Ideal) m g)

/-- The kernel's array is the reference's. -/
theorem value : Cert.algebraic_SumInIdeal_SumInRefIdeal := by
  intro m g m' g' _ hm
  refine ⟨_, Cert.SumInIdeal.Value.run_blocks (F := Ideal) m g,
    (θ_run _ _ _).mono (fun r h c => ?_) (Cert.SumInRefIdeal.Value.run (F := Ideal) m' g')⟩
  obtain ⟨h0, h1⟩ := h c
  refine ⟨h0.trans ?_, h1⟩
  rw [total m c, hm c]

end Cert.StepSumIn

end
-- ==== Proof.SumUpClaims.lean ====
/-
What is claimed of the sum of the devices' parts of `ffn_w_up`'s gradient.
-/
module

public import proofs.«01_k».proof.Defs
public import proofs.«01_k».proof.Proof.Gen.SumUp.Frame
public import proofs.«01_k».proof.Proof.Gen.SumUpIdeal.Value
public import proofs.«01_k».proof.Proof.Gen.SumUpRefIdeal.Run
public import proofs.«01_k».proof.Proof.Blocks
public import Idealize.ShloMosaic.Lib.Pipeline.ValueKit
public import Idealize.ShloMosaic.Lib.Pointwise

/-!
The sum of the eight parts of the gradient of the up projection of the feed-forward layer.

The kernel takes a band of rows of all eight slabs at a time and adds the slabs from the first to
the last. The reference sums over the first axis. Over the extended reals both are the sum of the
same eight elements at each place.
-/

@[expose] public section

noncomputable section

namespace Cert.StepSumUp

open Idealize.ShloMosaic Idealize.SL.Sem Cert.Exchange

section Block

open Cert.SumUpIdeal Cert.SumUpIdeal.Gen

/-- Slab `k` of the band that grid point `t` reads is, at each place of the band it writes, the
    argument at that slab and the place's own position in the array. -/
theorem slab (m : (ℓ : Loc nD τ sig) → Buf (Elt Ideal) ℓ) (c : Dev nD) (t : Fin cfg0.N)
    (y : ((cfg0.win 1).xblock (cfg0.grid.coords t)).Idx) (k : Fin 8) :
    iblk m c 0 t (ix3 k (y 0) (y 1)) = m (c.tc.loc main_arg0)
      (ix3 k (((cfg0.win 1).blk t).view.emb y 0) (((cfg0.win 1).blk t).view.emb y 1)) := by
  obtain ⟨e0, e1⟩ := (by decide +kernel : ∀ t : Fin grid0.N,
    win0_0.index t = ![0, win0_1.index t 0, 0] ∧ win0_1.index t 1 = 0) t
  refine Eq.trans ?_ (congrFun (V_main_arg0 m c) _)
  blk_ext [iblk, e0, e1]

/-- The array that the kernel leaves is the sum of its argument over the first axis. -/
theorem total (m : (ℓ : Loc nD τ sig) → Buf (Elt Ideal) ℓ) (c : Dev nD) :
    (dats m 0 c).arrAt 1 cfg0.N = Host.reduceAdd
      (extf .f32 (m (c.tc.loc main_arg0)) Cert.SumUpRefIdeal.Gen.bitsLt_bf16_f32)
      (constant (F := Ideal) Cert.SumUpRefIdeal.S_ .f32 0x00000000#32)
      Cert.SumUpRefIdeal.Gen.reducesTo_S8x1376x2048_S1376x2048_d0 Cert.SumUpRefIdeal.Gen.h_S_ := by
  refine (dats m 0 c).arrAt_eq_of_covers 1 _ (by decide +kernel) fun t _ y => ?_
  blk_simp
  rw [after0_1]
  frame_out
  pointwise [k0_pay1]
  rw [Fin.sum_univ_eight, slab, slab, slab, slab, slab, slab, slab, slab]

end Block

/-- The reference runs to the end and leaves its argument as it was. -/
theorem frame_ref_ideal : Cert.quiescent_SumUpRefIdeal := fun m g _ =>
  (θ_run _ _ _).mono (fun r h => ⟨fun c => (h c).2, sem_eq_zero_of_no_sems (by decide) r.2⟩)
    (Cert.SumUpRefIdeal.Value.run (F := Ideal) m g)

/-- The kernel's array is the reference's. -/
theorem value : Cert.algebraic_SumUpIdeal_SumUpRefIdeal := by
  intro m g m' g' _ hm
  refine ⟨_, Cert.SumUpIdeal.Value.run_blocks (F := Ideal) m g,
    (θ_run _ _ _).mono (fun r h c => ?_) (Cert.SumUpRefIdeal.Value.run (F := Ideal) m' g')⟩
  obtain ⟨h0, h1⟩ := h c
  refine ⟨h0.trans ?_, h1⟩
  rw [total m c, hm c]

end Cert.StepSumUp

end
-- ==== Proof.SumSmallClaims.lean ====
/-
What is claimed of the sum of the devices' packed gradients of the small parameters.
-/
module

public import proofs.«01_k».proof.Defs
public import proofs.«01_k».proof.Proof.Gen.SumSmall.Frame
public import proofs.«01_k».proof.Proof.Gen.SumSmallIdeal.Value
public import proofs.«01_k».proof.Proof.Gen.SumSmallRefIdeal.Run
public import proofs.«01_k».proof.Proof.Blocks
public import Idealize.ShloMosaic.Lib.Pipeline.ValueKit
public import Idealize.ShloMosaic.Lib.Pointwise

/-!
The sum of the eight parts of the gradients of the small parameters, packed into one array.

The kernel takes a band of rows of all eight slabs at a time and adds the slabs from the first to
the last. The reference sums over the first axis. Over the extended reals both are the sum of the
same eight elements at each place.
-/

@[expose] public section

noncomputable section

namespace Cert.StepSumSmall

open Idealize.ShloMosaic Idealize.SL.Sem Cert.Exchange

section Block

open Cert.SumSmallIdeal Cert.SumSmallIdeal.Gen

/-- Slab `k` of the band that grid point `t` reads is, at each place of the band it writes, the
    argument at that slab and the place's own position in the array. -/
theorem slab (m : (ℓ : Loc nD τ sig) → Buf (Elt Ideal) ℓ) (c : Dev nD) (t : Fin cfg0.N)
    (y : ((cfg0.win 1).xblock (cfg0.grid.coords t)).Idx) (k : Fin 8) :
    iblk m c 0 t (ix3 k (y 0) (y 1)) = m (c.tc.loc main_arg0)
      (ix3 k (((cfg0.win 1).blk t).view.emb y 0) (((cfg0.win 1).blk t).view.emb y 1)) := by
  obtain ⟨e0, e1⟩ := (by decide +kernel : ∀ t : Fin grid0.N,
    win0_0.index t = ![0, win0_1.index t 0, 0] ∧ win0_1.index t 1 = 0) t
  refine Eq.trans ?_ (congrFun (V_main_arg0 m c) _)
  blk_ext [iblk, e0, e1]

/-- The array that the kernel leaves is the sum of its argument over the first axis. -/
theorem total (m : (ℓ : Loc nD τ sig) → Buf (Elt Ideal) ℓ) (c : Dev nD) :
    (dats m 0 c).arrAt 1 cfg0.N = Host.reduceAdd
      (m (c.tc.loc main_arg0))
      (constant (F := Ideal) Cert.SumSmallRefIdeal.S_ .f32 0x00000000#32)
      Cert.SumSmallRefIdeal.Gen.reducesTo_S8x4960x128_S4960x128_d0 Cert.SumSmallRefIdeal.Gen.h_S_ := by
  refine (dats m 0 c).arrAt_eq_of_covers 1 _ (by decide +kernel) fun t _ y => ?_
  blk_simp
  rw [after0_1]
  frame_out
  pointwise [k0_pay1]
  rw [Fin.sum_univ_eight, slab, slab, slab, slab, slab, slab, slab, slab]

end Block

/-- The reference runs to the end and leaves its argument as it was. -/
theorem frame_ref_ideal : Cert.quiescent_SumSmallRefIdeal := fun m g _ =>
  (θ_run _ _ _).mono (fun r h => ⟨fun c => (h c).2, sem_eq_zero_of_no_sems (by decide) r.2⟩)
    (Cert.SumSmallRefIdeal.Value.run (F := Ideal) m g)

/-- The kernel's array is the reference's. -/
theorem value : Cert.algebraic_SumSmallIdeal_SumSmallRefIdeal := by
  intro m g m' g' _ hm
  refine ⟨_, Cert.SumSmallIdeal.Value.run_blocks (F := Ideal) m g,
    (θ_run _ _ _).mono (fun r h c => ?_) (Cert.SumSmallRefIdeal.Value.run (F := Ideal) m' g')⟩
  obtain ⟨h0, h1⟩ := h c
  refine ⟨h0.trans ?_, h1⟩
  rw [total m c, hm c]

end Cert.StepSumSmall

end
-- ==== Proof.AdamwInClaims.lean ====
/-
What is claimed of the AdamW step of `w_in`, its gradient given.
-/
module

public import proofs.«01_k».proof.Defs
public import proofs.«01_k».proof.Proof.Gen.AdamwIn.Frame
public import proofs.«01_k».proof.Proof.Gen.AdamwInIdeal.Value
public import proofs.«01_k».proof.Proof.Gen.AdamwInRefIdeal.Run
public import proofs.«01_k».proof.Proof.Blocks

@[expose] public section

noncomputable section

namespace Cert.StepIn

open Idealize.ShloMosaic Idealize.SL.Sem Cert.Exchange

/-- The idealized reference ends, its inputs as they were. -/
theorem frame_ref_ideal : Cert.quiescent_AdamwInRefIdeal := fun m g _ =>
  (θ_run _ _ _).mono (fun r h => ⟨fun c => (h c).2.2.2, sem_eq_zero_of_no_sems (by decide) r.2⟩) (Cert.AdamwInRefIdeal.Value.run (F := Ideal) m g)

/-- The idealized programs agree. -/
theorem value : Cert.algebraic_AdamwInIdeal_AdamwInRefIdeal := by
  intro m g m' g' _ hm
  refine ⟨_, _, _, Cert.AdamwInIdeal.Value.run (F := Ideal) m g,
    (θ_run _ _ _).mono (fun r h c => ?_) (Cert.AdamwInRefIdeal.Value.run (F := Ideal) m' g')⟩
  obtain ⟨e0, e1, e2, e3⟩ := hm c
  obtain ⟨h0, h1, h2, h3⟩ := h c
  refine ⟨h0.trans ?_, h1.trans ?_, h2.trans ?_, h3⟩
  · rw [e0, e1, e2, e3]; rfl
  · rw [e1, e2]; rfl
  · rw [e1, e3]; rfl

end Cert.StepIn

end
-- ==== Proof.AdamwUpClaims.lean ====
/-
What is claimed of the AdamW step of `ffn_w_up`, its gradient given.
-/
module

public import proofs.«01_k».proof.Defs
public import proofs.«01_k».proof.Proof.Gen.AdamwUp.Frame
public import proofs.«01_k».proof.Proof.Gen.AdamwUpIdeal.Value
public import proofs.«01_k».proof.Proof.Gen.AdamwUpRefIdeal.Run
public import proofs.«01_k».proof.Proof.Blocks

@[expose] public section

noncomputable section

namespace Cert.StepUp

open Idealize.ShloMosaic Idealize.SL.Sem Cert.Exchange

/-- The idealized reference ends, its inputs as they were. -/
theorem frame_ref_ideal : Cert.quiescent_AdamwUpRefIdeal := fun m g _ =>
  (θ_run _ _ _).mono (fun r h => ⟨fun c => (h c).2.2.2, sem_eq_zero_of_no_sems (by decide) r.2⟩) (Cert.AdamwUpRefIdeal.Value.run (F := Ideal) m g)

/-- The idealized programs agree. -/
theorem value : Cert.algebraic_AdamwUpIdeal_AdamwUpRefIdeal := by
  intro m g m' g' _ hm
  refine ⟨_, _, _, Cert.AdamwUpIdeal.Value.run (F := Ideal) m g,
    (θ_run _ _ _).mono (fun r h c => ?_) (Cert.AdamwUpRefIdeal.Value.run (F := Ideal) m' g')⟩
  obtain ⟨e0, e1, e2, e3⟩ := hm c
  obtain ⟨h0, h1, h2, h3⟩ := h c
  refine ⟨h0.trans ?_, h1.trans ?_, h2.trans ?_, h3⟩
  · rw [e0, e1, e2, e3]; rfl
  · rw [e1, e2]; rfl
  · rw [e1, e3]; rfl

end Cert.StepUp

end
-- ==== Proof.AdamwSmallClaims.lean ====
/-
What is claimed of the AdamW step of the packed small parameters, their gradients given.
-/
module

public import proofs.«01_k».proof.Defs
public import proofs.«01_k».proof.Proof.Gen.AdamwSmall.Frame
public import proofs.«01_k».proof.Proof.Gen.AdamwSmallIdeal.Value
public import proofs.«01_k».proof.Proof.Gen.AdamwSmallRefIdeal.Run
public import proofs.«01_k».proof.Proof.Blocks

@[expose] public section

noncomputable section

namespace Cert.StepSmall

open Idealize.ShloMosaic Idealize.SL.Sem Cert.Exchange

/-- The idealized reference ends, its inputs as they were. -/
theorem frame_ref_ideal : Cert.quiescent_AdamwSmallRefIdeal := fun m g _ =>
  (θ_run _ _ _).mono (fun r h => ⟨fun c => (h c).2.2.2, sem_eq_zero_of_no_sems (by decide) r.2⟩) (Cert.AdamwSmallRefIdeal.Value.run (F := Ideal) m g)

/-- The idealized programs agree. -/
theorem value : Cert.algebraic_AdamwSmallIdeal_AdamwSmallRefIdeal := by
  intro m g m' g' _ hm
  refine ⟨_, _, _, Cert.AdamwSmallIdeal.Value.run (F := Ideal) m g,
    (θ_run _ _ _).mono (fun r h c => ?_) (Cert.AdamwSmallRefIdeal.Value.run (F := Ideal) m' g')⟩
  obtain ⟨e0, e1, e2, e3⟩ := hm c
  obtain ⟨h0, h1, h2, h3⟩ := h c
  refine ⟨h0.trans ?_, h1.trans ?_, h2.trans ?_, h3⟩
  · rw [e0, e1, e2, e3]; rfl
  · rw [e1, e2]; rfl
  · rw [e1, e3]; rfl

end Cert.StepSmall

end
-- ==== Proof.GradXClaims.lean ====
/-
What is claimed of the gradient of the first layer's input: the backward pass of the first norm,
added to the gradient of the residual stream.
-/
module

public import proofs.«01_k».proof.Defs
public import proofs.«01_k».proof.Proof.Gen.GradX.Frame
public import proofs.«01_k».proof.Proof.Gen.GradXIdeal.Value
public import proofs.«01_k».proof.Proof.Gen.GradXRefIdeal.Run
public import proofs.«01_k».proof.Proof.Blocks
public import Idealize.ShloMosaic.Lib.Pipeline.ValueKit
public import Idealize.ShloMosaic.Lib.Pointwise

@[expose] public section

noncomputable section

namespace Cert.StepGradX

open Idealize.ShloMosaic Idealize.SL.Sem Cert.Exchange

/-- The constant of the derivative of `rsqrt` is minus one half, -/
theorem half : Ideal.ofBits .f32 3204448256#32 = ((-(1 / 2) : ℝ) : EReal) := by
  simp [Ideal.ofBits, Ideal.ieee, -EReal.coe_mul, -EReal.coe_neg]; norm_num

/-- the number of columns is 2048, -/
theorem count : Ideal.ofBits .f32 1157627904#32 = ((2048 : ℝ) : EReal) := by
  simp [Ideal.ofBits, Ideal.ieee, -EReal.coe_mul]; norm_num

/-- and the norm's epsilon is a positive real. -/
theorem small : ∃ e : ℝ, 0 < e ∧ Ideal.ofBits .f32 897988541#32 = ((e : ℝ) : EReal) := by
  refine ⟨_, ?_, by simp [Ideal.ofBits, Ideal.ieee, -EReal.coe_mul]; rfl⟩
  norm_num

/-- A square is not negative. -/
theorem square (a : EReal) : 0 ≤ a * a := by
  rcases le_total 0 a with h | h
  · exact mul_nonneg h h
  · rw [← neg_mul_neg]
    exact mul_nonneg (EReal.neg_nonneg.mpr h) (EReal.neg_nonneg.mpr h)

/-- Half a negative multiple, twice, is the negative multiple: at every extended real. -/
theorem double (y : EReal) (b : ℝ) (hb : 0 ≤ b) :
    y * ((-(1 / 2) * b : ℝ) : EReal) + y * ((-(1 / 2) * b : ℝ) : EReal) = -(y * (b : EReal)) := by
  have h : (b : EReal) = ((1 / 2 * b : ℝ) : EReal) + ((1 / 2 * b : ℝ) : EReal) := by
    rw [← EReal.coe_add]; congr 1; ring
  have p : (0 : EReal) ≤ ((1 / 2 * b : ℝ) : EReal) := EReal.coe_nonneg.mpr (by positivity)
  rw [← EReal.neg_mul, h, EReal.left_distrib_of_nonneg p p, neg_mul (1 / 2 : ℝ) b, EReal.coe_neg, EReal.neg_mul, mul_neg]

/-- One place of the norm's gradient, both ways of writing it. `s` is the row's sum of squares, `S`
    the row's sum of gradient times input, `p` the scaled gradient at the place, `x` the input there
    and `A` what is added. Where `s` is infinite the factor `r` is zero and both are `A`; elsewhere
    `r` is the reciprocal root of a positive real `w`, and `r / w` is `r` cubed. -/
theorem backward (A p x S s : EReal) (hs : 0 ≤ s) :
    let N := Ideal.ofBits .f32 1157627904#32
    let v := Ideal.div s N + Ideal.ofBits .f32 897988541#32
    let r := Ideal.rsqrt v
    let q := Ideal.div (S * (Ideal.ofBits .f32 3204448256#32 * Ideal.div r v)) N
    A + r * p - x * (r * r * r) * Ideal.div S N = A + (p * r + x * q + q * x) := by
  intro N v r q
  have hN : N = ((2048 : ℝ) : EReal) := count
  have hN0 : N ≠ 0 := by rw [hN]; exact_mod_cast (by norm_num : (2048 : ℝ) ≠ 0)
  obtain ⟨e, he, hE⟩ := small
  have dN : ∀ z, Ideal.div z N = z * N⁻¹ := fun z => if_neg hN0
  have iN : N⁻¹ = (((2048 : ℝ)⁻¹ : ℝ) : EReal) := by rw [hN, EReal.coe_inv]
  have hv : v = s * N⁻¹ + (e : EReal) := by simp only [v, dN, hE]
  by_cases ht : s = ⊤
  · have v1 : v = ⊤ := by
      rw [hv, ht, iN, EReal.top_mul_coe_of_pos (by norm_num), EReal.top_add_coe]
    have r1 : r = 0 := by simp only [r, v1, Ideal.rsqrt_top]
    have q1 : q = 0 := by
      simp only [q, dN, r1, v1, Ideal.div]; simp
    simp [r1, q1]
  · have hb : s ≠ ⊥ := fun h => by rw [h] at hs; exact absurd hs (by simp)
    lift s to ℝ using ⟨ht, hb⟩
    have hs' : 0 ≤ s := EReal.coe_nonneg.mp hs
    set w : ℝ := s * (2048 : ℝ)⁻¹ + e with hw
    have w0 : 0 < w := by positivity
    have v1 : v = (w : EReal) := by rw [hv, iN]; norm_cast
    have r1 : r = (((Real.sqrt w)⁻¹ : ℝ) : EReal) := by
      simp only [r, v1, Ideal.rsqrt_coe, if_neg (not_lt.mpr w0.le), if_neg w0.ne']
    have d1 : Ideal.div r v = (((Real.sqrt w)⁻¹ * (Real.sqrt w)⁻¹ * (Real.sqrt w)⁻¹ : ℝ) : EReal) := by
      rw [Ideal.div, if_neg (by rw [v1]; exact_mod_cast w0.ne'), r1, v1, ← EReal.coe_inv, ← EReal.coe_mul]
      congr 1
      have i : w⁻¹ = (Real.sqrt w)⁻¹ * (Real.sqrt w)⁻¹ := by rw [← mul_inv, Real.mul_self_sqrt w0.le]
      rw [i, mul_assoc]
    have c0 : (0 : ℝ) ≤ (Real.sqrt w)⁻¹ * (Real.sqrt w)⁻¹ * (Real.sqrt w)⁻¹ := by positivity
    have r3 : r * r * r = (((Real.sqrt w)⁻¹ * (Real.sqrt w)⁻¹ * (Real.sqrt w)⁻¹ : ℝ) : EReal) := by
      rw [r1, ← EReal.coe_mul, ← EReal.coe_mul]
    have q1 : q = S * N⁻¹ * ((-(1 / 2) * ((Real.sqrt w)⁻¹ * (Real.sqrt w)⁻¹ * (Real.sqrt w)⁻¹) : ℝ) : EReal) := by
      simp only [q]
      rw [dN, half, d1, ← EReal.coe_mul, mul_assoc, mul_comm _ N⁻¹, ← mul_assoc]
    rw [q1, r3, dN]
    generalize (Real.sqrt w)⁻¹ * (Real.sqrt w)⁻¹ * (Real.sqrt w)⁻¹ = b at c0 ⊢
    rw [mul_comm (S * N⁻¹ * _) x, ← mul_assoc x, add_assoc, double _ _ c0, mul_comm p r, ← add_assoc, sub_eq_add_neg]
    congr 2
    rw [mul_assoc, mul_assoc, mul_comm _ (S * N⁻¹)]

section Block

open Cert.GradXIdeal Cert.GradXIdeal.Gen

variable (m : (ℓ : Loc nD τ sig) → Buf (Elt Ideal) ℓ) (c : Dev nD) (t : Fin cfg0.N)

/-- What a grid point leaves in the result's block, whether it is the first of its run or not. -/
theorem written :
    (outsAt0 m c t.val t.isLt).1 =
      k0_pay1 (k0_pay7 (iblk m c 2 t) (iblk m c 1 t) (iblk m c 3 t) (iblk m c 0 t))
        (k0_pay8 (iblk m c 2 t)) (k0_pay9 (iblk m c 2 t) (iblk m c 1 t) (iblk m c 3 t))
        (FloatOps.ofBits .f32 0x45000000#32) := by
  by_cases h0 : t.val % 16 = 0
  · rw [outsAt0_A m c t h0]
    frame_out
  · rw [outsAt0_B m c t h0]
    frame_out

/-- The blocks move with the grid point alike, and each holds whole rows; the gain's block is the
    gain. -/
theorem together : ∀ t : Fin cfg0.N,
    win0_4.index t 1 = 0 ∧ win0_0.index t = win0_4.index t ∧ win0_1.index t = win0_4.index t
      ∧ win0_2.index t = win0_4.index t ∧ win0_3.index t = ![0, 0] :=
  (by decide +kernel : ∀ t : Fin grid0.N, _)

variable (y : ((cfg0.win 4).xblock (cfg0.grid.coords t)).Idx) {i : S4096x2048.Idx}

/-- At each place of the block it writes, a grid point reads what is added at the place's own
    position `i` in the array, -/
theorem added (hi : ((cfg0.win 4).blk t).view.emb y = i) : iblk m c 0 t y = m (c.tc.loc main_arg0) i := by
  subst hi
  obtain ⟨-, e, -⟩ := together t
  refine Eq.trans ?_ (congrFun (V_main_arg0 m c) _)
  blk_ext [iblk, e]

/-- the gradient at each place of the position's row, -/
theorem grad (hi : ((cfg0.win 4).blk t).view.emb y = i) (k : Fin 2048) :
    iblk m c 1 t (ix2 (y 0) k) = m (c.tc.loc main_arg1) (ix2 (i 0) k) := by
  subst hi
  obtain ⟨z, -, e, -⟩ := together t
  refine Eq.trans ?_ (congrFun (V_main_arg1 m c) _)
  blk_ext [iblk, e, z]

/-- the input at each place of that row, -/
theorem input (hi : ((cfg0.win 4).blk t).view.emb y = i) (k : Fin 2048) :
    iblk m c 2 t (ix2 (y 0) k) = m (c.tc.loc main_arg2) (ix2 (i 0) k) := by
  subst hi
  obtain ⟨z, -, -, e, -⟩ := together t
  refine Eq.trans ?_ (congrFun (V_main_arg2 m c) _)
  blk_ext [iblk, e, z]

/-- and the gain of each column. -/
theorem gain (k : Fin 2048) : iblk m c 3 t (ix2 0 k) = m (c.tc.loc main_arg3) (ix1 k) := by
  obtain ⟨-, -, -, -, e⟩ := together t
  blk_ext! [iblk, V, e]

/-- The gradient, the input and the gain at the place itself. -/
theorem here (hi : ((cfg0.win 4).blk t).view.emb y = i) :
    iblk m c 1 t y = m (c.tc.loc main_arg1) i ∧ iblk m c 2 t y = m (c.tc.loc main_arg2) i
      ∧ iblk m c 3 t (ix2 0 (y 1)) = m (c.tc.loc main_arg3) (ix1 (i 1)) := by
  subst hi
  obtain ⟨z, -, e1, e2, e3⟩ := together t
  refine ⟨Eq.trans ?_ (congrFun (V_main_arg1 m c) _), Eq.trans ?_ (congrFun (V_main_arg2 m c) _), ?_⟩
  · blk_ext [iblk, e1]
  · blk_ext [iblk, e2]
  · blk_ext! [iblk, V, e3, z]

end Block

/-- The reference runs to the end and leaves its arguments as they were. -/
theorem frame_ref_ideal : Cert.quiescent_GradXRefIdeal := fun m g _ =>
  (θ_run _ _ _).mono (fun r h => ⟨fun c => (h c).2, sem_eq_zero_of_no_sems (by decide) r.2⟩)
    (Cert.GradXRefIdeal.Value.run (F := Ideal) m g)

open Cert.GradXIdeal Cert.GradXIdeal.Gen in
/-- The kernel's array is the reference's. -/
theorem value : Cert.algebraic_GradXIdeal_GradXRefIdeal := by
  intro m g m' g' _ hm
  refine ⟨_, (θ_run _ _ _).mono (fun r h c => ⟨(h c).1, (h c).2.2.2⟩) (Cert.GradXIdeal.Value.run_blocks (F := Ideal) m g),
    (θ_run _ _ _).mono (fun r h c => ?_) (Cert.GradXRefIdeal.Value.run (F := Ideal) m' g')⟩
  obtain ⟨e0, e1, e2, e3⟩ := hm c
  obtain ⟨h0, h4⟩ := h c
  refine ⟨h0.trans ?_, h4⟩
  clear h0 h4 h hm
  rw [e0, e1, e2, e3]
  refine Eq.symm ((dats m 0 c).arrAt_eq_of_covers 4 _ (by decide +kernel) fun t _ y => ?_)
  blk_simp
  rw [after0_4, written]
  pointwise [k0_pay1, k0_pay7, k0_pay8, k0_pay9, k0_pay6, k0_pay4]
  generalize hi : ((View.whole main_v1_0).slice (win0_4.rect t)).emb y = i
  obtain ⟨d, x, z⟩ := here m c t y hi
  simp only [added m c t y hi, grad m c t y hi, input m c t y hi, gain m c t, d, x, z, Fin.sum_univ_one]
  refine Eq.trans ?_ (backward _ _ _ _ _ (Finset.sum_nonneg fun k _ => square _))
  exact congrArg (fun S => _ - _ * Ideal.div S _) (Finset.sum_congr rfl fun k _ => mul_comm _ _)

end Cert.StepGradX

end
-- ==== Proof.LossClaims.lean ====
/-
What is claimed of a device's loss: half the sum over its rows of the mean square of what the last
norm misses the target by. The kernel adds the squares up point by point, eight rows apart, and
scales their sum once; the reference takes each row's mean.
-/
module

public import proofs.«01_k».proof.Defs
public import proofs.«01_k».proof.Proof.Gen.Loss.Frame
public import proofs.«01_k».proof.Proof.Gen.LossIdeal.Frame
public import proofs.«01_k».proof.Proof.Gen.LossRefIdeal.Run
public import proofs.«01_k».proof.Proof.Blocks
public import proofs.«01_k».proof.Proof.GradXClaims
public import Idealize.ShloMosaic.Lib.Pipeline.ValueKit
public import Idealize.ShloMosaic.Lib.Pointwise
public import Idealize.ShloMosaic.Lib.ValueLayout
public import Idealize.ShloMosaic.Lib.Claim

@[expose] public section

noncomputable section

namespace Cert.StepLoss

open Idealize.ShloMosaic Idealize.SL.Sem Cert.Exchange

/-! ## The scalars -/

/-- Half over 2048, as the kernel writes it, -/
theorem scale : Ideal.ofBits .f32 964689920#32 = ((1 / 4096 : ℝ) : EReal) := by
  simp [Ideal.ofBits, Ideal.ieee, -EReal.coe_mul]; norm_num

/-- and the half of the reference. -/
theorem half : Ideal.ofBits .f32 1056964608#32 = ((1 / 2 : ℝ) : EReal) := by
  simp [Ideal.ofBits, Ideal.ieee, -EReal.coe_mul]; norm_num

/-- A factor may be taken out of a sum of terms that are not negative: at every extended real. -/
theorem factor {n : ℕ} (f : Fin n → EReal) (h : ∀ i, 0 ≤ f i) (b : EReal) :
    ∑ i, f i * b = (∑ i, f i) * b := by
  classical
  refine Finset.induction_on (Finset.univ : Finset (Fin n)) (by simp) fun i s hi e => ?_
  rw [Finset.sum_insert hi, Finset.sum_insert hi, e,
    EReal.right_distrib_of_nonneg (h i) (Finset.sum_nonneg fun k _ => h k)]

/-- Half the sum over the rows of the mean over the 2048 columns is 1/4096 of the sum over both. -/
theorem means {n : ℕ} (f : Fin n → Fin 2048 → EReal) (h : ∀ i k, 0 ≤ f i k) :
    Ideal.ofBits .f32 1056964608#32 * ∑ i, Ideal.div (∑ k, f i k) (Ideal.ofBits .f32 1157627904#32)
      = Ideal.ofBits .f32 964689920#32 * ∑ i, ∑ k, f i k := by
  have e : ∀ x, Ideal.div x (Ideal.ofBits .f32 1157627904#32) = x * ((2048⁻¹ : ℝ) : EReal) := fun x => by
    rw [Cert.StepGradX.count, Ideal.div, if_neg (by norm_num), ← EReal.coe_inv]
  simp only [e]
  rw [factor _ (fun i => Finset.sum_nonneg fun k _ => h i k), half, scale, mul_comm (∑ i, _) _, ← mul_assoc,
    ← EReal.coe_mul]
  norm_num

/-- What one place adds to the loss: the square of what the normalized row, times the gain, misses
    the target by. -/
def miss {n : ℕ} (x : Fin n → Fin 2048 → EReal) (g : Fin 2048 → EReal) (y : Fin n → Fin 2048 → EReal)
    (r : Fin n) (k : Fin 2048) : EReal :=
  (x r k * Ideal.rsqrt (Ideal.div (∑ l, x r l * x r l) (Ideal.ofBits .f32 1157627904#32)
      + Ideal.ofBits .f32 897988541#32) * g k - y r k)
    * (x r k * Ideal.rsqrt (Ideal.div (∑ l, x r l * x r l) (Ideal.ofBits .f32 1157627904#32)
      + Ideal.ofBits .f32 897988541#32) * g k - y r k)

/-- It is the same wherever the row and its target stand. -/
theorem miss_congr {n n' : ℕ} {x : Fin n → Fin 2048 → EReal} {x' : Fin n' → Fin 2048 → EReal} {g g' : Fin 2048 → EReal}
    {y : Fin n → Fin 2048 → EReal} {y' : Fin n' → Fin 2048 → EReal} {r : Fin n} {r' : Fin n'}
    (hx : ∀ k, x r k = x' r' k) (hg : ∀ k, g k = g' k) (hy : ∀ k, y r k = y' r' k) (k : Fin 2048) :
    miss x g y r k = miss x' g' y' r' k := by
  simp only [miss, hx, hg, hy]

/-- A sum over the rows, taken as eight sums each over every eighth row. -/
theorem rows (f : Fin 4096 → Fin 2048 → EReal) :
    ∑ r, ∑ k, f r k = ∑ i : Fin 8, ∑ k, ∑ s : Fin 512, f ⟨s.val * 8 + i.val, by omega⟩ k := by
  rw [← Fin.sum_mul_add_congr (S := 512) (n := 8) (F := fun s i => ∑ k, f ⟨s.val * 8 + i.val, by omega⟩ k)
    (f := fun r => ∑ k, f r k) (fun _ _ _ => rfl), Finset.sum_comm]
  exact Finset.sum_congr rfl fun i _ => Finset.sum_comm

/-! ## The kernel -/

section Kernel

open Cert.LossIdeal Cert.LossIdeal.Gen

/-- One grid point adds, at each of its 8 by 2048 places, the misses of 32 of its rows. -/
theorem adds (x : FVec Ideal S256x2048 .f32) (g : FVec Ideal S1x2048 .f32) (y : FVec Ideal S256x2048 .f32)
    (acc : FVec Ideal S8x2048 .f32) (j : S8x2048.Idx) :
    k0_pay8 (F := Ideal) x g y acc j = acc j + ∑ q : Fin 32, miss (fun r k => x (ix2 r k)) (fun k => g (ix2 0 k))
      (fun r k => y (ix2 r k)) (⟨q.val * 8 + (j 0).val, by have := (j 0).isLt; have := q.isLt; simp at *; omega⟩ : Fin 256) (j 1) := by
  pointwise [k0_pay8, k0_pay7, k0_pay5, k0_pay6]
  rfl

/-- The first point starts from zero. -/
theorem starts (j : S8x2048.Idx) : k0_pay4 (F := Ideal) j = 0 := by
  pointwise [k0_pay4]

variable (m : (ℓ : Loc nD τ sig) → Buf (Elt Ideal) ℓ) (c : Dev nD)

/-- A grid point's blocks: the rows follow the point, and the gain's block is the gain. -/
theorem places : ∀ t : Fin cfg0.N,
    win0_0.index t = ![t.val, 0] ∧ win0_1.index t = ![0, 0] ∧ win0_2.index t = ![t.val, 0] :=
  (by decide +kernel : ∀ t : Fin grid0.N, _)

/-- Row `r` of the input's block at point `t` is row `256 t + r` of the input, -/
theorem input (t : Fin cfg0.N) (r : Fin 256) (k : Fin 2048) {i : Fin 4096} (h : t.val * 256 + r.val = i.val) :
    iblk m c 0 t (ix2 r k) = m (c.tc.loc main_arg0) (ix2 i k) := by
  obtain ⟨i, hi⟩ := i
  subst h
  obtain ⟨e, -, -⟩ := places t
  refine Eq.trans ?_ (congrFun (V_main_arg0 m c) _)
  blk_ext [iblk, e]

/-- the same of the target, -/
theorem target (t : Fin cfg0.N) (r : Fin 256) (k : Fin 2048) {i : Fin 4096} (h : t.val * 256 + r.val = i.val) :
    iblk m c 2 t (ix2 r k) = m (c.tc.loc main_arg2) (ix2 i k) := by
  obtain ⟨i, hi⟩ := i
  subst h
  obtain ⟨-, -, e⟩ := places t
  refine Eq.trans ?_ (congrFun (V_main_arg2 m c) _)
  blk_ext [iblk, e]

/-- The gain reaches the region as one row, -/
theorem row : V m c main_v0 = (shapeCast S1x2048 (m (c.tc.loc main_arg1) : FVec Ideal S2048 .f32)
    shapeCasts_S2048_S1x2048 : FVec Ideal S1x2048 .f32) := by
  show StableHlo.after hostOps0 _ _ = _
  after_results
  rfl

/-- and the gain is read as it is. -/
theorem gain (t : Fin cfg0.N) (k : Fin 2048) :
    iblk m c 1 t (ix2 0 k) = m (c.tc.loc main_arg1) (ix1 k) := by
  obtain ⟨-, e, -⟩ := places t
  refine Eq.trans (b := V m c main_v0 (ix2 0 k)) ?_ ?_
  · blk_ext [iblk, e]
  · refine (congrFun (row m c) (ix2 0 k)).trans ?_
    exact ValueIdx.shapeCast_a_1a_apply _ _ _ _

/-- The misses of the whole device. -/
def misses (r : Fin 4096) (k : Fin 2048) : EReal :=
  miss (fun r k => m (c.tc.loc main_arg0) (ix2 r k)) (fun k => m (c.tc.loc main_arg1) (ix1 k))
    (fun r k => m (c.tc.loc main_arg2) (ix2 r k)) r k

/-- The result's block holds, after the last point, at row `i` the misses of every eighth row. -/
theorem final (i : Fin 8) (k : Fin 2048) :
    (dats m 0 c).arrAt 6 cfg0.N (ix2 i k)
      = ∑ s : Fin 512, misses m c ⟨s.val * 8 + i.val, by omega⟩ k := by
  revert i k
  suffices h : (dats m 0 c).arrAt 6 cfg0.N = fun j : S8x2048.Idx =>
      ∑ s : Fin 512, misses m c ⟨s.val * 8 + (j 0).val, by have := (j 0).isLt; have := s.isLt; simp at *; omega⟩ (j 1) by
    intro i k; rw [h]; rfl
  refine (dats m 0 c).arrAt_eq_of_after_last 6 t0_15 (by decide +kernel) _ fun j => ?_
  blk_simp
  rw [after0_6, Pipeline.eq_sum_fin_of_reset_step_apply_last (fun n h => (outsAt0 m c n h).2.2.2) 16 (fun _ => 0) _
    (fun t h j => by rw [outsAt0_A m c t h]; frame_out; rw [adds, starts])
    (fun t h j => by rw [outsAt0_B m c t h]; frame_out; rw [adds])
    (le_of_eq N_0) t0_15 rfl j, zero_add]
  refine Fin.sum_mul_add_congr fun t q hl => ?_
  have e : t.val * 256 + (q.val * 8 + (j 0).val) = (t.val * 32 + q.val) * 8 + (j 0).val := by omega
  exact miss_congr (fun k => input m c t _ k e) (gain m c t) (fun k => target m c t _ k e) (j 1)

/-- After the region the loss is 1/4096 of the sum over that block. -/
theorem tail : Pipeline.afterTail₀ cfgs (dats m) 0 (V0 m) [hostOps1] c main_v3
    = (mulf (constant (F := Ideal) S_ .f32 0x39800000#32)
        (Host.reduceAdd (show FVec Ideal S8x2048 .f32 from (dats m 0 c).arrAt 6 cfg0.N)
          (constant S_ .f32 0x00000000#32) reducesTo_S8x2048_S_d0_1 h_S_) : FVec Ideal S_ .f32) := by
  unfold Pipeline.afterTail₀
  simp only [List.flatten_cons, List.flatten_nil, List.append_nil]
  after_results
  exact congrArg (fun x : FVec Ideal S8x2048 .f32 => mulf (constant (F := Ideal) S_ .f32 0x39800000#32)
      (Host.reduceAdd x (constant S_ .f32 0x00000000#32) reducesTo_S8x2048_S_d0_1 h_S_))
    (Pipeline.withArrays_arr spec0 (by decide) c (V0 m c) (fun w => (dats m 0 c).arrAt w cfg0.N) 6)

end Kernel

/-- The reference program's arguments are left as they are. -/
theorem frame_ref_ideal : Cert.quiescent_LossRefIdeal := fun m g _ =>
  (θ_run _ _ _).mono (fun r h => ⟨fun c => (h c).2, sem_eq_zero_of_no_sems (by decide) r.2⟩)
    (Cert.LossRefIdeal.Value.run (F := Ideal) m g)

open Cert.LossIdeal Cert.LossIdeal.Gen in
/-- The kernel's loss is the reference's. -/
theorem value : Cert.algebraic_LossIdeal_LossRefIdeal := by
  pair_intro
  · run_from Cert.LossIdeal.Gen.unchanged (F := Ideal) m g & Cert.LossIdeal.Gen.run_main (F := Ideal) m g
  · run_from Cert.LossRefIdeal.Value.run (F := Ideal) m' g'
    rw [tail]
    funext j
    pointwise
    simp only [final]
    exact (means (misses m c) fun _ _ => Cert.StepGradX.square _).trans (congrArg _ (rows (misses m c)))

end Cert.StepLoss

end
-- ==== Proof.OutProjClaims.lean ====
/-
The output projection of the mixer on one device: a product of the mixed rows with the weights, added to the residual stream.
-/
module

public import proofs.«01_k».proof.Defs
public import proofs.«01_k».proof.Proof.Gen.OutProj.Frame
public import proofs.«01_k».proof.Proof.Gen.OutProjIdeal.Value
public import proofs.«01_k».proof.Proof.Gen.OutProjRefIdeal.Run
public import proofs.«01_k».proof.Proof.Blocks
public import Idealize.ShloMosaic.Lib.Pipeline.ValueKit
public import Idealize.ShloMosaic.Lib.Pointwise
public import Idealize.ShloMosaic.Lib.Claim

@[expose] public section

noncomputable section

namespace Cert.StepOutProj

open Idealize.ShloMosaic Idealize.SL.Sem Cert.Exchange

section Block

open Cert.OutProjIdeal Cert.OutProjIdeal.Gen

/-- What a grid point stores, at a place of its block: the residual there, and the row of one block against the column of the
    other, over all the lanes at once. -/
theorem stored (a : Vec Ideal S1024x2048 .bf16) (b : Vec Ideal S2048x512 .bf16) (x : Vec Ideal S1024x512 .f32) (j : S1024x512.Idx) :
    k0_pay3 (k0_pay2 k0_pay1 a b) x j = x j + ∑ k : Fin 2048, a (ix2 (j 0) k) * b (ix2 k (j 1)) := by
  pointwise [k0_pay3, k0_pay2, k0_pay1]
  exact add_comm _ _

/-- The blocks that a grid point reads lie along the block that it writes. -/
theorem places : ∀ t : Fin cfg0.N, win0_0.index t = ![win0_3.index t 0, 0] ∧ win0_1.index t = ![0, win0_3.index t 1]
    ∧ win0_2.index t = win0_3.index t := (by decide +kernel : ∀ t : Fin grid0.N, _)

end Block

/-- The reference runs to the end and leaves its arguments as they were. -/
theorem frame_ref_ideal : Cert.quiescent_OutProjRefIdeal := fun m g _ =>
  (θ_run _ _ _).mono (fun r h => ⟨fun c => (h c).2, sem_eq_zero_of_no_sems (by decide) r.2⟩)
    (Cert.OutProjRefIdeal.Value.run (F := Ideal) m g)

open Cert.OutProjIdeal Cert.OutProjIdeal.Gen in
/-- The kernel's array is the reference's. -/
theorem value : Cert.algebraic_OutProjIdeal_OutProjRefIdeal := by
  intro m g m' g' _ hm
  refine ⟨_, Cert.OutProjIdeal.Value.run_blocks (F := Ideal) m g,
    (θ_run _ _ _).mono (fun r h c => ?_) (Cert.OutProjRefIdeal.Value.run (F := Ideal) m' g')⟩
  obtain ⟨e0, e1, e2⟩ := hm c
  obtain ⟨h0, h1⟩ := h c
  refine ⟨h0.trans ?_, h1⟩
  clear h0 h1 h hm
  rw [e0, e1, e2]
  refine Eq.symm ((dats m 0 c).arrAt_eq_of_covers 3 _ (by decide +kernel) fun t _ y => ?_)
  blk_simp
  rw [after0_3]
  unfold outsAt0
  frame_out
  rw [stored]
  obtain ⟨e0, e1, e2⟩ := places t
  pointwise
  refine congrArg₂ (· + ·) ?_ (Fin.sum_fin_congr fun k => ?_)
  · blk_ext [iblk, V, e2]
  · blk_point [iblk, V, e0, e1]

end Cert.StepOutProj

end
-- ==== Proof.FfnDownClaims.lean ====
/-
The second half of the feed-forward part on one device: a product of the activation with the weights, added to the residual stream.
-/
module

public import proofs.«01_k».proof.Defs
public import proofs.«01_k».proof.Proof.Gen.FfnDown.Frame
public import proofs.«01_k».proof.Proof.Gen.FfnDownIdeal.Value
public import proofs.«01_k».proof.Proof.Gen.FfnDownRefIdeal.Run
public import proofs.«01_k».proof.Proof.Blocks
public import Idealize.ShloMosaic.Lib.Pipeline.ValueKit
public import Idealize.ShloMosaic.Lib.Pointwise
public import Idealize.ShloMosaic.Lib.Claim

@[expose] public section

noncomputable section

namespace Cert.StepFfnDown

open Idealize.ShloMosaic Idealize.SL.Sem Cert.Exchange

section Block

open Cert.FfnDownIdeal Cert.FfnDownIdeal.Gen

/-- What a grid point stores, at a place of its block: the residual there, and the row of one block against the column of the
    other, over all the lanes at once. -/
theorem stored (a : Vec Ideal S512x5504 .bf16) (b : Vec Ideal S5504x512 .bf16) (x : Vec Ideal S512x512 .f32) (j : S512x512.Idx) :
    k0_pay3 (k0_pay2 k0_pay1 a b) x j = x j + ∑ k : Fin 5504, a (ix2 (j 0) k) * b (ix2 k (j 1)) := by
  pointwise [k0_pay3, k0_pay2, k0_pay1]
  exact add_comm _ _

/-- The blocks that a grid point reads lie along the block that it writes. -/
theorem places : ∀ t : Fin cfg0.N, win0_0.index t = ![win0_3.index t 0, 0] ∧ win0_1.index t = ![0, win0_3.index t 1]
    ∧ win0_2.index t = win0_3.index t := (by decide +kernel : ∀ t : Fin grid0.N, _)

end Block

/-- The reference runs to the end and leaves its arguments as they were. -/
theorem frame_ref_ideal : Cert.quiescent_FfnDownRefIdeal := fun m g _ =>
  (θ_run _ _ _).mono (fun r h => ⟨fun c => (h c).2, sem_eq_zero_of_no_sems (by decide) r.2⟩)
    (Cert.FfnDownRefIdeal.Value.run (F := Ideal) m g)

open Cert.FfnDownIdeal Cert.FfnDownIdeal.Gen in
/-- The kernel's array is the reference's. -/
theorem value : Cert.algebraic_FfnDownIdeal_FfnDownRefIdeal := by
  intro m g m' g' _ hm
  refine ⟨_, Cert.FfnDownIdeal.Value.run_blocks (F := Ideal) m g,
    (θ_run _ _ _).mono (fun r h c => ?_) (Cert.FfnDownRefIdeal.Value.run (F := Ideal) m' g')⟩
  obtain ⟨e0, e1, e2⟩ := hm c
  obtain ⟨h0, h1⟩ := h c
  refine ⟨h0.trans ?_, h1⟩
  clear h0 h1 h hm
  rw [e0, e1, e2]
  refine Eq.symm ((dats m 0 c).arrAt_eq_of_covers 3 _ (by decide +kernel) fun t _ y => ?_)
  blk_simp
  rw [after0_3]
  unfold outsAt0
  frame_out
  rw [stored]
  obtain ⟨e0, e1, e2⟩ := places t
  pointwise
  refine congrArg₂ (· + ·) ?_ (Fin.sum_fin_congr fun k => ?_)
  · blk_ext [iblk, V, e2]
  · blk_point [iblk, V, e0, e1]

end Cert.StepFfnDown

end
-- ==== Proof.DActClaims.lean ====
/-
The gradient of the activation on one device: a product with the transposed weights, accumulated over four runs of lanes.
-/
module

public import proofs.«01_k».proof.Defs
public import proofs.«01_k».proof.Proof.Gen.DAct.Frame
public import proofs.«01_k».proof.Proof.Gen.DActIdeal.Value
public import proofs.«01_k».proof.Proof.Gen.DActRefIdeal.Run
public import proofs.«01_k».proof.Proof.Blocks
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.StepDAct

open Idealize.ShloMosaic Idealize.SL.Sem Cert.Exchange

section Block

open Cert.DActIdeal Cert.DActIdeal.Gen

/-- The accumulator is empty at the first point of a run. -/
theorem empty (j : S256x5504.Idx) : k0_pay1 (F := Ideal) j = 0 := by
  pointwise [k0_pay1]

/-- A point adds the rows of its two blocks against each other. -/
theorem added (acc : Vec Ideal S256x5504 .f32) (a : Vec Ideal S256x512 .bf16) (b : Vec Ideal S5504x512 .bf16) (j : S256x5504.Idx) :
    k0_pay2 acc a b j = acc j + ∑ k : Fin 512, a (ix2 (j 0) k) * b (ix2 (j 1) k) := by
  pointwise [k0_pay2]

/-- The blocks that a grid point reads lie along the block that its run writes, at the point's own place in the run. -/
theorem places : ∀ t : Fin cfg0.N, win0_0.index t = ![t.val / 4, t.val % 4] ∧ win0_1.index t = ![0, t.val % 4]
    ∧ win0_2.index t = ![t.val / 4, 0] := (by decide +kernel : ∀ t : Fin grid0.N, _)

/-- What is written back at the end of a run is what the run accumulated. -/
theorem kept (m : (ℓ : Loc nD τ sig) → Buf (Elt Ideal) ℓ) (c : Dev nD) (t : Fin cfg0.N) (h : t.val % 4 = 3) :
    (outsAt0 m c t.val t.isLt).1 = (outsAt0 m c t.val t.isLt).2 := by
  rw [outsAt0_C m c t (by omega) h]
  frame_out

end Block

/-- The reference runs to the end and leaves its arguments as they were. -/
theorem frame_ref_ideal : Cert.quiescent_DActRefIdeal := fun m g _ =>
  (θ_run _ _ _).mono (fun r h => ⟨fun c => (h c).2, sem_eq_zero_of_no_sems (by decide) r.2⟩)
    (Cert.DActRefIdeal.Value.run (F := Ideal) m g)

open Cert.DActIdeal Cert.DActIdeal.Gen in
/-- The kernel's array is the reference's. -/
theorem value : Cert.algebraic_DActIdeal_DActRefIdeal := by
  intro m g m' g' _ hm
  refine ⟨_, Cert.DActIdeal.Value.run_blocks (F := Ideal) m g,
    (θ_run _ _ _).mono (fun r h c => ?_) (Cert.DActRefIdeal.Value.run (F := Ideal) m' g')⟩
  obtain ⟨e0, e1⟩ := hm c
  obtain ⟨h0, h1⟩ := h c
  refine ⟨h0.trans ?_, h1⟩
  clear h0 h1 h hm
  rw [e0, e1]
  refine Eq.symm ((dats m 0 c).arrAt_eq_of_covers 2 _ (by decide +kernel) fun t hf y => ?_)
  have hr := (flush0_2 t).mp hf
  blk_simp
  rw [after0_2, kept m c t hr, Pipeline.eq_sum_fin_of_reset_step_apply_of_flush (fun n h => (outsAt0 m c n h).2) 4 (fun _ => 0) _
    (fun t h j => by rw [outsAt0_A m c t h (by omega)]; frame_out; rw [added, empty])
    (fun t h j => by
      by_cases h' : t.val % 4 = 3
      · rw [outsAt0_C m c t h h']; frame_out; rw [added, read_unread_whole]
      · rw [outsAt0_B m c t h h']; frame_out; rw [added, read_unread_whole])
    t hr _, zero_add]
  pointwise
  refine Fin.sum_mul_add_congr fun s k hl => ?_
  blk_point [iblk, V, places t, places ⟨_, Pipeline.run_point_lt_of_flush t hr s⟩]

end Cert.StepDAct

end
-- ==== Proof.DMixedClaims.lean ====
/-
The gradient of the mixed rows on one device: a product with the transposed weights.
-/
module

public import proofs.«01_k».proof.Defs
public import proofs.«01_k».proof.Proof.Gen.DMixed.Frame
public import proofs.«01_k».proof.Proof.Gen.DMixedIdeal.Value
public import proofs.«01_k».proof.Proof.Gen.DMixedRefIdeal.Run
public import proofs.«01_k».proof.Proof.Blocks
public import Idealize.ShloMosaic.Lib.Pipeline.ValueKit
public import Idealize.ShloMosaic.Lib.Pointwise
public import Idealize.ShloMosaic.Lib.Claim

@[expose] public section

noncomputable section

namespace Cert.StepDMixed

open Idealize.ShloMosaic Idealize.SL.Sem Cert.Exchange

section Block

open Cert.DMixedIdeal Cert.DMixedIdeal.Gen

/-- What a grid point stores: the rows of its two blocks against each other, over all the lanes at once. -/
theorem stored (a : Vec Ideal S1024x2048 .bf16) (b : Vec Ideal S512x2048 .bf16) (j : S1024x512.Idx) :
    k0_pay2 k0_pay1 a b j = ∑ k : Fin 2048, a (ix2 (j 0) k) * b (ix2 (j 1) k) := by
  pointwise [k0_pay2, k0_pay1]

/-- The blocks that a grid point reads lie along the block that it writes. -/
theorem places : ∀ t : Fin cfg0.N, win0_0.index t = ![win0_2.index t 0, 0] ∧ win0_1.index t = ![win0_2.index t 1, 0] :=
  (by decide +kernel : ∀ t : Fin grid0.N, _)

end Block

/-- The reference runs to the end and leaves its arguments as they were. -/
theorem frame_ref_ideal : Cert.quiescent_DMixedRefIdeal := fun m g _ =>
  (θ_run _ _ _).mono (fun r h => ⟨fun c => (h c).2, sem_eq_zero_of_no_sems (by decide) r.2⟩)
    (Cert.DMixedRefIdeal.Value.run (F := Ideal) m g)

open Cert.DMixedIdeal Cert.DMixedIdeal.Gen in
/-- The kernel's array is the reference's. -/
theorem value : Cert.algebraic_DMixedIdeal_DMixedRefIdeal := by
  intro m g m' g' _ hm
  refine ⟨_, Cert.DMixedIdeal.Value.run_blocks (F := Ideal) m g,
    (θ_run _ _ _).mono (fun r h c => ?_) (Cert.DMixedRefIdeal.Value.run (F := Ideal) m' g')⟩
  obtain ⟨e0, e1⟩ := hm c
  obtain ⟨h0, h1⟩ := h c
  refine ⟨h0.trans ?_, h1⟩
  clear h0 h1 h hm
  rw [e0, e1]
  refine Eq.symm ((dats m 0 c).arrAt_eq_of_covers 2 _ (by decide +kernel) fun t _ y => ?_)
  blk_simp
  rw [after0_2]
  unfold outsAt0
  frame_out
  rw [stored]
  obtain ⟨e0, e1⟩ := places t
  pointwise
  refine Fin.sum_fin_congr fun k => ?_
  blk_point [iblk, V, e0, e1]

end Cert.StepDMixed

end
-- ==== Proof.DHTwoClaims.lean ====
/-
The gradient of the normalised rows before the feed-forward part on one device: a product with the weights as they are laid out
for the forward pass, accumulated over two runs of lanes.
-/
module

public import proofs.«01_k».proof.Defs
public import proofs.«01_k».proof.Proof.Gen.DHTwo.Frame
public import proofs.«01_k».proof.Proof.Gen.DHTwoIdeal.Value
public import proofs.«01_k».proof.Proof.Gen.DHTwoRefIdeal.Run
public import proofs.«01_k».proof.Proof.Blocks
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.StepDHTwo

open Idealize.ShloMosaic Idealize.SL.Sem Cert.Exchange

section Block

open Cert.DHTwoIdeal Cert.DHTwoIdeal.Gen

/-- The accumulator is empty at the first point of a run. -/
theorem empty (j : S512x512.Idx) : k0_pay1 (F := Ideal) j = 0 := by
  pointwise [k0_pay1]

/-- A point adds the row of one block against the column of the other. -/
theorem added (acc : Vec Ideal S512x512 .f32) (a : Vec Ideal S512x5504 .bf16) (b : Vec Ideal S5504x512 .bf16) (j : S512x512.Idx) :
    k0_pay2 acc a b j = acc j + ∑ k : Fin 5504, a (ix2 (j 0) k) * b (ix2 k (j 1)) := by
  pointwise [k0_pay2]

/-- The blocks that a grid point reads lie along the block that its run writes, at the point's own place in the run. -/
theorem places : ∀ t : Fin cfg0.N, win0_0.index t = ![t.val / 8, t.val % 2] ∧ win0_1.index t = ![t.val % 2, t.val / 2 % 4]
    ∧ win0_2.index t = ![t.val / 8, t.val / 2 % 4] := (by decide +kernel : ∀ t : Fin grid0.N, _)

/-- What is written back at the end of a run is what the run accumulated. -/
theorem kept (m : (ℓ : Loc nD τ sig) → Buf (Elt Ideal) ℓ) (c : Dev nD) (t : Fin cfg0.N) (h : t.val % 2 = 1) :
    (outsAt0 m c t.val t.isLt).1 = (outsAt0 m c t.val t.isLt).2 := by
  rw [outsAt0_B m c t (by omega) h]
  frame_out

end Block

/-- The reference runs to the end and leaves its arguments as they were. -/
theorem frame_ref_ideal : Cert.quiescent_DHTwoRefIdeal := fun m g _ =>
  (θ_run _ _ _).mono (fun r h => ⟨fun c => (h c).2, sem_eq_zero_of_no_sems (by decide) r.2⟩)
    (Cert.DHTwoRefIdeal.Value.run (F := Ideal) m g)

open Cert.DHTwoIdeal Cert.DHTwoIdeal.Gen in
/-- The kernel's array is the reference's. -/
theorem value : Cert.algebraic_DHTwoIdeal_DHTwoRefIdeal := by
  intro m g m' g' _ hm
  refine ⟨_, Cert.DHTwoIdeal.Value.run_blocks (F := Ideal) m g,
    (θ_run _ _ _).mono (fun r h c => ?_) (Cert.DHTwoRefIdeal.Value.run (F := Ideal) m' g')⟩
  obtain ⟨e0, e1⟩ := hm c
  obtain ⟨h0, h1⟩ := h c
  refine ⟨h0.trans ?_, h1⟩
  clear h0 h1 h hm
  rw [e0, e1]
  refine Eq.symm ((dats m 0 c).arrAt_eq_of_covers 2 _ (by decide +kernel) fun t hf y => ?_)
  have hr := (flush0_2 t).mp hf
  blk_simp
  rw [after0_2, kept m c t hr, Pipeline.eq_sum_fin_of_reset_step_apply_of_flush (fun n h => (outsAt0 m c n h).2) 2 (fun _ => 0) _
    (fun t h j => by rw [outsAt0_A m c t h (by omega)]; frame_out; rw [added, empty])
    (fun t h j => by rw [outsAt0_B m c t h (by omega)]; frame_out; rw [added, read_unread_whole])
    t hr _, zero_add]
  pointwise
  refine Fin.sum_mul_add_congr fun s k hl => ?_
  blk_point [iblk, V, places t, places ⟨_, Pipeline.run_point_lt_of_flush t hr s⟩]

end Cert.StepDHTwo

end
-- ==== Proof.DHClaims.lean ====
/-
The gradient of the normalised rows before the mixer on one device: a product with the weights as they are laid out for the
forward pass, accumulated over three runs of lanes.
-/
module

public import proofs.«01_k».proof.Defs
public import proofs.«01_k».proof.Proof.Gen.DH.Frame
public import proofs.«01_k».proof.Proof.Gen.DHIdeal.Value
public import proofs.«01_k».proof.Proof.Gen.DHRefIdeal.Run
public import proofs.«01_k».proof.Proof.Blocks
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.StepDH

open Idealize.ShloMosaic Idealize.SL.Sem Cert.Exchange

section Block

open Cert.DHIdeal Cert.DHIdeal.Gen

/-- The accumulator is empty at the first point of a run. -/
theorem empty (j : S1024x512.Idx) : k0_pay1 (F := Ideal) j = 0 := by
  pointwise [k0_pay1]

/-- A point adds the row of one block against the column of the other. -/
theorem added (acc : Vec Ideal S1024x512 .f32) (a : Vec Ideal S1024x1024 .bf16) (b : Vec Ideal S1024x512 .bf16) (j : S1024x512.Idx) :
    k0_pay2 acc a b j = acc j + ∑ k : Fin 1024, a (ix2 (j 0) k) * b (ix2 k (j 1)) := by
  pointwise [k0_pay2]

/-- The blocks that a grid point reads lie along the block that its run writes, at the point's own place in the run. -/
theorem places : ∀ t : Fin cfg0.N, win0_0.index t = ![t.val / 12, t.val % 3] ∧ win0_1.index t = ![t.val % 3, t.val / 3 % 4]
    ∧ win0_2.index t = ![t.val / 12, t.val / 3 % 4] := (by decide +kernel : ∀ t : Fin grid0.N, _)

/-- What is written back at the end of a run is what the run accumulated. -/
theorem kept (m : (ℓ : Loc nD τ sig) → Buf (Elt Ideal) ℓ) (c : Dev nD) (t : Fin cfg0.N) (h : t.val % 3 = 2) :
    (outsAt0 m c t.val t.isLt).1 = (outsAt0 m c t.val t.isLt).2 := by
  rw [outsAt0_C m c t (by omega) h]
  frame_out

end Block

/-- The reference runs to the end and leaves its arguments as they were. -/
theorem frame_ref_ideal : Cert.quiescent_DHRefIdeal := fun m g _ =>
  (θ_run _ _ _).mono (fun r h => ⟨fun c => (h c).2, sem_eq_zero_of_no_sems (by decide) r.2⟩)
    (Cert.DHRefIdeal.Value.run (F := Ideal) m g)

open Cert.DHIdeal Cert.DHIdeal.Gen in
/-- The kernel's array is the reference's. -/
theorem value : Cert.algebraic_DHIdeal_DHRefIdeal := by
  intro m g m' g' _ hm
  refine ⟨_, Cert.DHIdeal.Value.run_blocks (F := Ideal) m g,
    (θ_run _ _ _).mono (fun r h c => ?_) (Cert.DHRefIdeal.Value.run (F := Ideal) m' g')⟩
  obtain ⟨e0, e1⟩ := hm c
  obtain ⟨h0, h1⟩ := h c
  refine ⟨h0.trans ?_, h1⟩
  clear h0 h1 h hm
  rw [e0, e1]
  refine Eq.symm ((dats m 0 c).arrAt_eq_of_covers 2 _ (by decide +kernel) fun t hf y => ?_)
  have hr := (flush0_2 t).mp hf
  blk_simp
  rw [after0_2, kept m c t hr, Pipeline.eq_sum_fin_of_reset_step_apply_of_flush (fun n h => (outsAt0 m c n h).2) 3 (fun _ => 0) _
    (fun t h j => by rw [outsAt0_A m c t h (by omega)]; frame_out; rw [added, empty])
    (fun t h j => by
      by_cases h' : t.val % 3 = 2
      · rw [outsAt0_C m c t h h']; frame_out; rw [added, read_unread_whole]
      · rw [outsAt0_B m c t h h']; frame_out; rw [added, read_unread_whole])
    t hr _, zero_add]
  pointwise
  refine Fin.sum_mul_add_congr fun s k hl => ?_
  blk_point [iblk, V, places t, places ⟨_, Pipeline.run_point_lt_of_flush t hr s⟩]

end Cert.StepDH

end
-- ==== Proof.DwDownClaims.lean ====
/-
The gradient of the second feed-forward weights on one device: a product over the rows, accumulated over sixteen bands of rows.
-/
module

public import proofs.«01_k».proof.Defs
public import proofs.«01_k».proof.Proof.Gen.DwDown.Frame
public import proofs.«01_k».proof.Proof.Gen.DwDownIdeal.Value
public import proofs.«01_k».proof.Proof.Gen.DwDownRefIdeal.Run
public import proofs.«01_k».proof.Proof.Blocks
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.StepDwDown

open Idealize.ShloMosaic Idealize.SL.Sem Cert.Exchange

section Block

open Cert.DwDownIdeal Cert.DwDownIdeal.Gen

/-- The accumulator is empty at the first point of a run. -/
theorem empty (j : S5504x512.Idx) : k0_pay1 (F := Ideal) j = 0 := by
  pointwise [k0_pay1]

/-- A point adds the columns of its two blocks against each other. -/
theorem added (acc : Vec Ideal S5504x512 .f32) (a : Vec Ideal S256x5504 .bf16) (b : Vec Ideal S256x512 .bf16) (j : S5504x512.Idx) :
    k0_pay2 acc a b j = acc j + ∑ k : Fin 256, a (ix2 k (j 0)) * b (ix2 k (j 1)) := by
  pointwise [k0_pay2]

/-- The blocks that a grid point reads lie along the block that its run writes, at the point's own place in the run. -/
theorem places : ∀ t : Fin cfg0.N, win0_0.index t = ![t.val % 16, 0] ∧ win0_1.index t = ![t.val % 16, t.val / 16]
    ∧ win0_2.index t = ![0, t.val / 16] := (by decide +kernel : ∀ t : Fin grid0.N, _)

/-- What is written back at the end of a run is what the run accumulated, in the narrower format. -/
theorem kept (m : (ℓ : Loc nD τ sig) → Buf (Elt Ideal) ℓ) (c : Dev nD) (t : Fin cfg0.N) (h : t.val % 16 = 15)
    (j : S5504x512.Idx) : (outsAt0 m c t.val t.isLt).1 j = (outsAt0 m c t.val t.isLt).2 j := by
  rw [outsAt0_C m c t (by omega) h]
  frame_out
  pointwise [k0_pay3]

end Block

/-- The reference runs to the end and leaves its arguments as they were. -/
theorem frame_ref_ideal : Cert.quiescent_DwDownRefIdeal := fun m g _ =>
  (θ_run _ _ _).mono (fun r h => ⟨fun c => (h c).2, sem_eq_zero_of_no_sems (by decide) r.2⟩)
    (Cert.DwDownRefIdeal.Value.run (F := Ideal) m g)

open Cert.DwDownIdeal Cert.DwDownIdeal.Gen in
/-- The kernel's array is the reference's. -/
theorem value : Cert.algebraic_DwDownIdeal_DwDownRefIdeal := by
  intro m g m' g' _ hm
  refine ⟨_, Cert.DwDownIdeal.Value.run_blocks (F := Ideal) m g,
    (θ_run _ _ _).mono (fun r h c => ?_) (Cert.DwDownRefIdeal.Value.run (F := Ideal) m' g')⟩
  obtain ⟨e0, e1⟩ := hm c
  obtain ⟨h0, h1⟩ := h c
  refine ⟨h0.trans ?_, h1⟩
  clear h0 h1 h hm
  rw [e0, e1]
  refine Eq.symm ((dats m 0 c).arrAt_eq_of_covers 2 _ (by decide +kernel) fun t hf y => ?_)
  have hr := (flush0_2 t).mp hf
  blk_simp
  rw [after0_2, kept m c t hr _, Pipeline.eq_sum_fin_of_reset_step_apply_of_flush (fun n h => (outsAt0 m c n h).2) 16 (fun _ => 0) _
    (fun t h j => by rw [outsAt0_A m c t h (by omega)]; frame_out; rw [added, empty])
    (fun t h j => by
      by_cases h' : t.val % 16 = 15
      · rw [outsAt0_C m c t h h']; frame_out; rw [added, read_unread_whole]
      · rw [outsAt0_B m c t h h']; frame_out; rw [added, read_unread_whole])
    t hr _, zero_add]
  pointwise
  refine Fin.sum_mul_add_congr fun s k hl => ?_
  blk_point [iblk, V, places t, places ⟨_, Pipeline.run_point_lt_of_flush t hr s⟩]

end Cert.StepDwDown

end
-- ==== Proof.DwOutClaims.lean ====
/-
The gradient of the mixer's output weights on one device: a product over the rows, accumulated over two bands of rows.
-/
module

public import proofs.«01_k».proof.Defs
public import proofs.«01_k».proof.Proof.Gen.DwOut.Frame
public import proofs.«01_k».proof.Proof.Gen.DwOutIdeal.Value
public import proofs.«01_k».proof.Proof.Gen.DwOutRefIdeal.Run
public import proofs.«01_k».proof.Proof.Blocks
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.StepDwOut

open Idealize.ShloMosaic Idealize.SL.Sem Cert.Exchange

section Block

open Cert.DwOutIdeal Cert.DwOutIdeal.Gen

/-- The accumulator is empty at the first point of a run. -/
theorem empty (j : S512x2048.Idx) : k0_pay1 (F := Ideal) j = 0 := by
  pointwise [k0_pay1]

/-- A point adds the columns of its two blocks against each other. -/
theorem added (acc : Vec Ideal S512x2048 .f32) (a : Vec Ideal S2048x512 .bf16) (b : Vec Ideal S2048x2048 .bf16) (j : S512x2048.Idx) :
    k0_pay2 acc a b j = acc j + ∑ k : Fin 2048, a (ix2 k (j 0)) * b (ix2 k (j 1)) := by
  pointwise [k0_pay2]

/-- The blocks that a grid point reads lie along the block that its run writes, at the point's own place in the run. -/
theorem places : ∀ t : Fin cfg0.N, win0_0.index t = ![t.val % 2, t.val / 2] ∧ win0_1.index t = ![t.val % 2, 0]
    ∧ win0_2.index t = ![t.val / 2, 0] := (by decide +kernel : ∀ t : Fin grid0.N, _)

/-- What is written back at the end of a run is what the run accumulated, in the narrower format. -/
theorem kept (m : (ℓ : Loc nD τ sig) → Buf (Elt Ideal) ℓ) (c : Dev nD) (t : Fin cfg0.N) (h : t.val % 2 = 1)
    (j : S512x2048.Idx) : (outsAt0 m c t.val t.isLt).1 j = (outsAt0 m c t.val t.isLt).2 j := by
  rw [outsAt0_B m c t (by omega) h]
  frame_out
  pointwise [k0_pay3]

end Block

/-- The reference runs to the end and leaves its arguments as they were. -/
theorem frame_ref_ideal : Cert.quiescent_DwOutRefIdeal := fun m g _ =>
  (θ_run _ _ _).mono (fun r h => ⟨fun c => (h c).2, sem_eq_zero_of_no_sems (by decide) r.2⟩)
    (Cert.DwOutRefIdeal.Value.run (F := Ideal) m g)

open Cert.DwOutIdeal Cert.DwOutIdeal.Gen in
/-- The kernel's array is the reference's. -/
theorem value : Cert.algebraic_DwOutIdeal_DwOutRefIdeal := by
  intro m g m' g' _ hm
  refine ⟨_, Cert.DwOutIdeal.Value.run_blocks (F := Ideal) m g,
    (θ_run _ _ _).mono (fun r h c => ?_) (Cert.DwOutRefIdeal.Value.run (F := Ideal) m' g')⟩
  obtain ⟨e0, e1⟩ := hm c
  obtain ⟨h0, h1⟩ := h c
  refine ⟨h0.trans ?_, h1⟩
  clear h0 h1 h hm
  rw [e0, e1]
  refine Eq.symm ((dats m 0 c).arrAt_eq_of_covers 2 _ (by decide +kernel) fun t hf y => ?_)
  have hr := (flush0_2 t).mp hf
  blk_simp
  rw [after0_2, kept m c t hr _, Pipeline.eq_sum_fin_of_reset_step_apply_of_flush (fun n h => (outsAt0 m c n h).2) 2 (fun _ => 0) _
    (fun t h j => by rw [outsAt0_A m c t h (by omega)]; frame_out; rw [added, empty])
    (fun t h j => by rw [outsAt0_B m c t h (by omega)]; frame_out; rw [added, read_unread_whole])
    t hr _, zero_add]
  pointwise
  refine Fin.sum_mul_add_congr fun s k hl => ?_
  blk_point [iblk, V, places t, places ⟨_, Pipeline.run_point_lt_of_flush t hr s⟩]

end Cert.StepDwOut

end
-- ==== Proof.DwUpClaims.lean ====
/-
The gradient of the first feed-forward weights on one device: a product over all the rows at once, rounded once.
-/
module

public import proofs.«01_k».proof.Defs
public import proofs.«01_k».proof.Proof.Gen.DwUp.Frame
public import proofs.«01_k».proof.Proof.Gen.DwUpIdeal.Value
public import proofs.«01_k».proof.Proof.Gen.DwUpRefIdeal.Run
public import proofs.«01_k».proof.Proof.Blocks
public import Idealize.ShloMosaic.Lib.Pipeline.ValueKit
public import Idealize.ShloMosaic.Lib.Pointwise
public import Idealize.ShloMosaic.Lib.Claim

@[expose] public section

noncomputable section

namespace Cert.StepDwUp

open Idealize.ShloMosaic Idealize.SL.Sem Cert.Exchange

section Block

open Cert.DwUpIdeal Cert.DwUpIdeal.Gen

/-- What a grid point stores: the columns of its two blocks against each other, over all the rows, in the narrower format. -/
theorem stored (a : Vec Ideal S4096x256 .bf16) (b : Vec Ideal S4096x2048 .bf16) (j : S256x2048.Idx) :
    k0_pay3 (k0_pay2 k0_pay1 a b) j = ∑ k : Fin 4096, a (ix2 k (j 0)) * b (ix2 k (j 1)) := by
  pointwise [k0_pay3, k0_pay2, k0_pay1]

/-- The columns that a grid point reads are the rows of the block that it writes. -/
theorem places : ∀ t : Fin cfg0.N, win0_0.index t = ![0, t.val] ∧ win0_1.index t = ![0, 0] ∧ win0_2.index t = ![t.val, 0] :=
  (by decide +kernel : ∀ t : Fin grid0.N, _)

end Block

/-- The reference runs to the end and leaves its arguments as they were. -/
theorem frame_ref_ideal : Cert.quiescent_DwUpRefIdeal := fun m g _ =>
  (θ_run _ _ _).mono (fun r h => ⟨fun c => (h c).2, sem_eq_zero_of_no_sems (by decide) r.2⟩)
    (Cert.DwUpRefIdeal.Value.run (F := Ideal) m g)

open Cert.DwUpIdeal Cert.DwUpIdeal.Gen in
/-- The kernel's array is the reference's. -/
theorem value : Cert.algebraic_DwUpIdeal_DwUpRefIdeal := by
  intro m g m' g' _ hm
  refine ⟨_, Cert.DwUpIdeal.Value.run_blocks (F := Ideal) m g,
    (θ_run _ _ _).mono (fun r h c => ?_) (Cert.DwUpRefIdeal.Value.run (F := Ideal) m' g')⟩
  obtain ⟨e0, e1⟩ := hm c
  obtain ⟨h0, h1⟩ := h c
  refine ⟨h0.trans ?_, h1⟩
  clear h0 h1 h hm
  rw [e0, e1]
  refine Eq.symm ((dats m 0 c).arrAt_eq_of_covers 2 _ (by decide +kernel) fun t _ y => ?_)
  blk_simp
  rw [after0_2]
  unfold outsAt0
  frame_out
  rw [stored]
  obtain ⟨e0, e1, e2⟩ := places t
  pointwise
  refine Fin.sum_fin_congr fun k => ?_
  blk_point [iblk, V, e0, e1, e2]

end Cert.StepDwUp

end
-- ==== Proof.DwInClaims.lean ====
/-
The gradient of the mixer's input weights on one device: a product over the rows, accumulated over two bands of rows.
-/
module

public import proofs.«01_k».proof.Defs
public import proofs.«01_k».proof.Proof.Gen.DwIn.Frame
public import proofs.«01_k».proof.Proof.Gen.DwInIdeal.Value
public import proofs.«01_k».proof.Proof.Gen.DwInRefIdeal.Run
public import proofs.«01_k».proof.Proof.Blocks
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.StepDwIn

open Idealize.ShloMosaic Idealize.SL.Sem Cert.Exchange

section Block

open Cert.DwInIdeal Cert.DwInIdeal.Gen

/-- The accumulator is empty at the first point of a run. -/
theorem empty (j : S512x2048.Idx) : k0_pay1 (F := Ideal) j = 0 := by
  pointwise [k0_pay1]

/-- A point adds the columns of its two blocks against each other. -/
theorem added (acc : Vec Ideal S512x2048 .f32) (a : Vec Ideal S2048x512 .bf16) (b : Vec Ideal S2048x2048 .bf16) (j : S512x2048.Idx) :
    k0_pay2 acc a b j = acc j + ∑ k : Fin 2048, a (ix2 k (j 0)) * b (ix2 k (j 1)) := by
  pointwise [k0_pay2]

/-- The blocks that a grid point reads lie along the block that its run writes, at the point's own place in the run. -/
theorem places : ∀ t : Fin cfg0.N, win0_0.index t = ![t.val % 2, t.val / 2] ∧ win0_1.index t = ![t.val % 2, 0]
    ∧ win0_2.index t = ![t.val / 2, 0] := (by decide +kernel : ∀ t : Fin grid0.N, _)

/-- What is written back at the end of a run is what the run accumulated, in the narrower format. -/
theorem kept (m : (ℓ : Loc nD τ sig) → Buf (Elt Ideal) ℓ) (c : Dev nD) (t : Fin cfg0.N) (h : t.val % 2 = 1)
    (j : S512x2048.Idx) : (outsAt0 m c t.val t.isLt).1 j = (outsAt0 m c t.val t.isLt).2 j := by
  rw [outsAt0_B m c t (by omega) h]
  frame_out
  pointwise [k0_pay3]

end Block

/-- The reference runs to the end and leaves its arguments as they were. -/
theorem frame_ref_ideal : Cert.quiescent_DwInRefIdeal := fun m g _ =>
  (θ_run _ _ _).mono (fun r h => ⟨fun c => (h c).2, sem_eq_zero_of_no_sems (by decide) r.2⟩)
    (Cert.DwInRefIdeal.Value.run (F := Ideal) m g)

open Cert.DwInIdeal Cert.DwInIdeal.Gen in
/-- The kernel's array is the reference's. -/
theorem value : Cert.algebraic_DwInIdeal_DwInRefIdeal := by
  intro m g m' g' _ hm
  refine ⟨_, Cert.DwInIdeal.Value.run_blocks (F := Ideal) m g,
    (θ_run _ _ _).mono (fun r h c => ?_) (Cert.DwInRefIdeal.Value.run (F := Ideal) m' g')⟩
  obtain ⟨e0, e1⟩ := hm c
  obtain ⟨h0, h1⟩ := h c
  refine ⟨h0.trans ?_, h1⟩
  clear h0 h1 h hm
  rw [e0, e1]
  refine Eq.symm ((dats m 0 c).arrAt_eq_of_covers 2 _ (by decide +kernel) fun t hf y => ?_)
  have hr := (flush0_2 t).mp hf
  blk_simp
  rw [after0_2, kept m c t hr _, Pipeline.eq_sum_fin_of_reset_step_apply_of_flush (fun n h => (outsAt0 m c n h).2) 2 (fun _ => 0) _
    (fun t h j => by rw [outsAt0_A m c t h (by omega)]; frame_out; rw [added, empty])
    (fun t h j => by rw [outsAt0_B m c t h (by omega)]; frame_out; rw [added, read_unread_whole])
    t hr _, zero_add]
  pointwise
  refine Fin.sum_mul_add_congr fun s k hl => ?_
  blk_point [iblk, V, places t, places ⟨_, Pipeline.run_point_lt_of_flush t hr s⟩]

end Cert.StepDwIn

end
-- ==== Proof.lean ====
module

public import proofs.«01_k».proof.Defs
public import proofs.«01_k».proof.Proof.Gen.GatherMatrices
public import proofs.«01_k».proof.Proof.Gen.GatherMatricesIdeal
public import proofs.«01_k».proof.Proof.Gen.GatherMatricesRefIdeal
public import proofs.«01_k».proof.Proof.Gen.GatherMatricesRef
public import proofs.«01_k».proof.Proof.Gen.GatherMatricesIdeal.Launch
public import proofs.«01_k».proof.Proof.Gen.GatherMatricesRef.Run
public import proofs.«01_k».proof.Proof.Gen.GatherMatricesRefIdeal.Run
public import proofs.«01_k».proof.Proof.Gen.ScatterGrads
public import proofs.«01_k».proof.Proof.Gen.ScatterGradsIdeal
public import proofs.«01_k».proof.Proof.Gen.ScatterGradsRefIdeal
public import proofs.«01_k».proof.Proof.Gen.ScatterGradsRef
public import proofs.«01_k».proof.Proof.Gen.ScatterGradsIdeal.Launch
public import proofs.«01_k».proof.Proof.Gen.ScatterGradsRef.Run
public import proofs.«01_k».proof.Proof.Gen.ScatterGradsRefIdeal.Run
public import proofs.«01_k».proof.Proof.Gen.GatherSmall
public import proofs.«01_k».proof.Proof.Gen.GatherSmallIdeal
public import proofs.«01_k».proof.Proof.Gen.GatherSmallRefIdeal
public import proofs.«01_k».proof.Proof.Gen.GatherSmallRef
public import proofs.«01_k».proof.Proof.Gen.GatherSmallIdeal.Launch
public import proofs.«01_k».proof.Proof.Gen.GatherSmallRef.Run
public import proofs.«01_k».proof.Proof.Gen.GatherSmallRefIdeal.Run
public import proofs.«01_k».proof.Proof.Gen.GatherTaps
public import proofs.«01_k».proof.Proof.Gen.GatherTapsIdeal
public import proofs.«01_k».proof.Proof.Gen.GatherTapsRefIdeal
public import proofs.«01_k».proof.Proof.Gen.GatherTapsRef
public import proofs.«01_k».proof.Proof.Gen.GatherTapsIdeal.Launch
public import proofs.«01_k».proof.Proof.Gen.GatherTapsRef.Run
public import proofs.«01_k».proof.Proof.Gen.GatherTapsRefIdeal.Run
public import proofs.«01_k».proof.Proof.Gen.AdamwOut
public import proofs.«01_k».proof.Proof.Gen.AdamwOutIdeal
public import proofs.«01_k».proof.Proof.Gen.AdamwOutRefIdeal
public import proofs.«01_k».proof.Proof.Gen.AdamwOut.Frame
public import proofs.«01_k».proof.Proof.Gen.AdamwOutIdeal.Frame
public import proofs.«01_k».proof.Proof.Gen.AdamwOutIdeal.Value
public import proofs.«01_k».proof.Proof.Gen.AdamwOutRefIdeal.Run
public import proofs.«01_k».proof.Proof.Gen.AdamwDown
public import proofs.«01_k».proof.Proof.Gen.AdamwDownIdeal
public import proofs.«01_k».proof.Proof.Gen.AdamwDownRefIdeal
public import proofs.«01_k».proof.Proof.Gen.AdamwDown.Frame
public import proofs.«01_k».proof.Proof.Gen.AdamwDownIdeal.Frame
public import proofs.«01_k».proof.Proof.Gen.AdamwDownIdeal.Value
public import proofs.«01_k».proof.Proof.Gen.AdamwDownRefIdeal.Run
public import proofs.«01_k».proof.Proof.Gen.AdamwGlu
public import proofs.«01_k».proof.Proof.Gen.AdamwGluIdeal
public import proofs.«01_k».proof.Proof.Gen.AdamwGluRefIdeal
public import proofs.«01_k».proof.Proof.Gen.AdamwGlu.Frame
public import proofs.«01_k».proof.Proof.Gen.AdamwGluIdeal.Frame
public import proofs.«01_k».proof.Proof.Gen.AdamwGluIdeal.Value
public import proofs.«01_k».proof.Proof.Gen.AdamwGluRefIdeal.Run
public import proofs.«01_k».proof.Proof.Gen.SumIn
public import proofs.«01_k».proof.Proof.Gen.SumInIdeal
public import proofs.«01_k».proof.Proof.Gen.SumInRefIdeal
public import proofs.«01_k».proof.Proof.Gen.SumIn.Frame
public import proofs.«01_k».proof.Proof.Gen.SumInIdeal.Frame
public import proofs.«01_k».proof.Proof.Gen.SumInIdeal.Value
public import proofs.«01_k».proof.Proof.Gen.SumInRefIdeal.Run
public import proofs.«01_k».proof.Proof.Gen.SumUp
public import proofs.«01_k».proof.Proof.Gen.SumUpIdeal
public import proofs.«01_k».proof.Proof.Gen.SumUpRefIdeal
public import proofs.«01_k».proof.Proof.Gen.SumUp.Frame
public import proofs.«01_k».proof.Proof.Gen.SumUpIdeal.Frame
public import proofs.«01_k».proof.Proof.Gen.SumUpIdeal.Value
public import proofs.«01_k».proof.Proof.Gen.SumUpRefIdeal.Run
public import proofs.«01_k».proof.Proof.Gen.SumSmall
public import proofs.«01_k».proof.Proof.Gen.SumSmallIdeal
public import proofs.«01_k».proof.Proof.Gen.SumSmallRefIdeal
public import proofs.«01_k».proof.Proof.Gen.SumSmall.Frame
public import proofs.«01_k».proof.Proof.Gen.SumSmallIdeal.Frame
public import proofs.«01_k».proof.Proof.Gen.SumSmallIdeal.Value
public import proofs.«01_k».proof.Proof.Gen.SumSmallRefIdeal.Run
public import proofs.«01_k».proof.Proof.Gen.AdamwIn
public import proofs.«01_k».proof.Proof.Gen.AdamwInIdeal
public import proofs.«01_k».proof.Proof.Gen.AdamwInRefIdeal
public import proofs.«01_k».proof.Proof.Gen.AdamwIn.Frame
public import proofs.«01_k».proof.Proof.Gen.AdamwInIdeal.Frame
public import proofs.«01_k».proof.Proof.Gen.AdamwInIdeal.Value
public import proofs.«01_k».proof.Proof.Gen.AdamwInRefIdeal.Run
public import proofs.«01_k».proof.Proof.Gen.AdamwUp
public import proofs.«01_k».proof.Proof.Gen.AdamwUpIdeal
public import proofs.«01_k».proof.Proof.Gen.AdamwUpRefIdeal
public import proofs.«01_k».proof.Proof.Gen.AdamwUp.Frame
public import proofs.«01_k».proof.Proof.Gen.AdamwUpIdeal.Frame
public import proofs.«01_k».proof.Proof.Gen.AdamwUpIdeal.Value
public import proofs.«01_k».proof.Proof.Gen.AdamwUpRefIdeal.Run
public import proofs.«01_k».proof.Proof.Gen.AdamwSmall
public import proofs.«01_k».proof.Proof.Gen.AdamwSmallIdeal
public import proofs.«01_k».proof.Proof.Gen.AdamwSmallRefIdeal
public import proofs.«01_k».proof.Proof.Gen.AdamwSmall.Frame
public import proofs.«01_k».proof.Proof.Gen.AdamwSmallIdeal.Frame
public import proofs.«01_k».proof.Proof.Gen.AdamwSmallIdeal.Value
public import proofs.«01_k».proof.Proof.Gen.AdamwSmallRefIdeal.Run
public import proofs.«01_k».proof.Proof.Gen.GradX
public import proofs.«01_k».proof.Proof.Gen.GradXIdeal
public import proofs.«01_k».proof.Proof.Gen.GradXRefIdeal
public import proofs.«01_k».proof.Proof.Gen.GradX.Frame
public import proofs.«01_k».proof.Proof.Gen.GradXIdeal.Frame
public import proofs.«01_k».proof.Proof.Gen.GradXIdeal.Value
public import proofs.«01_k».proof.Proof.Gen.GradXRefIdeal.Run
public import proofs.«01_k».proof.Proof.Gen.OutProj
public import proofs.«01_k».proof.Proof.Gen.OutProjIdeal
public import proofs.«01_k».proof.Proof.Gen.OutProjRefIdeal
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.FfnDown
public import proofs.«01_k».proof.Proof.Gen.FfnDownIdeal
public import proofs.«01_k».proof.Proof.Gen.FfnDownRefIdeal
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal.Run
public import proofs.«01_k».proof.Proof.Gen.DAct
public import proofs.«01_k».proof.Proof.Gen.DActIdeal
public import proofs.«01_k».proof.Proof.Gen.DActRefIdeal
public import proofs.«01_k».proof.Proof.Gen.DAct.Frame
public import proofs.«01_k».proof.Proof.Gen.DActIdeal.Frame
public import proofs.«01_k».proof.Proof.Gen.DActIdeal.Value
public import proofs.«01_k».proof.Proof.Gen.DActRefIdeal.Run
public import proofs.«01_k».proof.Proof.Gen.DMixed
public import proofs.«01_k».proof.Proof.Gen.DMixedIdeal
public import proofs.«01_k».proof.Proof.Gen.DMixedRefIdeal
public import proofs.«01_k».proof.Proof.Gen.DMixed.Frame
public import proofs.«01_k».proof.Proof.Gen.DMixedIdeal.Frame
public import proofs.«01_k».proof.Proof.Gen.DMixedIdeal.Value
public import proofs.«01_k».proof.Proof.Gen.DMixedRefIdeal.Run
public import proofs.«01_k».proof.Proof.Gen.DHTwo
public import proofs.«01_k».proof.Proof.Gen.DHTwoIdeal
public import proofs.«01_k».proof.Proof.Gen.DHTwoRefIdeal
public import proofs.«01_k».proof.Proof.Gen.DHTwo.Frame
public import proofs.«01_k».proof.Proof.Gen.DHTwoIdeal.Frame
public import proofs.«01_k».proof.Proof.Gen.DHTwoIdeal.Value
public import proofs.«01_k».proof.Proof.Gen.DHTwoRefIdeal.Run
public import proofs.«01_k».proof.Proof.Gen.DH
public import proofs.«01_k».proof.Proof.Gen.DHIdeal
public import proofs.«01_k».proof.Proof.Gen.DHRefIdeal
public import proofs.«01_k».proof.Proof.Gen.DH.Frame
public import proofs.«01_k».proof.Proof.Gen.DHIdeal.Frame
public import proofs.«01_k».proof.Proof.Gen.DHIdeal.Value
public import proofs.«01_k».proof.Proof.Gen.DHRefIdeal.Run
public import proofs.«01_k».proof.Proof.Gen.DwDown
public import proofs.«01_k».proof.Proof.Gen.DwDownIdeal
public import proofs.«01_k».proof.Proof.Gen.DwDownRefIdeal
public import proofs.«01_k».proof.Proof.Gen.DwDown.Frame
public import proofs.«01_k».proof.Proof.Gen.DwDownIdeal.Frame
public import proofs.«01_k».proof.Proof.Gen.DwDownIdeal.Value
public import proofs.«01_k».proof.Proof.Gen.DwDownRefIdeal.Run
public import proofs.«01_k».proof.Proof.Gen.DwOut
public import proofs.«01_k».proof.Proof.Gen.DwOutIdeal
public import proofs.«01_k».proof.Proof.Gen.DwOutRefIdeal
public import proofs.«01_k».proof.Proof.Gen.DwOut.Frame
public import proofs.«01_k».proof.Proof.Gen.DwOutIdeal.Frame
public import proofs.«01_k».proof.Proof.Gen.DwOutIdeal.Value
public import proofs.«01_k».proof.Proof.Gen.DwOutRefIdeal.Run
public import proofs.«01_k».proof.Proof.Gen.DwUp
public import proofs.«01_k».proof.Proof.Gen.DwUpIdeal
public import proofs.«01_k».proof.Proof.Gen.DwUpRefIdeal
public import proofs.«01_k».proof.Proof.Gen.DwUp.Frame
public import proofs.«01_k».proof.Proof.Gen.DwUpIdeal.Frame
public import proofs.«01_k».proof.Proof.Gen.DwUpIdeal.Value
public import proofs.«01_k».proof.Proof.Gen.DwUpRefIdeal.Run
public import proofs.«01_k».proof.Proof.Gen.DwIn
public import proofs.«01_k».proof.Proof.Gen.DwInIdeal
public import proofs.«01_k».proof.Proof.Gen.DwInRefIdeal
public import proofs.«01_k».proof.Proof.Gen.DwIn.Frame
public import proofs.«01_k».proof.Proof.Gen.DwInIdeal.Frame
public import proofs.«01_k».proof.Proof.Gen.DwInIdeal.Value
public import proofs.«01_k».proof.Proof.Gen.DwInRefIdeal.Run
public import proofs.«01_k».proof.Proof.Gen.Loss
public import proofs.«01_k».proof.Proof.Gen.LossIdeal
public import proofs.«01_k».proof.Proof.Gen.LossRefIdeal
public import proofs.«01_k».proof.Proof.Gen.Loss.Frame
public import proofs.«01_k».proof.Proof.Gen.LossIdeal.Frame
public import proofs.«01_k».proof.Proof.Gen.LossRefIdeal.Run
public import proofs.«01_k».proof.Proof.MatricesClaims
public import proofs.«01_k».proof.Proof.GradsClaims
public import proofs.«01_k».proof.Proof.SmallClaims
public import proofs.«01_k».proof.Proof.TapsClaims
public import proofs.«01_k».proof.Proof.AdamwOutClaims
public import proofs.«01_k».proof.Proof.AdamwDownClaims
public import proofs.«01_k».proof.Proof.AdamwGluClaims
public import proofs.«01_k».proof.Proof.SumInClaims
public import proofs.«01_k».proof.Proof.SumUpClaims
public import proofs.«01_k».proof.Proof.SumSmallClaims
public import proofs.«01_k».proof.Proof.AdamwInClaims
public import proofs.«01_k».proof.Proof.AdamwUpClaims
public import proofs.«01_k».proof.Proof.AdamwSmallClaims
public import proofs.«01_k».proof.Proof.GradXClaims
public import proofs.«01_k».proof.Proof.LossClaims
public import proofs.«01_k».proof.Proof.OutProjClaims
public import proofs.«01_k».proof.Proof.FfnDownClaims
public import proofs.«01_k».proof.Proof.DActClaims
public import proofs.«01_k».proof.Proof.DMixedClaims
public import proofs.«01_k».proof.Proof.DHTwoClaims
public import proofs.«01_k».proof.Proof.DHClaims
public import proofs.«01_k».proof.Proof.DwDownClaims
public import proofs.«01_k».proof.Proof.DwOutClaims
public import proofs.«01_k».proof.Proof.DwUpClaims
public import proofs.«01_k».proof.Proof.DwInClaims

@[expose] public section

noncomputable section

namespace Cert.Proof

/-- Every claim. -/
theorem claim : Cert.Claim := ⟨Cert.GatherMatrices.Gen.facts, Cert.GatherMatricesIdeal.Gen.facts, Cert.GatherMatricesRefIdeal.Gen.facts, Cert.GatherMatricesRef.Gen.facts, Cert.ScatterGrads.Gen.facts, Cert.ScatterGradsIdeal.Gen.facts, Cert.ScatterGradsRefIdeal.Gen.facts, Cert.ScatterGradsRef.Gen.facts, Cert.GatherSmall.Gen.facts, Cert.GatherSmallIdeal.Gen.facts, Cert.GatherSmallRefIdeal.Gen.facts, Cert.GatherSmallRef.Gen.facts, Cert.GatherTaps.Gen.facts, Cert.GatherTapsIdeal.Gen.facts, Cert.GatherTapsRefIdeal.Gen.facts, Cert.GatherTapsRef.Gen.facts,
  Cert.AdamwOut.Gen.facts, Cert.AdamwOutIdeal.Gen.facts, Cert.AdamwOutRefIdeal.Gen.facts,
  Cert.AdamwDown.Gen.facts, Cert.AdamwDownIdeal.Gen.facts, Cert.AdamwDownRefIdeal.Gen.facts,
  Cert.AdamwGlu.Gen.facts, Cert.AdamwGluIdeal.Gen.facts, Cert.AdamwGluRefIdeal.Gen.facts,
  Cert.SumIn.Gen.facts, Cert.SumInIdeal.Gen.facts, Cert.SumInRefIdeal.Gen.facts,
  Cert.SumUp.Gen.facts, Cert.SumUpIdeal.Gen.facts, Cert.SumUpRefIdeal.Gen.facts,
  Cert.SumSmall.Gen.facts, Cert.SumSmallIdeal.Gen.facts, Cert.SumSmallRefIdeal.Gen.facts,
  Cert.AdamwIn.Gen.facts, Cert.AdamwInIdeal.Gen.facts, Cert.AdamwInRefIdeal.Gen.facts,
  Cert.AdamwUp.Gen.facts, Cert.AdamwUpIdeal.Gen.facts, Cert.AdamwUpRefIdeal.Gen.facts,
  Cert.AdamwSmall.Gen.facts, Cert.AdamwSmallIdeal.Gen.facts, Cert.AdamwSmallRefIdeal.Gen.facts,
  Cert.GradX.Gen.facts, Cert.GradXIdeal.Gen.facts, Cert.GradXRefIdeal.Gen.facts,
  Cert.Loss.Gen.facts, Cert.LossIdeal.Gen.facts, Cert.LossRefIdeal.Gen.facts,
  Cert.OutProj.Gen.facts, Cert.OutProjIdeal.Gen.facts, Cert.OutProjRefIdeal.Gen.facts,
  Cert.FfnDown.Gen.facts, Cert.FfnDownIdeal.Gen.facts, Cert.FfnDownRefIdeal.Gen.facts,
  Cert.DAct.Gen.facts, Cert.DActIdeal.Gen.facts, Cert.DActRefIdeal.Gen.facts,
  Cert.DMixed.Gen.facts, Cert.DMixedIdeal.Gen.facts, Cert.DMixedRefIdeal.Gen.facts,
  Cert.DHTwo.Gen.facts, Cert.DHTwoIdeal.Gen.facts, Cert.DHTwoRefIdeal.Gen.facts,
  Cert.DH.Gen.facts, Cert.DHIdeal.Gen.facts, Cert.DHRefIdeal.Gen.facts,
  Cert.DwDown.Gen.facts, Cert.DwDownIdeal.Gen.facts, Cert.DwDownRefIdeal.Gen.facts,
  Cert.DwOut.Gen.facts, Cert.DwOutIdeal.Gen.facts, Cert.DwOutRefIdeal.Gen.facts,
  Cert.DwUp.Gen.facts, Cert.DwUpIdeal.Gen.facts, Cert.DwUpRefIdeal.Gen.facts,
  Cert.DwIn.Gen.facts, Cert.DwInIdeal.Gen.facts, Cert.DwInRefIdeal.Gen.facts,
  Cert.Matrices.frame_kernel, Cert.Matrices.frame_ideal, Cert.Matrices.frame_ref_ideal, Cert.Matrices.frame_ref,
  Cert.Grads.frame_kernel, Cert.Grads.frame_ideal, Cert.Grads.frame_ref_ideal, Cert.Grads.frame_ref,
  Cert.Small.frame_kernel, Cert.Small.frame_ideal, Cert.Small.frame_ref_ideal, Cert.Small.frame_ref,
  Cert.Taps.frame_kernel, Cert.Taps.frame_ideal, Cert.Taps.frame_ref_ideal, Cert.Taps.frame_ref,
  fun m ρ _ => Cert.AdamwOut.Gen.frame m ρ, fun m ρ _ => Cert.AdamwOutIdeal.Gen.frame m ρ, Cert.StepOut.frame_ref_ideal,
  fun m ρ _ => Cert.AdamwDown.Gen.frame m ρ, fun m ρ _ => Cert.AdamwDownIdeal.Gen.frame m ρ, Cert.StepDown.frame_ref_ideal,
  fun m ρ _ => Cert.AdamwGlu.Gen.frame m ρ, fun m ρ _ => Cert.AdamwGluIdeal.Gen.frame m ρ, Cert.StepGlu.frame_ref_ideal,
  fun m ρ _ => Cert.SumIn.Gen.frame m ρ, fun m ρ _ => Cert.SumInIdeal.Gen.frame m ρ, Cert.StepSumIn.frame_ref_ideal,
  fun m ρ _ => Cert.SumUp.Gen.frame m ρ, fun m ρ _ => Cert.SumUpIdeal.Gen.frame m ρ, Cert.StepSumUp.frame_ref_ideal,
  fun m ρ _ => Cert.SumSmall.Gen.frame m ρ, fun m ρ _ => Cert.SumSmallIdeal.Gen.frame m ρ, Cert.StepSumSmall.frame_ref_ideal,
  fun m ρ _ => Cert.AdamwIn.Gen.frame m ρ, fun m ρ _ => Cert.AdamwInIdeal.Gen.frame m ρ, Cert.StepIn.frame_ref_ideal,
  fun m ρ _ => Cert.AdamwUp.Gen.frame m ρ, fun m ρ _ => Cert.AdamwUpIdeal.Gen.frame m ρ, Cert.StepUp.frame_ref_ideal,
  fun m ρ _ => Cert.AdamwSmall.Gen.frame m ρ, fun m ρ _ => Cert.AdamwSmallIdeal.Gen.frame m ρ, Cert.StepSmall.frame_ref_ideal,
  fun m ρ _ => Cert.GradX.Gen.frame m ρ, fun m ρ _ => Cert.GradXIdeal.Gen.frame m ρ, Cert.StepGradX.frame_ref_ideal,
  fun m ρ _ => Cert.Loss.Gen.frame m ρ, fun m ρ _ => Cert.LossIdeal.Gen.frame m ρ, Cert.StepLoss.frame_ref_ideal,
  fun m ρ _ => Cert.OutProj.Gen.frame m ρ, fun m ρ _ => Cert.OutProjIdeal.Gen.frame m ρ, Cert.StepOutProj.frame_ref_ideal,
  fun m ρ _ => Cert.FfnDown.Gen.frame m ρ, fun m ρ _ => Cert.FfnDownIdeal.Gen.frame m ρ, Cert.StepFfnDown.frame_ref_ideal,
  fun m ρ _ => Cert.DAct.Gen.frame m ρ, fun m ρ _ => Cert.DActIdeal.Gen.frame m ρ, Cert.StepDAct.frame_ref_ideal,
  fun m ρ _ => Cert.DMixed.Gen.frame m ρ, fun m ρ _ => Cert.DMixedIdeal.Gen.frame m ρ, Cert.StepDMixed.frame_ref_ideal,
  fun m ρ _ => Cert.DHTwo.Gen.frame m ρ, fun m ρ _ => Cert.DHTwoIdeal.Gen.frame m ρ, Cert.StepDHTwo.frame_ref_ideal,
  fun m ρ _ => Cert.DH.Gen.frame m ρ, fun m ρ _ => Cert.DHIdeal.Gen.frame m ρ, Cert.StepDH.frame_ref_ideal,
  fun m ρ _ => Cert.DwDown.Gen.frame m ρ, fun m ρ _ => Cert.DwDownIdeal.Gen.frame m ρ, Cert.StepDwDown.frame_ref_ideal,
  fun m ρ _ => Cert.DwOut.Gen.frame m ρ, fun m ρ _ => Cert.DwOutIdeal.Gen.frame m ρ, Cert.StepDwOut.frame_ref_ideal,
  fun m ρ _ => Cert.DwUp.Gen.frame m ρ, fun m ρ _ => Cert.DwUpIdeal.Gen.frame m ρ, Cert.StepDwUp.frame_ref_ideal,
  fun m ρ _ => Cert.DwIn.Gen.frame m ρ, fun m ρ _ => Cert.DwInIdeal.Gen.frame m ρ, Cert.StepDwIn.frame_ref_ideal,
  trivial, Cert.Matrices.value, Cert.Matrices.bits,
  trivial, Cert.Grads.value, Cert.Grads.bits,
  trivial, Cert.Small.value, Cert.Small.bits,
  trivial, Cert.Taps.value, Cert.Taps.bits,
  trivial, Cert.StepOut.value,
  trivial, Cert.StepDown.value,
  trivial, Cert.StepGlu.value,
  trivial, Cert.StepSumIn.value,
  trivial, Cert.StepSumUp.value,
  trivial, Cert.StepSumSmall.value,
  trivial, Cert.StepIn.value,
  trivial, Cert.StepUp.value,
  trivial, Cert.StepSmall.value,
  trivial, Cert.StepGradX.value,
  trivial, Cert.StepLoss.value,
  trivial, Cert.StepOutProj.value,
  trivial, Cert.StepFfnDown.value,
  trivial, Cert.StepDAct.value,
  trivial, Cert.StepDMixed.value,
  trivial, Cert.StepDHTwo.value,
  trivial, Cert.StepDH.value,
  trivial, Cert.StepDwDown.value,
  trivial, Cert.StepDwOut.value,
  trivial, Cert.StepDwUp.value,
  trivial, Cert.StepDwIn.value⟩

end Cert.Proof

end
